-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dmixed_finite [hPre_dmixed_finite : Cert.Pre_dmixed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dmixed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dmixed_finite [hPre_dmixed_finite : Cert.Pre_dmixed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dmixed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dhu (m : (ℓ : Loc Cert.Dhu.nD Cert.Dhu.τ Cert.Dhu.sig) → Buf (Elt Bits) ℓ) : Prop :=
  True

def Pre_DhuIdeal (m : (ℓ : Loc Cert.DhuIdeal.nD Cert.DhuIdeal.τ Cert.DhuIdeal.sig) → Buf (Elt Ideal) ℓ) : Prop :=
  True

def Pre_DhuIdeal_dhu_finite [hPre_dhu_finite : Cert.Pre_dhu_finite.Facts] (m : (ℓ : Loc Cert.DhuIdeal.nD Cert.DhuIdeal.τ Cert.DhuIdeal.sig) → Buf (Elt Ideal) ℓ) : Prop :=
  ∀ c : Dev Cert.DhuIdeal.nD,
    (Cert.Pre_dhu_finite.fn (F := Ideal) (m ((c.tc : Thread Cert.DhuIdeal.nD Cert.DhuIdeal.τ).loc Cert.DhuIdeal.main_arg0)) (m ((c.tc : Thread Cert.DhuIdeal.nD Cert.DhuIdeal.τ).loc Cert.DhuIdeal.main_arg1)) (m ((c.tc : Thread Cert.DhuIdeal.nD Cert.DhuIdeal.τ).loc Cert.DhuIdeal.main_arg2)) (m ((c.tc : Thread Cert.DhuIdeal.nD Cert.DhuIdeal.τ).loc Cert.DhuIdeal.main_arg3))) = (fun _ => 1#1)

def Pre_DhuRefIdeal (m : (ℓ : Loc Cert.DhuRefIdeal.nD Cert.DhuRefIdeal.τ Cert.DhuRefIdeal.sig) → Buf (Elt Ideal) ℓ) : Prop :=
  True

def Pre_DhuRefIdeal_dhu_finite [hPre_dhu_finite : Cert.Pre_dhu_finite.Facts] (m : (ℓ : Loc Cert.DhuRefIdeal.nD Cert.DhuRefIdeal.τ Cert.DhuRefIdeal.sig) → Buf (Elt Ideal) ℓ) : Prop :=
  ∀ c : Dev Cert.DhuRefIdeal.nD,
    (Cert.Pre_dhu_finite.fn (F := Ideal) (m ((c.tc : Thread Cert.DhuRefIdeal.nD Cert.DhuRefIdeal.τ).loc Cert.DhuRefIdeal.main_arg0)) (m ((c.tc : Thread Cert.DhuRefIdeal.nD Cert.DhuRefIdeal.τ).loc Cert.DhuRefIdeal.main_arg1)) (m ((c.tc : Thread Cert.DhuRefIdeal.nD Cert.DhuRefIdeal.τ).loc Cert.DhuRefIdeal.main_arg2)) (m ((c.tc : Thread Cert.DhuRefIdeal.nD Cert.DhuRefIdeal.τ).loc Cert.DhuRefIdeal.main_arg3))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MixDwOut (m : (ℓ : Loc Cert.MixDwOut.nD Cert.MixDwOut.τ Cert.MixDwOut.sig) → Buf (Elt Bits) ℓ) : Prop :=
  True

def Pre_MixDwOutIdeal (m : (ℓ : Loc Cert.MixDwOutIdeal.nD Cert.MixDwOutIdeal.τ Cert.MixDwOutIdeal.sig) → Buf (Elt Ideal) ℓ) : Prop :=
  True

def Pre_MixDwOutRefIdeal (m : (ℓ : Loc Cert.MixDwOutRefIdeal.nD Cert.MixDwOutRefIdeal.τ Cert.MixDwOutRefIdeal.sig) → Buf (Elt Ideal) ℓ) : Prop :=
  True

def Pre_MixDz (m : (ℓ : Loc Cert.MixDz.nD Cert.MixDz.τ Cert.MixDz.sig) → Buf (Elt Bits) ℓ) : Prop :=
  True

def Pre_MixDzIdeal (m : (ℓ : Loc Cert.MixDzIdeal.nD Cert.MixDzIdeal.τ Cert.MixDzIdeal.sig) → Buf (Elt Ideal) ℓ) : Prop :=
  True

def Pre_MixDzRefIdeal (m : (ℓ : Loc Cert.MixDzRefIdeal.nD Cert.MixDzRefIdeal.τ Cert.MixDzRefIdeal.sig) → Buf (Elt Ideal) ℓ) : Prop :=
  True

def Pre_MixDwA (m : (ℓ : Loc Cert.MixDwA.nD Cert.MixDwA.τ Cert.MixDwA.sig) → Buf (Elt Bits) ℓ) : Prop :=
  True

def Pre_MixDwAIdeal (m : (ℓ : Loc Cert.MixDwAIdeal.nD Cert.MixDwAIdeal.τ Cert.MixDwAIdeal.sig) → Buf (Elt Ideal) ℓ) : Prop :=
  True

def Pre_MixDwARefIdeal (m : (ℓ : Loc Cert.MixDwARefIdeal.nD Cert.MixDwARefIdeal.τ Cert.MixDwARefIdeal.sig) → Buf (Elt Ideal) ℓ) : Prop :=
  True

def Pre_MixDa (m : (ℓ : Loc Cert.MixDa.nD Cert.MixDa.τ Cert.MixDa.sig) → Buf (Elt Bits) ℓ) : Prop :=
  True

def Pre_MixDaIdeal (m : (ℓ : Loc Cert.MixDaIdeal.nD Cert.MixDaIdeal.τ Cert.MixDaIdeal.sig) → Buf (Elt Ideal) ℓ) : Prop :=
  True

def Pre_MixDaRefIdeal (m : (ℓ : Loc Cert.MixDaRefIdeal.nD Cert.MixDaRefIdeal.τ Cert.MixDaRefIdeal.sig) → Buf (Elt Ideal) ℓ) : Prop :=
  True

def Pre_MixDwB (m : (ℓ : Loc Cert.MixDwB.nD Cert.MixDwB.τ Cert.MixDwB.sig) → Buf (Elt Bits) ℓ) : Prop :=
  True

def Pre_MixDwBIdeal (m : (ℓ : Loc Cert.MixDwBIdeal.nD Cert.MixDwBIdeal.τ Cert.MixDwBIdeal.sig) → Buf (Elt Ideal) ℓ) : Prop :=
  True

def Pre_MixDwBRefIdeal (m : (ℓ : Loc Cert.MixDwBRefIdeal.nD Cert.MixDwBRefIdeal.τ Cert.MixDwBRefIdeal.sig) → Buf (Elt Ideal) ℓ) : Prop :=
  True

def Pre_MixDmixed (m : (ℓ : Loc Cert.MixDmixed.nD Cert.MixDmixed.τ Cert.MixDmixed.sig) → Buf (Elt Bits) ℓ) : Prop :=
  True

def Pre_MixDmixedIdeal (m : (ℓ : Loc Cert.MixDmixedIdeal.nD Cert.MixDmixedIdeal.τ Cert.MixDmixedIdeal.sig) → Buf (Elt Ideal) ℓ) : Prop :=
  True

def Pre_MixDmixedRefIdeal (m : (ℓ : Loc Cert.MixDmixedRefIdeal.nD Cert.MixDmixedRefIdeal.τ Cert.MixDmixedRefIdeal.sig) → Buf (Elt Ideal) ℓ) : Prop :=
  True

def Pre_MixDwIn (m : (ℓ : Loc Cert.MixDwIn.nD Cert.MixDwIn.τ Cert.MixDwIn.sig) → Buf (Elt Bits) ℓ) : Prop :=
  True

def Pre_MixDwInIdeal (m : (ℓ : Loc Cert.MixDwInIdeal.nD Cert.MixDwInIdeal.τ Cert.MixDwInIdeal.sig) → Buf (Elt Ideal) ℓ) : Prop :=
  True

def Pre_MixDwInRefIdeal (m : (ℓ : Loc Cert.MixDwInRefIdeal.nD Cert.MixDwInRefIdeal.τ Cert.MixDwInRefIdeal.sig) → Buf (Elt Ideal) ℓ) : Prop :=
  True

def Pre_MixDn (m : (ℓ : Loc Cert.MixDn.nD Cert.MixDn.τ Cert.MixDn.sig) → Buf (Elt Bits) ℓ) : Prop :=
  True

def Pre_MixDnIdeal (m : (ℓ : Loc Cert.MixDnIdeal.nD Cert.MixDnIdeal.τ Cert.MixDnIdeal.sig) → Buf (Elt Ideal) ℓ) : Prop :=
  True

def Pre_MixDnRefIdeal (m : (ℓ : Loc Cert.MixDnRefIdeal.nD Cert.MixDnRefIdeal.τ Cert.MixDnRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ya (m : (ℓ : Loc Cert.Ya.nD Cert.Ya.τ Cert.Ya.sig) → Buf (Elt Bits) ℓ) : Prop :=
  True

def Pre_YaIdeal (m : (ℓ : Loc Cert.YaIdeal.nD Cert.YaIdeal.τ Cert.YaIdeal.sig) → Buf (Elt Ideal) ℓ) : Prop :=
  True

def Pre_YaRefIdeal (m : (ℓ : Loc Cert.YaRefIdeal.nD Cert.YaRefIdeal.τ Cert.YaRefIdeal.sig) → Buf (Elt Ideal) ℓ) : Prop :=
  True

def Pre_Yb (m : (ℓ : Loc Cert.Yb.nD Cert.Yb.τ Cert.Yb.sig) → Buf (Elt Bits) ℓ) : Prop :=
  True

def Pre_YbIdeal (m : (ℓ : Loc Cert.YbIdeal.nD Cert.YbIdeal.τ Cert.YbIdeal.sig) → Buf (Elt Ideal) ℓ) : Prop :=
  True

def Pre_YbRefIdeal (m : (ℓ : Loc Cert.YbRefIdeal.nD Cert.YbRefIdeal.τ Cert.YbRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXRefIdeal (m : (ℓ : Loc Cert.NormXRefIdeal.nD Cert.NormXRefIdeal.τ Cert.NormXRefIdeal.sig) → Buf (Elt Ideal) ℓ) : Prop :=
  True

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdRefIdeal (m : (ℓ : Loc Cert.GatesFwdRefIdeal.nD Cert.GatesFwdRefIdeal.τ Cert.GatesFwdRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_MixProjA (m : (ℓ : Loc Cert.MixProjA.nD Cert.MixProjA.τ Cert.MixProjA.sig) → Buf (Elt Bits) ℓ) : Prop :=
  True

def Pre_MixProjAIdeal (m : (ℓ : Loc Cert.MixProjAIdeal.nD Cert.MixProjAIdeal.τ Cert.MixProjAIdeal.sig) → Buf (Elt Ideal) ℓ) : Prop :=
  True

def Pre_MixProjARefIdeal (m : (ℓ : Loc Cert.MixProjARefIdeal.nD Cert.MixProjARefIdeal.τ Cert.MixProjARefIdeal.sig) → Buf (Elt Ideal) ℓ) : Prop :=
  True

def Pre_MixProjB (m : (ℓ : Loc Cert.MixProjB.nD Cert.MixProjB.τ Cert.MixProjB.sig) → Buf (Elt Bits) ℓ) : Prop :=
  True

def Pre_MixProjBIdeal (m : (ℓ : Loc Cert.MixProjBIdeal.nD Cert.MixProjBIdeal.τ Cert.MixProjBIdeal.sig) → Buf (Elt Ideal) ℓ) : Prop :=
  True

def Pre_MixProjBRefIdeal (m : (ℓ : Loc Cert.MixProjBRefIdeal.nD Cert.MixProjBRefIdeal.τ Cert.MixProjBRefIdeal.sig) → Buf (Elt Ideal) ℓ) : Prop :=
  True

def Pre_SwigluA (m : (ℓ : Loc Cert.SwigluA.nD Cert.SwigluA.τ Cert.SwigluA.sig) → Buf (Elt Bits) ℓ) : Prop :=
  True

def Pre_SwigluAIdeal (m : (ℓ : Loc Cert.SwigluAIdeal.nD Cert.SwigluAIdeal.τ Cert.SwigluAIdeal.sig) → Buf (Elt Ideal) ℓ) : Prop :=
  True

def Pre_SwigluAIdeal_swiglu_finite [hPre_swiglu_finite : Cert.Pre_swiglu_finite.Facts] (m : (ℓ : Loc Cert.SwigluAIdeal.nD Cert.SwigluAIdeal.τ Cert.SwigluAIdeal.sig) → Buf (Elt Ideal) ℓ) : Prop :=
  ∀ c : Dev Cert.SwigluAIdeal.nD,
    (Cert.Pre_swiglu_finite.fn (F := Ideal) (m ((c.tc : Thread Cert.SwigluAIdeal.nD Cert.SwigluAIdeal.τ).loc Cert.SwigluAIdeal.main_arg0)) (m ((c.tc : Thread Cert.SwigluAIdeal.nD Cert.SwigluAIdeal.τ).loc Cert.SwigluAIdeal.main_arg1))) = (fun _ => 1#1)

def Pre_SwigluARefIdeal (m : (ℓ : Loc Cert.SwigluARefIdeal.nD Cert.SwigluARefIdeal.τ Cert.SwigluARefIdeal.sig) → Buf (Elt Ideal) ℓ) : Prop :=
  True

def Pre_SwigluARefIdeal_swiglu_finite [hPre_swiglu_finite : Cert.Pre_swiglu_finite.Facts] (m : (ℓ : Loc Cert.SwigluARefIdeal.nD Cert.SwigluARefIdeal.τ Cert.SwigluARefIdeal.sig) → Buf (Elt Ideal) ℓ) : Prop :=
  ∀ c : Dev Cert.SwigluARefIdeal.nD,
    (Cert.Pre_swiglu_finite.fn (F := Ideal) (m ((c.tc : Thread Cert.SwigluARefIdeal.nD Cert.SwigluARefIdeal.τ).loc Cert.SwigluARefIdeal.main_arg0)) (m ((c.tc : Thread Cert.SwigluARefIdeal.nD Cert.SwigluARefIdeal.τ).loc Cert.SwigluARefIdeal.main_arg1))) = (fun _ => 1#1)

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_swiglu_finite [hPre_swiglu_finite : Cert.Pre_swiglu_finite.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_swiglu_finite.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1))) = (fun _ => 1#1)

def Pre_SwigluBRefIdeal (m : (ℓ : Loc Cert.SwigluBRefIdeal.nD Cert.SwigluBRefIdeal.τ Cert.SwigluBRefIdeal.sig) → Buf (Elt Ideal) ℓ) : Prop :=
  True

def Pre_SwigluBRefIdeal_swiglu_finite [hPre_swiglu_finite : Cert.Pre_swiglu_finite.Facts] (m : (ℓ : Loc Cert.SwigluBRefIdeal.nD Cert.SwigluBRefIdeal.τ Cert.SwigluBRefIdeal.sig) → Buf (Elt Ideal) ℓ) : Prop :=
  ∀ c : Dev Cert.SwigluBRefIdeal.nD,
    (Cert.Pre_swiglu_finite.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_dmixed_finite [hKernelIdeal : Cert.KernelIdeal.Facts] [hPre_dmixed_finite : Cert.Pre_dmixed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dmixed_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_dmixed_finite [hReferenceIdeal : Cert.ReferenceIdeal.Facts] [hPre_dmixed_finite : Cert.Pre_dmixed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dmixed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dhu [hDhu : Cert.Dhu.Facts] : Prop :=
  ∀ (m : (ℓ : Loc Cert.Dhu.nD Cert.Dhu.τ Cert.Dhu.sig) → Buf (Elt Bits) ℓ) (g : Dev Cert.Dhu.nD → PrngReg), Pre_Dhu m →
    θ_run (Cert.Dhu.defs (F := Bits)) (onTc (τ := Cert.Dhu.τ) (Cert.Dhu.main (F := Bits))) ⟨m, fun _ => 0, g⟩ (fun r => (∀ c : Dev Cert.Dhu.nD,
      r.2.mem ((c.tc : Thread Cert.Dhu.nD Cert.Dhu.τ).loc Cert.Dhu.main_arg0) = m ((c.tc : Thread Cert.Dhu.nD Cert.Dhu.τ).loc Cert.Dhu.main_arg0)
      ∧ r.2.mem ((c.tc : Thread Cert.Dhu.nD Cert.Dhu.τ).loc Cert.Dhu.main_arg1) = m ((c.tc : Thread Cert.Dhu.nD Cert.Dhu.τ).loc Cert.Dhu.main_arg1)
      ∧ r.2.mem ((c.tc : Thread Cert.Dhu.nD Cert.Dhu.τ).loc Cert.Dhu.main_arg2) = m ((c.tc : Thread Cert.Dhu.nD Cert.Dhu.τ).loc Cert.Dhu.main_arg2)
      ∧ r.2.mem ((c.tc : Thread Cert.Dhu.nD Cert.Dhu.τ).loc Cert.Dhu.main_arg3) = m ((c.tc : Thread Cert.Dhu.nD Cert.Dhu.τ).loc Cert.Dhu.main_arg3))
      ∧ r.2.sem = fun _ => 0)

def quiescent_DhuIdeal [hDhuIdeal : Cert.DhuIdeal.Facts] : Prop :=
  ∀ (m : (ℓ : Loc Cert.DhuIdeal.nD Cert.DhuIdeal.τ Cert.DhuIdeal.sig) → Buf (Elt Ideal) ℓ) (g : Dev Cert.DhuIdeal.nD → PrngReg), Pre_DhuIdeal m →
    θ_run (Cert.DhuIdeal.defs (F := Ideal)) (onTc (τ := Cert.DhuIdeal.τ) (Cert.DhuIdeal.main (F := Ideal))) ⟨m, fun _ => 0, g⟩ (fun r => (∀ c : Dev Cert.DhuIdeal.nD,
      r.2.mem ((c.tc : Thread Cert.DhuIdeal.nD Cert.DhuIdeal.τ).loc Cert.DhuIdeal.main_arg0) = m ((c.tc : Thread Cert.DhuIdeal.nD Cert.DhuIdeal.τ).loc Cert.DhuIdeal.main_arg0)
      ∧ r.2.mem ((c.tc : Thread Cert.DhuIdeal.nD Cert.DhuIdeal.τ).loc Cert.DhuIdeal.main_arg1) = m ((c.tc : Thread Cert.DhuIdeal.nD Cert.DhuIdeal.τ).loc Cert.DhuIdeal.main_arg1)
      ∧ r.2.mem ((c.tc : Thread Cert.DhuIdeal.nD Cert.DhuIdeal.τ).loc Cert.DhuIdeal.main_arg2) = m ((c.tc : Thread Cert.DhuIdeal.nD Cert.DhuIdeal.τ).loc Cert.DhuIdeal.main_arg2)
      ∧ r.2.mem ((c.tc : Thread Cert.DhuIdeal.nD Cert.DhuIdeal.τ).loc Cert.DhuIdeal.main_arg3) = m ((c.tc : Thread Cert.DhuIdeal.nD Cert.DhuIdeal.τ).loc Cert.DhuIdeal.main_arg3))
      ∧ r.2.sem = fun _ => 0)

def quiescent_DhuIdeal_pre_dhu_finite [hDhuIdeal : Cert.DhuIdeal.Facts] [hPre_dhu_finite : Cert.Pre_dhu_finite.Facts] : Prop :=
  ∀ (m : (ℓ : Loc Cert.DhuIdeal.nD Cert.DhuIdeal.τ Cert.DhuIdeal.sig) → Buf (Elt Ideal) ℓ) (g : Dev Cert.DhuIdeal.nD → PrngReg), Pre_DhuIdeal_dhu_finite m →
    θ_run (Cert.DhuIdeal.defs (F := Ideal)) (onTc (τ := Cert.DhuIdeal.τ) (Cert.DhuIdeal.main (F := Ideal))) ⟨m, fun _ => 0, g⟩ (fun r => (∀ c : Dev Cert.DhuIdeal.nD,
      r.2.mem ((c.tc : Thread Cert.DhuIdeal.nD Cert.DhuIdeal.τ).loc Cert.DhuIdeal.main_arg0) = m ((c.tc : Thread Cert.DhuIdeal.nD Cert.DhuIdeal.τ).loc Cert.DhuIdeal.main_arg0)
      ∧ r.2.mem ((c.tc : Thread Cert.DhuIdeal.nD Cert.DhuIdeal.τ).loc Cert.DhuIdeal.main_arg1) = m ((c.tc : Thread Cert.DhuIdeal.nD Cert.DhuIdeal.τ).loc Cert.DhuIdeal.main_arg1)
      ∧ r.2.mem ((c.tc : Thread Cert.DhuIdeal.nD Cert.DhuIdeal.τ).loc Cert.DhuIdeal.main_arg2) = m ((c.tc : Thread Cert.DhuIdeal.nD Cert.DhuIdeal.τ).loc Cert.DhuIdeal.main_arg2)
      ∧ r.2.mem ((c.tc : Thread Cert.DhuIdeal.nD Cert.DhuIdeal.τ).loc Cert.DhuIdeal.main_arg3) = m ((c.tc : Thread Cert.DhuIdeal.nD Cert.DhuIdeal.τ).loc Cert.DhuIdeal.main_arg3))
      ∧ r.2.sem = fun _ => 0)

def quiescent_DhuRefIdeal [hDhuRefIdeal : Cert.DhuRefIdeal.Facts] : Prop :=
  ∀ (m : (ℓ : Loc Cert.DhuRefIdeal.nD Cert.DhuRefIdeal.τ Cert.DhuRefIdeal.sig) → Buf (Elt Ideal) ℓ) (g : Dev Cert.DhuRefIdeal.nD → PrngReg), Pre_DhuRefIdeal m →
    θ_run (Cert.DhuRefIdeal.defs (F := Ideal)) (onTc (τ := Cert.DhuRefIdeal.τ) (Cert.DhuRefIdeal.main (F := Ideal))) ⟨m, fun _ => 0, g⟩ (fun r => (∀ c : Dev Cert.DhuRefIdeal.nD,
      r.2.mem ((c.tc : Thread Cert.DhuRefIdeal.nD Cert.DhuRefIdeal.τ).loc Cert.DhuRefIdeal.main_arg0) = m ((c.tc : Thread Cert.DhuRefIdeal.nD Cert.DhuRefIdeal.τ).loc Cert.DhuRefIdeal.main_arg0)
      ∧ r.2.mem ((c.tc : Thread Cert.DhuRefIdeal.nD Cert.DhuRefIdeal.τ).loc Cert.DhuRefIdeal.main_arg1) = m ((c.tc : Thread Cert.DhuRefIdeal.nD Cert.DhuRefIdeal.τ).loc Cert.DhuRefIdeal.main_arg1)
      ∧ r.2.mem ((c.tc : Thread Cert.DhuRefIdeal.nD Cert.DhuRefIdeal.τ).loc Cert.DhuRefIdeal.main_arg2) = m ((c.tc : Thread Cert.DhuRefIdeal.nD Cert.DhuRefIdeal.τ).loc Cert.DhuRefIdeal.main_arg2)
      ∧ r.2.mem ((c.tc : Thread Cert.DhuRefIdeal.nD Cert.DhuRefIdeal.τ).loc Cert.DhuRefIdeal.main_arg3) = m ((c.tc : Thread Cert.DhuRefIdeal.nD Cert.DhuRefIdeal.τ).loc Cert.DhuRefIdeal.main_arg3))
      ∧ r.2.sem = fun _ => 0)

def quiescent_DhuRefIdeal_pre_dhu_finite [hDhuRefIdeal : Cert.DhuRefIdeal.Facts] [hPre_dhu_finite : Cert.Pre_dhu_finite.Facts] : Prop :=
  ∀ (m : (ℓ : Loc Cert.DhuRefIdeal.nD Cert.DhuRefIdeal.τ Cert.DhuRefIdeal.sig) → Buf (Elt Ideal) ℓ) (g : Dev Cert.DhuRefIdeal.nD → PrngReg), Pre_DhuRefIdeal_dhu_finite m →
    θ_run (Cert.DhuRefIdeal.defs (F := Ideal)) (onTc (τ := Cert.DhuRefIdeal.τ) (Cert.DhuRefIdeal.main (F := Ideal))) ⟨m, fun _ => 0, g⟩ (fun r => (∀ c : Dev Cert.DhuRefIdeal.nD,
      r.2.mem ((c.tc : Thread Cert.DhuRefIdeal.nD Cert.DhuRefIdeal.τ).loc Cert.DhuRefIdeal.main_arg0) = m ((c.tc : Thread Cert.DhuRefIdeal.nD Cert.DhuRefIdeal.τ).loc Cert.DhuRefIdeal.main_arg0)
      ∧ r.2.mem ((c.tc : Thread Cert.DhuRefIdeal.nD Cert.DhuRefIdeal.τ).loc Cert.DhuRefIdeal.main_arg1) = m ((c.tc : Thread Cert.DhuRefIdeal.nD Cert.DhuRefIdeal.τ).loc Cert.DhuRefIdeal.main_arg1)
      ∧ r.2.mem ((c.tc : Thread Cert.DhuRefIdeal.nD Cert.DhuRefIdeal.τ).loc Cert.DhuRefIdeal.main_arg2) = m ((c.tc : Thread Cert.DhuRefIdeal.nD Cert.DhuRefIdeal.τ).loc Cert.DhuRefIdeal.main_arg2)
      ∧ r.2.mem ((c.tc : Thread Cert.DhuRefIdeal.nD Cert.DhuRefIdeal.τ).loc Cert.DhuRefIdeal.main_arg3) = m ((c.tc : Thread Cert.DhuRefIdeal.nD Cert.DhuRefIdeal.τ).loc Cert.DhuRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_MixDwOut [hMixDwOut : Cert.MixDwOut.Facts] : Prop :=
  ∀ (m : (ℓ : Loc Cert.MixDwOut.nD Cert.MixDwOut.τ Cert.MixDwOut.sig) → Buf (Elt Bits) ℓ) (g : Dev Cert.MixDwOut.nD → PrngReg), Pre_MixDwOut m →
    θ_run (Cert.MixDwOut.defs (F := Bits)) (onTc (τ := Cert.MixDwOut.τ) (Cert.MixDwOut.main (F := Bits))) ⟨m, fun _ => 0, g⟩ (fun r => (∀ c : Dev Cert.MixDwOut.nD,
      r.2.mem ((c.tc : Thread Cert.MixDwOut.nD Cert.MixDwOut.τ).loc Cert.MixDwOut.main_arg0) = m ((c.tc : Thread Cert.MixDwOut.nD Cert.MixDwOut.τ).loc Cert.MixDwOut.main_arg0)
      ∧ r.2.mem ((c.tc : Thread Cert.MixDwOut.nD Cert.MixDwOut.τ).loc Cert.MixDwOut.main_arg1) = m ((c.tc : Thread Cert.MixDwOut.nD Cert.MixDwOut.τ).loc Cert.MixDwOut.main_arg1))
      ∧ r.2.sem = fun _ => 0)

def quiescent_MixDwOutIdeal [hMixDwOutIdeal : Cert.MixDwOutIdeal.Facts] : Prop :=
  ∀ (m : (ℓ : Loc Cert.MixDwOutIdeal.nD Cert.MixDwOutIdeal.τ Cert.MixDwOutIdeal.sig) → Buf (Elt Ideal) ℓ) (g : Dev Cert.MixDwOutIdeal.nD → PrngReg), Pre_MixDwOutIdeal m →
    θ_run (Cert.MixDwOutIdeal.defs (F := Ideal)) (onTc (τ := Cert.MixDwOutIdeal.τ) (Cert.MixDwOutIdeal.main (F := Ideal))) ⟨m, fun _ => 0, g⟩ (fun r => (∀ c : Dev Cert.MixDwOutIdeal.nD,
      r.2.mem ((c.tc : Thread Cert.MixDwOutIdeal.nD Cert.MixDwOutIdeal.τ).loc Cert.MixDwOutIdeal.main_arg0) = m ((c.tc : Thread Cert.MixDwOutIdeal.nD Cert.MixDwOutIdeal.τ).loc Cert.MixDwOutIdeal.main_arg0)
      ∧ r.2.mem ((c.tc : Thread Cert.MixDwOutIdeal.nD Cert.MixDwOutIdeal.τ).loc Cert.MixDwOutIdeal.main_arg1) = m ((c.tc : Thread Cert.MixDwOutIdeal.nD Cert.MixDwOutIdeal.τ).loc Cert.MixDwOutIdeal.main_arg1))
      ∧ r.2.sem = fun _ => 0)

def quiescent_MixDwOutRefIdeal [hMixDwOutRefIdeal : Cert.MixDwOutRefIdeal.Facts] : Prop :=
  ∀ (m : (ℓ : Loc Cert.MixDwOutRefIdeal.nD Cert.MixDwOutRefIdeal.τ Cert.MixDwOutRefIdeal.sig) → Buf (Elt Ideal) ℓ) (g : Dev Cert.MixDwOutRefIdeal.nD → PrngReg), Pre_MixDwOutRefIdeal m →
    θ_run (Cert.MixDwOutRefIdeal.defs (F := Ideal)) (onTc (τ := Cert.MixDwOutRefIdeal.τ) (Cert.MixDwOutRefIdeal.main (F := Ideal))) ⟨m, fun _ => 0, g⟩ (fun r => (∀ c : Dev Cert.MixDwOutRefIdeal.nD,
      r.2.mem ((c.tc : Thread Cert.MixDwOutRefIdeal.nD Cert.MixDwOutRefIdeal.τ).loc Cert.MixDwOutRefIdeal.main_arg0) = m ((c.tc : Thread Cert.MixDwOutRefIdeal.nD Cert.MixDwOutRefIdeal.τ).loc Cert.MixDwOutRefIdeal.main_arg0)
      ∧ r.2.mem ((c.tc : Thread Cert.MixDwOutRefIdeal.nD Cert.MixDwOutRefIdeal.τ).loc Cert.MixDwOutRefIdeal.main_arg1) = m ((c.tc : Thread Cert.MixDwOutRefIdeal.nD Cert.MixDwOutRefIdeal.τ).loc Cert.MixDwOutRefIdeal.main_arg1))
      ∧ r.2.sem = fun _ => 0)

def quiescent_MixDz [hMixDz : Cert.MixDz.Facts] : Prop :=
  ∀ (m : (ℓ : Loc Cert.MixDz.nD Cert.MixDz.τ Cert.MixDz.sig) → Buf (Elt Bits) ℓ) (g : Dev Cert.MixDz.nD → PrngReg), Pre_MixDz m →
    θ_run (Cert.MixDz.defs (F := Bits)) (onTc (τ := Cert.MixDz.τ) (Cert.MixDz.main (F := Bits))) ⟨m, fun _ => 0, g⟩ (fun r => (∀ c : Dev Cert.MixDz.nD,
      r.2.mem ((c.tc : Thread Cert.MixDz.nD Cert.MixDz.τ).loc Cert.MixDz.main_arg0) = m ((c.tc : Thread Cert.MixDz.nD Cert.MixDz.τ).loc Cert.MixDz.main_arg0)
      ∧ r.2.mem ((c.tc : Thread Cert.MixDz.nD Cert.MixDz.τ).loc Cert.MixDz.main_arg1) = m ((c.tc : Thread Cert.MixDz.nD Cert.MixDz.τ).loc Cert.MixDz.main_arg1))
      ∧ r.2.sem = fun _ => 0)

def quiescent_MixDzIdeal [hMixDzIdeal : Cert.MixDzIdeal.Facts] : Prop :=
  ∀ (m : (ℓ : Loc Cert.MixDzIdeal.nD Cert.MixDzIdeal.τ Cert.MixDzIdeal.sig) → Buf (Elt Ideal) ℓ) (g : Dev Cert.MixDzIdeal.nD → PrngReg), Pre_MixDzIdeal m →
    θ_run (Cert.MixDzIdeal.defs (F := Ideal)) (onTc (τ := Cert.MixDzIdeal.τ) (Cert.MixDzIdeal.main (F := Ideal))) ⟨m, fun _ => 0, g⟩ (fun r => (∀ c : Dev Cert.MixDzIdeal.nD,
      r.2.mem ((c.tc : Thread Cert.MixDzIdeal.nD Cert.MixDzIdeal.τ).loc Cert.MixDzIdeal.main_arg0) = m ((c.tc : Thread Cert.MixDzIdeal.nD Cert.MixDzIdeal.τ).loc Cert.MixDzIdeal.main_arg0)
      ∧ r.2.mem ((c.tc : Thread Cert.MixDzIdeal.nD Cert.MixDzIdeal.τ).loc Cert.MixDzIdeal.main_arg1) = m ((c.tc : Thread Cert.MixDzIdeal.nD Cert.MixDzIdeal.τ).loc Cert.MixDzIdeal.main_arg1))
      ∧ r.2.sem = fun _ => 0)

def quiescent_MixDzRefIdeal [hMixDzRefIdeal : Cert.MixDzRefIdeal.Facts] : Prop :=
  ∀ (m : (ℓ : Loc Cert.MixDzRefIdeal.nD Cert.MixDzRefIdeal.τ Cert.MixDzRefIdeal.sig) → Buf (Elt Ideal) ℓ) (g : Dev Cert.MixDzRefIdeal.nD → PrngReg), Pre_MixDzRefIdeal m →
    θ_run (Cert.MixDzRefIdeal.defs (F := Ideal)) (onTc (τ := Cert.MixDzRefIdeal.τ) (Cert.MixDzRefIdeal.main (F := Ideal))) ⟨m, fun _ => 0, g⟩ (fun r => (∀ c : Dev Cert.MixDzRefIdeal.nD,
      r.2.mem ((c.tc : Thread Cert.MixDzRefIdeal.nD Cert.MixDzRefIdeal.τ).loc Cert.MixDzRefIdeal.main_arg0) = m ((c.tc : Thread Cert.MixDzRefIdeal.nD Cert.MixDzRefIdeal.τ).loc Cert.MixDzRefIdeal.main_arg0)
      ∧ r.2.mem ((c.tc : Thread Cert.MixDzRefIdeal.nD Cert.MixDzRefIdeal.τ).loc Cert.MixDzRefIdeal.main_arg1) = m ((c.tc : Thread Cert.MixDzRefIdeal.nD Cert.MixDzRefIdeal.τ).loc Cert.MixDzRefIdeal.main_arg1))
      ∧ r.2.sem = fun _ => 0)

def quiescent_MixDwA [hMixDwA : Cert.MixDwA.Facts] : Prop :=
  ∀ (m : (ℓ : Loc Cert.MixDwA.nD Cert.MixDwA.τ Cert.MixDwA.sig) → Buf (Elt Bits) ℓ) (g : Dev Cert.MixDwA.nD → PrngReg), Pre_MixDwA m →
    θ_run (Cert.MixDwA.defs (F := Bits)) (onTc (τ := Cert.MixDwA.τ) (Cert.MixDwA.main (F := Bits))) ⟨m, fun _ => 0, g⟩ (fun r => (∀ c : Dev Cert.MixDwA.nD,
      r.2.mem ((c.tc : Thread Cert.MixDwA.nD Cert.MixDwA.τ).loc Cert.MixDwA.main_arg0) = m ((c.tc : Thread Cert.MixDwA.nD Cert.MixDwA.τ).loc Cert.MixDwA.main_arg0)
      ∧ r.2.mem ((c.tc : Thread Cert.MixDwA.nD Cert.MixDwA.τ).loc Cert.MixDwA.main_arg1) = m ((c.tc : Thread Cert.MixDwA.nD Cert.MixDwA.τ).loc Cert.MixDwA.main_arg1))
      ∧ r.2.sem = fun _ => 0)

def quiescent_MixDwAIdeal [hMixDwAIdeal : Cert.MixDwAIdeal.Facts] : Prop :=
  ∀ (m : (ℓ : Loc Cert.MixDwAIdeal.nD Cert.MixDwAIdeal.τ Cert.MixDwAIdeal.sig) → Buf (Elt Ideal) ℓ) (g : Dev Cert.MixDwAIdeal.nD → PrngReg), Pre_MixDwAIdeal m →
    θ_run (Cert.MixDwAIdeal.defs (F := Ideal)) (onTc (τ := Cert.MixDwAIdeal.τ) (Cert.MixDwAIdeal.main (F := Ideal))) ⟨m, fun _ => 0, g⟩ (fun r => (∀ c : Dev Cert.MixDwAIdeal.nD,
      r.2.mem ((c.tc : Thread Cert.MixDwAIdeal.nD Cert.MixDwAIdeal.τ).loc Cert.MixDwAIdeal.main_arg0) = m ((c.tc : Thread Cert.MixDwAIdeal.nD Cert.MixDwAIdeal.τ).loc Cert.MixDwAIdeal.main_arg0)
      ∧ r.2.mem ((c.tc : Thread Cert.MixDwAIdeal.nD Cert.MixDwAIdeal.τ).loc Cert.MixDwAIdeal.main_arg1) = m ((c.tc : Thread Cert.MixDwAIdeal.nD Cert.MixDwAIdeal.τ).loc Cert.MixDwAIdeal.main_arg1))
      ∧ r.2.sem = fun _ => 0)

def quiescent_MixDwARefIdeal [hMixDwARefIdeal : Cert.MixDwARefIdeal.Facts] : Prop :=
  ∀ (m : (ℓ : Loc Cert.MixDwARefIdeal.nD Cert.MixDwARefIdeal.τ Cert.MixDwARefIdeal.sig) → Buf (Elt Ideal) ℓ) (g : Dev Cert.MixDwARefIdeal.nD → PrngReg), Pre_MixDwARefIdeal m →
    θ_run (Cert.MixDwARefIdeal.defs (F := Ideal)) (onTc (τ := Cert.MixDwARefIdeal.τ) (Cert.MixDwARefIdeal.main (F := Ideal))) ⟨m, fun _ => 0, g⟩ (fun r => (∀ c : Dev Cert.MixDwARefIdeal.nD,
      r.2.mem ((c.tc : Thread Cert.MixDwARefIdeal.nD Cert.MixDwARefIdeal.τ).loc Cert.MixDwARefIdeal.main_arg0) = m ((c.tc : Thread Cert.MixDwARefIdeal.nD Cert.MixDwARefIdeal.τ).loc Cert.MixDwARefIdeal.main_arg0)
      ∧ r.2.mem ((c.tc : Thread Cert.MixDwARefIdeal.nD Cert.MixDwARefIdeal.τ).loc Cert.MixDwARefIdeal.main_arg1) = m ((c.tc : Thread Cert.MixDwARefIdeal.nD Cert.MixDwARefIdeal.τ).loc Cert.MixDwARefIdeal.main_arg1))
      ∧ r.2.sem = fun _ => 0)

def quiescent_MixDa [hMixDa : Cert.MixDa.Facts] : Prop :=
  ∀ (m : (ℓ : Loc Cert.MixDa.nD Cert.MixDa.τ Cert.MixDa.sig) → Buf (Elt Bits) ℓ) (g : Dev Cert.MixDa.nD → PrngReg), Pre_MixDa m →
    θ_run (Cert.MixDa.defs (F := Bits)) (onTc (τ := Cert.MixDa.τ) (Cert.MixDa.main (F := Bits))) ⟨m, fun _ => 0, g⟩ (fun r => (∀ c : Dev Cert.MixDa.nD,
      r.2.mem ((c.tc : Thread Cert.MixDa.nD Cert.MixDa.τ).loc Cert.MixDa.main_arg0) = m ((c.tc : Thread Cert.MixDa.nD Cert.MixDa.τ).loc Cert.MixDa.main_arg0)
      ∧ r.2.mem ((c.tc : Thread Cert.MixDa.nD Cert.MixDa.τ).loc Cert.MixDa.main_arg1) = m ((c.tc : Thread Cert.MixDa.nD Cert.MixDa.τ).loc Cert.MixDa.main_arg1))
      ∧ r.2.sem = fun _ => 0)

def quiescent_MixDaIdeal [hMixDaIdeal : Cert.MixDaIdeal.Facts] : Prop :=
  ∀ (m : (ℓ : Loc Cert.MixDaIdeal.nD Cert.MixDaIdeal.τ Cert.MixDaIdeal.sig) → Buf (Elt Ideal) ℓ) (g : Dev Cert.MixDaIdeal.nD → PrngReg), Pre_MixDaIdeal m →
    θ_run (Cert.MixDaIdeal.defs (F := Ideal)) (onTc (τ := Cert.MixDaIdeal.τ) (Cert.MixDaIdeal.main (F := Ideal))) ⟨m, fun _ => 0, g⟩ (fun r => (∀ c : Dev Cert.MixDaIdeal.nD,
      r.2.mem ((c.tc : Thread Cert.MixDaIdeal.nD Cert.MixDaIdeal.τ).loc Cert.MixDaIdeal.main_arg0) = m ((c.tc : Thread Cert.MixDaIdeal.nD Cert.MixDaIdeal.τ).loc Cert.MixDaIdeal.main_arg0)
      ∧ r.2.mem ((c.tc : Thread Cert.MixDaIdeal.nD Cert.MixDaIdeal.τ).loc Cert.MixDaIdeal.main_arg1) = m ((c.tc : Thread Cert.MixDaIdeal.nD Cert.MixDaIdeal.τ).loc Cert.MixDaIdeal.main_arg1))
      ∧ r.2.sem = fun _ => 0)

def quiescent_MixDaRefIdeal [hMixDaRefIdeal : Cert.MixDaRefIdeal.Facts] : Prop :=
  ∀ (m : (ℓ : Loc Cert.MixDaRefIdeal.nD Cert.MixDaRefIdeal.τ Cert.MixDaRefIdeal.sig) → Buf (Elt Ideal) ℓ) (g : Dev Cert.MixDaRefIdeal.nD → PrngReg), Pre_MixDaRefIdeal m →
    θ_run (Cert.MixDaRefIdeal.defs (F := Ideal)) (onTc (τ := Cert.MixDaRefIdeal.τ) (Cert.MixDaRefIdeal.main (F := Ideal))) ⟨m, fun _ => 0, g⟩ (fun r => (∀ c : Dev Cert.MixDaRefIdeal.nD,
      r.2.mem ((c.tc : Thread Cert.MixDaRefIdeal.nD Cert.MixDaRefIdeal.τ).loc Cert.MixDaRefIdeal.main_arg0) = m ((c.tc : Thread Cert.MixDaRefIdeal.nD Cert.MixDaRefIdeal.τ).loc Cert.MixDaRefIdeal.main_arg0)
      ∧ r.2.mem ((c.tc : Thread Cert.MixDaRefIdeal.nD Cert.MixDaRefIdeal.τ).loc Cert.MixDaRefIdeal.main_arg1) = m ((c.tc : Thread Cert.MixDaRefIdeal.nD Cert.MixDaRefIdeal.τ).loc Cert.MixDaRefIdeal.main_arg1))
      ∧ r.2.sem = fun _ => 0)

def quiescent_MixDwB [hMixDwB : Cert.MixDwB.Facts] : Prop :=
  ∀ (m : (ℓ : Loc Cert.MixDwB.nD Cert.MixDwB.τ Cert.MixDwB.sig) → Buf (Elt Bits) ℓ) (g : Dev Cert.MixDwB.nD → PrngReg), Pre_MixDwB m →
    θ_run (Cert.MixDwB.defs (F := Bits)) (onTc (τ := Cert.MixDwB.τ) (Cert.MixDwB.main (F := Bits))) ⟨m, fun _ => 0, g⟩ (fun r => (∀ c : Dev Cert.MixDwB.nD,
      r.2.mem ((c.tc : Thread Cert.MixDwB.nD Cert.MixDwB.τ).loc Cert.MixDwB.main_arg0) = m ((c.tc : Thread Cert.MixDwB.nD Cert.MixDwB.τ).loc Cert.MixDwB.main_arg0)
      ∧ r.2.mem ((c.tc : Thread Cert.MixDwB.nD Cert.MixDwB.τ).loc Cert.MixDwB.main_arg1) = m ((c.tc : Thread Cert.MixDwB.nD Cert.MixDwB.τ).loc Cert.MixDwB.main_arg1))
      ∧ r.2.sem = fun _ => 0)

def quiescent_MixDwBIdeal [hMixDwBIdeal : Cert.MixDwBIdeal.Facts] : Prop :=
  ∀ (m : (ℓ : Loc Cert.MixDwBIdeal.nD Cert.MixDwBIdeal.τ Cert.MixDwBIdeal.sig) → Buf (Elt Ideal) ℓ) (g : Dev Cert.MixDwBIdeal.nD → PrngReg), Pre_MixDwBIdeal m →
    θ_run (Cert.MixDwBIdeal.defs (F := Ideal)) (onTc (τ := Cert.MixDwBIdeal.τ) (Cert.MixDwBIdeal.main (F := Ideal))) ⟨m, fun _ => 0, g⟩ (fun r => (∀ c : Dev Cert.MixDwBIdeal.nD,
      r.2.mem ((c.tc : Thread Cert.MixDwBIdeal.nD Cert.MixDwBIdeal.τ).loc Cert.MixDwBIdeal.main_arg0) = m ((c.tc : Thread Cert.MixDwBIdeal.nD Cert.MixDwBIdeal.τ).loc Cert.MixDwBIdeal.main_arg0)
      ∧ r.2.mem ((c.tc : Thread Cert.MixDwBIdeal.nD Cert.MixDwBIdeal.τ).loc Cert.MixDwBIdeal.main_arg1) = m ((c.tc : Thread Cert.MixDwBIdeal.nD Cert.MixDwBIdeal.τ).loc Cert.MixDwBIdeal.main_arg1))
      ∧ r.2.sem = fun _ => 0)

def quiescent_MixDwBRefIdeal [hMixDwBRefIdeal : Cert.MixDwBRefIdeal.Facts] : Prop :=
  ∀ (m : (ℓ : Loc Cert.MixDwBRefIdeal.nD Cert.MixDwBRefIdeal.τ Cert.MixDwBRefIdeal.sig) → Buf (Elt Ideal) ℓ) (g : Dev Cert.MixDwBRefIdeal.nD → PrngReg), Pre_MixDwBRefIdeal m →
    θ_run (Cert.MixDwBRefIdeal.defs (F := Ideal)) (onTc (τ := Cert.MixDwBRefIdeal.τ) (Cert.MixDwBRefIdeal.main (F := Ideal))) ⟨m, fun _ => 0, g⟩ (fun r => (∀ c : Dev Cert.MixDwBRefIdeal.nD,
      r.2.mem ((c.tc : Thread Cert.MixDwBRefIdeal.nD Cert.MixDwBRefIdeal.τ).loc Cert.MixDwBRefIdeal.main_arg0) = m ((c.tc : Thread Cert.MixDwBRefIdeal.nD Cert.MixDwBRefIdeal.τ).loc Cert.MixDwBRefIdeal.main_arg0)
      ∧ r.2.mem ((c.tc : Thread Cert.MixDwBRefIdeal.nD Cert.MixDwBRefIdeal.τ).loc Cert.MixDwBRefIdeal.main_arg1) = m ((c.tc : Thread Cert.MixDwBRefIdeal.nD Cert.MixDwBRefIdeal.τ).loc Cert.MixDwBRefIdeal.main_arg1))
      ∧ r.2.sem = fun _ => 0)

def quiescent_MixDmixed [hMixDmixed : Cert.MixDmixed.Facts] : Prop :=
  ∀ (m : (ℓ : Loc Cert.MixDmixed.nD Cert.MixDmixed.τ Cert.MixDmixed.sig) → Buf (Elt Bits) ℓ) (g : Dev Cert.MixDmixed.nD → PrngReg), Pre_MixDmixed m →
    θ_run (Cert.MixDmixed.defs (F := Bits)) (onTc (τ := Cert.MixDmixed.τ) (Cert.MixDmixed.main (F := Bits))) ⟨m, fun _ => 0, g⟩ (fun r => (∀ c : Dev Cert.MixDmixed.nD,
      r.2.mem ((c.tc : Thread Cert.MixDmixed.nD Cert.MixDmixed.τ).loc Cert.MixDmixed.main_arg0) = m ((c.tc : Thread Cert.MixDmixed.nD Cert.MixDmixed.τ).loc Cert.MixDmixed.main_arg0)
      ∧ r.2.mem ((c.tc : Thread Cert.MixDmixed.nD Cert.MixDmixed.τ).loc Cert.MixDmixed.main_arg1) = m ((c.tc : Thread Cert.MixDmixed.nD Cert.MixDmixed.τ).loc Cert.MixDmixed.main_arg1))
      ∧ r.2.sem = fun _ => 0)

def quiescent_MixDmixedIdeal [hMixDmixedIdeal : Cert.MixDmixedIdeal.Facts] : Prop :=
  ∀ (m : (ℓ : Loc Cert.MixDmixedIdeal.nD Cert.MixDmixedIdeal.τ Cert.MixDmixedIdeal.sig) → Buf (Elt Ideal) ℓ) (g : Dev Cert.MixDmixedIdeal.nD → PrngReg), Pre_MixDmixedIdeal m →
    θ_run (Cert.MixDmixedIdeal.defs (F := Ideal)) (onTc (τ := Cert.MixDmixedIdeal.τ) (Cert.MixDmixedIdeal.main (F := Ideal))) ⟨m, fun _ => 0, g⟩ (fun r => (∀ c : Dev Cert.MixDmixedIdeal.nD,
      r.2.mem ((c.tc : Thread Cert.MixDmixedIdeal.nD Cert.MixDmixedIdeal.τ).loc Cert.MixDmixedIdeal.main_arg0) = m ((c.tc : Thread Cert.MixDmixedIdeal.nD Cert.MixDmixedIdeal.τ).loc Cert.MixDmixedIdeal.main_arg0)
      ∧ r.2.mem ((c.tc : Thread Cert.MixDmixedIdeal.nD Cert.MixDmixedIdeal.τ).loc Cert.MixDmixedIdeal.main_arg1) = m ((c.tc : Thread Cert.MixDmixedIdeal.nD Cert.MixDmixedIdeal.τ).loc Cert.MixDmixedIdeal.main_arg1))
      ∧ r.2.sem = fun _ => 0)

def quiescent_MixDmixedRefIdeal [hMixDmixedRefIdeal : Cert.MixDmixedRefIdeal.Facts] : Prop :=
  ∀ (m : (ℓ : Loc Cert.MixDmixedRefIdeal.nD Cert.MixDmixedRefIdeal.τ Cert.MixDmixedRefIdeal.sig) → Buf (Elt Ideal) ℓ) (g : Dev Cert.MixDmixedRefIdeal.nD → PrngReg), Pre_MixDmixedRefIdeal m →
    θ_run (Cert.MixDmixedRefIdeal.defs (F := Ideal)) (onTc (τ := Cert.MixDmixedRefIdeal.τ) (Cert.MixDmixedRefIdeal.main (F := Ideal))) ⟨m, fun _ => 0, g⟩ (fun r => (∀ c : Dev Cert.MixDmixedRefIdeal.nD,
      r.2.mem ((c.tc : Thread Cert.MixDmixedRefIdeal.nD Cert.MixDmixedRefIdeal.τ).loc Cert.MixDmixedRefIdeal.main_arg0) = m ((c.tc : Thread Cert.MixDmixedRefIdeal.nD Cert.MixDmixedRefIdeal.τ).loc Cert.MixDmixedRefIdeal.main_arg0)
      ∧ r.2.mem ((c.tc : Thread Cert.MixDmixedRefIdeal.nD Cert.MixDmixedRefIdeal.τ).loc Cert.MixDmixedRefIdeal.main_arg1) = m ((c.tc : Thread Cert.MixDmixedRefIdeal.nD Cert.MixDmixedRefIdeal.τ).loc Cert.MixDmixedRefIdeal.main_arg1))
      ∧ r.2.sem = fun _ => 0)

def quiescent_MixDwIn [hMixDwIn : Cert.MixDwIn.Facts] : Prop :=
  ∀ (m : (ℓ : Loc Cert.MixDwIn.nD Cert.MixDwIn.τ Cert.MixDwIn.sig) → Buf (Elt Bits) ℓ) (g : Dev Cert.MixDwIn.nD → PrngReg), Pre_MixDwIn m →
    θ_run (Cert.MixDwIn.defs (F := Bits)) (onTc (τ := Cert.MixDwIn.τ) (Cert.MixDwIn.main (F := Bits))) ⟨m, fun _ => 0, g⟩ (fun r => (∀ c : Dev Cert.MixDwIn.nD,
      r.2.mem ((c.tc : Thread Cert.MixDwIn.nD Cert.MixDwIn.τ).loc Cert.MixDwIn.main_arg0) = m ((c.tc : Thread Cert.MixDwIn.nD Cert.MixDwIn.τ).loc Cert.MixDwIn.main_arg0)
      ∧ r.2.mem ((c.tc : Thread Cert.MixDwIn.nD Cert.MixDwIn.τ).loc Cert.MixDwIn.main_arg1) = m ((c.tc : Thread Cert.MixDwIn.nD Cert.MixDwIn.τ).loc Cert.MixDwIn.main_arg1))
      ∧ r.2.sem = fun _ => 0)

def quiescent_MixDwInIdeal [hMixDwInIdeal : Cert.MixDwInIdeal.Facts] : Prop :=
  ∀ (m : (ℓ : Loc Cert.MixDwInIdeal.nD Cert.MixDwInIdeal.τ Cert.MixDwInIdeal.sig) → Buf (Elt Ideal) ℓ) (g : Dev Cert.MixDwInIdeal.nD → PrngReg), Pre_MixDwInIdeal m →
    θ_run (Cert.MixDwInIdeal.defs (F := Ideal)) (onTc (τ := Cert.MixDwInIdeal.τ) (Cert.MixDwInIdeal.main (F := Ideal))) ⟨m, fun _ => 0, g⟩ (fun r => (∀ c : Dev Cert.MixDwInIdeal.nD,
      r.2.mem ((c.tc : Thread Cert.MixDwInIdeal.nD Cert.MixDwInIdeal.τ).loc Cert.MixDwInIdeal.main_arg0) = m ((c.tc : Thread Cert.MixDwInIdeal.nD Cert.MixDwInIdeal.τ).loc Cert.MixDwInIdeal.main_arg0)
      ∧ r.2.mem ((c.tc : Thread Cert.MixDwInIdeal.nD Cert.MixDwInIdeal.τ).loc Cert.MixDwInIdeal.main_arg1) = m ((c.tc : Thread Cert.MixDwInIdeal.nD Cert.MixDwInIdeal.τ).loc Cert.MixDwInIdeal.main_arg1))
      ∧ r.2.sem = fun _ => 0)

def quiescent_MixDwInRefIdeal [hMixDwInRefIdeal : Cert.MixDwInRefIdeal.Facts] : Prop :=
  ∀ (m : (ℓ : Loc Cert.MixDwInRefIdeal.nD Cert.MixDwInRefIdeal.τ Cert.MixDwInRefIdeal.sig) → Buf (Elt Ideal) ℓ) (g : Dev Cert.MixDwInRefIdeal.nD → PrngReg), Pre_MixDwInRefIdeal m →
    θ_run (Cert.MixDwInRefIdeal.defs (F := Ideal)) (onTc (τ := Cert.MixDwInRefIdeal.τ) (Cert.MixDwInRefIdeal.main (F := Ideal))) ⟨m, fun _ => 0, g⟩ (fun r => (∀ c : Dev Cert.MixDwInRefIdeal.nD,
      r.2.mem ((c.tc : Thread Cert.MixDwInRefIdeal.nD Cert.MixDwInRefIdeal.τ).loc Cert.MixDwInRefIdeal.main_arg0) = m ((c.tc : Thread Cert.MixDwInRefIdeal.nD Cert.MixDwInRefIdeal.τ).loc Cert.MixDwInRefIdeal.main_arg0)
      ∧ r.2.mem ((c.tc : Thread Cert.MixDwInRefIdeal.nD Cert.MixDwInRefIdeal.τ).loc Cert.MixDwInRefIdeal.main_arg1) = m ((c.tc : Thread Cert.MixDwInRefIdeal.nD Cert.MixDwInRefIdeal.τ).loc Cert.MixDwInRefIdeal.main_arg1))
      ∧ r.2.sem = fun _ => 0)

def quiescent_MixDn [hMixDn : Cert.MixDn.Facts] : Prop :=
  ∀ (m : (ℓ : Loc Cert.MixDn.nD Cert.MixDn.τ Cert.MixDn.sig) → Buf (Elt Bits) ℓ) (g : Dev Cert.MixDn.nD → PrngReg), Pre_MixDn m →
    θ_run (Cert.MixDn.defs (F := Bits)) (onTc (τ := Cert.MixDn.τ) (Cert.MixDn.main (F := Bits))) ⟨m, fun _ => 0, g⟩ (fun r => (∀ c : Dev Cert.MixDn.nD,
      r.2.mem ((c.tc : Thread Cert.MixDn.nD Cert.MixDn.τ).loc Cert.MixDn.main_arg0) = m ((c.tc : Thread Cert.MixDn.nD Cert.MixDn.τ).loc Cert.MixDn.main_arg0)
      ∧ r.2.mem ((c.tc : Thread Cert.MixDn.nD Cert.MixDn.τ).loc Cert.MixDn.main_arg1) = m ((c.tc : Thread Cert.MixDn.nD Cert.MixDn.τ).loc Cert.MixDn.main_arg1))
      ∧ r.2.sem = fun _ => 0)

def quiescent_MixDnIdeal [hMixDnIdeal : Cert.MixDnIdeal.Facts] : Prop :=
  ∀ (m : (ℓ : Loc Cert.MixDnIdeal.nD Cert.MixDnIdeal.τ Cert.MixDnIdeal.sig) → Buf (Elt Ideal) ℓ) (g : Dev Cert.MixDnIdeal.nD → PrngReg), Pre_MixDnIdeal m →
    θ_run (Cert.MixDnIdeal.defs (F := Ideal)) (onTc (τ := Cert.MixDnIdeal.τ) (Cert.MixDnIdeal.main (F := Ideal))) ⟨m, fun _ => 0, g⟩ (fun r => (∀ c : Dev Cert.MixDnIdeal.nD,
      r.2.mem ((c.tc : Thread Cert.MixDnIdeal.nD Cert.MixDnIdeal.τ).loc Cert.MixDnIdeal.main_arg0) = m ((c.tc : Thread Cert.MixDnIdeal.nD Cert.MixDnIdeal.τ).loc Cert.MixDnIdeal.main_arg0)
      ∧ r.2.mem ((c.tc : Thread Cert.MixDnIdeal.nD Cert.MixDnIdeal.τ).loc Cert.MixDnIdeal.main_arg1) = m ((c.tc : Thread Cert.MixDnIdeal.nD Cert.MixDnIdeal.τ).loc Cert.MixDnIdeal.main_arg1))
      ∧ r.2.sem = fun _ => 0)

def quiescent_MixDnRefIdeal [hMixDnRefIdeal : Cert.MixDnRefIdeal.Facts] : Prop :=
  ∀ (m : (ℓ : Loc Cert.MixDnRefIdeal.nD Cert.MixDnRefIdeal.τ Cert.MixDnRefIdeal.sig) → Buf (Elt Ideal) ℓ) (g : Dev Cert.MixDnRefIdeal.nD → PrngReg), Pre_MixDnRefIdeal m →
    θ_run (Cert.MixDnRefIdeal.defs (F := Ideal)) (onTc (τ := Cert.MixDnRefIdeal.τ) (Cert.MixDnRefIdeal.main (F := Ideal))) ⟨m, fun _ => 0, g⟩ (fun r => (∀ c : Dev Cert.MixDnRefIdeal.nD,
      r.2.mem ((c.tc : Thread Cert.MixDnRefIdeal.nD Cert.MixDnRefIdeal.τ).loc Cert.MixDnRefIdeal.main_arg0) = m ((c.tc : Thread Cert.MixDnRefIdeal.nD Cert.MixDnRefIdeal.τ).loc Cert.MixDnRefIdeal.main_arg0)
      ∧ r.2.mem ((c.tc : Thread Cert.MixDnRefIdeal.nD Cert.MixDnRefIdeal.τ).loc Cert.MixDnRefIdeal.main_arg1) = m ((c.tc : Thread Cert.MixDnRefIdeal.nD Cert.MixDnRefIdeal.τ).loc Cert.MixDnRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Ya [hYa : Cert.Ya.Facts] : Prop :=
  ∀ (m : (ℓ : Loc Cert.Ya.nD Cert.Ya.τ Cert.Ya.sig) → Buf (Elt Bits) ℓ) (g : Dev Cert.Ya.nD → PrngReg), Pre_Ya m →
    θ_run (Cert.Ya.defs (F := Bits)) (onTc (τ := Cert.Ya.τ) (Cert.Ya.main (F := Bits))) ⟨m, fun _ => 0, g⟩ (fun r => (∀ c : Dev Cert.Ya.nD,
      r.2.mem ((c.tc : Thread Cert.Ya.nD Cert.Ya.τ).loc Cert.Ya.main_arg0) = m ((c.tc : Thread Cert.Ya.nD Cert.Ya.τ).loc Cert.Ya.main_arg0)
      ∧ r.2.mem ((c.tc : Thread Cert.Ya.nD Cert.Ya.τ).loc Cert.Ya.main_arg1) = m ((c.tc : Thread Cert.Ya.nD Cert.Ya.τ).loc Cert.Ya.main_arg1))
      ∧ r.2.sem = fun _ => 0)

def quiescent_YaIdeal [hYaIdeal : Cert.YaIdeal.Facts] : Prop :=
  ∀ (m : (ℓ : Loc Cert.YaIdeal.nD Cert.YaIdeal.τ Cert.YaIdeal.sig) → Buf (Elt Ideal) ℓ) (g : Dev Cert.YaIdeal.nD → PrngReg), Pre_YaIdeal m →
    θ_run (Cert.YaIdeal.defs (F := Ideal)) (onTc (τ := Cert.YaIdeal.τ) (Cert.YaIdeal.main (F := Ideal))) ⟨m, fun _ => 0, g⟩ (fun r => (∀ c : Dev Cert.YaIdeal.nD,
      r.2.mem ((c.tc : Thread Cert.YaIdeal.nD Cert.YaIdeal.τ).loc Cert.YaIdeal.main_arg0) = m ((c.tc : Thread Cert.YaIdeal.nD Cert.YaIdeal.τ).loc Cert.YaIdeal.main_arg0)
      ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ r.2.sem = fun _ => 0)

def quiescent_YaRefIdeal [hYaRefIdeal : Cert.YaRefIdeal.Facts] : Prop :=
  ∀ (m : (ℓ : Loc Cert.YaRefIdeal.nD Cert.YaRefIdeal.τ Cert.YaRefIdeal.sig) → Buf (Elt Ideal) ℓ) (g : Dev Cert.YaRefIdeal.nD → PrngReg), Pre_YaRefIdeal m →
    θ_run (Cert.YaRefIdeal.defs (F := Ideal)) (onTc (τ := Cert.YaRefIdeal.τ) (Cert.YaRefIdeal.main (F := Ideal))) ⟨m, fun _ => 0, g⟩ (fun r => (∀ c : Dev Cert.YaRefIdeal.nD,
      r.2.mem ((c.tc : Thread Cert.YaRefIdeal.nD Cert.YaRefIdeal.τ).loc Cert.YaRefIdeal.main_arg0) = m ((c.tc : Thread Cert.YaRefIdeal.nD Cert.YaRefIdeal.τ).loc Cert.YaRefIdeal.main_arg0)
      ∧ r.2.mem ((c.tc : Thread Cert.YaRefIdeal.nD Cert.YaRefIdeal.τ).loc Cert.YaRefIdeal.main_arg1) = m ((c.tc : Thread Cert.YaRefIdeal.nD Cert.YaRefIdeal.τ).loc Cert.YaRefIdeal.main_arg1))
      ∧ r.2.sem = fun _ => 0)

def quiescent_Yb [hYb : Cert.Yb.Facts] : Prop :=
  ∀ (m : (ℓ : Loc Cert.Yb.nD Cert.Yb.τ Cert.Yb.sig) → Buf (Elt Bits) ℓ) (g : Dev Cert.Yb.nD → PrngReg), Pre_Yb m →
    θ_run (Cert.Yb.defs (F := Bits)) (onTc (τ := Cert.Yb.τ) (Cert.Yb.main (F := Bits))) ⟨m, fun _ => 0, g⟩ (fun r => (∀ c : Dev Cert.Yb.nD,
      r.2.mem ((c.tc : Thread Cert.Yb.nD Cert.Yb.τ).loc Cert.Yb.main_arg0) = m ((c.tc : Thread Cert.Yb.nD Cert.Yb.τ).loc Cert.Yb.main_arg0)
      ∧ r.2.mem ((c.tc : Thread Cert.Yb.nD Cert.Yb.τ).loc Cert.Yb.main_arg1) = m ((c.tc : Thread Cert.Yb.nD Cert.Yb.τ).loc Cert.Yb.main_arg1))
      ∧ r.2.sem = fun _ => 0)

def quiescent_YbIdeal [hYbIdeal : Cert.YbIdeal.Facts] : Prop :=
  ∀ (m : (ℓ : Loc Cert.YbIdeal.nD Cert.YbIdeal.τ Cert.YbIdeal.sig) → Buf (Elt Ideal) ℓ) (g : Dev Cert.YbIdeal.nD → PrngReg), Pre_YbIdeal m →
    θ_run (Cert.YbIdeal.defs (F := Ideal)) (onTc (τ := Cert.YbIdeal.τ) (Cert.YbIdeal.main (F := Ideal))) ⟨m, fun _ => 0, g⟩ (fun r => (∀ c : Dev Cert.YbIdeal.nD,
      r.2.mem ((c.tc : Thread Cert.YbIdeal.nD Cert.YbIdeal.τ).loc Cert.YbIdeal.main_arg0) = m ((c.tc : Thread Cert.YbIdeal.nD Cert.YbIdeal.τ).loc Cert.YbIdeal.main_arg0)
      ∧ r.2.mem ((c.tc : Thread Cert.YbIdeal.nD Cert.YbIdeal.τ).loc Cert.YbIdeal.main_arg1) = m ((c.tc : Thread Cert.YbIdeal.nD Cert.YbIdeal.τ).loc Cert.YbIdeal.main_arg1))
      ∧ r.2.sem = fun _ => 0)

def quiescent_YbRefIdeal [hYbRefIdeal : Cert.YbRefIdeal.Facts] : Prop :=
  ∀ (m : (ℓ : Loc Cert.YbRefIdeal.nD Cert.YbRefIdeal.τ Cert.YbRefIdeal.sig) → Buf (Elt Ideal) ℓ) (g : Dev Cert.YbRefIdeal.nD → PrngReg), Pre_YbRefIdeal m →
    θ_run (Cert.YbRefIdeal.defs (F := Ideal)) (onTc (τ := Cert.YbRefIdeal.τ) (Cert.YbRefIdeal.main (F := Ideal))) ⟨m, fun _ => 0, g⟩ (fun r => (∀ c : Dev Cert.YbRefIdeal.nD,
      r.2.mem ((c.tc : Thread Cert.YbRefIdeal.nD Cert.YbRefIdeal.τ).loc Cert.YbRefIdeal.main_arg0) = m ((c.tc : Thread Cert.YbRefIdeal.nD Cert.YbRefIdeal.τ).loc Cert.YbRefIdeal.main_arg0)
      ∧ r.2.mem ((c.tc : Thread Cert.YbRefIdeal.nD Cert.YbRefIdeal.τ).loc Cert.YbRefIdeal.main_arg1) = m ((c.tc : Thread Cert.YbRefIdeal.nD Cert.YbRefIdeal.τ).loc Cert.YbRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1)
      ∧ r.2.mem ((c.tc : Thread Cert.NormX.nD Cert.NormX.τ).loc Cert.NormX.main_arg2) = m ((c.tc : Thread Cert.NormX.nD Cert.NormX.τ).loc Cert.NormX.main_arg2)
      ∧ r.2.mem ((c.tc : Thread Cert.NormX.nD Cert.NormX.τ).loc Cert.NormX.main_arg3) = m ((c.tc : Thread Cert.NormX.nD Cert.NormX.τ).loc Cert.NormX.main_arg3)
      ∧ r.2.mem ((c.tc : Thread Cert.NormX.nD Cert.NormX.τ).loc Cert.NormX.main_arg4) = m ((c.tc : Thread Cert.NormX.nD Cert.NormX.τ).loc Cert.NormX.main_arg4))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1)
      ∧ r.2.mem ((c.tc : Thread Cert.NormXIdeal.nD Cert.NormXIdeal.τ).loc Cert.NormXIdeal.main_arg2) = m ((c.tc : Thread Cert.NormXIdeal.nD Cert.NormXIdeal.τ).loc Cert.NormXIdeal.main_arg2)
      ∧ r.2.mem ((c.tc : Thread Cert.NormXIdeal.nD Cert.NormXIdeal.τ).loc Cert.NormXIdeal.main_arg3) = m ((c.tc : Thread Cert.NormXIdeal.nD Cert.NormXIdeal.τ).loc Cert.NormXIdeal.main_arg3)
      ∧ r.2.mem ((c.tc : Thread Cert.NormXIdeal.nD Cert.NormXIdeal.τ).loc Cert.NormXIdeal.main_arg4) = m ((c.tc : Thread Cert.NormXIdeal.nD Cert.NormXIdeal.τ).loc Cert.NormXIdeal.main_arg4))
      ∧ r.2.sem = fun _ => 0)

def quiescent_NormXRefIdeal [hNormXRefIdeal : Cert.NormXRefIdeal.Facts] : Prop :=
  ∀ (m : (ℓ : Loc Cert.NormXRefIdeal.nD Cert.NormXRefIdeal.τ Cert.NormXRefIdeal.sig) → Buf (Elt Ideal) ℓ) (g : Dev Cert.NormXRefIdeal.nD → PrngReg), Pre_NormXRefIdeal m →
    θ_run (Cert.NormXRefIdeal.defs (F := Ideal)) (onTc (τ := Cert.NormXRefIdeal.τ) (Cert.NormXRefIdeal.main (F := Ideal))) ⟨m, fun _ => 0, g⟩ (fun r => (∀ c : Dev Cert.NormXRefIdeal.nD,
      r.2.mem ((c.tc : Thread Cert.NormXRefIdeal.nD Cert.NormXRefIdeal.τ).loc Cert.NormXRefIdeal.main_arg0) = m ((c.tc : Thread Cert.NormXRefIdeal.nD Cert.NormXRefIdeal.τ).loc Cert.NormXRefIdeal.main_arg0)
      ∧ r.2.mem ((c.tc : Thread Cert.NormXRefIdeal.nD Cert.NormXRefIdeal.τ).loc Cert.NormXRefIdeal.main_arg1) = m ((c.tc : Thread Cert.NormXRefIdeal.nD Cert.NormXRefIdeal.τ).loc Cert.NormXRefIdeal.main_arg1)
      ∧ r.2.mem ((c.tc : Thread Cert.NormXRefIdeal.nD Cert.NormXRefIdeal.τ).loc Cert.NormXRefIdeal.main_arg2) = m ((c.tc : Thread Cert.NormXRefIdeal.nD Cert.NormXRefIdeal.τ).loc Cert.NormXRefIdeal.main_arg2)
      ∧ r.2.mem ((c.tc : Thread Cert.NormXRefIdeal.nD Cert.NormXRefIdeal.τ).loc Cert.NormXRefIdeal.main_arg3) = m ((c.tc : Thread Cert.NormXRefIdeal.nD Cert.NormXRefIdeal.τ).loc Cert.NormXRefIdeal.main_arg3)
      ∧ r.2.mem ((c.tc : Thread Cert.NormXRefIdeal.nD Cert.NormXRefIdeal.τ).loc Cert.NormXRefIdeal.main_arg4) = m ((c.tc : Thread Cert.NormXRefIdeal.nD Cert.NormXRefIdeal.τ).loc Cert.NormXRefIdeal.main_arg4))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1)
      ∧ r.2.mem ((c.tc : Thread Cert.GatesFwd.nD Cert.GatesFwd.τ).loc Cert.GatesFwd.main_arg2) = m ((c.tc : Thread Cert.GatesFwd.nD Cert.GatesFwd.τ).loc Cert.GatesFwd.main_arg2)
      ∧ r.2.mem ((c.tc : Thread Cert.GatesFwd.nD Cert.GatesFwd.τ).loc Cert.GatesFwd.main_arg3) = m ((c.tc : Thread Cert.GatesFwd.nD Cert.GatesFwd.τ).loc Cert.GatesFwd.main_arg3)
      ∧ r.2.mem ((c.tc : Thread Cert.GatesFwd.nD Cert.GatesFwd.τ).loc Cert.GatesFwd.main_arg4) = m ((c.tc : Thread Cert.GatesFwd.nD Cert.GatesFwd.τ).loc Cert.GatesFwd.main_arg4)
      ∧ r.2.mem ((c.tc : Thread Cert.GatesFwd.nD Cert.GatesFwd.τ).loc Cert.GatesFwd.main_arg5) = m ((c.tc : Thread Cert.GatesFwd.nD Cert.GatesFwd.τ).loc Cert.GatesFwd.main_arg5))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2)
      ∧ r.2.mem ((c.tc : Thread Cert.GatesFwdIdeal.nD Cert.GatesFwdIdeal.τ).loc Cert.GatesFwdIdeal.main_arg3) = m ((c.tc : Thread Cert.GatesFwdIdeal.nD Cert.GatesFwdIdeal.τ).loc Cert.GatesFwdIdeal.main_arg3)
      ∧ r.2.mem ((c.tc : Thread Cert.GatesFwdIdeal.nD Cert.GatesFwdIdeal.τ).loc Cert.GatesFwdIdeal.main_arg4) = m ((c.tc : Thread Cert.GatesFwdIdeal.nD Cert.GatesFwdIdeal.τ).loc Cert.GatesFwdIdeal.main_arg4)
      ∧ r.2.mem ((c.tc : Thread Cert.GatesFwdIdeal.nD Cert.GatesFwdIdeal.τ).loc Cert.GatesFwdIdeal.main_arg5) = m ((c.tc : Thread Cert.GatesFwdIdeal.nD Cert.GatesFwdIdeal.τ).loc Cert.GatesFwdIdeal.main_arg5))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2)
      ∧ r.2.mem ((c.tc : Thread Cert.GatesFwdRefIdeal.nD Cert.GatesFwdRefIdeal.τ).loc Cert.GatesFwdRefIdeal.main_arg3) = m ((c.tc : Thread Cert.GatesFwdRefIdeal.nD Cert.GatesFwdRefIdeal.τ).loc Cert.GatesFwdRefIdeal.main_arg3)
      ∧ r.2.mem ((c.tc : Thread Cert.GatesFwdRefIdeal.nD Cert.GatesFwdRefIdeal.τ).loc Cert.GatesFwdRefIdeal.main_arg4) = m ((c.tc : Thread Cert.GatesFwdRefIdeal.nD Cert.GatesFwdRefIdeal.τ).loc Cert.GatesFwdRefIdeal.main_arg4)
      ∧ r.2.mem ((c.tc : Thread Cert.GatesFwdRefIdeal.nD Cert.GatesFwdRefIdeal.τ).loc Cert.GatesFwdRefIdeal.main_arg5) = m ((c.tc : Thread Cert.GatesFwdRefIdeal.nD Cert.GatesFwdRefIdeal.τ).loc Cert.GatesFwdRefIdeal.main_arg5))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3)
      ∧ r.2.mem ((c.tc : Thread Cert.ResNorm.nD Cert.ResNorm.τ).loc Cert.ResNorm.main_arg4) = m ((c.tc : Thread Cert.ResNorm.nD Cert.ResNorm.τ).loc Cert.ResNorm.main_arg4)
      ∧ r.2.mem ((c.tc : Thread Cert.ResNorm.nD Cert.ResNorm.τ).loc Cert.ResNorm.main_arg5) = m ((c.tc : Thread Cert.ResNorm.nD Cert.ResNorm.τ).loc Cert.ResNorm.main_arg5))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3)
      ∧ r.2.mem ((c.tc : Thread Cert.ResNormIdeal.nD Cert.ResNormIdeal.τ).loc Cert.ResNormIdeal.main_arg4) = m ((c.tc : Thread Cert.ResNormIdeal.nD Cert.ResNormIdeal.τ).loc Cert.ResNormIdeal.main_arg4)
      ∧ r.2.mem ((c.tc : Thread Cert.ResNormIdeal.nD Cert.ResNormIdeal.τ).loc Cert.ResNormIdeal.main_arg5) = m ((c.tc : Thread Cert.ResNormIdeal.nD Cert.ResNormIdeal.τ).loc Cert.ResNormIdeal.main_arg5))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3)
      ∧ r.2.mem ((c.tc : Thread Cert.ResNormRefIdeal.nD Cert.ResNormRefIdeal.τ).loc Cert.ResNormRefIdeal.main_arg4) = m ((c.tc : Thread Cert.ResNormRefIdeal.nD Cert.ResNormRefIdeal.τ).loc Cert.ResNormRefIdeal.main_arg4)
      ∧ r.2.mem ((c.tc : Thread Cert.ResNormRefIdeal.nD Cert.ResNormRefIdeal.τ).loc Cert.ResNormRefIdeal.main_arg5) = m ((c.tc : Thread Cert.ResNormRefIdeal.nD Cert.ResNormRefIdeal.τ).loc Cert.ResNormRefIdeal.main_arg5))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_MixProjA [hMixProjA : Cert.MixProjA.Facts] : Prop :=
  ∀ (m : (ℓ : Loc Cert.MixProjA.nD Cert.MixProjA.τ Cert.MixProjA.sig) → Buf (Elt Bits) ℓ) (g : Dev Cert.MixProjA.nD → PrngReg), Pre_MixProjA m →
    θ_run (Cert.MixProjA.defs (F := Bits)) (onTc (τ := Cert.MixProjA.τ) (Cert.MixProjA.main (F := Bits))) ⟨m, fun _ => 0, g⟩ (fun r => (∀ c : Dev Cert.MixProjA.nD,
      r.2.mem ((c.tc : Thread Cert.MixProjA.nD Cert.MixProjA.τ).loc Cert.MixProjA.main_arg0) = m ((c.tc : Thread Cert.MixProjA.nD Cert.MixProjA.τ).loc Cert.MixProjA.main_arg0)
      ∧ r.2.mem ((c.tc : Thread Cert.MixProjA.nD Cert.MixProjA.τ).loc Cert.MixProjA.main_arg1) = m ((c.tc : Thread Cert.MixProjA.nD Cert.MixProjA.τ).loc Cert.MixProjA.main_arg1))
      ∧ r.2.sem = fun _ => 0)

def quiescent_MixProjAIdeal [hMixProjAIdeal : Cert.MixProjAIdeal.Facts] : Prop :=
  ∀ (m : (ℓ : Loc Cert.MixProjAIdeal.nD Cert.MixProjAIdeal.τ Cert.MixProjAIdeal.sig) → Buf (Elt Ideal) ℓ) (g : Dev Cert.MixProjAIdeal.nD → PrngReg), Pre_MixProjAIdeal m →
    θ_run (Cert.MixProjAIdeal.defs (F := Ideal)) (onTc (τ := Cert.MixProjAIdeal.τ) (Cert.MixProjAIdeal.main (F := Ideal))) ⟨m, fun _ => 0, g⟩ (fun r => (∀ c : Dev Cert.MixProjAIdeal.nD,
      r.2.mem ((c.tc : Thread Cert.MixProjAIdeal.nD Cert.MixProjAIdeal.τ).loc Cert.MixProjAIdeal.main_arg0) = m ((c.tc : Thread Cert.MixProjAIdeal.nD Cert.MixProjAIdeal.τ).loc Cert.MixProjAIdeal.main_arg0)
      ∧ r.2.mem ((c.tc : Thread Cert.MixProjAIdeal.nD Cert.MixProjAIdeal.τ).loc Cert.MixProjAIdeal.main_arg1) = m ((c.tc : Thread Cert.MixProjAIdeal.nD Cert.MixProjAIdeal.τ).loc Cert.MixProjAIdeal.main_arg1))
      ∧ r.2.sem = fun _ => 0)

def quiescent_MixProjARefIdeal [hMixProjARefIdeal : Cert.MixProjARefIdeal.Facts] : Prop :=
  ∀ (m : (ℓ : Loc Cert.MixProjARefIdeal.nD Cert.MixProjARefIdeal.τ Cert.MixProjARefIdeal.sig) → Buf (Elt Ideal) ℓ) (g : Dev Cert.MixProjARefIdeal.nD → PrngReg), Pre_MixProjARefIdeal m →
    θ_run (Cert.MixProjARefIdeal.defs (F := Ideal)) (onTc (τ := Cert.MixProjARefIdeal.τ) (Cert.MixProjARefIdeal.main (F := Ideal))) ⟨m, fun _ => 0, g⟩ (fun r => (∀ c : Dev Cert.MixProjARefIdeal.nD,
      r.2.mem ((c.tc : Thread Cert.MixProjARefIdeal.nD Cert.MixProjARefIdeal.τ).loc Cert.MixProjARefIdeal.main_arg0) = m ((c.tc : Thread Cert.MixProjARefIdeal.nD Cert.MixProjARefIdeal.τ).loc Cert.MixProjARefIdeal.main_arg0)
      ∧ r.2.mem ((c.tc : Thread Cert.MixProjARefIdeal.nD Cert.MixProjARefIdeal.τ).loc Cert.MixProjARefIdeal.main_arg1) = m ((c.tc : Thread Cert.MixProjARefIdeal.nD Cert.MixProjARefIdeal.τ).loc Cert.MixProjARefIdeal.main_arg1))
      ∧ r.2.sem = fun _ => 0)

def quiescent_MixProjB [hMixProjB : Cert.MixProjB.Facts] : Prop :=
  ∀ (m : (ℓ : Loc Cert.MixProjB.nD Cert.MixProjB.τ Cert.MixProjB.sig) → Buf (Elt Bits) ℓ) (g : Dev Cert.MixProjB.nD → PrngReg), Pre_MixProjB m →
    θ_run (Cert.MixProjB.defs (F := Bits)) (onTc (τ := Cert.MixProjB.τ) (Cert.MixProjB.main (F := Bits))) ⟨m, fun _ => 0, g⟩ (fun r => (∀ c : Dev Cert.MixProjB.nD,
      r.2.mem ((c.tc : Thread Cert.MixProjB.nD Cert.MixProjB.τ).loc Cert.MixProjB.main_arg0) = m ((c.tc : Thread Cert.MixProjB.nD Cert.MixProjB.τ).loc Cert.MixProjB.main_arg0)
      ∧ r.2.mem ((c.tc : Thread Cert.MixProjB.nD Cert.MixProjB.τ).loc Cert.MixProjB.main_arg1) = m ((c.tc : Thread Cert.MixProjB.nD Cert.MixProjB.τ).loc Cert.MixProjB.main_arg1))
      ∧ r.2.sem = fun _ => 0)

def quiescent_MixProjBIdeal [hMixProjBIdeal : Cert.MixProjBIdeal.Facts] : Prop :=
  ∀ (m : (ℓ : Loc Cert.MixProjBIdeal.nD Cert.MixProjBIdeal.τ Cert.MixProjBIdeal.sig) → Buf (Elt Ideal) ℓ) (g : Dev Cert.MixProjBIdeal.nD → PrngReg), Pre_MixProjBIdeal m →
    θ_run (Cert.MixProjBIdeal.defs (F := Ideal)) (onTc (τ := Cert.MixProjBIdeal.τ) (Cert.MixProjBIdeal.main (F := Ideal))) ⟨m, fun _ => 0, g⟩ (fun r => (∀ c : Dev Cert.MixProjBIdeal.nD,
      r.2.mem ((c.tc : Thread Cert.MixProjBIdeal.nD Cert.MixProjBIdeal.τ).loc Cert.MixProjBIdeal.main_arg0) = m ((c.tc : Thread Cert.MixProjBIdeal.nD Cert.MixProjBIdeal.τ).loc Cert.MixProjBIdeal.main_arg0)
      ∧ r.2.mem ((c.tc : Thread Cert.MixProjBIdeal.nD Cert.MixProjBIdeal.τ).loc Cert.MixProjBIdeal.main_arg1) = m ((c.tc : Thread Cert.MixProjBIdeal.nD Cert.MixProjBIdeal.τ).loc Cert.MixProjBIdeal.main_arg1))
      ∧ r.2.sem = fun _ => 0)

def quiescent_MixProjBRefIdeal [hMixProjBRefIdeal : Cert.MixProjBRefIdeal.Facts] : Prop :=
  ∀ (m : (ℓ : Loc Cert.MixProjBRefIdeal.nD Cert.MixProjBRefIdeal.τ Cert.MixProjBRefIdeal.sig) → Buf (Elt Ideal) ℓ) (g : Dev Cert.MixProjBRefIdeal.nD → PrngReg), Pre_MixProjBRefIdeal m →
    θ_run (Cert.MixProjBRefIdeal.defs (F := Ideal)) (onTc (τ := Cert.MixProjBRefIdeal.τ) (Cert.MixProjBRefIdeal.main (F := Ideal))) ⟨m, fun _ => 0, g⟩ (fun r => (∀ c : Dev Cert.MixProjBRefIdeal.nD,
      r.2.mem ((c.tc : Thread Cert.MixProjBRefIdeal.nD Cert.MixProjBRefIdeal.τ).loc Cert.MixProjBRefIdeal.main_arg0) = m ((c.tc : Thread Cert.MixProjBRefIdeal.nD Cert.MixProjBRefIdeal.τ).loc Cert.MixProjBRefIdeal.main_arg0)
      ∧ r.2.mem ((c.tc : Thread Cert.MixProjBRefIdeal.nD Cert.MixProjBRefIdeal.τ).loc Cert.MixProjBRefIdeal.main_arg1) = m ((c.tc : Thread Cert.MixProjBRefIdeal.nD Cert.MixProjBRefIdeal.τ).loc Cert.MixProjBRefIdeal.main_arg1))
      ∧ r.2.sem = fun _ => 0)

def quiescent_SwigluA [hSwigluA : Cert.SwigluA.Facts] : Prop :=
  ∀ (m : (ℓ : Loc Cert.SwigluA.nD Cert.SwigluA.τ Cert.SwigluA.sig) → Buf (Elt Bits) ℓ) (g : Dev Cert.SwigluA.nD → PrngReg), Pre_SwigluA m →
    θ_run (Cert.SwigluA.defs (F := Bits)) (onTc (τ := Cert.SwigluA.τ) (Cert.SwigluA.main (F := Bits))) ⟨m, fun _ => 0, g⟩ (fun r => (∀ c : Dev Cert.SwigluA.nD,
      r.2.mem ((c.tc : Thread Cert.SwigluA.nD Cert.SwigluA.τ).loc Cert.SwigluA.main_arg0) = m ((c.tc : Thread Cert.SwigluA.nD Cert.SwigluA.τ).loc Cert.SwigluA.main_arg0)
      ∧ r.2.mem ((c.tc : Thread Cert.SwigluA.nD Cert.SwigluA.τ).loc Cert.SwigluA.main_arg1) = m ((c.tc : Thread Cert.SwigluA.nD Cert.SwigluA.τ).loc Cert.SwigluA.main_arg1))
      ∧ r.2.sem = fun _ => 0)

def quiescent_SwigluAIdeal [hSwigluAIdeal : Cert.SwigluAIdeal.Facts] : Prop :=
  ∀ (m : (ℓ : Loc Cert.SwigluAIdeal.nD Cert.SwigluAIdeal.τ Cert.SwigluAIdeal.sig) → Buf (Elt Ideal) ℓ) (g : Dev Cert.SwigluAIdeal.nD → PrngReg), Pre_SwigluAIdeal m →
    θ_run (Cert.SwigluAIdeal.defs (F := Ideal)) (onTc (τ := Cert.SwigluAIdeal.τ) (Cert.SwigluAIdeal.main (F := Ideal))) ⟨m, fun _ => 0, g⟩ (fun r => (∀ c : Dev Cert.SwigluAIdeal.nD,
      r.2.mem ((c.tc : Thread Cert.SwigluAIdeal.nD Cert.SwigluAIdeal.τ).loc Cert.SwigluAIdeal.main_arg0) = m ((c.tc : Thread Cert.SwigluAIdeal.nD Cert.SwigluAIdeal.τ).loc Cert.SwigluAIdeal.main_arg0)
      ∧ r.2.mem ((c.tc : Thread Cert.SwigluAIdeal.nD Cert.SwigluAIdeal.τ).loc Cert.SwigluAIdeal.main_arg1) = m ((c.tc : Thread Cert.SwigluAIdeal.nD Cert.SwigluAIdeal.τ).loc Cert.SwigluAIdeal.main_arg1))
      ∧ r.2.sem = fun _ => 0)

def quiescent_SwigluAIdeal_pre_swiglu_finite [hSwigluAIdeal : Cert.SwigluAIdeal.Facts] [hPre_swiglu_finite : Cert.Pre_swiglu_finite.Facts] : Prop :=
  ∀ (m : (ℓ : Loc Cert.SwigluAIdeal.nD Cert.SwigluAIdeal.τ Cert.SwigluAIdeal.sig) → Buf (Elt Ideal) ℓ) (g : Dev Cert.SwigluAIdeal.nD → PrngReg), Pre_SwigluAIdeal_swiglu_finite m →
    θ_run (Cert.SwigluAIdeal.defs (F := Ideal)) (onTc (τ := Cert.SwigluAIdeal.τ) (Cert.SwigluAIdeal.main (F := Ideal))) ⟨m, fun _ => 0, g⟩ (fun r => (∀ c : Dev Cert.SwigluAIdeal.nD,
      r.2.mem ((c.tc : Thread Cert.SwigluAIdeal.nD Cert.SwigluAIdeal.τ).loc Cert.SwigluAIdeal.main_arg0) = m ((c.tc : Thread Cert.SwigluAIdeal.nD Cert.SwigluAIdeal.τ).loc Cert.SwigluAIdeal.main_arg0)
      ∧ r.2.mem ((c.tc : Thread Cert.SwigluAIdeal.nD Cert.SwigluAIdeal.τ).loc Cert.SwigluAIdeal.main_arg1) = m ((c.tc : Thread Cert.SwigluAIdeal.nD Cert.SwigluAIdeal.τ).loc Cert.SwigluAIdeal.main_arg1))
      ∧ r.2.sem = fun _ => 0)

def quiescent_SwigluARefIdeal [hSwigluARefIdeal : Cert.SwigluARefIdeal.Facts] : Prop :=
  ∀ (m : (ℓ : Loc Cert.SwigluARefIdeal.nD Cert.SwigluARefIdeal.τ Cert.SwigluARefIdeal.sig) → Buf (Elt Ideal) ℓ) (g : Dev Cert.SwigluARefIdeal.nD → PrngReg), Pre_SwigluARefIdeal m →
    θ_run (Cert.SwigluARefIdeal.defs (F := Ideal)) (onTc (τ := Cert.SwigluARefIdeal.τ) (Cert.SwigluARefIdeal.main (F := Ideal))) ⟨m, fun _ => 0, g⟩ (fun r => (∀ c : Dev Cert.SwigluARefIdeal.nD,
      r.2.mem ((c.tc : Thread Cert.SwigluARefIdeal.nD Cert.SwigluARefIdeal.τ).loc Cert.SwigluARefIdeal.main_arg0) = m ((c.tc : Thread Cert.SwigluARefIdeal.nD Cert.SwigluARefIdeal.τ).loc Cert.SwigluARefIdeal.main_arg0)
      ∧ r.2.mem ((c.tc : Thread Cert.SwigluARefIdeal.nD Cert.SwigluARefIdeal.τ).loc Cert.SwigluARefIdeal.main_arg1) = m ((c.tc : Thread Cert.SwigluARefIdeal.nD Cert.SwigluARefIdeal.τ).loc Cert.SwigluARefIdeal.main_arg1))
      ∧ r.2.sem = fun _ => 0)

def quiescent_SwigluARefIdeal_pre_swiglu_finite [hSwigluARefIdeal : Cert.SwigluARefIdeal.Facts] [hPre_swiglu_finite : Cert.Pre_swiglu_finite.Facts] : Prop :=
  ∀ (m : (ℓ : Loc Cert.SwigluARefIdeal.nD Cert.SwigluARefIdeal.τ Cert.SwigluARefIdeal.sig) → Buf (Elt Ideal) ℓ) (g : Dev Cert.SwigluARefIdeal.nD → PrngReg), Pre_SwigluARefIdeal_swiglu_finite m →
    θ_run (Cert.SwigluARefIdeal.defs (F := Ideal)) (onTc (τ := Cert.SwigluARefIdeal.τ) (Cert.SwigluARefIdeal.main (F := Ideal))) ⟨m, fun _ => 0, g⟩ (fun r => (∀ c : Dev Cert.SwigluARefIdeal.nD,
      r.2.mem ((c.tc : Thread Cert.SwigluARefIdeal.nD Cert.SwigluARefIdeal.τ).loc Cert.SwigluARefIdeal.main_arg0) = m ((c.tc : Thread Cert.SwigluARefIdeal.nD Cert.SwigluARefIdeal.τ).loc Cert.SwigluARefIdeal.main_arg0)
      ∧ r.2.mem ((c.tc : Thread Cert.SwigluARefIdeal.nD Cert.SwigluARefIdeal.τ).loc Cert.SwigluARefIdeal.main_arg1) = m ((c.tc : Thread Cert.SwigluARefIdeal.nD Cert.SwigluARefIdeal.τ).loc Cert.SwigluARefIdeal.main_arg1))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBIdeal_pre_swiglu_finite [hSwigluBIdeal : Cert.SwigluBIdeal.Facts] [hPre_swiglu_finite : Cert.Pre_swiglu_finite.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_swiglu_finite m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBRefIdeal [hSwigluBRefIdeal : Cert.SwigluBRefIdeal.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_SwigluBRefIdeal_pre_swiglu_finite [hSwigluBRefIdeal : Cert.SwigluBRefIdeal.Facts] [hPre_swiglu_finite : Cert.Pre_swiglu_finite.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal_swiglu_finite m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_dmixed_finite [hKernelIdeal : Cert.KernelIdeal.Facts] [hReferenceIdeal : Cert.ReferenceIdeal.Facts] [hPre_dmixed_finite : Cert.Pre_dmixed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dmixed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v513) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dhu_DhuIdeal : Prop :=
  True

def algebraic_DhuIdeal_DhuRefIdeal_pre_dhu_finite [hDhuIdeal : Cert.DhuIdeal.Facts] [hDhuRefIdeal : Cert.DhuRefIdeal.Facts] [hPre_dhu_finite : Cert.Pre_dhu_finite.Facts] : Prop :=
  ∀ (m : (ℓ : Loc Cert.DhuIdeal.nD Cert.DhuIdeal.τ Cert.DhuIdeal.sig) → Buf (Elt Ideal) ℓ) (g : Dev Cert.DhuIdeal.nD → PrngReg)
    (m' : (ℓ : Loc Cert.DhuRefIdeal.nD Cert.DhuRefIdeal.τ Cert.DhuRefIdeal.sig) → Buf (Elt Ideal) ℓ) (g' : Dev Cert.DhuRefIdeal.nD → PrngReg), Pre_DhuIdeal_dhu_finite m →
    (∀ c : Dev Cert.DhuIdeal.nD,
      m' ((c.tc : Thread Cert.DhuRefIdeal.nD Cert.DhuRefIdeal.τ).loc Cert.DhuRefIdeal.main_arg0) = m ((c.tc : Thread Cert.DhuIdeal.nD Cert.DhuIdeal.τ).loc Cert.DhuIdeal.main_arg0)
      ∧ m' ((c.tc : Thread Cert.DhuRefIdeal.nD Cert.DhuRefIdeal.τ).loc Cert.DhuRefIdeal.main_arg1) = m ((c.tc : Thread Cert.DhuIdeal.nD Cert.DhuIdeal.τ).loc Cert.DhuIdeal.main_arg1)
      ∧ m' ((c.tc : Thread Cert.DhuRefIdeal.nD Cert.DhuRefIdeal.τ).loc Cert.DhuRefIdeal.main_arg2) = m ((c.tc : Thread Cert.DhuIdeal.nD Cert.DhuIdeal.τ).loc Cert.DhuIdeal.main_arg2)
      ∧ m' ((c.tc : Thread Cert.DhuRefIdeal.nD Cert.DhuRefIdeal.τ).loc Cert.DhuRefIdeal.main_arg3) = m ((c.tc : Thread Cert.DhuIdeal.nD Cert.DhuIdeal.τ).loc Cert.DhuIdeal.main_arg3)) →
    ∃ (v0 : (c : Dev Cert.DhuIdeal.nD) → Buf (Elt Ideal) ((c.tc : Thread Cert.DhuIdeal.nD Cert.DhuIdeal.τ).loc Cert.DhuIdeal.main_v16)),
      θ_run (Cert.DhuIdeal.defs (F := Ideal)) (onTc (τ := Cert.DhuIdeal.τ) (Cert.DhuIdeal.main (F := Ideal))) ⟨m, fun _ => 0, g⟩ (fun r => ∀ c : Dev Cert.DhuIdeal.nD,
          r.2.mem ((c.tc : Thread Cert.DhuIdeal.nD Cert.DhuIdeal.τ).loc Cert.DhuIdeal.main_v16) = v0 c
          ∧ r.2.mem ((c.tc : Thread Cert.DhuIdeal.nD Cert.DhuIdeal.τ).loc Cert.DhuIdeal.main_arg0) = m ((c.tc : Thread Cert.DhuIdeal.nD Cert.DhuIdeal.τ).loc Cert.DhuIdeal.main_arg0)
          ∧ r.2.mem ((c.tc : Thread Cert.DhuIdeal.nD Cert.DhuIdeal.τ).loc Cert.DhuIdeal.main_arg1) = m ((c.tc : Thread Cert.DhuIdeal.nD Cert.DhuIdeal.τ).loc Cert.DhuIdeal.main_arg1)
          ∧ r.2.mem ((c.tc : Thread Cert.DhuIdeal.nD Cert.DhuIdeal.τ).loc Cert.DhuIdeal.main_arg2) = m ((c.tc : Thread Cert.DhuIdeal.nD Cert.DhuIdeal.τ).loc Cert.DhuIdeal.main_arg2)
          ∧ r.2.mem ((c.tc : Thread Cert.DhuIdeal.nD Cert.DhuIdeal.τ).loc Cert.DhuIdeal.main_arg3) = m ((c.tc : Thread Cert.DhuIdeal.nD Cert.DhuIdeal.τ).loc Cert.DhuIdeal.main_arg3))
      ∧ θ_run (Cert.DhuRefIdeal.defs (F := Ideal)) (onTc (τ := Cert.DhuRefIdeal.τ) (Cert.DhuRefIdeal.main (F := Ideal))) ⟨m', fun _ => 0, g'⟩ (fun r => ∀ c : Dev Cert.DhuRefIdeal.nD,
          r.2.mem ((c.tc : Thread Cert.DhuRefIdeal.nD Cert.DhuRefIdeal.τ).loc Cert.DhuRefIdeal.main_v12) = v0 c
          ∧ r.2.mem ((c.tc : Thread Cert.DhuRefIdeal.nD Cert.DhuRefIdeal.τ).loc Cert.DhuRefIdeal.main_arg0) = m' ((c.tc : Thread Cert.DhuRefIdeal.nD Cert.DhuRefIdeal.τ).loc Cert.DhuRefIdeal.main_arg0)
          ∧ r.2.mem ((c.tc : Thread Cert.DhuRefIdeal.nD Cert.DhuRefIdeal.τ).loc Cert.DhuRefIdeal.main_arg1) = m' ((c.tc : Thread Cert.DhuRefIdeal.nD Cert.DhuRefIdeal.τ).loc Cert.DhuRefIdeal.main_arg1)
          ∧ r.2.mem ((c.tc : Thread Cert.DhuRefIdeal.nD Cert.DhuRefIdeal.τ).loc Cert.DhuRefIdeal.main_arg2) = m' ((c.tc : Thread Cert.DhuRefIdeal.nD Cert.DhuRefIdeal.τ).loc Cert.DhuRefIdeal.main_arg2)
          ∧ r.2.mem ((c.tc : Thread Cert.DhuRefIdeal.nD Cert.DhuRefIdeal.τ).loc Cert.DhuRefIdeal.main_arg3) = m' ((c.tc : Thread Cert.DhuRefIdeal.nD Cert.DhuRefIdeal.τ).loc Cert.DhuRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v15) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)) →
    ∃ (v0 : (c : Dev Cert.DnIdeal.nD) → Buf (Elt Ideal) ((c.tc : Thread Cert.DnIdeal.nD Cert.DnIdeal.τ).loc Cert.DnIdeal.main_v0)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v0) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v22) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)) (v2 : (c : Dev Cert.GatesIdeal.nD) → Buf (Elt Ideal) ((c.tc : Thread Cert.GatesIdeal.nD Cert.GatesIdeal.τ).loc Cert.GatesIdeal.main_v0_2)) (v3 : (c : Dev Cert.GatesIdeal.nD) → Buf (Elt Ideal) ((c.tc : Thread Cert.GatesIdeal.nD Cert.GatesIdeal.τ).loc Cert.GatesIdeal.main_v0_3)) (v4 : (c : Dev Cert.GatesIdeal.nD) → Buf (Elt Ideal) ((c.tc : Thread Cert.GatesIdeal.nD Cert.GatesIdeal.τ).loc Cert.GatesIdeal.main_v0_4)) (v5 : (c : Dev Cert.GatesIdeal.nD) → Buf (Elt Ideal) ((c.tc : Thread Cert.GatesIdeal.nD Cert.GatesIdeal.τ).loc Cert.GatesIdeal.main_v0_5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_v0_2) = v2 c
          ∧ r.2.mem ((c.tc : Thread Cert.GatesIdeal.nD Cert.GatesIdeal.τ).loc Cert.GatesIdeal.main_v0_3) = v3 c
          ∧ r.2.mem ((c.tc : Thread Cert.GatesIdeal.nD Cert.GatesIdeal.τ).loc Cert.GatesIdeal.main_v0_4) = v4 c
          ∧ r.2.mem ((c.tc : Thread Cert.GatesIdeal.nD Cert.GatesIdeal.τ).loc Cert.GatesIdeal.main_v0_5) = v5 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v49) = v0 c
          ∧ r.2.mem ((c.tc : Thread Cert.GatesRefIdeal.nD Cert.GatesRefIdeal.τ).loc Cert.GatesRefIdeal.main_v50) = v1 c
          ∧ r.2.mem ((c.tc : Thread Cert.GatesRefIdeal.nD Cert.GatesRefIdeal.τ).loc Cert.GatesRefIdeal.main_v51) = v2 c
          ∧ r.2.mem ((c.tc : Thread Cert.GatesRefIdeal.nD Cert.GatesRefIdeal.τ).loc Cert.GatesRefIdeal.main_v46) = v3 c
          ∧ r.2.mem ((c.tc : Thread Cert.GatesRefIdeal.nD Cert.GatesRefIdeal.τ).loc Cert.GatesRefIdeal.main_v38) = v4 c
          ∧ r.2.mem ((c.tc : Thread Cert.GatesRefIdeal.nD Cert.GatesRefIdeal.τ).loc Cert.GatesRefIdeal.main_v42) = v5 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)) (v4 : (c : Dev Cert.NormIdeal.nD) → Buf (Elt Ideal) ((c.tc : Thread Cert.NormIdeal.nD Cert.NormIdeal.τ).loc Cert.NormIdeal.main_v0_4)) (v5 : (c : Dev Cert.NormIdeal.nD) → Buf (Elt Ideal) ((c.tc : Thread Cert.NormIdeal.nD Cert.NormIdeal.τ).loc Cert.NormIdeal.main_v0_5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_v0_4) = v4 c
          ∧ r.2.mem ((c.tc : Thread Cert.NormIdeal.nD Cert.NormIdeal.τ).loc Cert.NormIdeal.main_v0_5) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v49) = v0 c
          ∧ r.2.mem ((c.tc : Thread Cert.NormRefIdeal.nD Cert.NormRefIdeal.τ).loc Cert.NormRefIdeal.main_v61) = v1 c
          ∧ r.2.mem ((c.tc : Thread Cert.NormRefIdeal.nD Cert.NormRefIdeal.τ).loc Cert.NormRefIdeal.main_v24) = v2 c
          ∧ r.2.mem ((c.tc : Thread Cert.NormRefIdeal.nD Cert.NormRefIdeal.τ).loc Cert.NormRefIdeal.main_v27) = v3 c
          ∧ r.2.mem ((c.tc : Thread Cert.NormRefIdeal.nD Cert.NormRefIdeal.τ).loc Cert.NormRefIdeal.main_v32) = v4 c
          ∧ r.2.mem ((c.tc : Thread Cert.NormRefIdeal.nD Cert.NormRefIdeal.τ).loc Cert.NormRefIdeal.main_v60) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_MixDwOut_MixDwOutIdeal : Prop :=
  True

def algebraic_MixDwOutIdeal_MixDwOutRefIdeal [hMixDwOutIdeal : Cert.MixDwOutIdeal.Facts] [hMixDwOutRefIdeal : Cert.MixDwOutRefIdeal.Facts] : Prop :=
  ∀ (m : (ℓ : Loc Cert.MixDwOutIdeal.nD Cert.MixDwOutIdeal.τ Cert.MixDwOutIdeal.sig) → Buf (Elt Ideal) ℓ) (g : Dev Cert.MixDwOutIdeal.nD → PrngReg)
    (m' : (ℓ : Loc Cert.MixDwOutRefIdeal.nD Cert.MixDwOutRefIdeal.τ Cert.MixDwOutRefIdeal.sig) → Buf (Elt Ideal) ℓ) (g' : Dev Cert.MixDwOutRefIdeal.nD → PrngReg), Pre_MixDwOutIdeal m →
    (∀ c : Dev Cert.MixDwOutIdeal.nD,
      m' ((c.tc : Thread Cert.MixDwOutRefIdeal.nD Cert.MixDwOutRefIdeal.τ).loc Cert.MixDwOutRefIdeal.main_arg0) = m ((c.tc : Thread Cert.MixDwOutIdeal.nD Cert.MixDwOutIdeal.τ).loc Cert.MixDwOutIdeal.main_arg0)
      ∧ m' ((c.tc : Thread Cert.MixDwOutRefIdeal.nD Cert.MixDwOutRefIdeal.τ).loc Cert.MixDwOutRefIdeal.main_arg1) = m ((c.tc : Thread Cert.MixDwOutIdeal.nD Cert.MixDwOutIdeal.τ).loc Cert.MixDwOutIdeal.main_arg1)) →
    ∃ (v0 : (c : Dev Cert.MixDwOutIdeal.nD) → Buf (Elt Ideal) ((c.tc : Thread Cert.MixDwOutIdeal.nD Cert.MixDwOutIdeal.τ).loc Cert.MixDwOutIdeal.main_v0)),
      θ_run (Cert.MixDwOutIdeal.defs (F := Ideal)) (onTc (τ := Cert.MixDwOutIdeal.τ) (Cert.MixDwOutIdeal.main (F := Ideal))) ⟨m, fun _ => 0, g⟩ (fun r => ∀ c : Dev Cert.MixDwOutIdeal.nD,
          r.2.mem ((c.tc : Thread Cert.MixDwOutIdeal.nD Cert.MixDwOutIdeal.τ).loc Cert.MixDwOutIdeal.main_v0) = v0 c
          ∧ r.2.mem ((c.tc : Thread Cert.MixDwOutIdeal.nD Cert.MixDwOutIdeal.τ).loc Cert.MixDwOutIdeal.main_arg0) = m ((c.tc : Thread Cert.MixDwOutIdeal.nD Cert.MixDwOutIdeal.τ).loc Cert.MixDwOutIdeal.main_arg0)
          ∧ r.2.mem ((c.tc : Thread Cert.MixDwOutIdeal.nD Cert.MixDwOutIdeal.τ).loc Cert.MixDwOutIdeal.main_arg1) = m ((c.tc : Thread Cert.MixDwOutIdeal.nD Cert.MixDwOutIdeal.τ).loc Cert.MixDwOutIdeal.main_arg1))
      ∧ θ_run (Cert.MixDwOutRefIdeal.defs (F := Ideal)) (onTc (τ := Cert.MixDwOutRefIdeal.τ) (Cert.MixDwOutRefIdeal.main (F := Ideal))) ⟨m', fun _ => 0, g'⟩ (fun r => ∀ c : Dev Cert.MixDwOutRefIdeal.nD,
          r.2.mem ((c.tc : Thread Cert.MixDwOutRefIdeal.nD Cert.MixDwOutRefIdeal.τ).loc Cert.MixDwOutRefIdeal.main_v7) = v0 c
          ∧ r.2.mem ((c.tc : Thread Cert.MixDwOutRefIdeal.nD Cert.MixDwOutRefIdeal.τ).loc Cert.MixDwOutRefIdeal.main_arg0) = m' ((c.tc : Thread Cert.MixDwOutRefIdeal.nD Cert.MixDwOutRefIdeal.τ).loc Cert.MixDwOutRefIdeal.main_arg0)
          ∧ r.2.mem ((c.tc : Thread Cert.MixDwOutRefIdeal.nD Cert.MixDwOutRefIdeal.τ).loc Cert.MixDwOutRefIdeal.main_arg1) = m' ((c.tc : Thread Cert.MixDwOutRefIdeal.nD Cert.MixDwOutRefIdeal.τ).loc Cert.MixDwOutRefIdeal.main_arg1))

def preserves_MixDz_MixDzIdeal : Prop :=
  True

def algebraic_MixDzIdeal_MixDzRefIdeal [hMixDzIdeal : Cert.MixDzIdeal.Facts] [hMixDzRefIdeal : Cert.MixDzRefIdeal.Facts] : Prop :=
  ∀ (m : (ℓ : Loc Cert.MixDzIdeal.nD Cert.MixDzIdeal.τ Cert.MixDzIdeal.sig) → Buf (Elt Ideal) ℓ) (g : Dev Cert.MixDzIdeal.nD → PrngReg)
    (m' : (ℓ : Loc Cert.MixDzRefIdeal.nD Cert.MixDzRefIdeal.τ Cert.MixDzRefIdeal.sig) → Buf (Elt Ideal) ℓ) (g' : Dev Cert.MixDzRefIdeal.nD → PrngReg), Pre_MixDzIdeal m →
    (∀ c : Dev Cert.MixDzIdeal.nD,
      m' ((c.tc : Thread Cert.MixDzRefIdeal.nD Cert.MixDzRefIdeal.τ).loc Cert.MixDzRefIdeal.main_arg0) = m ((c.tc : Thread Cert.MixDzIdeal.nD Cert.MixDzIdeal.τ).loc Cert.MixDzIdeal.main_arg0)
      ∧ m' ((c.tc : Thread Cert.MixDzRefIdeal.nD Cert.MixDzRefIdeal.τ).loc Cert.MixDzRefIdeal.main_arg1) = m ((c.tc : Thread Cert.MixDzIdeal.nD Cert.MixDzIdeal.τ).loc Cert.MixDzIdeal.main_arg1)) →
    ∃ (v0 : (c : Dev Cert.MixDzIdeal.nD) → Buf (Elt Ideal) ((c.tc : Thread Cert.MixDzIdeal.nD Cert.MixDzIdeal.τ).loc Cert.MixDzIdeal.main_v0)),
      θ_run (Cert.MixDzIdeal.defs (F := Ideal)) (onTc (τ := Cert.MixDzIdeal.τ) (Cert.MixDzIdeal.main (F := Ideal))) ⟨m, fun _ => 0, g⟩ (fun r => ∀ c : Dev Cert.MixDzIdeal.nD,
          r.2.mem ((c.tc : Thread Cert.MixDzIdeal.nD Cert.MixDzIdeal.τ).loc Cert.MixDzIdeal.main_v0) = v0 c
          ∧ r.2.mem ((c.tc : Thread Cert.MixDzIdeal.nD Cert.MixDzIdeal.τ).loc Cert.MixDzIdeal.main_arg0) = m ((c.tc : Thread Cert.MixDzIdeal.nD Cert.MixDzIdeal.τ).loc Cert.MixDzIdeal.main_arg0)
          ∧ r.2.mem ((c.tc : Thread Cert.MixDzIdeal.nD Cert.MixDzIdeal.τ).loc Cert.MixDzIdeal.main_arg1) = m ((c.tc : Thread Cert.MixDzIdeal.nD Cert.MixDzIdeal.τ).loc Cert.MixDzIdeal.main_arg1))
      ∧ θ_run (Cert.MixDzRefIdeal.defs (F := Ideal)) (onTc (τ := Cert.MixDzRefIdeal.τ) (Cert.MixDzRefIdeal.main (F := Ideal))) ⟨m', fun _ => 0, g'⟩ (fun r => ∀ c : Dev Cert.MixDzRefIdeal.nD,
          r.2.mem ((c.tc : Thread Cert.MixDzRefIdeal.nD Cert.MixDzRefIdeal.τ).loc Cert.MixDzRefIdeal.main_v5) = v0 c
          ∧ r.2.mem ((c.tc : Thread Cert.MixDzRefIdeal.nD Cert.MixDzRefIdeal.τ).loc Cert.MixDzRefIdeal.main_arg0) = m' ((c.tc : Thread Cert.MixDzRefIdeal.nD Cert.MixDzRefIdeal.τ).loc Cert.MixDzRefIdeal.main_arg0)
          ∧ r.2.mem ((c.tc : Thread Cert.MixDzRefIdeal.nD Cert.MixDzRefIdeal.τ).loc Cert.MixDzRefIdeal.main_arg1) = m' ((c.tc : Thread Cert.MixDzRefIdeal.nD Cert.MixDzRefIdeal.τ).loc Cert.MixDzRefIdeal.main_arg1))

def preserves_MixDwA_MixDwAIdeal : Prop :=
  True

def algebraic_MixDwAIdeal_MixDwARefIdeal [hMixDwAIdeal : Cert.MixDwAIdeal.Facts] [hMixDwARefIdeal : Cert.MixDwARefIdeal.Facts] : Prop :=
  ∀ (m : (ℓ : Loc Cert.MixDwAIdeal.nD Cert.MixDwAIdeal.τ Cert.MixDwAIdeal.sig) → Buf (Elt Ideal) ℓ) (g : Dev Cert.MixDwAIdeal.nD → PrngReg)
    (m' : (ℓ : Loc Cert.MixDwARefIdeal.nD Cert.MixDwARefIdeal.τ Cert.MixDwARefIdeal.sig) → Buf (Elt Ideal) ℓ) (g' : Dev Cert.MixDwARefIdeal.nD → PrngReg), Pre_MixDwAIdeal m →
    (∀ c : Dev Cert.MixDwAIdeal.nD,
      m' ((c.tc : Thread Cert.MixDwARefIdeal.nD Cert.MixDwARefIdeal.τ).loc Cert.MixDwARefIdeal.main_arg0) = m ((c.tc : Thread Cert.MixDwAIdeal.nD Cert.MixDwAIdeal.τ).loc Cert.MixDwAIdeal.main_arg0)
      ∧ m' ((c.tc : Thread Cert.MixDwARefIdeal.nD Cert.MixDwARefIdeal.τ).loc Cert.MixDwARefIdeal.main_arg1) = m ((c.tc : Thread Cert.MixDwAIdeal.nD Cert.MixDwAIdeal.τ).loc Cert.MixDwAIdeal.main_arg1)) →
    ∃ (v0 : (c : Dev Cert.MixDwAIdeal.nD) → Buf (Elt Ideal) ((c.tc : Thread Cert.MixDwAIdeal.nD Cert.MixDwAIdeal.τ).loc Cert.MixDwAIdeal.main_v0)),
      θ_run (Cert.MixDwAIdeal.defs (F := Ideal)) (onTc (τ := Cert.MixDwAIdeal.τ) (Cert.MixDwAIdeal.main (F := Ideal))) ⟨m, fun _ => 0, g⟩ (fun r => ∀ c : Dev Cert.MixDwAIdeal.nD,
          r.2.mem ((c.tc : Thread Cert.MixDwAIdeal.nD Cert.MixDwAIdeal.τ).loc Cert.MixDwAIdeal.main_v0) = v0 c
          ∧ r.2.mem ((c.tc : Thread Cert.MixDwAIdeal.nD Cert.MixDwAIdeal.τ).loc Cert.MixDwAIdeal.main_arg0) = m ((c.tc : Thread Cert.MixDwAIdeal.nD Cert.MixDwAIdeal.τ).loc Cert.MixDwAIdeal.main_arg0)
          ∧ r.2.mem ((c.tc : Thread Cert.MixDwAIdeal.nD Cert.MixDwAIdeal.τ).loc Cert.MixDwAIdeal.main_arg1) = m ((c.tc : Thread Cert.MixDwAIdeal.nD Cert.MixDwAIdeal.τ).loc Cert.MixDwAIdeal.main_arg1))
      ∧ θ_run (Cert.MixDwARefIdeal.defs (F := Ideal)) (onTc (τ := Cert.MixDwARefIdeal.τ) (Cert.MixDwARefIdeal.main (F := Ideal))) ⟨m', fun _ => 0, g'⟩ (fun r => ∀ c : Dev Cert.MixDwARefIdeal.nD,
          r.2.mem ((c.tc : Thread Cert.MixDwARefIdeal.nD Cert.MixDwARefIdeal.τ).loc Cert.MixDwARefIdeal.main_v7) = v0 c
          ∧ r.2.mem ((c.tc : Thread Cert.MixDwARefIdeal.nD Cert.MixDwARefIdeal.τ).loc Cert.MixDwARefIdeal.main_arg0) = m' ((c.tc : Thread Cert.MixDwARefIdeal.nD Cert.MixDwARefIdeal.τ).loc Cert.MixDwARefIdeal.main_arg0)
          ∧ r.2.mem ((c.tc : Thread Cert.MixDwARefIdeal.nD Cert.MixDwARefIdeal.τ).loc Cert.MixDwARefIdeal.main_arg1) = m' ((c.tc : Thread Cert.MixDwARefIdeal.nD Cert.MixDwARefIdeal.τ).loc Cert.MixDwARefIdeal.main_arg1))

def preserves_MixDa_MixDaIdeal : Prop :=
  True

def algebraic_MixDaIdeal_MixDaRefIdeal [hMixDaIdeal : Cert.MixDaIdeal.Facts] [hMixDaRefIdeal : Cert.MixDaRefIdeal.Facts] : Prop :=
  ∀ (m : (ℓ : Loc Cert.MixDaIdeal.nD Cert.MixDaIdeal.τ Cert.MixDaIdeal.sig) → Buf (Elt Ideal) ℓ) (g : Dev Cert.MixDaIdeal.nD → PrngReg)
    (m' : (ℓ : Loc Cert.MixDaRefIdeal.nD Cert.MixDaRefIdeal.τ Cert.MixDaRefIdeal.sig) → Buf (Elt Ideal) ℓ) (g' : Dev Cert.MixDaRefIdeal.nD → PrngReg), Pre_MixDaIdeal m →
    (∀ c : Dev Cert.MixDaIdeal.nD,
      m' ((c.tc : Thread Cert.MixDaRefIdeal.nD Cert.MixDaRefIdeal.τ).loc Cert.MixDaRefIdeal.main_arg0) = m ((c.tc : Thread Cert.MixDaIdeal.nD Cert.MixDaIdeal.τ).loc Cert.MixDaIdeal.main_arg0)
      ∧ m' ((c.tc : Thread Cert.MixDaRefIdeal.nD Cert.MixDaRefIdeal.τ).loc Cert.MixDaRefIdeal.main_arg1) = m ((c.tc : Thread Cert.MixDaIdeal.nD Cert.MixDaIdeal.τ).loc Cert.MixDaIdeal.main_arg1)) →
    ∃ (v0 : (c : Dev Cert.MixDaIdeal.nD) → Buf (Elt Ideal) ((c.tc : Thread Cert.MixDaIdeal.nD Cert.MixDaIdeal.τ).loc Cert.MixDaIdeal.main_v0)),
      θ_run (Cert.MixDaIdeal.defs (F := Ideal)) (onTc (τ := Cert.MixDaIdeal.τ) (Cert.MixDaIdeal.main (F := Ideal))) ⟨m, fun _ => 0, g⟩ (fun r => ∀ c : Dev Cert.MixDaIdeal.nD,
          r.2.mem ((c.tc : Thread Cert.MixDaIdeal.nD Cert.MixDaIdeal.τ).loc Cert.MixDaIdeal.main_v0) = v0 c
          ∧ r.2.mem ((c.tc : Thread Cert.MixDaIdeal.nD Cert.MixDaIdeal.τ).loc Cert.MixDaIdeal.main_arg0) = m ((c.tc : Thread Cert.MixDaIdeal.nD Cert.MixDaIdeal.τ).loc Cert.MixDaIdeal.main_arg0)
          ∧ r.2.mem ((c.tc : Thread Cert.MixDaIdeal.nD Cert.MixDaIdeal.τ).loc Cert.MixDaIdeal.main_arg1) = m ((c.tc : Thread Cert.MixDaIdeal.nD Cert.MixDaIdeal.τ).loc Cert.MixDaIdeal.main_arg1))
      ∧ θ_run (Cert.MixDaRefIdeal.defs (F := Ideal)) (onTc (τ := Cert.MixDaRefIdeal.τ) (Cert.MixDaRefIdeal.main (F := Ideal))) ⟨m', fun _ => 0, g'⟩ (fun r => ∀ c : Dev Cert.MixDaRefIdeal.nD,
          r.2.mem ((c.tc : Thread Cert.MixDaRefIdeal.nD Cert.MixDaRefIdeal.τ).loc Cert.MixDaRefIdeal.main_v14) = v0 c
          ∧ r.2.mem ((c.tc : Thread Cert.MixDaRefIdeal.nD Cert.MixDaRefIdeal.τ).loc Cert.MixDaRefIdeal.main_arg0) = m' ((c.tc : Thread Cert.MixDaRefIdeal.nD Cert.MixDaRefIdeal.τ).loc Cert.MixDaRefIdeal.main_arg0)
          ∧ r.2.mem ((c.tc : Thread Cert.MixDaRefIdeal.nD Cert.MixDaRefIdeal.τ).loc Cert.MixDaRefIdeal.main_arg1) = m' ((c.tc : Thread Cert.MixDaRefIdeal.nD Cert.MixDaRefIdeal.τ).loc Cert.MixDaRefIdeal.main_arg1))

def preserves_MixDwB_MixDwBIdeal : Prop :=
  True

def algebraic_MixDwBIdeal_MixDwBRefIdeal [hMixDwBIdeal : Cert.MixDwBIdeal.Facts] [hMixDwBRefIdeal : Cert.MixDwBRefIdeal.Facts] : Prop :=
  ∀ (m : (ℓ : Loc Cert.MixDwBIdeal.nD Cert.MixDwBIdeal.τ Cert.MixDwBIdeal.sig) → Buf (Elt Ideal) ℓ) (g : Dev Cert.MixDwBIdeal.nD → PrngReg)
    (m' : (ℓ : Loc Cert.MixDwBRefIdeal.nD Cert.MixDwBRefIdeal.τ Cert.MixDwBRefIdeal.sig) → Buf (Elt Ideal) ℓ) (g' : Dev Cert.MixDwBRefIdeal.nD → PrngReg), Pre_MixDwBIdeal m →
    (∀ c : Dev Cert.MixDwBIdeal.nD,
      m' ((c.tc : Thread Cert.MixDwBRefIdeal.nD Cert.MixDwBRefIdeal.τ).loc Cert.MixDwBRefIdeal.main_arg0) = m ((c.tc : Thread Cert.MixDwBIdeal.nD Cert.MixDwBIdeal.τ).loc Cert.MixDwBIdeal.main_arg0)
      ∧ m' ((c.tc : Thread Cert.MixDwBRefIdeal.nD Cert.MixDwBRefIdeal.τ).loc Cert.MixDwBRefIdeal.main_arg1) = m ((c.tc : Thread Cert.MixDwBIdeal.nD Cert.MixDwBIdeal.τ).loc Cert.MixDwBIdeal.main_arg1)) →
    ∃ (v0 : (c : Dev Cert.MixDwBIdeal.nD) → Buf (Elt Ideal) ((c.tc : Thread Cert.MixDwBIdeal.nD Cert.MixDwBIdeal.τ).loc Cert.MixDwBIdeal.main_v0)),
      θ_run (Cert.MixDwBIdeal.defs (F := Ideal)) (onTc (τ := Cert.MixDwBIdeal.τ) (Cert.MixDwBIdeal.main (F := Ideal))) ⟨m, fun _ => 0, g⟩ (fun r => ∀ c : Dev Cert.MixDwBIdeal.nD,
          r.2.mem ((c.tc : Thread Cert.MixDwBIdeal.nD Cert.MixDwBIdeal.τ).loc Cert.MixDwBIdeal.main_v0) = v0 c
          ∧ r.2.mem ((c.tc : Thread Cert.MixDwBIdeal.nD Cert.MixDwBIdeal.τ).loc Cert.MixDwBIdeal.main_arg0) = m ((c.tc : Thread Cert.MixDwBIdeal.nD Cert.MixDwBIdeal.τ).loc Cert.MixDwBIdeal.main_arg0)
          ∧ r.2.mem ((c.tc : Thread Cert.MixDwBIdeal.nD Cert.MixDwBIdeal.τ).loc Cert.MixDwBIdeal.main_arg1) = m ((c.tc : Thread Cert.MixDwBIdeal.nD Cert.MixDwBIdeal.τ).loc Cert.MixDwBIdeal.main_arg1))
      ∧ θ_run (Cert.MixDwBRefIdeal.defs (F := Ideal)) (onTc (τ := Cert.MixDwBRefIdeal.τ) (Cert.MixDwBRefIdeal.main (F := Ideal))) ⟨m', fun _ => 0, g'⟩ (fun r => ∀ c : Dev Cert.MixDwBRefIdeal.nD,
          r.2.mem ((c.tc : Thread Cert.MixDwBRefIdeal.nD Cert.MixDwBRefIdeal.τ).loc Cert.MixDwBRefIdeal.main_v12) = v0 c
          ∧ r.2.mem ((c.tc : Thread Cert.MixDwBRefIdeal.nD Cert.MixDwBRefIdeal.τ).loc Cert.MixDwBRefIdeal.main_arg0) = m' ((c.tc : Thread Cert.MixDwBRefIdeal.nD Cert.MixDwBRefIdeal.τ).loc Cert.MixDwBRefIdeal.main_arg0)
          ∧ r.2.mem ((c.tc : Thread Cert.MixDwBRefIdeal.nD Cert.MixDwBRefIdeal.τ).loc Cert.MixDwBRefIdeal.main_arg1) = m' ((c.tc : Thread Cert.MixDwBRefIdeal.nD Cert.MixDwBRefIdeal.τ).loc Cert.MixDwBRefIdeal.main_arg1))

def preserves_MixDmixed_MixDmixedIdeal : Prop :=
  True

def algebraic_MixDmixedIdeal_MixDmixedRefIdeal [hMixDmixedIdeal : Cert.MixDmixedIdeal.Facts] [hMixDmixedRefIdeal : Cert.MixDmixedRefIdeal.Facts] : Prop :=
  ∀ (m : (ℓ : Loc Cert.MixDmixedIdeal.nD Cert.MixDmixedIdeal.τ Cert.MixDmixedIdeal.sig) → Buf (Elt Ideal) ℓ) (g : Dev Cert.MixDmixedIdeal.nD → PrngReg)
    (m' : (ℓ : Loc Cert.MixDmixedRefIdeal.nD Cert.MixDmixedRefIdeal.τ Cert.MixDmixedRefIdeal.sig) → Buf (Elt Ideal) ℓ) (g' : Dev Cert.MixDmixedRefIdeal.nD → PrngReg), Pre_MixDmixedIdeal m →
    (∀ c : Dev Cert.MixDmixedIdeal.nD,
      m' ((c.tc : Thread Cert.MixDmixedRefIdeal.nD Cert.MixDmixedRefIdeal.τ).loc Cert.MixDmixedRefIdeal.main_arg0) = m ((c.tc : Thread Cert.MixDmixedIdeal.nD Cert.MixDmixedIdeal.τ).loc Cert.MixDmixedIdeal.main_arg0)
      ∧ m' ((c.tc : Thread Cert.MixDmixedRefIdeal.nD Cert.MixDmixedRefIdeal.τ).loc Cert.MixDmixedRefIdeal.main_arg1) = m ((c.tc : Thread Cert.MixDmixedIdeal.nD Cert.MixDmixedIdeal.τ).loc Cert.MixDmixedIdeal.main_arg1)) →
    ∃ (v0 : (c : Dev Cert.MixDmixedIdeal.nD) → Buf (Elt Ideal) ((c.tc : Thread Cert.MixDmixedIdeal.nD Cert.MixDmixedIdeal.τ).loc Cert.MixDmixedIdeal.main_v0)),
      θ_run (Cert.MixDmixedIdeal.defs (F := Ideal)) (onTc (τ := Cert.MixDmixedIdeal.τ) (Cert.MixDmixedIdeal.main (F := Ideal))) ⟨m, fun _ => 0, g⟩ (fun r => ∀ c : Dev Cert.MixDmixedIdeal.nD,
          r.2.mem ((c.tc : Thread Cert.MixDmixedIdeal.nD Cert.MixDmixedIdeal.τ).loc Cert.MixDmixedIdeal.main_v0) = v0 c
          ∧ r.2.mem ((c.tc : Thread Cert.MixDmixedIdeal.nD Cert.MixDmixedIdeal.τ).loc Cert.MixDmixedIdeal.main_arg0) = m ((c.tc : Thread Cert.MixDmixedIdeal.nD Cert.MixDmixedIdeal.τ).loc Cert.MixDmixedIdeal.main_arg0)
          ∧ r.2.mem ((c.tc : Thread Cert.MixDmixedIdeal.nD Cert.MixDmixedIdeal.τ).loc Cert.MixDmixedIdeal.main_arg1) = m ((c.tc : Thread Cert.MixDmixedIdeal.nD Cert.MixDmixedIdeal.τ).loc Cert.MixDmixedIdeal.main_arg1))
      ∧ θ_run (Cert.MixDmixedRefIdeal.defs (F := Ideal)) (onTc (τ := Cert.MixDmixedRefIdeal.τ) (Cert.MixDmixedRefIdeal.main (F := Ideal))) ⟨m', fun _ => 0, g'⟩ (fun r => ∀ c : Dev Cert.MixDmixedRefIdeal.nD,
          r.2.mem ((c.tc : Thread Cert.MixDmixedRefIdeal.nD Cert.MixDmixedRefIdeal.τ).loc Cert.MixDmixedRefIdeal.main_v12) = v0 c
          ∧ r.2.mem ((c.tc : Thread Cert.MixDmixedRefIdeal.nD Cert.MixDmixedRefIdeal.τ).loc Cert.MixDmixedRefIdeal.main_arg0) = m' ((c.tc : Thread Cert.MixDmixedRefIdeal.nD Cert.MixDmixedRefIdeal.τ).loc Cert.MixDmixedRefIdeal.main_arg0)
          ∧ r.2.mem ((c.tc : Thread Cert.MixDmixedRefIdeal.nD Cert.MixDmixedRefIdeal.τ).loc Cert.MixDmixedRefIdeal.main_arg1) = m' ((c.tc : Thread Cert.MixDmixedRefIdeal.nD Cert.MixDmixedRefIdeal.τ).loc Cert.MixDmixedRefIdeal.main_arg1))

def preserves_MixDwIn_MixDwInIdeal : Prop :=
  True

def algebraic_MixDwInIdeal_MixDwInRefIdeal [hMixDwInIdeal : Cert.MixDwInIdeal.Facts] [hMixDwInRefIdeal : Cert.MixDwInRefIdeal.Facts] : Prop :=
  ∀ (m : (ℓ : Loc Cert.MixDwInIdeal.nD Cert.MixDwInIdeal.τ Cert.MixDwInIdeal.sig) → Buf (Elt Ideal) ℓ) (g : Dev Cert.MixDwInIdeal.nD → PrngReg)
    (m' : (ℓ : Loc Cert.MixDwInRefIdeal.nD Cert.MixDwInRefIdeal.τ Cert.MixDwInRefIdeal.sig) → Buf (Elt Ideal) ℓ) (g' : Dev Cert.MixDwInRefIdeal.nD → PrngReg), Pre_MixDwInIdeal m →
    (∀ c : Dev Cert.MixDwInIdeal.nD,
      m' ((c.tc : Thread Cert.MixDwInRefIdeal.nD Cert.MixDwInRefIdeal.τ).loc Cert.MixDwInRefIdeal.main_arg0) = m ((c.tc : Thread Cert.MixDwInIdeal.nD Cert.MixDwInIdeal.τ).loc Cert.MixDwInIdeal.main_arg0)
      ∧ m' ((c.tc : Thread Cert.MixDwInRefIdeal.nD Cert.MixDwInRefIdeal.τ).loc Cert.MixDwInRefIdeal.main_arg1) = m ((c.tc : Thread Cert.MixDwInIdeal.nD Cert.MixDwInIdeal.τ).loc Cert.MixDwInIdeal.main_arg1)) →
    ∃ (v0 : (c : Dev Cert.MixDwInIdeal.nD) → Buf (Elt Ideal) ((c.tc : Thread Cert.MixDwInIdeal.nD Cert.MixDwInIdeal.τ).loc Cert.MixDwInIdeal.main_v0)),
      θ_run (Cert.MixDwInIdeal.defs (F := Ideal)) (onTc (τ := Cert.MixDwInIdeal.τ) (Cert.MixDwInIdeal.main (F := Ideal))) ⟨m, fun _ => 0, g⟩ (fun r => ∀ c : Dev Cert.MixDwInIdeal.nD,
          r.2.mem ((c.tc : Thread Cert.MixDwInIdeal.nD Cert.MixDwInIdeal.τ).loc Cert.MixDwInIdeal.main_v0) = v0 c
          ∧ r.2.mem ((c.tc : Thread Cert.MixDwInIdeal.nD Cert.MixDwInIdeal.τ).loc Cert.MixDwInIdeal.main_arg0) = m ((c.tc : Thread Cert.MixDwInIdeal.nD Cert.MixDwInIdeal.τ).loc Cert.MixDwInIdeal.main_arg0)
          ∧ r.2.mem ((c.tc : Thread Cert.MixDwInIdeal.nD Cert.MixDwInIdeal.τ).loc Cert.MixDwInIdeal.main_arg1) = m ((c.tc : Thread Cert.MixDwInIdeal.nD Cert.MixDwInIdeal.τ).loc Cert.MixDwInIdeal.main_arg1))
      ∧ θ_run (Cert.MixDwInRefIdeal.defs (F := Ideal)) (onTc (τ := Cert.MixDwInRefIdeal.τ) (Cert.MixDwInRefIdeal.main (F := Ideal))) ⟨m', fun _ => 0, g'⟩ (fun r => ∀ c : Dev Cert.MixDwInRefIdeal.nD,
          r.2.mem ((c.tc : Thread Cert.MixDwInRefIdeal.nD Cert.MixDwInRefIdeal.τ).loc Cert.MixDwInRefIdeal.main_v16) = v0 c
          ∧ r.2.mem ((c.tc : Thread Cert.MixDwInRefIdeal.nD Cert.MixDwInRefIdeal.τ).loc Cert.MixDwInRefIdeal.main_arg0) = m' ((c.tc : Thread Cert.MixDwInRefIdeal.nD Cert.MixDwInRefIdeal.τ).loc Cert.MixDwInRefIdeal.main_arg0)
          ∧ r.2.mem ((c.tc : Thread Cert.MixDwInRefIdeal.nD Cert.MixDwInRefIdeal.τ).loc Cert.MixDwInRefIdeal.main_arg1) = m' ((c.tc : Thread Cert.MixDwInRefIdeal.nD Cert.MixDwInRefIdeal.τ).loc Cert.MixDwInRefIdeal.main_arg1))

def preserves_MixDn_MixDnIdeal : Prop :=
  True

def algebraic_MixDnIdeal_MixDnRefIdeal [hMixDnIdeal : Cert.MixDnIdeal.Facts] [hMixDnRefIdeal : Cert.MixDnRefIdeal.Facts] : Prop :=
  ∀ (m : (ℓ : Loc Cert.MixDnIdeal.nD Cert.MixDnIdeal.τ Cert.MixDnIdeal.sig) → Buf (Elt Ideal) ℓ) (g : Dev Cert.MixDnIdeal.nD → PrngReg)
    (m' : (ℓ : Loc Cert.MixDnRefIdeal.nD Cert.MixDnRefIdeal.τ Cert.MixDnRefIdeal.sig) → Buf (Elt Ideal) ℓ) (g' : Dev Cert.MixDnRefIdeal.nD → PrngReg), Pre_MixDnIdeal m →
    (∀ c : Dev Cert.MixDnIdeal.nD,
      m' ((c.tc : Thread Cert.MixDnRefIdeal.nD Cert.MixDnRefIdeal.τ).loc Cert.MixDnRefIdeal.main_arg0) = m ((c.tc : Thread Cert.MixDnIdeal.nD Cert.MixDnIdeal.τ).loc Cert.MixDnIdeal.main_arg0)
      ∧ m' ((c.tc : Thread Cert.MixDnRefIdeal.nD Cert.MixDnRefIdeal.τ).loc Cert.MixDnRefIdeal.main_arg1) = m ((c.tc : Thread Cert.MixDnIdeal.nD Cert.MixDnIdeal.τ).loc Cert.MixDnIdeal.main_arg1)) →
    ∃ (v0 : (c : Dev Cert.MixDnIdeal.nD) → Buf (Elt Ideal) ((c.tc : Thread Cert.MixDnIdeal.nD Cert.MixDnIdeal.τ).loc Cert.MixDnIdeal.main_v0)),
      θ_run (Cert.MixDnIdeal.defs (F := Ideal)) (onTc (τ := Cert.MixDnIdeal.τ) (Cert.MixDnIdeal.main (F := Ideal))) ⟨m, fun _ => 0, g⟩ (fun r => ∀ c : Dev Cert.MixDnIdeal.nD,
          r.2.mem ((c.tc : Thread Cert.MixDnIdeal.nD Cert.MixDnIdeal.τ).loc Cert.MixDnIdeal.main_v0) = v0 c
          ∧ r.2.mem ((c.tc : Thread Cert.MixDnIdeal.nD Cert.MixDnIdeal.τ).loc Cert.MixDnIdeal.main_arg0) = m ((c.tc : Thread Cert.MixDnIdeal.nD Cert.MixDnIdeal.τ).loc Cert.MixDnIdeal.main_arg0)
          ∧ r.2.mem ((c.tc : Thread Cert.MixDnIdeal.nD Cert.MixDnIdeal.τ).loc Cert.MixDnIdeal.main_arg1) = m ((c.tc : Thread Cert.MixDnIdeal.nD Cert.MixDnIdeal.τ).loc Cert.MixDnIdeal.main_arg1))
      ∧ θ_run (Cert.MixDnRefIdeal.defs (F := Ideal)) (onTc (τ := Cert.MixDnRefIdeal.τ) (Cert.MixDnRefIdeal.main (F := Ideal))) ⟨m', fun _ => 0, g'⟩ (fun r => ∀ c : Dev Cert.MixDnRefIdeal.nD,
          r.2.mem ((c.tc : Thread Cert.MixDnRefIdeal.nD Cert.MixDnRefIdeal.τ).loc Cert.MixDnRefIdeal.main_v23) = v0 c
          ∧ r.2.mem ((c.tc : Thread Cert.MixDnRefIdeal.nD Cert.MixDnRefIdeal.τ).loc Cert.MixDnRefIdeal.main_arg0) = m' ((c.tc : Thread Cert.MixDnRefIdeal.nD Cert.MixDnRefIdeal.τ).loc Cert.MixDnRefIdeal.main_arg0)
          ∧ r.2.mem ((c.tc : Thread Cert.MixDnRefIdeal.nD Cert.MixDnRefIdeal.τ).loc Cert.MixDnRefIdeal.main_arg1) = m' ((c.tc : Thread Cert.MixDnRefIdeal.nD Cert.MixDnRefIdeal.τ).loc Cert.MixDnRefIdeal.main_arg1))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v1_0)) (v1 : (c : Dev Cert.SwigluIdeal.nD) → Buf (Elt Ideal) ((c.tc : Thread Cert.SwigluIdeal.nD Cert.SwigluIdeal.τ).loc Cert.SwigluIdeal.main_v1_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1_0) = v0 c
          ∧ r.2.mem ((c.tc : Thread Cert.SwigluIdeal.nD Cert.SwigluIdeal.τ).loc Cert.SwigluIdeal.main_v1_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v19) = v0 c
          ∧ r.2.mem ((c.tc : Thread Cert.SwigluRefIdeal.nD Cert.SwigluRefIdeal.τ).loc Cert.SwigluRefIdeal.main_v21) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Ya_YaIdeal : Prop :=
  True

def algebraic_YaIdeal_YaRefIdeal [hYaIdeal : Cert.YaIdeal.Facts] [hYaRefIdeal : Cert.YaRefIdeal.Facts] : Prop :=
  ∀ (m : (ℓ : Loc Cert.YaIdeal.nD Cert.YaIdeal.τ Cert.YaIdeal.sig) → Buf (Elt Ideal) ℓ) (g : Dev Cert.YaIdeal.nD → PrngReg)
    (m' : (ℓ : Loc Cert.YaRefIdeal.nD Cert.YaRefIdeal.τ Cert.YaRefIdeal.sig) → Buf (Elt Ideal) ℓ) (g' : Dev Cert.YaRefIdeal.nD → PrngReg), Pre_YaIdeal m →
    (∀ c : Dev Cert.YaIdeal.nD,
      m' ((c.tc : Thread Cert.YaRefIdeal.nD Cert.YaRefIdeal.τ).loc Cert.YaRefIdeal.main_arg0) = m ((c.tc : Thread Cert.YaIdeal.nD Cert.YaIdeal.τ).loc Cert.YaIdeal.main_arg0)
      ∧ m' ((c.tc : Thread Cert.YaRefIdeal.nD Cert.YaRefIdeal.τ).loc Cert.YaRefIdeal.main_arg1) = m ((c.tc : Thread Cert.YaIdeal.nD Cert.YaIdeal.τ).loc Cert.YaIdeal.main_arg1)) →
    ∃ (v0 : (c : Dev Cert.YaIdeal.nD) → Buf (Elt Ideal) ((c.tc : Thread Cert.YaIdeal.nD Cert.YaIdeal.τ).loc Cert.YaIdeal.main_v0)),
      θ_run (Cert.YaIdeal.defs (F := Ideal)) (onTc (τ := Cert.YaIdeal.τ) (Cert.YaIdeal.main (F := Ideal))) ⟨m, fun _ => 0, g⟩ (fun r => ∀ c : Dev Cert.YaIdeal.nD,
          r.2.mem ((c.tc : Thread Cert.YaIdeal.nD Cert.YaIdeal.τ).loc Cert.YaIdeal.main_v0) = v0 c
          ∧ r.2.mem ((c.tc : Thread Cert.YaIdeal.nD Cert.YaIdeal.τ).loc Cert.YaIdeal.main_arg0) = m ((c.tc : Thread Cert.YaIdeal.nD Cert.YaIdeal.τ).loc Cert.YaIdeal.main_arg0)
          ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ θ_run (Cert.YaRefIdeal.defs (F := Ideal)) (onTc (τ := Cert.YaRefIdeal.τ) (Cert.YaRefIdeal.main (F := Ideal))) ⟨m', fun _ => 0, g'⟩ (fun r => ∀ c : Dev Cert.YaRefIdeal.nD,
          r.2.mem ((c.tc : Thread Cert.YaRefIdeal.nD Cert.YaRefIdeal.τ).loc Cert.YaRefIdeal.main_v12) = v0 c
          ∧ r.2.mem ((c.tc : Thread Cert.YaRefIdeal.nD Cert.YaRefIdeal.τ).loc Cert.YaRefIdeal.main_arg0) = m' ((c.tc : Thread Cert.YaRefIdeal.nD Cert.YaRefIdeal.τ).loc Cert.YaRefIdeal.main_arg0)
          ∧ r.2.mem ((c.tc : Thread Cert.YaRefIdeal.nD Cert.YaRefIdeal.τ).loc Cert.YaRefIdeal.main_arg1) = m' ((c.tc : Thread Cert.YaRefIdeal.nD Cert.YaRefIdeal.τ).loc Cert.YaRefIdeal.main_arg1))

def preserves_Yb_YbIdeal : Prop :=
  True

def algebraic_YbIdeal_YbRefIdeal [hYbIdeal : Cert.YbIdeal.Facts] [hYbRefIdeal : Cert.YbRefIdeal.Facts] : Prop :=
  ∀ (m : (ℓ : Loc Cert.YbIdeal.nD Cert.YbIdeal.τ Cert.YbIdeal.sig) → Buf (Elt Ideal) ℓ) (g : Dev Cert.YbIdeal.nD → PrngReg)
    (m' : (ℓ : Loc Cert.YbRefIdeal.nD Cert.YbRefIdeal.τ Cert.YbRefIdeal.sig) → Buf (Elt Ideal) ℓ) (g' : Dev Cert.YbRefIdeal.nD → PrngReg), Pre_YbIdeal m →
    (∀ c : Dev Cert.YbIdeal.nD,
      m' ((c.tc : Thread Cert.YbRefIdeal.nD Cert.YbRefIdeal.τ).loc Cert.YbRefIdeal.main_arg0) = m ((c.tc : Thread Cert.YbIdeal.nD Cert.YbIdeal.τ).loc Cert.YbIdeal.main_arg0)
      ∧ m' ((c.tc : Thread Cert.YbRefIdeal.nD Cert.YbRefIdeal.τ).loc Cert.YbRefIdeal.main_arg1) = m ((c.tc : Thread Cert.YbIdeal.nD Cert.YbIdeal.τ).loc Cert.YbIdeal.main_arg1)) →
    ∃ (v0 : (c : Dev Cert.YbIdeal.nD) → Buf (Elt Ideal) ((c.tc : Thread Cert.YbIdeal.nD Cert.YbIdeal.τ).loc Cert.YbIdeal.main_v0)),
      θ_run (Cert.YbIdeal.defs (F := Ideal)) (onTc (τ := Cert.YbIdeal.τ) (Cert.YbIdeal.main (F := Ideal))) ⟨m, fun _ => 0, g⟩ (fun r => ∀ c : Dev Cert.YbIdeal.nD,
          r.2.mem ((c.tc : Thread Cert.YbIdeal.nD Cert.YbIdeal.τ).loc Cert.YbIdeal.main_v0) = v0 c
          ∧ r.2.mem ((c.tc : Thread Cert.YbIdeal.nD Cert.YbIdeal.τ).loc Cert.YbIdeal.main_arg0) = m ((c.tc : Thread Cert.YbIdeal.nD Cert.YbIdeal.τ).loc Cert.YbIdeal.main_arg0)
          ∧ r.2.mem ((c.tc : Thread Cert.YbIdeal.nD Cert.YbIdeal.τ).loc Cert.YbIdeal.main_arg1) = m ((c.tc : Thread Cert.YbIdeal.nD Cert.YbIdeal.τ).loc Cert.YbIdeal.main_arg1))
      ∧ θ_run (Cert.YbRefIdeal.defs (F := Ideal)) (onTc (τ := Cert.YbRefIdeal.τ) (Cert.YbRefIdeal.main (F := Ideal))) ⟨m', fun _ => 0, g'⟩ (fun r => ∀ c : Dev Cert.YbRefIdeal.nD,
          r.2.mem ((c.tc : Thread Cert.YbRefIdeal.nD Cert.YbRefIdeal.τ).loc Cert.YbRefIdeal.main_v6) = v0 c
          ∧ r.2.mem ((c.tc : Thread Cert.YbRefIdeal.nD Cert.YbRefIdeal.τ).loc Cert.YbRefIdeal.main_arg0) = m' ((c.tc : Thread Cert.YbRefIdeal.nD Cert.YbRefIdeal.τ).loc Cert.YbRefIdeal.main_arg0)
          ∧ r.2.mem ((c.tc : Thread Cert.YbRefIdeal.nD Cert.YbRefIdeal.τ).loc Cert.YbRefIdeal.main_arg1) = m' ((c.tc : Thread Cert.YbRefIdeal.nD Cert.YbRefIdeal.τ).loc Cert.YbRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_NormX_NormXIdeal : Prop :=
  True

def algebraic_NormXIdeal_NormXRefIdeal [hNormXIdeal : Cert.NormXIdeal.Facts] [hNormXRefIdeal : Cert.NormXRefIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXRefIdeal.nD Cert.NormXRefIdeal.τ Cert.NormXRefIdeal.sig) → Buf (Elt Ideal) ℓ) (g' : Dev Cert.NormXRefIdeal.nD → PrngReg), Pre_NormXIdeal m →
    (∀ c : Dev Cert.NormXIdeal.nD,
      m' ((c.tc : Thread Cert.NormXRefIdeal.nD Cert.NormXRefIdeal.τ).loc Cert.NormXRefIdeal.main_arg0) = m ((c.tc : Thread Cert.NormXIdeal.nD Cert.NormXIdeal.τ).loc Cert.NormXIdeal.main_arg0)
      ∧ m' ((c.tc : Thread Cert.NormXRefIdeal.nD Cert.NormXRefIdeal.τ).loc Cert.NormXRefIdeal.main_arg1) = m ((c.tc : Thread Cert.NormXIdeal.nD Cert.NormXIdeal.τ).loc Cert.NormXIdeal.main_arg1)
      ∧ m' ((c.tc : Thread Cert.NormXRefIdeal.nD Cert.NormXRefIdeal.τ).loc Cert.NormXRefIdeal.main_arg2) = m ((c.tc : Thread Cert.NormXIdeal.nD Cert.NormXIdeal.τ).loc Cert.NormXIdeal.main_arg2)
      ∧ m' ((c.tc : Thread Cert.NormXRefIdeal.nD Cert.NormXRefIdeal.τ).loc Cert.NormXRefIdeal.main_arg3) = m ((c.tc : Thread Cert.NormXIdeal.nD Cert.NormXIdeal.τ).loc Cert.NormXIdeal.main_arg3)
      ∧ m' ((c.tc : Thread Cert.NormXRefIdeal.nD Cert.NormXRefIdeal.τ).loc Cert.NormXRefIdeal.main_arg4) = m ((c.tc : Thread Cert.NormXIdeal.nD Cert.NormXIdeal.τ).loc Cert.NormXIdeal.main_arg4)) →
    ∃ (v0 : (c : Dev Cert.NormXIdeal.nD) → Buf (Elt Ideal) ((c.tc : Thread Cert.NormXIdeal.nD Cert.NormXIdeal.τ).loc Cert.NormXIdeal.main_v0_0)) (v1 : (c : Dev Cert.NormXIdeal.nD) → Buf (Elt Ideal) ((c.tc : Thread Cert.NormXIdeal.nD Cert.NormXIdeal.τ).loc Cert.NormXIdeal.main_v0_1)) (v2 : (c : Dev Cert.NormXIdeal.nD) → Buf (Elt Ideal) ((c.tc : Thread Cert.NormXIdeal.nD Cert.NormXIdeal.τ).loc Cert.NormXIdeal.main_v0_2)) (v3 : (c : Dev Cert.NormXIdeal.nD) → Buf (Elt Ideal) ((c.tc : Thread Cert.NormXIdeal.nD Cert.NormXIdeal.τ).loc Cert.NormXIdeal.main_v0_3)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v0_0) = v0 c
          ∧ r.2.mem ((c.tc : Thread Cert.NormXIdeal.nD Cert.NormXIdeal.τ).loc Cert.NormXIdeal.main_v0_1) = v1 c
          ∧ r.2.mem ((c.tc : Thread Cert.NormXIdeal.nD Cert.NormXIdeal.τ).loc Cert.NormXIdeal.main_v0_2) = v2 c
          ∧ r.2.mem ((c.tc : Thread Cert.NormXIdeal.nD Cert.NormXIdeal.τ).loc Cert.NormXIdeal.main_v0_3) = v3 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1)
          ∧ r.2.mem ((c.tc : Thread Cert.NormXIdeal.nD Cert.NormXIdeal.τ).loc Cert.NormXIdeal.main_arg2) = m ((c.tc : Thread Cert.NormXIdeal.nD Cert.NormXIdeal.τ).loc Cert.NormXIdeal.main_arg2)
          ∧ r.2.mem ((c.tc : Thread Cert.NormXIdeal.nD Cert.NormXIdeal.τ).loc Cert.NormXIdeal.main_arg3) = m ((c.tc : Thread Cert.NormXIdeal.nD Cert.NormXIdeal.τ).loc Cert.NormXIdeal.main_arg3)
          ∧ r.2.mem ((c.tc : Thread Cert.NormXIdeal.nD Cert.NormXIdeal.τ).loc Cert.NormXIdeal.main_arg4) = m ((c.tc : Thread Cert.NormXIdeal.nD Cert.NormXIdeal.τ).loc Cert.NormXIdeal.main_arg4))
      ∧ θ_run (Cert.NormXRefIdeal.defs (F := Ideal)) (onTc (τ := Cert.NormXRefIdeal.τ) (Cert.NormXRefIdeal.main (F := Ideal))) ⟨m', fun _ => 0, g'⟩ (fun r => ∀ c : Dev Cert.NormXRefIdeal.nD,
          r.2.mem ((c.tc : Thread Cert.NormXRefIdeal.nD Cert.NormXRefIdeal.τ).loc Cert.NormXRefIdeal.main_v49) = v0 c
          ∧ r.2.mem ((c.tc : Thread Cert.NormXRefIdeal.nD Cert.NormXRefIdeal.τ).loc Cert.NormXRefIdeal.main_v24) = v1 c
          ∧ r.2.mem ((c.tc : Thread Cert.NormXRefIdeal.nD Cert.NormXRefIdeal.τ).loc Cert.NormXRefIdeal.main_v27) = v2 c
          ∧ r.2.mem ((c.tc : Thread Cert.NormXRefIdeal.nD Cert.NormXRefIdeal.τ).loc Cert.NormXRefIdeal.main_v32) = v3 c
          ∧ r.2.mem ((c.tc : Thread Cert.NormXRefIdeal.nD Cert.NormXRefIdeal.τ).loc Cert.NormXRefIdeal.main_arg0) = m' ((c.tc : Thread Cert.NormXRefIdeal.nD Cert.NormXRefIdeal.τ).loc Cert.NormXRefIdeal.main_arg0)
          ∧ r.2.mem ((c.tc : Thread Cert.NormXRefIdeal.nD Cert.NormXRefIdeal.τ).loc Cert.NormXRefIdeal.main_arg1) = m' ((c.tc : Thread Cert.NormXRefIdeal.nD Cert.NormXRefIdeal.τ).loc Cert.NormXRefIdeal.main_arg1)
          ∧ r.2.mem ((c.tc : Thread Cert.NormXRefIdeal.nD Cert.NormXRefIdeal.τ).loc Cert.NormXRefIdeal.main_arg2) = m' ((c.tc : Thread Cert.NormXRefIdeal.nD Cert.NormXRefIdeal.τ).loc Cert.NormXRefIdeal.main_arg2)
          ∧ r.2.mem ((c.tc : Thread Cert.NormXRefIdeal.nD Cert.NormXRefIdeal.τ).loc Cert.NormXRefIdeal.main_arg3) = m' ((c.tc : Thread Cert.NormXRefIdeal.nD Cert.NormXRefIdeal.τ).loc Cert.NormXRefIdeal.main_arg3)
          ∧ r.2.mem ((c.tc : Thread Cert.NormXRefIdeal.nD Cert.NormXRefIdeal.τ).loc Cert.NormXRefIdeal.main_arg4) = m' ((c.tc : Thread Cert.NormXRefIdeal.nD Cert.NormXRefIdeal.τ).loc Cert.NormXRefIdeal.main_arg4))

def preserves_GatesFwd_GatesFwdIdeal : Prop :=
  True

def algebraic_GatesFwdIdeal_GatesFwdRefIdeal [hGatesFwdIdeal : Cert.GatesFwdIdeal.Facts] [hGatesFwdRefIdeal : Cert.GatesFwdRefIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)
      ∧ m' ((c.tc : Thread Cert.GatesFwdRefIdeal.nD Cert.GatesFwdRefIdeal.τ).loc Cert.GatesFwdRefIdeal.main_arg2) = m ((c.tc : Thread Cert.GatesFwdIdeal.nD Cert.GatesFwdIdeal.τ).loc Cert.GatesFwdIdeal.main_arg2)
      ∧ m' ((c.tc : Thread Cert.GatesFwdRefIdeal.nD Cert.GatesFwdRefIdeal.τ).loc Cert.GatesFwdRefIdeal.main_arg3) = m ((c.tc : Thread Cert.GatesFwdIdeal.nD Cert.GatesFwdIdeal.τ).loc Cert.GatesFwdIdeal.main_arg3)
      ∧ m' ((c.tc : Thread Cert.GatesFwdRefIdeal.nD Cert.GatesFwdRefIdeal.τ).loc Cert.GatesFwdRefIdeal.main_arg4) = m ((c.tc : Thread Cert.GatesFwdIdeal.nD Cert.GatesFwdIdeal.τ).loc Cert.GatesFwdIdeal.main_arg4)
      ∧ m' ((c.tc : Thread Cert.GatesFwdRefIdeal.nD Cert.GatesFwdRefIdeal.τ).loc Cert.GatesFwdRefIdeal.main_arg5) = m ((c.tc : Thread Cert.GatesFwdIdeal.nD Cert.GatesFwdIdeal.τ).loc Cert.GatesFwdIdeal.main_arg5)) →
    ∃ (v0 : (c : Dev Cert.GatesFwdIdeal.nD) → Buf (Elt Ideal) ((c.tc : Thread Cert.GatesFwdIdeal.nD Cert.GatesFwdIdeal.τ).loc Cert.GatesFwdIdeal.main_v0)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v0) = v0 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
          ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2)
          ∧ r.2.mem ((c.tc : Thread Cert.GatesFwdIdeal.nD Cert.GatesFwdIdeal.τ).loc Cert.GatesFwdIdeal.main_arg3) = m ((c.tc : Thread Cert.GatesFwdIdeal.nD Cert.GatesFwdIdeal.τ).loc Cert.GatesFwdIdeal.main_arg3)
          ∧ r.2.mem ((c.tc : Thread Cert.GatesFwdIdeal.nD Cert.GatesFwdIdeal.τ).loc Cert.GatesFwdIdeal.main_arg4) = m ((c.tc : Thread Cert.GatesFwdIdeal.nD Cert.GatesFwdIdeal.τ).loc Cert.GatesFwdIdeal.main_arg4)
          ∧ r.2.mem ((c.tc : Thread Cert.GatesFwdIdeal.nD Cert.GatesFwdIdeal.τ).loc Cert.GatesFwdIdeal.main_arg5) = m ((c.tc : Thread Cert.GatesFwdIdeal.nD Cert.GatesFwdIdeal.τ).loc Cert.GatesFwdIdeal.main_arg5))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v30) = v0 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1)
          ∧ r.2.mem ((c.tc : Thread Cert.GatesFwdRefIdeal.nD Cert.GatesFwdRefIdeal.τ).loc Cert.GatesFwdRefIdeal.main_arg2) = m' ((c.tc : Thread Cert.GatesFwdRefIdeal.nD Cert.GatesFwdRefIdeal.τ).loc Cert.GatesFwdRefIdeal.main_arg2)
          ∧ r.2.mem ((c.tc : Thread Cert.GatesFwdRefIdeal.nD Cert.GatesFwdRefIdeal.τ).loc Cert.GatesFwdRefIdeal.main_arg3) = m' ((c.tc : Thread Cert.GatesFwdRefIdeal.nD Cert.GatesFwdRefIdeal.τ).loc Cert.GatesFwdRefIdeal.main_arg3)
          ∧ r.2.mem ((c.tc : Thread Cert.GatesFwdRefIdeal.nD Cert.GatesFwdRefIdeal.τ).loc Cert.GatesFwdRefIdeal.main_arg4) = m' ((c.tc : Thread Cert.GatesFwdRefIdeal.nD Cert.GatesFwdRefIdeal.τ).loc Cert.GatesFwdRefIdeal.main_arg4)
          ∧ r.2.mem ((c.tc : Thread Cert.GatesFwdRefIdeal.nD Cert.GatesFwdRefIdeal.τ).loc Cert.GatesFwdRefIdeal.main_arg5) = m' ((c.tc : Thread Cert.GatesFwdRefIdeal.nD Cert.GatesFwdRefIdeal.τ).loc Cert.GatesFwdRefIdeal.main_arg5))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)
      ∧ m' ((c.tc : Thread Cert.ResNormRefIdeal.nD Cert.ResNormRefIdeal.τ).loc Cert.ResNormRefIdeal.main_arg4) = m ((c.tc : Thread Cert.ResNormIdeal.nD Cert.ResNormIdeal.τ).loc Cert.ResNormIdeal.main_arg4)
      ∧ m' ((c.tc : Thread Cert.ResNormRefIdeal.nD Cert.ResNormRefIdeal.τ).loc Cert.ResNormRefIdeal.main_arg5) = m ((c.tc : Thread Cert.ResNormIdeal.nD Cert.ResNormIdeal.τ).loc Cert.ResNormIdeal.main_arg5)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3)
          ∧ r.2.mem ((c.tc : Thread Cert.ResNormIdeal.nD Cert.ResNormIdeal.τ).loc Cert.ResNormIdeal.main_arg4) = m ((c.tc : Thread Cert.ResNormIdeal.nD Cert.ResNormIdeal.τ).loc Cert.ResNormIdeal.main_arg4)
          ∧ r.2.mem ((c.tc : Thread Cert.ResNormIdeal.nD Cert.ResNormIdeal.τ).loc Cert.ResNormIdeal.main_arg5) = m ((c.tc : Thread Cert.ResNormIdeal.nD Cert.ResNormIdeal.τ).loc Cert.ResNormIdeal.main_arg5))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v4) = v0 c
          ∧ r.2.mem ((c.tc : Thread Cert.ResNormRefIdeal.nD Cert.ResNormRefIdeal.τ).loc Cert.ResNormRefIdeal.main_v23) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3)
          ∧ r.2.mem ((c.tc : Thread Cert.ResNormRefIdeal.nD Cert.ResNormRefIdeal.τ).loc Cert.ResNormRefIdeal.main_arg4) = m' ((c.tc : Thread Cert.ResNormRefIdeal.nD Cert.ResNormRefIdeal.τ).loc Cert.ResNormRefIdeal.main_arg4)
          ∧ r.2.mem ((c.tc : Thread Cert.ResNormRefIdeal.nD Cert.ResNormRefIdeal.τ).loc Cert.ResNormRefIdeal.main_arg5) = m' ((c.tc : Thread Cert.ResNormRefIdeal.nD Cert.ResNormRefIdeal.τ).loc Cert.ResNormRefIdeal.main_arg5))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v0)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v0) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v18) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)) (v4 : (c : Dev Cert.FinalLossIdeal.nD) → Buf (Elt Ideal) ((c.tc : Thread Cert.FinalLossIdeal.nD Cert.FinalLossIdeal.τ).loc Cert.FinalLossIdeal.main_v0_4)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_v0_4) = v4 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v56) = v0 c
          ∧ r.2.mem ((c.tc : Thread Cert.FinalLossRefIdeal.nD Cert.FinalLossRefIdeal.τ).loc Cert.FinalLossRefIdeal.main_v64) = v1 c
          ∧ r.2.mem ((c.tc : Thread Cert.FinalLossRefIdeal.nD Cert.FinalLossRefIdeal.τ).loc Cert.FinalLossRefIdeal.main_v40) = v2 c
          ∧ r.2.mem ((c.tc : Thread Cert.FinalLossRefIdeal.nD Cert.FinalLossRefIdeal.τ).loc Cert.FinalLossRefIdeal.main_v63) = v3 c
          ∧ r.2.mem ((c.tc : Thread Cert.FinalLossRefIdeal.nD Cert.FinalLossRefIdeal.τ).loc Cert.FinalLossRefIdeal.main_v29) = v4 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_MixProjA_MixProjAIdeal : Prop :=
  True

def algebraic_MixProjAIdeal_MixProjARefIdeal [hMixProjAIdeal : Cert.MixProjAIdeal.Facts] [hMixProjARefIdeal : Cert.MixProjARefIdeal.Facts] : Prop :=
  ∀ (m : (ℓ : Loc Cert.MixProjAIdeal.nD Cert.MixProjAIdeal.τ Cert.MixProjAIdeal.sig) → Buf (Elt Ideal) ℓ) (g : Dev Cert.MixProjAIdeal.nD → PrngReg)
    (m' : (ℓ : Loc Cert.MixProjARefIdeal.nD Cert.MixProjARefIdeal.τ Cert.MixProjARefIdeal.sig) → Buf (Elt Ideal) ℓ) (g' : Dev Cert.MixProjARefIdeal.nD → PrngReg), Pre_MixProjAIdeal m →
    (∀ c : Dev Cert.MixProjAIdeal.nD,
      m' ((c.tc : Thread Cert.MixProjARefIdeal.nD Cert.MixProjARefIdeal.τ).loc Cert.MixProjARefIdeal.main_arg0) = m ((c.tc : Thread Cert.MixProjAIdeal.nD Cert.MixProjAIdeal.τ).loc Cert.MixProjAIdeal.main_arg0)
      ∧ m' ((c.tc : Thread Cert.MixProjARefIdeal.nD Cert.MixProjARefIdeal.τ).loc Cert.MixProjARefIdeal.main_arg1) = m ((c.tc : Thread Cert.MixProjAIdeal.nD Cert.MixProjAIdeal.τ).loc Cert.MixProjAIdeal.main_arg1)) →
    ∃ (v0 : (c : Dev Cert.MixProjAIdeal.nD) → Buf (Elt Ideal) ((c.tc : Thread Cert.MixProjAIdeal.nD Cert.MixProjAIdeal.τ).loc Cert.MixProjAIdeal.main_v1)),
      θ_run (Cert.MixProjAIdeal.defs (F := Ideal)) (onTc (τ := Cert.MixProjAIdeal.τ) (Cert.MixProjAIdeal.main (F := Ideal))) ⟨m, fun _ => 0, g⟩ (fun r => ∀ c : Dev Cert.MixProjAIdeal.nD,
          r.2.mem ((c.tc : Thread Cert.MixProjAIdeal.nD Cert.MixProjAIdeal.τ).loc Cert.MixProjAIdeal.main_v1) = v0 c
          ∧ r.2.mem ((c.tc : Thread Cert.MixProjAIdeal.nD Cert.MixProjAIdeal.τ).loc Cert.MixProjAIdeal.main_arg0) = m ((c.tc : Thread Cert.MixProjAIdeal.nD Cert.MixProjAIdeal.τ).loc Cert.MixProjAIdeal.main_arg0)
          ∧ r.2.mem ((c.tc : Thread Cert.MixProjAIdeal.nD Cert.MixProjAIdeal.τ).loc Cert.MixProjAIdeal.main_arg1) = m ((c.tc : Thread Cert.MixProjAIdeal.nD Cert.MixProjAIdeal.τ).loc Cert.MixProjAIdeal.main_arg1))
      ∧ θ_run (Cert.MixProjARefIdeal.defs (F := Ideal)) (onTc (τ := Cert.MixProjARefIdeal.τ) (Cert.MixProjARefIdeal.main (F := Ideal))) ⟨m', fun _ => 0, g'⟩ (fun r => ∀ c : Dev Cert.MixProjARefIdeal.nD,
          r.2.mem ((c.tc : Thread Cert.MixProjARefIdeal.nD Cert.MixProjARefIdeal.τ).loc Cert.MixProjARefIdeal.main_v16) = v0 c
          ∧ r.2.mem ((c.tc : Thread Cert.MixProjARefIdeal.nD Cert.MixProjARefIdeal.τ).loc Cert.MixProjARefIdeal.main_arg0) = m' ((c.tc : Thread Cert.MixProjARefIdeal.nD Cert.MixProjARefIdeal.τ).loc Cert.MixProjARefIdeal.main_arg0)
          ∧ r.2.mem ((c.tc : Thread Cert.MixProjARefIdeal.nD Cert.MixProjARefIdeal.τ).loc Cert.MixProjARefIdeal.main_arg1) = m' ((c.tc : Thread Cert.MixProjARefIdeal.nD Cert.MixProjARefIdeal.τ).loc Cert.MixProjARefIdeal.main_arg1))

def preserves_MixProjB_MixProjBIdeal : Prop :=
  True

def algebraic_MixProjBIdeal_MixProjBRefIdeal [hMixProjBIdeal : Cert.MixProjBIdeal.Facts] [hMixProjBRefIdeal : Cert.MixProjBRefIdeal.Facts] : Prop :=
  ∀ (m : (ℓ : Loc Cert.MixProjBIdeal.nD Cert.MixProjBIdeal.τ Cert.MixProjBIdeal.sig) → Buf (Elt Ideal) ℓ) (g : Dev Cert.MixProjBIdeal.nD → PrngReg)
    (m' : (ℓ : Loc Cert.MixProjBRefIdeal.nD Cert.MixProjBRefIdeal.τ Cert.MixProjBRefIdeal.sig) → Buf (Elt Ideal) ℓ) (g' : Dev Cert.MixProjBRefIdeal.nD → PrngReg), Pre_MixProjBIdeal m →
    (∀ c : Dev Cert.MixProjBIdeal.nD,
      m' ((c.tc : Thread Cert.MixProjBRefIdeal.nD Cert.MixProjBRefIdeal.τ).loc Cert.MixProjBRefIdeal.main_arg0) = m ((c.tc : Thread Cert.MixProjBIdeal.nD Cert.MixProjBIdeal.τ).loc Cert.MixProjBIdeal.main_arg0)
      ∧ m' ((c.tc : Thread Cert.MixProjBRefIdeal.nD Cert.MixProjBRefIdeal.τ).loc Cert.MixProjBRefIdeal.main_arg1) = m ((c.tc : Thread Cert.MixProjBIdeal.nD Cert.MixProjBIdeal.τ).loc Cert.MixProjBIdeal.main_arg1)) →
    ∃ (v0 : (c : Dev Cert.MixProjBIdeal.nD) → Buf (Elt Ideal) ((c.tc : Thread Cert.MixProjBIdeal.nD Cert.MixProjBIdeal.τ).loc Cert.MixProjBIdeal.main_v1)),
      θ_run (Cert.MixProjBIdeal.defs (F := Ideal)) (onTc (τ := Cert.MixProjBIdeal.τ) (Cert.MixProjBIdeal.main (F := Ideal))) ⟨m, fun _ => 0, g⟩ (fun r => ∀ c : Dev Cert.MixProjBIdeal.nD,
          r.2.mem ((c.tc : Thread Cert.MixProjBIdeal.nD Cert.MixProjBIdeal.τ).loc Cert.MixProjBIdeal.main_v1) = v0 c
          ∧ r.2.mem ((c.tc : Thread Cert.MixProjBIdeal.nD Cert.MixProjBIdeal.τ).loc Cert.MixProjBIdeal.main_arg0) = m ((c.tc : Thread Cert.MixProjBIdeal.nD Cert.MixProjBIdeal.τ).loc Cert.MixProjBIdeal.main_arg0)
          ∧ r.2.mem ((c.tc : Thread Cert.MixProjBIdeal.nD Cert.MixProjBIdeal.τ).loc Cert.MixProjBIdeal.main_arg1) = m ((c.tc : Thread Cert.MixProjBIdeal.nD Cert.MixProjBIdeal.τ).loc Cert.MixProjBIdeal.main_arg1))
      ∧ θ_run (Cert.MixProjBRefIdeal.defs (F := Ideal)) (onTc (τ := Cert.MixProjBRefIdeal.τ) (Cert.MixProjBRefIdeal.main (F := Ideal))) ⟨m', fun _ => 0, g'⟩ (fun r => ∀ c : Dev Cert.MixProjBRefIdeal.nD,
          r.2.mem ((c.tc : Thread Cert.MixProjBRefIdeal.nD Cert.MixProjBRefIdeal.τ).loc Cert.MixProjBRefIdeal.main_v16) = v0 c
          ∧ r.2.mem ((c.tc : Thread Cert.MixProjBRefIdeal.nD Cert.MixProjBRefIdeal.τ).loc Cert.MixProjBRefIdeal.main_arg0) = m' ((c.tc : Thread Cert.MixProjBRefIdeal.nD Cert.MixProjBRefIdeal.τ).loc Cert.MixProjBRefIdeal.main_arg0)
          ∧ r.2.mem ((c.tc : Thread Cert.MixProjBRefIdeal.nD Cert.MixProjBRefIdeal.τ).loc Cert.MixProjBRefIdeal.main_arg1) = m' ((c.tc : Thread Cert.MixProjBRefIdeal.nD Cert.MixProjBRefIdeal.τ).loc Cert.MixProjBRefIdeal.main_arg1))

def preserves_SwigluA_SwigluAIdeal : Prop :=
  True

def algebraic_SwigluAIdeal_SwigluARefIdeal_pre_swiglu_finite [hSwigluAIdeal : Cert.SwigluAIdeal.Facts] [hSwigluARefIdeal : Cert.SwigluARefIdeal.Facts] [hPre_swiglu_finite : Cert.Pre_swiglu_finite.Facts] : Prop :=
  ∀ (m : (ℓ : Loc Cert.SwigluAIdeal.nD Cert.SwigluAIdeal.τ Cert.SwigluAIdeal.sig) → Buf (Elt Ideal) ℓ) (g : Dev Cert.SwigluAIdeal.nD → PrngReg)
    (m' : (ℓ : Loc Cert.SwigluARefIdeal.nD Cert.SwigluARefIdeal.τ Cert.SwigluARefIdeal.sig) → Buf (Elt Ideal) ℓ) (g' : Dev Cert.SwigluARefIdeal.nD → PrngReg), Pre_SwigluAIdeal_swiglu_finite m →
    (∀ c : Dev Cert.SwigluAIdeal.nD,
      m' ((c.tc : Thread Cert.SwigluARefIdeal.nD Cert.SwigluARefIdeal.τ).loc Cert.SwigluARefIdeal.main_arg0) = m ((c.tc : Thread Cert.SwigluAIdeal.nD Cert.SwigluAIdeal.τ).loc Cert.SwigluAIdeal.main_arg0)
      ∧ m' ((c.tc : Thread Cert.SwigluARefIdeal.nD Cert.SwigluARefIdeal.τ).loc Cert.SwigluARefIdeal.main_arg1) = m ((c.tc : Thread Cert.SwigluAIdeal.nD Cert.SwigluAIdeal.τ).loc Cert.SwigluAIdeal.main_arg1)) →
    ∃ (v0 : (c : Dev Cert.SwigluAIdeal.nD) → Buf (Elt Ideal) ((c.tc : Thread Cert.SwigluAIdeal.nD Cert.SwigluAIdeal.τ).loc Cert.SwigluAIdeal.main_v1_0)) (v1 : (c : Dev Cert.SwigluAIdeal.nD) → Buf (Elt Ideal) ((c.tc : Thread Cert.SwigluAIdeal.nD Cert.SwigluAIdeal.τ).loc Cert.SwigluAIdeal.main_v1_1)),
      θ_run (Cert.SwigluAIdeal.defs (F := Ideal)) (onTc (τ := Cert.SwigluAIdeal.τ) (Cert.SwigluAIdeal.main (F := Ideal))) ⟨m, fun _ => 0, g⟩ (fun r => ∀ c : Dev Cert.SwigluAIdeal.nD,
          r.2.mem ((c.tc : Thread Cert.SwigluAIdeal.nD Cert.SwigluAIdeal.τ).loc Cert.SwigluAIdeal.main_v1_0) = v0 c
          ∧ r.2.mem ((c.tc : Thread Cert.SwigluAIdeal.nD Cert.SwigluAIdeal.τ).loc Cert.SwigluAIdeal.main_v1_1) = v1 c
          ∧ r.2.mem ((c.tc : Thread Cert.SwigluAIdeal.nD Cert.SwigluAIdeal.τ).loc Cert.SwigluAIdeal.main_arg0) = m ((c.tc : Thread Cert.SwigluAIdeal.nD Cert.SwigluAIdeal.τ).loc Cert.SwigluAIdeal.main_arg0)
          ∧ r.2.mem ((c.tc : Thread Cert.SwigluAIdeal.nD Cert.SwigluAIdeal.τ).loc Cert.SwigluAIdeal.main_arg1) = m ((c.tc : Thread Cert.SwigluAIdeal.nD Cert.SwigluAIdeal.τ).loc Cert.SwigluAIdeal.main_arg1))
      ∧ θ_run (Cert.SwigluARefIdeal.defs (F := Ideal)) (onTc (τ := Cert.SwigluARefIdeal.τ) (Cert.SwigluARefIdeal.main (F := Ideal))) ⟨m', fun _ => 0, g'⟩ (fun r => ∀ c : Dev Cert.SwigluARefIdeal.nD,
          r.2.mem ((c.tc : Thread Cert.SwigluARefIdeal.nD Cert.SwigluARefIdeal.τ).loc Cert.SwigluARefIdeal.main_v25) = v0 c
          ∧ r.2.mem ((c.tc : Thread Cert.SwigluARefIdeal.nD Cert.SwigluARefIdeal.τ).loc Cert.SwigluARefIdeal.main_v27) = v1 c
          ∧ r.2.mem ((c.tc : Thread Cert.SwigluARefIdeal.nD Cert.SwigluARefIdeal.τ).loc Cert.SwigluARefIdeal.main_arg0) = m' ((c.tc : Thread Cert.SwigluARefIdeal.nD Cert.SwigluARefIdeal.τ).loc Cert.SwigluARefIdeal.main_arg0)
          ∧ r.2.mem ((c.tc : Thread Cert.SwigluARefIdeal.nD Cert.SwigluARefIdeal.τ).loc Cert.SwigluARefIdeal.main_arg1) = m' ((c.tc : Thread Cert.SwigluARefIdeal.nD Cert.SwigluARefIdeal.τ).loc Cert.SwigluARefIdeal.main_arg1))

def preserves_SwigluB_SwigluBIdeal : Prop :=
  True

def algebraic_SwigluBIdeal_SwigluBRefIdeal_pre_swiglu_finite [hSwigluBIdeal : Cert.SwigluBIdeal.Facts] [hSwigluBRefIdeal : Cert.SwigluBRefIdeal.Facts] [hPre_swiglu_finite : Cert.Pre_swiglu_finite.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBRefIdeal.nD Cert.SwigluBRefIdeal.τ Cert.SwigluBRefIdeal.sig) → Buf (Elt Ideal) ℓ) (g' : Dev Cert.SwigluBRefIdeal.nD → PrngReg), Pre_SwigluBIdeal_swiglu_finite m →
    (∀ c : Dev Cert.SwigluBIdeal.nD,
      m' ((c.tc : Thread Cert.SwigluBRefIdeal.nD Cert.SwigluBRefIdeal.τ).loc Cert.SwigluBRefIdeal.main_arg0) = m ((c.tc : Thread Cert.SwigluBIdeal.nD Cert.SwigluBIdeal.τ).loc Cert.SwigluBIdeal.main_arg0)
      ∧ m' ((c.tc : Thread Cert.SwigluBRefIdeal.nD Cert.SwigluBRefIdeal.τ).loc Cert.SwigluBRefIdeal.main_arg1) = m ((c.tc : Thread Cert.SwigluBIdeal.nD Cert.SwigluBIdeal.τ).loc Cert.SwigluBIdeal.main_arg1)) →
    ∃ (v0 : (c : Dev Cert.SwigluBIdeal.nD) → Buf (Elt Ideal) ((c.tc : Thread Cert.SwigluBIdeal.nD Cert.SwigluBIdeal.τ).loc Cert.SwigluBIdeal.main_v1_0)) (v1 : (c : Dev Cert.SwigluBIdeal.nD) → Buf (Elt Ideal) ((c.tc : Thread Cert.SwigluBIdeal.nD Cert.SwigluBIdeal.τ).loc Cert.SwigluBIdeal.main_v1_1)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v1_0) = v0 c
          ∧ r.2.mem ((c.tc : Thread Cert.SwigluBIdeal.nD Cert.SwigluBIdeal.τ).loc Cert.SwigluBIdeal.main_v1_1) = v1 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ θ_run (Cert.SwigluBRefIdeal.defs (F := Ideal)) (onTc (τ := Cert.SwigluBRefIdeal.τ) (Cert.SwigluBRefIdeal.main (F := Ideal))) ⟨m', fun _ => 0, g'⟩ (fun r => ∀ c : Dev Cert.SwigluBRefIdeal.nD,
          r.2.mem ((c.tc : Thread Cert.SwigluBRefIdeal.nD Cert.SwigluBRefIdeal.τ).loc Cert.SwigluBRefIdeal.main_v25) = v0 c
          ∧ r.2.mem ((c.tc : Thread Cert.SwigluBRefIdeal.nD Cert.SwigluBRefIdeal.τ).loc Cert.SwigluBRefIdeal.main_v27) = v1 c
          ∧ r.2.mem ((c.tc : Thread Cert.SwigluBRefIdeal.nD Cert.SwigluBRefIdeal.τ).loc Cert.SwigluBRefIdeal.main_arg0) = m' ((c.tc : Thread Cert.SwigluBRefIdeal.nD Cert.SwigluBRefIdeal.τ).loc Cert.SwigluBRefIdeal.main_arg0)
          ∧ r.2.mem ((c.tc : Thread Cert.SwigluBRefIdeal.nD Cert.SwigluBRefIdeal.τ).loc Cert.SwigluBRefIdeal.main_arg1) = m' ((c.tc : Thread Cert.SwigluBRefIdeal.nD Cert.SwigluBRefIdeal.τ).loc Cert.SwigluBRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v3) = v0 c
          ∧ r.2.mem ((c.tc : Thread Cert.AdamAdaRefIdeal.nD Cert.AdamAdaRefIdeal.τ).loc Cert.AdamAdaRefIdeal.main_v27) = v1 c
          ∧ r.2.mem ((c.tc : Thread Cert.AdamAdaRefIdeal.nD Cert.AdamAdaRefIdeal.τ).loc Cert.AdamAdaRefIdeal.main_v8) = v2 c
          ∧ r.2.mem ((c.tc : Thread Cert.AdamAdaRefIdeal.nD Cert.AdamAdaRefIdeal.τ).loc Cert.AdamAdaRefIdeal.main_v14) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_arg1) = v0 c
          ∧ r.2.mem ((c.tc : Thread Cert.AdamProjRefIdeal.nD Cert.AdamProjRefIdeal.τ).loc Cert.AdamProjRefIdeal.main_v23) = v1 c
          ∧ r.2.mem ((c.tc : Thread Cert.AdamProjRefIdeal.nD Cert.AdamProjRefIdeal.τ).loc Cert.AdamProjRefIdeal.main_v4) = v2 c
          ∧ r.2.mem ((c.tc : Thread Cert.AdamProjRefIdeal.nD Cert.AdamProjRefIdeal.τ).loc Cert.AdamProjRefIdeal.main_v10) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)) (v3 : (c : Dev Cert.AdamMixIdeal.nD) → Buf (Elt Ideal) ((c.tc : Thread Cert.AdamMixIdeal.nD Cert.AdamMixIdeal.τ).loc Cert.AdamMixIdeal.main_v0_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_v0_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_arg1) = v0 c
          ∧ r.2.mem ((c.tc : Thread Cert.AdamMixRefIdeal.nD Cert.AdamMixRefIdeal.τ).loc Cert.AdamMixRefIdeal.main_v23) = v1 c
          ∧ r.2.mem ((c.tc : Thread Cert.AdamMixRefIdeal.nD Cert.AdamMixRefIdeal.τ).loc Cert.AdamMixRefIdeal.main_v4) = v2 c
          ∧ r.2.mem ((c.tc : Thread Cert.AdamMixRefIdeal.nD Cert.AdamMixRefIdeal.τ).loc Cert.AdamMixRefIdeal.main_v10) = v3 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)) (v3 : (c : Dev Cert.AdamAIdeal.nD) → Buf (Elt Ideal) ((c.tc : Thread Cert.AdamAIdeal.nD Cert.AdamAIdeal.τ).loc Cert.AdamAIdeal.main_v0_3)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_v0_3) = v3 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_arg1) = v0 c
          ∧ r.2.mem ((c.tc : Thread Cert.AdamARefIdeal.nD Cert.AdamARefIdeal.τ).loc Cert.AdamARefIdeal.main_v23) = v1 c
          ∧ r.2.mem ((c.tc : Thread Cert.AdamARefIdeal.nD Cert.AdamARefIdeal.τ).loc Cert.AdamARefIdeal.main_v4) = v2 c
          ∧ r.2.mem ((c.tc : Thread Cert.AdamARefIdeal.nD Cert.AdamARefIdeal.τ).loc Cert.AdamARefIdeal.main_v10) = v3 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)) (v3 : (c : Dev Cert.AdamBIdeal.nD) → Buf (Elt Ideal) ((c.tc : Thread Cert.AdamBIdeal.nD Cert.AdamBIdeal.τ).loc Cert.AdamBIdeal.main_v0_3)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_v0_3) = v3 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_arg1) = v0 c
          ∧ r.2.mem ((c.tc : Thread Cert.AdamBRefIdeal.nD Cert.AdamBRefIdeal.τ).loc Cert.AdamBRefIdeal.main_v23) = v1 c
          ∧ r.2.mem ((c.tc : Thread Cert.AdamBRefIdeal.nD Cert.AdamBRefIdeal.τ).loc Cert.AdamBRefIdeal.main_v4) = v2 c
          ∧ r.2.mem ((c.tc : Thread Cert.AdamBRefIdeal.nD Cert.AdamBRefIdeal.τ).loc Cert.AdamBRefIdeal.main_v10) = v3 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hDwOut : Cert.DwOut.Facts) (hDwOutIdeal : Cert.DwOutIdeal.Facts) (hDwOutRefIdeal : Cert.DwOutRefIdeal.Facts) (hDhu : Cert.Dhu.Facts) (hDhuIdeal : Cert.DhuIdeal.Facts) (hDhuRefIdeal : Cert.DhuRefIdeal.Facts) (hDwIn : Cert.DwIn.Facts) (hDwInIdeal : Cert.DwInIdeal.Facts) (hDwInRefIdeal : Cert.DwInRefIdeal.Facts) (hDn : Cert.Dn.Facts) (hDnIdeal : Cert.DnIdeal.Facts) (hDnRefIdeal : Cert.DnRefIdeal.Facts) (hGates : Cert.Gates.Facts) (hGatesIdeal : Cert.GatesIdeal.Facts) (hGatesRefIdeal : Cert.GatesRefIdeal.Facts) (hNorm : Cert.Norm.Facts) (hNormIdeal : Cert.NormIdeal.Facts) (hNormRefIdeal : Cert.NormRefIdeal.Facts) (hMixDwOut : Cert.MixDwOut.Facts) (hMixDwOutIdeal : Cert.MixDwOutIdeal.Facts) (hMixDwOutRefIdeal : Cert.MixDwOutRefIdeal.Facts) (hMixDz : Cert.MixDz.Facts) (hMixDzIdeal : Cert.MixDzIdeal.Facts) (hMixDzRefIdeal : Cert.MixDzRefIdeal.Facts) (hMixDwA : Cert.MixDwA.Facts) (hMixDwAIdeal : Cert.MixDwAIdeal.Facts) (hMixDwARefIdeal : Cert.MixDwARefIdeal.Facts) (hMixDa : Cert.MixDa.Facts) (hMixDaIdeal : Cert.MixDaIdeal.Facts) (hMixDaRefIdeal : Cert.MixDaRefIdeal.Facts) (hMixDwB : Cert.MixDwB.Facts) (hMixDwBIdeal : Cert.MixDwBIdeal.Facts) (hMixDwBRefIdeal : Cert.MixDwBRefIdeal.Facts) (hMixDmixed : Cert.MixDmixed.Facts) (hMixDmixedIdeal : Cert.MixDmixedIdeal.Facts) (hMixDmixedRefIdeal : Cert.MixDmixedRefIdeal.Facts) (hMixDwIn : Cert.MixDwIn.Facts) (hMixDwInIdeal : Cert.MixDwInIdeal.Facts) (hMixDwInRefIdeal : Cert.MixDwInRefIdeal.Facts) (hMixDn : Cert.MixDn.Facts) (hMixDnIdeal : Cert.MixDnIdeal.Facts) (hMixDnRefIdeal : Cert.MixDnRefIdeal.Facts) (hSwiglu : Cert.Swiglu.Facts) (hSwigluIdeal : Cert.SwigluIdeal.Facts) (hSwigluRefIdeal : Cert.SwigluRefIdeal.Facts) (hDown : Cert.Down.Facts) (hDownIdeal : Cert.DownIdeal.Facts) (hDownRefIdeal : Cert.DownRefIdeal.Facts) (hYa : Cert.Ya.Facts) (hYaIdeal : Cert.YaIdeal.Facts) (hYaRefIdeal : Cert.YaRefIdeal.Facts) (hYb : Cert.Yb.Facts) (hYbIdeal : Cert.YbIdeal.Facts) (hYbRefIdeal : Cert.YbRefIdeal.Facts) (hMixOut : Cert.MixOut.Facts) (hMixOutIdeal : Cert.MixOutIdeal.Facts) (hMixOutRefIdeal : Cert.MixOutRefIdeal.Facts) (hNormX : Cert.NormX.Facts) (hNormXIdeal : Cert.NormXIdeal.Facts) (hNormXRefIdeal : Cert.NormXRefIdeal.Facts) (hGatesFwd : Cert.GatesFwd.Facts) (hGatesFwdIdeal : Cert.GatesFwdIdeal.Facts) (hGatesFwdRefIdeal : Cert.GatesFwdRefIdeal.Facts) (hResNorm : Cert.ResNorm.Facts) (hResNormIdeal : Cert.ResNormIdeal.Facts) (hResNormRefIdeal : Cert.ResNormRefIdeal.Facts) (hNormMod : Cert.NormMod.Facts) (hNormModIdeal : Cert.NormModIdeal.Facts) (hNormModRefIdeal : Cert.NormModRefIdeal.Facts) (hFinalLoss : Cert.FinalLoss.Facts) (hFinalLossIdeal : Cert.FinalLossIdeal.Facts) (hFinalLossRefIdeal : Cert.FinalLossRefIdeal.Facts) (hMixProjA : Cert.MixProjA.Facts) (hMixProjAIdeal : Cert.MixProjAIdeal.Facts) (hMixProjARefIdeal : Cert.MixProjARefIdeal.Facts) (hMixProjB : Cert.MixProjB.Facts) (hMixProjBIdeal : Cert.MixProjBIdeal.Facts) (hMixProjBRefIdeal : Cert.MixProjBRefIdeal.Facts) (hSwigluA : Cert.SwigluA.Facts) (hSwigluAIdeal : Cert.SwigluAIdeal.Facts) (hSwigluARefIdeal : Cert.SwigluARefIdeal.Facts) (hSwigluB : Cert.SwigluB.Facts) (hSwigluBIdeal : Cert.SwigluBIdeal.Facts) (hSwigluBRefIdeal : Cert.SwigluBRefIdeal.Facts) (hAdamIn : Cert.AdamIn.Facts) (hAdamInIdeal : Cert.AdamInIdeal.Facts) (hAdamInRefIdeal : Cert.AdamInRefIdeal.Facts) (hAdamAda : Cert.AdamAda.Facts) (hAdamAdaIdeal : Cert.AdamAdaIdeal.Facts) (hAdamAdaRefIdeal : Cert.AdamAdaRefIdeal.Facts) (hAdamOut : Cert.AdamOut.Facts) (hAdamOutIdeal : Cert.AdamOutIdeal.Facts) (hAdamOutRefIdeal : Cert.AdamOutRefIdeal.Facts) (hAdamProj : Cert.AdamProj.Facts) (hAdamProjIdeal : Cert.AdamProjIdeal.Facts) (hAdamProjRefIdeal : Cert.AdamProjRefIdeal.Facts) (hAdamMix : Cert.AdamMix.Facts) (hAdamMixIdeal : Cert.AdamMixIdeal.Facts) (hAdamMixRefIdeal : Cert.AdamMixRefIdeal.Facts) (hAdamA : Cert.AdamA.Facts) (hAdamAIdeal : Cert.AdamAIdeal.Facts) (hAdamARefIdeal : Cert.AdamARefIdeal.Facts) (hAdamB : Cert.AdamB.Facts) (hAdamBIdeal : Cert.AdamBIdeal.Facts) (hAdamBRefIdeal : Cert.AdamBRefIdeal.Facts) (hAdamSmall : Cert.AdamSmall.Facts) (hAdamSmallIdeal : Cert.AdamSmallIdeal.Facts) (hAdamSmallRefIdeal : Cert.AdamSmallRefIdeal.Facts) (hPre_dmixed_finite : Cert.Pre_dmixed_finite.Facts) (hPre_dhu_finite : Cert.Pre_dhu_finite.Facts) (hPre_swiglu_finite : Cert.Pre_swiglu_finite.Facts),
    quiescent_Kernel (hKernel := hKernel)
    ∧ quiescent_KernelIdeal (hKernelIdeal := hKernelIdeal)
    ∧ quiescent_KernelIdeal_pre_dmixed_finite (hKernelIdeal := hKernelIdeal) (hPre_dmixed_finite := hPre_dmixed_finite)
    ∧ quiescent_ReferenceIdeal (hReferenceIdeal := hReferenceIdeal)
    ∧ quiescent_ReferenceIdeal_pre_dmixed_finite (hReferenceIdeal := hReferenceIdeal) (hPre_dmixed_finite := hPre_dmixed_finite)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dhu (hDhu := hDhu)
    ∧ quiescent_DhuIdeal (hDhuIdeal := hDhuIdeal)
    ∧ quiescent_DhuIdeal_pre_dhu_finite (hDhuIdeal := hDhuIdeal) (hPre_dhu_finite := hPre_dhu_finite)
    ∧ quiescent_DhuRefIdeal (hDhuRefIdeal := hDhuRefIdeal)
    ∧ quiescent_DhuRefIdeal_pre_dhu_finite (hDhuRefIdeal := hDhuRefIdeal) (hPre_dhu_finite := hPre_dhu_finite)
    ∧ quiescent_DwIn (hDwIn := hDwIn)
    ∧ quiescent_DwInIdeal (hDwInIdeal := hDwInIdeal)
    ∧ quiescent_DwInRefIdeal (hDwInRefIdeal := hDwInRefIdeal)
    ∧ quiescent_Dn (hDn := hDn)
    ∧ quiescent_DnIdeal (hDnIdeal := hDnIdeal)
    ∧ quiescent_DnRefIdeal (hDnRefIdeal := hDnRefIdeal)
    ∧ quiescent_Gates (hGates := hGates)
    ∧ quiescent_GatesIdeal (hGatesIdeal := hGatesIdeal)
    ∧ quiescent_GatesRefIdeal (hGatesRefIdeal := hGatesRefIdeal)
    ∧ quiescent_Norm (hNorm := hNorm)
    ∧ quiescent_NormIdeal (hNormIdeal := hNormIdeal)
    ∧ quiescent_NormRefIdeal (hNormRefIdeal := hNormRefIdeal)
    ∧ quiescent_MixDwOut (hMixDwOut := hMixDwOut)
    ∧ quiescent_MixDwOutIdeal (hMixDwOutIdeal := hMixDwOutIdeal)
    ∧ quiescent_MixDwOutRefIdeal (hMixDwOutRefIdeal := hMixDwOutRefIdeal)
    ∧ quiescent_MixDz (hMixDz := hMixDz)
    ∧ quiescent_MixDzIdeal (hMixDzIdeal := hMixDzIdeal)
    ∧ quiescent_MixDzRefIdeal (hMixDzRefIdeal := hMixDzRefIdeal)
    ∧ quiescent_MixDwA (hMixDwA := hMixDwA)
    ∧ quiescent_MixDwAIdeal (hMixDwAIdeal := hMixDwAIdeal)
    ∧ quiescent_MixDwARefIdeal (hMixDwARefIdeal := hMixDwARefIdeal)
    ∧ quiescent_MixDa (hMixDa := hMixDa)
    ∧ quiescent_MixDaIdeal (hMixDaIdeal := hMixDaIdeal)
    ∧ quiescent_MixDaRefIdeal (hMixDaRefIdeal := hMixDaRefIdeal)
    ∧ quiescent_MixDwB (hMixDwB := hMixDwB)
    ∧ quiescent_MixDwBIdeal (hMixDwBIdeal := hMixDwBIdeal)
    ∧ quiescent_MixDwBRefIdeal (hMixDwBRefIdeal := hMixDwBRefIdeal)
    ∧ quiescent_MixDmixed (hMixDmixed := hMixDmixed)
    ∧ quiescent_MixDmixedIdeal (hMixDmixedIdeal := hMixDmixedIdeal)
    ∧ quiescent_MixDmixedRefIdeal (hMixDmixedRefIdeal := hMixDmixedRefIdeal)
    ∧ quiescent_MixDwIn (hMixDwIn := hMixDwIn)
    ∧ quiescent_MixDwInIdeal (hMixDwInIdeal := hMixDwInIdeal)
    ∧ quiescent_MixDwInRefIdeal (hMixDwInRefIdeal := hMixDwInRefIdeal)
    ∧ quiescent_MixDn (hMixDn := hMixDn)
    ∧ quiescent_MixDnIdeal (hMixDnIdeal := hMixDnIdeal)
    ∧ quiescent_MixDnRefIdeal (hMixDnRefIdeal := hMixDnRefIdeal)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_Down (hDown := hDown)
    ∧ quiescent_DownIdeal (hDownIdeal := hDownIdeal)
    ∧ quiescent_DownRefIdeal (hDownRefIdeal := hDownRefIdeal)
    ∧ quiescent_Ya (hYa := hYa)
    ∧ quiescent_YaIdeal (hYaIdeal := hYaIdeal)
    ∧ quiescent_YaRefIdeal (hYaRefIdeal := hYaRefIdeal)
    ∧ quiescent_Yb (hYb := hYb)
    ∧ quiescent_YbIdeal (hYbIdeal := hYbIdeal)
    ∧ quiescent_YbRefIdeal (hYbRefIdeal := hYbRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_NormX (hNormX := hNormX)
    ∧ quiescent_NormXIdeal (hNormXIdeal := hNormXIdeal)
    ∧ quiescent_NormXRefIdeal (hNormXRefIdeal := hNormXRefIdeal)
    ∧ quiescent_GatesFwd (hGatesFwd := hGatesFwd)
    ∧ quiescent_GatesFwdIdeal (hGatesFwdIdeal := hGatesFwdIdeal)
    ∧ quiescent_GatesFwdRefIdeal (hGatesFwdRefIdeal := hGatesFwdRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_MixProjA (hMixProjA := hMixProjA)
    ∧ quiescent_MixProjAIdeal (hMixProjAIdeal := hMixProjAIdeal)
    ∧ quiescent_MixProjARefIdeal (hMixProjARefIdeal := hMixProjARefIdeal)
    ∧ quiescent_MixProjB (hMixProjB := hMixProjB)
    ∧ quiescent_MixProjBIdeal (hMixProjBIdeal := hMixProjBIdeal)
    ∧ quiescent_MixProjBRefIdeal (hMixProjBRefIdeal := hMixProjBRefIdeal)
    ∧ quiescent_SwigluA (hSwigluA := hSwigluA)
    ∧ quiescent_SwigluAIdeal (hSwigluAIdeal := hSwigluAIdeal)
    ∧ quiescent_SwigluAIdeal_pre_swiglu_finite (hSwigluAIdeal := hSwigluAIdeal) (hPre_swiglu_finite := hPre_swiglu_finite)
    ∧ quiescent_SwigluARefIdeal (hSwigluARefIdeal := hSwigluARefIdeal)
    ∧ quiescent_SwigluARefIdeal_pre_swiglu_finite (hSwigluARefIdeal := hSwigluARefIdeal) (hPre_swiglu_finite := hPre_swiglu_finite)
    ∧ quiescent_SwigluB (hSwigluB := hSwigluB)
    ∧ quiescent_SwigluBIdeal (hSwigluBIdeal := hSwigluBIdeal)
    ∧ quiescent_SwigluBIdeal_pre_swiglu_finite (hSwigluBIdeal := hSwigluBIdeal) (hPre_swiglu_finite := hPre_swiglu_finite)
    ∧ quiescent_SwigluBRefIdeal (hSwigluBRefIdeal := hSwigluBRefIdeal)
    ∧ quiescent_SwigluBRefIdeal_pre_swiglu_finite (hSwigluBRefIdeal := hSwigluBRefIdeal) (hPre_swiglu_finite := hPre_swiglu_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_dmixed_finite (hKernelIdeal := hKernelIdeal) (hReferenceIdeal := hReferenceIdeal) (hPre_dmixed_finite := hPre_dmixed_finite)
    ∧ preserves_DwOut_DwOutIdeal
    ∧ algebraic_DwOutIdeal_DwOutRefIdeal (hDwOutIdeal := hDwOutIdeal) (hDwOutRefIdeal := hDwOutRefIdeal)
    ∧ preserves_Dhu_DhuIdeal
    ∧ algebraic_DhuIdeal_DhuRefIdeal_pre_dhu_finite (hDhuIdeal := hDhuIdeal) (hDhuRefIdeal := hDhuRefIdeal) (hPre_dhu_finite := hPre_dhu_finite)
    ∧ preserves_DwIn_DwInIdeal
    ∧ algebraic_DwInIdeal_DwInRefIdeal (hDwInIdeal := hDwInIdeal) (hDwInRefIdeal := hDwInRefIdeal)
    ∧ preserves_Dn_DnIdeal
    ∧ algebraic_DnIdeal_DnRefIdeal (hDnIdeal := hDnIdeal) (hDnRefIdeal := hDnRefIdeal)
    ∧ preserves_Gates_GatesIdeal
    ∧ algebraic_GatesIdeal_GatesRefIdeal (hGatesIdeal := hGatesIdeal) (hGatesRefIdeal := hGatesRefIdeal)
    ∧ preserves_Norm_NormIdeal
    ∧ algebraic_NormIdeal_NormRefIdeal (hNormIdeal := hNormIdeal) (hNormRefIdeal := hNormRefIdeal)
    ∧ preserves_MixDwOut_MixDwOutIdeal
    ∧ algebraic_MixDwOutIdeal_MixDwOutRefIdeal (hMixDwOutIdeal := hMixDwOutIdeal) (hMixDwOutRefIdeal := hMixDwOutRefIdeal)
    ∧ preserves_MixDz_MixDzIdeal
    ∧ algebraic_MixDzIdeal_MixDzRefIdeal (hMixDzIdeal := hMixDzIdeal) (hMixDzRefIdeal := hMixDzRefIdeal)
    ∧ preserves_MixDwA_MixDwAIdeal
    ∧ algebraic_MixDwAIdeal_MixDwARefIdeal (hMixDwAIdeal := hMixDwAIdeal) (hMixDwARefIdeal := hMixDwARefIdeal)
    ∧ preserves_MixDa_MixDaIdeal
    ∧ algebraic_MixDaIdeal_MixDaRefIdeal (hMixDaIdeal := hMixDaIdeal) (hMixDaRefIdeal := hMixDaRefIdeal)
    ∧ preserves_MixDwB_MixDwBIdeal
    ∧ algebraic_MixDwBIdeal_MixDwBRefIdeal (hMixDwBIdeal := hMixDwBIdeal) (hMixDwBRefIdeal := hMixDwBRefIdeal)
    ∧ preserves_MixDmixed_MixDmixedIdeal
    ∧ algebraic_MixDmixedIdeal_MixDmixedRefIdeal (hMixDmixedIdeal := hMixDmixedIdeal) (hMixDmixedRefIdeal := hMixDmixedRefIdeal)
    ∧ preserves_MixDwIn_MixDwInIdeal
    ∧ algebraic_MixDwInIdeal_MixDwInRefIdeal (hMixDwInIdeal := hMixDwInIdeal) (hMixDwInRefIdeal := hMixDwInRefIdeal)
    ∧ preserves_MixDn_MixDnIdeal
    ∧ algebraic_MixDnIdeal_MixDnRefIdeal (hMixDnIdeal := hMixDnIdeal) (hMixDnRefIdeal := hMixDnRefIdeal)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_Down_DownIdeal
    ∧ algebraic_DownIdeal_DownRefIdeal (hDownIdeal := hDownIdeal) (hDownRefIdeal := hDownRefIdeal)
    ∧ preserves_Ya_YaIdeal
    ∧ algebraic_YaIdeal_YaRefIdeal (hYaIdeal := hYaIdeal) (hYaRefIdeal := hYaRefIdeal)
    ∧ preserves_Yb_YbIdeal
    ∧ algebraic_YbIdeal_YbRefIdeal (hYbIdeal := hYbIdeal) (hYbRefIdeal := hYbRefIdeal)
    ∧ preserves_MixOut_MixOutIdeal
    ∧ algebraic_MixOutIdeal_MixOutRefIdeal (hMixOutIdeal := hMixOutIdeal) (hMixOutRefIdeal := hMixOutRefIdeal)
    ∧ preserves_NormX_NormXIdeal
    ∧ algebraic_NormXIdeal_NormXRefIdeal (hNormXIdeal := hNormXIdeal) (hNormXRefIdeal := hNormXRefIdeal)
    ∧ preserves_GatesFwd_GatesFwdIdeal
    ∧ algebraic_GatesFwdIdeal_GatesFwdRefIdeal (hGatesFwdIdeal := hGatesFwdIdeal) (hGatesFwdRefIdeal := hGatesFwdRefIdeal)
    ∧ preserves_ResNorm_ResNormIdeal
    ∧ algebraic_ResNormIdeal_ResNormRefIdeal (hResNormIdeal := hResNormIdeal) (hResNormRefIdeal := hResNormRefIdeal)
    ∧ preserves_NormMod_NormModIdeal
    ∧ algebraic_NormModIdeal_NormModRefIdeal (hNormModIdeal := hNormModIdeal) (hNormModRefIdeal := hNormModRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_MixProjA_MixProjAIdeal
    ∧ algebraic_MixProjAIdeal_MixProjARefIdeal (hMixProjAIdeal := hMixProjAIdeal) (hMixProjARefIdeal := hMixProjARefIdeal)
    ∧ preserves_MixProjB_MixProjBIdeal
    ∧ algebraic_MixProjBIdeal_MixProjBRefIdeal (hMixProjBIdeal := hMixProjBIdeal) (hMixProjBRefIdeal := hMixProjBRefIdeal)
    ∧ preserves_SwigluA_SwigluAIdeal
    ∧ algebraic_SwigluAIdeal_SwigluARefIdeal_pre_swiglu_finite (hSwigluAIdeal := hSwigluAIdeal) (hSwigluARefIdeal := hSwigluARefIdeal) (hPre_swiglu_finite := hPre_swiglu_finite)
    ∧ preserves_SwigluB_SwigluBIdeal
    ∧ algebraic_SwigluBIdeal_SwigluBRefIdeal_pre_swiglu_finite (hSwigluBIdeal := hSwigluBIdeal) (hSwigluBRefIdeal := hSwigluBRefIdeal) (hPre_swiglu_finite := hPre_swiglu_finite)
    ∧ preserves_AdamIn_AdamInIdeal
    ∧ algebraic_AdamInIdeal_AdamInRefIdeal (hAdamInIdeal := hAdamInIdeal) (hAdamInRefIdeal := hAdamInRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamA_AdamAIdeal
    ∧ algebraic_AdamAIdeal_AdamARefIdeal (hAdamAIdeal := hAdamAIdeal) (hAdamARefIdeal := hAdamARefIdeal)
    ∧ preserves_AdamB_AdamBIdeal
    ∧ algebraic_AdamBIdeal_AdamBRefIdeal (hAdamBIdeal := hAdamBIdeal) (hAdamBRefIdeal := hAdamBRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_dhu_finite.lean ====
abbrev S4096x5632 : Shape := ⟨2, ![4096, 5632]⟩
abbrev S4096x2048 : Shape := ⟨2, ![4096, 2048]⟩
abbrev S5632x2048 : Shape := ⟨2, ![5632, 2048]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn {F : FTy → Type} [FloatOps F] (main_arg0 : FVec F S4096x5632 .f32) (main_arg1 : FVec F S4096x5632 .f32) (main_arg2 : FVec F S4096x2048 .bf16) (main_arg3 : FVec F S5632x2048 .bf16) : IVec S_ 1 :=
  let main_v0 : FVec F S4096x5632 .f32 := Host.absf main_arg1
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x2048 .f32 := (extf .f32 · bitsLt_bf16_f32) main_arg2
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S5632x2048 .f32 := (extf .f32 · bitsLt_bf16_f32) main_arg3
  let main_v11 : FVec F S5632x2048 .f32 := Host.absf main_v10
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : IVec S_ 1 := andi main_v9 main_v14
  main_v15
-- ==== Pre_dmixed_finite.lean ====
abbrev S4x4096x1792 : Shape := ⟨3, ![4, 4096, 1792]⟩
abbrev S4096x1024 : Shape := ⟨2, ![4096, 1024]⟩
abbrev S4096x4096 : Shape := ⟨2, ![4096, 4096]⟩
abbrev S32x1024 : Shape := ⟨2, ![32, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4x4096x1792 .bf16) (main_arg1 : FVec F S4096x1024 .f32) (main_arg2 : FVec F S4096x1024 .bf16) (main_arg3 : FVec F S4096x4096 .bf16) (main_arg4 : FVec F S32x1024 .f32) : IVec S4096x1024 1 :=
  let main_v0 : FVec F S4096x1024 .f32 := (extf .f32 · bitsLt_bf16_f32) main_arg2
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== Pre_swiglu_finite.lean ====
abbrev S4096x2048 : Shape := ⟨2, ![4096, 2048]⟩
abbrev S4x2048x2816 : Shape := ⟨3, ![4, 2048, 2816]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2816 : S_.BroadcastsInDim S4x2048x2816 (![] : Fin 0 → Fin S4x2048x2816.rank)
  reducesTo_S4x2048x2816_S_d0_1_2 : S4x2048x2816.ReducesTo [0, 1, 2] S_

variable [Facts]

def fn {F : FTy → Type} [FloatOps F] (main_arg0 : FVec F S4096x2048 .bf16) (main_arg1 : FVec F S4x2048x2816 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x2048x2816 .f32 := (extf .f32 · bitsLt_bf16_f32) main_arg1
  let main_v6 : FVec F S4x2048x2816 .f32 := Host.absf main_v5
  let main_cst_0 : FVec F S_ .f32 := constant S_ .f32 0x7F800000#32
  let main_v7 : FVec F S4x2048x2816 .f32 := broadcastInDim S4x2048x2816 ![] bcast_S_S4x2048x2816 main_cst_0
  let main_v8 : IVec S4x2048x2816 1 := cmpf .olt main_v6 main_v7
  let main_c_1 : IVec S_ 1 := constantI S_ 1 1#1
  let main_v9 : IVec S_ 1 := (fun x v => Host.reduce IntOp.andi x v reducesTo_S4x2048x2816_S_d0_1_2 h_S_) main_v8 main_c_1
  let main_v10 : IVec S_ 1 := andi main_v4 main_v9
  main_v10
-- ==== Kernel.lean ====
abbrev S4x4096x1792 : Shape := ⟨3, ![4, 4096, 1792]⟩
abbrev S4096x1024 : Shape := ⟨2, ![4096, 1024]⟩
abbrev S4096x4096 : Shape := ⟨2, ![4096, 4096]⟩
abbrev S32x1024 : Shape := ⟨2, ![32, 1024]⟩
abbrev S2x256x1792 : Shape := ⟨3, ![2, 256, 1792]⟩
abbrev S256x1024 : Shape := ⟨2, ![256, 1024]⟩
abbrev S256x4096 : Shape := ⟨2, ![256, 4096]⟩
abbrev S4x256x1792 : Shape := ⟨3, ![4, 256, 1792]⟩
abbrev S288x1024 : Shape := ⟨2, ![288, 1024]⟩
abbrev S7x280x1024 : Shape := ⟨3, ![7, 280, 1024]⟩
abbrev S288x1 : Shape := ⟨2, ![288, 1]⟩
abbrev S288x256 : Shape := ⟨2, ![288, 256]⟩
abbrev S280x1024 : Shape := ⟨2, ![280, 1024]⟩
abbrev S1x280x1024 : Shape := ⟨3, ![1, 280, 1024]⟩
abbrev S1x1024 : Shape := ⟨2, ![1, 1024]⟩
abbrev S1x32x1024 : Shape := ⟨3, ![1, 32, 1024]⟩
abbrev S1x32x768 : Shape := ⟨3, ![1, 32, 768]⟩
abbrev S32x768 : Shape := ⟨2, ![32, 768]⟩
abbrev S1x32x256 : Shape := ⟨3, ![1, 32, 256]⟩
abbrev S32x256 : Shape := ⟨2, ![32, 256]⟩
abbrev S256x512 : Shape := ⟨2, ![256, 512]⟩
abbrev S1x256x512 : Shape := ⟨3, ![1, 256, 512]⟩
abbrev S256x1792 : Shape := ⟨2, ![256, 1792]⟩
abbrev S1x256x1792 : Shape := ⟨3, ![1, 256, 1792]⟩

abbrev nBuf : Space → Nat
  | .hbm => 6
  | .vmem => 19
  | .smem => 0
  | _ => 0

abbrev bufTy : (tb : Table) → Fin (tcTables nBuf tb) → BufTy
  | .hbm, ⟨0, _⟩ => ⟨S4x4096x1792, .bf16⟩
  | .hbm, ⟨1, _⟩ => ⟨S4096x1024, .f32⟩
  | .hbm, ⟨2, _⟩ => ⟨S4096x1024, .bf16⟩
  | .hbm, ⟨3, _⟩ => ⟨S4096x4096, .bf16⟩
  | .hbm, ⟨4, _⟩ => ⟨S32x1024, .f32⟩
  | .hbm, ⟨5, _⟩ => ⟨S4x4096x1792, .bf16⟩
  | .local _ .vmem, ⟨0, _⟩ => ⟨S2x256x1792, .bf16⟩
  | .local _ .vmem, ⟨1, _⟩ => ⟨S2x256x1792, .bf16⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S256x1024, .bf16⟩
  | .local _ .vmem, ⟨7, _⟩ => ⟨S256x1024, .bf16⟩
  | .local _ .vmem, ⟨8, _⟩ => ⟨S32x1024, .bf16⟩
  | .local _ .vmem, ⟨9, _⟩ => ⟨S32x1024, .bf16⟩
  | .local _ .vmem, ⟨10, _⟩ => ⟨S256x4096, .bf16⟩
  | .local _ .vmem, ⟨11, _⟩ => ⟨S256x4096, .bf16⟩
  | .local _ .vmem, ⟨12, _⟩ => ⟨S32x1024, .f32⟩
  | .local _ .vmem, ⟨13, _⟩ => ⟨S4x256x1792, .bf16⟩
  | .local _ .vmem, ⟨14, _⟩ => ⟨S4x256x1792, .bf16⟩
  | .local _ .vmem, ⟨15, _⟩ => ⟨S288x1024, .f32⟩
  | .local _ .vmem, ⟨16, _⟩ => ⟨S288x1024, .f32⟩
  | .local _ .vmem, ⟨17, _⟩ => ⟨S7x280x1024, .f32⟩
  | .local _ .vmem, ⟨18, _⟩ => ⟨S7x280x1024, .f32⟩
  | _, _ => ⟨S4x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32_83 : BitVec 32 := 8#32
  let v122 : BitVec 32 := Scalar.addi c0_i32 c8_i32_83
  let c1_i32_84 : BitVec 32 := 1#32
  ⟨c0_i32, v122, c1_i32_84⟩
def k0_mult1 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  v136
def k0_mult2 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32 : BitVec 32 := 24#32
  let v139 : BitVec 32 := Scalar.addi v137 c24_i32
  v139
def k0_off1 (k0_t1 : Fin k0_t1_loop.trips) (c24_i32 : BitVec 32) : Fin 3 → Nat :=
  let c5_98 : Index := 5#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v139 : BitVec 32 := Scalar.addi v137 c24_i32
  let v140 : BitVec 32 := v139
  let v141 : Index := Scalar.indexCast v140
  let c0_99 : Index := 0#32
  ![5, v141.toNat, 0]
def k0_mult3 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32_102 : BitVec 32 := 24#32
  let v147 : BitVec 32 := Scalar.addi v137 c24_i32_102
  v147
def k0_off2 (k0_t1 : Fin k0_t1_loop.trips) (c24_i32_102 : BitVec 32) : Fin 3 → Nat :=
  let c4_103 : Index := 4#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v147 : BitVec 32 := Scalar.addi v137 c24_i32_102
  let v148 : BitVec 32 := v147
  let v149 : Index := Scalar.indexCast v148
  let c0_104 : Index := 0#32
  ![4, v149.toNat, 0]
def k0_mult4 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32_107 : BitVec 32 := 24#32
  let v156 : BitVec 32 := Scalar.addi v137 c24_i32_107
  v156
def k0_off3 (k0_t1 : Fin k0_t1_loop.trips) (c24_i32_107 : BitVec 32) : Fin 3 → Nat :=
  let c3_108 : Index := 3#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v156 : BitVec 32 := Scalar.addi v137 c24_i32_107
  let v157 : BitVec 32 := v156
  let v158 : Index := Scalar.indexCast v157
  let c0_109 : Index := 0#32
  ![3, v158.toNat, 0]
def k0_mult5 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32_112 : BitVec 32 := 24#32
  let v165 : BitVec 32 := Scalar.addi v137 c24_i32_112
  v165
def k0_off4 (k0_t1 : Fin k0_t1_loop.trips) (c24_i32_112 : BitVec 32) : Fin 3 → Nat :=
  let c2_113 : Index := 2#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v165 : BitVec 32 := Scalar.addi v137 c24_i32_112
  let v166 : BitVec 32 := v165
  let v167 : Index := Scalar.indexCast v166
  let c0_114 : Index := 0#32
  ![2, v167.toNat, 0]
def k0_mult6 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32_117 : BitVec 32 := 24#32
  let v174 : BitVec 32 := Scalar.addi v137 c24_i32_117
  v174
def k0_off5 (k0_t1 : Fin k0_t1_loop.trips) (c24_i32_117 : BitVec 32) : Fin 3 → Nat :=
  let c1_118 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v174 : BitVec 32 := Scalar.addi v137 c24_i32_117
  let v175 : BitVec 32 := v174
  let v176 : Index := Scalar.indexCast v175
  let c0_119 : Index := 0#32
  ![1, v176.toNat, 0]
def k0_mult7 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32_122 : BitVec 32 := 24#32
  let v183 : BitVec 32 := Scalar.addi v137 c24_i32_122
  v183
def k0_off6 (k0_t1 : Fin k0_t1_loop.trips) (c24_i32_122 : BitVec 32) : Fin 3 → Nat :=
  let c0_123 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v183 : BitVec 32 := Scalar.addi v137 c24_i32_122
  let v184 : BitVec 32 := v183
  let v185 : Index := Scalar.indexCast v184
  let c0_124 : Index := 0#32
  ![0, v185.toNat, 0]
def k0_mult8 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c24_i32_127 : BitVec 32 := 24#32
  let v192 : BitVec 32 := Scalar.addi v137 c24_i32_127
  v192
def k0_off7 (k0_t1 : Fin k0_t1_loop.trips) (c24_i32_127 : BitVec 32) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v192 : BitVec 32 := Scalar.addi v137 c24_i32_127
  let v193 : BitVec 32 := v192
  let v194 : Index := Scalar.indexCast v193
  let c0_128 : Index := 0#32
  ![v194.toNat, 0]
def k0_mult9 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_131 : BitVec 32 := 16#32
  let v200 : BitVec 32 := Scalar.addi v137 c16_i32_131
  v200
def k0_off8 (k0_t1 : Fin k0_t1_loop.trips) (c16_i32_131 : BitVec 32) : Fin 3 → Nat :=
  let c6_132 : Index := 6#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v200 : BitVec 32 := Scalar.addi v137 c16_i32_131
  let v201 : BitVec 32 := v200
  let v202 : Index := Scalar.indexCast v201
  let c0_133 : Index := 0#32
  ![6, v202.toNat, 0]
def k0_mult10 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_135 : BitVec 32 := 16#32
  let v209 : BitVec 32 := Scalar.addi v137 c16_i32_135
  v209
def k0_mult11 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_139 : BitVec 32 := 16#32
  let v218 : BitVec 32 := Scalar.addi v137 c16_i32_139
  v218
def k0_mult12 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_143 : BitVec 32 := 16#32
  let v227 : BitVec 32 := Scalar.addi v137 c16_i32_143
  v227
def k0_mult13 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_147 : BitVec 32 := 16#32
  let v236 : BitVec 32 := Scalar.addi v137 c16_i32_147
  v236
def k0_mult14 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_151 : BitVec 32 := 16#32
  let v245 : BitVec 32 := Scalar.addi v137 c16_i32_151
  v245
def k0_mult15 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_155 : BitVec 32 := 16#32
  let v254 : BitVec 32 := Scalar.addi v137 c16_i32_155
  v254
def k0_mult16 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c16_i32_159 : BitVec 32 := 16#32
  let v263 : BitVec 32 := Scalar.addi v137 c16_i32_159
  v263
def k0_mult17 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_162 : BitVec 32 := 8#32
  let v271 : BitVec 32 := Scalar.addi v137 c8_i32_162
  v271
def k0_mult18 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_166 : BitVec 32 := 8#32
  let v280 : BitVec 32 := Scalar.addi v137 c8_i32_166
  v280
def k0_mult19 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_170 : BitVec 32 := 8#32
  let v289 : BitVec 32 := Scalar.addi v137 c8_i32_170
  v289
def k0_mult20 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_174 : BitVec 32 := 8#32
  let v298 : BitVec 32 := Scalar.addi v137 c8_i32_174
  v298
def k0_mult21 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_178 : BitVec 32 := 8#32
  let v307 : BitVec 32 := Scalar.addi v137 c8_i32_178
  v307
def k0_mult22 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_182 : BitVec 32 := 8#32
  let v316 : BitVec 32 := Scalar.addi v137 c8_i32_182
  v316
def k0_mult23 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_186 : BitVec 32 := 8#32
  let v325 : BitVec 32 := Scalar.addi v137 c8_i32_186
  v325
def k0_mult24 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_190 : BitVec 32 := 8#32
  let v334 : BitVec 32 := Scalar.addi v137 c8_i32_190
  v334
def k0_mult25 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_193 : BitVec 32 := 0#32
  let v342 : BitVec 32 := Scalar.addi v137 c0_i32_193
  v342
def k0_mult26 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_197 : BitVec 32 := 0#32
  let v351 : BitVec 32 := Scalar.addi v137 c0_i32_197
  v351
def k0_mult27 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_201 : BitVec 32 := 0#32
  let v360 : BitVec 32 := Scalar.addi v137 c0_i32_201
  v360
def k0_mult28 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_205 : BitVec 32 := 0#32
  let v369 : BitVec 32 := Scalar.addi v137 c0_i32_205
  v369
def k0_mult29 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_209 : BitVec 32 := 0#32
  let v378 : BitVec 32 := Scalar.addi v137 c0_i32_209
  v378
def k0_mult30 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_213 : BitVec 32 := 0#32
  let v387 : BitVec 32 := Scalar.addi v137 c0_i32_213
  v387
def k0_mult31 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_217 : BitVec 32 := 0#32
  let v396 : BitVec 32 := Scalar.addi v137 c0_i32_217
  v396
def k0_mult32 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_221 : BitVec 32 := 0#32
  let v405 : BitVec 32 := Scalar.addi v137 c0_i32_221
  v405
def k0_off9 (k0_t1 : Fin k0_t1_loop.trips) : Fin 3 → Nat :=
  let c0_223 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v412 : Index := Scalar.indexCast v137
  let c0_224 : Index := 0#32
  ![0, v412.toNat, 0]
def k0_off10 (k0_t1 : Fin k0_t1_loop.trips) : Fin 3 → Nat :=
  let c0_225 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v416 : Index := Scalar.indexCast v137
  let c1024 : Index := 1024#32
  ![0, v416.toNat, 1024]
def k0_off11 (k0_t1 : Fin k0_t1_loop.trips) : Fin 3 → Nat :=
  let c1_226 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v420 : Index := Scalar.indexCast v137
  let c0_227 : Index := 0#32
  ![1, v420.toNat, 0]
def k0_off12 (k0_t1 : Fin k0_t1_loop.trips) : Fin 3 → Nat :=
  let c0_231 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v434 : Index := Scalar.indexCast v137
  let c0_232 : Index := 0#32
  ![0, v434.toNat, 0]
def k0_off13 (k0_t1 : Fin k0_t1_loop.trips) : Fin 3 → Nat :=
  let c0_234 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v445 : Index := Scalar.indexCast v137
  let c1024_235 : Index := 1024#32
  ![0, v445.toNat, 1024]
def k0_off14 (k0_t1 : Fin k0_t1_loop.trips) : Fin 3 → Nat :=
  let c1_236 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v450 : Index := Scalar.indexCast v137
  let c0_237 : Index := 0#32
  ![1, v450.toNat, 0]
def k0_mult33 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_238 : BitVec 32 := 0#32
  let v454 : BitVec 32 := Scalar.addi v137 c0_i32_238
  v454
def k0_off15 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_238 : BitVec 32 := 0#32
  let v454 : BitVec 32 := Scalar.addi v137 c0_i32_238
  let v455 : BitVec 32 := v454
  let v456 : Index := Scalar.indexCast v455
  let c0_239 : Index := 0#32
  ![v456.toNat, 0]
def k0_mult34 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_240 : BitVec 32 := 0#32
  let v458 : BitVec 32 := Scalar.addi v137 c0_i32_240
  v458
def k0_off16 (k0_t1 : Fin k0_t1_loop.trips) : Fin 3 → Nat :=
  let c0_241 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_240 : BitVec 32 := 0#32
  let v458 : BitVec 32 := Scalar.addi v137 c0_i32_240
  let v459 : BitVec 32 := v458
  let v460 : Index := Scalar.indexCast v459
  let c0_242 : Index := 0#32
  ![0, v460.toNat, 0]
def k0_off17 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v464 : Index := Scalar.indexCast v137
  let c0_243 : Index := 0#32
  ![v464.toNat, 0]
def k0_mult35 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_244 : BitVec 32 := 0#32
  let v468 : BitVec 32 := Scalar.addi v137 c0_i32_244
  v468
def k0_off18 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_244 : BitVec 32 := 0#32
  let v468 : BitVec 32 := Scalar.addi v137 c0_i32_244
  let v469 : BitVec 32 := v468
  let v470 : Index := Scalar.indexCast v469
  let c256_245 : Index := 256#32
  ![v470.toNat, 256]
def k0_mult36 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_246 : BitVec 32 := 0#32
  let v472 : BitVec 32 := Scalar.addi v137 c0_i32_246
  v472
def k0_off19 (k0_t1 : Fin k0_t1_loop.trips) : Fin 3 → Nat :=
  let c0_247 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_246 : BitVec 32 := 0#32
  let v472 : BitVec 32 := Scalar.addi v137 c0_i32_246
  let v473 : BitVec 32 := v472
  let v474 : Index := Scalar.indexCast v473
  let c256_248 : Index := 256#32
  ![0, v474.toNat, 256]
def k0_mult37 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_249 : BitVec 32 := 0#32
  let v478 : BitVec 32 := Scalar.addi v137 c0_i32_249
  v478
def k0_off20 (k0_t1 : Fin k0_t1_loop.trips) : Fin 3 → Nat :=
  let c1_250 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_249 : BitVec 32 := 0#32
  let v478 : BitVec 32 := Scalar.addi v137 c0_i32_249
  let v479 : BitVec 32 := v478
  let v480 : Index := Scalar.indexCast v479
  let c256_251 : Index := 256#32
  ![1, v480.toNat, 256]
def k0_mult38 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_252 : BitVec 32 := 0#32
  let v484 : BitVec 32 := Scalar.addi v137 c0_i32_252
  v484
def k0_off21 (k0_t1 : Fin k0_t1_loop.trips) : Fin 3 → Nat :=
  let c2_253 : Index := 2#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_252 : BitVec 32 := 0#32
  let v484 : BitVec 32 := Scalar.addi v137 c0_i32_252
  let v485 : BitVec 32 := v484
  let v486 : Index := Scalar.indexCast v485
  let c256_254 : Index := 256#32
  ![2, v486.toNat, 256]
def k0_off22 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v490 : Index := Scalar.indexCast v137
  let c256_255 : Index := 256#32
  ![v490.toNat, 256]
def k0_mult39 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_256 : BitVec 32 := 0#32
  let v494 : BitVec 32 := Scalar.addi v137 c0_i32_256
  v494
def k0_off23 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_256 : BitVec 32 := 0#32
  let v494 : BitVec 32 := Scalar.addi v137 c0_i32_256
  let v495 : BitVec 32 := v494
  let v496 : Index := Scalar.indexCast v495
  let c512_257 : Index := 512#32
  ![v496.toNat, 512]
def k0_mult40 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_258 : BitVec 32 := 0#32
  let v498 : BitVec 32 := Scalar.addi v137 c0_i32_258
  v498
def k0_off24 (k0_t1 : Fin k0_t1_loop.trips) : Fin 3 → Nat :=
  let c0_259 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_258 : BitVec 32 := 0#32
  let v498 : BitVec 32 := Scalar.addi v137 c0_i32_258
  let v499 : BitVec 32 := v498
  let v500 : Index := Scalar.indexCast v499
  let c512_260 : Index := 512#32
  ![0, v500.toNat, 512]
def k0_mult41 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_261 : BitVec 32 := 0#32
  let v504 : BitVec 32 := Scalar.addi v137 c0_i32_261
  v504
def k0_off25 (k0_t1 : Fin k0_t1_loop.trips) : Fin 3 → Nat :=
  let c1_262 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_261 : BitVec 32 := 0#32
  let v504 : BitVec 32 := Scalar.addi v137 c0_i32_261
  let v505 : BitVec 32 := v504
  let v506 : Index := Scalar.indexCast v505
  let c512_263 : Index := 512#32
  ![1, v506.toNat, 512]
def k0_mult42 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_264 : BitVec 32 := 0#32
  let v510 : BitVec 32 := Scalar.addi v137 c0_i32_264
  v510
def k0_off26 (k0_t1 : Fin k0_t1_loop.trips) : Fin 3 → Nat :=
  let c2_265 : Index := 2#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_264 : BitVec 32 := 0#32
  let v510 : BitVec 32 := Scalar.addi v137 c0_i32_264
  let v511 : BitVec 32 := v510
  let v512 : Index := Scalar.indexCast v511
  let c512_266 : Index := 512#32
  ![2, v512.toNat, 512]
def k0_mult43 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_267 : BitVec 32 := 0#32
  let v516 : BitVec 32 := Scalar.addi v137 c0_i32_267
  v516
def k0_off27 (k0_t1 : Fin k0_t1_loop.trips) : Fin 3 → Nat :=
  let c3_268 : Index := 3#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_267 : BitVec 32 := 0#32
  let v516 : BitVec 32 := Scalar.addi v137 c0_i32_267
  let v517 : BitVec 32 := v516
  let v518 : Index := Scalar.indexCast v517
  let c512_269 : Index := 512#32
  ![3, v518.toNat, 512]
def k0_mult44 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_270 : BitVec 32 := 0#32
  let v522 : BitVec 32 := Scalar.addi v137 c0_i32_270
  v522
def k0_off28 (k0_t1 : Fin k0_t1_loop.trips) : Fin 3 → Nat :=
  let c4_271 : Index := 4#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_270 : BitVec 32 := 0#32
  let v522 : BitVec 32 := Scalar.addi v137 c0_i32_270
  let v523 : BitVec 32 := v522
  let v524 : Index := Scalar.indexCast v523
  let c512_272 : Index := 512#32
  ![4, v524.toNat, 512]
def k0_mult45 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_273 : BitVec 32 := 0#32
  let v528 : BitVec 32 := Scalar.addi v137 c0_i32_273
  v528
def k0_off29 (k0_t1 : Fin k0_t1_loop.trips) : Fin 3 → Nat :=
  let c5_274 : Index := 5#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_273 : BitVec 32 := 0#32
  let v528 : BitVec 32 := Scalar.addi v137 c0_i32_273
  let v529 : BitVec 32 := v528
  let v530 : Index := Scalar.indexCast v529
  let c512_275 : Index := 512#32
  ![5, v530.toNat, 512]
def k0_mult46 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_276 : BitVec 32 := 0#32
  let v534 : BitVec 32 := Scalar.addi v137 c0_i32_276
  v534
def k0_off30 (k0_t1 : Fin k0_t1_loop.trips) : Fin 3 → Nat :=
  let c6_277 : Index := 6#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_276 : BitVec 32 := 0#32
  let v534 : BitVec 32 := Scalar.addi v137 c0_i32_276
  let v535 : BitVec 32 := v534
  let v536 : Index := Scalar.indexCast v535
  let c512_278 : Index := 512#32
  ![6, v536.toNat, 512]
def k0_off31 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v540 : Index := Scalar.indexCast v137
  let c512_279 : Index := 512#32
  ![v540.toNat, 512]
def k0_mult47 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_280 : BitVec 32 := 0#32
  let v544 : BitVec 32 := Scalar.addi v137 c0_i32_280
  v544
def k0_off32 (k0_t1 : Fin k0_t1_loop.trips) (c0_i32_280 : BitVec 32) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v544 : BitVec 32 := Scalar.addi v137 c0_i32_280
  let v545 : BitVec 32 := v544
  let v546 : Index := Scalar.indexCast v545
  let c768_281 : Index := 768#32
  ![v546.toNat, 768]
def k0_mult48 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_282 : BitVec 32 := 0#32
  let v548 : BitVec 32 := Scalar.addi v137 c0_i32_282
  v548
def k0_off33 (k0_t1 : Fin k0_t1_loop.trips) (c0_i32_282 : BitVec 32) : Fin 3 → Nat :=
  let c0_283 : Index := 0#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v548 : BitVec 32 := Scalar.addi v137 c0_i32_282
  let v549 : BitVec 32 := v548
  let v550 : Index := Scalar.indexCast v549
  let c768_284 : Index := 768#32
  ![0, v550.toNat, 768]
def k0_mult49 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_285 : BitVec 32 := 0#32
  let v554 : BitVec 32 := Scalar.addi v137 c0_i32_285
  v554
def k0_off34 (k0_t1 : Fin k0_t1_loop.trips) (c0_i32_285 : BitVec 32) : Fin 3 → Nat :=
  let c1_286 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v554 : BitVec 32 := Scalar.addi v137 c0_i32_285
  let v555 : BitVec 32 := v554
  let v556 : Index := Scalar.indexCast v555
  let c768_287 : Index := 768#32
  ![1, v556.toNat, 768]
def k0_mult50 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_288 : BitVec 32 := 0#32
  let v560 : BitVec 32 := Scalar.addi v137 c0_i32_288
  v560
def k0_off35 (k0_t1 : Fin k0_t1_loop.trips) (c0_i32_288 : BitVec 32) : Fin 3 → Nat :=
  let c2_289 : Index := 2#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v560 : BitVec 32 := Scalar.addi v137 c0_i32_288
  let v561 : BitVec 32 := v560
  let v562 : Index := Scalar.indexCast v561
  let c768_290 : Index := 768#32
  ![2, v562.toNat, 768]
def k0_mult51 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_291 : BitVec 32 := 0#32
  let v566 : BitVec 32 := Scalar.addi v137 c0_i32_291
  v566
def k0_off36 (k0_t1 : Fin k0_t1_loop.trips) (c0_i32_291 : BitVec 32) : Fin 3 → Nat :=
  let c3_292 : Index := 3#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v566 : BitVec 32 := Scalar.addi v137 c0_i32_291
  let v567 : BitVec 32 := v566
  let v568 : Index := Scalar.indexCast v567
  let c768_293 : Index := 768#32
  ![3, v568.toNat, 768]
def k0_mult52 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_294 : BitVec 32 := 0#32
  let v572 : BitVec 32 := Scalar.addi v137 c0_i32_294
  v572
def k0_off37 (k0_t1 : Fin k0_t1_loop.trips) (c0_i32_294 : BitVec 32) : Fin 3 → Nat :=
  let c4_295 : Index := 4#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v572 : BitVec 32 := Scalar.addi v137 c0_i32_294
  let v573 : BitVec 32 := v572
  let v574 : Index := Scalar.indexCast v573
  let c768_296 : Index := 768#32
  ![4, v574.toNat, 768]
def k0_mult53 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_297 : BitVec 32 := 0#32
  let v578 : BitVec 32 := Scalar.addi v137 c0_i32_297
  v578
def k0_off38 (k0_t1 : Fin k0_t1_loop.trips) (c0_i32_297 : BitVec 32) : Fin 3 → Nat :=
  let c5_298 : Index := 5#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v578 : BitVec 32 := Scalar.addi v137 c0_i32_297
  let v579 : BitVec 32 := v578
  let v580 : Index := Scalar.indexCast v579
  let c768_299 : Index := 768#32
  ![5, v580.toNat, 768]
def k0_mult54 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c0_i32_300 : BitVec 32 := 0#32
  let v584 : BitVec 32 := Scalar.addi v137 c0_i32_300
  v584
def k0_off39 (k0_t1 : Fin k0_t1_loop.trips) (c0_i32_300 : BitVec 32) : Fin 3 → Nat :=
  let c6_301 : Index := 6#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v584 : BitVec 32 := Scalar.addi v137 c0_i32_300
  let v585 : BitVec 32 := v584
  let v586 : Index := Scalar.indexCast v585
  let c768_302 : Index := 768#32
  ![6, v586.toNat, 768]
def k0_mult55 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_303 : BitVec 32 := 8#32
  let v590 : BitVec 32 := Scalar.addi v137 c8_i32_303
  v590
def k0_mult56 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_305 : BitVec 32 := 8#32
  let v595 : BitVec 32 := Scalar.addi v137 c8_i32_305
  v595
def k0_mult57 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_308 : BitVec 32 := 8#32
  let v601 : BitVec 32 := Scalar.addi v137 c8_i32_308
  v601
def k0_mult58 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_311 : BitVec 32 := 8#32
  let v607 : BitVec 32 := Scalar.addi v137 c8_i32_311
  v607
def k0_mult59 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_314 : BitVec 32 := 8#32
  let v613 : BitVec 32 := Scalar.addi v137 c8_i32_314
  v613
def k0_mult60 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_317 : BitVec 32 := 8#32
  let v619 : BitVec 32 := Scalar.addi v137 c8_i32_317
  v619
def k0_mult61 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_320 : BitVec 32 := 8#32
  let v625 : BitVec 32 := Scalar.addi v137 c8_i32_320
  v625
def k0_mult62 (k0_t1 : Fin k0_t1_loop.trips) : BitVec 32 :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let c8_i32_323 : BitVec 32 := 8#32
  let v631 : BitVec 32 := Scalar.addi v137 c8_i32_323
  v631
def k0_off40 (k0_t1 : Fin k0_t1_loop.trips) : Fin 2 → Nat :=
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v637 : Index := Scalar.indexCast v137
  let c768_326 : Index := 768#32
  ![v637.toNat, 768]
def k0_off41 (k0_t1 : Fin k0_t1_loop.trips) : Fin 3 → Nat :=
  let c1_327 : Index := 1#32
  let c0_i32 : BitVec 32 := 0#32
  let c1_i32_84 : BitVec 32 := 1#32
  let arg13 : BitVec 32 := Scf.iv c0_i32 c1_i32_84 k0_t1
  let c32_i32 : BitVec 32 := 32#32
  let v136 : BitVec 32 := Scalar.muli arg13 c32_i32
  let v137 : BitVec 32 := v136
  let v643 : Index := Scalar.indexCast v137
  let c256_328 : Index := 256#32
  ![1, v643.toNat, 256]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x1792 : Shape := ⟨3, ![4, 4096, 1792]⟩
abbrev S4096x1024 : Shape := ⟨2, ![4096, 1024]⟩
abbrev S4096x4096 : Shape := ⟨2, ![4096, 4096]⟩
abbrev S32x1024 : Shape := ⟨2, ![32, 1024]⟩
abbrev S1x4096x1792 : Shape := ⟨3, ![1, 4096, 1792]⟩
abbrev S4096x1792 : Shape := ⟨2, ![4096, 1792]⟩
abbrev S4096x7168 : Shape := ⟨2, ![4096, 7168]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S1024 : Shape := ⟨1, ![1024]⟩
abbrev S4096x256 : Shape := ⟨2, ![4096, 256]⟩
abbrev S2x256 : Shape := ⟨2, ![2, 256]⟩
abbrev S4094x256 : Shape := ⟨2, ![4094, 256]⟩
abbrev S4096 : Shape := ⟨1, ![4096]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩

abbrev nBuf : Space → Nat
  | .hbm => 600
  | .vmem => 0
  | .smem => 0
  | _ => 0

abbrev hbmTy0_0 (i : Nat) : BufTy := match i % 128 with
  | 0 => ⟨S4x4096x1792, .bf16⟩
  | 1 => ⟨S4096x1024, .f32⟩
  | 2 => ⟨S4096x1024, .bf16⟩
  | 3 => ⟨S4096x4096, .bf16⟩
  | 4 => ⟨S32x1024, .f32⟩
  | 5 => ⟨S4x4096x1792, .f32⟩
  | 6 => ⟨S1x4096x1792, .f32⟩
  | 7 => ⟨S4096x1792, .f32⟩
  | 8 => ⟨S1x4096x1792, .f32⟩
  | 9 => ⟨S4096x1792, .f32⟩
  | 10 => ⟨S1x4096x1792, .f32⟩
  | 11 => ⟨S4096x1792, .f32⟩
  | 12 => ⟨S1x4096x1792, .f32⟩
  | 13 => ⟨S4096x1792, .f32⟩
  | 14 => ⟨S4096x7168, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S30x1024, .f32⟩
  | 32 => ⟨S4126x1024, .f32⟩
  | 33 => ⟨S_, .f32⟩
  | 34 => ⟨S30x1024, .f32⟩
  | 35 => ⟨S4096x1024, .f32⟩
  | 36 => ⟨S1x1024, .f32⟩
  | 37 => ⟨S1024, .f32⟩
  | 38 => ⟨S1x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S1x1024, .f32⟩
  | 69 => ⟨S4096x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S1x1024, .f32⟩
  | 76 => ⟨S4096x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S1x1024, .f32⟩
  | 83 => ⟨S4096x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S4096x1024, .f32⟩
  | 108 => ⟨S1x1024, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S4096x1024, .f32⟩
  | 115 => ⟨S1x1024, .f32⟩
  | 116 => ⟨S1024, .f32⟩
  | 117 => ⟨S1x1024, .f32⟩
  | 118 => ⟨S4096x1024, .f32⟩
  | 119 => ⟨S4096x1024, .f32⟩
  | 120 => ⟨S4096x1024, .f32⟩
  | 121 => ⟨S4096x1024, .f32⟩
  | 122 => ⟨S1x1024, .f32⟩
  | 123 => ⟨S1024, .f32⟩
  | 124 => ⟨S1x1024, .f32⟩
  | 125 => ⟨S4096x1024, .f32⟩
  | 126 => ⟨S4096x1024, .f32⟩
  | 127 => ⟨S4096x1024, .f32⟩
  | _ => ⟨S4x4096x1792, .bf16⟩

abbrev hbmTy0_1 (i : Nat) : BufTy := match i % 128 with
  | 0 => ⟨S4096x1024, .f32⟩
  | 1 => ⟨S1x1024, .f32⟩
  | 2 => ⟨S1024, .f32⟩
  | 3 => ⟨S1x1024, .f32⟩
  | 4 => ⟨S4096x1024, .f32⟩
  | 5 => ⟨S4096x1024, .f32⟩
  | 6 => ⟨S4096x1024, .f32⟩
  | 7 => ⟨S4096x1024, .f32⟩
  | 8 => ⟨S1x1024, .f32⟩
  | 9 => ⟨S1024, .f32⟩
  | 10 => ⟨S1x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S1024, .f32⟩
  | 17 => ⟨S1x1024, .f32⟩
  | 18 => ⟨S4096x1024, .f32⟩
  | 19 => ⟨S4096x1024, .f32⟩
  | 20 => ⟨S4096x1024, .f32⟩
  | 21 => ⟨S4096x1024, .f32⟩
  | 22 => ⟨S1x1024, .f32⟩
  | 23 => ⟨S1024, .f32⟩
  | 24 => ⟨S1x1024, .f32⟩
  | 25 => ⟨S4096x1024, .f32⟩
  | 26 => ⟨S4096x1024, .f32⟩
  | 27 => ⟨S4096x1024, .f32⟩
  | 28 => ⟨S4096x1024, .f32⟩
  | 29 => ⟨S1x1024, .f32⟩
  | 30 => ⟨S1024, .f32⟩
  | 31 => ⟨S1x1024, .f32⟩
  | 32 => ⟨S4096x1024, .f32⟩
  | 33 => ⟨S4096x1024, .f32⟩
  | 34 => ⟨S4096x1024, .f32⟩
  | 35 => ⟨S4096x1024, .f32⟩
  | 36 => ⟨S1x1024, .f32⟩
  | 37 => ⟨S1024, .f32⟩
  | 38 => ⟨S1x1024, .f32⟩
  | 39 => ⟨S4096x1024, .f32⟩
  | 40 => ⟨S4096x1024, .f32⟩
  | 41 => ⟨S4096x1024, .f32⟩
  | 42 => ⟨S4096x1024, .f32⟩
  | 43 => ⟨S1x1024, .f32⟩
  | 44 => ⟨S1024, .f32⟩
  | 45 => ⟨S1x1024, .f32⟩
  | 46 => ⟨S4096x1024, .f32⟩
  | 47 => ⟨S4096x1024, .f32⟩
  | 48 => ⟨S4096x1024, .f32⟩
  | 49 => ⟨S4096x1024, .f32⟩
  | 50 => ⟨S1x1024, .f32⟩
  | 51 => ⟨S1024, .f32⟩
  | 52 => ⟨S1x1024, .f32⟩
  | 53 => ⟨S4096x1024, .f32⟩
  | 54 => ⟨S4096x1024, .f32⟩
  | 55 => ⟨S4096x1024, .f32⟩
  | 56 => ⟨S4096x1024, .f32⟩
  | 57 => ⟨S1x1024, .f32⟩
  | 58 => ⟨S1024, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S1x1024, .f32⟩
  | 65 => ⟨S1024, .f32⟩
  | 66 => ⟨S1x1024, .f32⟩
  | 67 => ⟨S4096x1024, .f32⟩
  | 68 => ⟨S4096x1024, .f32⟩
  | 69 => ⟨S4096x1024, .f32⟩
  | 70 => ⟨S4096x1024, .f32⟩
  | 71 => ⟨S1x1024, .f32⟩
  | 72 => ⟨S1024, .f32⟩
  | 73 => ⟨S1x1024, .f32⟩
  | 74 => ⟨S4096x1024, .f32⟩
  | 75 => ⟨S4096x1024, .f32⟩
  | 76 => ⟨S4096x1024, .f32⟩
  | 77 => ⟨S4096x1024, .f32⟩
  | 78 => ⟨S1x1024, .f32⟩
  | 79 => ⟨S1024, .f32⟩
  | 80 => ⟨S1x1024, .f32⟩
  | 81 => ⟨S4096x1024, .f32⟩
  | 82 => ⟨S4096x1024, .f32⟩
  | 83 => ⟨S4096x1024, .f32⟩
  | 84 => ⟨S4096x1024, .f32⟩
  | 85 => ⟨S1x1024, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S4096x1024, .f32⟩
  | 92 => ⟨S1x1024, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S4096x1024, .f32⟩
  | 99 => ⟨S1x1024, .f32⟩
  | 100 => ⟨S1024, .f32⟩
  | 101 => ⟨S1x1024, .f32⟩
  | 102 => ⟨S4096x1024, .f32⟩
  | 103 => ⟨S4096x1024, .f32⟩
  | 104 => ⟨S4096x1024, .f32⟩
  | 105 => ⟨S4096x1024, .f32⟩
  | 106 => ⟨S1x1024, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S4096x1024, .f32⟩
  | 113 => ⟨S1x1024, .f32⟩
  | 114 => ⟨S1024, .f32⟩
  | 115 => ⟨S1x1024, .f32⟩
  | 116 => ⟨S4096x1024, .f32⟩
  | 117 => ⟨S4096x1024, .f32⟩
  | 118 => ⟨S4096x1024, .f32⟩
  | 119 => ⟨S4096x1024, .f32⟩
  | 120 => ⟨S1x1024, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S4096x1024, .f32⟩
  | 127 => ⟨S4096x256, .f32⟩
  | _ => ⟨S4x4096x1792, .bf16⟩

abbrev hbmTy0_2 (i : Nat) : BufTy := match i % 128 with
  | 0 => ⟨S4096x256, .f32⟩
  | 1 => ⟨S4096x256, .f32⟩
  | 2 => ⟨S4096x256, .f32⟩
  | 3 => ⟨S_, .f32⟩
  | 4 => ⟨S_, .f32⟩
  | 5 => ⟨S4096x256, .f32⟩
  | 6 => ⟨S_, .f32⟩
  | 7 => ⟨S2x256, .f32⟩
  | 8 => ⟨S4094x256, .f32⟩
  | 9 => ⟨S4096x256, .f32⟩
  | 10 => ⟨S_, .f32⟩
  | 11 => ⟨S2x256, .f32⟩
  | 12 => ⟨S4096, .i32⟩
  | 13 => ⟨S_, .i32⟩
  | 14 => ⟨S4096, .i32⟩
  | 15 => ⟨S4096, .i32⟩
  | 16 => ⟨S4096, .f32⟩
  | 17 => ⟨S_, .f32⟩
  | 18 => ⟨S4096, .f32⟩
  | 19 => ⟨S4096, .f32⟩
  | 20 => ⟨S4096x256, .f32⟩
  | 21 => ⟨S4096x1, .f32⟩
  | 22 => ⟨S4096x256, .f32⟩
  | 23 => ⟨S4096x256, .f32⟩
  | 24 => ⟨S4096x256, .f32⟩
  | 25 => ⟨S_, .f32⟩
  | 26 => ⟨S_, .f32⟩
  | 27 => ⟨S4096x256, .f32⟩
  | 28 => ⟨S_, .f32⟩
  | 29 => ⟨S4x256, .f32⟩
  | 30 => ⟨S4092x256, .f32⟩
  | 31 => ⟨S4096x256, .f32⟩
  | 32 => ⟨S_, .f32⟩
  | 33 => ⟨S4x256, .f32⟩
  | 34 => ⟨S4096, .i32⟩
  | 35 => ⟨S_, .i32⟩
  | 36 => ⟨S4096, .i32⟩
  | 37 => ⟨S4096, .i32⟩
  | 38 => ⟨S4096, .f32⟩
  | 39 => ⟨S_, .f32⟩
  | 40 => ⟨S4096, .f32⟩
  | 41 => ⟨S4096, .f32⟩
  | 42 => ⟨S4096x256, .f32⟩
  | 43 => ⟨S4096x1, .f32⟩
  | 44 => ⟨S4096x256, .f32⟩
  | 45 => ⟨S4096x256, .f32⟩
  | 46 => ⟨S4096x256, .f32⟩
  | 47 => ⟨S_, .f32⟩
  | 48 => ⟨S_, .f32⟩
  | 49 => ⟨S4096x256, .f32⟩
  | 50 => ⟨S_, .f32⟩
  | 51 => ⟨S8x256, .f32⟩
  | 52 => ⟨S4088x256, .f32⟩
  | 53 => ⟨S4096x256, .f32⟩
  | 54 => ⟨S_, .f32⟩
  | 55 => ⟨S8x256, .f32⟩
  | 56 => ⟨S4096, .i32⟩
  | 57 => ⟨S_, .i32⟩
  | 58 => ⟨S4096, .i32⟩
  | 59 => ⟨S4096, .i32⟩
  | 60 => ⟨S4096, .f32⟩
  | 61 => ⟨S_, .f32⟩
  | 62 => ⟨S4096, .f32⟩
  | 63 => ⟨S4096, .f32⟩
  | 64 => ⟨S4096x256, .f32⟩
  | 65 => ⟨S4096x1, .f32⟩
  | 66 => ⟨S4096x256, .f32⟩
  | 67 => ⟨S4096x256, .f32⟩
  | 68 => ⟨S4096x256, .f32⟩
  | 69 => ⟨S_, .f32⟩
  | 70 => ⟨S_, .f32⟩
  | 71 => ⟨S4096x256, .f32⟩
  | 72 => ⟨S_, .f32⟩
  | 73 => ⟨S16x256, .f32⟩
  | 74 => ⟨S4080x256, .f32⟩
  | 75 => ⟨S4096x256, .f32⟩
  | 76 => ⟨S_, .f32⟩
  | 77 => ⟨S16x256, .f32⟩
  | 78 => ⟨S4096, .i32⟩
  | 79 => ⟨S_, .i32⟩
  | 80 => ⟨S4096, .i32⟩
  | 81 => ⟨S4096, .i32⟩
  | 82 => ⟨S4096, .f32⟩
  | 83 => ⟨S_, .f32⟩
  | 84 => ⟨S4096, .f32⟩
  | 85 => ⟨S4096, .f32⟩
  | 86 => ⟨S4096x256, .f32⟩
  | 87 => ⟨S4096x1, .f32⟩
  | 88 => ⟨S4096x256, .f32⟩
  | 89 => ⟨S4096x256, .f32⟩
  | 90 => ⟨S4096x256, .f32⟩
  | 91 => ⟨S4096x1024, .f32⟩
  | 92 => ⟨S4096x4096, .f32⟩
  | 93 => ⟨S4096x1024, .f32⟩
  | 94 => ⟨S4096x4096, .f32⟩
  | 95 => ⟨S_, .f32⟩
  | 96 => ⟨S4096x7168, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S16x256, .f32⟩
  | 106 => ⟨S4080x256, .f32⟩
  | 107 => ⟨S_, .f32⟩
  | 108 => ⟨S4096x256, .f32⟩
  | 109 => ⟨S4096x256, .f32⟩
  | 110 => ⟨S_, .f32⟩
  | 111 => ⟨S_, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S8x256, .f32⟩
  | 119 => ⟨S4088x256, .f32⟩
  | 120 => ⟨S_, .f32⟩
  | 121 => ⟨S4096x256, .f32⟩
  | 122 => ⟨S4096x256, .f32⟩
  | 123 => ⟨S_, .f32⟩
  | 124 => ⟨S_, .f32⟩
  | 125 => ⟨S4096x256, .f32⟩
  | 126 => ⟨S4096x256, .f32⟩
  | 127 => ⟨S4096x256, .f32⟩
  | _ => ⟨S4x4096x1792, .bf16⟩

abbrev hbmTy0_3 (i : Nat) : BufTy := match i % 128 with
  | 0 => ⟨S4096x256, .f32⟩
  | 1 => ⟨S4096x256, .f32⟩
  | 2 => ⟨S4096x256, .f32⟩
  | 3 => ⟨S4x256, .f32⟩
  | 4 => ⟨S4092x256, .f32⟩
  | 5 => ⟨S_, .f32⟩
  | 6 => ⟨S4096x256, .f32⟩
  | 7 => ⟨S4096x256, .f32⟩
  | 8 => ⟨S_, .f32⟩
  | 9 => ⟨S_, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S2x256, .f32⟩
  | 17 => ⟨S4094x256, .f32⟩
  | 18 => ⟨S_, .f32⟩
  | 19 => ⟨S4096x256, .f32⟩
  | 20 => ⟨S4096x256, .f32⟩
  | 21 => ⟨S_, .f32⟩
  | 22 => ⟨S_, .f32⟩
  | 23 => ⟨S4096x256, .f32⟩
  | 24 => ⟨S4096x256, .f32⟩
  | 25 => ⟨S4096x1024, .f32⟩
  | 26 => ⟨S_, .f32⟩
  | 27 => ⟨S4096x7168, .f32⟩
  | 28 => ⟨S4096x7168, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4126x1024, .f32⟩
  | 35 => ⟨S4096x1024, .f32⟩
  | 36 => ⟨S4096x1024, .f32⟩
  | 37 => ⟨S_, .f32⟩
  | 38 => ⟨S4126x1024, .f32⟩
  | 39 => ⟨S4126x1024, .f32⟩
  | 40 => ⟨S4096x1024, .f32⟩
  | 41 => ⟨S4096x1024, .f32⟩
  | 42 => ⟨S_, .f32⟩
  | 43 => ⟨S4126x1024, .f32⟩
  | 44 => ⟨S4126x1024, .f32⟩
  | 45 => ⟨S4096x1024, .f32⟩
  | 46 => ⟨S4096x1024, .f32⟩
  | 47 => ⟨S_, .f32⟩
  | 48 => ⟨S4126x1024, .f32⟩
  | 49 => ⟨S4126x1024, .f32⟩
  | 50 => ⟨S4096x1024, .f32⟩
  | 51 => ⟨S4096x1024, .f32⟩
  | 52 => ⟨S_, .f32⟩
  | 53 => ⟨S4126x1024, .f32⟩
  | 54 => ⟨S4126x1024, .f32⟩
  | 55 => ⟨S4096x1024, .f32⟩
  | 56 => ⟨S4096x1024, .f32⟩
  | 57 => ⟨S_, .f32⟩
  | 58 => ⟨S4126x1024, .f32⟩
  | 59 => ⟨S4126x1024, .f32⟩
  | 60 => ⟨S4096x1024, .f32⟩
  | 61 => ⟨S4096x1024, .f32⟩
  | 62 => ⟨S_, .f32⟩
  | 63 => ⟨S4126x1024, .f32⟩
  | 64 => ⟨S4126x1024, .f32⟩
  | 65 => ⟨S4096x1024, .f32⟩
  | 66 => ⟨S4096x1024, .f32⟩
  | 67 => ⟨S_, .f32⟩
  | 68 => ⟨S4126x1024, .f32⟩
  | 69 => ⟨S4126x1024, .f32⟩
  | 70 => ⟨S4096x1024, .f32⟩
  | 71 => ⟨S4096x1024, .f32⟩
  | 72 => ⟨S_, .f32⟩
  | 73 => ⟨S4126x1024, .f32⟩
  | 74 => ⟨S4126x1024, .f32⟩
  | 75 => ⟨S4096x1024, .f32⟩
  | 76 => ⟨S4096x1024, .f32⟩
  | 77 => ⟨S_, .f32⟩
  | 78 => ⟨S4126x1024, .f32⟩
  | 79 => ⟨S4126x1024, .f32⟩
  | 80 => ⟨S4096x1024, .f32⟩
  | 81 => ⟨S4096x1024, .f32⟩
  | 82 => ⟨S_, .f32⟩
  | 83 => ⟨S4126x1024, .f32⟩
  | 84 => ⟨S4126x1024, .f32⟩
  | 85 => ⟨S4096x1024, .f32⟩
  | 86 => ⟨S4096x1024, .f32⟩
  | 87 => ⟨S_, .f32⟩
  | 88 => ⟨S4126x1024, .f32⟩
  | 89 => ⟨S4126x1024, .f32⟩
  | 90 => ⟨S4096x1024, .f32⟩
  | 91 => ⟨S4096x1024, .f32⟩
  | 92 => ⟨S_, .f32⟩
  | 93 => ⟨S4126x1024, .f32⟩
  | 94 => ⟨S4126x1024, .f32⟩
  | 95 => ⟨S4096x1024, .f32⟩
  | 96 => ⟨S4096x1024, .f32⟩
  | 97 => ⟨S_, .f32⟩
  | 98 => ⟨S4126x1024, .f32⟩
  | 99 => ⟨S4126x1024, .f32⟩
  | 100 => ⟨S4096x1024, .f32⟩
  | 101 => ⟨S4096x1024, .f32⟩
  | 102 => ⟨S_, .f32⟩
  | 103 => ⟨S4126x1024, .f32⟩
  | 104 => ⟨S4126x1024, .f32⟩
  | 105 => ⟨S4096x1024, .f32⟩
  | 106 => ⟨S4096x1024, .f32⟩
  | 107 => ⟨S_, .f32⟩
  | 108 => ⟨S4126x1024, .f32⟩
  | 109 => ⟨S4126x1024, .f32⟩
  | 110 => ⟨S4096x1024, .f32⟩
  | 111 => ⟨S4096x1024, .f32⟩
  | 112 => ⟨S_, .f32⟩
  | 113 => ⟨S4126x1024, .f32⟩
  | 114 => ⟨S4126x1024, .f32⟩
  | 115 => ⟨S4096x1024, .f32⟩
  | 116 => ⟨S4096x1024, .f32⟩
  | 117 => ⟨S_, .f32⟩
  | 118 => ⟨S4126x1024, .f32⟩
  | 119 => ⟨S4126x1024, .f32⟩
  | 120 => ⟨S4096x1024, .f32⟩
  | 121 => ⟨S4096x1024, .f32⟩
  | 122 => ⟨S_, .f32⟩
  | 123 => ⟨S4126x1024, .f32⟩
  | 124 => ⟨S4126x1024, .f32⟩
  | 125 => ⟨S4096x1024, .f32⟩
  | 126 => ⟨S4096x1024, .f32⟩
  | 127 => ⟨S_, .f32⟩
  | _ => ⟨S4x4096x1792, .bf16⟩

abbrev hbmTy0_4 (i : Nat) : BufTy := match i % 128 with
  | 0 => ⟨S4126x1024, .f32⟩
  | 1 => ⟨S4126x1024, .f32⟩
  | 2 => ⟨S4096x1024, .f32⟩
  | 3 => ⟨S4096x1024, .f32⟩
  | 4 => ⟨S_, .f32⟩
  | 5 => ⟨S4126x1024, .f32⟩
  | 6 => ⟨S4126x1024, .f32⟩
  | 7 => ⟨S4096x1024, .f32⟩
  | 8 => ⟨S4096x1024, .f32⟩
  | 9 => ⟨S_, .f32⟩
  | 10 => ⟨S4126x1024, .f32⟩
  | 11 => ⟨S4126x1024, .f32⟩
  | 12 => ⟨S4096x1024, .f32⟩
  | 13 => ⟨S4096x1024, .f32⟩
  | 14 => ⟨S_, .f32⟩
  | 15 => ⟨S4126x1024, .f32⟩
  | 16 => ⟨S4126x1024, .f32⟩
  | 17 => ⟨S4096x1024, .f32⟩
  | 18 => ⟨S4096x1024, .f32⟩
  | 19 => ⟨S_, .f32⟩
  | 20 => ⟨S4126x1024, .f32⟩
  | 21 => ⟨S4126x1024, .f32⟩
  | 22 => ⟨S4096x1024, .f32⟩
  | 23 => ⟨S4096x1024, .f32⟩
  | 24 => ⟨S_, .f32⟩
  | 25 => ⟨S4126x1024, .f32⟩
  | 26 => ⟨S4126x1024, .f32⟩
  | 27 => ⟨S4096x1024, .f32⟩
  | 28 => ⟨S4096x1024, .f32⟩
  | 29 => ⟨S_, .f32⟩
  | 30 => ⟨S4126x1024, .f32⟩
  | 31 => ⟨S4126x1024, .f32⟩
  | 32 => ⟨S4096x1024, .f32⟩
  | 33 => ⟨S4096x1024, .f32⟩
  | 34 => ⟨S_, .f32⟩
  | 35 => ⟨S4126x1024, .f32⟩
  | 36 => ⟨S4126x1024, .f32⟩
  | 37 => ⟨S4096x1024, .f32⟩
  | 38 => ⟨S4096x1024, .f32⟩
  | 39 => ⟨S_, .f32⟩
  | 40 => ⟨S4126x1024, .f32⟩
  | 41 => ⟨S4126x1024, .f32⟩
  | 42 => ⟨S4096x1024, .f32⟩
  | 43 => ⟨S4096x1024, .f32⟩
  | 44 => ⟨S_, .f32⟩
  | 45 => ⟨S4126x1024, .f32⟩
  | 46 => ⟨S4126x1024, .f32⟩
  | 47 => ⟨S4096x1024, .f32⟩
  | 48 => ⟨S4096x1024, .f32⟩
  | 49 => ⟨S_, .f32⟩
  | 50 => ⟨S4126x1024, .f32⟩
  | 51 => ⟨S4126x1024, .f32⟩
  | 52 => ⟨S4096x1024, .f32⟩
  | 53 => ⟨S4096x1024, .f32⟩
  | 54 => ⟨S_, .f32⟩
  | 55 => ⟨S4126x1024, .f32⟩
  | 56 => ⟨S4126x1024, .f32⟩
  | 57 => ⟨S30x1024, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x7168, .f32⟩
  | 64 => ⟨S4096x7168, .f32⟩
  | 65 => ⟨S_, .f32⟩
  | 66 => ⟨S4096x7168, .f32⟩
  | 67 => ⟨S4096x7168, .f32⟩
  | 68 => ⟨S4096x1792, .f32⟩
  | 69 => ⟨S4096x1792, .f32⟩
  | 70 => ⟨S4096x1792, .f32⟩
  | 71 => ⟨S4096x1792, .f32⟩
  | 72 => ⟨S1x4096x1792, .f32⟩
  | 73 => ⟨S_, .f32⟩
  | 74 => ⟨S4x4096x1792, .f32⟩
  | 75 => ⟨S1x4096x1792, .f32⟩
  | 76 => ⟨S_, .f32⟩
  | 77 => ⟨S4x4096x1792, .f32⟩
  | 78 => ⟨S4x4096x1792, .f32⟩
  | 79 => ⟨S1x4096x1792, .f32⟩
  | 80 => ⟨S_, .f32⟩
  | 81 => ⟨S4x4096x1792, .f32⟩
  | 82 => ⟨S4x4096x1792, .f32⟩
  | 83 => ⟨S1x4096x1792, .f32⟩
  | 84 => ⟨S_, .f32⟩
  | 85 => ⟨S4x4096x1792, .f32⟩
  | 86 => ⟨S4x4096x1792, .f32⟩
  | 87 => ⟨S4x4096x1792, .bf16⟩
  | _ => ⟨S4x4096x1792, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x4096x1792, .bf16⟩

abbrev bufTy : (tb : Table) → Fin (tcTables nBuf tb) → BufTy
  | .hbm, ⟨i, _⟩ => hbmTy i
  | _, _ => ⟨S4x4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_call0_call0_cst : Ref sig .tc := ⟨.hbm, 259, rfl⟩
abbrev main_call0_call0_v0 : Ref sig .tc := ⟨.hbm, 260, rfl⟩
abbrev main_v248 : Ref sig .tc := ⟨.hbm, 261, rfl⟩
abbrev main_cst_5 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_cst_6 : Ref sig .tc := ⟨.hbm, 266, rfl⟩
abbrev main_v252 : Ref sig .tc := ⟨.hbm, 267, rfl⟩
abbrev main_v253 : Ref sig .tc := ⟨.hbm, 268, rfl⟩
abbrev main_c : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_cst_7 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_call1_call0_cst : Ref sig .tc := ⟨.hbm, 281, rfl⟩
abbrev main_call1_call0_v0 : Ref sig .tc := ⟨.hbm, 282, rfl⟩
abbrev main_v264 : Ref sig .tc := ⟨.hbm, 283, rfl⟩
abbrev main_cst_8 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_cst_9 : Ref sig .tc := ⟨.hbm, 288, rfl⟩
abbrev main_v268 : Ref sig .tc := ⟨.hbm, 289, rfl⟩
abbrev main_v269 : Ref sig .tc := ⟨.hbm, 290, rfl⟩
abbrev main_c_10 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_cst_11 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_call2_call0_cst : Ref sig .tc := ⟨.hbm, 303, rfl⟩
abbrev main_call2_call0_v0 : Ref sig .tc := ⟨.hbm, 304, rfl⟩
abbrev main_v280 : Ref sig .tc := ⟨.hbm, 305, rfl⟩
abbrev main_cst_12 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_cst_13 : Ref sig .tc := ⟨.hbm, 310, rfl⟩
abbrev main_v284 : Ref sig .tc := ⟨.hbm, 311, rfl⟩
abbrev main_v285 : Ref sig .tc := ⟨.hbm, 312, rfl⟩
abbrev main_c_14 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_cst_15 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_call3_call0_cst : Ref sig .tc := ⟨.hbm, 325, rfl⟩
abbrev main_call3_call0_v0 : Ref sig .tc := ⟨.hbm, 326, rfl⟩
abbrev main_v296 : Ref sig .tc := ⟨.hbm, 327, rfl⟩
abbrev main_cst_16 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_cst_17 : Ref sig .tc := ⟨.hbm, 332, rfl⟩
abbrev main_v300 : Ref sig .tc := ⟨.hbm, 333, rfl⟩
abbrev main_v301 : Ref sig .tc := ⟨.hbm, 334, rfl⟩
abbrev main_c_18 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_cst_19 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_v309 : Ref sig .tc := ⟨.hbm, 344, rfl⟩
abbrev main_v310 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_cst_20 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_cst_21 : Ref sig .tc := ⟨.hbm, 363, rfl⟩
abbrev main_v327 : Ref sig .tc := ⟨.hbm, 364, rfl⟩
abbrev main_v328 : Ref sig .tc := ⟨.hbm, 365, rfl⟩
abbrev main_call4_call0_cst : Ref sig .tc := ⟨.hbm, 366, rfl⟩
abbrev main_call4_call0_v0 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_v332 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_cst_22 : Ref sig .tc := ⟨.hbm, 376, rfl⟩
abbrev main_v337 : Ref sig .tc := ⟨.hbm, 377, rfl⟩
abbrev main_v338 : Ref sig .tc := ⟨.hbm, 378, rfl⟩
abbrev main_call5_call0_cst : Ref sig .tc := ⟨.hbm, 379, rfl⟩
abbrev main_call5_call0_v0 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_cst_23 : Ref sig .tc := ⟨.hbm, 389, rfl⟩
abbrev main_v347 : Ref sig .tc := ⟨.hbm, 390, rfl⟩
abbrev main_v348 : Ref sig .tc := ⟨.hbm, 391, rfl⟩
abbrev main_call6_call0_cst : Ref sig .tc := ⟨.hbm, 392, rfl⟩
abbrev main_call6_call0_v0 : Ref sig .tc := ⟨.hbm, 393, rfl⟩
abbrev main_v349 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_cst_24 : Ref sig .tc := ⟨.hbm, 402, rfl⟩
abbrev main_v357 : Ref sig .tc := ⟨.hbm, 403, rfl⟩
abbrev main_v358 : Ref sig .tc := ⟨.hbm, 404, rfl⟩
abbrev main_call7_call0_cst : Ref sig .tc := ⟨.hbm, 405, rfl⟩
abbrev main_call7_call0_v0 : Ref sig .tc := ⟨.hbm, 406, rfl⟩
abbrev main_v359 : Ref sig .tc := ⟨.hbm, 407, rfl⟩
abbrev main_v360 : Ref sig .tc := ⟨.hbm, 408, rfl⟩
abbrev main_v361 : Ref sig .tc := ⟨.hbm, 409, rfl⟩
abbrev main_cst_25 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_cst_26 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_cst_27 : Ref sig .tc := ⟨.hbm, 421, rfl⟩
abbrev main_v371 : Ref sig .tc := ⟨.hbm, 422, rfl⟩
abbrev main_v372 : Ref sig .tc := ⟨.hbm, 423, rfl⟩
abbrev main_v373 : Ref sig .tc := ⟨.hbm, 424, rfl⟩
abbrev main_v374 : Ref sig .tc := ⟨.hbm, 425, rfl⟩
abbrev main_cst_28 : Ref sig .tc := ⟨.hbm, 426, rfl⟩
abbrev main_v375 : Ref sig .tc := ⟨.hbm, 427, rfl⟩
abbrev main_v376 : Ref sig .tc := ⟨.hbm, 428, rfl⟩
abbrev main_v377 : Ref sig .tc := ⟨.hbm, 429, rfl⟩
abbrev main_v378 : Ref sig .tc := ⟨.hbm, 430, rfl⟩
abbrev main_cst_29 : Ref sig .tc := ⟨.hbm, 431, rfl⟩
abbrev main_v379 : Ref sig .tc := ⟨.hbm, 432, rfl⟩
abbrev main_v380 : Ref sig .tc := ⟨.hbm, 433, rfl⟩
abbrev main_v381 : Ref sig .tc := ⟨.hbm, 434, rfl⟩
abbrev main_v382 : Ref sig .tc := ⟨.hbm, 435, rfl⟩
abbrev main_cst_30 : Ref sig .tc := ⟨.hbm, 436, rfl⟩
abbrev main_v383 : Ref sig .tc := ⟨.hbm, 437, rfl⟩
abbrev main_v384 : Ref sig .tc := ⟨.hbm, 438, rfl⟩
abbrev main_v385 : Ref sig .tc := ⟨.hbm, 439, rfl⟩
abbrev main_v386 : Ref sig .tc := ⟨.hbm, 440, rfl⟩
abbrev main_cst_31 : Ref sig .tc := ⟨.hbm, 441, rfl⟩
abbrev main_v387 : Ref sig .tc := ⟨.hbm, 442, rfl⟩
abbrev main_v388 : Ref sig .tc := ⟨.hbm, 443, rfl⟩
abbrev main_v389 : Ref sig .tc := ⟨.hbm, 444, rfl⟩
abbrev main_v390 : Ref sig .tc := ⟨.hbm, 445, rfl⟩
abbrev main_cst_32 : Ref sig .tc := ⟨.hbm, 446, rfl⟩
abbrev main_v391 : Ref sig .tc := ⟨.hbm, 447, rfl⟩
abbrev main_v392 : Ref sig .tc := ⟨.hbm, 448, rfl⟩
abbrev main_v393 : Ref sig .tc := ⟨.hbm, 449, rfl⟩
abbrev main_v394 : Ref sig .tc := ⟨.hbm, 450, rfl⟩
abbrev main_cst_33 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_cst_34 : Ref sig .tc := ⟨.hbm, 456, rfl⟩
abbrev main_v399 : Ref sig .tc := ⟨.hbm, 457, rfl⟩
abbrev main_v400 : Ref sig .tc := ⟨.hbm, 458, rfl⟩
abbrev main_v401 : Ref sig .tc := ⟨.hbm, 459, rfl⟩
abbrev main_v402 : Ref sig .tc := ⟨.hbm, 460, rfl⟩
abbrev main_cst_35 : Ref sig .tc := ⟨.hbm, 461, rfl⟩
abbrev main_v403 : Ref sig .tc := ⟨.hbm, 462, rfl⟩
abbrev main_v404 : Ref sig .tc := ⟨.hbm, 463, rfl⟩
abbrev main_v405 : Ref sig .tc := ⟨.hbm, 464, rfl⟩
abbrev main_v406 : Ref sig .tc := ⟨.hbm, 465, rfl⟩
abbrev main_cst_36 : Ref sig .tc := ⟨.hbm, 466, rfl⟩
abbrev main_v407 : Ref sig .tc := ⟨.hbm, 467, rfl⟩
abbrev main_v408 : Ref sig .tc := ⟨.hbm, 468, rfl⟩
abbrev main_v409 : Ref sig .tc := ⟨.hbm, 469, rfl⟩
abbrev main_v410 : Ref sig .tc := ⟨.hbm, 470, rfl⟩
abbrev main_cst_37 : Ref sig .tc := ⟨.hbm, 471, rfl⟩
abbrev main_v411 : Ref sig .tc := ⟨.hbm, 472, rfl⟩
abbrev main_v412 : Ref sig .tc := ⟨.hbm, 473, rfl⟩
abbrev main_v413 : Ref sig .tc := ⟨.hbm, 474, rfl⟩
abbrev main_v414 : Ref sig .tc := ⟨.hbm, 475, rfl⟩
abbrev main_cst_38 : Ref sig .tc := ⟨.hbm, 476, rfl⟩
abbrev main_v415 : Ref sig .tc := ⟨.hbm, 477, rfl⟩
abbrev main_v416 : Ref sig .tc := ⟨.hbm, 478, rfl⟩
abbrev main_v417 : Ref sig .tc := ⟨.hbm, 479, rfl⟩
abbrev main_v418 : Ref sig .tc := ⟨.hbm, 480, rfl⟩
abbrev main_cst_39 : Ref sig .tc := ⟨.hbm, 481, rfl⟩
abbrev main_v419 : Ref sig .tc := ⟨.hbm, 482, rfl⟩
abbrev main_v420 : Ref sig .tc := ⟨.hbm, 483, rfl⟩
abbrev main_v421 : Ref sig .tc := ⟨.hbm, 484, rfl⟩
abbrev main_v422 : Ref sig .tc := ⟨.hbm, 485, rfl⟩
abbrev main_cst_40 : Ref sig .tc := ⟨.hbm, 486, rfl⟩
abbrev main_v423 : Ref sig .tc := ⟨.hbm, 487, rfl⟩
abbrev main_v424 : Ref sig .tc := ⟨.hbm, 488, rfl⟩
abbrev main_v425 : Ref sig .tc := ⟨.hbm, 489, rfl⟩
abbrev main_v426 : Ref sig .tc := ⟨.hbm, 490, rfl⟩
abbrev main_cst_41 : Ref sig .tc := ⟨.hbm, 491, rfl⟩
abbrev main_v427 : Ref sig .tc := ⟨.hbm, 492, rfl⟩
abbrev main_v428 : Ref sig .tc := ⟨.hbm, 493, rfl⟩
abbrev main_v429 : Ref sig .tc := ⟨.hbm, 494, rfl⟩
abbrev main_v430 : Ref sig .tc := ⟨.hbm, 495, rfl⟩
abbrev main_cst_42 : Ref sig .tc := ⟨.hbm, 496, rfl⟩
abbrev main_v431 : Ref sig .tc := ⟨.hbm, 497, rfl⟩
abbrev main_v432 : Ref sig .tc := ⟨.hbm, 498, rfl⟩
abbrev main_v433 : Ref sig .tc := ⟨.hbm, 499, rfl⟩
abbrev main_v434 : Ref sig .tc := ⟨.hbm, 500, rfl⟩
abbrev main_cst_43 : Ref sig .tc := ⟨.hbm, 501, rfl⟩
abbrev main_v435 : Ref sig .tc := ⟨.hbm, 502, rfl⟩
abbrev main_v436 : Ref sig .tc := ⟨.hbm, 503, rfl⟩
abbrev main_v437 : Ref sig .tc := ⟨.hbm, 504, rfl⟩
abbrev main_v438 : Ref sig .tc := ⟨.hbm, 505, rfl⟩
abbrev main_cst_44 : Ref sig .tc := ⟨.hbm, 506, rfl⟩
abbrev main_v439 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_cst_45 : Ref sig .tc := ⟨.hbm, 511, rfl⟩
abbrev main_v443 : Ref sig .tc := ⟨.hbm, 512, rfl⟩
abbrev main_v444 : Ref sig .tc := ⟨.hbm, 513, rfl⟩
abbrev main_v445 : Ref sig .tc := ⟨.hbm, 514, rfl⟩
abbrev main_v446 : Ref sig .tc := ⟨.hbm, 515, rfl⟩
abbrev main_cst_46 : Ref sig .tc := ⟨.hbm, 516, rfl⟩
abbrev main_v447 : Ref sig .tc := ⟨.hbm, 517, rfl⟩
abbrev main_v448 : Ref sig .tc := ⟨.hbm, 518, rfl⟩
abbrev main_v449 : Ref sig .tc := ⟨.hbm, 519, rfl⟩
abbrev main_v450 : Ref sig .tc := ⟨.hbm, 520, rfl⟩
abbrev main_cst_47 : Ref sig .tc := ⟨.hbm, 521, rfl⟩
abbrev main_v451 : Ref sig .tc := ⟨.hbm, 522, rfl⟩
abbrev main_v452 : Ref sig .tc := ⟨.hbm, 523, rfl⟩
abbrev main_v453 : Ref sig .tc := ⟨.hbm, 524, rfl⟩
abbrev main_v454 : Ref sig .tc := ⟨.hbm, 525, rfl⟩
abbrev main_cst_48 : Ref sig .tc := ⟨.hbm, 526, rfl⟩
abbrev main_v455 : Ref sig .tc := ⟨.hbm, 527, rfl⟩
abbrev main_v456 : Ref sig .tc := ⟨.hbm, 528, rfl⟩
abbrev main_v457 : Ref sig .tc := ⟨.hbm, 529, rfl⟩
abbrev main_v458 : Ref sig .tc := ⟨.hbm, 530, rfl⟩
abbrev main_cst_49 : Ref sig .tc := ⟨.hbm, 531, rfl⟩
abbrev main_v459 : Ref sig .tc := ⟨.hbm, 532, rfl⟩
abbrev main_v460 : Ref sig .tc := ⟨.hbm, 533, rfl⟩
abbrev main_v461 : Ref sig .tc := ⟨.hbm, 534, rfl⟩
abbrev main_v462 : Ref sig .tc := ⟨.hbm, 535, rfl⟩
abbrev main_cst_50 : Ref sig .tc := ⟨.hbm, 536, rfl⟩
abbrev main_v463 : Ref sig .tc := ⟨.hbm, 537, rfl⟩
abbrev main_v464 : Ref sig .tc := ⟨.hbm, 538, rfl⟩
abbrev main_v465 : Ref sig .tc := ⟨.hbm, 539, rfl⟩
abbrev main_v466 : Ref sig .tc := ⟨.hbm, 540, rfl⟩
abbrev main_cst_51 : Ref sig .tc := ⟨.hbm, 541, rfl⟩
abbrev main_v467 : Ref sig .tc := ⟨.hbm, 542, rfl⟩
abbrev main_v468 : Ref sig .tc := ⟨.hbm, 543, rfl⟩
abbrev main_v469 : Ref sig .tc := ⟨.hbm, 544, rfl⟩
abbrev main_v470 : Ref sig .tc := ⟨.hbm, 545, rfl⟩
abbrev main_cst_52 : Ref sig .tc := ⟨.hbm, 546, rfl⟩
abbrev main_v471 : Ref sig .tc := ⟨.hbm, 547, rfl⟩
abbrev main_v472 : Ref sig .tc := ⟨.hbm, 548, rfl⟩
abbrev main_v473 : Ref sig .tc := ⟨.hbm, 549, rfl⟩
abbrev main_v474 : Ref sig .tc := ⟨.hbm, 550, rfl⟩
abbrev main_cst_53 : Ref sig .tc := ⟨.hbm, 551, rfl⟩
abbrev main_v475 : Ref sig .tc := ⟨.hbm, 552, rfl⟩
abbrev main_v476 : Ref sig .tc := ⟨.hbm, 553, rfl⟩
abbrev main_v477 : Ref sig .tc := ⟨.hbm, 554, rfl⟩
abbrev main_v478 : Ref sig .tc := ⟨.hbm, 555, rfl⟩
abbrev main_cst_54 : Ref sig .tc := ⟨.hbm, 556, rfl⟩
abbrev main_v479 : Ref sig .tc := ⟨.hbm, 557, rfl⟩
abbrev main_v480 : Ref sig .tc := ⟨.hbm, 558, rfl⟩
abbrev main_v481 : Ref sig .tc := ⟨.hbm, 559, rfl⟩
abbrev main_v482 : Ref sig .tc := ⟨.hbm, 560, rfl⟩
abbrev main_cst_55 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_cst_56 : Ref sig .tc := ⟨.hbm, 566, rfl⟩
abbrev main_v487 : Ref sig .tc := ⟨.hbm, 567, rfl⟩
abbrev main_v488 : Ref sig .tc := ⟨.hbm, 568, rfl⟩
abbrev main_v489 : Ref sig .tc := ⟨.hbm, 569, rfl⟩
abbrev main_v490 : Ref sig .tc := ⟨.hbm, 570, rfl⟩
abbrev main_v491 : Ref sig .tc := ⟨.hbm, 571, rfl⟩
abbrev main_v492 : Ref sig .tc := ⟨.hbm, 572, rfl⟩
abbrev main_v493 : Ref sig .tc := ⟨.hbm, 573, rfl⟩
abbrev main_cst_57 : Ref sig .tc := ⟨.hbm, 574, rfl⟩
abbrev main_v494 : Ref sig .tc := ⟨.hbm, 575, rfl⟩
abbrev main_v495 : Ref sig .tc := ⟨.hbm, 576, rfl⟩
abbrev main_cst_58 : Ref sig .tc := ⟨.hbm, 577, rfl⟩
abbrev main_v496 : Ref sig .tc := ⟨.hbm, 578, rfl⟩
abbrev main_v497 : Ref sig .tc := ⟨.hbm, 579, rfl⟩
abbrev main_v498 : Ref sig .tc := ⟨.hbm, 580, rfl⟩
abbrev main_v499 : Ref sig .tc := ⟨.hbm, 581, rfl⟩
abbrev main_v500 : Ref sig .tc := ⟨.hbm, 582, rfl⟩
abbrev main_v501 : Ref sig .tc := ⟨.hbm, 583, rfl⟩
abbrev main_v502 : Ref sig .tc := ⟨.hbm, 584, rfl⟩
abbrev main_cst_59 : Ref sig .tc := ⟨.hbm, 585, rfl⟩
abbrev main_v503 : Ref sig .tc := ⟨.hbm, 586, rfl⟩
abbrev main_v504 : Ref sig .tc := ⟨.hbm, 587, rfl⟩
abbrev main_cst_60 : Ref sig .tc := ⟨.hbm, 588, rfl⟩
abbrev main_v505 : Ref sig .tc := ⟨.hbm, 589, rfl⟩
abbrev main_v506 : Ref sig .tc := ⟨.hbm, 590, rfl⟩
abbrev main_v507 : Ref sig .tc := ⟨.hbm, 591, rfl⟩
abbrev main_cst_61 : Ref sig .tc := ⟨.hbm, 592, rfl⟩
abbrev main_v508 : Ref sig .tc := ⟨.hbm, 593, rfl⟩
abbrev main_v509 : Ref sig .tc := ⟨.hbm, 594, rfl⟩
abbrev main_v510 : Ref sig .tc := ⟨.hbm, 595, rfl⟩
abbrev main_cst_62 : Ref sig .tc := ⟨.hbm, 596, rfl⟩
abbrev main_v511 : Ref sig .tc := ⟨.hbm, 597, rfl⟩
abbrev main_v512 : Ref sig .tc := ⟨.hbm, 598, rfl⟩
abbrev main_v513 : Ref sig .tc := ⟨.hbm, 599, rfl⟩

abbrev nD : Nat := 1
abbrev τ : Topo := Topo.v7x

variable {F : FTy → Type} [FloatOps F]
-- ==== DwOut.lean ====
abbrev S4096x5632 : Shape := ⟨2, ![4096, 5632]⟩
abbrev S4096x2048 : Shape := ⟨2, ![4096, 2048]⟩
abbrev S2x4x704x2048 : Shape := ⟨4, ![2, 4, 704, 2048]⟩
abbrev S2048x1408 : Shape := ⟨2, ![2048, 1408]⟩
abbrev S2048x1024 : Shape := ⟨2, ![2048, 1024]⟩
abbrev S2x1x704x1024 : Shape := ⟨4, ![2, 1, 704, 1024]⟩
abbrev S1408x1024 : Shape := ⟨2, ![1408, 1024]⟩
abbrev S704x1024 : Shape := ⟨2, ![704, 1024]⟩
abbrev S1x1x704x1024 : Shape := ⟨4, ![1, 1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S2x4x704x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x704x1024, .f32⟩
  | .local _ .vmem, ⟨5, _⟩ => ⟨S2x1x704x1024, .f32⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S4x2x704x2048 : Shape := ⟨4, ![4, 2, 704, 2048]⟩
abbrev S2x4x704x2048 : Shape := ⟨4, ![2, 4, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4x2x704x2048, .f32⟩
  | .hbm, ⟨10, _⟩ => ⟨S2x4x704x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dhu.lean ====
abbrev S4096x5632 : Shape := ⟨2, ![4096, 5632]⟩
abbrev S4096x2048 : Shape := ⟨2, ![4096, 2048]⟩
abbrev S5632x2048 : Shape := ⟨2, ![5632, 2048]⟩
abbrev S_ : Shape := ⟨0, ![]⟩
abbrev S1x4096x5632 : Shape := ⟨3, ![1, 4096, 5632]⟩
abbrev S2x4096x5632 : Shape := ⟨3, ![2, 4096, 5632]⟩
abbrev S512x2048 : Shape := ⟨2, ![512, 2048]⟩
abbrev S2816x2048 : Shape := ⟨2, ![2816, 2048]⟩
abbrev S2x512x2816 : Shape := ⟨3, ![2, 512, 2816]⟩
abbrev S512x2816 : Shape := ⟨2, ![512, 2816]⟩
abbrev S1x512x2816 : Shape := ⟨3, ![1, 512, 2816]⟩

abbrev nBuf : Space → Nat
  | .hbm => 24
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x2048, .bf16⟩
  | .hbm, ⟨3, _⟩ => ⟨S5632x2048, .bf16⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x4096x5632, .f32⟩
  | .hbm, ⟨20, _⟩ => ⟨S1x4096x5632, .f32⟩
  | .hbm, ⟨21, _⟩ => ⟨S2x4096x5632, .f32⟩
  | .hbm, ⟨22, _⟩ => ⟨S2x4096x5632, .bf16⟩
  | .hbm, ⟨23, _⟩ => ⟨S2x4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2816x2048, .bf16⟩
  | .local _ .vmem, ⟨3, _⟩ => ⟨S2x512x2816, .bf16⟩
  | .local _ .vmem, ⟨4, _⟩ => ⟨S2x512x2816, .bf16⟩
  | .local _ .vmem, ⟨5, _⟩ => ⟨S2x512x2816, .bf16⟩
  | .local _ .vmem, ⟨6, _⟩ => ⟨S2x512x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhuRefIdeal.lean ====
abbrev S4096x5632 : Shape := ⟨2, ![4096, 5632]⟩
abbrev S4096x2048 : Shape := ⟨2, ![4096, 2048]⟩
abbrev S5632x2048 : Shape := ⟨2, ![5632, 2048]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x2048, .bf16⟩
  | .hbm, ⟨3, _⟩ => ⟨S5632x2048, .bf16⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S5632x2048, .f32⟩
  | .hbm, ⟨19, _⟩ => ⟨S4096x2048, .f32⟩
  | .hbm, ⟨20, _⟩ => ⟨S4096x2048, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S1x4096x5632, .f32⟩
  | .hbm, ⟨29, _⟩ => ⟨S1x4096x5632, .f32⟩
  | .hbm, ⟨30, _⟩ => ⟨S2x4096x5632, .f32⟩
  | .hbm, ⟨31, _⟩ => ⟨S2x4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== DwIn.lean ====
abbrev S4096x2048 : Shape := ⟨2, ![4096, 2048]⟩
abbrev S2x4096x5632 : Shape := ⟨3, ![2, 4096, 5632]⟩
abbrev S2x4x1024x2816 : Shape := ⟨4, ![2, 4, 1024, 2816]⟩
abbrev S2048x512 : Shape := ⟨2, ![2048, 512]⟩
abbrev S1x2048x2816 : Shape := ⟨3, ![1, 2048, 2816]⟩
abbrev S1x1x512x2816 : Shape := ⟨4, ![1, 1, 512, 2816]⟩
abbrev S512x2816 : Shape := ⟨2, ![512, 2816]⟩
abbrev S2048x2816 : Shape := ⟨2, ![2048, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2x4x1024x2816, .f32⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1x1x512x2816, .f32⟩
  | .local _ .vmem, ⟨5, _⟩ => ⟨S1x1x512x2816, .f32⟩
  | .local _ .vmem, ⟨6, _⟩ => ⟨S512x2816, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S2x1024x4x2816 : Shape := ⟨4, ![2, 1024, 4, 2816]⟩
abbrev S2x4x1024x2816 : Shape := ⟨4, ![2, 4, 1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S1x4096x5632, .bf16⟩
  | .hbm, ⟨9, _⟩ => ⟨S4096x5632, .bf16⟩
  | .hbm, ⟨10, _⟩ => ⟨S4096x5632, .f32⟩
  | .hbm, ⟨11, _⟩ => ⟨S1x4096x5632, .bf16⟩
  | .hbm, ⟨12, _⟩ => ⟨S4096x5632, .bf16⟩
  | .hbm, ⟨13, _⟩ => ⟨S4096x5632, .f32⟩
  | .hbm, ⟨14, _⟩ => ⟨S4096x11264, .f32⟩
  | .hbm, ⟨15, _⟩ => ⟨S11264x2048, .f32⟩
  | .hbm, ⟨16, _⟩ => ⟨S2048x11264, .f32⟩
  | .hbm, ⟨17, _⟩ => ⟨S2x1024x4x2816, .f32⟩
  | .hbm, ⟨18, _⟩ => ⟨S2x4x1024x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Dn.lean ====
abbrev S2x4096x5632 : Shape := ⟨3, ![2, 4096, 5632]⟩
abbrev S4x2048x2816 : Shape := ⟨3, ![4, 2048, 2816]⟩
abbrev S4096x2048 : Shape := ⟨2, ![4096, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S4x2048x2816, .bf16⟩
  | .hbm, ⟨2, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnRefIdeal.lean ====
abbrev S2x4096x5632 : Shape := ⟨3, ![2, 4096, 5632]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x11264, .f32⟩
  | .hbm, ⟨12, _⟩ => ⟨S_, .f32⟩
  | .hbm, ⟨13, _⟩ => ⟨S4096x2048, .f32⟩
  | .hbm, ⟨14, _⟩ => ⟨S4096x11264, .f32⟩
  | .hbm, ⟨15, _⟩ => ⟨S4096x5632, .f32⟩
  | .hbm, ⟨16, _⟩ => ⟨S4096x5632, .f32⟩
  | .hbm, ⟨17, _⟩ => ⟨S1x4096x5632, .bf16⟩
  | .hbm, ⟨18, _⟩ => ⟨S4096x5632, .bf16⟩
  | .hbm, ⟨19, _⟩ => ⟨S4096x5632, .f32⟩
  | .hbm, ⟨20, _⟩ => ⟨S1x4096x5632, .bf16⟩
  | .hbm, ⟨21, _⟩ => ⟨S4096x5632, .bf16⟩
  | .hbm, ⟨22, _⟩ => ⟨S4096x5632, .f32⟩
  | .hbm, ⟨23, _⟩ => ⟨S4096x11264, .f32⟩
  | .hbm, ⟨24, _⟩ => ⟨S4096x2048, .f32⟩
  | .hbm, ⟨25, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Gates.lean ====
abbrev S4x4096x1792 : Shape := ⟨3, ![4, 4096, 1792]⟩
abbrev S4096x2048 : Shape := ⟨2, ![4096, 2048]⟩
abbrev S1x2048 : Shape := ⟨2, ![1, 2048]⟩
abbrev S4096x4096 : Shape := ⟨2, ![4096, 4096]⟩
abbrev S4x256x1792 : Shape := ⟨3, ![4, 256, 1792]⟩
abbrev S256x2048 : Shape := ⟨2, ![256, 2048]⟩
abbrev S256x4096 : Shape := ⟨2, ![256, 4096]⟩
abbrev S1x256x512 : Shape := ⟨3, ![1, 256, 512]⟩
abbrev S256x512 : Shape := ⟨2, ![256, 512]⟩
abbrev S1x256x1536 : Shape := ⟨3, ![1, 256, 1536]⟩
abbrev S256x1536 : Shape := ⟨2, ![256, 1536]⟩
abbrev S1x256x256 : Shape := ⟨3, ![1, 256, 256]⟩
abbrev S256x256 : Shape := ⟨2, ![256, 256]⟩
abbrev S1x256x1792 : Shape := ⟨3, ![1, 256, 1792]⟩
abbrev S256x1792 : Shape := ⟨2, ![256, 1792]⟩
abbrev S2048 : Shape := ⟨1, ![2048]⟩

abbrev nBuf : Space → Nat
  | .hbm => 13
  | .vmem => 20
  | .smem => 0
  | _ => 0

abbrev bufTy : (tb : Table) → Fin (tcTables nBuf tb) → BufTy
  | .hbm, ⟨0, _⟩ => ⟨S4x4096x1792, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .bf16⟩
  | .hbm, ⟨8, _⟩ => ⟨S4096x2048, .bf16⟩
  | .hbm, ⟨9, _⟩ => ⟨S4096x4096, .bf16⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S4x256x1792, .bf16⟩
  | .local _ .vmem, ⟨1, _⟩ => ⟨S4x256x1792, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x4096, .bf16⟩
  | .local _ .vmem, ⟨16, _⟩ => ⟨S256x4096, .bf16⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S4x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GatesRefIdeal.lean ====
abbrev S4x4096x1792 : Shape := ⟨3, ![4, 4096, 1792]⟩
abbrev S4096x2048 : Shape := ⟨2, ![4096, 2048]⟩
abbrev S1x2048 : Shape := ⟨2, ![1, 2048]⟩
abbrev S1x4096x1792 : Shape := ⟨3, ![1, 4096, 1792]⟩
abbrev S4096x1792 : Shape := ⟨2, ![4096, 1792]⟩
abbrev S4096x7168 : Shape := ⟨2, ![4096, 7168]⟩
abbrev S4096x4096 : Shape := ⟨2, ![4096, 4096]⟩
abbrev S_ : Shape := ⟨0, ![]⟩
abbrev S2048 : Shape := ⟨1, ![2048]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1792, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x4096x1792, .bf16⟩
  | .hbm, ⟨8, _⟩ => ⟨S4096x1792, .bf16⟩
  | .hbm, ⟨9, _⟩ => ⟨S1x4096x1792, .bf16⟩
  | .hbm, ⟨10, _⟩ => ⟨S4096x1792, .bf16⟩
  | .hbm, ⟨11, _⟩ => ⟨S1x4096x1792, .bf16⟩
  | .hbm, ⟨12, _⟩ => ⟨S4096x1792, .bf16⟩
  | .hbm, ⟨13, _⟩ => ⟨S1x4096x1792, .bf16⟩
  | .hbm, ⟨14, _⟩ => ⟨S4096x1792, .bf16⟩
  | .hbm, ⟨15, _⟩ => ⟨S4096x7168, .bf16⟩
  | .hbm, ⟨16, _⟩ => ⟨S4096x4096, .bf16⟩
  | .hbm, ⟨17, _⟩ => ⟨S4096x4096, .f32⟩
  | .hbm, ⟨18, _⟩ => ⟨S4096x2048, .f32⟩
  | .hbm, ⟨19, _⟩ => ⟨S4096x2048, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x4096, .f32⟩
  | .hbm, ⟨61, _⟩ => ⟨S4096x4096, .f32⟩
  | .hbm, ⟨62, _⟩ => ⟨S4096x2048, .bf16⟩
  | .hbm, ⟨63, _⟩ => ⟨S4096x2048, .bf16⟩
  | .hbm, ⟨64, _⟩ => ⟨S4096x4096, .bf16⟩
  | _, _ => ⟨S4x4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S1x2048, .f32⟩
  | .hbm, ⟨82, _⟩ => ⟨S1x2048, .f32⟩
  | .hbm, ⟨83, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== MixDwOut.lean ====
abbrev S4096x2048 : Shape := ⟨2, ![4096, 2048]⟩
abbrev S2x4x256x2048 : Shape := ⟨4, ![2, 4, 256, 2048]⟩
abbrev S4096x512 : Shape := ⟨2, ![4096, 512]⟩
abbrev S4096x1024 : Shape := ⟨2, ![4096, 1024]⟩
abbrev S2x1x256x1024 : Shape := ⟨4, ![2, 1, 256, 1024]⟩
abbrev S512x1024 : Shape := ⟨2, ![512, 1024]⟩
abbrev S256x1024 : Shape := ⟨2, ![256, 1024]⟩
abbrev S1x1x256x1024 : Shape := ⟨4, ![1, 1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x4x256x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S2x1x256x1024, .f32⟩
  | .local _ .vmem, ⟨5, _⟩ => ⟨S2x1x256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwOutRefIdeal.lean ====
abbrev S4096x2048 : Shape := ⟨2, ![4096, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S2x4x256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDz.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDzRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDwA.lean ====
abbrev S4096x1024 : Shape := ⟨2, ![4096, 1024]⟩
abbrev S4096x2048 : Shape := ⟨2, ![4096, 2048]⟩
abbrev S2x4x512x512 : Shape := ⟨4, ![2, 4, 512, 512]⟩
abbrev S4096x512 : Shape := ⟨2, ![4096, 512]⟩
abbrev S2x1x512x512 : Shape := ⟨4, ![2, 1, 512, 512]⟩
abbrev S1024x512 : Shape := ⟨2, ![1024, 512]⟩
abbrev S512x512 : Shape := ⟨2, ![512, 512]⟩
abbrev S1x1x512x512 : Shape := ⟨4, ![1, 1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x4x512x512, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S2x1x512x512, .f32⟩
  | .local _ .vmem, ⟨4, _⟩ => ⟨S2x1x512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== MixDwARefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2x512x4x512, .f32⟩
  | .hbm, ⟨10, _⟩ => ⟨S2x4x512x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDa.lean ====
abbrev S4096x2048 : Shape := ⟨2, ![4096, 2048]⟩
abbrev S4x1024x512 : Shape := ⟨3, ![4, 1024, 512]⟩
abbrev S4096x1024 : Shape := ⟨2, ![4096, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MixDaRefIdeal.lean ====
abbrev S4096x2048 : Shape := ⟨2, ![4096, 2048]⟩
abbrev S4x1024x512 : Shape := ⟨3, ![4, 1024, 512]⟩
abbrev S1x1024x512 : Shape := ⟨3, ![1, 1024, 512]⟩
abbrev S1024x512 : Shape := ⟨2, ![1024, 512]⟩
abbrev S1024x2048 : Shape := ⟨2, ![1024, 2048]⟩
abbrev S_ : Shape := ⟨0, ![]⟩
abbrev S4096x1024 : Shape := ⟨2, ![4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S1x1024x512, .bf16⟩
  | .hbm, ⟨3, _⟩ => ⟨S1024x512, .bf16⟩
  | .hbm, ⟨4, _⟩ => ⟨S1x1024x512, .bf16⟩
  | .hbm, ⟨5, _⟩ => ⟨S1024x512, .bf16⟩
  | .hbm, ⟨6, _⟩ => ⟨S1x1024x512, .bf16⟩
  | .hbm, ⟨7, _⟩ => ⟨S1024x512, .bf16⟩
  | .hbm, ⟨8, _⟩ => ⟨S1x1024x512, .bf16⟩
  | .hbm, ⟨9, _⟩ => ⟨S1024x512, .bf16⟩
  | .hbm, ⟨10, _⟩ => ⟨S1024x2048, .bf16⟩
  | .hbm, ⟨11, _⟩ => ⟨S1024x2048, .f32⟩
  | .hbm, ⟨12, _⟩ => ⟨S_, .f32⟩
  | .hbm, ⟨13, _⟩ => ⟨S4096x1024, .f32⟩
  | .hbm, ⟨14, _⟩ => ⟨S4096x2048, .f32⟩
  | .hbm, ⟨15, _⟩ => ⟨S4096x2048, .f32⟩
  | .hbm, ⟨16, _⟩ => ⟨S4096x1024, .f32⟩
  | .hbm, ⟨17, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== MixDwB.lean ====
abbrev S4096x1024 : Shape := ⟨2, ![4096, 1024]⟩
abbrev S4096x2048 : Shape := ⟨2, ![4096, 2048]⟩
abbrev S2x4x512x128 : Shape := ⟨4, ![2, 4, 512, 128]⟩
abbrev S4096x256 : Shape := ⟨2, ![4096, 256]⟩
abbrev S4096x512 : Shape := ⟨2, ![4096, 512]⟩
abbrev S1x4x256x128 : Shape := ⟨4, ![1, 4, 256, 128]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x4x512x128, .f32⟩
  | .local _ .vmem, ⟨0, _⟩ => ⟨S4096x256, .bf16⟩
  | .local _ .vmem, ⟨1, _⟩ => ⟨S4096x256, .bf16⟩
  | .local _ .vmem, ⟨2, _⟩ => ⟨S4096x512, .bf16⟩
  | .local _ .vmem, ⟨3, _⟩ => ⟨S4096x512, .bf16⟩
  | .local _ .vmem, ⟨4, _⟩ => ⟨S1x4x256x128, .f32⟩
  | .local _ .vmem, ⟨5, _⟩ => ⟨S1x4x256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== MixDwBRefIdeal.lean ====
abbrev S4096x1024 : Shape := ⟨2, ![4096, 1024]⟩
abbrev S4096x2048 : Shape := ⟨2, ![4096, 2048]⟩
abbrev S_ : Shape := ⟨0, ![]⟩
abbrev S4x256x512 : Shape := ⟨3, ![4, 256, 512]⟩
abbrev S4096x4x256 : Shape := ⟨3, ![4096, 4, 256]⟩
abbrev S4x512x4096 : Shape := ⟨3, ![4, 512, 4096]⟩
abbrev S4096x4x512 : Shape := ⟨3, ![4096, 4, 512]⟩
abbrev S4x512x256 : Shape := ⟨3, ![4, 512, 256]⟩
abbrev S2x512x4x128 : Shape := ⟨4, ![2, 512, 4, 128]⟩
abbrev S2x4x512x128 : Shape := ⟨4, ![2, 4, 512, 128]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S4x256x512, .f32⟩
  | .hbm, ⟨4, _⟩ => ⟨S4096x1024, .f32⟩
  | .hbm, ⟨5, _⟩ => ⟨S4096x4x256, .f32⟩
  | .hbm, ⟨6, _⟩ => ⟨S4x512x4096, .f32⟩
  | .hbm, ⟨7, _⟩ => ⟨S4096x4x512, .f32⟩
  | .hbm, ⟨8, _⟩ => ⟨S4096x2048, .f32⟩
  | .hbm, ⟨9, _⟩ => ⟨S4096x2048, .f32⟩
  | .hbm, ⟨10, _⟩ => ⟨S4096x4x512, .f32⟩
  | .hbm, ⟨11, _⟩ => ⟨S4x512x4096, .f32⟩
  | .hbm, ⟨12, _⟩ => ⟨S4x512x256, .f32⟩
  | .hbm, ⟨13, _⟩ => ⟨S4x256x512, .f32⟩
  | .hbm, ⟨14, _⟩ => ⟨S2x512x4x128, .f32⟩
  | .hbm, ⟨15, _⟩ => ⟨S2x4x512x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== MixDmixed.lean ====
abbrev S4096x2048 : Shape := ⟨2, ![4096, 2048]⟩
abbrev S4x256x512 : Shape := ⟨3, ![4, 256, 512]⟩
abbrev S4096x1024 : Shape := ⟨2, ![4096, 1024]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x256x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .bf16⟩
  | .local _ .vmem, ⟨5, _⟩ => ⟨S1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDmixedRefIdeal.lean ====
abbrev S4096x2048 : Shape := ⟨2, ![4096, 2048]⟩
abbrev S4x256x512 : Shape := ⟨3, ![4, 256, 512]⟩
abbrev S_ : Shape := ⟨0, ![]⟩
abbrev S4096x1024 : Shape := ⟨2, ![4096, 1024]⟩
abbrev S4096x4x256 : Shape := ⟨3, ![4096, 4, 256]⟩
abbrev S4x512x4096 : Shape := ⟨3, ![4, 512, 4096]⟩
abbrev S4096x4x512 : Shape := ⟨3, ![4096, 4, 512]⟩
abbrev S4x4096x256 : Shape := ⟨3, ![4, 4096, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x256x512, .bf16⟩
  | .hbm, ⟨2, _⟩ => ⟨S_, .f32⟩
  | .hbm, ⟨3, _⟩ => ⟨S4096x1024, .f32⟩
  | .hbm, ⟨4, _⟩ => ⟨S4x256x512, .f32⟩
  | .hbm, ⟨5, _⟩ => ⟨S4096x4x256, .f32⟩
  | .hbm, ⟨6, _⟩ => ⟨S4x512x4096, .f32⟩
  | .hbm, ⟨7, _⟩ => ⟨S4096x4x512, .f32⟩
  | .hbm, ⟨8, _⟩ => ⟨S4096x2048, .f32⟩
  | .hbm, ⟨9, _⟩ => ⟨S4096x2048, .f32⟩
  | .hbm, ⟨10, _⟩ => ⟨S4096x4x512, .f32⟩
  | .hbm, ⟨11, _⟩ => ⟨S4x512x4096, .f32⟩
  | .hbm, ⟨12, _⟩ => ⟨S4x4096x256, .f32⟩
  | .hbm, ⟨13, _⟩ => ⟨S4096x4x256, .f32⟩
  | .hbm, ⟨14, _⟩ => ⟨S4096x1024, .f32⟩
  | .hbm, ⟨15, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== MixDwIn.lean ====
abbrev S4096x2048 : Shape := ⟨2, ![4096, 2048]⟩
abbrev S4x4096x1792 : Shape := ⟨3, ![4, 4096, 1792]⟩
abbrev S2x4x1024x1792 : Shape := ⟨4, ![2, 4, 1024, 1792]⟩
abbrev S4096x512 : Shape := ⟨2, ![4096, 512]⟩
abbrev S1x4096x1792 : Shape := ⟨3, ![1, 4096, 1792]⟩
abbrev S1x1x512x1792 : Shape := ⟨4, ![1, 1, 512, 1792]⟩
abbrev S4096x1792 : Shape := ⟨2, ![4096, 1792]⟩
abbrev S512x1792 : Shape := ⟨2, ![512, 1792]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x4096x1792, .bf16⟩
  | .hbm, ⟨2, _⟩ => ⟨S2x4x1024x1792, .f32⟩
  | .local _ .vmem, ⟨0, _⟩ => ⟨S4096x512, .bf16⟩
  | .local _ .vmem, ⟨1, _⟩ => ⟨S4096x512, .bf16⟩
  | .local _ .vmem, ⟨2, _⟩ => ⟨S1x4096x1792, .bf16⟩
  | .local _ .vmem, ⟨3, _⟩ => ⟨S1x4096x1792, .bf16⟩
  | .local _ .vmem, ⟨4, _⟩ => ⟨S1x1x512x1792, .f32⟩
  | .local _ .vmem, ⟨5, _⟩ => ⟨S1x1x512x1792, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4096x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwInRefIdeal.lean ====
abbrev S4096x2048 : Shape := ⟨2, ![4096, 2048]⟩
abbrev S4x4096x1792 : Shape := ⟨3, ![4, 4096, 1792]⟩
abbrev S1x4096x1792 : Shape := ⟨3, ![1, 4096, 1792]⟩
abbrev S4096x1792 : Shape := ⟨2, ![4096, 1792]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩
abbrev S2x1024x4x1792 : Shape := ⟨4, ![2, 1024, 4, 1792]⟩
abbrev S2x4x1024x1792 : Shape := ⟨4, ![2, 4, 1024, 1792]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x1792, .bf16⟩
  | .hbm, ⟨2, _⟩ => ⟨S1x4096x1792, .bf16⟩
  | .hbm, ⟨3, _⟩ => ⟨S4096x1792, .bf16⟩
  | .hbm, ⟨4, _⟩ => ⟨S1x4096x1792, .bf16⟩
  | .hbm, ⟨5, _⟩ => ⟨S4096x1792, .bf16⟩
  | .hbm, ⟨6, _⟩ => ⟨S1x4096x1792, .bf16⟩
  | .hbm, ⟨7, _⟩ => ⟨S4096x1792, .bf16⟩
  | .hbm, ⟨8, _⟩ => ⟨S1x4096x1792, .bf16⟩
  | .hbm, ⟨9, _⟩ => ⟨S4096x1792, .bf16⟩
  | .hbm, ⟨10, _⟩ => ⟨S4096x7168, .bf16⟩
  | .hbm, ⟨11, _⟩ => ⟨S4096x7168, .f32⟩
  | .hbm, ⟨12, _⟩ => ⟨S_, .f32⟩
  | .hbm, ⟨13, _⟩ => ⟨S2048x7168, .f32⟩
  | .hbm, ⟨14, _⟩ => ⟨S4096x2048, .f32⟩
  | .hbm, ⟨15, _⟩ => ⟨S4096x7168, .f32⟩
  | .hbm, ⟨16, _⟩ => ⟨S7168x2048, .f32⟩
  | .hbm, ⟨17, _⟩ => ⟨S2048x7168, .f32⟩
  | .hbm, ⟨18, _⟩ => ⟨S2x1024x4x1792, .f32⟩
  | .hbm, ⟨19, _⟩ => ⟨S2x4x1024x1792, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== MixDn.lean ====
abbrev S4x4096x1792 : Shape := ⟨3, ![4, 4096, 1792]⟩
abbrev S4x2048x1792 : Shape := ⟨3, ![4, 2048, 1792]⟩
abbrev S4096x2048 : Shape := ⟨2, ![4096, 2048]⟩
abbrev S1x1024x1792 : Shape := ⟨3, ![1, 1024, 1792]⟩
abbrev S1024x1024 : Shape := ⟨2, ![1024, 1024]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1792, .bf16⟩
  | .hbm, ⟨1, _⟩ => ⟨S4x2048x1792, .bf16⟩
  | .hbm, ⟨2, _⟩ => ⟨S4096x2048, .bf16⟩
  | .local _ .vmem, ⟨0, _⟩ => ⟨S1x1024x1792, .bf16⟩
  | .local _ .vmem, ⟨1, _⟩ => ⟨S1x1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDnRefIdeal.lean ====
abbrev S4x4096x1792 : Shape := ⟨3, ![4, 4096, 1792]⟩
abbrev S4x2048x1792 : Shape := ⟨3, ![4, 2048, 1792]⟩
abbrev S_ : Shape := ⟨0, ![]⟩
abbrev S4096x2048 : Shape := ⟨2, ![4096, 2048]⟩
abbrev S1x2048x1792 : Shape := ⟨3, ![1, 2048, 1792]⟩
abbrev S2048x1792 : Shape := ⟨2, ![2048, 1792]⟩
abbrev S2048x7168 : Shape := ⟨2, ![2048, 7168]⟩
abbrev S4096x7168 : Shape := ⟨2, ![4096, 7168]⟩
abbrev S1x4096x1792 : Shape := ⟨3, ![1, 4096, 1792]⟩
abbrev S4096x1792 : Shape := ⟨2, ![4096, 1792]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1792, .bf16⟩
  | .hbm, ⟨1, _⟩ => ⟨S4x2048x1792, .bf16⟩
  | .hbm, ⟨2, _⟩ => ⟨S_, .f32⟩
  | .hbm, ⟨3, _⟩ => ⟨S4096x2048, .f32⟩
  | .hbm, ⟨4, _⟩ => ⟨S1x2048x1792, .bf16⟩
  | .hbm, ⟨5, _⟩ => ⟨S2048x1792, .bf16⟩
  | .hbm, ⟨6, _⟩ => ⟨S1x2048x1792, .bf16⟩
  | .hbm, ⟨7, _⟩ => ⟨S2048x1792, .bf16⟩
  | .hbm, ⟨8, _⟩ => ⟨S1x2048x1792, .bf16⟩
  | .hbm, ⟨9, _⟩ => ⟨S2048x1792, .bf16⟩
  | .hbm, ⟨10, _⟩ => ⟨S1x2048x1792, .bf16⟩
  | .hbm, ⟨11, _⟩ => ⟨S2048x1792, .bf16⟩
  | .hbm, ⟨12, _⟩ => ⟨S2048x7168, .bf16⟩
  | .hbm, ⟨13, _⟩ => ⟨S2048x7168, .f32⟩
  | .hbm, ⟨14, _⟩ => ⟨S4096x7168, .f32⟩
  | .hbm, ⟨15, _⟩ => ⟨S1x4096x1792, .bf16⟩
  | .hbm, ⟨16, _⟩ => ⟨S4096x1792, .bf16⟩
  | .hbm, ⟨17, _⟩ => ⟨S1x4096x1792, .bf16⟩
  | .hbm, ⟨18, _⟩ => ⟨S4096x1792, .bf16⟩
  | .hbm, ⟨19, _⟩ => ⟨S1x4096x1792, .bf16⟩
  | .hbm, ⟨20, _⟩ => ⟨S4096x1792, .bf16⟩
  | .hbm, ⟨21, _⟩ => ⟨S1x4096x1792, .bf16⟩
  | .hbm, ⟨22, _⟩ => ⟨S4096x1792, .bf16⟩
  | .hbm, ⟨23, _⟩ => ⟨S4096x7168, .bf16⟩
  | .hbm, ⟨24, _⟩ => ⟨S4096x7168, .f32⟩
  | .hbm, ⟨25, _⟩ => ⟨S4096x2048, .f32⟩
  | .hbm, ⟨26, _⟩ => ⟨S4096x2048, .bf16⟩
  | _, _ => ⟨S4x4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Swiglu.lean ====
abbrev S4096x2048 : Shape := ⟨2, ![4096, 2048]⟩
abbrev S4x2048x2816 : Shape := ⟨3, ![4, 2048, 2816]⟩
abbrev S8192x2816 : Shape := ⟨2, ![8192, 2816]⟩
abbrev S2x4096x5632 : Shape := ⟨3, ![2, 4096, 5632]⟩
abbrev S4096x5632 : Shape := ⟨2, ![4096, 5632]⟩
abbrev S512x2048 : Shape := ⟨2, ![512, 2048]⟩
abbrev S2048x2816 : Shape := ⟨2, ![2048, 2816]⟩
abbrev S2x512x2816 : Shape := ⟨3, ![2, 512, 2816]⟩
abbrev S512x2816 : Shape := ⟨2, ![512, 2816]⟩
abbrev S2048x512 : Shape := ⟨2, ![2048, 512]⟩
abbrev S512x512 : Shape := ⟨2, ![512, 512]⟩
abbrev S1x512x512 : Shape := ⟨3, ![1, 512, 512]⟩
abbrev S2048x256 : Shape := ⟨2, ![2048, 256]⟩
abbrev S512x256 : Shape := ⟨2, ![512, 256]⟩
abbrev S1x512x256 : Shape := ⟨3, ![1, 512, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S8192x2816, .bf16⟩
  | .hbm, ⟨3, _⟩ => ⟨S2x4096x5632, .bf16⟩
  | .hbm, ⟨4, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S2x512x2816, .bf16⟩
  | .local _ .vmem, ⟨5, _⟩ => ⟨S2x512x2816, .bf16⟩
  | .local _ .vmem, ⟨6, _⟩ => ⟨S512x2816, .bf16⟩
  | .local _ .vmem, ⟨7, _⟩ => ⟨S512x2816, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 8, 1], ![false, false, false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_mult2 (i : grid0.Coords) : BitVec 32 :=
  let c2_i32 : BitVec 32 := 2#32
  let arg0 : BitVec 32 := BitVec.ofNat 32 (i 0).val
  let v0 : BitVec 32 := Scalar.addi c2_i32 arg0
  let c2048_i32 : BitVec 32 := 2048#32
  let v1 : BitVec 32 := Scalar.muli v0 c2048_i32
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg0 c2048_i32
  let v1 : BitVec 32 := v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c2048_i32 : BitVec 32 := 2048#32
  let v1 : BitVec 32 := Scalar.muli v0 c2048_i32
  let v2 : BitVec 32 := v1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SwigluRefIdeal.lean ====
abbrev S4096x2048 : Shape := ⟨2, ![4096, 2048]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x11264, .f32⟩
  | .hbm, ⟨12, _⟩ => ⟨S4096x2048, .f32⟩
  | .hbm, ⟨13, _⟩ => ⟨S4096x11264, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S_, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S1x4096x5632, .f32⟩
  | .hbm, ⟨34, _⟩ => ⟨S1x4096x5632, .f32⟩
  | .hbm, ⟨35, _⟩ => ⟨S2x4096x5632, .f32⟩
  | .hbm, ⟨36, _⟩ => ⟨S2x4096x5632, .bf16⟩
  | .hbm, ⟨37, _⟩ => ⟨S4096x5632, .f32⟩
  | .hbm, ⟨38, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v14_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v14_1 : Ref sig .tc := ⟨.hbm, 27, rfl⟩
abbrev main_v14_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ya.lean ====
abbrev S4096x1024 : Shape := ⟨2, ![4096, 1024]⟩
abbrev S4x1024x512 : Shape := ⟨3, ![4, 1024, 512]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YaRefIdeal.lean ====
abbrev S4096x1024 : Shape := ⟨2, ![4096, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x2048 : Shape := ⟨2, ![1024, 2048]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S1x1024x512, .bf16⟩
  | .hbm, ⟨3, _⟩ => ⟨S1024x512, .bf16⟩
  | .hbm, ⟨4, _⟩ => ⟨S1x1024x512, .bf16⟩
  | .hbm, ⟨5, _⟩ => ⟨S1024x512, .bf16⟩
  | .hbm, ⟨6, _⟩ => ⟨S1x1024x512, .bf16⟩
  | .hbm, ⟨7, _⟩ => ⟨S1024x512, .bf16⟩
  | .hbm, ⟨8, _⟩ => ⟨S1x1024x512, .bf16⟩
  | .hbm, ⟨9, _⟩ => ⟨S1024x512, .bf16⟩
  | .hbm, ⟨10, _⟩ => ⟨S1024x2048, .bf16⟩
  | .hbm, ⟨11, _⟩ => ⟨S1024x2048, .f32⟩
  | .hbm, ⟨12, _⟩ => ⟨S4096x1024, .f32⟩
  | .hbm, ⟨13, _⟩ => ⟨S4096x2048, .f32⟩
  | .hbm, ⟨14, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Yb.lean ====
abbrev S4096x1024 : Shape := ⟨2, ![4096, 1024]⟩
abbrev S4x256x512 : Shape := ⟨3, ![4, 256, 512]⟩
abbrev S4096x2048 : Shape := ⟨2, ![4096, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x256x512, .bf16⟩
  | .hbm, ⟨2, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YbRefIdeal.lean ====
abbrev S4096x1024 : Shape := ⟨2, ![4096, 1024]⟩
abbrev S4x256x512 : Shape := ⟨3, ![4, 256, 512]⟩
abbrev S4096x4x256 : Shape := ⟨3, ![4096, 4, 256]⟩
abbrev S4x512x4096 : Shape := ⟨3, ![4, 512, 4096]⟩
abbrev S4096x4x512 : Shape := ⟨3, ![4096, 4, 512]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x512, .bf16⟩
  | .hbm, ⟨2, _⟩ => ⟨S4096x1024, .f32⟩
  | .hbm, ⟨3, _⟩ => ⟨S4x256x512, .f32⟩
  | .hbm, ⟨4, _⟩ => ⟨S4096x4x256, .f32⟩
  | .hbm, ⟨5, _⟩ => ⟨S4x512x4096, .f32⟩
  | .hbm, ⟨6, _⟩ => ⟨S4096x4x512, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormX.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormXRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== GatesFwd.lean ====
abbrev S4x4096x1792 : Shape := ⟨3, ![4, 4096, 1792]⟩
abbrev S4096x2048 : Shape := ⟨2, ![4096, 2048]⟩
abbrev S1x2048 : Shape := ⟨2, ![1, 2048]⟩
abbrev S4x256x1792 : Shape := ⟨3, ![4, 256, 1792]⟩
abbrev S256x2048 : Shape := ⟨2, ![256, 2048]⟩
abbrev S1x256x512 : Shape := ⟨3, ![1, 256, 512]⟩
abbrev S256x512 : Shape := ⟨2, ![256, 512]⟩
abbrev S1x256x1536 : Shape := ⟨3, ![1, 256, 1536]⟩
abbrev S256x1536 : Shape := ⟨2, ![256, 1536]⟩
abbrev S1x256x256 : Shape := ⟨3, ![1, 256, 256]⟩
abbrev S256x256 : Shape := ⟨2, ![256, 256]⟩
abbrev S1x256x1792 : Shape := ⟨3, ![1, 256, 1792]⟩
abbrev S256x1792 : Shape := ⟨2, ![256, 1792]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x1792, .bf16⟩
  | .hbm, ⟨1, _⟩ => ⟨S4096x2048, .bf16⟩
  | .hbm, ⟨2, _⟩ => ⟨S4096x2048, .bf16⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .bf16⟩
  | .local _ .vmem, ⟨0, _⟩ => ⟨S4x256x1792, .bf16⟩
  | .local _ .vmem, ⟨1, _⟩ => ⟨S4x256x1792, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | _, _ => ⟨S4x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatesFwdRefIdeal.lean ====
abbrev S4x4096x1792 : Shape := ⟨3, ![4, 4096, 1792]⟩
abbrev S4096x2048 : Shape := ⟨2, ![4096, 2048]⟩
abbrev S1x2048 : Shape := ⟨2, ![1, 2048]⟩
abbrev S1x4096x1792 : Shape := ⟨3, ![1, 4096, 1792]⟩
abbrev S4096x1792 : Shape := ⟨2, ![4096, 1792]⟩
abbrev S4096x7168 : Shape := ⟨2, ![4096, 7168]⟩
abbrev S4096x4096 : Shape := ⟨2, ![4096, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1792, .bf16⟩
  | .hbm, ⟨1, _⟩ => ⟨S4096x2048, .bf16⟩
  | .hbm, ⟨2, _⟩ => ⟨S4096x2048, .bf16⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x4096x1792, .bf16⟩
  | .hbm, ⟨7, _⟩ => ⟨S4096x1792, .bf16⟩
  | .hbm, ⟨8, _⟩ => ⟨S1x4096x1792, .bf16⟩
  | .hbm, ⟨9, _⟩ => ⟨S4096x1792, .bf16⟩
  | .hbm, ⟨10, _⟩ => ⟨S1x4096x1792, .bf16⟩
  | .hbm, ⟨11, _⟩ => ⟨S4096x1792, .bf16⟩
  | .hbm, ⟨12, _⟩ => ⟨S1x4096x1792, .bf16⟩
  | .hbm, ⟨13, _⟩ => ⟨S4096x1792, .bf16⟩
  | .hbm, ⟨14, _⟩ => ⟨S4096x7168, .bf16⟩
  | .hbm, ⟨15, _⟩ => ⟨S4096x4096, .bf16⟩
  | .hbm, ⟨16, _⟩ => ⟨S4096x4096, .f32⟩
  | .hbm, ⟨17, _⟩ => ⟨S4096x2048, .f32⟩
  | .hbm, ⟨18, _⟩ => ⟨S4096x2048, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .bf16⟩
  | _, _ => ⟨S4x4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== ResNorm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResNormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== NormMod.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S1x2048, .f32⟩
  | .hbm, ⟨87, _⟩ => ⟨S1x2048, .f32⟩
  | .hbm, ⟨88, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== MixProjA.lean ====
abbrev S4096x2048 : Shape := ⟨2, ![4096, 2048]⟩
abbrev S4x2048x1792 : Shape := ⟨3, ![4, 2048, 1792]⟩
abbrev S8192x1792 : Shape := ⟨2, ![8192, 1792]⟩
abbrev S16384x768 : Shape := ⟨2, ![16384, 768]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1792, .bf16⟩
  | .hbm, ⟨2, _⟩ => ⟨S8192x1792, .bf16⟩
  | .hbm, ⟨3, _⟩ => ⟨S16384x768, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg1 c2048_i32
  let v1 : BitVec 32 := v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixProjARefIdeal.lean ====
abbrev S4096x2048 : Shape := ⟨2, ![4096, 2048]⟩
abbrev S4x2048x1792 : Shape := ⟨3, ![4, 2048, 1792]⟩
abbrev S1x2048x1792 : Shape := ⟨3, ![1, 2048, 1792]⟩
abbrev S2048x1792 : Shape := ⟨2, ![2048, 1792]⟩
abbrev S2048x7168 : Shape := ⟨2, ![2048, 7168]⟩
abbrev S4096x7168 : Shape := ⟨2, ![4096, 7168]⟩
abbrev S4096x4x1792 : Shape := ⟨3, ![4096, 4, 1792]⟩
abbrev S4096x4x768 : Shape := ⟨3, ![4096, 4, 768]⟩
abbrev S4x4096x768 : Shape := ⟨3, ![4, 4096, 768]⟩
abbrev S16384x768 : Shape := ⟨2, ![16384, 768]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1792, .bf16⟩
  | .hbm, ⟨2, _⟩ => ⟨S1x2048x1792, .bf16⟩
  | .hbm, ⟨3, _⟩ => ⟨S2048x1792, .bf16⟩
  | .hbm, ⟨4, _⟩ => ⟨S1x2048x1792, .bf16⟩
  | .hbm, ⟨5, _⟩ => ⟨S2048x1792, .bf16⟩
  | .hbm, ⟨6, _⟩ => ⟨S1x2048x1792, .bf16⟩
  | .hbm, ⟨7, _⟩ => ⟨S2048x1792, .bf16⟩
  | .hbm, ⟨8, _⟩ => ⟨S1x2048x1792, .bf16⟩
  | .hbm, ⟨9, _⟩ => ⟨S2048x1792, .bf16⟩
  | .hbm, ⟨10, _⟩ => ⟨S2048x7168, .bf16⟩
  | .hbm, ⟨11, _⟩ => ⟨S2048x7168, .f32⟩
  | .hbm, ⟨12, _⟩ => ⟨S4096x2048, .f32⟩
  | .hbm, ⟨13, _⟩ => ⟨S4096x7168, .f32⟩
  | .hbm, ⟨14, _⟩ => ⟨S4096x7168, .bf16⟩
  | .hbm, ⟨15, _⟩ => ⟨S4096x4x1792, .bf16⟩
  | .hbm, ⟨16, _⟩ => ⟨S4096x4x768, .bf16⟩
  | .hbm, ⟨17, _⟩ => ⟨S4x4096x768, .bf16⟩
  | .hbm, ⟨18, _⟩ => ⟨S16384x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== MixProjB.lean ====
abbrev S4096x2048 : Shape := ⟨2, ![4096, 2048]⟩
abbrev S4x2048x1792 : Shape := ⟨3, ![4, 2048, 1792]⟩
abbrev S8192x1792 : Shape := ⟨2, ![8192, 1792]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1792, .bf16⟩
  | .hbm, ⟨2, _⟩ => ⟨S8192x1792, .bf16⟩
  | .hbm, ⟨3, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg1 c2048_i32
  let v1 : BitVec 32 := v0
  let c768_i32 : BitVec 32 := 768#32
  let c0_i32 : BitVec 32 := 0#32
  ![v1.toNat, c768_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixProjBRefIdeal.lean ====
abbrev S4096x2048 : Shape := ⟨2, ![4096, 2048]⟩
abbrev S4x2048x1792 : Shape := ⟨3, ![4, 2048, 1792]⟩
abbrev S1x2048x1792 : Shape := ⟨3, ![1, 2048, 1792]⟩
abbrev S2048x1792 : Shape := ⟨2, ![2048, 1792]⟩
abbrev S2048x7168 : Shape := ⟨2, ![2048, 7168]⟩
abbrev S4096x7168 : Shape := ⟨2, ![4096, 7168]⟩
abbrev S4096x4x1792 : Shape := ⟨3, ![4096, 4, 1792]⟩
abbrev S4096x4x1024 : Shape := ⟨3, ![4096, 4, 1024]⟩
abbrev S4x4096x1024 : Shape := ⟨3, ![4, 4096, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1792, .bf16⟩
  | .hbm, ⟨2, _⟩ => ⟨S1x2048x1792, .bf16⟩
  | .hbm, ⟨3, _⟩ => ⟨S2048x1792, .bf16⟩
  | .hbm, ⟨4, _⟩ => ⟨S1x2048x1792, .bf16⟩
  | .hbm, ⟨5, _⟩ => ⟨S2048x1792, .bf16⟩
  | .hbm, ⟨6, _⟩ => ⟨S1x2048x1792, .bf16⟩
  | .hbm, ⟨7, _⟩ => ⟨S2048x1792, .bf16⟩
  | .hbm, ⟨8, _⟩ => ⟨S1x2048x1792, .bf16⟩
  | .hbm, ⟨9, _⟩ => ⟨S2048x1792, .bf16⟩
  | .hbm, ⟨10, _⟩ => ⟨S2048x7168, .bf16⟩
  | .hbm, ⟨11, _⟩ => ⟨S2048x7168, .f32⟩
  | .hbm, ⟨12, _⟩ => ⟨S4096x2048, .f32⟩
  | .hbm, ⟨13, _⟩ => ⟨S4096x7168, .f32⟩
  | .hbm, ⟨14, _⟩ => ⟨S4096x7168, .bf16⟩
  | .hbm, ⟨15, _⟩ => ⟨S4096x4x1792, .bf16⟩
  | .hbm, ⟨16, _⟩ => ⟨S4096x4x1024, .bf16⟩
  | .hbm, ⟨17, _⟩ => ⟨S4x4096x1024, .bf16⟩
  | .hbm, ⟨18, _⟩ => ⟨S16384x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== SwigluA.lean ====
abbrev S4096x2048 : Shape := ⟨2, ![4096, 2048]⟩
abbrev S4x2048x2816 : Shape := ⟨3, ![4, 2048, 2816]⟩
abbrev S8192x2816 : Shape := ⟨2, ![8192, 2816]⟩
abbrev S2x4096x2560 : Shape := ⟨3, ![2, 4096, 2560]⟩
abbrev S4096x2560 : Shape := ⟨2, ![4096, 2560]⟩
abbrev S512x2048 : Shape := ⟨2, ![512, 2048]⟩
abbrev S2048x1280 : Shape := ⟨2, ![2048, 1280]⟩
abbrev S2x512x1280 : Shape := ⟨3, ![2, 512, 1280]⟩
abbrev S512x1280 : Shape := ⟨2, ![512, 1280]⟩
abbrev S1x512x1280 : Shape := ⟨3, ![1, 512, 1280]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S8192x2816, .bf16⟩
  | .hbm, ⟨3, _⟩ => ⟨S2x4096x2560, .bf16⟩
  | .hbm, ⟨4, _⟩ => ⟨S4096x2560, .bf16⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1280, .bf16⟩
  | .local _ .vmem, ⟨4, _⟩ => ⟨S2048x1280, .bf16⟩
  | .local _ .vmem, ⟨5, _⟩ => ⟨S2048x1280, .bf16⟩
  | .local _ .vmem, ⟨6, _⟩ => ⟨S2x512x1280, .bf16⟩
  | .local _ .vmem, ⟨7, _⟩ => ⟨S2x512x1280, .bf16⟩
  | .local _ .vmem, ⟨8, _⟩ => ⟨S512x1280, .bf16⟩
  | .local _ .vmem, ⟨9, _⟩ => ⟨S512x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_mult2 (i : grid0.Coords) : BitVec 32 :=
  let c2_i32 : BitVec 32 := 2#32
  let arg0 : BitVec 32 := BitVec.ofNat 32 (i 0).val
  let v0 : BitVec 32 := Scalar.addi c2_i32 arg0
  let c2048_i32 : BitVec 32 := 2048#32
  let v1 : BitVec 32 := Scalar.muli v0 c2048_i32
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg0 c2048_i32
  let v1 : BitVec 32 := v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c2048_i32 : BitVec 32 := 2048#32
  let v1 : BitVec 32 := Scalar.muli v0 c2048_i32
  let v2 : BitVec 32 := v1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2x512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SwigluARefIdeal.lean ====
abbrev S4096x2048 : Shape := ⟨2, ![4096, 2048]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S4096x11264 : Shape := ⟨2, ![4096, 11264]⟩
abbrev S4096x5632 : Shape := ⟨2, ![4096, 5632]⟩
abbrev S4096x2x2816 : Shape := ⟨3, ![4096, 2, 2816]⟩
abbrev S4096x2x1280 : Shape := ⟨3, ![4096, 2, 1280]⟩
abbrev S4096x2560 : Shape := ⟨2, ![4096, 2560]⟩
abbrev S_ : Shape := ⟨0, ![]⟩
abbrev S1x4096x2560 : Shape := ⟨3, ![1, 4096, 2560]⟩
abbrev S2x4096x2560 : Shape := ⟨3, ![2, 4096, 2560]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x11264, .f32⟩
  | .hbm, ⟨12, _⟩ => ⟨S4096x2048, .f32⟩
  | .hbm, ⟨13, _⟩ => ⟨S4096x11264, .f32⟩
  | .hbm, ⟨14, _⟩ => ⟨S4096x5632, .f32⟩
  | .hbm, ⟨15, _⟩ => ⟨S4096x5632, .f32⟩
  | .hbm, ⟨16, _⟩ => ⟨S4096x2x2816, .f32⟩
  | .hbm, ⟨17, _⟩ => ⟨S4096x2x1280, .f32⟩
  | .hbm, ⟨18, _⟩ => ⟨S4096x2560, .f32⟩
  | .hbm, ⟨19, _⟩ => ⟨S4096x2x2816, .f32⟩
  | .hbm, ⟨20, _⟩ => ⟨S4096x2x1280, .f32⟩
  | .hbm, ⟨21, _⟩ => ⟨S4096x2560, .f32⟩
  | .hbm, ⟨22, _⟩ => ⟨S4096x2560, .f32⟩
  | .hbm, ⟨23, _⟩ => ⟨S4096x2560, .f32⟩
  | .hbm, ⟨24, _⟩ => ⟨S_, .f32⟩
  | .hbm, ⟨25, _⟩ => ⟨S4096x2560, .f32⟩
  | .hbm, ⟨26, _⟩ => ⟨S4096x2560, .f32⟩
  | .hbm, ⟨27, _⟩ => ⟨S_, .f32⟩
  | .hbm, ⟨28, _⟩ => ⟨S4096x2560, .f32⟩
  | .hbm, ⟨29, _⟩ => ⟨S4096x2560, .f32⟩
  | .hbm, ⟨30, _⟩ => ⟨S_, .f32⟩
  | .hbm, ⟨31, _⟩ => ⟨S4096x2560, .f32⟩
  | .hbm, ⟨32, _⟩ => ⟨S4096x2560, .f32⟩
  | .hbm, ⟨33, _⟩ => ⟨S4096x2560, .f32⟩
  | .hbm, ⟨34, _⟩ => ⟨S4096x2560, .f32⟩
  | .hbm, ⟨35, _⟩ => ⟨S4096x2560, .f32⟩
  | .hbm, ⟨36, _⟩ => ⟨S4096x2560, .f32⟩
  | .hbm, ⟨37, _⟩ => ⟨S4096x2560, .f32⟩
  | .hbm, ⟨38, _⟩ => ⟨S4096x2560, .f32⟩
  | .hbm, ⟨39, _⟩ => ⟨S1x4096x2560, .f32⟩
  | .hbm, ⟨40, _⟩ => ⟨S1x4096x2560, .f32⟩
  | .hbm, ⟨41, _⟩ => ⟨S2x4096x2560, .f32⟩
  | .hbm, ⟨42, _⟩ => ⟨S2x4096x2560, .bf16⟩
  | .hbm, ⟨43, _⟩ => ⟨S4096x2560, .f32⟩
  | .hbm, ⟨44, _⟩ => ⟨S4096x2560, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v20_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v20_1 : Ref sig .tc := ⟨.hbm, 33, rfl⟩
abbrev main_v20_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== SwigluB.lean ====
abbrev S4096x2048 : Shape := ⟨2, ![4096, 2048]⟩
abbrev S4x2048x2816 : Shape := ⟨3, ![4, 2048, 2816]⟩
abbrev S8192x2816 : Shape := ⟨2, ![8192, 2816]⟩
abbrev S2x4096x3072 : Shape := ⟨3, ![2, 4096, 3072]⟩
abbrev S4096x3072 : Shape := ⟨2, ![4096, 3072]⟩
abbrev S512x2048 : Shape := ⟨2, ![512, 2048]⟩
abbrev S2048x1536 : Shape := ⟨2, ![2048, 1536]⟩
abbrev S2x512x1536 : Shape := ⟨3, ![2, 512, 1536]⟩
abbrev S512x1536 : Shape := ⟨2, ![512, 1536]⟩
abbrev S1x512x1536 : Shape := ⟨3, ![1, 512, 1536]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S8192x2816, .bf16⟩
  | .hbm, ⟨3, _⟩ => ⟨S2x4096x3072, .bf16⟩
  | .hbm, ⟨4, _⟩ => ⟨S4096x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S2048x1536, .bf16⟩
  | .local _ .vmem, ⟨5, _⟩ => ⟨S2048x1536, .bf16⟩
  | .local _ .vmem, ⟨6, _⟩ => ⟨S2x512x1536, .bf16⟩
  | .local _ .vmem, ⟨7, _⟩ => ⟨S2x512x1536, .bf16⟩
  | .local _ .vmem, ⟨8, _⟩ => ⟨S512x1536, .bf16⟩
  | .local _ .vmem, ⟨9, _⟩ => ⟨S512x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_mult2 (i : grid0.Coords) : BitVec 32 :=
  let c2_i32 : BitVec 32 := 2#32
  let arg0 : BitVec 32 := BitVec.ofNat 32 (i 0).val
  let v0 : BitVec 32 := Scalar.addi c2_i32 arg0
  let c2048_i32 : BitVec 32 := 2048#32
  let v1 : BitVec 32 := Scalar.muli v0 c2048_i32
  v1
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg0 c2048_i32
  let v1 : BitVec 32 := v0
  let c1280_i32 : BitVec 32 := 1280#32
  let c0_i32 : BitVec 32 := 0#32
  ![v1.toNat, c1280_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c2048_i32 : BitVec 32 := 2048#32
  let v1 : BitVec 32 := Scalar.muli v0 c2048_i32
  let v2 : BitVec 32 := v1
  let c1280_i32 : BitVec 32 := 1280#32
  let c0_i32 : BitVec 32 := 0#32
  ![v2.toNat, c1280_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SwigluBRefIdeal.lean ====
abbrev S4096x2048 : Shape := ⟨2, ![4096, 2048]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S4096x11264 : Shape := ⟨2, ![4096, 11264]⟩
abbrev S4096x5632 : Shape := ⟨2, ![4096, 5632]⟩
abbrev S4096x2x2816 : Shape := ⟨3, ![4096, 2, 2816]⟩
abbrev S4096x2x1536 : Shape := ⟨3, ![4096, 2, 1536]⟩
abbrev S4096x3072 : Shape := ⟨2, ![4096, 3072]⟩
abbrev S_ : Shape := ⟨0, ![]⟩
abbrev S1x4096x3072 : Shape := ⟨3, ![1, 4096, 3072]⟩
abbrev S2x4096x3072 : Shape := ⟨3, ![2, 4096, 3072]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x11264, .f32⟩
  | .hbm, ⟨12, _⟩ => ⟨S4096x2048, .f32⟩
  | .hbm, ⟨13, _⟩ => ⟨S4096x11264, .f32⟩
  | .hbm, ⟨14, _⟩ => ⟨S4096x5632, .f32⟩
  | .hbm, ⟨15, _⟩ => ⟨S4096x5632, .f32⟩
  | .hbm, ⟨16, _⟩ => ⟨S4096x2x2816, .f32⟩
  | .hbm, ⟨17, _⟩ => ⟨S4096x2x1536, .f32⟩
  | .hbm, ⟨18, _⟩ => ⟨S4096x3072, .f32⟩
  | .hbm, ⟨19, _⟩ => ⟨S4096x2x2816, .f32⟩
  | .hbm, ⟨20, _⟩ => ⟨S4096x2x1536, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S1x4096x3072, .f32⟩
  | .hbm, ⟨40, _⟩ => ⟨S1x4096x3072, .f32⟩
  | .hbm, ⟨41, _⟩ => ⟨S2x4096x3072, .f32⟩
  | .hbm, ⟨42, _⟩ => ⟨S2x4096x3072, .bf16⟩
  | .hbm, ⟨43, _⟩ => ⟨S4096x3072, .f32⟩
  | .hbm, ⟨44, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v20_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v20_1 : Ref sig .tc := ⟨.hbm, 33, rfl⟩
abbrev main_v20_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== AdamIn.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S8x2048 : Shape := ⟨2, ![8, 2048]⟩
abbrev S8x4608 : Shape := ⟨2, ![8, 4608]⟩
abbrev S2048x4608 : Shape := ⟨2, ![2048, 4608]⟩
abbrev S2048x8 : Shape := ⟨2, ![2048, 8]⟩
abbrev S256x8 : Shape := ⟨2, ![256, 8]⟩
abbrev S8x1536 : Shape := ⟨2, ![8, 1536]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S8x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S2048x8, .f32⟩
  | .hbm, ⟨6, _⟩ => ⟨S2048x4608, .f32⟩
  | .hbm, ⟨7, _⟩ => ⟨S2048x4608, .f32⟩
  | .hbm, ⟨8, _⟩ => ⟨S2048x4608, .f32⟩
  | .hbm, ⟨9, _⟩ => ⟨S2048x4608, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S8x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamAdaRefIdeal.lean ====
abbrev S8x2048 : Shape := ⟨2, ![8, 2048]⟩
abbrev S8x4608 : Shape := ⟨2, ![8, 4608]⟩
abbrev S2048x4608 : Shape := ⟨2, ![2048, 4608]⟩
abbrev S_ : Shape := ⟨0, ![]⟩
abbrev S4608x2048 : Shape := ⟨2, ![4608, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x4608, .f32⟩
  | .hbm, ⟨15, _⟩ => ⟨S4608x2048, .f32⟩
  | .hbm, ⟨16, _⟩ => ⟨S2048x4608, .f32⟩
  | .hbm, ⟨17, _⟩ => ⟨S_, .f32⟩
  | .hbm, ⟨18, _⟩ => ⟨S2048x4608, .f32⟩
  | .hbm, ⟨19, _⟩ => ⟨S2048x4608, .f32⟩
  | .hbm, ⟨20, _⟩ => ⟨S_, .f32⟩
  | .hbm, ⟨21, _⟩ => ⟨S2048x4608, .f32⟩
  | .hbm, ⟨22, _⟩ => ⟨S2048x4608, .f32⟩
  | .hbm, ⟨23, _⟩ => ⟨S2048x4608, .f32⟩
  | .hbm, ⟨24, _⟩ => ⟨S_, .f32⟩
  | .hbm, ⟨25, _⟩ => ⟨S2048x4608, .f32⟩
  | .hbm, ⟨26, _⟩ => ⟨S2048x4608, .f32⟩
  | .hbm, ⟨27, _⟩ => ⟨S2048x4608, .f32⟩
  | .hbm, ⟨28, _⟩ => ⟨S_, .f32⟩
  | .hbm, ⟨29, _⟩ => ⟨S2048x4608, .f32⟩
  | .hbm, ⟨30, _⟩ => ⟨S2048x4608, .f32⟩
  | .hbm, ⟨31, _⟩ => ⟨S2048x4608, .f32⟩
  | .hbm, ⟨32, _⟩ => ⟨S_, .f32⟩
  | .hbm, ⟨33, _⟩ => ⟨S2048x4608, .f32⟩
  | .hbm, ⟨34, _⟩ => ⟨S2048x4608, .f32⟩
  | .hbm, ⟨35, _⟩ => ⟨S_, .f32⟩
  | .hbm, ⟨36, _⟩ => ⟨S2048x4608, .f32⟩
  | .hbm, ⟨37, _⟩ => ⟨S2048x4608, .f32⟩
  | .hbm, ⟨38, _⟩ => ⟨S2048x4608, .f32⟩
  | .hbm, ⟨39, _⟩ => ⟨S_, .f32⟩
  | .hbm, ⟨40, _⟩ => ⟨S2048x4608, .f32⟩
  | .hbm, ⟨41, _⟩ => ⟨S2048x4608, .f32⟩
  | .hbm, ⟨42, _⟩ => ⟨S2048x4608, .f32⟩
  | .hbm, ⟨43, _⟩ => ⟨S_, .f32⟩
  | .hbm, ⟨44, _⟩ => ⟨S2048x4608, .f32⟩
  | .hbm, ⟨45, _⟩ => ⟨S2048x4608, .f32⟩
  | .hbm, ⟨46, _⟩ => ⟨S2048x4608, .f32⟩
  | .hbm, ⟨47, _⟩ => ⟨S_, .f32⟩
  | .hbm, ⟨48, _⟩ => ⟨S2048x4608, .f32⟩
  | .hbm, ⟨49, _⟩ => ⟨S2048x4608, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== AdamOut.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S2048x1792 : Shape := ⟨2, ![2048, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjRefIdeal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMix.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamA.lean ====
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamARefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamB.lean ====
abbrev S1024x128 : Shape := ⟨2, ![1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S336x128 : Shape := ⟨2, ![336, 128]⟩

abbrev nBuf : Space → Nat
  | .hbm => 8
  | .vmem => 8
  | .smem => 0
  | _ => 0

abbrev bufTy : (tb : Table) → Fin (tcTables nBuf tb) → BufTy
  | .hbm, ⟨0, _⟩ => ⟨S336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S336x128, .f32⟩
  | .hbm, ⟨5, _⟩ => ⟨S336x128, .f32⟩
  | .hbm, ⟨6, _⟩ => ⟨S336x128, .f32⟩
  | .hbm, ⟨7, _⟩ => ⟨S336x128, .f32⟩
  | .local _ .vmem, ⟨0, _⟩ => ⟨S336x128, .f32⟩
  | .local _ .vmem, ⟨1, _⟩ => ⟨S336x128, .f32⟩
  | .local _ .vmem, ⟨2, _⟩ => ⟨S336x128, .f32⟩
  | .local _ .vmem, ⟨3, _⟩ => ⟨S336x128, .f32⟩
  | .local _ .vmem, ⟨4, _⟩ => ⟨S336x128, .f32⟩
  | .local _ .vmem, ⟨5, _⟩ => ⟨S336x128, .f32⟩
  | .local _ .vmem, ⟨6, _⟩ => ⟨S336x128, .f32⟩
  | .local _ .vmem, ⟨7, _⟩ => ⟨S336x128, .f32⟩
  | _, _ => ⟨S336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S336x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S336x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S336x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S336x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S336x128 : Shape := ⟨2, ![336, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S_, .f32⟩
  | .hbm, ⟨5, _⟩ => ⟨S336x128, .f32⟩
  | .hbm, ⟨6, _⟩ => ⟨S336x128, .f32⟩
  | .hbm, ⟨7, _⟩ => ⟨S_, .f32⟩
  | .hbm, ⟨8, _⟩ => ⟨S336x128, .f32⟩
  | .hbm, ⟨9, _⟩ => ⟨S336x128, .f32⟩
  | .hbm, ⟨10, _⟩ => ⟨S336x128, .f32⟩
  | .hbm, ⟨11, _⟩ => ⟨S_, .f32⟩
  | .hbm, ⟨12, _⟩ => ⟨S336x128, .f32⟩
  | .hbm, ⟨13, _⟩ => ⟨S336x128, .f32⟩
  | .hbm, ⟨14, _⟩ => ⟨S336x128, .f32⟩
  | .hbm, ⟨15, _⟩ => ⟨S_, .f32⟩
  | .hbm, ⟨16, _⟩ => ⟨S336x128, .f32⟩
  | .hbm, ⟨17, _⟩ => ⟨S336x128, .f32⟩
  | .hbm, ⟨18, _⟩ => ⟨S336x128, .f32⟩
  | .hbm, ⟨19, _⟩ => ⟨S_, .f32⟩
  | .hbm, ⟨20, _⟩ => ⟨S336x128, .f32⟩
  | .hbm, ⟨21, _⟩ => ⟨S336x128, .f32⟩
  | .hbm, ⟨22, _⟩ => ⟨S_, .f32⟩
  | .hbm, ⟨23, _⟩ => ⟨S336x128, .f32⟩
  | .hbm, ⟨24, _⟩ => ⟨S336x128, .f32⟩
  | .hbm, ⟨25, _⟩ => ⟨S336x128, .f32⟩
  | .hbm, ⟨26, _⟩ => ⟨S_, .f32⟩
  | .hbm, ⟨27, _⟩ => ⟨S336x128, .f32⟩
  | .hbm, ⟨28, _⟩ => ⟨S336x128, .f32⟩
  | .hbm, ⟨29, _⟩ => ⟨S336x128, .f32⟩
  | .hbm, ⟨30, _⟩ => ⟨S_, .f32⟩
  | .hbm, ⟨31, _⟩ => ⟨S336x128, .f32⟩
  | .hbm, ⟨32, _⟩ => ⟨S336x128, .f32⟩
  | .hbm, ⟨33, _⟩ => ⟨S336x128, .f32⟩
  | .hbm, ⟨34, _⟩ => ⟨S_, .f32⟩
  | .hbm, ⟨35, _⟩ => ⟨S336x128, .f32⟩
  | .hbm, ⟨36, _⟩ => ⟨S336x128, .f32⟩
  | _, _ => ⟨S336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MixTrip.lean ====
/-
  One trip of the mixer's loop over a tile's rows: the shifted windows that it reads through the eight copies of the
  staging buffer are the plain shifted reads, and what it stores is written as sums over those.
-/
module

public import proofs.«01_k».proof.Proof.Gen.KernelIdeal.Value
public import Idealize.ShloMosaic.Lib.Pointwise

@[expose] public section

set_option maxRecDepth 16384

noncomputable section

namespace Cert.KernelIdeal.Mix

open Cert.KernelIdeal Cert.KernelIdeal.Gen Idealize.ShloMosaic Idealize.ShloMosaic.TcCoe Idealize.SL.Sem

variable (𝒱 : Variants) (c : Dev nD) (bd : Option 𝒱.V) (i : grid0.Coords) (arg1 : Memref sig .tc .vmem S2x256x1792 .bf16) (harg1 : arg1.IsWhole) (arg2 : Memref sig .tc .vmem S256x1024 .f32) (harg2 : arg2.IsWhole) (arg3 : Memref sig .tc .vmem S32x1024 .f32) (harg3 : arg3.IsWhole) (arg4 : Memref sig .tc .vmem S256x1024 .bf16) (harg4 : arg4.IsWhole) (arg5 : Memref sig .tc .vmem S32x1024 .bf16) (harg5 : arg5.IsWhole) (arg6 : Memref sig .tc .vmem S256x4096 .bf16) (harg6 : arg6.IsWhole) (arg7 : Memref sig .tc .vmem S32x1024 .f32) (harg7 : arg7.IsWhole) (arg8 : Memref sig .tc .vmem S4x256x1792 .bf16) (harg8 : arg8.IsWhole) (arg9 : Memref sig .tc .vmem S288x1024 .f32) (harg9 : arg9.IsWhole) (arg10 : Memref sig .tc .vmem S288x1024 .f32) (harg10 : arg10.IsWhole) (arg11 : Memref sig .tc .vmem S7x280x1024 .f32) (harg11 : arg11.IsWhole) (arg12 : Memref sig .tc .vmem S7x280x1024 .f32) (harg12 : arg12.IsWhole)

/-- Where a trip of the chunk loop reads the shifted copies of the convolution's cotangent. -/
theorem conv_offs (k : Fin k0_t1_loop.trips) :
    k0_off1 k 0#32 = ![5, 32 * k.val + 0, 0] ∧ k0_off1 k 8#32 = ![5, 32 * k.val + 8, 0] ∧
    k0_off1 k 16#32 = ![5, 32 * k.val + 16, 0] ∧ k0_off1 k 24#32 = ![5, 32 * k.val + 24, 0] ∧
    k0_off2 k 0#32 = ![4, 32 * k.val + 0, 0] ∧ k0_off2 k 8#32 = ![4, 32 * k.val + 8, 0] ∧
    k0_off2 k 16#32 = ![4, 32 * k.val + 16, 0] ∧ k0_off2 k 24#32 = ![4, 32 * k.val + 24, 0] ∧
    k0_off3 k 0#32 = ![3, 32 * k.val + 0, 0] ∧ k0_off3 k 8#32 = ![3, 32 * k.val + 8, 0] ∧
    k0_off3 k 16#32 = ![3, 32 * k.val + 16, 0] ∧ k0_off3 k 24#32 = ![3, 32 * k.val + 24, 0] ∧
    k0_off4 k 0#32 = ![2, 32 * k.val + 0, 0] ∧ k0_off4 k 8#32 = ![2, 32 * k.val + 8, 0] ∧
    k0_off4 k 16#32 = ![2, 32 * k.val + 16, 0] ∧ k0_off4 k 24#32 = ![2, 32 * k.val + 24, 0] ∧
    k0_off5 k 0#32 = ![1, 32 * k.val + 0, 0] ∧ k0_off5 k 8#32 = ![1, 32 * k.val + 8, 0] ∧
    k0_off5 k 16#32 = ![1, 32 * k.val + 16, 0] ∧ k0_off5 k 24#32 = ![1, 32 * k.val + 24, 0] ∧
    k0_off6 k 0#32 = ![0, 32 * k.val + 0, 0] ∧ k0_off6 k 8#32 = ![0, 32 * k.val + 8, 0] ∧
    k0_off6 k 16#32 = ![0, 32 * k.val + 16, 0] ∧ k0_off6 k 24#32 = ![0, 32 * k.val + 24, 0] ∧
    k0_off7 k 0#32 = ![32 * k.val + 0, 0] ∧ k0_off7 k 8#32 = ![32 * k.val + 8, 0] ∧
    k0_off7 k 16#32 = ![32 * k.val + 16, 0] ∧ k0_off7 k 24#32 = ![32 * k.val + 24, 0] ∧
    k0_off8 k 0#32 = ![6, 32 * k.val + 0, 0] ∧ k0_off8 k 8#32 = ![6, 32 * k.val + 8, 0] ∧
    k0_off8 k 16#32 = ![6, 32 * k.val + 16, 0] :=
    ⟨k0_off1_eq k 0, k0_off1_eq k 1, k0_off1_eq k 2, k0_off1_eq k 3, k0_off2_eq k 0, k0_off2_eq k 1,
    k0_off2_eq k 2, k0_off2_eq k 3, k0_off3_eq k 0, k0_off3_eq k 1, k0_off3_eq k 2, k0_off3_eq k 3,
    k0_off4_eq k 0, k0_off4_eq k 1, k0_off4_eq k 2, k0_off4_eq k 3, k0_off5_eq k 0, k0_off5_eq k 1,
    k0_off5_eq k 2, k0_off5_eq k 3, k0_off6_eq k 0, k0_off6_eq k 1, k0_off6_eq k 2, k0_off6_eq k 3,
    k0_off7_eq k 0, k0_off7_eq k 1, k0_off7_eq k 2, k0_off7_eq k 3, k0_off8_eq k 0, k0_off8_eq k 1,
    k0_off8_eq k 2⟩

/-- Where a trip reads the shifted copies of the last pooling group. -/
theorem pool_offs (k : Fin k0_t1_loop.trips) :
    k0_off32 k 0#32 = ![32 * k.val + 0, 768] ∧ k0_off32 k 8#32 = ![32 * k.val + 8, 768] ∧
    k0_off33 k 0#32 = ![0, 32 * k.val + 0, 768] ∧ k0_off33 k 8#32 = ![0, 32 * k.val + 8, 768] ∧
    k0_off34 k 0#32 = ![1, 32 * k.val + 0, 768] ∧ k0_off34 k 8#32 = ![1, 32 * k.val + 8, 768] ∧
    k0_off35 k 0#32 = ![2, 32 * k.val + 0, 768] ∧ k0_off35 k 8#32 = ![2, 32 * k.val + 8, 768] ∧
    k0_off36 k 0#32 = ![3, 32 * k.val + 0, 768] ∧ k0_off36 k 8#32 = ![3, 32 * k.val + 8, 768] ∧
    k0_off37 k 0#32 = ![4, 32 * k.val + 0, 768] ∧ k0_off37 k 8#32 = ![4, 32 * k.val + 8, 768] ∧
    k0_off38 k 0#32 = ![5, 32 * k.val + 0, 768] ∧ k0_off38 k 8#32 = ![5, 32 * k.val + 8, 768] ∧
    k0_off39 k 0#32 = ![6, 32 * k.val + 0, 768] ∧ k0_off39 k 8#32 = ![6, 32 * k.val + 8, 768] :=
    ⟨k0_off32_eq k 0, k0_off32_eq k 1, k0_off33_eq k 0, k0_off33_eq k 1, k0_off34_eq k 0, k0_off34_eq k 1,
    k0_off35_eq k 0, k0_off35_eq k 1, k0_off36_eq k 0, k0_off36_eq k 1, k0_off37_eq k 0, k0_off37_eq k 1,
    k0_off38_eq k 0, k0_off38_eq k 1, k0_off39_eq k 0, k0_off39_eq k 1⟩

variable (X_arg1 : BufTy.Contents (Elt Ideal) arg1.view.ty) (X_arg4 : BufTy.Contents (Elt Ideal) arg4.view.ty) (X_arg7 : BufTy.Contents (Elt Ideal) arg7.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (k : Fin k0_t1_loop.trips)

/-- The kernel's spelling of the logistic function. -/
def sg (x : EReal) : EReal :=
  Ideal.ofBits .f32 0x3f000000#32 * Ideal.tanh (Ideal.ofBits .f32 0x3f000000#32 * x) + Ideal.ofBits .f32 0x3f000000#32

def conv (D1 CW : ℕ → ℕ → EReal) (r l : ℕ) : EReal := ∑ q ∈ Finset.range 31, CW q l * D1 (r + (30 - q)) l

def win (l : ℕ) : ℕ := 2 ^ (l / 256 + 1)

def pool (E : ℕ → ℕ → EReal) (r l : ℕ) : EReal := ∑ d ∈ Finset.range (win l), E (r + d) l

def bv (P D1 CW E DM GT : ℕ → ℕ → EReal) (r j : ℕ) : EReal :=
  if j < 1024 then conv D1 CW r j * sg (P r (1024 + j))
  else if j < 2048 then
    conv D1 CW r (j - 1024) * P r (j - 1024) * sg (P r j) * (1 - sg (P r j))
  else if j < 3072 then pool E r (j - 2048) - DM r (j - 2048)
  else GT r (j - 3072)

/-- Where a unit-stride rectangle places an index: its offset plus the index. -/
theorem emb_val {s : Shape} (off size : Fin s.rank → Nat) (inb) (x : (Rect.unit off size inb).shape.Idx) (a : Fin s.rank) :
    ((Rect.unit off size inb).emb x a : Nat) = off a + x a := by
  show off a + 1 * (x a : Nat) = _; omega

theorem trip_pieces (P D1 CW E DM GT : ℕ → ℕ → EReal)
    (h1 : ∀ y, arg1.view.read (Elt Ideal) X_arg1 y = P (y 1).val (1792 * (y 0).val + (y 2).val))
    (h4 : ∀ y, arg4.view.read (Elt Ideal) X_arg4 y = DM (y 0).val (y 1).val)
    (h7 : ∀ y, arg7.view.read (Elt Ideal) X_arg7 y = CW (y 0).val (y 1).val)
    (h9 : ∀ y, arg9.view.read (Elt Ideal) X_arg9 y = D1 (y 0).val (y 1).val)
    (h10 : ∀ y, arg10.view.read (Elt Ideal) X_arg10 y = E (y 0).val (y 1).val)
    (h11 : ∀ y, arg11.view.read (Elt Ideal) X_arg11 y = D1 ((y 1).val + (y 0).val + 1) (y 2).val)
    (h12 : ∀ y, arg12.view.read (Elt Ideal) X_arg12 y = E ((y 1).val + (y 0).val + 1) (y 2).val) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg1 X_arg4 X_arg7 X_arg9 X_arg10 X_arg11 X_arg12 k).1,
      ∀ x : p.1.shape.Idx, p.2 x = bv P D1 CW E DM GT (p.1.emb x 1).val (1792 * (p.1.emb x 0).val + (p.1.emb x 2).val) := by
  have e0 : ∀ a b l, D1 (32 * k.val + a + b + 0 + 1) l = D1 (32 * k.val + b + (a + 1)) l :=
    fun a b l => congrArg (D1 · l) (by omega)
  have e1 : ∀ a b d l, D1 (32 * k.val + a + b + d + 1) l = D1 (32 * k.val + b + (a + d + 1)) l :=
    fun a b d l => congrArg (D1 · l) (by omega)
  unfold trip_k0_t1
  dsimp only
  simp only [List.mem_cons, List.not_mem_nil, or_false, forall_eq_or_imp, forall_eq, View.readAt_eq_ld]
  refine ⟨?_, ?_, ?_, ?_⟩
  on_goal 4 =>
    intro x
    sl_unfold_run_names
    simp only [View.readAt_eq_ld]
    idx_vars x
    pointwise [k0_pay17, k0_pay16, k0_pay15, k0_pay14, k0_pay13, k0_pay12, k0_pay11, k0_pay10, k0_pay9, k0_pay8, k0_pay7, k0_pay6]
    simp only [h1, h4, h7, h9, h10, h11, h12, emb_val]
    simp only [conv_offs k, k0_off10_eq, k0_off11_eq, k0_off12_eq, ix2_0, ix2_1, ix3_0, ix3_1, ix3_2, Matrix.cons_val_zero, Matrix.cons_val_one, Matrix.cons_val]
    have hx1 := x1.isLt
    have hx2 := x2.isLt
    have hx0 : x0.val = 0 := by omega
    have hP : (if h : x2.val < 768 then P (32 * k.val + x1.val) (1792 * 0 + (1024 + x2.val))
        else P (32 * k.val + x1.val) (1792 * 1 + (0 + (x2.val - 768)))) = P (32 * k.val + x1.val) (1024 + x2.val) := by
      split <;> congr 1 <;> omega
    have hj : 1792 * (0 + x0.val) + (0 + x2.val) = x2.val := by omega
    erw [hP]
    have e2 : ∀ a l, D1 (32 * k.val + a + x1.val) l = D1 (32 * k.val + x1.val + a) l :=
      fun a l => congrArg (D1 · l) (by omega)
    rw [hj]
    unfold bv conv
    rw [if_pos hx2]
    simp only [Finset.sum_range_succ, Finset.sum_range_zero, zero_add, e0, e1, e2, Nat.reduceAdd, Nat.reduceSub]
    rfl
  on_goal 3 =>
    intro x
    sl_unfold_run_names
    simp only [View.readAt_eq_ld]
    idx_vars x
    pointwise [k0_pay20, k0_pay19, k0_pay18, k0_pay16, k0_pay15, k0_pay14, k0_pay13, k0_pay12, k0_pay11, k0_pay10, k0_pay9, k0_pay8, k0_pay7, k0_pay6]
    simp only [h1, h4, h7, h9, h10, h11, h12, emb_val]
    simp only [conv_offs k, k0_off10_eq, k0_off11_eq, k0_off13_eq, k0_off9_eq, ix2_0, ix2_1, ix3_0, ix3_1, ix3_2, Matrix.cons_val_zero, Matrix.cons_val_one, Matrix.cons_val]
    have hx1 := x1.isLt
    have hx2 := x2.isLt
    have hx0 : x0.val = 0 := by omega
    have e2 : ∀ a l, D1 (32 * k.val + a + x1.val) l = D1 (32 * k.val + x1.val + a) l :=
      fun a l => congrArg (D1 · l) (by omega)
    have hj : 1792 * (0 + x0.val) + (1024 + x2.val) = 1024 + x2.val := by omega
    have hl : 1024 + x2.val - 1024 = x2.val := by omega
    rw [hj]
    unfold bv conv
    rw [if_neg (by omega), if_pos (by omega)]
    rw [hl]
    simp only [Finset.sum_range_succ, Finset.sum_range_zero, zero_add, e0, e1, e2, Nat.reduceAdd, Nat.reduceSub, Nat.reduceMul]
    rfl
  on_goal 2 =>
    intro x
    sl_unfold_run_names
    simp only [View.readAt_eq_ld]
    idx_vars x
    pointwise [k0_pay21, k0_pay18, k0_pay16, k0_pay15, k0_pay14, k0_pay13, k0_pay12, k0_pay11, k0_pay10, k0_pay9, k0_pay8, k0_pay7, k0_pay6]
    simp only [h1, h4, h7, h9, h10, h11, h12, emb_val]
    simp only [conv_offs k, k0_off10_eq, k0_off11_eq, k0_off14_eq, k0_off9_eq, ix2_0, ix2_1, ix3_0, ix3_1, ix3_2, Matrix.cons_val_zero, Matrix.cons_val_one, Matrix.cons_val]
    have hx1 := x1.isLt
    have hx2 := x2.isLt
    have hx0 : x0.val = 0 := by omega
    have e2 : ∀ a l, D1 (32 * k.val + a + x1.val) l = D1 (32 * k.val + x1.val + a) l :=
      fun a l => congrArg (D1 · l) (by omega)
    have hj : 1792 * (1 + x0.val) + (0 + x2.val) = 1792 + x2.val := by omega
    have hl : 1792 + x2.val - 1024 = 768 + x2.val := by omega
    rw [hj]
    unfold bv conv
    rw [if_neg (by omega), if_pos (by omega)]
    rw [hl]
    simp only [Finset.sum_range_succ, Finset.sum_range_zero, zero_add, e0, e1, e2, Nat.reduceAdd, Nat.reduceSub, Nat.reduceMul]
    rfl
  on_goal 1 =>
    intro x
    sl_unfold_run_names
    simp only [View.readAt_eq_ld]
    idx_vars x
    pointwise [k0_pay2, k0_pay22, k0_pay23, k0_pay24, k0_pay25, k0_pay26, k0_pay27, k0_pay28, k0_pay29]
    simp only [h1, h4, h7, h9, h10, h11, h12, emb_val]
    simp only [pool_offs k, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off40_eq, k0_off41_eq, ix2_0, ix2_1, ix3_0, ix3_1, ix3_2, Matrix.cons_val_zero, Matrix.cons_val_one, Matrix.cons_val]
    have hx1 := x1.isLt
    have hx2 := x2.isLt
    have hx0 : x0.val = 0 := by omega
    have hr1 : 1792 * (1 + x0.val) + (256 + x2.val) = 2048 + x2.val := by omega
    have f0 : ∀ a l, E (32 * k.val + a + x1.val + 0 + 1) l = E (32 * k.val + x1.val + (a + 1)) l :=
      fun a l => congrArg (E · l) (by omega)
    have f1 : ∀ a b l, E (32 * k.val + a + x1.val + b + 1) l = E (32 * k.val + x1.val + (a + b + 1)) l :=
      fun a b l => congrArg (E · l) (by omega)
    have f2 : ∀ a l, E (32 * k.val + a + x1.val) l = E (32 * k.val + x1.val + a) l :=
      fun a l => congrArg (E · l) (by omega)
    have f3 : ∀ l, E (32 * k.val + x1.val + 0 + 1) l = E (32 * k.val + x1.val + 1) l := fun l => rfl
    have f4 : ∀ b l, E (32 * k.val + x1.val + b + 1) l = E (32 * k.val + x1.val + (b + 1)) l := fun b l => rfl
    rw [hr1]
    unfold bv pool
    rw [if_neg (by omega), if_neg (by omega), if_pos (by omega), show 2048 + x2.val - 2048 = x2.val by omega]
    split_ifs with a b d
    · have hw : win x2.val = 2 := by unfold win; rw [show x2.val / 256 = 0 by omega]; rfl
      have hc : 0 + (x2.val) = x2.val := by omega
      rw [hw]
      simp only [Finset.sum_range_succ, Finset.sum_range_zero, zero_add, hc, f0, f1, f2, f3, f4, add_zero, Nat.reduceAdd]
    · have hw : win x2.val = 4 := by unfold win; rw [show x2.val / 256 = 1 by omega]; rfl
      have hc : 256 + (x2.val - 256) = x2.val := by omega
      rw [hw]
      simp only [Finset.sum_range_succ, Finset.sum_range_zero, zero_add, hc, f0, f1, f2, f3, f4, add_zero, Nat.reduceAdd]
    · have hw : win x2.val = 8 := by unfold win; rw [show x2.val / 256 = 2 by omega]; rfl
      have hc : 512 + (x2.val - 256 - 256) = x2.val := by omega
      rw [hw]
      simp only [Finset.sum_range_succ, Finset.sum_range_zero, zero_add, hc, f0, f1, f2, f3, f4, add_zero, Nat.reduceAdd]
    · have hw : win x2.val = 16 := by unfold win; rw [show x2.val / 256 = 3 by omega]; rfl
      have hc : 768 + (x2.val - 256 - 256 - 256) = x2.val := by omega
      rw [hw]
      simp only [Finset.sum_range_succ, Finset.sum_range_zero, zero_add, hc, f0, f1, f2, f3, f4, add_zero, Nat.reduceAdd]

end Cert.KernelIdeal.Mix
end
-- ==== Proof.MixBlock.lean ====
/-
  One grid point of the mixer's gradient: the staging buffers' rows as the argument arrays' blocks give them, and the
  block of the result after all trips of the loop.
-/
module

public import proofs.«01_k».proof.Proof.Gen.KernelIdeal.Value
public import proofs.«01_k».proof.Proof.MixTrip
public import Idealize.ShloMosaic.Lib.Pipeline.ReadBack
public import Idealize.ShloMosaic.Lib.WordArith

@[expose] public section

set_option maxRecDepth 16384

noncomputable section

namespace Cert.KernelIdeal.Mix

open Cert.KernelIdeal Cert.KernelIdeal.Gen Idealize.ShloMosaic Idealize.ShloMosaic.TcCoe Idealize.SL.Sem

variable (c : Dev nD) (i : grid0.Coords) (arg1 : Memref sig .tc .vmem S2x256x1792 .bf16) (harg1 : arg1.IsWhole) (arg2 : Memref sig .tc .vmem S256x1024 .f32) (harg2 : arg2.IsWhole) (arg3 : Memref sig .tc .vmem S32x1024 .f32) (harg3 : arg3.IsWhole) (arg4 : Memref sig .tc .vmem S256x1024 .bf16) (harg4 : arg4.IsWhole) (arg5 : Memref sig .tc .vmem S32x1024 .bf16) (harg5 : arg5.IsWhole) (arg6 : Memref sig .tc .vmem S256x4096 .bf16) (harg6 : arg6.IsWhole) (arg7 : Memref sig .tc .vmem S32x1024 .f32) (harg7 : arg7.IsWhole) (arg8 : Memref sig .tc .vmem S4x256x1792 .bf16) (harg8 : arg8.IsWhole) (arg9 : Memref sig .tc .vmem S288x1024 .f32) (harg9 : arg9.IsWhole) (arg10 : Memref sig .tc .vmem S288x1024 .f32) (harg10 : arg10.IsWhole) (arg11 : Memref sig .tc .vmem S7x280x1024 .f32) (harg11 : arg11.IsWhole) (arg12 : Memref sig .tc .vmem S7x280x1024 .f32) (harg12 : arg12.IsWhole)

variable (w0 : Vec Ideal S2x256x1792 .bf16) (w1 : Vec Ideal S256x1024 .f32) (w2 : Vec Ideal S32x1024 .f32) (w3 : Vec Ideal S256x1024 .bf16) (w4 : Vec Ideal S32x1024 .bf16) (w5 : Vec Ideal S256x4096 .bf16) (w6 : Vec Ideal S32x1024 .f32)

/-- Every store of the chunk loop's first `n` trips is a block of `bv`. -/
theorem pb_pieces (X_arg1 : BufTy.Contents (Elt Ideal) arg1.view.ty) (X_arg4 : BufTy.Contents (Elt Ideal) arg4.view.ty) (X_arg7 : BufTy.Contents (Elt Ideal) arg7.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty)
    (P D1 CW E DM GT : ℕ → ℕ → EReal)
    (h1 : ∀ y, arg1.view.read (Elt Ideal) X_arg1 y = P (y 1).val (1792 * (y 0).val + (y 2).val))
    (h4 : ∀ y, arg4.view.read (Elt Ideal) X_arg4 y = DM (y 0).val (y 1).val)
    (h7 : ∀ y, arg7.view.read (Elt Ideal) X_arg7 y = CW (y 0).val (y 1).val)
    (h9 : ∀ y, arg9.view.read (Elt Ideal) X_arg9 y = D1 (y 0).val (y 1).val)
    (h10 : ∀ y, arg10.view.read (Elt Ideal) X_arg10 y = E (y 0).val (y 1).val)
    (h11 : ∀ y, arg11.view.read (Elt Ideal) X_arg11 y = D1 ((y 1).val + (y 0).val + 1) (y 2).val)
    (h12 : ∀ y, arg12.view.read (Elt Ideal) X_arg12 y = E ((y 1).val + (y 0).val + 1) (y 2).val) :
    ∀ n ≤ k0_t1_loop.trips, ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 X_arg1 X_arg4 X_arg7 X_arg9 X_arg10 X_arg11 X_arg12 n,
      ∀ x : p.1.shape.Idx, p.2 x = bv P D1 CW E DM GT (p.1.emb x 1).val (1792 * (p.1.emb x 0).val + (p.1.emb x 2).val) := by
  intro n
  induction n with
  | zero => intro _ p hp; exact absurd hp List.not_mem_nil
  | succ n ih =>
    intro hn p hp
    have hs := pb_k0_t1_succ (F := Ideal) Variants.none c none i arg1 harg1 arg2 harg2 arg3 harg3 arg4 harg4 arg5 harg5 arg6 harg6 arg7 harg7 arg8 harg8 arg9 harg9 arg10 harg10 arg11 harg11 arg12 harg12 X_arg1 X_arg4 X_arg7 X_arg9 X_arg10 X_arg11 X_arg12 ⟨n, hn⟩
    rw [hs] at hp
    rcases List.mem_append.mp hp with hp | hp
    · exact trip_pieces Variants.none c none i arg1 harg1 arg2 harg2 arg3 harg3 arg4 harg4 arg5 harg5 arg6 harg6 arg7 harg7 arg8 harg8 arg9 harg9 arg10 harg10 arg11 harg11 arg12 harg12 X_arg1 X_arg4 X_arg7 X_arg9 X_arg10 X_arg11 X_arg12 ⟨n, hn⟩ P D1 CW E DM GT h1 h4 h7 h9 h10 h11 h12 p hp
    · exact ih (Nat.le_of_succ_le hn) p hp

/-- How many steps the pooling window of column `l` averages at time `t`. -/
def cnt (t l : ℕ) : EReal := (((min (t + 1) (win l) : ℕ) : ℝ) : EReal)

/-- The kernel's word for that number. -/
theorem cnt_word (t r w : ℕ) (ht : t < 16) (hr : r < 288) (hw : w < 2 ^ 31) :
    (FloatOps.sitofp .f32 (IntOp.minsi (IntOp.addi (IntOp.addi (Scalar.muli (BitVec.ofNat 32 t) 256#32) (BitVec.ofNat 32 r)) 1#32)
      (BitVec.ofNat 32 w)) : Ideal .f32) = (((min (256 * t + r + 1) w : ℕ) : ℝ) : EReal) := by
  have hx : (IntOp.addi (IntOp.addi (Scalar.muli (BitVec.ofNat 32 t) 256#32) (BitVec.ofNat 32 r)) 1#32).toNat = 256 * t + r + 1 := by
    simp only [IntOp.addi, Scalar.muli, IntOp.muli, BitVec.toNat_add, BitVec.toNat_mul, BitVec.toNat_ofNat]
    omega
  have hc : (BitVec.ofNat 32 w).toNat = w := by rw [BitVec.toNat_ofNat]; omega
  have hm := WordArith.toNat_minsi_of_lt _ (BitVec.ofNat 32 w) (show _ < 2 ^ 31 by rw [hx]; omega) (by rw [hc]; exact hw)
  rw [hx, hc] at hm
  show (((_ : BitVec 32).toInt : ℝ) : EReal) = _
  rw [BitVec.toInt_eq_toNat_of_lt (by rw [hm]; omega), hm]
  norm_cast

/-- The kernel's test that a tile has one after it. -/
theorem more_word {α : Type} (t : ℕ) (ht : t < 16) (a b : α) :
    Scalar.select (Scalar.cmpi .slt (BitVec.ofNat 32 t) 15#32) a b = if t < 15 then a else b := by
  have h : ∀ t < 16, Scalar.cmpi .slt (BitVec.ofNat 32 t) 15#32 = if t < 15 then 1#1 else 0#1 := by decide
  rw [h t ht]
  by_cases hl : t < 15 <;> simp [hl, Scalar.select]

/-- One element of the pooled cotangent over its count, as the kernel spells it. -/
theorem ext_elem (t r l w : ℕ) (ht : t < 16) (hr : r < 288) (hw : w < 2 ^ 31) (hl : w = win l) (A : r < 256 → EReal) (B : ¬ r < 256 → EReal) (e : EReal)
    (h1 : ∀ h, Ideal.div (A h) (cnt (256 * t + r) l) = e) (h2 : ∀ h, Ideal.div (if t < 15 then B h else 0) (cnt (256 * t + r) l) = e) :
    Ideal.div (if h : r < 256 then A h else Scalar.select (Scalar.cmpi .slt (BitVec.ofNat 32 t) 15#32) (B h) 0)
      (FloatOps.sitofp .f32 (IntOp.minsi (IntOp.addi (IntOp.addi (Scalar.muli (BitVec.ofNat 32 t) 256#32) (BitVec.ofNat 32 r)) 1#32)
        (BitVec.ofNat 32 w)) : Ideal .f32) = e := by
  rw [cnt_word t r w ht hr hw, hl]
  split_ifs with h
  · exact h1 h
  · rw [more_word t ht]; exact h2 h

/-- Stores that are blocks of one function and cover the buffer leave that function in it. -/
theorem read_of_pieces {sp : Space} {s : Shape} {e : EltTy} {κ : Kind} (v : View sig κ sp s e) (f : v.ty.Contents (Elt Ideal)) (G : s.Idx → Elt Ideal e)
    (L : List (View.Piece (Elt Ideal) s e)) (h : View.PiecesOf G L) (hc : ∀ y : s.Idx, ∃ p ∈ L, y ∈ p.1.set) (y : s.Idx) :
    v.read (Elt Ideal) (v.writes (Elt Ideal) f L) y = G y := by
  rw [View.read_writes_eq_canon _ _ _ hc]
  exact View.canon_apply_of_pieces G L h.mem y (hc y)

/-- … and so does a load of a part of it. -/
theorem readCov_of_pieces {sp : Space} {s : Shape} {e : EltTy} {κ : Kind} (v : View sig κ sp s e) (G : s.Idx → Elt Ideal e)
    (L : List (View.Piece (Elt Ideal) s e)) (r : Rect s) (h : View.PiecesOf G L) (hc : ∀ y : s.Idx, ∃ p ∈ L, y ∈ p.1.set)
    (j : r.shape.Idx) : v.readCov L r.toLoadRect j = G (r.emb j) := by
  rw [View.readCov_eq_canon']
  exact View.canon_apply_of_pieces G L h.mem _ (hc _)

/-- The stores of the convolution's cotangent: the tile, then the rows of the next tile (zero after the last). -/
abbrev d1L : List (View.Piece (Elt Ideal) S288x1024 .f32) :=
  [⟨Rect.unit ![256, 0] ![32, 1024] inb_S288x1024_S32x1024_256_0, k0_pay31 i (View.ld w2 (Rect.unit ![0, 0] ![32, 1024] inb_S32x1024_S32x1024_0_0))⟩,
    ⟨Rect.unit ![0, 0] ![256, 1024] inb_S288x1024_S256x1024_0_0, k0_pay30 (View.ld w1 (Rect.unit ![0, 0] ![256, 1024] inb_S256x1024_S256x1024_0_0))⟩]

/-- The stores of the pooled cotangent over its counts, one per pooling group. -/
abbrev eL : List (View.Piece (Elt Ideal) S288x1024 .f32) :=
  [⟨Rect.unit ![0, 768] ![288, 256] inb_S288x1024_S288x256_0_768,
      k0_pay39 (k0_pay32 i) (k0_pay33 i (View.ld w3 (Rect.unit ![0, 0] ![256, 1024] inb_S256x1024_S256x1024_0_0))
        (View.ld w4 (Rect.unit ![0, 0] ![32, 1024] inb_S32x1024_S32x1024_0_0)))⟩,
    ⟨Rect.unit ![0, 512] ![288, 256] inb_S288x1024_S288x256_0_512,
      k0_pay38 (k0_pay32 i) (k0_pay33 i (View.ld w3 (Rect.unit ![0, 0] ![256, 1024] inb_S256x1024_S256x1024_0_0))
        (View.ld w4 (Rect.unit ![0, 0] ![32, 1024] inb_S32x1024_S32x1024_0_0)))⟩,
    ⟨Rect.unit ![0, 256] ![288, 256] inb_S288x1024_S288x256_0_256,
      k0_pay37 (k0_pay32 i) (k0_pay35 i (View.ld w3 (Rect.unit ![0, 0] ![256, 1024] inb_S256x1024_S256x1024_0_0))
        (View.ld w4 (Rect.unit ![0, 0] ![32, 1024] inb_S32x1024_S32x1024_0_0))) k0_pay36⟩,
    ⟨Rect.unit ![0, 0] ![288, 256] inb_S288x1024_S288x256_0_0,
      k0_pay34 i (View.ld w3 (Rect.unit ![0, 0] ![256, 1024] inb_S256x1024_S256x1024_0_0))
        (View.ld w4 (Rect.unit ![0, 0] ![32, 1024] inb_S32x1024_S32x1024_0_0))⟩]

theorem d1_pieces (D1 : ℕ → ℕ → EReal) (hd : ∀ y, w1 y = D1 (y 0).val (y 1).val)
    (hi : (i 0).val < 16) (hd2 : ∀ y, (if (i 0).val < 15 then w2 y else 0) = D1 (256 + (y 0).val) (y 1).val) :
    View.PiecesOf (fun y => D1 (y 0).val (y 1).val) (d1L i w1 w2) := by
  refine ⟨?_, ?_, trivial⟩
  · intro x
    idx_vars x
    pointwise [k0_pay31]
    refine (more_word _ hi _ _).trans ?_
    exact (hd2 (ix2 x0 x1)).trans (by
      simp only [emb_val, ix2_0, ix2_1, Matrix.cons_val_zero, Matrix.cons_val_one, Matrix.cons_val, Nat.zero_add])
  · intro x
    idx_vars x
    pointwise [k0_pay30]
    exact (hd (ix2 x0 x1)).trans (by
      simp only [emb_val, ix2_0, ix2_1, Matrix.cons_val_zero, Matrix.cons_val_one, Matrix.cons_val, Nat.zero_add])

theorem e_pieces (E : ℕ → ℕ → EReal) (hi : (i 0).val < 16)
    (he : ∀ (a : Fin 256) (b : Fin 1024), Ideal.div (w3 (ix2 a b)) (cnt (256 * (i 0).val + a.val) b.val) = E a.val b.val)
    (he2 : ∀ (a : Fin 32) (b : Fin 1024), Ideal.div (if (i 0).val < 15 then w4 (ix2 a b) else 0) (cnt (256 * (i 0).val + (256 + a.val)) b.val)
      = E (256 + a.val) b.val) :
    View.PiecesOf (fun y => E (y 0).val (y 1).val) (eL i w3 w4) := by
  refine ⟨?_, ?_, ?_, ?_, trivial⟩
  · intro x
    idx_vars x
    pointwise [k0_pay39, k0_pay33, k0_pay32]
    simp only [Nat.zero_add, emb_val, ix2_0, ix2_1, Matrix.cons_val_zero, Matrix.cons_val_one, Matrix.cons_val]
    have hx0 := x0.isLt
    have hx1 := x1.isLt
    refine ext_elem (i 0).val x0.val (768 + x1.val) _ hi hx0 (by decide) ?_ _ _ _ (fun h => ?_) (fun h => ?_)
    · unfold win; rw [show (768 + x1.val) / 256 = 3 by omega]; rfl
    · exact he ⟨x0.val, h⟩ ⟨768 + x1.val, by omega⟩
    · have hr : 256 + (x0.val - 256) = x0.val := by omega
      have e := he2 ⟨x0.val - 256, by omega⟩ ⟨768 + x1.val, by omega⟩
      dsimp only at e
      rw [hr] at e
      exact e
  · intro x
    idx_vars x
    pointwise [k0_pay38, k0_pay33, k0_pay32]
    simp only [Nat.zero_add, emb_val, ix2_0, ix2_1, Matrix.cons_val_zero, Matrix.cons_val_one, Matrix.cons_val]
    have hx0 := x0.isLt
    have hx1 := x1.isLt
    refine ext_elem (i 0).val x0.val (512 + x1.val) _ hi hx0 (by decide) ?_ _ _ _ (fun h => ?_) (fun h => ?_)
    · unfold win; rw [show (512 + x1.val) / 256 = 2 by omega]; rfl
    · exact he ⟨x0.val, h⟩ ⟨512 + x1.val, by omega⟩
    · have hr : 256 + (x0.val - 256) = x0.val := by omega
      have e := he2 ⟨x0.val - 256, by omega⟩ ⟨512 + x1.val, by omega⟩
      dsimp only at e
      rw [hr] at e
      exact e
  · intro x
    idx_vars x
    pointwise [k0_pay37, k0_pay36, k0_pay35, k0_pay33, k0_pay32]
    simp only [Nat.zero_add, emb_val, ix2_0, ix2_1, Matrix.cons_val_zero, Matrix.cons_val_one, Matrix.cons_val]
    have hx0 := x0.isLt
    have hx1 := x1.isLt
    refine ext_elem (i 0).val x0.val (256 + x1.val) _ hi hx0 (by decide) ?_ _ _ _ (fun h => ?_) (fun h => ?_)
    · unfold win; rw [show (256 + x1.val) / 256 = 1 by omega]; rfl
    · exact he ⟨x0.val, h⟩ ⟨256 + x1.val, by omega⟩
    · have hr : 256 + (x0.val - 256) = x0.val := by omega
      have e := he2 ⟨x0.val - 256, by omega⟩ ⟨256 + x1.val, by omega⟩
      dsimp only at e
      rw [hr] at e
      exact e
  · intro x
    idx_vars x
    pointwise [k0_pay34, k0_pay33, k0_pay32]
    simp only [Nat.zero_add, emb_val, ix2_0, ix2_1, Matrix.cons_val_zero, Matrix.cons_val_one, Matrix.cons_val]
    have hx0 := x0.isLt
    have hx1 := x1.isLt
    refine ext_elem (i 0).val x0.val (x1.val) _ hi hx0 (by decide) ?_ _ _ _ (fun h => ?_) (fun h => ?_)
    · unfold win; rw [show (x1.val) / 256 = 0 by omega]; rfl
    · exact he ⟨x0.val, h⟩ ⟨x1.val, by omega⟩
    · have hr : 256 + (x0.val - 256) = x0.val := by omega
      have e := he2 ⟨x0.val - 256, by omega⟩ ⟨x1.val, by omega⟩
      dsimp only at e
      rw [hr] at e
      exact e

theorem block (P D1 CW E DM GT : ℕ → ℕ → EReal)
    (h0 : ∀ y, w0 y = P (y 1).val (1792 * (y 0).val + (y 2).val))
    (h3 : ∀ y, w3 y = DM (y 0).val (y 1).val) (h5 : ∀ y, w5 y = GT (y 0).val (y 1).val) (h6 : ∀ y, w6 y = CW (y 0).val (y 1).val)
    (hd : ∀ y, w1 y = D1 (y 0).val (y 1).val)
    (hi : (i 0).val < 16) (hd2 : ∀ y, (if (i 0).val < 15 then w2 y else 0) = D1 (256 + (y 0).val) (y 1).val)
    (he : ∀ (a : Fin 256) (b : Fin 1024), Ideal.div (w3 (ix2 a b)) (cnt (256 * (i 0).val + a.val) b.val) = E a.val b.val)
    (he2 : ∀ (a : Fin 32) (b : Fin 1024), Ideal.div (if (i 0).val < 15 then w4 (ix2 a b) else 0) (cnt (256 * (i 0).val + (256 + a.val)) b.val)
      = E (256 + a.val) b.val)
  (y : S4x256x1792.Idx) :
    out0_A_7 c i arg1 harg1 arg2 harg2 arg3 harg3 arg4 harg4 arg5 harg5 arg6 harg6 arg7 harg7 arg8 harg8 arg9 harg9 arg10 harg10 arg11 harg11 arg12 harg12 w0 w1 w2 w3 w4 w5 w6 y
      = bv P D1 CW E DM GT (y 1).val (1792 * (y 0).val + (y 2).val) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 w0 w1 w2 w3 w4 w5 w6)]
  refine View.canon_apply_of_pieces (fun y => bv P D1 CW E DM GT (y 1).val (1792 * (y 0).val + (y 2).val)) _ ?_ y (cover0_A_7 c i arg1 harg1 arg2 harg2 arg3 harg3 arg4 harg4 arg5 harg5 arg6 harg6 arg7 harg7 arg8 harg8 arg9 harg9 arg10 harg10 arg11 harg11 arg12 harg12 w0 w1 w2 w3 w4 w5 w6 y)
  unfold kernelRun0_A
  dsimp only
  sl_unfold_run_names
  simp only [View.readAt_eq_ld, harg1.read_unread, harg2.read_unread, harg3.read_unread, harg4.read_unread, harg5.read_unread, harg6.read_unread, harg7.read_unread]
  intro p hp
  rcases List.mem_cons.mp hp with rfl | hp
  · intro x
    idx_vars x
    pointwise [k0_pay5]
    simp only [h5, emb_val, ix2_0, ix2_1, ix3_0, ix3_1, ix3_2, Matrix.cons_val_zero, Matrix.cons_val_one, Matrix.cons_val]
    have hx2 := x2.isLt
    have hx0 : x0.val = 0 := by omega
    unfold bv
    rw [if_neg (by omega), if_neg (by omega), if_neg (by omega)]
    congr 1 <;> omega
  rcases List.mem_cons.mp hp with rfl | hp
  · intro x
    idx_vars x
    pointwise [k0_pay4]
    simp only [h5, emb_val, ix2_0, ix2_1, ix3_0, ix3_1, ix3_2, Matrix.cons_val_zero, Matrix.cons_val_one, Matrix.cons_val]
    have hx2 := x2.isLt
    have hx0 : x0.val = 0 := by omega
    unfold bv
    rw [if_neg (by omega), if_neg (by omega), if_neg (by omega)]
    congr 1 <;> omega
  rcases List.mem_cons.mp hp with rfl | hp
  · intro x
    idx_vars x
    pointwise [k0_pay3]
    simp only [h5, emb_val, ix2_0, ix2_1, ix3_0, ix3_1, ix3_2, Matrix.cons_val_zero, Matrix.cons_val_one, Matrix.cons_val]
    have hx2 := x2.isLt
    have hx0 : x0.val = 0 := by omega
    unfold bv
    rw [if_neg (by omega), if_neg (by omega), if_neg (by omega)]
    congr 1 <;> omega
  refine pb_pieces c i arg1 harg1 arg2 harg2 arg3 harg3 arg4 harg4 arg5 harg5 arg6 harg6 arg7 harg7 arg8 harg8 arg9 harg9 arg10 harg10 arg11 harg11 arg12 harg12 _ _ _ _ _ _ _ P D1 CW E DM GT ?_ ?_ ?_ ?_ ?_ ?_ ?_ _ (by decide) p hp
  · intro y; rw [harg1.read_unread]; exact h0 y
  · intro y; rw [harg4.read_unread]; exact h3 y
  · intro y; rw [harg7.read_unread]; exact h6 y
  · exact read_of_pieces (s := S288x1024) (e := .f32) _ _ _ _ (d1_pieces i w1 w2 D1 hd hi hd2) (fun y => View.cover_of_tiledBy (d1L i w1 w2) ![32, 1024] (by sl_kernel_rfl) y)
  · exact read_of_pieces (s := S288x1024) (e := .f32) _ _ _ _ (e_pieces i w3 w4 E hi he he2) (fun y => View.cover_of_tiledBy (eL i w3 w4) ![288, 256] (by sl_kernel_rfl) y)
  · refine read_of_pieces (s := S7x280x1024) (e := .f32) _ _ (fun y => D1 ((y 1).val + (y 0).val + 1) (y 2).val) _ ?_ ?_
    · refine ⟨?_, ?_, ?_, ?_, ?_, ?_, ?_, trivial⟩
      all_goals
        clear hp
        intro x
        idx_vars x
        pointwise [k0_pay40, k0_pay41, k0_pay42, k0_pay43, k0_pay44, k0_pay45, k0_pay46]
        refine (readCov_of_pieces _ (fun y => D1 (y 0).val (y 1).val) (d1L i w1 w2) _ (d1_pieces i w1 w2 D1 hd hi hd2) (fun y => View.cover_of_tiledBy (d1L i w1 w2) ![32, 1024] (by sl_kernel_rfl) y) _).trans ?_
        have hx0 : x0.val = 0 := by omega
        simp only [emb_val, ix2_0, ix2_1, ix3_0, ix3_1, ix3_2, Matrix.cons_val_zero, Matrix.cons_val_one, Matrix.cons_val, hx0, Nat.zero_add]
        congr 1; omega
    · exact fun y => View.cover_of_tiledBy _ ![1, 280, 1024] (by sl_kernel_rfl) y
  · refine read_of_pieces (s := S7x280x1024) (e := .f32) _ _ (fun y => E ((y 1).val + (y 0).val + 1) (y 2).val) _ ?_ ?_
    · refine ⟨?_, ?_, ?_, ?_, ?_, ?_, ?_, trivial⟩
      all_goals
        clear hp
        intro x
        idx_vars x
        pointwise [k0_pay1, k0_pay47, k0_pay48, k0_pay49, k0_pay50, k0_pay51, k0_pay52]
        refine (readCov_of_pieces _ (fun y => E (y 0).val (y 1).val) (eL i w3 w4) _ (e_pieces i w3 w4 E hi he he2) (fun y => View.cover_of_tiledBy (eL i w3 w4) ![288, 256] (by sl_kernel_rfl) y) _).trans ?_
        have hx0 : x0.val = 0 := by omega
        simp only [emb_val, ix2_0, ix2_1, ix3_0, ix3_1, ix3_2, Matrix.cons_val_zero, Matrix.cons_val_one, Matrix.cons_val, hx0, Nat.zero_add]
        congr 1; omega
    · exact fun y => View.cover_of_tiledBy _ ![1, 280, 1024] (by sl_kernel_rfl) y

end Cert.KernelIdeal.Mix
end
-- ==== Proof.MixArray.lean ====
/-
  What the mixer's gradient array holds at the end: each grid point writes its own rows of it, from the point's blocks
  and the first rows of the next, and the rows of all points together are the whole array.
-/
module

public import proofs.«01_k».proof.Proof.Gen.KernelIdeal.Value
public import proofs.«01_k».proof.Proof.MixBlock
public import Idealize.ShloMosaic.Lib.Pipeline.ValueKit.Point

@[expose] public section

set_option maxRecDepth 16384

noncomputable section

namespace Cert.KernelIdeal.Mix

open Cert.KernelIdeal Cert.KernelIdeal.Gen Idealize.ShloMosaic Idealize.ShloMosaic.TcCoe Idealize.SL.Sem

variable (m : (ℓ : Loc nD τ sig) → Buf (Elt Ideal) ℓ)

/-- An array of two axes read at numbers, zero outside. -/
def get2 {a b : ℕ} (X : (⟨2, ![a, b]⟩ : Shape).Idx → EReal) (r l : ℕ) : EReal :=
  if h : r < a ∧ l < b then X (ix2 ⟨r, h.1⟩ ⟨l, h.2⟩) else 0

/-- The projection's row `r`, its columns counted through the chips' parts. -/
def getP (X : (⟨3, ![4, 4096, 1792]⟩ : Shape).Idx → EReal) (r j : ℕ) : EReal :=
  if h : r < 4096 ∧ j < 7168 then X (ix3 ⟨j / 1792, by omega⟩ ⟨r, h.1⟩ ⟨j % 1792, by omega⟩) else 0

/-- The pooled branch's cotangent over its counts. -/
def eOf (X : ℕ → ℕ → EReal) (r l : ℕ) : EReal := Ideal.div (X r l) (cnt r l)

/-- The result array's element at row `r` and column `j` of the whole projection, of the argument arrays. -/
def res (c : Dev nD) (r j : ℕ) : EReal :=
  bv (getP (m ((c : Thread nD τ).loc main_arg0))) (get2 (m ((c : Thread nD τ).loc main_arg1))) (get2 (m ((c : Thread nD τ).loc main_arg4)))
    (eOf (get2 (m ((c : Thread nD τ).loc main_arg2)))) (get2 (m ((c : Thread nD τ).loc main_arg2))) (get2 (m ((c : Thread nD τ).loc main_arg3))) r j

/-- Where the windows' blocks lie. -/
theorem idx : ∀ t : Fin cfg0.N, t.val < 16 ∧ (grid0.coords t 0).val = t.val ∧ win0_0.index t = ![0, t.val, 0] ∧ win0_1.index t = ![t.val, 0] ∧
    win0_2.index t = ![min (8 * (t.val + 1)) 127, 0] ∧ win0_3.index t = ![t.val, 0] ∧ win0_4.index t = ![min (8 * (t.val + 1)) 127, 0] ∧
    win0_5.index t = ![t.val, 0] ∧ win0_6.index t = ![0, 0] ∧ win0_7.index t = ![0, t.val, 0] :=
  (by decide +kernel : ∀ t : Fin grid0.N, _)

theorem get2_eq {a b : ℕ} (X : (⟨2, ![a, b]⟩ : Shape).Idx → EReal) (y : (⟨2, ![a, b]⟩ : Shape).Idx) (r l : ℕ) (hr : (y 0).val = r) (hl : (y 1).val = l) :
    X y = get2 X r l := by
  subst hr hl
  have h0 : (y 0).val < a := (y 0).isLt
  have h1 : (y 1).val < b := (y 1).isLt
  unfold get2
  rw [dif_pos ⟨h0, h1⟩]
  congr 1
  funext k
  match k with
  | 0 => rfl
  | 1 => rfl

theorem getP_eq (X : (⟨3, ![4, 4096, 1792]⟩ : Shape).Idx → EReal) (y : (⟨3, ![4, 4096, 1792]⟩ : Shape).Idx) (r j : ℕ) (hr : (y 1).val = r)
    (hj : 1792 * (y 0).val + (y 2).val = j) : X y = getP X r j := by
  subst hr hj
  have h0 : (y 0).val < 4 := (y 0).isLt
  have h1 : (y 1).val < 4096 := (y 1).isLt
  have h2 : (y 2).val < 1792 := (y 2).isLt
  unfold getP
  rw [dif_pos ⟨h1, by omega⟩]
  congr 1
  funext k
  match k with
  | 0 => exact Fin.ext (by show (y 0).val = (1792 * (y 0).val + (y 2).val) / 1792; omega)
  | 1 => rfl
  | 2 => exact Fin.ext (by show (y 2).val = (1792 * (y 0).val + (y 2).val) % 1792; omega)

/-- The gradient's element of rows counted from a tile's first one. -/
theorem bv_shift (P D1 CW E DM GT : ℕ → ℕ → EReal) (o r j : ℕ) :
    bv (fun r => P (o + r)) (fun r => D1 (o + r)) CW (fun r => E (o + r)) (fun r => DM (o + r)) (fun r => GT (o + r)) r j = bv P D1 CW E DM GT (o + r) j := by
  unfold bv conv pool
  simp only [Nat.add_assoc]

theorem w0_eq (c : Dev nD) (t : Fin cfg0.N) (y : S2x256x1792.Idx) :
    iblk m c 0 t y = getP (m ((c : Thread nD τ).loc main_arg0)) (256 * t.val + (y 1).val) (1792 * (y 0).val + (y 2).val) := by
  obtain ⟨ht, hc, e0, e1, e2, e3, e4, e5, e6, e7⟩ := idx t
  unfold iblk
  blk_simp [e0]
  refine getP_eq (m ((c : Thread nD τ).loc main_arg0)) _ _ _ ?_ ?_
  · blk_simp [e0] <;> simp <;> omega
  · blk_simp [e0] <;> simp

theorem w1_eq (c : Dev nD) (t : Fin cfg0.N) (y : S256x1024.Idx) :
    iblk m c 1 t y = get2 (m ((c : Thread nD τ).loc main_arg1)) (256 * t.val + (y 0).val) (y 1).val := by
  obtain ⟨ht, hc, e0, e1, e2, e3, e4, e5, e6, e7⟩ := idx t
  unfold iblk
  blk_simp [e1]
  refine get2_eq (m ((c : Thread nD τ).loc main_arg1)) _ _ _ ?_ ?_
  · blk_simp [e1] <;> simp <;> omega
  · blk_simp [e1] <;> simp

theorem w3_eq (c : Dev nD) (t : Fin cfg0.N) (y : S256x1024.Idx) :
    iblk m c 3 t y = get2 (m ((c : Thread nD τ).loc main_arg2)) (256 * t.val + (y 0).val) (y 1).val := by
  obtain ⟨ht, hc, e0, e1, e2, e3, e4, e5, e6, e7⟩ := idx t
  unfold iblk
  blk_simp [e3]
  refine get2_eq (m ((c : Thread nD τ).loc main_arg2)) _ _ _ ?_ ?_
  · blk_simp [e3] <;> simp <;> omega
  · blk_simp [e3] <;> simp

theorem w5_eq (c : Dev nD) (t : Fin cfg0.N) (y : S256x4096.Idx) :
    iblk m c 5 t y = get2 (m ((c : Thread nD τ).loc main_arg3)) (256 * t.val + (y 0).val) (y 1).val := by
  obtain ⟨ht, hc, e0, e1, e2, e3, e4, e5, e6, e7⟩ := idx t
  unfold iblk
  blk_simp [e5]
  refine get2_eq (m ((c : Thread nD τ).loc main_arg3)) _ _ _ ?_ ?_
  · blk_simp [e5] <;> simp <;> omega
  · blk_simp [e5] <;> simp

theorem w6_eq (c : Dev nD) (t : Fin cfg0.N) (y : S32x1024.Idx) :
    iblk m c 6 t y = get2 (m ((c : Thread nD τ).loc main_arg4)) (y 0).val (y 1).val := by
  obtain ⟨ht, hc, e0, e1, e2, e3, e4, e5, e6, e7⟩ := idx t
  unfold iblk
  blk_simp [e6]
  refine get2_eq (m ((c : Thread nD τ).loc main_arg4)) _ _ _ ?_ ?_
  · blk_simp [e6] <;> simp
  · blk_simp [e6] <;> simp

/-- The next rows' block, switched off at the last tile, where the array has no next rows. -/
theorem w2_eq (c : Dev nD) (t : Fin cfg0.N) (y : S32x1024.Idx) :
    (if (grid0.coords t 0).val < 15 then iblk m c 2 t y else 0 : EReal) = get2 (m ((c : Thread nD τ).loc main_arg1)) (256 * t.val + (256 + (y 0).val)) (y 1).val := by
  obtain ⟨ht, hc, e0, e1, e2, e3, e4, e5, e6, e7⟩ := idx t
  rw [hc]
  by_cases h : t.val < 15
  · rw [if_pos h]
    unfold iblk
    blk_simp [e2]
    refine get2_eq (m ((c : Thread nD τ).loc main_arg1)) _ _ _ ?_ ?_
    · blk_simp [e2] <;> simp <;> omega
    · blk_simp [e2] <;> simp
  · rw [if_neg h]
    unfold get2
    rw [dif_neg (by omega)]

/-- The next rows' block, switched off at the last tile, where the array has no next rows. -/
theorem w4_eq (c : Dev nD) (t : Fin cfg0.N) (y : S32x1024.Idx) :
    (if (grid0.coords t 0).val < 15 then iblk m c 4 t y else 0 : EReal) = get2 (m ((c : Thread nD τ).loc main_arg2)) (256 * t.val + (256 + (y 0).val)) (y 1).val := by
  obtain ⟨ht, hc, e0, e1, e2, e3, e4, e5, e6, e7⟩ := idx t
  rw [hc]
  by_cases h : t.val < 15
  · rw [if_pos h]
    unfold iblk
    blk_simp [e4]
    refine get2_eq (m ((c : Thread nD τ).loc main_arg2)) _ _ _ ?_ ?_
    · blk_simp [e4] <;> simp <;> omega
    · blk_simp [e4] <;> simp
  · rw [if_neg h]
    unfold get2
    rw [dif_neg (by omega)]

theorem final (c : Dev nD) : (dats m 0 c).arrAt 7 cfg0.N = fun y : S4x4096x1792.Idx => res m c (y 1).val (1792 * (y 0).val + (y 2).val) := by
  refine (dats m 0 c).arrAt_eq_of_covers 7 _ (by decide +kernel) fun t hf y => ?_
  blk_simp
  rw [after0_7]
  obtain ⟨ht, hc, e0, e1, e2, e3, e4, e5, e6, e7⟩ := idx t
  unfold outsAt0
  refine (block c (grid0.coords t) _ _ _ _ _ _ _ _ _ _ _ _ _ _ _ _ _ _ _ _ _ _ _ _ _ _ _ _ _ _ _
    (fun r => getP (m ((c : Thread nD τ).loc main_arg0)) (256 * t.val + r)) (fun r => get2 (m ((c : Thread nD τ).loc main_arg1)) (256 * t.val + r))
    (get2 (m ((c : Thread nD τ).loc main_arg4))) (fun r => eOf (get2 (m ((c : Thread nD τ).loc main_arg2))) (256 * t.val + r))
    (fun r => get2 (m ((c : Thread nD τ).loc main_arg2)) (256 * t.val + r)) (fun r => get2 (m ((c : Thread nD τ).loc main_arg3)) (256 * t.val + r))
    (w0_eq m c t) (w3_eq m c t) (w5_eq m c t) (w6_eq m c t) (w1_eq m c t) (hc ▸ ht) (w2_eq m c t) ?_ ?_ y).trans ?_
  · intro a b
    rw [hc]
    unfold eOf
    congr 1
    exact w3_eq m c t (ix2 a b)
  · intro a b
    have h := w4_eq m c t (ix2 a b)
    unfold eOf
    rw [h, hc]
    rfl
  · rw [bv_shift]
    unfold res
    rw [e7]
    have h0 := (y 0).isLt
    congr 1 <;> simp <;> omega

/-- The whole kernel: every place of its result. -/
theorem run (ρ : Dev nD → PrngReg) : (θ_run defs (onTc main) { mem := m, sem := fun _ => 0, prng := ρ }) fun r =>
    ∀ c : Dev nD, r.2.mem ((c : Thread nD τ).loc main_v0) = fun y : S4x4096x1792.Idx => res m c (y 1).val (1792 * (y 0).val + (y 2).val) :=
  (θ_run defs _ _).mono (fun _ h c => ((h c).1).trans (final m c)) (Value.run_blocks m ρ)

end Cert.KernelIdeal.Mix
end
-- ==== Proof.MixSums.lean ====
/- Arithmetic that the backward mixer's two forms differ by: the logistic function in two writings, a running sum from
   the end, the difference of two running sums as a short sum, and padded arrays read at an index. -/
module

public import Idealize.ShloMosaic.Lib.KernelVsHost
public import Idealize.ShloMosaic.Lib.Routing.OpsOne
public import proofs.«01_k».proof.Proof.MixTrip

@[expose] public section

set_option maxRecDepth 16384

noncomputable section

namespace Cert.KernelIdeal.Mix

open Idealize.ShloMosaic

/-- The logistic function through the exponential is the one through the hyperbolic tangent, on all extended reals. -/
theorem logistic_eq (x : EReal) : Ideal.div 1 (1 + Ideal.exp (-x)) = sg x := by
  unfold sg
  have hh : Ideal.ofBits .f32 0x3f000000#32 = ((1 / 2 : ℝ) : EReal) := by
    simp [Ideal.ofBits, Ideal.ieee, -EReal.coe_mul]; norm_num
  rw [hh]
  induction x with
  | bot =>
    rw [EReal.neg_bot, EReal.coe_mul_bot_of_pos (by norm_num)]
    show Ideal.div 1 (1 + ⊤) = ((1 / 2 : ℝ) : EReal) * (-1) + ((1 / 2 : ℝ) : EReal)
    rw [EReal.add_top_of_ne_bot (by decide), Ideal.div, if_neg (by decide), EReal.inv_top, mul_zero]
    rw [mul_neg, mul_one]
    norm_cast
    norm_num
  | top =>
    rw [EReal.neg_top, EReal.coe_mul_top_of_pos (by norm_num)]
    show Ideal.div 1 (1 + 0) = ((1 / 2 : ℝ) : EReal) * 1 + ((1 / 2 : ℝ) : EReal)
    rw [add_zero, Ideal.div, if_neg (by simp)]
    norm_cast
    norm_num
  | coe x =>
    have e0 : Real.exp (-x) = Real.exp (-(x / 2)) * Real.exp (-(x / 2)) := by rw [← Real.exp_add]; congr 1; ring
    have e1 : Real.exp (x / 2) * Real.exp (-(x / 2)) = 1 := by rw [← Real.exp_add, add_neg_cancel, Real.exp_zero]
    have hp := Real.exp_pos (-x)
    have hq := Real.exp_pos (x / 2)
    have hr := Real.exp_pos (-(x / 2))
    rw [← EReal.coe_neg, ← EReal.coe_mul]
    show Ideal.div 1 (1 + (Real.exp (-x) : EReal)) = ((1 / 2 : ℝ) : EReal) * (Real.tanh (1 / 2 * x) : EReal) + ((1 / 2 : ℝ) : EReal)
    have h1 : (1 : EReal) + (Real.exp (-x) : EReal) = ((1 + Real.exp (-x) : ℝ) : EReal) := by rw [EReal.coe_add]; rfl
    have h2 : ((1 + Real.exp (-x) : ℝ) : EReal) ≠ 0 := by
      rw [Ne, EReal.coe_eq_zero]; positivity
    rw [h1, Ideal.div, if_neg h2, one_mul, ← EReal.coe_inv, ← EReal.coe_mul, ← EReal.coe_add, EReal.coe_eq_coe_iff]
    rw [Real.tanh_eq_sinh_div_cosh, Real.sinh_eq, Real.cosh_eq, show 1 / 2 * x = x / 2 by ring, e0]
    have : Real.exp (x / 2) + Real.exp (-(x / 2)) ≠ 0 := by positivity
    have : 1 + Real.exp (-(x / 2)) * Real.exp (-(x / 2)) ≠ 0 := by positivity
    field_simp
    nlinarith

/-- A matrix's running sum from the last row up, as a sum over the rows from `j` on. -/
theorem revsum {R Rm1 C : ℕ} (hR : Rm1 + 1 = R) (x : (⟨2, ![R, C]⟩ : Shape).Idx → EReal) (f : ℕ → ℕ → EReal)
    (hx : ∀ (i : Fin R) (c : Fin C), x (ix2 i c) = f i.val c.val) (hf : ∀ i c, R ≤ i → f i c = 0)
    (h : (⟨2, ![R, C]⟩ : Shape).ReduceWindows (![R, 1] : Fin 2 → ℕ) ![1, 1] ![0, 0] ![Rm1, 0] ⟨2, ![R, C]⟩) (j : Fin R) (c : Fin C) :
    Ideal.hostReduceWindowAdd (![R, 1] : Fin 2 → ℕ) ![1, 1] ![0, 0] ![Rm1, 0] h x 0 (ix2 j c) = ∑ w ∈ Finset.range R, f (j.val + w) c.val := by
  have hj := j.isLt
  have hc := c.isLt
  unfold Ideal.hostReduceWindowAdd Host.reduceWindow
  have key : ∀ (g : EReal → Fin (⟨2, ![R, 1]⟩ : Shape).numel → EReal) (_ : ∀ r n, g r n = r + f (j.val + n.val) c.val)
      (l : List (Fin (⟨2, ![R, 1]⟩ : Shape).numel)) (v : EReal), l.foldl g v = v + (l.map fun n => f (j.val + n.val) c.val).sum := by
    intro g hg l
    induction l with
    | nil => intro v; simp
    | cons n l ih => intro v; rw [List.foldl_cons, ih, List.map_cons, List.sum_cons, ← add_assoc, hg]
  refine (key _ (fun r n => ?_) (List.finRange _) _).trans ?_
  · dsimp only
    congr 1
    have hw0 : ((⟨2, ![R, 1]⟩ : Shape).rowMajor.symm n 0).val = n.val := by
      have := Routing.symm_col (R := R) n
      exact congrArg (fun i : (⟨2, ![R, 1]⟩ : Shape).Idx => (i 0).val) this
    have hw1 : ((⟨2, ![R, 1]⟩ : Shape).rowMajor.symm n 1).val = 0 := by
      have := Routing.symm_col (R := R) n
      exact congrArg (fun i : (⟨2, ![R, 1]⟩ : Shape).Idx => (i 1).val) this
    by_cases hin : j.val + n.val < R
    · rw [dif_pos (fun a => by
        match a with
        | ⟨0, _⟩ =>
          show 0 ≤ _ ∧ j.val * 1 + ((⟨2, ![R, 1]⟩ : Shape).rowMajor.symm n 0).val - 0 < R
          rw [hw0]; omega
        | ⟨1, _⟩ =>
          show 0 ≤ _ ∧ c.val * 1 + ((⟨2, ![R, 1]⟩ : Shape).rowMajor.symm n 1).val - 0 < C
          rw [hw1]; omega)]
      refine (congrArg x (funext fun a => Fin.ext ?_)).trans (hx ⟨j.val + n.val, hin⟩ c)
      match a with
      | ⟨0, _⟩ =>
        show j.val * 1 + ((⟨2, ![R, 1]⟩ : Shape).rowMajor.symm n 0).val - 0 = j.val + n.val
        rw [hw0]; omega
      | ⟨1, _⟩ =>
        show c.val * 1 + ((⟨2, ![R, 1]⟩ : Shape).rowMajor.symm n 1).val - 0 = c.val
        rw [hw1]; omega
    · rw [hf _ _ (by omega), dif_neg]
      intro ha
      have h0 := (ha 0).2
      change j.val * 1 + ((⟨2, ![R, 1]⟩ : Shape).rowMajor.symm n 0).val - 0 < R at h0
      rw [hw0] at h0
      omega
  dsimp only
  rw [zero_add, ← List.ofFn_eq_map, List.sum_ofFn, Fin.sum_univ_eq_sum_range (fun w => f (j.val + w) c.val)]
  rw [Routing.numel_col R]

/-- The sum of reals, read among the extended reals. -/
theorem coe_sum (g : ℕ → ℝ) (n : ℕ) : ((∑ w ∈ Finset.range n, g w : ℝ) : EReal) = ∑ w ∈ Finset.range n, (g w : EReal) := by
  induction n with
  | zero => simp
  | succ n ih => rw [Finset.sum_range_succ, Finset.sum_range_succ, EReal.coe_add, ih]

/-- Of a sequence that ends before place `R`, the differences at distance `k` sum to its next `k` members. -/
theorem telescope (e : ℕ → ℝ) (R k j : ℕ) (he : ∀ n, R ≤ n → e n = 0) :
    ∑ w ∈ Finset.range R, (e (j + w) - e (j + w + k)) = ∑ d ∈ Finset.range k, e (j + d) := by
  rw [Finset.sum_sub_distrib]
  have h1 : ∑ w ∈ Finset.range (k + R), e (j + w) = ∑ d ∈ Finset.range k, e (j + d) + ∑ w ∈ Finset.range R, e (j + w + k) := by
    rw [Finset.sum_range_add]
    congr 1
    exact Finset.sum_congr rfl fun w _ => by congr 1; omega
  have h2 : ∑ w ∈ Finset.range (R + k), e (j + w) = ∑ w ∈ Finset.range R, e (j + w) := by
    rw [Finset.sum_range_add, Finset.sum_eq_zero (s := Finset.range k), add_zero]
    exact fun d _ => he _ (by omega)
  rw [add_comm k R, h2] at h1
  rw [h1]; ring

/-- A padded matrix at an index inside the matrix. -/
theorem pad2_in {R C T W lo0 lo1 hi0 hi1 : ℕ} (x : (⟨2, ![R, C]⟩ : Shape).Idx → EReal) {u : Shape} (v : u.Idx → EReal)
    (h : (⟨2, ![R, C]⟩ : Shape).Pads (![lo0, lo1] : Fin 2 → ℕ) ![hi0, hi1] ![0, 0] ⟨2, ![T, W]⟩) (hu : 0 < u.numel) (j : (⟨2, ![T, W]⟩ : Shape).Idx)
    (a b : ℕ) (h0 : (j 0).val = lo0 + a) (h1 : (j 1).val = lo1 + b) (ha : a < R) (hb : b < C) :
    pad ⟨2, ![T, W]⟩ (![lo0, lo1] : Fin 2 → ℕ) ![hi0, hi1] ![0, 0] x v h hu j = x (ix2 ⟨a, ha⟩ ⟨b, hb⟩) := by
  refine pad_apply_of_inside _ _ _ _ _ _ _ _ _ fun k => ?_
  match k with
  | ⟨0, _⟩ => show (j 0).val = lo0 + a * (0 + 1); omega
  | ⟨1, _⟩ => show (j 1).val = lo1 + b * (0 + 1); omega

/-- … and at an index outside it. -/
theorem pad2_out {R C T W lo0 lo1 hi0 hi1 : ℕ} (x : (⟨2, ![R, C]⟩ : Shape).Idx → EReal) {u : Shape} (v : u.Idx → EReal)
    (h : (⟨2, ![R, C]⟩ : Shape).Pads (![lo0, lo1] : Fin 2 → ℕ) ![hi0, hi1] ![0, 0] ⟨2, ![T, W]⟩) (hu : 0 < u.numel) (j : (⟨2, ![T, W]⟩ : Shape).Idx)
    (hin : ((j 0).val < lo0 ∨ lo0 + R ≤ (j 0).val) ∨ ((j 1).val < lo1 ∨ lo1 + C ≤ (j 1).val)) :
    pad ⟨2, ![T, W]⟩ (![lo0, lo1] : Fin 2 → ℕ) ![hi0, hi1] ![0, 0] x v h hu j = v (Shape.Idx.first hu) := by
  rcases hin with hin | hin
  · refine pad_apply_of_not_inside _ _ _ _ _ _ _ _ (0 : Fin 2) ?_
    rintro ⟨a1, a2, a3⟩
    change lo0 ≤ (j 0).val at a1
    change ((j 0).val - lo0) / (0 + 1) < R at a3
    rw [Nat.div_one] at a3
    omega
  · refine pad_apply_of_not_inside _ _ _ _ _ _ _ _ (1 : Fin 2) ?_
    rintro ⟨a1, a2, a3⟩
    change lo1 ≤ (j 1).val at a1
    change ((j 1).val - lo1) / (0 + 1) < C at a3
    rw [Nat.div_one] at a3
    omega

/-- One layer put into a stack of layers of zeros, at an index. -/
theorem pad3_apply {A R C lo hi : ℕ} (x : (⟨3, ![1, R, C]⟩ : Shape).Idx → EReal) {u : Shape} (v : u.Idx → EReal)
    (h : (⟨3, ![1, R, C]⟩ : Shape).Pads (![lo, 0, 0] : Fin 3 → ℕ) ![hi, 0, 0] ![0, 0, 0] ⟨3, ![A, R, C]⟩) (hu : 0 < u.numel) (j : (⟨3, ![A, R, C]⟩ : Shape).Idx) :
    pad ⟨3, ![A, R, C]⟩ (![lo, 0, 0] : Fin 3 → ℕ) ![hi, 0, 0] ![0, 0, 0] x v h hu j
      = if (j 0).val = lo then x (ix3 (0 : Fin 1) (j 1) (j 2)) else v (Shape.Idx.first hu) := by
  split
  · next hin =>
    refine pad_apply_of_inside _ _ _ _ _ _ _ _ _ fun a => ?_
    match a with
    | ⟨0, _⟩ => show (j 0).val = lo + 0 * (0 + 1); omega
    | ⟨1, _⟩ => show (j 1).val = 0 + (j 1).val * (0 + 1); omega
    | ⟨2, _⟩ => show (j 2).val = 0 + (j 2).val * (0 + 1); omega
  · next hin =>
    refine pad_apply_of_not_inside _ _ _ _ _ _ _ _ (0 : Fin 3) ?_
    rintro ⟨a1, a2, a3⟩
    change lo ≤ (j 0).val at a1
    change ((j 0).val - lo) / (0 + 1) < 1 at a3
    rw [Nat.div_one] at a3
    omega

end Cert.KernelIdeal.Mix
end
-- ==== Proof.MixRef.lean ====
/- What the reference of the backward mixer computes, at an index of its result. -/
module

public import proofs.«01_k».proof.Proof.MixSums
public import proofs.«01_k».proof.Proof.MixArray
public import proofs.«01_k».proof.Proof.Gen.ReferenceIdeal.Read
public import proofs.«01_k».proof.Proof.Gen.ReferenceIdeal

@[expose] public section

set_option maxRecDepth 16384

noncomputable section

namespace Cert.ReferenceIdeal.Mix

open Cert.ReferenceIdeal Cert.ReferenceIdeal.Gen Cert.ReferenceIdeal.Read Cert.KernelIdeal.Mix Idealize.ShloMosaic Facts

variable (x0 : FVec Ideal S4x4096x1792 .bf16) (x1 : FVec Ideal S4096x1024 .f32) (x2 : FVec Ideal S4096x1024 .bf16)
  (x3 : FVec Ideal S4096x4096 .bf16) (x4 : FVec Ideal S32x1024 .f32)

/-! ## The convolution's transpose -/

/-- Tap `q` of the transposed convolution: the cotangent times the tap's weights, `q` rows down in a longer array. -/
def tap (q : ℕ) (h : q ≤ 30) : FVec Ideal S4126x1024 .f32 :=
  pad S4126x1024 ![q, 0] ![30 - q, 0] ![0, 0]
    (mulf (shapeCast _ x1 shapeCasts_S4096x1024_S4096x1024) (broadcastInDim S4096x1024 ![0, 1] bcast_S1x1024_S4096x1024_0_1
      (broadcastInDim S1x1024 ![1] bcast_S1024_S1x1024_1 (shapeCast S1024 (extractStridedSlice S1x1024 ![q, 0] x4
        ⟨rfl, fun a => by match a with
          | ⟨0, _⟩ => show q + 1 ≤ 32; omega
          | ⟨1, _⟩ => show 0 + 1024 ≤ 1024; omega⟩) shapeCasts_S1x1024_S1024))))
    (constant S_ .f32 0x00000000#32) ⟨rfl, fun a => by match a with
          | ⟨0, _⟩ => show 4126 = q + 4096 + 0 * (4096 - 1) + (30 - q); omega
          | ⟨1, _⟩ => rfl⟩ h_S_

/-- The sum of the last `n + 1` taps. -/
def taps : (n : ℕ) → n ≤ 30 → FVec Ideal S4126x1024 .f32
  | 0, _ => tap x1 x4 30 (le_refl _)
  | n + 1, h => addf (taps n (by omega)) (tap x1 x4 (30 - (n + 1)) (by omega))

theorem taps_eq : val_main_v488 (F := Ideal) x1 x4 = taps x1 x4 30 (le_refl _) := by
  sl_kernel_rfl

theorem tap_apply (q : ℕ) (h : q ≤ 30) (r l : ℕ) (hr : r < 4096) (hl : l < 1024) :
    tap x1 x4 q h (ix2 ⟨30 + r, by omega⟩ ⟨l, hl⟩) = get2 x4 q l * get2 x1 (r + (30 - q)) l := by
  unfold tap
  by_cases hin : 30 + r - q < 4096
  · refine (pad2_in _ _ _ _ _ (30 + r - q) l (by show 30 + r = _; omega) (by show l = _; omega) hin hl).trans ?_
    pointwise
    rw [mul_comm]
    exact congrArg₂ (· * ·) (get2_eq x4 _ q l rfl rfl) (get2_eq x1 _ _ l (show 30 + r - q = _ by omega) rfl)
  · refine (pad2_out _ _ _ _ _ (Or.inl (Or.inr (by show _ ≤ 30 + r; omega)))).trans ?_
    unfold get2
    rw [dif_neg (c := r + (30 - q) < 4096 ∧ l < 1024) (by omega), mul_zero]
    pointwise

theorem conv_apply (r l : ℕ) (hr : r < 4096) (hl : l < 1024) :
    val_main_v490 (F := Ideal) x1 x4 (ix2 ⟨r, hr⟩ ⟨l, hl⟩) = conv (get2 x1) (get2 x4) r l := by
  rw [val_main_v490_apply, taps_eq, show idx_main_v490 (ix2 ⟨r, hr⟩ ⟨l, hl⟩) = ix2 ⟨30 + r, by omega⟩ ⟨l, hl⟩ from funext fun a => by
    match a with
    | ⟨0, _⟩ => rfl
    | ⟨1, _⟩ => rfl]
  have key : ∀ (n : ℕ) (hn : n ≤ 30), taps x1 x4 n hn (ix2 ⟨30 + r, by omega⟩ ⟨l, hl⟩)
      = ∑ p ∈ Finset.range (n + 1), get2 x4 (30 - p) l * get2 x1 (r + (30 - (30 - p))) l := by
    intro n
    induction n with
    | zero => intro _; rw [Finset.sum_range_one]; exact tap_apply x1 x4 30 _ r l hr hl
    | succ n ih =>
      intro hn
      rw [Finset.sum_range_succ, ← ih (by omega), ← tap_apply x1 x4 (30 - (n + 1)) (by omega) r l hr hl]
      rfl
  refine (key 30 _).trans ?_
  unfold conv
  rw [← Finset.sum_range_reflect]
  refine Finset.sum_congr rfl fun p hp => ?_
  rw [Finset.mem_range] at hp
  congr 2 <;> omega

/-! ## The pooling's transpose -/

/-- A pooling group's cotangent over its counts. -/
def grpE (X : FVec Ideal S4096x256 .f32) (N : FVec Ideal S4096x1 .f32) : FVec Ideal S4096x256 .f32 :=
  Host.divf X (broadcastInDim S4096x256 ![0, 1] bcast_S4096x1_S4096x256_0_1 N)

/-- A pooling group's cotangent, of window `4096 - T`. -/
def grp (k T : ℕ) (hs : S4096x256.Slices ![k, 0] ⟨2, ![T, 256]⟩) (hp : (⟨2, ![T, 256]⟩ : Shape).Pads ![0, 0] ![k, 0] ![0, 0] S4096x256)
    (X : FVec Ideal S4096x256 .f32) (N : FVec Ideal S4096x1 .f32) : FVec Ideal S4096x256 .f32 :=
  addf (Host.negf X) (Host.reduceWindowAdd ![4096, 1] ![1, 1] ![0, 0] ![4095, 0]
    (addf (grpE X N) (pad S4096x256 ![0, 0] ![k, 0] ![0, 0] (extractStridedSlice ⟨2, ![T, 256]⟩ ![k, 0] (Host.negf (grpE X N)) hs)
      (constant S_ .f32 0x00000000#32) hp h_S_))
    (broadcastInDim S_ ![] bcast_S_S_ (constant S_ .f32 0x00000000#32)) reduceWindows_S4096x256_S4096x256_w4096s1p0_4095_w1s1p0_0 h_S_)

theorem grp_apply (k T : ℕ) (hT : T + k = 4096) (hs : S4096x256.Slices ![k, 0] ⟨2, ![T, 256]⟩)
    (hp : (⟨2, ![T, 256]⟩ : Shape).Pads ![0, 0] ![k, 0] ![0, 0] S4096x256)
    (X : FVec Ideal S4096x256 .f32) (N : FVec Ideal S4096x1 .f32) (e : ℕ → ℕ → ℝ)
    (he : ∀ (r : Fin 4096) (l : Fin 256), Ideal.div (X (ix2 r l)) (N (ix2 r 0)) = (e r.val l.val : EReal)) (he0 : ∀ r l, 4096 ≤ r → e r l = 0)
    (r : Fin 4096) (l : Fin 256) :
    grp k T hs hp X N (ix2 r l) = -X (ix2 r l) + ∑ d ∈ Finset.range k, (e (r.val + d) l.val : EReal) := by
  have hE : ∀ (r : Fin 4096) (l : Fin 256), grpE X N (ix2 r l) = (e r.val l.val : EReal) := by
    intro r l
    unfold grpE
    pointwise
    exact he r l
  have hx : ∀ (r : Fin 4096) (l : Fin 256), (addf (grpE X N) (pad S4096x256 ![0, 0] ![k, 0] ![0, 0]
      (extractStridedSlice ⟨2, ![T, 256]⟩ ![k, 0] (Host.negf (grpE X N)) hs) (constant S_ .f32 0x00000000#32) hp h_S_) : FVec Ideal S4096x256 .f32) (ix2 r l)
      = ((e r.val l.val - e (r.val + k) l.val : ℝ) : EReal) := by
    intro r l
    have hr := r.isLt
    refine (congrArg (· + _) (hE r l)).trans ?_
    rw [sub_eq_add_neg, EReal.coe_add, EReal.coe_neg]
    refine congrArg (_ + ·) ?_
    by_cases h : r.val < T
    · refine (pad2_in _ _ _ _ _ r.val l.val (by show r.val = _; omega) (by show l.val = _; omega) h l.isLt).trans ?_
      refine (extractStridedSlice_apply _ _ _ _ (ix2 ⟨r.val + k, by omega⟩ l) fun a => ?_).trans ?_
      · match a with
        | ⟨0, _⟩ => show r.val + k = k + r.val; omega
        | ⟨1, _⟩ => show l.val = 0 + l.val; omega
      · exact congrArg Neg.neg (hE _ _)
    · refine (pad2_out _ _ _ _ _ (Or.inl (Or.inr (by show _ ≤ r.val; omega)))).trans ?_
      rw [he0 _ _ (by omega)]
      pointwise
      simp
  unfold grp
  refine congrArg₂ (· + ·) rfl ?_
  have h0 : (broadcastInDim S_ ![] bcast_S_S_ (constant S_ .f32 0x00000000#32 : FVec Ideal S_ .f32)) (Shape.Idx.first h_S_) = (0 : EReal) := by
    pointwise
  unfold Host.reduceWindowAdd
  rw [Ideal.hostReduceWindowAdd_def, h0]
  refine (revsum (by rfl) _ (fun r l => ((e r l - e (r + k) l : ℝ) : EReal)) hx ?_ _ r l).trans ?_
  · intro i c hi
    rw [he0 _ _ hi, he0 _ _ (by omega)]
    simp
  · rw [← coe_sum, ← coe_sum, telescope (fun n => e n l.val) 4096 k r.val fun n hn => he0 _ _ hn]

/-- The pooled cotangent over its count, a real number where the cotangent is one. -/
def er (r l : ℕ) : ℝ := (get2 x2 r l).toReal / (min (r + 1) (win l) : ℕ)

theorem er_eq (hfin : ∀ y, ∃ a : ℝ, x2 y = a) (r l : ℕ) : eOf (get2 x2) r l = (er x2 r l : EReal) := by
  have hw : 0 < win l := by unfold win; positivity
  have hc : (0 : ℝ) < (min (r + 1) (win l) : ℕ) := by
    have : 0 < min (r + 1) (win l) := by omega
    exact_mod_cast this
  have hx : get2 x2 r l = ((get2 x2 r l).toReal : EReal) := by
    unfold get2
    split
    · obtain ⟨a, ha⟩ := hfin (ix2 ⟨r, (by assumption : r < 4096 ∧ l < 1024).1⟩ ⟨l, (by assumption : r < 4096 ∧ l < 1024).2⟩)
      rw [ha, EReal.toReal_coe]
    · rw [EReal.toReal_zero]; rfl
  unfold eOf er cnt Ideal.div
  rw [if_neg (by rw [EReal.coe_eq_zero]; exact hc.ne'), div_eq_mul_inv, EReal.coe_mul, EReal.coe_inv, ← hx]

theorem er_out (r l : ℕ) (h : 4096 ≤ r) : er x2 r l = 0 := by
  unfold er get2
  rw [dif_neg (by omega), EReal.toReal_zero, zero_div]

/-- The window's step count, as the reference's words spell it. -/
theorem cnt_ref (r w : ℕ) (hr : r < 4096) (v : EReal) (hv : v = ((w : ℝ) : EReal)) :
    min (FloatOps.sitofp .f32 (IntOp.addi 1#32 (BitVec.ofNat 32 r)) : Ideal .f32) v = (((min (r + 1) w : ℕ) : ℝ) : EReal) := by
  have hx : (IntOp.addi 1#32 (BitVec.ofNat 32 r)).toNat = r + 1 := by
    simp only [IntOp.addi, BitVec.toNat_add, BitVec.toNat_ofNat]
    omega
  have h1 : (FloatOps.sitofp .f32 (IntOp.addi 1#32 (BitVec.ofNat 32 r)) : Ideal .f32) = (((r + 1 : ℕ) : ℝ) : EReal) := by
    show (((_ : BitVec 32).toInt : ℝ) : EReal) = _
    rw [BitVec.toInt_eq_toNat_of_lt (by rw [hx]; omega), hx]
    norm_cast
  rw [h1, hv, Nat.cast_min]
  exact (EReal.coe_strictMono.monotone.map_min).symm

/-- A pooling group's cotangent as the short sum of its counts' quotients. -/
theorem grp_main (hfin : ∀ y, ∃ a : ℝ, x2 y = a) (g k T : ℕ) (hT : T + k = 4096) (hs : S4096x256.Slices ![k, 0] ⟨2, ![T, 256]⟩)
    (hp : (⟨2, ![T, 256]⟩ : Shape).Pads ![0, 0] ![k, 0] ![0, 0] S4096x256) (X : FVec Ideal S4096x256 .f32) (N : FVec Ideal S4096x1 .f32)
    (hX : ∀ (r : Fin 4096) (l : Fin 256), X (ix2 r l) = get2 x2 r.val (256 * g + l.val))
    (hN : ∀ r : Fin 4096, N (ix2 r 0) = (((min (r.val + 1) k : ℕ) : ℝ) : EReal)) (hk : k = 2 ^ (g + 1)) (r : Fin 4096) (l : Fin 256) :
    grp k T hs hp X N (ix2 r l) = pool (eOf (get2 x2)) r.val (256 * g + l.val) - get2 x2 r.val (256 * g + l.val) := by
  have hw : ∀ l : Fin 256, win (256 * g + l.val) = k := by
    intro l
    have := l.isLt
    unfold win
    rw [hk, show (256 * g + l.val) / 256 = g by omega]
  rw [grp_apply k T hT hs hp X N (fun r l => er x2 r (256 * g + l)) (fun r l => ?_) (fun r l h => er_out x2 _ _ h) r l, hX, add_comm, ← sub_eq_add_neg]
  · unfold KernelIdeal.Mix.pool
    rw [hw]
    congr 1
    exact Finset.sum_congr rfl fun d _ => (er_eq x2 hfin _ _).symm
  · rw [hX, hN, ← er_eq x2 hfin]
    unfold eOf cnt
    rw [hw]

/-- The whole pooled branch's cotangent. -/
theorem pool_apply (hfin : ∀ y, ∃ a : ℝ, x2 y = a) (r l : ℕ) (hr : r < 4096) (hl : l < 1024) :
    val_main_v361 (F := Ideal) x2 (ix2 ⟨r, hr⟩ ⟨l, hl⟩) = pool (eOf (get2 x2)) r l - get2 x2 r l := by
  have hg : ∀ (g : ℕ) (X : FVec Ideal S4096x256 .f32) (l' : ℕ) (hl' : l' < 256), 256 * g + l' = l →
      (∀ (r : Fin 4096) (l : Fin 256), X (ix2 r l) = pool (eOf (get2 x2)) r.val (256 * g + l.val) - get2 x2 r.val (256 * g + l.val)) →
      X (ix2 ⟨r, hr⟩ ⟨l', hl'⟩) = pool (eOf (get2 x2)) r l - get2 x2 r l := by
    intro g X l' hl' h hX
    rw [hX, ← h]
  have h0 : val_main_v360 (F := Ideal) x2 = grp 2 4094 slices_S4096x256_S4094x256_2_0 pads_S4094x256_S4096x256_020_000 (val_main_v317 (F := Ideal) x2) (val_main_v260 (F := Ideal)) := by
    sl_kernel_rfl
  have h1 : val_main_v350 (F := Ideal) x2 = grp 4 4092 slices_S4096x256_S4092x256_4_0 pads_S4092x256_S4096x256_040_000 (val_main_v318 (F := Ideal) x2) (val_main_v276 (F := Ideal)) := by
    sl_kernel_rfl
  have h2 : val_main_v340 (F := Ideal) x2 = grp 8 4088 slices_S4096x256_S4088x256_8_0 pads_S4088x256_S4096x256_080_000 (val_main_v319 (F := Ideal) x2) (val_main_v292 (F := Ideal)) := by
    sl_kernel_rfl
  have h3 : val_main_v330 (F := Ideal) x2 = grp 16 4080 slices_S4096x256_S4080x256_16_0 pads_S4080x256_S4096x256_0160_000 (val_main_v320 (F := Ideal) x2) (val_main_v308 (F := Ideal)) := by
    sl_kernel_rfl
  pointwise [val_main_v361]
  by_cases a0 : l < 256
  · rw [dif_pos a0]
    refine hg 0 _ _ _ (by omega) fun r l => ?_
    rw [h0]
    refine grp_main x2 hfin 0 2 4094 rfl _ _ _ _ (fun r l => ?_) (fun r => ?_) rfl r l
    · pointwise [val_main_v317, val_main_v314]
      exact get2_eq x2 _ _ _ rfl (by show l.val = _; omega)
    · pointwise [val_main_v260, val_main_v258, val_main_v257, val_main_v256, val_main_v255, val_main_v254, val_main_v253, val_main_c, val_main_cst_7]
      exact cnt_ref _ 2 r.isLt _ (by simp [Ideal.ofBits, Ideal.ieee, -EReal.coe_mul]; norm_num)
  rw [dif_neg a0]
  by_cases a1 : l - 256 < 256
  · rw [dif_pos a1]
    refine hg 1 _ _ _ (by omega) fun r l => ?_
    rw [h1]
    refine grp_main x2 hfin 1 4 4092 rfl _ _ _ _ (fun r l => ?_) (fun r => ?_) rfl r l
    · pointwise [val_main_v318, val_main_v314]
      exact get2_eq x2 _ _ _ rfl rfl
    · pointwise [val_main_v276, val_main_v274, val_main_v273, val_main_v272, val_main_v271, val_main_v270, val_main_v269, val_main_c_10, val_main_cst_11]
      exact cnt_ref _ 4 r.isLt _ (by simp [Ideal.ofBits, Ideal.ieee, -EReal.coe_mul]; norm_num)
  rw [dif_neg a1]
  by_cases a2 : l - 256 - 256 < 256
  · rw [dif_pos a2]
    refine hg 2 _ _ _ (by omega) fun r l => ?_
    rw [h2]
    refine grp_main x2 hfin 2 8 4088 rfl _ _ _ _ (fun r l => ?_) (fun r => ?_) rfl r l
    · pointwise [val_main_v319, val_main_v314]
      exact get2_eq x2 _ _ _ rfl rfl
    · pointwise [val_main_v292, val_main_v290, val_main_v289, val_main_v288, val_main_v287, val_main_v286, val_main_v285, val_main_c_14, val_main_cst_15]
      exact cnt_ref _ 8 r.isLt _ (by simp [Ideal.ofBits, Ideal.ieee, -EReal.coe_mul]; norm_num)
  · rw [dif_neg a2]
    refine hg 3 _ _ _ (by omega) fun r l => ?_
    rw [h3]
    refine grp_main x2 hfin 3 16 4080 rfl _ _ _ _ (fun r l => ?_) (fun r => ?_) rfl r l
    · pointwise [val_main_v320, val_main_v314]
      exact get2_eq x2 _ _ _ rfl rfl
    · pointwise [val_main_v308, val_main_v306, val_main_v305, val_main_v304, val_main_v303, val_main_v302, val_main_v301, val_main_c_18, val_main_cst_19]
      exact cnt_ref _ 16 r.isLt _ (by simp [Ideal.ofBits, Ideal.ieee, -EReal.coe_mul]; norm_num)

theorem v9_apply (r j : ℕ) (hr : r < 4096) (hj : j < 7168) : val_main_v9 (F := Ideal) x0 (ix2 ⟨r, hr⟩ ⟨j, hj⟩) = getP x0 r j := by
  pointwise [val_main_v9, val_main_v8, val_main_v7, val_main_v6, val_main_v5, val_main_v4, val_main_v3, val_main_v2, val_main_v1, val_main_v0]
  split_ifs
  all_goals exact getP_eq x0 _ _ _ rfl (by simp <;> omega)

/-- The reference's result before it is laid out by chip. -/
theorem v497_apply (hfin : ∀ y, ∃ a : ℝ, x2 y = a) (r j : ℕ) (hr : r < 4096) (hj : j < 7168) :
    val_main_v497 (F := Ideal) x0 x1 x2 x3 x4 (ix2 ⟨r, hr⟩ ⟨j, hj⟩) = bv (getP x0) (get2 x1) (get2 x4) (eOf (get2 x2)) (get2 x2) (get2 x3) r j := by
  rw [val_main_v497_apply, val_main_v495_apply, val_main_v363_apply]
  unfold val_main_v316 val_main_v362 val_main_v494 val_main_v496 bv
  split_ifs
  · refine (congrArg₂ (· + ·) (congrArg₂ (· + ·) (congrArg₂ (· + ·) (pad2_out _ _ _ _ _ (Or.inr (by show j < 3072 ∨ 3072 + 4096 ≤ j; omega)))
      (pad2_out _ _ _ _ _ (Or.inr (by show j < 2048 ∨ 2048 + 1024 ≤ j; omega)))) (pad2_out _ _ _ _ _ (Or.inr (by show j < 1024 ∨ 1024 + 1024 ≤ j; omega))))
      (pad2_in _ _ _ _ _ r j (by show r = 0 + r; omega) (by show j = 0 + j; omega) hr (by omega))).trans ?_
    pointwise [val_main_v492, val_main_v17, val_main_v16, val_main_v15, val_main_v14, val_main_v13, val_main_v12, val_main_v11, val_main_cst, val_main_cst_0, val_main_cst_20, val_main_cst_25, val_main_cst_57]
    rw [conv_apply, v9_apply, logistic_eq]
  · refine (congrArg₂ (· + ·) (congrArg₂ (· + ·) (congrArg₂ (· + ·) (pad2_out _ _ _ _ _ (Or.inr (by show j < 3072 ∨ 3072 + 4096 ≤ j; omega)))
      (pad2_out _ _ _ _ _ (Or.inr (by show j < 2048 ∨ 2048 + 1024 ≤ j; omega)))) (pad2_in _ _ _ _ _ r (j - 1024) (by show r = 0 + r; omega) (by show j = 1024 + _; omega) hr (by omega)))
      (pad2_out _ _ _ _ _ (Or.inr (by show j < 0 ∨ 0 + 1024 ≤ j; omega)))).trans ?_
    pointwise [val_main_v493, val_main_v491, val_main_v10, val_main_v20, val_main_v19, val_main_v18, val_main_v17, val_main_v16, val_main_v15, val_main_v14, val_main_v13, val_main_v12, val_main_v11, val_main_cst, val_main_cst_0, val_main_cst_1, val_main_cst_20, val_main_cst_25, val_main_cst_58]
    rw [conv_apply, v9_apply, v9_apply, logistic_eq, show 1024 + (j - 1024) = j by omega, mul_comm (getP x0 r (j - 1024)), mul_assoc _ (sg _)]
  · refine (congrArg₂ (· + ·) (congrArg₂ (· + ·) (congrArg₂ (· + ·) (pad2_out _ _ _ _ _ (Or.inr (by show j < 3072 ∨ 3072 + 4096 ≤ j; omega)))
      (pad2_in _ _ _ _ _ r (j - 2048) (by show r = 0 + r; omega) (by show j = 2048 + _; omega) hr (by omega))) (pad2_out _ _ _ _ _ (Or.inr (by show j < 1024 ∨ 1024 + 1024 ≤ j; omega))))
      (pad2_out _ _ _ _ _ (Or.inr (by show j < 0 ∨ 0 + 1024 ≤ j; omega)))).trans ?_
    pointwise [val_main_cst_20, val_main_cst_57, val_main_cst_58]
    exact pool_apply x2 hfin r (j - 2048) hr _
  · refine (congrArg₂ (· + ·) (congrArg₂ (· + ·) (congrArg₂ (· + ·) (pad2_in _ _ _ _ _ r (j - 3072) (by show r = 0 + r; omega) (by show j = 3072 + _; omega) hr (by omega))
      (pad2_out _ _ _ _ _ (Or.inr (by show j < 2048 ∨ 2048 + 1024 ≤ j; omega)))) (pad2_out _ _ _ _ _ (Or.inr (by show j < 1024 ∨ 1024 + 1024 ≤ j; omega))))
      (pad2_out _ _ _ _ _ (Or.inr (by show j < 0 ∨ 0 + 1024 ≤ j; omega)))).trans ?_
    pointwise [val_main_v315, val_main_cst_25, val_main_cst_57, val_main_cst_58]
    exact get2_eq x3 _ _ _ rfl rfl

/-- The reference's result at an index. -/
theorem ref_apply (hfin : ∀ y, ∃ a : ℝ, x2 y = a) (y : S4x4096x1792.Idx) :
    val_main_v513 (F := Ideal) x0 x1 x2 x3 x4 y
      = bv (getP x0) (get2 x1) (get2 x4) (eOf (get2 x2)) (get2 x2) (get2 x3) (y 1).val (1792 * (y 0).val + (y 2).val) := by
  idx_vars y
  have h0 := y0.isLt
  have h1 := y1.isLt
  have h2 := y2.isLt
  rw [val_main_v513_apply, val_main_v512_apply, val_main_v509_apply, val_main_v506_apply]
  unfold val_main_v503 val_main_v505 val_main_v508 val_main_v511
  refine (congrArg₂ (· + ·) (congrArg₂ (· + ·) (congrArg₂ (· + ·) (pad3_apply _ _ _ _ _) (pad3_apply _ _ _ _ _)) (pad3_apply _ _ _ _ _)) (pad3_apply _ _ _ _ _)).trans ?_
  pointwise [val_main_v502, val_main_v501, val_main_v504, val_main_v500, val_main_v507, val_main_v499, val_main_v510, val_main_v498, val_main_cst_59, val_main_cst_60, val_main_cst_61, val_main_cst_62]
  have key : ∀ k : Fin 4, y0 = k → ∀ j (hj : j < 7168), j = 1792 * k.val + y2.val →
      val_main_v497 (F := Ideal) x0 x1 x2 x3 x4 (ix2 y1 ⟨j, hj⟩) = bv (getP x0) (get2 x1) (get2 x4) (eOf (get2 x2)) (get2 x2) (get2 x3) y1.val (1792 * y0.val + y2.val) := by
    rintro k rfl j hj rfl
    exact v497_apply x0 x1 x2 x3 x4 hfin y1.val _ y1.isLt hj
  match y0, key with
  | 0, key => simpa using key 0 rfl y2.val (by omega) (by simp)
  | 1, key => simpa using key 1 rfl (1792 + y2.val) (by omega) (by simp)
  | 2, key => simpa using key 2 rfl (3584 + y2.val) (by omega) (by simp)
  | 3, key => simpa using key 3 rfl (5376 + y2.val) (by omega) (by simp)

end Cert.ReferenceIdeal.Mix
end
-- ==== Proof.MixClaim.lean ====
/-
  The mixer's input gradient, put together: the kernel's array and the gradient of the plain forward computation
  are one array. The kernel's side is MixArray's `final`, the reference's side is MixRef's `ref_apply`; both end
  in the same function of the arguments. The reference's running sums telescope into the kernel's windows only
  when the incoming gradient is finite, which is what the precondition gives.
-/
module

public import proofs.«01_k».proof.Defs
public import proofs.«01_k».proof.Proof.MixArray
public import proofs.«01_k».proof.Proof.MixRef
public import proofs.«01_k».proof.Proof.Gen.KernelIdeal.Value
public import proofs.«01_k».proof.Proof.Gen.ReferenceIdeal.Run
public import proofs.«01_k».proof.Proof.Gen.ReferenceIdeal.Read

@[expose] public section

noncomputable section

namespace Cert.Mix

open Idealize.ShloMosaic Idealize.ShloMosaic.TcCoe Idealize.SL.Sem

/-- The shape relations the precondition's text takes. -/
theorem preFacts : Cert.Pre_dmixed_finite.Facts := ⟨by decide, by decide⟩

/-- The word the precondition compares with is infinity. -/
theorem inf_word : Ideal.ofBits .f32 0x7F800000#32 = (⊤ : EReal) := by
  simp [Ideal.ofBits, Ideal.ieee]

/-- A value whose magnitude lies below infinity is a real number. -/
theorem real_of_abs_lt (x : EReal) (h : max x (-x) < ⊤) : ∃ a : ℝ, x = (a : EReal) := by
  induction x with
  | coe a => exact ⟨a, rfl⟩
  | bot => simp at h
  | top => simp at h

/-- An array the precondition accepts holds real numbers only. -/
theorem real_of_pre [Cert.Pre_dmixed_finite.Facts] (a0 a1 a2 a3 a4)
    (h : Cert.Pre_dmixed_finite.fn (F := Ideal) a0 a1 a2 a3 a4 = fun _ => 1#1) (y) : ∃ a : ℝ, a2 y = (a : EReal) := by
  have e := congrFun h y
  have b : ∀ p : Bool, BitVec.ofBool p = 1#1 → p = true := by decide
  have k : Ideal.cmp .olt (max (a2 y) (-(a2 y))) (Ideal.ofBits .f32 0x7F800000#32) = 1#1 := e
  rw [inf_word] at k
  exact real_of_abs_lt _ (of_decide_eq_true (b _ k))

/-- The claim: under the precondition both programs end with one array on every device. -/
theorem mix [Cert.Pre_dmixed_finite.Facts] : @Cert.algebraic_KernelIdeal_ReferenceIdeal_pre_dmixed_finite Cert.KernelIdeal.Gen.facts Cert.ReferenceIdeal.Gen.facts _ := by
  intro m g m' g' hpre hargs
  refine ⟨fun c => fun y : Cert.KernelIdeal.S4x4096x1792.Idx => Cert.KernelIdeal.Mix.res m c (y 1).val (1792 * (y 0).val + (y 2).val), ?_, ?_⟩
  · refine (θ_run _ _ _).mono (fun r h c => ?_) (Cert.KernelIdeal.Value.run_blocks m g)
    obtain ⟨h0, hk⟩ := h c
    exact ⟨h0.trans (Cert.KernelIdeal.Mix.final m c), hk⟩
  · refine (θ_run _ _ _).mono (fun r h c => ?_) (Cert.ReferenceIdeal.Value.run m' g')
    obtain ⟨h0, hk⟩ := h c
    refine ⟨(h0.trans (Cert.ReferenceIdeal.Read.val_main_v513_eq (StableHlo.launchContents m' c))).trans ?_, hk⟩
    obtain ⟨e0, e1, e2, e3, e4⟩ := hargs c
    change Cert.ReferenceIdeal.Read.val_main_v513 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4)) = _
    rw [e0, e1, e2, e3, e4]
    exact funext fun y => Cert.ReferenceIdeal.Mix.ref_apply _ _ _ _ _ (real_of_pre _ _ _ _ _ (hpre c)) y

end Cert.Mix
end
-- ==== Proof.Products.lean ====
/-
  Matrix products read at numbers. An array's element at a row and a column given as numbers (zero outside the
  array), and a product of two matrices, contracted on both first axes or on both last axes, as a sum of such
  elements over the numbers below the contracted size. Written so, a sum over a long axis splits into the sums
  over its blocks by `Finset.sum_range_add`, which is all the accumulation over grid points needs.
-/
module

public import Idealize.ShloMosaic.Lib.Pipeline.ValueKit.Point
public import Idealize.ShloMosaic.Lib.ValueIdxCore

@[expose] public section

noncomputable section

namespace Cert.Products

open Idealize.ShloMosaic Idealize.ShloMosaic.TcCoe

/-- An array of two axes read at numbers, zero outside. -/
def get2 {a b : ℕ} (X : (⟨2, ![a, b]⟩ : Shape).Idx → EReal) (r l : ℕ) : EReal :=
  if h : r < a ∧ l < b then X (ix2 ⟨r, h.1⟩ ⟨l, h.2⟩) else 0

/-- An array of three axes read at numbers, zero outside. -/
def get3 {a b c : ℕ} (X : (⟨3, ![a, b, c]⟩ : Shape).Idx → EReal) (p r l : ℕ) : EReal :=
  if h : p < a ∧ r < b ∧ l < c then X (ix3 ⟨p, h.1⟩ ⟨r, h.2.1⟩ ⟨l, h.2.2⟩) else 0

theorem get2_eq {a b : ℕ} (X : (⟨2, ![a, b]⟩ : Shape).Idx → EReal) (y : (⟨2, ![a, b]⟩ : Shape).Idx) (r l : ℕ) (hr : (y 0).val = r) (hl : (y 1).val = l) :
    X y = get2 X r l := by
  subst hr hl
  have h0 : (y 0).val < a := (y 0).isLt
  have h1 : (y 1).val < b := (y 1).isLt
  unfold get2
  rw [dif_pos ⟨h0, h1⟩]
  congr 1
  funext k
  match k with
  | 0 => rfl
  | 1 => rfl

theorem get3_eq {a b c : ℕ} (X : (⟨3, ![a, b, c]⟩ : Shape).Idx → EReal) (y : (⟨3, ![a, b, c]⟩ : Shape).Idx) (p r l : ℕ) (hp : (y 0).val = p) (hr : (y 1).val = r)
    (hl : (y 2).val = l) : X y = get3 X p r l := by
  subst hp hr hl
  have h0 : (y 0).val < a := (y 0).isLt
  have h1 : (y 1).val < b := (y 1).isLt
  have h2 : (y 2).val < c := (y 2).isLt
  unfold get3
  rw [dif_pos ⟨h0, h1, h2⟩]
  congr 1
  funext k
  match k with
  | 0 => rfl
  | 1 => rfl
  | 2 => rfl

/-- A block given element by element, read at numbers inside it. -/
theorem get2_of {a b : ℕ} (X : (⟨2, ![a, b]⟩ : Shape).Idx → EReal) (G : ℕ → ℕ → EReal) (h : ∀ y, X y = G (y 0).val (y 1).val) {r l : ℕ} (hr : r < a) (hl : l < b) :
    get2 X r l = G r l := by
  unfold get2
  rw [dif_pos ⟨hr, hl⟩, h]
  rfl

theorem get3_of {a b c : ℕ} (X : (⟨3, ![a, b, c]⟩ : Shape).Idx → EReal) (G : ℕ → ℕ → ℕ → EReal) (h : ∀ y, X y = G (y 0).val (y 1).val (y 2).val) {p r l : ℕ}
    (hp : p < a) (hr : r < b) (hl : l < c) : get3 X p r l = G p r l := by
  unfold get3
  rw [dif_pos ⟨hp, hr, hl⟩, h]
  rfl

/-- A matrix stored with a leading axis of one entry. -/
theorem get2_shapeCast {b c : ℕ} (X : (⟨3, ![1, b, c]⟩ : Shape).Idx → EReal) (h : (⟨3, ![1, b, c]⟩ : Shape).ShapeCasts ⟨2, ![b, c]⟩) (r l : ℕ) :
    get2 (shapeCast (⟨2, ![b, c]⟩ : Shape) X h) r l = get3 X 0 r l := by
  unfold get2 get3
  by_cases hb : r < b ∧ l < c
  · rw [dif_pos hb, dif_pos ⟨Nat.one_pos, hb⟩]
    refine shapeCast_apply X h _ _ ?_
    rw [Shape.rowMajor_val_two, Shape.rowMajor_val_three]
    show (0 * b + r) * c + l = r * c + l
    rw [Nat.zero_mul, Nat.zero_add]
  · rw [dif_neg hb, dif_neg fun hn => hb hn.2]

/-- A matrix given a leading axis of one entry. -/
theorem shapeCast_lead {b c : ℕ} (X : (⟨2, ![b, c]⟩ : Shape).Idx → EReal) (h : (⟨2, ![b, c]⟩ : Shape).ShapeCasts ⟨3, ![1, b, c]⟩) (y : (⟨3, ![1, b, c]⟩ : Shape).Idx) :
    shapeCast (⟨3, ![1, b, c]⟩ : Shape) X h y = X (ix2 (y 1) (y 2)) := by
  refine shapeCast_apply X h _ _ ?_
  have y0 : (y 0).val < 1 := (y 0).isLt
  rw [Shape.rowMajor_val_two, Shape.rowMajor_val_three]
  show (y 1).val * c + (y 2).val = ((y 0).val * b + (y 1).val) * c + (y 2).val
  rw [show (y 0).val = 0 by omega, Nat.zero_mul, Nat.zero_add]

/-- Two matrices stacked along a new leading axis. -/
theorem stack_apply {b c : ℕ} (X Y : (⟨2, ![b, c]⟩ : Shape).Idx → EReal) (hb : (⟨2, ![b, c]⟩ : Shape).BroadcastsInDim ⟨3, ![1, b, c]⟩ ![1, 2])
    (h : Shape.Concatenates [(⟨3, ![1, b, c]⟩ : Shape), ⟨3, ![1, b, c]⟩] ⟨3, ![2, b, c]⟩ 0) (j : (⟨3, ![2, b, c]⟩ : Shape).Idx) :
    concatenate ⟨3, ![2, b, c]⟩ 0 [⟨(⟨3, ![1, b, c]⟩ : Shape), broadcastInDim ⟨3, ![1, b, c]⟩ ![1, 2] hb X⟩, ⟨⟨3, ![1, b, c]⟩, broadcastInDim ⟨3, ![1, b, c]⟩ ![1, 2] hb Y⟩] h j
      = if (j 0).val = 0 then X (ix2 (j 1) (j 2)) else Y (ix2 (j 1) (j 2)) := by
  have hB : ∀ Z : (⟨2, ![b, c]⟩ : Shape).Idx → EReal, broadcastInDim ⟨3, ![1, b, c]⟩ ![1, 2] hb Z (ix3 0 (j 1) (j 2)) = Z (ix2 (j 1) (j 2)) := fun Z => by
    refine broadcastInDim_apply _ hb Z _ _ fun a => ?_
    have h1 : (j 1).val < b := (j 1).isLt
    have h2 : (j 2).val < c := (j 2).isLt
    match a with
    | 0 => show (j 1).val = if b = 1 then 0 else (j 1).val; split <;> omega
    | 1 => show (j 2).val = if c = 1 then 0 else (j 2).val; split <;> omega
  have h0 : (j 0).val < 2 := (j 0).isLt
  by_cases hz : (j 0).val = 0
  · rw [if_pos hz, ← hB X]
    refine concatenate_apply_piece (t := ⟨3, ![2, b, c]⟩) 0 [⟨⟨3, ![1, b, c]⟩, _⟩, ⟨⟨3, ![1, b, c]⟩, _⟩] h j 0 (by simp) ⟨3, ![1, b, c]⟩ _ rfl rfl 0 rfl _ (fun a ha => ?_) hz.symm
    match a, ha with
    | 0, ha => exact absurd rfl ha
    | 1, _ => rfl
    | 2, _ => rfl
  · rw [if_neg hz, ← hB Y]
    refine concatenate_apply_piece (t := ⟨3, ![2, b, c]⟩) 0 [⟨⟨3, ![1, b, c]⟩, _⟩, ⟨⟨3, ![1, b, c]⟩, _⟩] h j 1 (by simp) ⟨3, ![1, b, c]⟩ _ rfl rfl 1 rfl _ (fun a ha => ?_) (by show 1 + 0 = (j 0).val; omega)
    match a, ha with
    | 0, ha => exact absurd rfl ha
    | 1, _ => rfl
    | 2, _ => rfl

/-- Arrays side by side: the piece an index falls in, at the index counted from that piece's first column. -/
theorem cat_get2 {a b t : ℕ} (xs : List ((s : Shape) × (s.Idx → EReal))) (h : Shape.Concatenates (xs.map (·.1)) ⟨2, ![a, t]⟩ 1) (j : (⟨2, ![a, t]⟩ : Shape).Idx)
    (k : ℕ) (hk : k < xs.length) (x : (⟨2, ![a, b]⟩ : Shape).Idx → EReal) (hx : xs[k] = ⟨⟨2, ![a, b]⟩, x⟩) (pre : ℕ)
    (hpre : (((xs.take k).map (·.1)).map fun s => if h : s.rank = 2 then s.size ((1 : Fin 2).cast h.symm) else 0).sum = pre)
    (r l : ℕ) (hl : l < b) (hr : (j 0).val = r) (hj : (j 1).val = pre + l) :
    concatenate ⟨2, ![a, t]⟩ 1 xs h j = get2 x r l := by
  subst hr
  refine (concatenate_apply_piece (t := ⟨2, ![a, t]⟩) 1 xs h j k hk ⟨2, ![a, b]⟩ x hx rfl pre hpre (ix2 (j 0) ⟨l, hl⟩) (fun b hb => ?_) hj.symm).trans
    (get2_eq x _ _ _ rfl rfl)
  match b, hb with
  | ⟨0, _⟩, _ => rfl
  | ⟨1, _⟩, hb => exact absurd rfl hb

/-- A chip's part of an array, taken out as a matrix: the part's number fixed, the other axes kept. -/
theorem get2_part {a b c : ℕ} (X : (⟨3, ![a, b, c]⟩ : Shape).Idx → EReal) (x : (⟨2, ![b, c]⟩ : Shape).Idx → EReal) (p : ℕ) (hp : p < a)
    (h : ∀ (r : Fin b) (l : Fin c), x (ix2 r l) = X (ix3 ⟨p, hp⟩ r l)) (r l : ℕ) : get2 x r l = get3 X p r l := by
  unfold get2 get3
  by_cases hb : r < b ∧ l < c
  · rw [dif_pos hb, dif_pos ⟨hp, hb⟩, h]
  · rw [dif_neg hb, dif_neg fun hn => hb hn.2]

/-- A sum over four blocks of one length. -/
theorem sum_four (f : ℕ → EReal) (n : ℕ) : ∑ k ∈ Finset.range (n + n + n + n), f k
    = ((∑ k ∈ Finset.range n, f k + ∑ k ∈ Finset.range n, f (n + k)) + ∑ k ∈ Finset.range n, f (n + n + k)) + ∑ k ∈ Finset.range n, f (n + n + n + k) := by
  rw [Finset.sum_range_add, Finset.sum_range_add, Finset.sum_range_add]

/-- Where a unit-stride rectangle puts an index. -/
theorem emb_val {s : Shape} (off size : Fin s.rank → ℕ) (inb) (x : (Rect.unit off size inb).shape.Idx) (a : Fin s.rank) :
    ((Rect.unit off size inb).emb x a : ℕ) = off a + x a := by
  show off a + 1 * (x a : ℕ) = _
  omega

/-- A product contracted on both first axes. -/
theorem matmul_tn {K M N : ℕ} {φ ψ : FTy} (d : DotDims ⟨2, ![K, M]⟩ ⟨2, ![K, N]⟩ ⟨2, ![M, N]⟩) (hlc : d.lhsContracting = [0]) (hrc : d.rhsContracting = [0])
    (hln : d.lhsNonContracting = [1]) (hrn : d.rhsNonContracting = [1]) (hlb : d.lhsBatch = []) (hrb : d.rhsBatch = []) (prec : Option ContractPrecision)
    (a : FVec Ideal ⟨2, ![K, M]⟩ φ) (b : FVec Ideal ⟨2, ![K, N]⟩ ψ) (j : (⟨2, ![M, N]⟩ : Shape).Idx) :
    FloatOps.matmul d prec a b (constant ⟨2, ![M, N]⟩ .f32 0x00000000#32) j = ∑ k ∈ Finset.range K, get2 a k (j 0).val * get2 b k (j 1).val := by
  obtain ⟨lc, rc, ln, rn, lb, rb, wf⟩ := d
  dsimp only at hlc hrc hln hrn hlb hrb
  subst hlc hrc hln hrn hlb hrb
  rw [Ideal.matmul_constant_zero_apply, ← Equiv.sum_comp (ValueIdx.contrEquiv1 _ K rfl rfl).symm, Finset.sum_range]
  refine Finset.sum_congr rfl fun k _ => ?_
  have hk := ValueIdx.contrEquiv1_symm_val (⟨[0], [0], [1], [1], [], [], wf⟩ : DotDims ⟨2, ![K, M]⟩ ⟨2, ![K, N]⟩ ⟨2, ![M, N]⟩) K rfl rfl k
  congr 1
  · refine get2_eq a _ _ _ ((DotDims.lhsIdx_val_of_single _ rfl _ _).trans hk) ?_
    unfold DotDims.lhsIdx
    rw [dif_neg (by simp), dif_pos (by simp)]
    rfl
  · refine get2_eq b _ _ _ ((DotDims.rhsIdx_val_of_single _ rfl _ _).trans hk) ?_
    unfold DotDims.rhsIdx
    rw [dif_neg (by simp), dif_pos (by simp)]
    rfl

/-- A product contracted on both last axes. -/
theorem matmul_nt {K M N : ℕ} {φ ψ : FTy} (d : DotDims ⟨2, ![M, K]⟩ ⟨2, ![N, K]⟩ ⟨2, ![M, N]⟩) (hlc : d.lhsContracting = [1]) (hrc : d.rhsContracting = [1])
    (hln : d.lhsNonContracting = [0]) (hrn : d.rhsNonContracting = [0]) (hlb : d.lhsBatch = []) (hrb : d.rhsBatch = []) (prec : Option ContractPrecision)
    (a : FVec Ideal ⟨2, ![M, K]⟩ φ) (b : FVec Ideal ⟨2, ![N, K]⟩ ψ) (j : (⟨2, ![M, N]⟩ : Shape).Idx) :
    FloatOps.matmul d prec a b (constant ⟨2, ![M, N]⟩ .f32 0x00000000#32) j = ∑ k ∈ Finset.range K, get2 a (j 0).val k * get2 b (j 1).val k := by
  obtain ⟨lc, rc, ln, rn, lb, rb, wf⟩ := d
  dsimp only at hlc hrc hln hrn hlb hrb
  subst hlc hrc hln hrn hlb hrb
  rw [Ideal.matmul_constant_zero_apply, ← Equiv.sum_comp (ValueIdx.contrEquiv1 _ K rfl rfl).symm, Finset.sum_range]
  refine Finset.sum_congr rfl fun k _ => ?_
  have hk := ValueIdx.contrEquiv1_symm_val (⟨[1], [1], [0], [0], [], [], wf⟩ : DotDims ⟨2, ![M, K]⟩ ⟨2, ![N, K]⟩ ⟨2, ![M, N]⟩) K rfl rfl k
  congr 1
  · refine get2_eq a _ _ _ ?_ ((DotDims.lhsIdx_val_of_single _ rfl _ _).trans hk)
    unfold DotDims.lhsIdx
    rw [dif_neg (by simp), dif_pos (by simp)]
    rfl
  · refine get2_eq b _ _ _ ?_ ((DotDims.rhsIdx_val_of_single _ rfl _ _).trans hk)
    unfold DotDims.rhsIdx
    rw [dif_neg (by simp), dif_pos (by simp)]
    rfl

end Cert.Products
end
-- ==== Proof.DwOut.lean ====
/-
  The gradient of the feed-forward's second weight: the rows are summed in two blocks, the first block's point
  setting the accumulator and the second one's writing the block's two halves of rows. What the array holds at the
  end is the whole sum, and so is what the plain forward computation's derivative gives.
-/
module

public import proofs.«01_k».proof.Defs
public import proofs.«01_k».proof.Proof.Products
public import proofs.«01_k».proof.Proof.Gen.DwOutIdeal.Value
public import proofs.«01_k».proof.Proof.Gen.DwOutRefIdeal.Run
public import proofs.«01_k».proof.Proof.Gen.DwOutRefIdeal.Read

@[expose] public section

set_option maxRecDepth 16384

noncomputable section

namespace Cert.DwOutIdeal.Prod

open Cert.DwOutIdeal Cert.DwOutIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

section Cases

variable (c : Dev nD) (i : grid0.Coords) (a3 : Memref sig .tc .vmem S2048x1408 .bf16) (h3 : a3.IsWhole) (a4 : Memref sig .tc .vmem S2048x1024 .bf16)
  (h4 : a4.IsWhole) (a5 : Memref sig .tc .vmem S2x1x704x1024 .f32) (h5 : a5.IsWhole) (a6 : Memref sig .tc .vmem S1408x1024 .f32) (h6 : a6.IsWhole)
  (x0 : Vec Ideal S2048x1408 .bf16) (x1 : Vec Ideal S2048x1024 .bf16) (xs : Vec Ideal S1408x1024 .f32)

/-- The accumulator after one more block of rows. -/
theorem step_apply (y : S1408x1024.Idx) :
    k0_pay2 xs x0 x1 y = xs y + ∑ k ∈ Finset.range 2048, get2 x0 k (y 0).val * get2 x1 k (y 1).val := by
  unfold k0_pay2
  rw [shapeCast_self]
  exact congrArg (xs y + ·) (matmul_tn dot_S2048x1408_S2048x1024_S1408x1024_0_0_1_1_n_n rfl rfl rfl rfl rfl rfl none x0 x1 y)

/-- The first block's point leaves that block's sum. -/
theorem first_apply (hc0 : cond0_0 i) (hc1 : ¬cond0_1 i) (y : S1408x1024.Idx) :
    sout0_A_0 c i a3 h3 a4 h4 a5 h5 a6 h6 hc0 hc1 x0 x1 y = ∑ k ∈ Finset.range 2048, get2 x0 k (y 0).val * get2 x1 k (y 1).val := by
  unfold sout0_A_0
  rw [View.read_writes_eq_canon _ _ _ (scover0_A_0 c i a3 h3 a4 h4 a5 h5 a6 h6 hc0 hc1 x0 x1)]
  unfold kernelRun0_A
  dsimp only
  sl_unfold_run_names
  rw [View.canon_cons_unit_zero (S := S1408x1024) hz, View.readCov_unit_zero (S := S1408x1024) _ hz]
  simp only [View.readAt_eq_ld, h3.read_unread, h4.read_unread, View.ld_unit_zero (S := S2048x1408) hz, View.ld_unit_zero (S := S2048x1024) hz]
  rw [step_apply]
  unfold k0_pay1
  rw [shapeCast_self]
  exact (congrArg (· + _) Ideal.ofBits_zero_f32).trans (zero_add _)

/-- The last block's point writes the accumulator's two halves of rows. -/
theorem last_apply (hc0 : ¬cond0_0 i) (hc1 : cond0_1 i) (y : S2x1x704x1024.Idx) :
    out0_B_2 c i a3 h3 a4 h4 a5 h5 a6 h6 hc0 hc1 x0 x1 xs y
      = get2 (k0_pay2 xs x0 x1) (704 * (y 0).val + (y 2).val) (y 3).val := by
  unfold out0_B_2
  rw [View.read_writes_eq_canon _ _ _ (cover0_B_2 c i a3 h3 a4 h4 a5 h5 a6 h6 hc0 hc1 x0 x1 xs)]
  refine View.canon_apply_of_pieces (fun y : S2x1x704x1024.Idx => get2 (k0_pay2 xs x0 x1) (704 * (y 0).val + (y 2).val) (y 3).val) _ ?_ y
    (cover0_B_2 c i a3 h3 a4 h4 a5 h5 a6 h6 hc0 hc1 x0 x1 xs y)
  unfold kernelRun0_B
  dsimp only
  sl_unfold_run_names
  rw [View.readCov_unit_zero (S := S1408x1024) _ hz]
  simp only [View.readAt_eq_ld, h3.read_unread, h4.read_unread, h6.read_unread, View.ld_unit_zero (S := S2048x1408) hz, View.ld_unit_zero (S := S2048x1024) hz,
    View.ld_unit_zero (S := S1408x1024) hz]
  generalize k0_pay2 xs x0 x1 = A
  intro p hp
  rcases List.mem_cons.mp hp with rfl | hp
  · intro x
    idx_vars x
    pointwise [k0_pay4]
    refine get2_eq A _ _ _ ?_ ?_ <;> simp [emb_val, ix2_0, ix2_1] <;> omega
  rcases List.mem_cons.mp hp with rfl | hp
  · intro x
    idx_vars x
    pointwise [k0_pay3]
    refine get2_eq A _ _ _ ?_ ?_ <;> simp [emb_val, ix2_0, ix2_1] <;> omega
  · cases hp

end Cases

/-- Where the windows' blocks lie. -/
theorem idx : ∀ t : Fin cfg0.N, t.val < 16 ∧ win0_0.index t = ![t.val % 2, t.val / 4] ∧ win0_1.index t = ![t.val % 2, t.val / 2 % 2] ∧
    win0_2.index t = ![0, t.val / 4, 0, t.val / 2 % 2] :=
  (by decide +kernel : ∀ t : Fin grid0.N, _)

theorem w0_eq (c : Dev nD) (t : Fin cfg0.N) (y : S2048x1408.Idx) :
    iblk m c 0 t y = get2 (m ((c : Thread nD τ).loc main_arg0)) (2048 * (t.val % 2) + (y 0).val) (1408 * (t.val / 4) + (y 1).val) := by
  obtain ⟨ht, e0, e1, e2⟩ := idx t
  unfold iblk
  blk_simp [e0]
  refine get2_eq (m ((c : Thread nD τ).loc main_arg0)) _ _ _ ?_ ?_ <;> blk_simp [e0] <;> simp <;> omega

theorem w1_eq (c : Dev nD) (t : Fin cfg0.N) (y : S2048x1024.Idx) :
    iblk m c 1 t y = get2 (m ((c : Thread nD τ).loc main_arg1)) (2048 * (t.val % 2) + (y 0).val) (1024 * (t.val / 2 % 2) + (y 1).val) := by
  obtain ⟨ht, e0, e1, e2⟩ := idx t
  unfold iblk
  blk_simp [e1]
  refine get2_eq (m ((c : Thread nD τ).loc main_arg1)) _ _ _ ?_ ?_ <;> blk_simp [e1] <;> simp <;> omega

/-- One element of the gradient: all rows summed. -/
def res (X : (⟨2, ![4096, 5632]⟩ : Shape).Idx → EReal) (Y : (⟨2, ![4096, 2048]⟩ : Shape).Idx → EReal) (r l : ℕ) : EReal :=
  ∑ k ∈ Finset.range 4096, get2 X k r * get2 Y k l

/-- The sum's part over the rows of one point's block. -/
def part (c : Dev nD) (t r l : ℕ) : EReal :=
  ∑ k ∈ Finset.range 2048, get2 (m ((c : Thread nD τ).loc main_arg0)) (2048 * (t % 2) + k) (1408 * (t / 4) + r)
    * get2 (m ((c : Thread nD τ).loc main_arg1)) (2048 * (t % 2) + k) (1024 * (t / 2 % 2) + l)

theorem part_eq (c : Dev nD) (t : Fin cfg0.N) (r l : ℕ) (hr : r < 1408) (hl : l < 1024) :
    ∑ k ∈ Finset.range 2048, get2 (a := 2048) (b := 1408) (iblk m c 0 t) k r * get2 (a := 2048) (b := 1024) (iblk m c 1 t) k l = part m c t.val r l :=
  Finset.sum_congr rfl fun k hk => congrArg₂ (· * ·) (get2_of (iblk m c 0 t) (fun k r => get2 _ (_ + k) (_ + r)) (w0_eq m c t) (Finset.mem_range.mp hk) hr)
    (get2_of (iblk m c 1 t) (fun k l => get2 _ (_ + k) (_ + l)) (w1_eq m c t) (Finset.mem_range.mp hk) hl)

/-- What a run's first point leaves in the accumulator. -/
theorem first (c : Dev nD) (t : Fin cfg0.N) (hm : t.val % 2 = 0) (j : S1408x1024.Idx) :
    (outsAt0 m c t.val t.isLt).2 j = part m c t.val (j 0).val (j 1).val := by
  rw [outsAt0_A m c t hm (by omega)]
  dsimp only
  rw [first_apply]
  exact part_eq m c t (j 0).val (j 1).val (j 0).isLt (j 1).isLt

/-- What a run's last point writes back. -/
theorem block (c : Dev nD) (t : Fin cfg0.N) (hm : t.val % 2 = 1) (y : S2x1x704x1024.Idx) :
    (outsAt0 m c t.val t.isLt).1 y = res (m ((c : Thread nD τ).loc main_arg0)) (m ((c : Thread nD τ).loc main_arg1))
      (1408 * (t.val / 4) + (704 * (y 0).val + (y 2).val)) (1024 * (t.val / 2 % 2) + (y 3).val) := by
  have y0 : (y 0).val < 2 := (y 0).isLt
  have y2 : (y 2).val < 704 := (y 2).isLt
  have y3 : (y 3).val < 1024 := (y 3).isLt
  have hs : t.val - 1 < cfg0.N := Nat.lt_of_le_of_lt (Nat.sub_le _ _) t.isLt
  have hf : ∀ j : S1408x1024.Idx, (outsAt0 m c (t.val - 1) hs).2 j = part m c (t.val - 1) (j 0).val (j 1).val := first m c ⟨t.val - 1, hs⟩ (by dsimp only; omega)
  rw [outsAt0_B m c t (by omega) hm]
  dsimp only
  rw [last_apply]
  refine (get2_of _ (fun r l => part m c (t.val - 1) r l + part m c t.val r l)
    (fun j => (step_apply ..).trans (congrArg₂ (· + ·) (hf j) (part_eq m c t (j 0).val (j 1).val (j 0).isLt (j 1).isLt))) (by omega) y3).trans ?_
  refine Eq.trans ?_ (Finset.sum_range_add (fun k => get2 (m ((c : Thread nD τ).loc main_arg0)) k (1408 * (t.val / 4) + (704 * (y 0).val + (y 2).val))
    * get2 (m ((c : Thread nD τ).loc main_arg1)) k (1024 * (t.val / 2 % 2) + (y 3).val)) 2048 2048).symm
  unfold part
  simp only [hm, show (t.val - 1) % 2 = 0 by omega, show (t.val - 1) / 4 = t.val / 4 by omega, show (t.val - 1) / 2 % 2 = t.val / 2 % 2 by omega, Nat.mul_zero, Nat.mul_one, Nat.zero_add]

/-- The result array, of the argument arrays. -/
theorem final (c : Dev nD) : (dats m 0 c).arrAt 2 cfg0.N
    = fun y : S2x4x704x2048.Idx => res (m ((c : Thread nD τ).loc main_arg0)) (m ((c : Thread nD τ).loc main_arg1))
        (1408 * (y 1).val + (704 * (y 0).val + (y 2).val)) (y 3).val := by
  refine (dats m 0 c).arrAt_eq_of_covers 2 _ (by decide +kernel) fun t hf y => ?_
  have hm : t.val % 2 = 1 := (flush0_2 t).mp hf
  obtain ⟨ht, e0, e1, e2⟩ := idx t
  blk_simp
  rw [after0_2]
  refine (block m c t hm y).trans ?_
  have y1 : (y 1).val < 1 := (y 1).isLt
  congr 1 <;> blk_simp [e2] <;> simp <;> omega

end Cert.DwOutIdeal.Prod

namespace Cert.Products

open Idealize.ShloMosaic Idealize.ShloMosaic.TcCoe Idealize.SL.Sem Cert.DwOutRefIdeal.Read

/-- The derivative of the plain product, at an element. -/
theorem dwOut_ref (X : (⟨2, ![4096, 5632]⟩ : Shape).Idx → EReal) (Y : (⟨2, ![4096, 2048]⟩ : Shape).Idx → EReal) (y : (⟨4, ![2, 4, 704, 2048]⟩ : Shape).Idx) :
    val_main_v7 (F := Ideal) X Y y = Cert.DwOutIdeal.Prod.res X Y (1408 * (y 1).val + (704 * (y 0).val + (y 2).val)) (y 3).val := by
  have y2 : (y 2).val < 704 := (y 2).isLt
  have y3 : (y 3).val < 2048 := (y 3).isLt
  rw [val_main_v7_apply, val_main_v6_apply, val_main_v5_apply, val_main_v4_apply]
  unfold Cert.DwOutIdeal.Prod.res
  rw [Finset.sum_range]
  refine Finset.sum_congr rfl fun k _ => (mul_comm _ _).trans (congrArg₂ (· * ·) (get2_eq X _ _ _ rfl ?_) (get2_eq Y _ _ _ rfl ?_))
  · show ((((y 1).val * 2 + (y 0).val) * 704 + (y 2).val) * 2048 + (y 3).val) / 2048 = _
    omega
  · show ((((y 1).val * 2 + (y 0).val) * 704 + (y 2).val) * 2048 + (y 3).val) % 2048 = _
    omega

/-- The claim: both programs end with one array on every device. -/
theorem dwOut : @Cert.algebraic_DwOutIdeal_DwOutRefIdeal Cert.DwOutIdeal.Gen.facts Cert.DwOutRefIdeal.Gen.facts := by
  intro m g m' g' _ hargs
  refine ⟨fun c => fun y : Cert.DwOutIdeal.S2x4x704x2048.Idx => Cert.DwOutIdeal.Prod.res (m (c.tc.loc Cert.DwOutIdeal.main_arg0)) (m (c.tc.loc Cert.DwOutIdeal.main_arg1))
    (1408 * (y 1).val + (704 * (y 0).val + (y 2).val)) (y 3).val, ?_, ?_⟩
  · refine (θ_run _ _ _).mono (fun r h c => ?_) (Cert.DwOutIdeal.Value.run_blocks m g)
    obtain ⟨h0, hk⟩ := h c
    exact ⟨h0.trans (Cert.DwOutIdeal.Prod.final m c), hk⟩
  · refine (θ_run _ _ _).mono (fun r h c => ?_) (Cert.DwOutRefIdeal.Value.run m' g')
    obtain ⟨h0, hk⟩ := h c
    refine ⟨(h0.trans (val_main_v7_eq _ _)).trans ?_, hk⟩
    obtain ⟨e0, e1⟩ := hargs c
    rw [e0, e1]
    exact funext fun y => dwOut_ref _ _ y

end Cert.Products
end
-- ==== Proof.Dhu.lean ====
/-
  The gradient at the feed-forward's two pre-activations. The incoming gradient is taken back through the output
  weight and multiplied, element by element, with the pair the forward pass saved: the gate's slope times the value,
  and the gate. The plain forward computation's derivative has the same factors in another order and sums the
  gate's slope after the multiplication; the two agree where the multiplied values are real numbers, which is
  what the precondition gives. The pre-activation of the gate itself may be infinite.
-/
module

public import proofs.«01_k».proof.Defs
public import proofs.«01_k».proof.Proof.Products
public import proofs.«01_k».proof.Proof.MixClaim
public import proofs.«01_k».proof.Proof.Gen.DhuIdeal.Value
public import proofs.«01_k».proof.Proof.Gen.DhuRefIdeal.Run
public import proofs.«01_k».proof.Proof.Gen.DhuRefIdeal.Read
public import Idealize.ShloMosaic.Lib.ReduceAll

@[expose] public section

set_option maxRecDepth 16384

noncomputable section

namespace Cert.DhuIdeal.Prod

open Cert.DhuIdeal Cert.DhuIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- The gate. -/
def gate (h : EReal) : EReal := h * Ideal.logistic h

/-- The gate's slope times the value. -/
def gateSlope (h u : EReal) : EReal := u * (Ideal.logistic h + gate h * (1 - Ideal.logistic h))

/-- One element of the saved pair. -/
def saved (H U : (⟨2, ![4096, 5632]⟩ : Shape).Idx → EReal) (p r l : ℕ) : EReal :=
  if p = 0 then gateSlope (get2 H r l) (get2 U r l) else gate (get2 H r l)

/-- The saved pair, as the launch finds it. -/
theorem saved_eq (c : Dev nD) (y : S2x4096x5632.Idx) :
    V m c main_v15 y = saved (m ((c : Thread nD τ).loc main_arg0)) (m ((c : Thread nD τ).loc main_arg1)) (y 0).val (y 1).val (y 2).val := by
  unfold_abbrev_sides
  after_results
  refine (stack_apply _ _ bcast_S4096x5632_S1x4096x5632_1_2 concatenates_S1x4096x5632_S1x4096x5632_S2x4096x5632_d0 y).trans ?_
  unfold saved
  have e0 := get2_eq (m ((c : Thread nD τ).loc main_arg0)) (ix2 (y 1) (y 2)) (y 1).val (y 2).val rfl rfl
  have e1 := get2_eq (m ((c : Thread nD τ).loc main_arg1)) (ix2 (y 1) (y 2)) (y 1).val (y 2).val rfl rfl
  rw [← e0, ← e1]
  unfold gateSlope gate Ideal.logistic
  rw [← Ideal.ofBits_one_f32]
  rfl

section Body

variable (x0 : Vec Ideal S512x2048 .bf16) (x1 : Vec Ideal S2816x2048 .bf16) (x2 : Vec Ideal S2x512x2816 .bf16)

/-- The gradient at the hidden activation, of two blocks. -/
theorem da_apply (y : S512x2816.Idx) :
    k0_pay1 x0 x1 y = ∑ k ∈ Finset.range 2048, get2 x0 (y 0).val k * get2 x1 (y 1).val k :=
  matmul_nt dot_S512x2048_S2816x2048_S512x2816_1_1_0_0_n_n rfl rfl rfl rfl rfl rfl none x0 x1 y

/-- A half of the block: the gradient times the half's factor. -/
theorem half_apply (x : Vec Ideal S1x512x2816 .bf16) (y : S1x512x2816.Idx) :
    k0_pay2 x0 x1 x y = (∑ k ∈ Finset.range 2048, get2 x0 (y 1).val k * get2 x1 (y 2).val k) * get3 x 0 (y 1).val (y 2).val := by
  unfold k0_pay2
  refine (shapeCast_lead _ _ y).trans ?_
  refine congrArg₂ (· * ·) (da_apply x0 x1 _) ?_
  exact (get2_eq _ (ix2 (y 1) (y 2)) (y 1).val (y 2).val rfl rfl).trans (get2_shapeCast x _ (y 1).val (y 2).val)

/-- The block a point writes. -/
theorem out_apply (y : S2x512x2816.Idx) :
    out0_3 x0 x1 x2 y = (∑ k ∈ Finset.range 2048, get2 x0 (y 1).val k * get2 x1 (y 2).val k) * get3 x2 (y 0).val (y 1).val (y 2).val := by
  unfold out0_3
  refine View.canon_apply_of_pieces (Val := Elt Ideal) (S := S2x512x2816) (e := .bf16) (fun y : S2x512x2816.Idx => (∑ k ∈ Finset.range 2048, get2 x0 (y 1).val k * get2 x1 (y 2).val k)
    * get3 x2 (y 0).val (y 1).val (y 2).val) _ ?_ y (cover0_3 _ _ y)
  simp only [View.ld_unit_zero (S := S512x2048) hz, View.ld_unit_zero (S := S2816x2048) hz]
  have hv : ∀ (q : ℕ) (inb) (x : S1x512x2816.Idx),
      k0_pay2 x0 x1 (View.ld x2 (Rect.unit (s := S2x512x2816) ![q, 0, 0] S1x512x2816.size inb)) x
        = (fun y : S2x512x2816.Idx => (∑ k ∈ Finset.range 2048, get2 x0 (y 1).val k * get2 x1 (y 2).val k) * get3 x2 (y 0).val (y 1).val (y 2).val)
            ((Rect.unit (s := S2x512x2816) ![q, 0, 0] S1x512x2816.size inb).emb x) := fun q inb x => by
    have h1 : (x 1).val < 512 := (x 1).isLt
    have h2 : (x 2).val < 2816 := (x 2).isLt
    have h0 : (x 0).val < 1 := (x 0).isLt
    refine (half_apply x0 x1 _ x).trans ?_
    dsimp only
    rw [emb_val, emb_val, emb_val]
    simp only [Matrix.cons_val_zero, Matrix.cons_val_one, Matrix.cons_val, Nat.zero_add]
    congr 1
    refine get3_of (a := 1) (b := 512) (c := 2816) _ (fun p r l => get3 x2 (q + p) r l) (fun y => ?_) Nat.one_pos h1 h2 |>.trans ?_
    · refine get3_eq x2 _ _ _ _ ?_ ?_ ?_ <;> simp [emb_val]
    · rw [show (x 0).val = 0 by omega]
  intro p hp
  rcases List.mem_cons.mp hp with rfl | hp
  · exact hv 1 _
  rcases List.mem_cons.mp hp with rfl | hp
  · exact hv 0 _
  · cases hp

end Body

/-- Where the windows' blocks lie. -/
theorem idx : ∀ t : Fin cfg0.N, t.val < 16 ∧ win0_0.index t = ![t.val % 8, 0] ∧ win0_1.index t = ![t.val / 8, 0] ∧
    win0_2.index t = ![0, t.val % 8, t.val / 8] ∧ win0_3.index t = ![0, t.val % 8, t.val / 8] :=
  (by decide +kernel : ∀ t : Fin grid0.N, _)

theorem w0_eq (c : Dev nD) (t : Fin cfg0.N) (y : S512x2048.Idx) :
    iblk m c 0 t y = get2 (m ((c : Thread nD τ).loc main_arg2)) (512 * (t.val % 8) + (y 0).val) (y 1).val := by
  obtain ⟨ht, e0, e1, e2, e3⟩ := idx t
  unfold iblk
  blk_simp [e0]
  refine (congrFun (V_main_arg2 m c) _).trans (get2_eq (m ((c : Thread nD τ).loc main_arg2)) _ _ _ ?_ ?_) <;> blk_simp [e0] <;> (try simp) <;> omega

theorem w1_eq (c : Dev nD) (t : Fin cfg0.N) (y : S2816x2048.Idx) :
    iblk m c 1 t y = get2 (m ((c : Thread nD τ).loc main_arg3)) (2816 * (t.val / 8) + (y 0).val) (y 1).val := by
  obtain ⟨ht, e0, e1, e2, e3⟩ := idx t
  unfold iblk
  blk_simp [e1]
  refine (congrFun (V_main_arg3 m c) _).trans (get2_eq (m ((c : Thread nD τ).loc main_arg3)) _ _ _ ?_ ?_) <;> blk_simp [e1] <;> (try simp) <;> omega

theorem w2_eq (c : Dev nD) (t : Fin cfg0.N) (y : S2x512x2816.Idx) :
    iblk m c 2 t y = saved (m ((c : Thread nD τ).loc main_arg0)) (m ((c : Thread nD τ).loc main_arg1)) (y 0).val (512 * (t.val % 8) + (y 1).val)
      (2816 * (t.val / 8) + (y 2).val) := by
  obtain ⟨ht, e0, e1, e2, e3⟩ := idx t
  unfold iblk
  blk_simp [e2]
  refine (saved_eq m c _).trans ?_
  congr 1 <;> blk_simp [e2] <;> (try simp) <;> omega

/-- The gradient at the hidden activation. -/
def da (X : (⟨2, ![4096, 2048]⟩ : Shape).Idx → EReal) (Y : (⟨2, ![5632, 2048]⟩ : Shape).Idx → EReal) (r l : ℕ) : EReal :=
  ∑ k ∈ Finset.range 2048, get2 X r k * get2 Y l k

/-- The result array, of the argument arrays. -/
theorem final (c : Dev nD) : (dats m 0 c).arrAt 3 cfg0.N
    = fun y : S2x4096x5632.Idx => da (m ((c : Thread nD τ).loc main_arg2)) (m ((c : Thread nD τ).loc main_arg3)) (y 1).val (y 2).val
        * saved (m ((c : Thread nD τ).loc main_arg0)) (m ((c : Thread nD τ).loc main_arg1)) (y 0).val (y 1).val (y 2).val := by
  refine (dats m 0 c).arrAt_eq_of_covers 3 _ (by decide +kernel) fun t hf y => ?_
  obtain ⟨ht, e0, e1, e2, e3⟩ := idx t
  blk_simp
  rw [after0_3]
  have y0 : (y 0).val < 2 := (y 0).isLt
  have y1 : (y 1).val < 512 := (y 1).isLt
  have y2 : (y 2).val < 2816 := (y 2).isLt
  refine (out_apply _ _ _ y).trans ?_
  refine (congrArg₂ (· * ·) (Finset.sum_congr rfl fun k hk => congrArg₂ (· * ·)
    (get2_of (iblk m c 0 t) (fun r k => get2 _ (_ + r) k) (w0_eq m c t) y1 (Finset.mem_range.mp hk))
    (get2_of (iblk m c 1 t) (fun r k => get2 _ (_ + r) k) (w1_eq m c t) y2 (Finset.mem_range.mp hk)))
    (get3_of (iblk m c 2 t) (fun p r l => saved _ _ p (_ + r) (_ + l)) (w2_eq m c t) y0 y1 y2)).trans ?_
  unfold da
  congr 1
  · refine Finset.sum_congr rfl fun k _ => ?_
    congr 2 <;> blk_simp [e3] <;> (try simp) <;> omega
  · congr 1 <;> blk_simp [e3] <;> (try simp) <;> omega

end Cert.DhuIdeal.Prod

namespace Cert.Products

open Idealize.ShloMosaic Idealize.ShloMosaic.TcCoe Idealize.SL.Sem Cert.DhuRefIdeal.Read Cert.DhuIdeal.Prod

/-- The gate's slope summed before the multiplication or after it: one number, when the factors are real. -/
theorem slope_sum (h : EReal) (d u : ℝ) :
    (d * u : EReal) * Ideal.logistic h + (h * (d * u : EReal)) * (Ideal.logistic h * (1 - Ideal.logistic h)) = d * gateSlope h u := by
  unfold gateSlope gate
  induction h with
  | coe x =>
    rw [Ideal.logistic_coe]
    norm_cast
    ring
  | bot => simp
  | top =>
    have e : (1 : EReal) - 1 = 0 := by rw [← EReal.coe_one, ← EReal.coe_sub, sub_self, EReal.coe_zero]
    simp [e]

/-- A sum of products of real numbers is a real number. -/
theorem real_sum (n : ℕ) (f g : ℕ → EReal) (hf : ∀ k, ∃ a : ℝ, f k = a) (hg : ∀ k, ∃ a : ℝ, g k = a) :
    ∃ a : ℝ, ∑ k ∈ Finset.range n, f k * g k = (a : EReal) := by
  induction n with
  | zero => exact ⟨0, by simp⟩
  | succ n ih =>
    obtain ⟨a, ha⟩ := ih
    obtain ⟨x, hx⟩ := hf n
    obtain ⟨y, hy⟩ := hg n
    exact ⟨a + x * y, by rw [Finset.sum_range_succ, ha, hx, hy]; norm_cast⟩

/-- Reading a real array at numbers gives real numbers. -/
theorem real_get2 {a b : ℕ} (X : (⟨2, ![a, b]⟩ : Shape).Idx → EReal) (h : ∀ y, ∃ x : ℝ, X y = x) (r l : ℕ) : ∃ x : ℝ, get2 X r l = x := by
  unfold get2
  split
  · exact h _
  · exact ⟨0, rfl⟩

variable (H U : (⟨2, ![4096, 5632]⟩ : Shape).Idx → EReal) (X : (⟨2, ![4096, 2048]⟩ : Shape).Idx → EReal) (Y : (⟨2, ![5632, 2048]⟩ : Shape).Idx → EReal)

theorem da_ref (y : (⟨2, ![4096, 5632]⟩ : Shape).Idx) : val_main_v5 (F := Ideal) X Y y = da X Y (y 0).val (y 1).val := by
  rw [val_main_v5_apply]
  unfold da
  rw [Finset.sum_range]
  exact Finset.sum_congr rfl fun k _ => congrArg₂ (· * ·) (get2_eq X _ _ _ rfl rfl) (get2_eq Y _ _ _ rfl rfl)

theorem sig_ref (y : (⟨2, ![4096, 5632]⟩ : Shape).Idx) : val_main_v0_2 (F := Ideal) H y = Ideal.logistic (H y) := by
  unfold Ideal.logistic
  rw [← Ideal.ofBits_one_f32]
  rfl

/-- The derivative of the plain forward computation, at an element. -/
theorem dhu_ref (hU : ∀ y, ∃ x : ℝ, U y = x) (hX : ∀ y, ∃ x : ℝ, X y = x) (hY : ∀ y, ∃ x : ℝ, Y y = x) (y : (⟨3, ![2, 4096, 5632]⟩ : Shape).Idx) :
    val_main_v12 (F := Ideal) H U X Y y = da X Y (y 1).val (y 2).val * saved H U (y 0).val (y 1).val (y 2).val := by
  rw [val_main_v12_apply]
  refine (stack_apply _ _ _ Cert.DhuRefIdeal.Facts₀.concatenates_S1x4096x5632_S1x4096x5632_S2x4096x5632_d0 y).trans ?_
  unfold saved
  rw [← get2_eq H (ix2 (y 1) (y 2)) (y 1).val (y 2).val rfl rfl, ← get2_eq U (ix2 (y 1) (y 2)) (y 1).val (y 2).val rfl rfl]
  split
  · obtain ⟨d, hd⟩ := real_sum 2048 _ _ (real_get2 X hX (y 1).val) (real_get2 Y hY (y 2).val)
    obtain ⟨u, hu⟩ := hU (ix2 (y 1) (y 2))
    have hD : da X Y (y 1).val (y 2).val = (d : EReal) := hd
    have e5 : val_main_v5 (F := Ideal) X Y (ix2 (y 1) (y 2)) = (d : EReal) := (da_ref X Y _).trans hD
    rw [hD, hu, ← slope_sum, val_main_v8_apply, val_main_call1_v1_apply, val_main_call1_v2_apply, val_main_call1_v0_apply, val_main_v7_apply, val_main_v0_1_apply,
      val_main_call0_v7_apply, sig_ref, e5, hu, val_main_call0_v6_apply, val_main_call0_cst_1_apply, show FloatOps.ofBits (F := Ideal) .f32 0x3F800000#32 = (1 : EReal) from Ideal.ofBits_one_f32]
    rfl
  · rw [val_main_v6_apply, val_main_v0_0_apply, sig_ref, da_ref]
    exact mul_comm _ _

/-- The shape relations the precondition's text takes. -/
theorem dhuPreFacts : Cert.Pre_dhu_finite.Facts := ⟨by decide, by decide, by decide, by decide, by decide, by decide, by decide, by decide⟩

/-- Arrays the precondition accepts hold real numbers only. -/
theorem dhu_real [Cert.Pre_dhu_finite.Facts] (h : Cert.Pre_dhu_finite.fn (F := Ideal) H U X Y = fun _ => 1#1) :
    (∀ y, ∃ x : ℝ, U y = x) ∧ (∀ y, ∃ x : ℝ, X y = x) ∧ ∀ y, ∃ x : ℝ, Y y = x := by
  have b : ∀ p : Bool, BitVec.ofBool p = 1#1 → p = true := by decide
  have e := congrFun h (Shape.Idx.first Cert.Pre_dhu_finite.Facts.h_S_)
  obtain ⟨e12, e3⟩ := IntOp.andi_eq_one.1 e
  obtain ⟨e1, e2⟩ := IntOp.andi_eq_one.1 e12
  have sub : Subsingleton (Cert.Pre_dhu_finite.S_).Idx := ⟨fun i j => funext fun a => a.elim0⟩
  have fin : ∀ v : EReal, Ideal.cmp .olt (max v (-v)) (Ideal.ofBits .f32 0x7F800000#32) = 1#1 → ∃ x : ℝ, v = x := fun v k => by
    rw [Cert.Mix.inf_word] at k
    exact Cert.Mix.real_of_abs_lt _ (of_decide_eq_true (b _ k))
  exact ⟨fun y => fin _ (Host.reduce_andi_all _ _ _ _ _ e1 y), fun y => fin _ (Host.reduce_andi_all _ _ _ _ _ e2 y), fun y => fin _ (Host.reduce_andi_all _ _ _ _ _ e3 y)⟩

/-- The claim: under the precondition both programs end with one array on every device. -/
theorem dhu [Cert.Pre_dhu_finite.Facts] : @Cert.algebraic_DhuIdeal_DhuRefIdeal_pre_dhu_finite Cert.DhuIdeal.Gen.facts Cert.DhuRefIdeal.Gen.facts _ := by
  intro m g m' g' hpre hargs
  refine ⟨fun c => fun y : Cert.DhuIdeal.S2x4096x5632.Idx => da (m (c.tc.loc Cert.DhuIdeal.main_arg2)) (m (c.tc.loc Cert.DhuIdeal.main_arg3)) (y 1).val (y 2).val
    * saved (m (c.tc.loc Cert.DhuIdeal.main_arg0)) (m (c.tc.loc Cert.DhuIdeal.main_arg1)) (y 0).val (y 1).val (y 2).val, ?_, ?_⟩
  · refine (θ_run _ _ _).mono (fun r h c => ?_) (Cert.DhuIdeal.Value.run_blocks m g)
    obtain ⟨h0, hk⟩ := h c
    exact ⟨h0.trans (Cert.DhuIdeal.Prod.final m c), hk⟩
  · refine (θ_run _ _ _).mono (fun r h c => ?_) (Cert.DhuRefIdeal.Value.run m' g')
    obtain ⟨h0, hk⟩ := h c
    refine ⟨(h0.trans (val_main_v12_eq _ _ _ _)).trans ?_, hk⟩
    obtain ⟨e0, e1, e2, e3⟩ := hargs c
    rw [e0, e1, e2, e3]
    obtain ⟨r1, r2, r3⟩ := dhu_real _ _ _ _ (hpre c)
    exact funext fun y => dhu_ref _ _ _ _ r1 r2 r3 y

end Cert.Products
end
-- ==== Proof.DwIn.lean ====
/-
  The gradient of the feed-forward's input weight: the rows are summed in two blocks, the first block's point
  setting the accumulator and the second one's writing the block's block. What the array holds at the
  end is the whole sum, and so is what the plain forward computation's derivative gives.
-/
module

public import proofs.«01_k».proof.Defs
public import proofs.«01_k».proof.Proof.Products
public import proofs.«01_k».proof.Proof.Gen.DwInIdeal.Value
public import proofs.«01_k».proof.Proof.Gen.DwInRefIdeal.Run
public import proofs.«01_k».proof.Proof.Gen.DwInRefIdeal.Read

@[expose] public section

set_option maxRecDepth 16384

noncomputable section

namespace Cert.DwInIdeal.Prod

open Cert.DwInIdeal Cert.DwInIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

section Cases

variable (c : Dev nD) (i : grid0.Coords) (a3 : Memref sig .tc .vmem S2048x512 .bf16) (h3 : a3.IsWhole) (a4 : Memref sig .tc .vmem S1x2048x2816 .bf16)
  (h4 : a4.IsWhole) (a5 : Memref sig .tc .vmem S1x1x512x2816 .f32) (h5 : a5.IsWhole) (a6 : Memref sig .tc .vmem S512x2816 .f32) (h6 : a6.IsWhole)
  (x0 : Vec Ideal S2048x512 .bf16) (x1 : Vec Ideal S1x2048x2816 .bf16) (xs : Vec Ideal S512x2816 .f32)

/-- The accumulator after one more block of rows. -/
theorem step_apply (y : S512x2816.Idx) :
    k0_pay2 xs x0 x1 y = xs y + ∑ k ∈ Finset.range 2048, get2 x0 k (y 0).val * get3 x1 0 k (y 1).val := by
  unfold k0_pay2
  rw [shapeCast_self]
  refine congrArg (xs y + ·) ((matmul_tn dot_S2048x512_S2048x2816_S512x2816_0_0_1_1_n_n rfl rfl rfl rfl rfl rfl none x0 _ y).trans ?_)
  exact Finset.sum_congr rfl fun k _ => congrArg (get2 x0 k (y 0).val * ·) (get2_shapeCast x1 _ k (y 1).val)

/-- The first block's point leaves that block's sum. -/
theorem first_apply (hc0 : cond0_0 i) (hc1 : ¬cond0_1 i) (y : S512x2816.Idx) :
    sout0_A_0 c i a3 h3 a4 h4 a5 h5 a6 h6 hc0 hc1 x0 x1 y = ∑ k ∈ Finset.range 2048, get2 x0 k (y 0).val * get3 x1 0 k (y 1).val := by
  unfold sout0_A_0
  rw [View.read_writes_eq_canon _ _ _ (scover0_A_0 c i a3 h3 a4 h4 a5 h5 a6 h6 hc0 hc1 x0 x1)]
  unfold kernelRun0_A
  dsimp only
  sl_unfold_run_names
  rw [View.canon_cons_unit_zero (S := S512x2816) hz, View.readCov_unit_zero (S := S512x2816) _ hz]
  simp only [View.readAt_eq_ld, h3.read_unread, h4.read_unread, View.ld_unit_zero (S := S2048x512) hz, View.ld_unit_zero (S := S1x2048x2816) hz3]
  rw [step_apply]
  unfold k0_pay1
  rw [shapeCast_self]
  exact (congrArg (· + _) Ideal.ofBits_zero_f32).trans (zero_add _)

/-- The last block's point writes the accumulator's block. -/
theorem last_apply (hc0 : ¬cond0_0 i) (hc1 : cond0_1 i) (y : S1x1x512x2816.Idx) :
    out0_B_2 c i a3 h3 a4 h4 a5 h5 a6 h6 hc0 hc1 x0 x1 xs y
      = get2 (k0_pay2 xs x0 x1) (y 2).val (y 3).val := by
  unfold out0_B_2
  rw [View.read_writes_eq_canon _ _ _ (cover0_B_2 c i a3 h3 a4 h4 a5 h5 a6 h6 hc0 hc1 x0 x1 xs)]
  refine View.canon_apply_of_pieces (fun y : S1x1x512x2816.Idx => get2 (k0_pay2 xs x0 x1) (y 2).val (y 3).val) _ ?_ y
    (cover0_B_2 c i a3 h3 a4 h4 a5 h5 a6 h6 hc0 hc1 x0 x1 xs y)
  unfold kernelRun0_B
  dsimp only
  sl_unfold_run_names
  rw [View.readCov_unit_zero (S := S512x2816) _ hz]
  simp only [View.readAt_eq_ld, h3.read_unread, h4.read_unread, h6.read_unread, View.ld_unit_zero (S := S2048x512) hz, View.ld_unit_zero (S := S1x2048x2816) hz3,
    View.ld_unit_zero (S := S512x2816) hz]
  generalize k0_pay2 xs x0 x1 = A
  intro p hp
  rcases List.mem_cons.mp hp with rfl | hp
  · intro x
    idx_vars x
    pointwise [k0_pay3]
    refine get2_eq A _ _ _ ?_ ?_ <;> simp [emb_val, ix2_0, ix2_1]
  · cases hp

end Cases

/-- Where the windows' blocks lie. -/
theorem idx : ∀ t : Fin cfg0.N, t.val < 32 ∧ win0_0.index t = ![t.val % 2, t.val / 2 % 4] ∧ win0_1.index t = ![t.val / 16, t.val % 2, t.val / 8 % 2] ∧
    win0_2.index t = ![t.val / 4 % 2, t.val / 8, t.val / 2 % 2, 0] :=
  (by decide +kernel : ∀ t : Fin grid0.N, _)

theorem w0_eq (c : Dev nD) (t : Fin cfg0.N) (y : S2048x512.Idx) :
    iblk m c 0 t y = get2 (m ((c : Thread nD τ).loc main_arg0)) (2048 * (t.val % 2) + (y 0).val) (512 * (t.val / 2 % 4) + (y 1).val) := by
  obtain ⟨ht, e0, e1, e2⟩ := idx t
  unfold iblk
  blk_simp [e0]
  refine get2_eq (m ((c : Thread nD τ).loc main_arg0)) _ _ _ ?_ ?_ <;> blk_simp [e0] <;> simp <;> omega

theorem w1_eq (c : Dev nD) (t : Fin cfg0.N) (y : S1x2048x2816.Idx) :
    iblk m c 1 t y = get3 (m ((c : Thread nD τ).loc main_arg1)) (t.val / 16 + (y 0).val) (2048 * (t.val % 2) + (y 1).val) (2816 * (t.val / 8 % 2) + (y 2).val) := by
  obtain ⟨ht, e0, e1, e2⟩ := idx t
  unfold iblk
  blk_simp [e1]
  refine get3_eq (m ((c : Thread nD τ).loc main_arg1)) _ _ _ _ ?_ ?_ ?_ <;> blk_simp [e1] <;> simp <;> omega

/-- One element of the gradient: all rows summed. -/
def res (X : (⟨2, ![4096, 2048]⟩ : Shape).Idx → EReal) (Y : (⟨3, ![2, 4096, 5632]⟩ : Shape).Idx → EReal) (r p l : ℕ) : EReal :=
  ∑ k ∈ Finset.range 4096, get2 X k r * get3 Y p k l

/-- The sum's part over the rows of one point's block. -/
def part (c : Dev nD) (t r l : ℕ) : EReal :=
  ∑ k ∈ Finset.range 2048, get2 (m ((c : Thread nD τ).loc main_arg0)) (2048 * (t % 2) + k) (512 * (t / 2 % 4) + r)
    * get3 (m ((c : Thread nD τ).loc main_arg1)) (t / 16) (2048 * (t % 2) + k) (2816 * (t / 8 % 2) + l)

theorem part_eq (c : Dev nD) (t : Fin cfg0.N) (r l : ℕ) (hr : r < 512) (hl : l < 2816) :
    ∑ k ∈ Finset.range 2048, get2 (a := 2048) (b := 512) (iblk m c 0 t) k r * get3 (a := 1) (b := 2048) (c := 2816) (iblk m c 1 t) 0 k l = part m c t.val r l :=
  Finset.sum_congr rfl fun k hk => congrArg₂ (· * ·) (get2_of (iblk m c 0 t) (fun k r => get2 _ (_ + k) (_ + r)) (w0_eq m c t) (Finset.mem_range.mp hk) hr)
    (get3_of (iblk m c 1 t) (fun p k l => get3 _ (_ + p) (_ + k) (_ + l)) (w1_eq m c t) Nat.one_pos (Finset.mem_range.mp hk) hl)

/-- What a run's first point leaves in the accumulator. -/
theorem first (c : Dev nD) (t : Fin cfg0.N) (hm : t.val % 2 = 0) (j : S512x2816.Idx) :
    (outsAt0 m c t.val t.isLt).2 j = part m c t.val (j 0).val (j 1).val := by
  rw [outsAt0_A m c t hm (by omega)]
  dsimp only
  rw [first_apply]
  exact part_eq m c t (j 0).val (j 1).val (j 0).isLt (j 1).isLt

/-- What a run's last point writes back. -/
theorem block (c : Dev nD) (t : Fin cfg0.N) (hm : t.val % 2 = 1) (y : S1x1x512x2816.Idx) :
    (outsAt0 m c t.val t.isLt).1 y = res (m ((c : Thread nD τ).loc main_arg0)) (m ((c : Thread nD τ).loc main_arg1))
      (512 * (t.val / 2 % 4) + (y 2).val) (t.val / 16) (2816 * (t.val / 8 % 2) + (y 3).val) := by
  have y2 : (y 2).val < 512 := (y 2).isLt
  have y3 : (y 3).val < 2816 := (y 3).isLt
  have hs : t.val - 1 < cfg0.N := Nat.lt_of_le_of_lt (Nat.sub_le _ _) t.isLt
  have hf : ∀ j : S512x2816.Idx, (outsAt0 m c (t.val - 1) hs).2 j = part m c (t.val - 1) (j 0).val (j 1).val := first m c ⟨t.val - 1, hs⟩ (by dsimp only; omega)
  rw [outsAt0_B m c t (by omega) hm]
  dsimp only
  rw [last_apply]
  refine (get2_of _ (fun r l => part m c (t.val - 1) r l + part m c t.val r l)
    (fun j => (step_apply ..).trans (congrArg₂ (· + ·) (hf j) (part_eq m c t (j 0).val (j 1).val (j 0).isLt (j 1).isLt))) y2 y3).trans ?_
  refine Eq.trans ?_ (Finset.sum_range_add (fun k => get2 (m ((c : Thread nD τ).loc main_arg0)) k (512 * (t.val / 2 % 4) + (y 2).val)
    * get3 (m ((c : Thread nD τ).loc main_arg1)) (t.val / 16) k (2816 * (t.val / 8 % 2) + (y 3).val)) 2048 2048).symm
  unfold part
  simp only [hm, show (t.val - 1) % 2 = 0 by omega, show (t.val - 1) / 2 % 4 = t.val / 2 % 4 by omega, show (t.val - 1) / 16 = t.val / 16 by omega,
    show (t.val - 1) / 8 % 2 = t.val / 8 % 2 by omega, Nat.mul_zero, Nat.mul_one, Nat.zero_add]

/-- The result array, of the argument arrays. -/
theorem final (c : Dev nD) : (dats m 0 c).arrAt 2 cfg0.N
    = fun y : S2x4x1024x2816.Idx => res (m ((c : Thread nD τ).loc main_arg0)) (m ((c : Thread nD τ).loc main_arg1))
        (1024 * (y 0).val + (y 2).val) ((y 1).val / 2) (2816 * ((y 1).val % 2) + (y 3).val) := by
  refine (dats m 0 c).arrAt_eq_of_covers 2 _ (by decide +kernel) fun t hf y => ?_
  have hm : t.val % 2 = 1 := (flush0_2 t).mp hf
  obtain ⟨ht, e0, e1, e2⟩ := idx t
  blk_simp
  rw [after0_2]
  refine (block m c t hm y).trans ?_
  have y0 : (y 0).val < 1 := (y 0).isLt
  have y1 : (y 1).val < 1 := (y 1).isLt
  congr 1 <;> blk_simp [e2] <;> (try simp) <;> omega

end Cert.DwInIdeal.Prod

namespace Cert.Products

open Idealize.ShloMosaic Idealize.ShloMosaic.TcCoe Idealize.SL.Sem Cert.DwInRefIdeal.Read

/-- The two halves of the incoming gradient, taken out as matrices. -/
theorem dwIn_half (Y : (⟨3, ![2, 4096, 5632]⟩ : Shape).Idx → EReal) (r l : ℕ) :
    get2 (a := 4096) (b := 5632) (val_main_v7 (F := Ideal) Y) r l = get3 Y 0 r l ∧ get2 (a := 4096) (b := 5632) (val_main_v10 (F := Ideal) Y) r l = get3 Y 1 r l := by
  refine ⟨get2_part Y _ 0 (by decide) (fun r l => ?_) r l, get2_part Y _ 1 (by decide) (fun r l => ?_) r l⟩
  · rw [val_main_v7_apply, val_main_v6_apply, val_main_v5_apply]
    refine congrArg Y (funext fun a => Fin.ext ?_)
    match a with
    | 0 => rfl
    | 1 => show (r.val * 5632 + l.val) / 5632 % 4096 = r.val; omega
    | 2 => show (r.val * 5632 + l.val) % 5632 = l.val; omega
  · rw [val_main_v10_apply, val_main_v9_apply, val_main_v8_apply]
    refine congrArg Y (funext fun a => Fin.ext ?_)
    match a with
    | 0 => rfl
    | 1 => show (r.val * 5632 + l.val) / 5632 % 4096 = r.val; omega
    | 2 => show (r.val * 5632 + l.val) % 5632 = l.val; omega

/-- … and side by side. -/
theorem dwIn_cat (Y : (⟨3, ![2, 4096, 5632]⟩ : Shape).Idx → EReal) (k p l : ℕ) (hp : p < 2) (hl : l < 5632) (j : (⟨2, ![4096, 11264]⟩ : Shape).Idx)
    (hj : (j 0).val = k) (hj1 : (j 1).val = 5632 * p + l) : val_main_v11 (F := Ideal) Y j = get3 Y p k l := by
  unfold val_main_v11
  have h01 : p = 0 ∨ p = 1 := by omega
  rcases h01 with rfl | rfl
  · exact (cat_get2 _ _ j 0 (by show 0 < 2; omega) _ rfl 0 rfl k l hl hj (by omega)).trans (dwIn_half Y k l).1
  · exact (cat_get2 _ _ j 1 (by show 1 < 2; omega) _ rfl 5632 rfl k l hl hj (by omega)).trans (dwIn_half Y k l).2

/-- The derivative of the plain product, at an element. -/
theorem dwIn_ref (X : (⟨2, ![4096, 2048]⟩ : Shape).Idx → EReal) (Y : (⟨3, ![2, 4096, 5632]⟩ : Shape).Idx → EReal) (y : (⟨4, ![2, 4, 1024, 2816]⟩ : Shape).Idx) :
    val_main_v15 (F := Ideal) X Y y = Cert.DwInIdeal.Prod.res X Y (1024 * (y 0).val + (y 2).val) ((y 1).val / 2) (2816 * ((y 1).val % 2) + (y 3).val) := by
  have y1 : (y 1).val < 4 := (y 1).isLt
  have y2 : (y 2).val < 1024 := (y 2).isLt
  have y3 : (y 3).val < 2816 := (y 3).isLt
  rw [val_main_v15_apply, val_main_v14_apply, val_main_v13_apply, val_main_v12_apply]
  unfold Cert.DwInIdeal.Prod.res
  rw [Finset.sum_range]
  refine Finset.sum_congr rfl fun k _ => (mul_comm _ _).trans (congrArg₂ (· * ·) (get2_eq X _ _ _ rfl ?_) (dwIn_cat Y k.val _ _ (by omega) (by omega) _ rfl ?_))
  · show ((((y 0).val * 1024 + (y 2).val) * 4 + (y 1).val) * 2816 + (y 3).val) / 11264 = _
    omega
  · show ((((y 0).val * 1024 + (y 2).val) * 4 + (y 1).val) * 2816 + (y 3).val) % 11264 = _
    omega

/-- The claim: both programs end with one array on every device. -/
theorem dwIn : @Cert.algebraic_DwInIdeal_DwInRefIdeal Cert.DwInIdeal.Gen.facts Cert.DwInRefIdeal.Gen.facts := by
  intro m g m' g' _ hargs
  refine ⟨fun c => fun y : Cert.DwInIdeal.S2x4x1024x2816.Idx => Cert.DwInIdeal.Prod.res (m (c.tc.loc Cert.DwInIdeal.main_arg0)) (m (c.tc.loc Cert.DwInIdeal.main_arg1))
    (1024 * (y 0).val + (y 2).val) ((y 1).val / 2) (2816 * ((y 1).val % 2) + (y 3).val), ?_, ?_⟩
  · refine (θ_run _ _ _).mono (fun r h c => ?_) (Cert.DwInIdeal.Value.run_blocks m g)
    obtain ⟨h0, hk⟩ := h c
    exact ⟨h0.trans (Cert.DwInIdeal.Prod.final m c), hk⟩
  · refine (θ_run _ _ _).mono (fun r h c => ?_) (Cert.DwInRefIdeal.Value.run m' g')
    obtain ⟨h0, hk⟩ := h c
    refine ⟨(h0.trans (val_main_v15_eq _ _)).trans ?_, hk⟩
    obtain ⟨e0, e1⟩ := hargs c
    rw [e0, e1]
    exact funext fun y => dwIn_ref _ _ y

end Cert.Products
end
-- ==== Proof.Dn.lean ====
/-
  The gradient at the feed-forward's input: the hidden columns, gates and values side by side, are summed one
  chip's part after another, the first part's point setting the accumulator and the last one's writing it out. What
  the array holds at the end is the whole sum, and so is what the plain forward computation's derivative gives.
-/
module

public import proofs.«01_k».proof.Defs
public import proofs.«01_k».proof.Proof.Products
public import proofs.«01_k».proof.Proof.Gen.DnIdeal.Value
public import proofs.«01_k».proof.Proof.Gen.DnRefIdeal.Run
public import proofs.«01_k».proof.Proof.Gen.DnRefIdeal.Read

@[expose] public section

set_option maxRecDepth 16384

noncomputable section

namespace Cert.DnIdeal.Prod

open Cert.DnIdeal Cert.DnIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

section Cases

variable (c : Dev nD) (i : grid0.Coords) (a3 : Memref sig .tc .vmem S1x1024x2816 .bf16) (h3 : a3.IsWhole) (a4 : Memref sig .tc .vmem S1x1024x2816 .bf16)
  (h4 : a4.IsWhole) (a5 : Memref sig .tc .vmem S1024x1024 .bf16) (h5 : a5.IsWhole) (a6 : Memref sig .tc .vmem S1024x1024 .f32) (h6 : a6.IsWhole)
  (x0 : Vec Ideal S1x1024x2816 .bf16) (x1 : Vec Ideal S1x1024x2816 .bf16) (xs : Vec Ideal S1024x1024 .f32)

/-- The accumulator after one more part. -/
theorem step_apply (y : S1024x1024.Idx) :
    k0_pay2 xs x0 x1 y = xs y + ∑ k ∈ Finset.range 2816, get3 x0 0 (y 0).val k * get3 x1 0 (y 1).val k := by
  unfold k0_pay2
  rw [shapeCast_self]
  refine congrArg (xs y + ·) ((matmul_nt dot_S1024x2816_S1024x2816_S1024x1024_1_1_0_0_n_n rfl rfl rfl rfl rfl rfl none _ _ y).trans ?_)
  exact Finset.sum_congr rfl fun k _ => congrArg₂ (· * ·) (get2_shapeCast x0 _ (y 0).val k) (get2_shapeCast x1 _ (y 1).val k)

/-- The first part's point leaves that part's sum. -/
theorem first_apply (hc0 : cond0_0 i) (hc1 : ¬cond0_1 i) (y : S1024x1024.Idx) :
    sout0_A_0 c i a3 h3 a4 h4 a5 h5 a6 h6 hc0 hc1 x0 x1 y = ∑ k ∈ Finset.range 2816, get3 x0 0 (y 0).val k * get3 x1 0 (y 1).val k := by
  unfold sout0_A_0
  rw [View.read_writes_eq_canon _ _ _ (scover0_A_0 c i a3 h3 a4 h4 a5 h5 a6 h6 hc0 hc1 x0 x1)]
  unfold kernelRun0_A
  dsimp only
  sl_unfold_run_names
  rw [View.canon_cons_unit_zero (S := S1024x1024) hz, View.readCov_unit_zero (S := S1024x1024) _ hz]
  simp only [View.readAt_eq_ld, h3.read_unread, h4.read_unread, View.ld_unit_zero (S := S1x1024x2816) hz3]
  rw [step_apply]
  unfold k0_pay1
  rw [shapeCast_self]
  exact (congrArg (· + _) Ideal.ofBits_zero_f32).trans (zero_add _)

/-- A later part's point adds that part's sum. -/
theorem next_apply (hc0 : ¬cond0_0 i) (hc1 : ¬cond0_1 i) (y : S1024x1024.Idx) :
    sout0_B_0 c i a3 h3 a4 h4 a5 h5 a6 h6 hc0 hc1 x0 x1 xs y = xs y + ∑ k ∈ Finset.range 2816, get3 x0 0 (y 0).val k * get3 x1 0 (y 1).val k := by
  unfold sout0_B_0
  rw [View.read_writes_eq_canon _ _ _ (scover0_B_0 c i a3 h3 a4 h4 a5 h5 a6 h6 hc0 hc1 x0 x1 xs)]
  unfold kernelRun0_B
  dsimp only
  sl_unfold_run_names
  rw [View.canon_unit_zero (S := S1024x1024) hz]
  simp only [View.readAt_eq_ld, h3.read_unread, h4.read_unread, h6.read_unread, View.ld_unit_zero (S := S1x1024x2816) hz3, View.ld_unit_zero (S := S1024x1024) hz]
  exact step_apply x0 x1 xs y

/-- The last part's point writes the accumulator. -/
theorem last_apply (hc0 : ¬cond0_0 i) (hc1 : cond0_1 i) (y : S1024x1024.Idx) :
    out0_C_2 c i a3 h3 a4 h4 a5 h5 a6 h6 hc0 hc1 x0 x1 xs y = xs y + ∑ k ∈ Finset.range 2816, get3 x0 0 (y 0).val k * get3 x1 0 (y 1).val k := by
  unfold out0_C_2
  rw [View.read_writes_eq_canon _ _ _ (cover0_C_2 c i a3 h3 a4 h4 a5 h5 a6 h6 hc0 hc1 x0 x1 xs)]
  unfold kernelRun0_C
  dsimp only
  sl_unfold_run_names
  rw [View.canon_unit_zero (S := S1024x1024) hz, View.readCov_unit_zero (S := S1024x1024) _ hz]
  simp only [View.readAt_eq_ld, h3.read_unread, h4.read_unread, h6.read_unread, View.ld_unit_zero (S := S1x1024x2816) hz3, View.ld_unit_zero (S := S1024x1024) hz]
  unfold k0_pay3
  rw [shapeCast_self]
  exact step_apply x0 x1 xs y

end Cases

/-- Where the windows' blocks lie. -/
theorem idx : ∀ t : Fin cfg0.N, t.val < 32 ∧ win0_0.index t = ![t.val % 4 / 2, t.val / 8, t.val % 4 % 2] ∧ win0_1.index t = ![t.val % 4, t.val / 4 % 2, 0] ∧
    win0_2.index t = ![t.val / 8, t.val / 4 % 2] :=
  (by decide +kernel : ∀ t : Fin grid0.N, _)

theorem w0_eq (c : Dev nD) (t : Fin cfg0.N) (y : S1x1024x2816.Idx) :
    iblk m c 0 t y = get3 (m ((c : Thread nD τ).loc main_arg0)) (t.val % 4 / 2 + (y 0).val) (1024 * (t.val / 8) + (y 1).val) (2816 * (t.val % 4 % 2) + (y 2).val) := by
  obtain ⟨ht, e0, e1, e2⟩ := idx t
  unfold iblk
  blk_simp [e0]
  refine get3_eq (m ((c : Thread nD τ).loc main_arg0)) _ _ _ _ ?_ ?_ ?_ <;> blk_simp [e0] <;> simp <;> omega

theorem w1_eq (c : Dev nD) (t : Fin cfg0.N) (y : S1x1024x2816.Idx) :
    iblk m c 1 t y = get3 (m ((c : Thread nD τ).loc main_arg1)) (t.val % 4 + (y 0).val) (1024 * (t.val / 4 % 2) + (y 1).val) (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- The product of the two arrays' elements at one hidden column, the columns counted through the halves and through the chips' parts. -/
def term (X : (⟨3, ![2, 4096, 5632]⟩ : Shape).Idx → EReal) (Y : (⟨3, ![4, 2048, 2816]⟩ : Shape).Idx → EReal) (r s k : ℕ) : EReal :=
  get3 X (k / 5632) r (k % 5632) * get3 Y (k / 2816) s (k % 2816)

/-- One element of the gradient: all hidden columns summed. -/
def res (X : (⟨3, ![2, 4096, 5632]⟩ : Shape).Idx → EReal) (Y : (⟨3, ![4, 2048, 2816]⟩ : Shape).Idx → EReal) (r s : ℕ) : EReal :=
  ∑ k ∈ Finset.range 11264, term X Y r s k

/-- The sum over the columns of part `q`. -/
def part (c : Dev nD) (q r s : ℕ) : EReal :=
  ∑ k ∈ Finset.range 2816, term (m ((c : Thread nD τ).loc main_arg0)) (m ((c : Thread nD τ).loc main_arg1)) r s (2816 * q + k)

theorem part_eq (c : Dev nD) (t : Fin cfg0.N) (r s : ℕ) (hr : r < 1024) (hs : s < 1024) :
    ∑ k ∈ Finset.range 2816, get3 (a := 1) (b := 1024) (c := 2816) (iblk m c 0 t) 0 r k * get3 (a := 1) (b := 1024) (c := 2816) (iblk m c 1 t) 0 s k
      = part m c (t.val % 4) (1024 * (t.val / 8) + r) (1024 * (t.val / 4 % 2) + s) := by
  refine Finset.sum_congr rfl fun k hk => ?_
  have hk' := Finset.mem_range.mp hk
  refine (congrArg₂ (· * ·) (get3_of (iblk m c 0 t) (fun p k l => get3 _ (_ + p) (_ + k) (_ + l)) (w0_eq m c t) Nat.one_pos hr hk')
    (get3_of (iblk m c 1 t) (fun p k l => get3 _ (_ + p) (_ + k) l) (w1_eq m c t) Nat.one_pos hs hk')).trans ?_
  unfold term
  rw [show (2816 * (t.val % 4) + k) / 5632 = t.val % 4 / 2 by omega, show (2816 * (t.val % 4) + k) % 5632 = 2816 * (t.val % 4 % 2) + k by omega,
    show (2816 * (t.val % 4) + k) / 2816 = t.val % 4 by omega, show (2816 * (t.val % 4) + k) % 2816 = k by omega, Nat.add_zero, Nat.add_zero]

/-- What the accumulator holds after the first part's point … -/
theorem first (c : Dev nD) (t : ℕ) (ht : t < cfg0.N) (hm : t % 4 = 0) (j : S1024x1024.Idx) :
    (outsAt0 m c t ht).2 j = part m c 0 (1024 * (t / 8) + (j 0).val) (1024 * (t / 4 % 2) + (j 1).val) := by
  rw [show outsAt0 m c t ht = _ from outsAt0_A m c ⟨t, ht⟩ hm (by dsimp only; omega)]
  dsimp only
  rw [first_apply]
  exact (part_eq m c ⟨t, ht⟩ (j 0).val (j 1).val (j 0).isLt (j 1).isLt).trans (congrArg (part m c · _ _) hm)

/-- … and after a later one's. -/
theorem next (c : Dev nD) (t : ℕ) (ht : t + 1 < cfg0.N) (h0 : (t + 1) % 4 ≠ 0) (h1 : (t + 1) % 4 ≠ 3) (j : S1024x1024.Idx) :
    (outsAt0 m c (t + 1) ht).2 j = (outsAt0 m c t (Nat.lt_of_succ_lt ht)).2 j
      + part m c ((t + 1) % 4) (1024 * ((t + 1) / 8) + (j 0).val) (1024 * ((t + 1) / 4 % 2) + (j 1).val) := by
  rw [show outsAt0 m c (t + 1) ht = _ from outsAt0_B m c ⟨t + 1, ht⟩ h0 h1]
  dsimp only
  rw [next_apply]
  exact congrArg (_ + ·) (part_eq m c ⟨t + 1, ht⟩ (j 0).val (j 1).val (j 0).isLt (j 1).isLt)

/-- What a run's last point writes back. -/
theorem block (c : Dev nD) (t : ℕ) (ht : t + 3 < cfg0.N) (hm : t % 4 = 0) (y : S1024x1024.Idx) :
    (outsAt0 m c (t + 3) ht).1 y = res (m ((c : Thread nD τ).loc main_arg0)) (m ((c : Thread nD τ).loc main_arg1))
      (1024 * ((t + 3) / 8) + (y 0).val) (1024 * ((t + 3) / 4 % 2) + (y 1).val) := by
  rw [show outsAt0 m c (t + 3) ht = _ from outsAt0_C m c ⟨t + 3, ht⟩ (by dsimp only; omega) (by dsimp only; omega)]
  dsimp only
  rw [last_apply]
  refine (congrArg₂ (· + ·) ((next m c (t + 1) (by omega) (by omega) (by omega) y).trans (congrArg (· + _) ((next m c t (by omega) (by omega) (by omega) y).trans
    (congrArg (· + _) (first m c t (by omega) hm y))))) (part_eq m c ⟨t + 3, ht⟩ (y 0).val (y 1).val (y 0).isLt (y 1).isLt)).trans ?_
  refine Eq.trans ?_ (sum_four (term (m ((c : Thread nD τ).loc main_arg0)) (m ((c : Thread nD τ).loc main_arg1))
    (1024 * ((t + 3) / 8) + (y 0).val) (1024 * ((t + 3) / 4 % 2) + (y 1).val)) 2816).symm
  unfold part
  simp only [show (t + 3) % 4 = 3 by omega, show (t + 1 + 1) % 4 = 2 by omega, show (t + 1) % 4 = 1 by omega, show t / 8 = (t + 3) / 8 by omega, show t / 4 % 2 = (t + 3) / 4 % 2 by omega,
    show (t + 1) / 8 = (t + 3) / 8 by omega, show (t + 1) / 4 % 2 = (t + 3) / 4 % 2 by omega, show (t + 1 + 1) / 8 = (t + 3) / 8 by omega,
    show (t + 1 + 1) / 4 % 2 = (t + 3) / 4 % 2 by omega, Nat.mul_zero, Nat.zero_add, Nat.reduceMul, Nat.reduceAdd]

theorem block_at (c : Dev nD) (t : ℕ) (ht : t < cfg0.N) (hm : t % 4 = 3) (y : S1024x1024.Idx) :
    (outsAt0 m c t ht).1 y = res (m ((c : Thread nD τ).loc main_arg0)) (m ((c : Thread nD τ).loc main_arg1))
      (1024 * (t / 8) + (y 0).val) (1024 * (t / 4 % 2) + (y 1).val) := by
  obtain ⟨n, rfl⟩ : ∃ n, t = n + 3 := ⟨t - 3, by omega⟩
  exact block m c n ht (by omega) y

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val (y 1).val := by
  refine (dats m 0 c).arrAt_eq_of_covers 2 _ (by decide +kernel) fun t hf y => ?_
  have hm : t.val % 4 = 3 := (flush0_2 t).mp hf
  obtain ⟨ht, e0, e1, e2⟩ := idx t
  blk_simp
  rw [after0_2]
  refine (block_at m c t.val t.isLt hm y).trans ?_
  congr 1 <;> blk_simp [e2] <;> (try simp) <;> omega

end Cert.DnIdeal.Prod

namespace Cert.Products

open Idealize.ShloMosaic Idealize.ShloMosaic.TcCoe Idealize.SL.Sem Cert.DnRefIdeal.Read

/-- The two halves of the incoming gradient, taken out as matrices. -/
theorem dn_half (X : (⟨3, ![2, 4096, 5632]⟩ : Shape).Idx → EReal) (r l : ℕ) :
    get2 (a := 4096) (b := 5632) (val_main_v16 (F := Ideal) X) r l = get3 X 0 r l ∧ get2 (a := 4096) (b := 5632) (val_main_v19 (F := Ideal) X) r l = get3 X 1 r l := by
  refine ⟨get2_part X _ 0 (by decide) (fun r l => ?_) r l, get2_part X _ 1 (by decide) (fun r l => ?_) r l⟩
  · rw [val_main_v16_apply, val_main_v15_apply, val_main_v14_apply]
    refine congrArg X (funext fun a => Fin.ext ?_)
    match a with
    | 0 => rfl
    | 1 => show (r.val * 5632 + l.val) / 5632 % 4096 = r.val; omega
    | 2 => show (r.val * 5632 + l.val) % 5632 = l.val; omega
  · rw [val_main_v19_apply, val_main_v18_apply, val_main_v17_apply]
    refine congrArg X (funext fun a => Fin.ext ?_)
    match a with
    | 0 => rfl
    | 1 => show (r.val * 5632 + l.val) / 5632 % 4096 = r.val; omega
    | 2 => show (r.val * 5632 + l.val) % 5632 = l.val; omega

/-- … and side by side. -/
theorem dn_cat (X : (⟨3, ![2, 4096, 5632]⟩ : Shape).Idx → EReal) (k r : ℕ) (hk : k < 11264) (j : (⟨2, ![4096, 11264]⟩ : Shape).Idx)
    (hj : (j 0).val = r) (hj1 : (j 1).val = k) : val_main_v20 (F := Ideal) X j = get3 X (k / 5632) r (k % 5632) := by
  unfold val_main_v20
  have h01 : k / 5632 = 0 ∨ k / 5632 = 1 := by omega
  rcases h01 with h | h <;> rw [h]
  · exact (cat_get2 _ _ j 0 (by show 0 < 2; omega) _ rfl 0 rfl r (k % 5632) (Nat.mod_lt _ (by decide)) hj (by omega)).trans (dn_half X _ _).1
  · exact (cat_get2 _ _ j 1 (by show 1 < 2; omega) _ rfl 5632 rfl r (k % 5632) (Nat.mod_lt _ (by decide)) hj (by omega)).trans (dn_half X _ _).2

/-- The chips' parts of the weight, taken out as matrices. -/
theorem dn_parts (Y : (⟨3, ![4, 2048, 2816]⟩ : Shape).Idx → EReal) (r l : ℕ) :
    (get2 (a := 2048) (b := 2816) (val_main_v1 (F := Ideal) Y) r l = get3 Y 0 r l ∧ get2 (a := 2048) (b := 2816) (val_main_v3 (F := Ideal) Y) r l = get3 Y 1 r l)
      ∧ get2 (a := 2048) (b := 2816) (val_main_v5 (F := Ideal) Y) r l = get3 Y 2 r l ∧ get2 (a := 2048) (b := 2816) (val_main_v7 (F := Ideal) Y) r l = get3 Y 3 r l := by
  refine ⟨⟨get2_part Y _ 0 (by decide) (fun r l => ?_) r l, get2_part Y _ 1 (by decide) (fun r l => ?_) r l⟩,
    get2_part Y _ 2 (by decide) (fun r l => ?_) r l, get2_part Y _ 3 (by decide) (fun r l => ?_) r l⟩
  · rw [val_main_v1_apply, val_main_v0_apply]
    refine congrArg Y (funext fun a => Fin.ext ?_)
    match a with
    | 0 => rfl
    | 1 => show (r.val * 2816 + l.val) / 2816 % 2048 = r.val; omega
    | 2 => show (r.val * 2816 + l.val) % 2816 = l.val; omega
  · rw [val_main_v3_apply, val_main_v2_apply]
    refine congrArg Y (funext fun a => Fin.ext ?_)
    match a with
    | 0 => rfl
    | 1 => show (r.val * 2816 + l.val) / 2816 % 2048 = r.val; omega
    | 2 => show (r.val * 2816 + l.val) % 2816 = l.val; omega
  · rw [val_main_v5_apply, val_main_v4_apply]
    refine congrArg Y (funext fun a => Fin.ext ?_)
    match a with
    | 0 => rfl
    | 1 => show (r.val * 2816 + l.val) / 2816 % 2048 = r.val; omega
    | 2 => show (r.val * 2816 + l.val) % 2816 = l.val; omega
  · rw [val_main_v7_apply, val_main_v6_apply]
    refine congrArg Y (funext fun a => Fin.ext ?_)
    match a with
    | 0 => rfl
    | 1 => show (r.val * 2816 + l.val) / 2816 % 2048 = r.val; omega
    | 2 => show (r.val * 2816 + l.val) % 2816 = l.val; omega

/-- … and side by side. -/
theorem dn_cat4 (Y : (⟨3, ![4, 2048, 2816]⟩ : Shape).Idx → EReal) (k r : ℕ) (hk : k < 11264) (j : (⟨2, ![2048, 11264]⟩ : Shape).Idx)
    (hj : (j 0).val = r) (hj1 : (j 1).val = k) : val_main_v9 (F := Ideal) Y j = get3 Y (k / 2816) r (k % 2816) := by
  rw [val_main_v9_apply]
  show val_main_v8 (F := Ideal) Y j = _
  unfold val_main_v8
  have h03 : k / 2816 = 0 ∨ k / 2816 = 1 ∨ k / 2816 = 2 ∨ k / 2816 = 3 := by omega
  have hl : k % 2816 < 2816 := Nat.mod_lt _ (by decide)
  rcases h03 with h | h | h | h <;> rw [h]
  · exact (cat_get2 _ _ j 0 (by show 0 < 4; omega) _ rfl 0 rfl r (k % 2816) hl hj (by omega)).trans (dn_parts Y _ _).1.1
  · exact (cat_get2 _ _ j 1 (by show 1 < 4; omega) _ rfl 2816 rfl r (k % 2816) hl hj (by omega)).trans (dn_parts Y _ _).1.2
  · exact (cat_get2 _ _ j 2 (by show 2 < 4; omega) _ rfl 5632 rfl r (k % 2816) hl hj (by omega)).trans (dn_parts Y _ _).2.1
  · exact (cat_get2 _ _ j 3 (by show 3 < 4; omega) _ rfl 8448 rfl r (k % 2816) hl hj (by omega)).trans (dn_parts Y _ _).2.2

/-- The derivative of the plain product, at an element. -/
theorem dn_ref (X : (⟨3, ![2, 4096, 5632]⟩ : Shape).Idx → EReal) (Y : (⟨3, ![4, 2048, 2816]⟩ : Shape).Idx → EReal) (y : (⟨2, ![4096, 2048]⟩ : Shape).Idx) :
    val_main_v22 (F := Ideal) X Y y = Cert.DnIdeal.Prod.res X Y (y 0).val (y 1).val := by
  rw [val_main_v22_apply]
  show val_main_v21 (F := Ideal) X Y y = _
  rw [val_main_v21_apply]
  unfold Cert.DnIdeal.Prod.res
  rw [Finset.sum_range]
  exact Finset.sum_congr rfl fun k _ => congrArg₂ (· * ·) (dn_cat X k.val _ k.isLt _ rfl rfl) (dn_cat4 Y k.val _ k.isLt _ rfl rfl)

/-- The claim: both programs end with one array on every device. -/
theorem dn : @Cert.algebraic_DnIdeal_DnRefIdeal Cert.DnIdeal.Gen.facts Cert.DnRefIdeal.Gen.facts := by
  intro m g m' g' _ hargs
  refine ⟨fun c => fun y : Cert.DnIdeal.S4096x2048.Idx => Cert.DnIdeal.Prod.res (m (c.tc.loc Cert.DnIdeal.main_arg0)) (m (c.tc.loc Cert.DnIdeal.main_arg1))
    (y 0).val (y 1).val, ?_, ?_⟩
  · refine (θ_run _ _ _).mono (fun r h c => ?_) (Cert.DnIdeal.Value.run_blocks m g)
    obtain ⟨h0, hk⟩ := h c
    exact ⟨h0.trans (Cert.DnIdeal.Prod.final m c), hk⟩
  · refine (θ_run _ _ _).mono (fun r h c => ?_) (Cert.DnRefIdeal.Value.run m' g')
    obtain ⟨h0, hk⟩ := h c
    refine ⟨(h0.trans (val_main_v22_eq _ _)).trans ?_, hk⟩
    obtain ⟨e0, e1⟩ := hargs c
    rw [e0, e1]
    exact funext fun y => dn_ref _ _ y

end Cert.Products
end
-- ==== Proof.Parts.lean ====
/-
  Arrays held in the chips' parts, and products of them. An array the four chips hold a part of each is an array of
  three axes whose first one numbers the chips; the plain programs take the parts out and put them side by side. What
  stands there at a row and a column is the part's element, the part found by dividing the column by a part's width.
  With it the product of a matrix with a matrix in the usual order, and a row block stored under two leading axes of one
  entry.
-/
module

public import proofs.«01_k».proof.Proof.Products

@[expose] public section

noncomputable section

namespace Cert.Products

open Idealize.ShloMosaic Idealize.ShloMosaic.TcCoe

/-- One chip's part, taken out as a matrix. -/
theorem slice_part {a b c : ℕ} (X : (⟨3, ![a, b, c]⟩ : Shape).Idx → EReal) (p : ℕ) (hp : p < a)
    (hs : (⟨3, ![a, b, c]⟩ : Shape).Slices ![p, 0, 0] ⟨3, ![1, b, c]⟩) (hc : (⟨3, ![1, b, c]⟩ : Shape).ShapeCasts ⟨2, ![b, c]⟩) (r l : ℕ) :
    get2 (shapeCast (⟨2, ![b, c]⟩ : Shape) (extractStridedSlice (⟨3, ![1, b, c]⟩ : Shape) ![p, 0, 0] X hs) hc) r l = get3 X p r l := by
  refine (get2_shapeCast _ hc r l).trans ?_
  unfold get3
  by_cases hb : r < b ∧ l < c
  · rw [dif_pos ⟨Nat.one_pos, hb⟩, dif_pos ⟨hp, hb⟩]
    refine extractStridedSlice_apply _ X hs _ _ fun k => ?_
    match k with
    | 0 => rfl
    | 1 => exact (Nat.zero_add _).symm
    | 2 => exact (Nat.zero_add _).symm
  · rw [dif_neg fun h => hb h.2, dif_neg fun h => hb h.2]

/-- The four parts side by side. -/
theorem cat_parts {b c t : ℕ} (hc0 : 0 < c) (ht : t = c + c + c + c) (X : (⟨3, ![4, b, c]⟩ : Shape).Idx → EReal)
    (h0 : (⟨3, ![4, b, c]⟩ : Shape).Slices ![0, 0, 0] ⟨3, ![1, b, c]⟩) (h1 : (⟨3, ![4, b, c]⟩ : Shape).Slices ![1, 0, 0] ⟨3, ![1, b, c]⟩)
    (h2 : (⟨3, ![4, b, c]⟩ : Shape).Slices ![2, 0, 0] ⟨3, ![1, b, c]⟩) (h3 : (⟨3, ![4, b, c]⟩ : Shape).Slices ![3, 0, 0] ⟨3, ![1, b, c]⟩)
    (hc : (⟨3, ![1, b, c]⟩ : Shape).ShapeCasts ⟨2, ![b, c]⟩)
    (h : Shape.Concatenates [(⟨2, ![b, c]⟩ : Shape), ⟨2, ![b, c]⟩, ⟨2, ![b, c]⟩, ⟨2, ![b, c]⟩] ⟨2, ![b, t]⟩ 1) (j : (⟨2, ![b, t]⟩ : Shape).Idx) (r k : ℕ)
    (hr : (j 0).val = r) (hk : (j 1).val = k) :
    concatenate ⟨2, ![b, t]⟩ 1 [⟨(⟨2, ![b, c]⟩ : Shape), shapeCast (⟨2, ![b, c]⟩ : Shape) (extractStridedSlice (⟨3, ![1, b, c]⟩ : Shape) ![0, 0, 0] X h0) hc⟩,
        ⟨⟨2, ![b, c]⟩, shapeCast (⟨2, ![b, c]⟩ : Shape) (extractStridedSlice (⟨3, ![1, b, c]⟩ : Shape) ![1, 0, 0] X h1) hc⟩,
        ⟨⟨2, ![b, c]⟩, shapeCast (⟨2, ![b, c]⟩ : Shape) (extractStridedSlice (⟨3, ![1, b, c]⟩ : Shape) ![2, 0, 0] X h2) hc⟩,
        ⟨⟨2, ![b, c]⟩, shapeCast (⟨2, ![b, c]⟩ : Shape) (extractStridedSlice (⟨3, ![1, b, c]⟩ : Shape) ![3, 0, 0] X h3) hc⟩] h j
      = get3 X (k / c) r (k % c) := by
  have hj : (j 1).val < t := (j 1).isLt
  have hl : k % c < c := Nat.mod_lt _ hc0
  have hd := Nat.div_add_mod k c
  have h4 : k / c < 4 := (Nat.div_lt_iff_lt_mul hc0).mpr (by omega)
  generalize k / c = q at hd h4 ⊢
  have h03 : q = 0 ∨ q = 1 ∨ q = 2 ∨ q = 3 := by omega
  rcases h03 with rfl | rfl | rfl | rfl
  · exact (cat_get2 _ _ j 0 (by show 0 < 4; omega) _ rfl 0 rfl r (k % c) hl hr (by omega)).trans (slice_part X 0 (by decide) h0 hc _ _)
  · exact (cat_get2 _ _ j 1 (by show 1 < 4; omega) _ rfl c (by show c + 0 = c; omega) r (k % c) hl hr (by omega)).trans (slice_part X 1 (by decide) h1 hc _ _)
  · exact (cat_get2 _ _ j 2 (by show 2 < 4; omega) _ rfl (c + c) (by show c + (c + 0) = c + c; omega) r (k % c) hl hr (by omega)).trans (slice_part X 2 (by decide) h2 hc _ _)
  · exact (cat_get2 _ _ j 3 (by show 3 < 4; omega) _ rfl (c + c + c) (by show c + (c + (c + 0)) = c + c + c; omega) r (k % c) hl hr (by omega)).trans
      (slice_part X 3 (by decide) h3 hc _ _)

/-- A matrix given two leading axes of one entry. -/
theorem shapeCast_lead2 {b c : ℕ} (X : (⟨2, ![b, c]⟩ : Shape).Idx → EReal) (h : (⟨2, ![b, c]⟩ : Shape).ShapeCasts ⟨4, ![1, 1, b, c]⟩)
    (y : (⟨4, ![1, 1, b, c]⟩ : Shape).Idx) : shapeCast (⟨4, ![1, 1, b, c]⟩ : Shape) X h y = X (ix2 (y 2) (y 3)) := by
  refine shapeCast_apply X h _ _ ?_
  have y0 : (y 0).val < 1 := (y 0).isLt
  have y1 : (y 1).val < 1 := (y 1).isLt
  rw [Shape.rowMajor_val_two, Shape.rowMajor_val_four]
  show (y 2).val * c + (y 3).val = (((y 0).val * 1 + (y 1).val) * b + (y 2).val) * c + (y 3).val
  rw [show (y 0).val = 0 by omega, show (y 1).val = 0 by omega]
  simp

/-- A block of a matrix, its rows from `p` and its columns from `q` on. -/
theorem slice_get2 {a b c d : ℕ} (X : (⟨2, ![a, b]⟩ : Shape).Idx → EReal) (p q : ℕ) (hs : (⟨2, ![a, b]⟩ : Shape).Slices ![p, q] ⟨2, ![c, d]⟩)
    (y : (⟨2, ![c, d]⟩ : Shape).Idx) : extractStridedSlice (⟨2, ![c, d]⟩ : Shape) ![p, q] X hs y = get2 X (p + (y 0).val) (q + (y 1).val) := by
  unfold extractStridedSlice
  exact get2_eq X _ _ _ rfl rfl

/-- A product in the usual order, the first factor's columns against the second one's rows. -/
theorem matmul_nn {K M N : ℕ} {φ ψ : FTy} (d : DotDims ⟨2, ![M, K]⟩ ⟨2, ![K, N]⟩ ⟨2, ![M, N]⟩) (hlc : d.lhsContracting = [1]) (hrc : d.rhsContracting = [0])
    (hln : d.lhsNonContracting = [0]) (hrn : d.rhsNonContracting = [1]) (hlb : d.lhsBatch = []) (hrb : d.rhsBatch = []) (prec : Option ContractPrecision)
    (a : FVec Ideal ⟨2, ![M, K]⟩ φ) (b : FVec Ideal ⟨2, ![K, N]⟩ ψ) (j : (⟨2, ![M, N]⟩ : Shape).Idx) :
    FloatOps.matmul d prec a b (constant ⟨2, ![M, N]⟩ .f32 0x00000000#32) j = ∑ k ∈ Finset.range K, get2 a (j 0).val k * get2 b k (j 1).val := by
  obtain ⟨lc, rc, ln, rn, lb, rb, wf⟩ := d
  dsimp only at hlc hrc hln hrn hlb hrb
  subst hlc hrc hln hrn hlb hrb
  rw [Ideal.matmul_constant_zero_apply, ← Equiv.sum_comp (ValueIdx.contrEquiv1 _ K rfl rfl).symm, Finset.sum_range]
  refine Finset.sum_congr rfl fun k _ => ?_
  have hk := ValueIdx.contrEquiv1_symm_val (⟨[1], [0], [0], [1], [], [], wf⟩ : DotDims ⟨2, ![M, K]⟩ ⟨2, ![K, N]⟩ ⟨2, ![M, N]⟩) K rfl rfl k
  congr 1
  · refine get2_eq a _ _ _ ?_ ((DotDims.lhsIdx_val_of_single _ rfl _ _).trans hk)
    unfold DotDims.lhsIdx
    rw [dif_neg (by simp), dif_pos (by simp)]
    rfl
  · refine get2_eq b _ _ _ ((DotDims.rhsIdx_val_of_single _ rfl _ _).trans hk) ?_
    unfold DotDims.rhsIdx
    rw [dif_neg (by simp), dif_pos (by simp)]
    rfl

end Cert.Products
end
-- ==== Proof.Rows.lean ====
/-
  Sums along an axis of a matrix, and a row or a column stretched over a matrix, read at numbers: what the elementwise
  calls use to add up rows and to take a row's mean.
-/
module

public import proofs.«01_k».proof.Proof.Products

@[expose] public section

noncomputable section

namespace Cert.Products

open Idealize.ShloMosaic Idealize.ShloMosaic.TcCoe

/-- The rows added up, kept as one row. -/
theorem rows_sum {R C : ℕ} (v : FVec Ideal ⟨2, ![R, C]⟩ .f32) (acc : BitVec 32) (h : (⟨2, ![R, C]⟩ : Shape).Reduces [0] ⟨1, ![C]⟩)
    (hφ : FKind.Formats .f32) (hacc : acc = FKind.add.neutral .f32 hφ) (hc : (⟨1, ![C]⟩ : Shape).ShapeCasts ⟨2, ![1, C]⟩) (y : (⟨2, ![1, C]⟩ : Shape).Idx) :
    shapeCast (⟨2, ![1, C]⟩ : Shape) (multiReduction .add [0] (⟨1, ![C]⟩ : Shape) v acc h hφ hacc) hc y = ∑ k ∈ Finset.range R, get2 v k (y 1).val := by
  have y0 : (y 0).val < 1 := (y 0).isLt
  refine (shapeCast_apply _ hc y (ix1 (y 1)) ?_).trans ?_
  · rw [Shape.rowMajor_val_one, Shape.rowMajor_val_two]
    show (y 1).val = (y 0).val * C + (y 1).val
    rw [show (y 0).val = 0 by omega, Nat.zero_mul, Nat.zero_add]
  · refine (Ideal.multiReduction_add_single v acc h hφ hacc _).trans ?_
    rw [Finset.sum_range]
    exact Finset.sum_congr rfl fun k _ => get2_eq v _ _ _ (by rw [Shape.Reduces.lift_val]; rfl) (by rw [Shape.Reduces.lift_val]; rfl)

/-- The columns added up, kept as one column. -/
theorem cols_sum {R C : ℕ} (v : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (hc : (⟨1, ![R]⟩ : Shape).ShapeCasts ⟨2, ![R, 1]⟩) (y : (⟨2, ![R, 1]⟩ : Shape).Idx) :
    shapeCast (⟨2, ![R, 1]⟩ : Shape) (multiReduction .add [1] (⟨1, ![R]⟩ : Shape) v acc h hφ hacc) hc y = ∑ k ∈ Finset.range C, get2 v (y 0).val k := by
  have y1 : (y 1).val < 1 := (y 1).isLt
  refine (shapeCast_apply _ hc y (ix1 (y 0)) ?_).trans ?_
  · rw [Shape.rowMajor_val_one, Shape.rowMajor_val_two]
    show (y 0).val = (y 0).val * 1 + (y 1).val
    omega
  · refine (Ideal.multiReduction_add_single v acc h hφ hacc _).trans ?_
    rw [Finset.sum_range]
    exact Finset.sum_congr rfl fun k _ => get2_eq v _ _ _ (by rw [Shape.Reduces.lift_val]; rfl) (by rw [Shape.Reduces.lift_val]; rfl)

/-- A row stretched over the rows of a matrix. -/
theorem row_apply {R C : ℕ} (v : (⟨2, ![1, C]⟩ : Shape).Idx → EReal) (h : (⟨2, ![1, C]⟩ : Shape).Broadcasts ⟨2, ![R, C]⟩) (y : (⟨2, ![R, C]⟩ : Shape).Idx) :
    broadcastTo (⟨2, ![R, C]⟩ : Shape) v h y = get2 v 0 (y 1).val := by
  refine (broadcastTo_apply v h y (ix2 0 (y 1)) fun a => ?_).trans (get2_eq v _ _ _ rfl rfl)
  have h1 : (y 1).val < C := (y 1).isLt
  match a with
  | 0 => rfl
  | 1 => show (y 1).val = if C = 1 then 0 else (y 1).val; split <;> omega

/-- A column stretched over the columns of a matrix. -/
theorem col_apply {R C : ℕ} (v : (⟨2, ![R, 1]⟩ : Shape).Idx → EReal) (h : (⟨2, ![R, 1]⟩ : Shape).Broadcasts ⟨2, ![R, C]⟩) (y : (⟨2, ![R, C]⟩ : Shape).Idx) :
    broadcastTo (⟨2, ![R, C]⟩ : Shape) v h y = get2 v (y 0).val 0 := by
  refine (broadcastTo_apply v h y (ix2 (y 0) 0) fun a => ?_).trans (get2_eq v _ _ _ rfl rfl)
  have h0 : (y 0).val < R := (y 0).isLt
  match a with
  | 0 => show (y 0).val = if R = 1 then 0 else (y 0).val; split <;> omega
  | 1 => rfl

end Cert.Products
end
-- ==== Proof.Gates.lean ====
/-
  The gates' backward pass, 256 rows a point: the gradients of the two branches and of the gates' own columns block by
  block, and the gradients of the two biases and of the scale added up over the points. What the six arrays hold at the
  end is what the derivative of the plain gating gives; the kernel's half-tangent gate is the logistic function, and the
  projection's columns are looked up in the chips' parts.
-/
module

public import proofs.«01_k».proof.Defs
public import proofs.«01_k».proof.Proof.Parts
public import proofs.«01_k».proof.Proof.Rows
public import proofs.«01_k».proof.Proof.MixSums
public import proofs.«01_k».proof.Proof.Gen.GatesIdeal.Value
public import proofs.«01_k».proof.Proof.Gen.GatesRefIdeal.Run
public import proofs.«01_k».proof.Proof.Gen.GatesRefIdeal.Read

@[expose] public section

set_option maxRecDepth 16384

noncomputable section

namespace Cert.GatesIdeal.Prod

open Cert.GatesIdeal Cert.GatesIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- A gate at a row and a column, the gate's columns starting at column `o` of the projection, whose four parts lie side by side. -/
def gate {b : ℕ} (P : (⟨3, ![4, b, 1792]⟩ : Shape).Idx → EReal) (o r l : ℕ) : EReal :=
  Cert.KernelIdeal.Mix.sg (get3 P ((o + l) / 1792) r ((o + l) % 1792))

/-- The incoming gradient through one gate: at the first gate's branch, and, with the scale, at the second one's. -/
def dA {b : ℕ} (P : (⟨3, ![4, b, 1792]⟩ : Shape).Idx → EReal) (D : (⟨2, ![b, 2048]⟩ : Shape).Idx → EReal) (r l : ℕ) : EReal :=
  get2 D r l * gate P 3072 r l

def dB {b : ℕ} (P : (⟨3, ![4, b, 1792]⟩ : Shape).Idx → EReal) (D : (⟨2, ![b, 2048]⟩ : Shape).Idx → EReal) (r l : ℕ) : EReal :=
  get2 D r l * gate P 5120 r l

def dY {b : ℕ} (P : (⟨3, ![4, b, 1792]⟩ : Shape).Idx → EReal) (D : (⟨2, ![b, 2048]⟩ : Shape).Idx → EReal) (L : (⟨2, ![1, 2048]⟩ : Shape).Idx → EReal) (r l : ℕ) : EReal :=
  dB P D r l * get2 L 0 l

/-- What a row adds to the scale's gradient. -/
def dS {b : ℕ} (P : (⟨3, ![4, b, 1792]⟩ : Shape).Idx → EReal) (D Y : (⟨2, ![b, 2048]⟩ : Shape).Idx → EReal) (B : (⟨2, ![1, 2048]⟩ : Shape).Idx → EReal) (r l : ℕ) : EReal :=
  dB P D r l * (get2 Y r l + get2 B 0 l)

/-- The gradient at the two gates' columns, before the logistic. -/
def dG {b : ℕ} (P : (⟨3, ![4, b, 1792]⟩ : Shape).Idx → EReal) (D Y Z : (⟨2, ![b, 2048]⟩ : Shape).Idx → EReal) (A B L : (⟨2, ![1, 2048]⟩ : Shape).Idx → EReal)
    (r l : ℕ) : EReal :=
  if l < 2048 then get2 D r l * (get2 Y r l + get2 A 0 l) * gate P 3072 r l * (1 - gate P 3072 r l)
  else get2 D r (l - 2048) * ((get2 Z r (l - 2048) + get2 B 0 (l - 2048)) * get2 L 0 (l - 2048)) * gate P 5120 r (l - 2048) * (1 - gate P 5120 r (l - 2048))

section Body

variable (x0 : Vec Ideal S4x256x1792 .bf16) (x1 x2 x3 : Vec Ideal S256x2048 .bf16) (x4 x5 x6 : Vec Ideal S1x2048 .f32)

/-- The first gate, put together of the two parts its columns lie in … -/
def gA : FVec Ideal S256x2048 .f32 :=
  k0_pay6 (View.ld x0 (Rect.unit (s := S4x256x1792) ![1, 0, 1280] S1x256x512.size inb_S4x256x1792_S1x256x512_1_0_1280))
    (View.ld x0 (Rect.unit (s := S4x256x1792) ![2, 0, 0] S1x256x1536.size inb_S4x256x1792_S1x256x1536_2_0_0))

/-- … and the second. -/
def gB : FVec Ideal S256x2048 .f32 :=
  k0_pay7 (View.ld x0 (Rect.unit (s := S4x256x1792) ![2, 0, 1536] S1x256x256.size inb_S4x256x1792_S1x256x256_2_0_1536))
    (View.ld x0 (Rect.unit (s := S4x256x1792) ![3, 0, 0] S1x256x1792.size inb_S4x256x1792_S1x256x1792_3_0_0))

/-- A block read out of the projection's parts. -/
theorem read_part (p q w : ℕ) (inb : ∀ a, (![p, 0, q] : Fin 3 → ℕ) a + (⟨3, ![1, 256, w]⟩ : Shape).size a ≤ S4x256x1792.size a) (hc : (⟨3, ![1, 256, w]⟩ : Shape).ShapeCasts ⟨2, ![256, w]⟩)
    (r l : ℕ) (hr : r < 256) (hl : l < w) :
    get2 (shapeCast (⟨2, ![256, w]⟩ : Shape) (View.ld x0 (Rect.unit (s := S4x256x1792) ![p, 0, q] (⟨3, ![1, 256, w]⟩ : Shape).size inb)) hc) r l = get3 x0 p r (q + l) := by
  refine (get2_shapeCast _ hc r l).trans ?_
  refine (get3_of (a := 1) (b := 256) (c := w) _ (fun a r l => get3 x0 (p + a) r (q + l)) (fun y => ?_) Nat.one_pos hr hl)
  rw [View.ld_apply]
  refine get3_eq x0 _ _ _ _ ?_ ?_ ?_ <;> rw [Rect.idx_unit_val] <;> simp

theorem gA_apply (y : S256x2048.Idx) : gA x0 y = gate x0 3072 (y 0).val (y 1).val := by
  have y0 : (y 0).val < 256 := (y 0).isLt
  have y1 : (y 1).val < 2048 := (y 1).isLt
  unfold gA k0_pay6 gate
  refine congrArg Cert.KernelIdeal.Mix.sg ?_
  by_cases h : (y 1).val < 512
  · refine (cat_get2 _ _ y 0 (by show 0 < 2; omega) _ rfl 0 rfl (y 0).val (y 1).val h rfl (by omega)).trans ((read_part x0 1 1280 512 _ _ _ _ y0 h).trans ?_)
    congr 1 <;> omega
  · refine (cat_get2 _ _ y 1 (by show 1 < 2; omega) _ rfl 512 rfl (y 0).val ((y 1).val - 512) (by omega) rfl (by omega)).trans ((read_part x0 2 0 1536 _ _ _ _ y0 (by omega)).trans ?_)
    congr 1 <;> omega

theorem gB_apply (y : S256x2048.Idx) : gB x0 y = gate x0 5120 (y 0).val (y 1).val := by
  have y0 : (y 0).val < 256 := (y 0).isLt
  have y1 : (y 1).val < 2048 := (y 1).isLt
  unfold gB k0_pay7 gate
  refine congrArg Cert.KernelIdeal.Mix.sg ?_
  by_cases h : (y 1).val < 256
  · refine (cat_get2 _ _ y 0 (by show 0 < 2; omega) _ rfl 0 rfl (y 0).val (y 1).val h rfl (by omega)).trans ((read_part x0 2 1536 256 _ _ _ _ y0 h).trans ?_)
    congr 1 <;> omega
  · refine (cat_get2 _ _ y 1 (by show 1 < 2; omega) _ rfl 256 rfl (y 0).val ((y 1).val - 256) (by omega) rfl (by omega)).trans ((read_part x0 3 0 1792 _ _ _ _ y0 (by omega)).trans ?_)
    congr 1 <;> omega

theorem dA_apply (y : S256x2048.Idx) : k0_pay11 (gA x0) (k0_pay8 x1) y = dA x0 x1 (y 0).val (y 1).val :=
  congrArg₂ (· * ·) (get2_eq x1 y _ _ rfl rfl) (gA_apply x0 y)

theorem dB_apply (y : S256x2048.Idx) : k0_pay15 (gB x0) (k0_pay8 x1) y = dB x0 x1 (y 0).val (y 1).val :=
  congrArg₂ (· * ·) (get2_eq x1 y _ _ rfl rfl) (gB_apply x0 y)

theorem dY_apply (y : S256x2048.Idx) : k0_pay18 (gB x0) (k0_pay8 x1) x6 y = dY x0 x1 x6 (y 0).val (y 1).val :=
  congrArg₂ (· * ·) (dB_apply x0 x1 y) (row_apply x6 _ y)

theorem addA_apply (y : S256x2048.Idx) : k0_pay9 (F := Ideal) x2 x4 y = get2 x2 (y 0).val (y 1).val + get2 x4 0 (y 1).val :=
  congrArg₂ (· + ·) (get2_eq x2 y _ _ rfl rfl) (row_apply x4 _ y)

theorem addB_apply (y : S256x2048.Idx) : k0_pay10 (F := Ideal) x3 x5 y = get2 x3 (y 0).val (y 1).val + get2 x5 0 (y 1).val :=
  congrArg₂ (· + ·) (get2_eq x3 y _ _ rfl rfl) (row_apply x5 _ y)

theorem dS_apply (y : S256x2048.Idx) : (k0_pay15 (gB x0) (k0_pay8 x1) y : EReal) * k0_pay10 x3 x5 y = dS x0 x1 x3 x5 (y 0).val (y 1).val :=
  congrArg₂ (· * ·) (dB_apply x0 x1 y) (addB_apply x3 x5 y)

theorem dGA_apply (y : S256x2048.Idx) : k0_pay4 (gA x0) (k0_pay8 x1) (k0_pay9 x2 x4) y = dG x0 x1 x2 x3 x4 x5 x6 (y 0).val (y 1).val := by
  have y1 : (y 1).val < 2048 := (y 1).isLt
  unfold dG
  rw [if_pos y1]
  unfold k0_pay4
  rw [shapeCast_self]
  exact congrArg₂ (· * ·) (congrArg₂ (· * ·) (congrArg₂ (· * ·) (get2_eq x1 y _ _ rfl rfl) (addA_apply x2 x4 y)) (gA_apply x0 y))
    (congrArg₂ (· - ·) Ideal.ofBits_one_f32 (gA_apply x0 y))

theorem dGB_apply (y : S256x2048.Idx) : k0_pay5 (gB x0) (k0_pay8 x1) (k0_pay10 x3 x5) x6 y = dG x0 x1 x2 x3 x4 x5 x6 (y 0).val (2048 + (y 1).val) := by
  unfold dG
  rw [if_neg (by omega), Nat.add_sub_cancel_left]
  unfold k0_pay5
  rw [shapeCast_self]
  exact congrArg₂ (· * ·) (congrArg₂ (· * ·) (congrArg₂ (· * ·) (get2_eq x1 y _ _ rfl rfl) (congrArg₂ (· * ·) (addB_apply x3 x5 y) (row_apply x6 _ y))) (gB_apply x0 y))
    (congrArg₂ (· - ·) Ideal.ofBits_one_f32 (gB_apply x0 y))

/-- What a point leaves in the six outputs' buffers, of the blocks it reads and of what the three sums held before. -/
def outs (z0 z1 z2 : Vec Ideal S1x2048 .f32) : Vec Ideal S256x2048 .bf16 × Vec Ideal S256x2048 .bf16 × Vec Ideal S256x4096 .bf16 × Vec Ideal S1x2048 .f32 × Vec Ideal S1x2048 .f32 ×
    Vec Ideal S1x2048 .f32 :=
  (k0_pay12 (gA x0) (k0_pay8 x1), k0_pay1 (k0_pay18 (gB x0) (k0_pay8 x1) x6), fun y => dG x0 x1 x2 x3 x4 x5 x6 (y 0).val (y 1).val,
    k0_pay14 (gA x0) (k0_pay8 x1) z0, k0_pay17 (gB x0) (k0_pay8 x1) x3 x5 z1, k0_pay3 (k0_pay18 (gB x0) (k0_pay8 x1) x6) z2)

/-- The two halves of the gates' columns, stored one after the other, the later one first. -/
def halves : List (View.Piece (Elt Ideal) S256x4096 .bf16) :=
  [⟨Rect.unit (s := S256x4096) ![0, 2048] ![256, 2048] inb_S256x4096_S256x2048_0_2048, k0_pay5 (gB x0) (k0_pay8 x1) (k0_pay10 x3 x5) x6⟩,
    ⟨Rect.unit (s := S256x4096) ![0, 0] ![256, 2048] inb_S256x4096_S256x2048_0_0, k0_pay4 (gA x0) (k0_pay8 x1) (k0_pay9 x2 x4)⟩]

theorem halves_apply (y : S256x4096.Idx) : View.canon (halves x0 x1 x2 x3 x4 x5 x6) y = dG x0 x1 x2 x3 x4 x5 x6 (y 0).val (y 1).val := by
  refine View.canon_apply_of_pieces (Val := Elt Ideal) (S := S256x4096) (e := .bf16)
    (fun y : S256x4096.Idx => dG x0 x1 x2 x3 x4 x5 x6 (y 0).val (y 1).val) _ ?_ y (View.cover_of_tiled (halves x0 x1 x2 x3 x4 x5 x6) S256x2048.size (by rfl) y)
  intro p hp
  rcases List.mem_cons.mp hp with rfl | hp
  · intro x
    refine (dGB_apply x0 x1 x2 x3 x4 x5 x6 x).trans ?_
    dsimp only
    rw [emb_val, emb_val]
    congr 1 <;> simp
  rcases List.mem_cons.mp hp with rfl | hp
  · intro x
    refine (dGA_apply x0 x1 x2 x3 x4 x5 x6 x).trans ?_
    dsimp only
    rw [emb_val, emb_val]
    congr 1 <;> simp
  · cases hp

theorem sumA (z : Vec Ideal S1x2048 .f32) (y : S1x2048.Idx) :
    k0_pay14 (gA x0) (k0_pay8 x1) z y = z y + ∑ r ∈ Finset.range 256, dA x0 x1 r (y 1).val := by
  unfold k0_pay14
  rw [shapeCast_self]
  exact congrArg (z y + ·) ((rows_sum _ _ _ _ _ _ y).trans (Finset.sum_congr rfl fun r hr => get2_of _ (dA x0 x1) (dA_apply x0 x1) (Finset.mem_range.mp hr) (y 1).isLt))

theorem sumS (z : Vec Ideal S1x2048 .f32) (y : S1x2048.Idx) :
    k0_pay17 (gB x0) (k0_pay8 x1) x3 x5 z y = z y + ∑ r ∈ Finset.range 256, dS x0 x1 x3 x5 r (y 1).val := by
  unfold k0_pay17
  rw [shapeCast_self]
  exact congrArg (z y + ·) ((rows_sum _ _ _ _ _ _ y).trans (Finset.sum_congr rfl fun r hr => get2_of _ (dS x0 x1 x3 x5) (dS_apply x0 x1 x3 x5) (Finset.mem_range.mp hr) (y 1).isLt))

theorem sumY (z : Vec Ideal S1x2048 .f32) (y : S1x2048.Idx) :
    k0_pay3 (k0_pay18 (gB x0) (k0_pay8 x1) x6) z y = z y + ∑ r ∈ Finset.range 256, dY x0 x1 x6 r (y 1).val := by
  unfold k0_pay3
  rw [shapeCast_self]
  exact congrArg (z y + ·) ((rows_sum _ _ _ _ _ _ y).trans (Finset.sum_congr rfl fun r hr => get2_of _ (dY x0 x1 x6) (dY_apply x0 x1 x6) (Finset.mem_range.mp hr) (y 1).isLt))

end Body

section Cases

variable (c : Dev nD) (i : grid0.Coords) (a1 : Memref sig .tc .vmem S4x256x1792 .bf16) (h1 : a1.IsWhole) (a2 : Memref sig .tc .vmem S256x2048 .bf16) (h2 : a2.IsWhole)
  (a3 : Memref sig .tc .vmem S256x2048 .bf16) (h3 : a3.IsWhole) (a4 : Memref sig .tc .vmem S256x2048 .bf16) (h4 : a4.IsWhole) (a5 : Memref sig .tc .vmem S1x2048 .f32) (h5 : a5.IsWhole)
  (a6 : Memref sig .tc .vmem S1x2048 .f32) (h6 : a6.IsWhole) (a7 : Memref sig .tc .vmem S1x2048 .f32) (h7 : a7.IsWhole) (a8 : Memref sig .tc .vmem S256x2048 .bf16) (h8 : a8.IsWhole)
  (a9 : Memref sig .tc .vmem S256x2048 .bf16) (h9 : a9.IsWhole) (a10 : Memref sig .tc .vmem S256x4096 .bf16) (h10 : a10.IsWhole) (a11 : Memref sig .tc .vmem S1x2048 .f32) (h11 : a11.IsWhole)
  (a12 : Memref sig .tc .vmem S1x2048 .f32) (h12 : a12.IsWhole) (a13 : Memref sig .tc .vmem S1x2048 .f32) (h13 : a13.IsWhole)
  (x0 : Vec Ideal S4x256x1792 .bf16) (x1 x2 x3 : Vec Ideal S256x2048 .bf16) (x4 x5 x6 : Vec Ideal S1x2048 .f32) (y10 y11 y12 : Vec Ideal S1x2048 .f32)

/-- The first point starts the three sums from zero … -/
theorem caseA (hc0 : cond0_0 i) (hc1 : cond0_1 i) (hc2 : cond0_2 i) :
    (out0_A_7 c i a1 h1 a2 h2 a3 h3 a4 h4 a5 h5 a6 h6 a7 h7 a8 h8 a9 h9 a10 h10 a11 h11 a12 h12 a13 h13 hc0 hc1 hc2 x0 x1 x2 x3 x4 x5 x6,
      out0_A_8 c i a1 h1 a2 h2 a3 h3 a4 h4 a5 h5 a6 h6 a7 h7 a8 h8 a9 h9 a10 h10 a11 h11 a12 h12 a13 h13 hc0 hc1 hc2 x0 x1 x2 x3 x4 x5 x6,
      out0_A_9 c i a1 h1 a2 h2 a3 h3 a4 h4 a5 h5 a6 h6 a7 h7 a8 h8 a9 h9 a10 h10 a11 h11 a12 h12 a13 h13 hc0 hc1 hc2 x0 x1 x2 x3 x4 x5 x6,
      out0_A_10 c i a1 h1 a2 h2 a3 h3 a4 h4 a5 h5 a6 h6 a7 h7 a8 h8 a9 h9 a10 h10 a11 h11 a12 h12 a13 h13 hc0 hc1 hc2 x0 x1 x2 x3 x4 x5 x6,
      out0_A_11 c i a1 h1 a2 h2 a3 h3 a4 h4 a5 h5 a6 h6 a7 h7 a8 h8 a9 h9 a10 h10 a11 h11 a12 h12 a13 h13 hc0 hc1 hc2 x0 x1 x2 x3 x4 x5 x6,
      out0_A_12 c i a1 h1 a2 h2 a3 h3 a4 h4 a5 h5 a6 h6 a7 h7 a8 h8 a9 h9 a10 h10 a11 h11 a12 h12 a13 h13 hc0 hc1 hc2 x0 x1 x2 x3 x4 x5 x6)
      = outs x0 x1 x2 x3 x4 x5 x6 (k0_pay13 (F := Ideal)) (k0_pay16 (F := Ideal)) (k0_pay2 (F := Ideal)) := by
  unfold out0_A_7 out0_A_8 out0_A_9 out0_A_10 out0_A_11 out0_A_12
  refine Prod.ext ?_ (Prod.ext ?_ (Prod.ext ?_ (Prod.ext ?_ (Prod.ext ?_ ?_))))
  all_goals dsimp only
  on_goal 1 => rw [View.read_writes_eq_canon _ _ _ (cover0_A_7 c i a1 h1 a2 h2 a3 h3 a4 h4 a5 h5 a6 h6 a7 h7 a8 h8 a9 h9 a10 h10 a11 h11 a12 h12 a13 h13 hc0 hc1 hc2 x0 x1 x2 x3 x4 x5 x6)]
  on_goal 2 => rw [View.read_writes_eq_canon _ _ _ (cover0_A_8 c i a1 h1 a2 h2 a3 h3 a4 h4 a5 h5 a6 h6 a7 h7 a8 h8 a9 h9 a10 h10 a11 h11 a12 h12 a13 h13 hc0 hc1 hc2 x0 x1 x2 x3 x4 x5 x6)]
  on_goal 3 => rw [View.read_writes_eq_canon _ _ _ (cover0_A_9 c i a1 h1 a2 h2 a3 h3 a4 h4 a5 h5 a6 h6 a7 h7 a8 h8 a9 h9 a10 h10 a11 h11 a12 h12 a13 h13 hc0 hc1 hc2 x0 x1 x2 x3 x4 x5 x6)]
  on_goal 4 => rw [View.read_writes_eq_canon _ _ _ (cover0_A_10 c i a1 h1 a2 h2 a3 h3 a4 h4 a5 h5 a6 h6 a7 h7 a8 h8 a9 h9 a10 h10 a11 h11 a12 h12 a13 h13 hc0 hc1 hc2 x0 x1 x2 x3 x4 x5 x6)]
  on_goal 5 => rw [View.read_writes_eq_canon _ _ _ (cover0_A_11 c i a1 h1 a2 h2 a3 h3 a4 h4 a5 h5 a6 h6 a7 h7 a8 h8 a9 h9 a10 h10 a11 h11 a12 h12 a13 h13 hc0 hc1 hc2 x0 x1 x2 x3 x4 x5 x6)]
  on_goal 6 => rw [View.read_writes_eq_canon _ _ _ (cover0_A_12 c i a1 h1 a2 h2 a3 h3 a4 h4 a5 h5 a6 h6 a7 h7 a8 h8 a9 h9 a10 h10 a11 h11 a12 h12 a13 h13 hc0 hc1 hc2 x0 x1 x2 x3 x4 x5 x6)]
  all_goals
    unfold kernelRun0_A
    dsimp only
    sl_unfold_run_names
    try rw [View.canon_cons_unit_zero (S := S1x2048) hz, View.readCov_unit_zero (S := S1x2048) _ hz]
    simp only [View.canon_unit_zero (S := S256x2048) hz, View.readAt_eq_ld, h1.read_unread, h2.read_unread, h3.read_unread, h4.read_unread, h5.read_unread, h6.read_unread,
      h7.read_unread, h11.read_unread, h12.read_unread, h13.read_unread, View.ld_unit_zero (S := S256x2048) hz, View.ld_unit_zero (S := S1x2048) hz]
  on_goal 3 => exact funext (halves_apply x0 x1 x2 x3 x4 x5 x6)
  all_goals rfl

/-- … and a later one adds to what they hold. -/
theorem caseB (hc0 : ¬cond0_0 i) (hc1 : ¬cond0_1 i) (hc2 : ¬cond0_2 i) :
    (out0_B_7 c i a1 h1 a2 h2 a3 h3 a4 h4 a5 h5 a6 h6 a7 h7 a8 h8 a9 h9 a10 h10 a11 h11 a12 h12 a13 h13 hc0 hc1 hc2 x0 x1 x2 x3 x4 x5 x6 y10 y11 y12,
      out0_B_8 c i a1 h1 a2 h2 a3 h3 a4 h4 a5 h5 a6 h6 a7 h7 a8 h8 a9 h9 a10 h10 a11 h11 a12 h12 a13 h13 hc0 hc1 hc2 x0 x1 x2 x3 x4 x5 x6 y10 y11 y12,
      out0_B_9 c i a1 h1 a2 h2 a3 h3 a4 h4 a5 h5 a6 h6 a7 h7 a8 h8 a9 h9 a10 h10 a11 h11 a12 h12 a13 h13 hc0 hc1 hc2 x0 x1 x2 x3 x4 x5 x6 y10 y11 y12,
      out0_B_10 c i a1 h1 a2 h2 a3 h3 a4 h4 a5 h5 a6 h6 a7 h7 a8 h8 a9 h9 a10 h10 a11 h11 a12 h12 a13 h13 hc0 hc1 hc2 x0 x1 x2 x3 x4 x5 x6 y10 y11 y12,
      out0_B_11 c i a1 h1 a2 h2 a3 h3 a4 h4 a5 h5 a6 h6 a7 h7 a8 h8 a9 h9 a10 h10 a11 h11 a12 h12 a13 h13 hc0 hc1 hc2 x0 x1 x2 x3 x4 x5 x6 y10 y11 y12,
      out0_B_12 c i a1 h1 a2 h2 a3 h3 a4 h4 a5 h5 a6 h6 a7 h7 a8 h8 a9 h9 a10 h10 a11 h11 a12 h12 a13 h13 hc0 hc1 hc2 x0 x1 x2 x3 x4 x5 x6 y10 y11 y12)
      = outs x0 x1 x2 x3 x4 x5 x6 y10 y11 y12 := by
  unfold out0_B_7 out0_B_8 out0_B_9 out0_B_10 out0_B_11 out0_B_12
  refine Prod.ext ?_ (Prod.ext ?_ (Prod.ext ?_ (Prod.ext ?_ (Prod.ext ?_ ?_))))
  all_goals dsimp only
  on_goal 1 => rw [View.read_writes_eq_canon _ _ _ (cover0_B_7 c i a1 h1 a2 h2 a3 h3 a4 h4 a5 h5 a6 h6 a7 h7 a8 h8 a9 h9 a10 h10 a11 h11 a12 h12 a13 h13 hc0 hc1 hc2 x0 x1 x2 x3 x4 x5 x6 y10 y11 y12)]
  on_goal 2 => rw [View.read_writes_eq_canon _ _ _ (cover0_B_8 c i a1 h1 a2 h2 a3 h3 a4 h4 a5 h5 a6 h6 a7 h7 a8 h8 a9 h9 a10 h10 a11 h11 a12 h12 a13 h13 hc0 hc1 hc2 x0 x1 x2 x3 x4 x5 x6 y10 y11 y12)]
  on_goal 3 => rw [View.read_writes_eq_canon _ _ _ (cover0_B_9 c i a1 h1 a2 h2 a3 h3 a4 h4 a5 h5 a6 h6 a7 h7 a8 h8 a9 h9 a10 h10 a11 h11 a12 h12 a13 h13 hc0 hc1 hc2 x0 x1 x2 x3 x4 x5 x6 y10 y11 y12)]
  on_goal 4 => rw [View.read_writes_eq_canon _ _ _ (cover0_B_10 c i a1 h1 a2 h2 a3 h3 a4 h4 a5 h5 a6 h6 a7 h7 a8 h8 a9 h9 a10 h10 a11 h11 a12 h12 a13 h13 hc0 hc1 hc2 x0 x1 x2 x3 x4 x5 x6 y10 y11 y12)]
  on_goal 5 => rw [View.read_writes_eq_canon _ _ _ (cover0_B_11 c i a1 h1 a2 h2 a3 h3 a4 h4 a5 h5 a6 h6 a7 h7 a8 h8 a9 h9 a10 h10 a11 h11 a12 h12 a13 h13 hc0 hc1 hc2 x0 x1 x2 x3 x4 x5 x6 y10 y11 y12)]
  on_goal 6 => rw [View.read_writes_eq_canon _ _ _ (cover0_B_12 c i a1 h1 a2 h2 a3 h3 a4 h4 a5 h5 a6 h6 a7 h7 a8 h8 a9 h9 a10 h10 a11 h11 a12 h12 a13 h13 hc0 hc1 hc2 x0 x1 x2 x3 x4 x5 x6 y10 y11 y12)]
  all_goals
    unfold kernelRun0_B
    dsimp only
    sl_unfold_run_names
    try rw [View.canon_unit_zero (S := S1x2048) hz]
    simp only [View.canon_unit_zero (S := S256x2048) hz, View.readAt_eq_ld, h1.read_unread, h2.read_unread, h3.read_unread, h4.read_unread, h5.read_unread, h6.read_unread,
      h7.read_unread, h11.read_unread, h12.read_unread, h13.read_unread, View.ld_unit_zero (S := S256x2048) hz, View.ld_unit_zero (S := S1x2048) hz]
  on_goal 3 => exact funext (halves_apply x0 x1 x2 x3 x4 x5 x6)
  all_goals rfl

end Cases

/-- Where the windows' blocks lie. -/
theorem idx : ∀ t : Fin cfg0.N, t.val < 16 ∧ win0_0.index t = ![0, t.val, 0] ∧ win0_1.index t = ![t.val, 0] ∧ win0_2.index t = ![t.val, 0] ∧ win0_3.index t = ![t.val, 0] ∧
    win0_4.index t = ![0, 0] ∧ win0_5.index t = ![0, 0] ∧ win0_6.index t = ![0, 0] ∧ win0_7.index t = ![t.val, 0] ∧ win0_8.index t = ![t.val, 0] ∧
    win0_9.index t = ![t.val, 0] ∧ win0_10.index t = ![0, 0] ∧ win0_11.index t = ![0, 0] ∧ win0_12.index t = ![0, 0] :=
  (by decide +kernel : ∀ t : Fin grid0.N, _)

/-- The argument arrays. -/
abbrev arP (c : Dev nD) : S4x4096x1792.Idx → EReal := m ((c : Thread nD τ).loc main_arg0)
abbrev arD (c : Dev nD) : S4096x2048.Idx → EReal := m ((c : Thread nD τ).loc main_arg1)
abbrev arY (c : Dev nD) : S4096x2048.Idx → EReal := m ((c : Thread nD τ).loc main_arg2)
abbrev arZ (c : Dev nD) : S4096x2048.Idx → EReal := m ((c : Thread nD τ).loc main_arg3)
abbrev arA (c : Dev nD) : S1x2048.Idx → EReal := m ((c : Thread nD τ).loc main_arg4)
abbrev arB (c : Dev nD) : S1x2048.Idx → EReal := m ((c : Thread nD τ).loc main_arg5)
abbrev arL (c : Dev nD) : S1x2048.Idx → EReal := m ((c : Thread nD τ).loc main_arg6)

section Blocks

variable (c : Dev nD) (t : Fin cfg0.N) (r l : ℕ) (hr : r < 256) (hl : l < 2048)

theorem w0_eq (y : S4x256x1792.Idx) : iblk m c 0 t y = get3 (arP m c) (y 0).val (256 * t.val + (y 1).val) (y 2).val := by
  obtain ⟨ht, e0, -⟩ := idx t
  unfold iblk
  blk_simp [e0]
  refine get3_eq (arP m c) _ _ _ _ ?_ ?_ ?_ <;> blk_simp [e0] <;> (try simp) <;> omega

theorem w1_eq (y : S256x2048.Idx) : iblk m c 1 t y = get2 (arD m c) (256 * t.val + (y 0).val) (y 1).val := by
  obtain ⟨ht, -, e1, -⟩ := idx t
  unfold iblk
  blk_simp [e1]
  refine get2_eq (arD m c) _ _ _ ?_ ?_ <;> blk_simp [e1] <;> (try simp) <;> omega

theorem w2_eq (y : S256x2048.Idx) : iblk m c 2 t y = get2 (arY m c) (256 * t.val + (y 0).val) (y 1).val := by
  obtain ⟨ht, -, -, e2, -⟩ := idx t
  unfold iblk
  blk_simp [e2]
  refine get2_eq (arY m c) _ _ _ ?_ ?_ <;> blk_simp [e2] <;> (try simp) <;> omega

theorem w3_eq (y : S256x2048.Idx) : iblk m c 3 t y = get2 (arZ m c) (256 * t.val + (y 0).val) (y 1).val := by
  obtain ⟨ht, -, -, -, e3, -⟩ := idx t
  unfold iblk
  blk_simp [e3]
  refine get2_eq (arZ m c) _ _ _ ?_ ?_ <;> blk_simp [e3] <;> (try simp) <;> omega

/-- The three rows are read whole. -/
theorem rows_eq : iblk m c 4 t = arA m c ∧ iblk m c 5 t = arB m c ∧ iblk m c 6 t = arL m c := by
  obtain ⟨ht, -, -, -, -, e4, e5, e6, -⟩ := idx t
  unfold iblk
  refine ⟨funext fun y => ?_, funext fun y => ?_, funext fun y => ?_⟩
  · blk_simp [e4]
    exact congrArg (arA m c) (funext fun a => by match a with | 0 => exact Fin.ext (by blk_simp [e4]) | 1 => exact Fin.ext (by blk_simp [e4]))
  · blk_simp [e5]
    exact congrArg (arB m c) (funext fun a => by match a with | 0 => exact Fin.ext (by blk_simp [e5]) | 1 => exact Fin.ext (by blk_simp [e5]))
  · blk_simp [e6]
    exact congrArg (arL m c) (funext fun a => by match a with | 0 => exact Fin.ext (by blk_simp [e6]) | 1 => exact Fin.ext (by blk_simp [e6]))

include hr hl

theorem gate_blk (o : ℕ) (ho : o ≤ 5120) : gate (b := 256) (iblk m c 0 t) o r l = gate (arP m c) o (256 * t.val + r) l :=
  congrArg Cert.KernelIdeal.Mix.sg (get3_of (iblk m c 0 t) (fun p r l => get3 (arP m c) p (256 * t.val + r) l) (w0_eq m c t) (by omega) hr (by omega))

theorem dA_blk : dA (b := 256) (iblk m c 0 t) (iblk m c 1 t) r l = dA (arP m c) (arD m c) (256 * t.val + r) l :=
  congrArg₂ (· * ·) (get2_of (iblk m c 1 t) (fun r l => get2 (arD m c) (256 * t.val + r) l) (w1_eq m c t) hr hl) (gate_blk m c t r l hr hl 3072 (by omega))

theorem dB_blk : dB (b := 256) (iblk m c 0 t) (iblk m c 1 t) r l = dB (arP m c) (arD m c) (256 * t.val + r) l :=
  congrArg₂ (· * ·) (get2_of (iblk m c 1 t) (fun r l => get2 (arD m c) (256 * t.val + r) l) (w1_eq m c t) hr hl) (gate_blk m c t r l hr hl 5120 (by omega))

theorem dY_blk : dY (b := 256) (iblk m c 0 t) (iblk m c 1 t) (iblk m c 6 t) r l = dY (arP m c) (arD m c) (arL m c) (256 * t.val + r) l := by
  rw [(rows_eq m c t).2.2]
  exact congrArg (· * get2 (arL m c) 0 l) (dB_blk m c t r l hr hl)

theorem dS_blk : dS (b := 256) (iblk m c 0 t) (iblk m c 1 t) (iblk m c 3 t) (iblk m c 5 t) r l = dS (arP m c) (arD m c) (arZ m c) (arB m c) (256 * t.val + r) l := by
  rw [(rows_eq m c t).2.1]
  exact congrArg₂ (· * ·) (dB_blk m c t r l hr hl)
    (congrArg (· + get2 (arB m c) 0 l) (get2_of (iblk m c 3 t) (fun r l => get2 (arZ m c) (256 * t.val + r) l) (w3_eq m c t) hr hl))

omit hl in
theorem dG_blk (hl : l < 4096) : dG (b := 256) (iblk m c 0 t) (iblk m c 1 t) (iblk m c 2 t) (iblk m c 3 t) (iblk m c 4 t) (iblk m c 5 t) (iblk m c 6 t) r l
    = dG (arP m c) (arD m c) (arY m c) (arZ m c) (arA m c) (arB m c) (arL m c) (256 * t.val + r) l := by
  obtain ⟨e4, e5, e6⟩ := rows_eq m c t
  rw [e4, e5, e6]
  unfold dG
  by_cases h : l < 2048
  · rw [if_pos h, if_pos h, gate_blk m c t r l hr h 3072 (by omega), get2_of (iblk m c 1 t) (fun r l => get2 (arD m c) (256 * t.val + r) l) (w1_eq m c t) hr h,
      get2_of (iblk m c 2 t) (fun r l => get2 (arY m c) (256 * t.val + r) l) (w2_eq m c t) hr h]
  · have h' : l - 2048 < 2048 := by omega
    rw [if_neg h, if_neg h, gate_blk m c t r _ hr h' 5120 (by omega), get2_of (iblk m c 1 t) (fun r l => get2 (arD m c) (256 * t.val + r) l) (w1_eq m c t) hr h',
      get2_of (iblk m c 3 t) (fun r l => get2 (arZ m c) (256 * t.val + r) l) (w3_eq m c t) hr h']

end Blocks

/-- What a point leaves: the blocks it computes, and the sums continued from somewhere. -/
theorem outsAt (c : Dev nD) (t : Fin cfg0.N) : ∃ z0 z1 z2, outsAt0 m c t.val t.isLt
    = outs (iblk m c 0 t) (iblk m c 1 t) (iblk m c 2 t) (iblk m c 3 t) (iblk m c 4 t) (iblk m c 5 t) (iblk m c 6 t) z0 z1 z2 := by
  by_cases h : t.val % 16 = 0
  · exact ⟨_, _, _, (outsAt0_A m c t h h h).trans (caseA c _ _ _ _ _ _ _ _ _ _ _ _ _ _ _ _ _ _ _ _ _ _ _ _ _ _ _ _ _ _ _ _ _ _ _ _ _)⟩
  · exact ⟨_, _, _, (outsAt0_B m c t h h h).trans (caseB c _ _ _ _ _ _ _ _ _ _ _ _ _ _ _ _ _ _ _ _ _ _ _ _ _ _ _ _ _ _ _ _ _ _ _ _ _ _ _ _)⟩

/-- The three sums after point `t`: all rows up to the end of its block. -/
theorem sums (c : Dev nD) (y : S1x2048.Idx) : ∀ (t : ℕ) (ht : t < cfg0.N),
    (outsAt0 m c t ht).2.2.2.1 y = ∑ r ∈ Finset.range (256 * t + 256), dA (arP m c) (arD m c) r (y 1).val
    ∧ (outsAt0 m c t ht).2.2.2.2.1 y = ∑ r ∈ Finset.range (256 * t + 256), dS (arP m c) (arD m c) (arZ m c) (arB m c) r (y 1).val
    ∧ (outsAt0 m c t ht).2.2.2.2.2 y = ∑ r ∈ Finset.range (256 * t + 256), dY (arP m c) (arD m c) (arL m c) r (y 1).val := by
  have hy : (y 1).val < 2048 := (y 1).isLt
  have hA : ∀ t : Fin cfg0.N, ∑ r ∈ Finset.range 256, dA (b := 256) (iblk m c 0 t) (iblk m c 1 t) r (y 1).val
      = ∑ r ∈ Finset.range 256, dA (arP m c) (arD m c) (256 * t.val + r) (y 1).val :=
    fun t => Finset.sum_congr rfl fun r hr => dA_blk m c t r _ (Finset.mem_range.mp hr) hy
  have hS : ∀ t : Fin cfg0.N, ∑ r ∈ Finset.range 256, dS (b := 256) (iblk m c 0 t) (iblk m c 1 t) (iblk m c 3 t) (iblk m c 5 t) r (y 1).val
      = ∑ r ∈ Finset.range 256, dS (arP m c) (arD m c) (arZ m c) (arB m c) (256 * t.val + r) (y 1).val :=
    fun t => Finset.sum_congr rfl fun r hr => dS_blk m c t r _ (Finset.mem_range.mp hr) hy
  have hY : ∀ t : Fin cfg0.N, ∑ r ∈ Finset.range 256, dY (b := 256) (iblk m c 0 t) (iblk m c 1 t) (iblk m c 6 t) r (y 1).val
      = ∑ r ∈ Finset.range 256, dY (arP m c) (arD m c) (arL m c) (256 * t.val + r) (y 1).val :=
    fun t => Finset.sum_congr rfl fun r hr => dY_blk m c t r _ (Finset.mem_range.mp hr) hy
  intro t
  induction t with
  | zero =>
    intro ht
    rw [show outsAt0 m c 0 ht = _ from (outsAt0_A m c ⟨0, ht⟩ rfl rfl rfl).trans (caseA c _ _ _ _ _ _ _ _ _ _ _ _ _ _ _ _ _ _ _ _ _ _ _ _ _ _ _ _ _ _ _ _ _ _ _ _ _)]
    unfold outs
    dsimp only
    rw [sumA, sumS, sumY, hA, hS, hY]
    have hz : (FloatOps.ofBits .f32 0x00000000#32 : Ideal .f32) = 0 := Ideal.ofBits_zero_f32
    refine ⟨(congrArg (· + _) hz).trans ?_, (congrArg (· + _) hz).trans ?_, (congrArg (· + _) hz).trans ?_⟩ <;> simp
  | succ t ih =>
    intro ht
    have h : ¬(t + 1) % 16 = 0 := by
      have hN : t + 1 < 16 := ht
      omega
    obtain ⟨i0, i1, i2⟩ := ih (Nat.lt_of_succ_lt ht)
    rw [show outsAt0 m c (t + 1) ht = _ from (outsAt0_B m c ⟨t + 1, ht⟩ h h h).trans
      (caseB c _ _ _ _ _ _ _ _ _ _ _ _ _ _ _ _ _ _ _ _ _ _ _ _ _ _ _ _ _ _ _ _ _ _ _ _ _ _ _ _)]
    unfold outs
    dsimp only [Nat.add_sub_cancel]
    rw [sumA, sumS, sumY, hA, hS, hY]
    dsimp only
    rw [show 256 * (t + 1) = 256 * t + 256 by omega]
    exact ⟨(congrArg (· + _) i0).trans (Finset.sum_range_add _ _ _).symm, (congrArg (· + _) i1).trans (Finset.sum_range_add _ _ _).symm,
      (congrArg (· + _) i2).trans (Finset.sum_range_add _ _ _).symm⟩

/-- The six result arrays, of the argument arrays: the two branches' gradients … -/
theorem final7 (c : Dev nD) : (dats m 0 c).arrAt 7 cfg0.N = fun y : S4096x2048.Idx => dA (arP m c) (arD m c) (y 0).val (y 1).val := by
  refine (dats m 0 c).arrAt_eq_of_covers 7 _ (by decide +kernel) fun t hf y => ?_
  obtain ⟨ht, -, -, -, -, -, -, -, e7, -⟩ := idx t
  obtain ⟨z0, z1, z2, hz⟩ := outsAt m c t
  have y0 : (y 0).val < 256 := (y 0).isLt
  blk_simp
  rw [after0_7, hz]
  unfold outs k0_pay12
  dsimp only
  rw [shapeCast_self]
  refine (dA_apply _ _ y).trans ((dA_blk m c t (y 0).val (y 1).val y0 (y 1).isLt).trans ?_)
  congr 1 <;> blk_simp [e7] <;> (try simp) <;> omega

theorem final8 (c : Dev nD) : (dats m 0 c).arrAt 8 cfg0.N = fun y : S4096x2048.Idx => dY (arP m c) (arD m c) (arL m c) (y 0).val (y 1).val := by
  refine (dats m 0 c).arrAt_eq_of_covers 8 _ (by decide +kernel) fun t hf y => ?_
  obtain ⟨ht, -, -, -, -, -, -, -, -, e8, -⟩ := idx t
  obtain ⟨z0, z1, z2, hz⟩ := outsAt m c t
  have y0 : (y 0).val < 256 := (y 0).isLt
  blk_simp
  rw [after0_8, hz]
  unfold outs k0_pay1
  dsimp only
  rw [shapeCast_self]
  refine (dY_apply _ _ _ y).trans ((dY_blk m c t (y 0).val (y 1).val y0 (y 1).isLt).trans ?_)
  congr 1 <;> blk_simp [e8] <;> (try simp) <;> omega

/-- … the gates' columns' … -/
theorem final9 (c : Dev nD) : (dats m 0 c).arrAt 9 cfg0.N
    = fun y : S4096x4096.Idx => dG (arP m c) (arD m c) (arY m c) (arZ m c) (arA m c) (arB m c) (arL m c) (y 0).val (y 1).val := by
  refine (dats m 0 c).arrAt_eq_of_covers 9 _ (by decide +kernel) fun t hf y => ?_
  obtain ⟨ht, -, -, -, -, -, -, -, -, -, e9, -⟩ := idx t
  obtain ⟨z0, z1, z2, hz⟩ := outsAt m c t
  have y0 : (y 0).val < 256 := (y 0).isLt
  blk_simp
  rw [after0_9, hz]
  unfold outs
  dsimp only
  refine (dG_blk m c t (y 0).val (y 1).val y0 (y 1).isLt).trans ?_
  congr 1 <;> blk_simp [e9] <;> (try simp) <;> omega

/-- … and the three sums, written back at the last point. -/
theorem final10 (c : Dev nD) : (dats m 0 c).arrAt 10 cfg0.N = fun y : S1x2048.Idx => ∑ r ∈ Finset.range 4096, dA (arP m c) (arD m c) r (y 1).val := by
  refine (dats m 0 c).arrAt_eq_of_covers 10 _ (by decide +kernel) fun t hf y => ?_
  have hm : t.val % 16 = 15 := (flush0_10 t).mp hf
  obtain ⟨ht, -, -, -, -, -, -, -, -, -, -, e, -⟩ := idx t
  blk_simp
  rw [after0_10]
  refine ((sums m c y t.val t.isLt).1).trans ?_
  rw [show 256 * t.val + 256 = 4096 by omega]
  congr 2; funext r; congr 1; blk_simp [e]; try simp

theorem final11 (c : Dev nD) : (dats m 0 c).arrAt 11 cfg0.N
    = fun y : S1x2048.Idx => ∑ r ∈ Finset.range 4096, dS (arP m c) (arD m c) (arZ m c) (arB m c) r (y 1).val := by
  refine (dats m 0 c).arrAt_eq_of_covers 11 _ (by decide +kernel) fun t hf y => ?_
  have hm : t.val % 16 = 15 := (flush0_11 t).mp hf
  obtain ⟨ht, -, -, -, -, -, -, -, -, -, -, -, e, -⟩ := idx t
  blk_simp
  rw [after0_11]
  refine ((sums m c y t.val t.isLt).2.1).trans ?_
  rw [show 256 * t.val + 256 = 4096 by omega]
  congr 2; funext r; congr 1; blk_simp [e]; try simp

theorem final12 (c : Dev nD) : (dats m 0 c).arrAt 12 cfg0.N
    = fun y : S1x2048.Idx => ∑ r ∈ Finset.range 4096, dY (arP m c) (arD m c) (arL m c) r (y 1).val := by
  refine (dats m 0 c).arrAt_eq_of_covers 12 _ (by decide +kernel) fun t hf y => ?_
  have hm : t.val % 16 = 15 := (flush0_12 t).mp hf
  obtain ⟨ht, -, -, -, -, -, -, -, -, -, -, -, -, e⟩ := idx t
  blk_simp
  rw [after0_12]
  refine ((sums m c y t.val t.isLt).2.2).trans ?_
  rw [show 256 * t.val + 256 = 4096 by omega]
  congr 2; funext r; congr 1; blk_simp [e]; try simp

end Cert.GatesIdeal.Prod

namespace Cert.Products

open Idealize.ShloMosaic Idealize.ShloMosaic.TcCoe Idealize.SL.Sem Cert.GatesRefIdeal.Read Cert.GatesIdeal.Prod

section Ref

variable (P : (⟨3, ![4, 4096, 1792]⟩ : Shape).Idx → EReal) (D Y Z : (⟨2, ![4096, 2048]⟩ : Shape).Idx → EReal) (A B L : (⟨2, ![1, 2048]⟩ : Shape).Idx → EReal)

/-- The reference's gates, at an element. -/
theorem gates_ref (y : (⟨2, ![4096, 4096]⟩ : Shape).Idx) : val_main_v18 (F := Ideal) P y = gate P 3072 (y 0).val (y 1).val := by
  rw [val_main_v18_apply, val_main_v17_apply, val_main_cst_0_apply, val_main_v16_apply, val_main_v15_apply, val_main_cst_apply, val_main_v14_apply, val_main_v13_apply, val_main_v10_apply]
  have h1 : (FloatOps.ofBits .f32 0x3F800000#32 : Ideal .f32) = 1 := Ideal.ofBits_one_f32
  have h9 : val_main_v9 (F := Ideal) P y = get3 P ((3072 + (y 1).val) / 1792) (y 0).val ((3072 + (y 1).val) % 1792) := by
    rw [val_main_v9_apply]
    exact cat_parts (t := 7168) (by decide) (by decide) P _ _ _ _ _ Cert.GatesRefIdeal.Facts₀.concatenates_S4096x1792_S4096x1792_S4096x1792_S4096x1792_S4096x7168_d1 _ _ (3072 + (y 1).val) rfl rfl
  rw [h1]
  unfold gate
  rw [← h9]
  exact Cert.KernelIdeal.Mix.logistic_eq _

theorem gateA_ref (y : (⟨2, ![4096, 2048]⟩ : Shape).Idx) : val_main_v22 (F := Ideal) P y = gate P 3072 (y 0).val (y 1).val := by
  rw [val_main_v22_apply, gates_ref]

theorem gateB_ref (y : (⟨2, ![4096, 2048]⟩ : Shape).Idx) : val_main_v23 (F := Ideal) P y = gate P 5120 (y 0).val (y 1).val := by
  rw [val_main_v23_apply, gates_ref]
  show gate P 3072 (y 0).val (2048 + (y 1).val) = _
  unfold gate
  rw [show 3072 + (2048 + (y 1).val) = 5120 + (y 1).val by omega]

theorem dA_ref (y : (⟨2, ![4096, 2048]⟩ : Shape).Idx) : val_main_v43 (F := Ideal) P D y = dA P D (y 0).val (y 1).val := by
  rw [val_main_v43_apply, val_main_v33_apply, gateA_ref]
  exact (mul_comm _ _).trans (congrArg (· * gate P 3072 (y 0).val (y 1).val) (get2_eq D y _ _ rfl rfl))

theorem dB_ref (y : (⟨2, ![4096, 2048]⟩ : Shape).Idx) : val_main_v34 (F := Ideal) P D y = dB P D (y 0).val (y 1).val := by
  rw [val_main_v34_apply, val_main_v33_apply, gateB_ref]
  exact (mul_comm _ _).trans (congrArg (· * gate P 5120 (y 0).val (y 1).val) (get2_eq D y _ _ rfl rfl))

theorem dY_ref (y : (⟨2, ![4096, 2048]⟩ : Shape).Idx) : val_main_v40 (F := Ideal) P D L y = dY P D L (y 0).val (y 1).val := by
  rw [val_main_v40_apply, val_main_v39_apply, dB_ref]
  exact congrArg (dB P D (y 0).val (y 1).val * ·) (get2_eq L _ _ _ rfl rfl)

theorem addA_ref (y : (⟨2, ![4096, 2048]⟩ : Shape).Idx) : val_main_v25 (F := Ideal) Y A y = get2 Y (y 0).val (y 1).val + get2 A 0 (y 1).val := by
  rw [val_main_v25_apply, val_main_v11_apply, val_main_v24_apply]
  exact congrArg₂ (· + ·) (get2_eq Y y _ _ rfl rfl) (get2_eq A _ _ _ rfl rfl)

theorem addB_ref (y : (⟨2, ![4096, 2048]⟩ : Shape).Idx) : val_main_v28 (F := Ideal) Z B y = get2 Z (y 0).val (y 1).val + get2 B 0 (y 1).val := by
  rw [val_main_v28_apply, val_main_v12_apply, val_main_v27_apply]
  exact congrArg₂ (· + ·) (get2_eq Z y _ _ rfl rfl) (get2_eq B _ _ _ rfl rfl)

theorem dS_ref (y : (⟨2, ![4096, 2048]⟩ : Shape).Idx) : val_main_v36 (F := Ideal) P D Z B y = dS P D Z B (y 0).val (y 1).val := by
  rw [val_main_v36_apply, addB_ref, dB_ref]
  exact mul_comm _ _

theorem dG_ref (y : (⟨2, ![4096, 4096]⟩ : Shape).Idx) : val_main_v48 (F := Ideal) P D Y Z A B L y = dG P D Y Z A B L (y 0).val (y 1).val := by
  have y1 : (y 1).val < 4096 := (y 1).isLt
  have h1 : (FloatOps.ofBits .f32 0x3F800000#32 : Ideal .f32) = 1 := Ideal.ofBits_one_f32
  rw [val_main_v48_apply, val_main_v21_apply, val_main_v20_apply, val_main_v19_apply, val_main_cst_1_apply, gates_ref, h1]
  unfold dG val_main_v47
  by_cases h : (y 1).val < 2048
  · rw [if_pos h]
    refine Eq.trans (congrArg (· * _) ((cat_get2 _ _ y 0 (by show 0 < 2; omega) _ rfl 0 rfl (y 0).val (y 1).val h rfl (by omega)).trans
      (get2_of _ (fun r l => get2 D r l * (get2 Y r l + get2 A 0 l)) (fun j => ?_) (y 0).isLt h))) (mul_assoc _ _ _).symm
    rw [val_main_v44_apply, val_main_v33_apply, addA_ref]
    exact congrArg (· * _) (get2_eq D j _ _ rfl rfl)
  · have hg : gate P 3072 (y 0).val (y 1).val = gate P 5120 (y 0).val ((y 1).val - 2048) := by
      unfold gate
      rw [show 5120 + ((y 1).val - 2048) = 3072 + (y 1).val by omega]
    rw [if_neg h, hg]
    refine Eq.trans (congrArg (· * _) ((cat_get2 _ _ y 1 (by show 1 < 2; omega) _ rfl 2048 rfl (y 0).val ((y 1).val - 2048) (by omega) rfl (by omega)).trans
      (get2_of _ (fun r l => get2 D r l * ((get2 Z r l + get2 B 0 l) * get2 L 0 l)) (fun j => ?_) (y 0).isLt (by omega)))) (mul_assoc _ _ _).symm
    rw [val_main_v35_apply, val_main_v33_apply, val_main_v30_apply, addB_ref, val_main_v29_apply]
    exact congrArg₂ (· * ·) (get2_eq D j _ _ rfl rfl) (congrArg (_ * ·) (get2_eq L _ _ _ rfl rfl))

/-- The three sums over all rows. -/
theorem sumA_ref (y : (⟨2, ![1, 2048]⟩ : Shape).Idx) : val_main_v46 (F := Ideal) P D y = ∑ r ∈ Finset.range 4096, dA P D r (y 1).val := by
  have y0 : (y 0).val < 1 := (y 0).isLt
  rw [val_main_v46_apply, val_main_v45_apply, Finset.sum_range]
  refine (congrArg₂ (· + ·) Ideal.ofBits_zero_f32 (Finset.sum_congr rfl fun k _ => ?_)).trans (zero_add _)
  exact (dA_ref P D _).trans (congrArg (dA P D k.val ·) (by show (y 0).val * 2048 + (y 1).val = (y 1).val; omega))

theorem sumS_ref (y : (⟨2, ![1, 2048]⟩ : Shape).Idx) : val_main_v38 (F := Ideal) P D Z B y = ∑ r ∈ Finset.range 4096, dS P D Z B r (y 1).val := by
  have y0 : (y 0).val < 1 := (y 0).isLt
  rw [val_main_v38_apply, val_main_v37_apply, Finset.sum_range]
  refine (congrArg₂ (· + ·) Ideal.ofBits_zero_f32 (Finset.sum_congr rfl fun k _ => ?_)).trans (zero_add _)
  exact (dS_ref P D Z B _).trans (congrArg (dS P D Z B k.val ·) (by show (y 0).val * 2048 + (y 1).val = (y 1).val; omega))

theorem sumY_ref (y : (⟨2, ![1, 2048]⟩ : Shape).Idx) : val_main_v42 (F := Ideal) P D L y = ∑ r ∈ Finset.range 4096, dY P D L r (y 1).val := by
  have y0 : (y 0).val < 1 := (y 0).isLt
  rw [val_main_v42_apply, val_main_v41_apply, Finset.sum_range]
  refine (congrArg₂ (· + ·) Ideal.ofBits_zero_f32 (Finset.sum_congr rfl fun k _ => ?_)).trans (zero_add _)
  exact (dY_ref P D L _).trans (congrArg (dY P D L k.val ·) (by show (y 0).val * 2048 + (y 1).val = (y 1).val; omega))

end Ref

/-- The claim: both programs end with the same six arrays on every device. -/
theorem gates : @Cert.algebraic_GatesIdeal_GatesRefIdeal Cert.GatesIdeal.Gen.facts Cert.GatesRefIdeal.Gen.facts := by
  intro m g m' g' _ hargs
  refine ⟨fun c => fun y => dA (arP m c) (arD m c) (y 0).val (y 1).val, fun c => fun y => dY (arP m c) (arD m c) (arL m c) (y 0).val (y 1).val,
    fun c => fun y => dG (arP m c) (arD m c) (arY m c) (arZ m c) (arA m c) (arB m c) (arL m c) (y 0).val (y 1).val,
    fun c => fun y => show EReal from ∑ r ∈ Finset.range 4096, dA (arP m c) (arD m c) r (y 1).val,
    fun c => fun y => show EReal from ∑ r ∈ Finset.range 4096, dS (arP m c) (arD m c) (arZ m c) (arB m c) r (y 1).val,
    fun c => fun y => show EReal from ∑ r ∈ Finset.range 4096, dY (arP m c) (arD m c) (arL m c) r (y 1).val, ?_, ?_⟩
  · refine (θ_run _ _ _).mono (fun r h c => ?_) (Cert.GatesIdeal.Value.run_blocks m g)
    obtain ⟨h7, h8, h9, h10, h11, h12, hk⟩ := h c
    exact ⟨h7.trans (final7 m c), h8.trans (final8 m c), h9.trans (final9 m c), h10.trans (final10 m c), h11.trans (final11 m c), h12.trans (final12 m c), hk⟩
  · refine (θ_run _ _ _).mono (fun r h c => ?_) (Cert.GatesRefIdeal.Value.run m' g')
    obtain ⟨h7, h8, h9, h10, h11, h12, hk⟩ := h c
    obtain ⟨e0, e1, e2, e3, e4, e5, e6⟩ := hargs c
    refine ⟨(h7.trans (val_main_v49_eq _ _)).trans ?_, (h8.trans (val_main_v50_eq _ _ _)).trans ?_, (h9.trans (val_main_v51_eq _ _ _ _ _ _ _)).trans ?_,
      (h10.trans (val_main_v46_eq _ _)).trans ?_, (h11.trans (val_main_v38_eq _ _ _ _)).trans ?_, (h12.trans (val_main_v42_eq _ _ _)).trans ?_, hk⟩
    · rw [e0, e1]
      exact funext fun y => dA_ref _ _ y
    · rw [e0, e1, e6]
      exact funext fun y => dY_ref _ _ _ y
    · rw [e0, e1, e2, e3, e4, e5, e6]
      exact funext fun y => dG_ref _ _ _ _ _ _ _ y
    · rw [e0, e1]
      exact funext fun y => sumA_ref _ _ y
    · rw [e0, e1, e3, e5]
      exact funext fun y => sumS_ref _ _ _ _ y
    · rw [e0, e1, e6]
      exact funext fun y => sumY_ref _ _ _ y

end Cert.Products
end
-- ==== Proof.NormSums.lean ====
/-
  The root-mean-square normalisation's derivative, a row at a time and on the extended reals: the form the kernel
  computes, with the normalised row inside the sum, and the form the derivative's rules give, with the reciprocal root
  over the mean outside it. They agree for every row; where an entry of the row is infinite the reciprocal root is zero
  and both leave what is added.
-/
module

public import Idealize.ShloMosaic.Lib.Pipeline.ValueKit.Point
public import Idealize.ShloMosaic.Lib.IdealHost

@[expose] public section

noncomputable section

namespace Cert.Products

open Idealize.ShloMosaic

theorem real_mul_add {q : ℝ} (hq : 0 ≤ q) (x y : EReal) : (q : EReal) * (x + y) = q * x + q * y :=
  EReal.left_distrib_of_nonneg_of_ne_top (by exact_mod_cast hq) (EReal.coe_ne_top q) x y

/-- A factor that is a nonnegative real passes through a sum. -/
theorem sum_mul_real {ι : Type} (s : Finset ι) (f : ι → EReal) {q : ℝ} (hq : 0 ≤ q) : ∑ k ∈ s, f k * (q : EReal) = (∑ k ∈ s, f k) * q := by
  classical
  induction s using Finset.induction_on with
  | empty => simp
  | insert a s ha ih =>
    rw [Finset.sum_insert ha, Finset.sum_insert ha, ih, mul_comm, mul_comm (∑ k ∈ s, f k), ← real_mul_add hq, mul_comm]

/-- Twice a multiple. -/
theorem mul_twice (S : EReal) (c : ℝ) : S * c + S * c = S * ((c + c : ℝ) : EReal) := by
  rcases lt_trichotomy c 0 with h | rfl | h
  · induction S with
    | bot => rw [EReal.bot_mul_coe_of_neg h, EReal.bot_mul_coe_of_neg (by linarith)]; rfl
    | coe x => norm_cast; ring
    | top => rw [EReal.top_mul_coe_of_neg h, EReal.top_mul_coe_of_neg (by linarith)]; rfl
  · simp
  · induction S with
    | bot => rw [EReal.bot_mul_coe_of_pos h, EReal.bot_mul_coe_of_pos (by linarith)]; rfl
    | coe x => norm_cast; ring
    | top => rw [EReal.top_mul_coe_of_pos h, EReal.top_mul_coe_of_pos (by linarith)]; rfl

/-- The mean of a row's squares and the small constant under the root: infinite where the row has an infinite entry,
    and otherwise a positive real. -/
theorem mean_cases {n : ℕ} (f : ℕ → EReal) {N e : ℝ} (hN : 0 < N) (he : 0 < e) :
    Ideal.div (∑ k ∈ Finset.range n, f k * f k) (N : EReal) + (e : EReal) = ⊤
    ∨ (∀ k < n, ∃ x : ℝ, f k = x) ∧ ∃ v : ℝ, 0 < v ∧ Ideal.div (∑ k ∈ Finset.range n, f k * f k) (N : EReal) + (e : EReal) = v := by
  have hn : ∀ k, 0 ≤ f k * f k := fun k => by
    induction f k with
    | bot => simp
    | coe x => norm_cast; exact mul_self_nonneg x
    | top => simp
  have hN' : (N : EReal) ≠ 0 := by norm_cast; exact hN.ne'
  by_cases h : ∀ k < n, ∃ x : ℝ, f k = x
  · right
    refine ⟨h, ?_⟩
    have hs : ∀ m ≤ n, ∃ v : ℝ, 0 ≤ v ∧ ∑ k ∈ Finset.range m, f k * f k = v := fun m => by
      induction m with
      | zero => exact fun _ => ⟨0, le_refl _, by simp⟩
      | succ m ih =>
        intro hm
        obtain ⟨v, hv, e⟩ := ih (by omega)
        obtain ⟨x, hx⟩ := h m (by omega)
        refine ⟨v + x * x, add_nonneg hv (mul_self_nonneg x), ?_⟩
        rw [Finset.sum_range_succ, e, hx]
        norm_cast
    obtain ⟨v, hv, ev⟩ := hs n (le_refl _)
    refine ⟨v * N⁻¹ + e, by positivity, ?_⟩
    rw [ev, Ideal.div, if_neg hN']
    norm_cast
  · left
    push Not at h
    obtain ⟨k, hk, hx⟩ := h
    have hk' : f k * f k = ⊤ := by
      induction hf : f k with
      | bot => rfl
      | coe x => exact absurd hf (hx x)
      | top => rfl
    have ht : ∑ k ∈ Finset.range n, f k * f k = ⊤ := by
      refine top_le_iff.mp ?_
      rw [← hk']
      exact Finset.single_le_sum (fun i _ => hn i) (Finset.mem_range.mpr hk)
    rw [ht, Ideal.div, if_neg hN', ← EReal.coe_inv, EReal.top_mul_coe_of_pos (inv_pos.mpr hN)]
    rfl

/-- The two forms of the gradient at one entry of a row. -/
theorem norm_back {n : ℕ} (f d : ℕ → EReal) (M : EReal) {N e : ℝ} (hN : 0 < N) (he : 0 < e) (l : ℕ) (hl : l < n) (v : EReal)
    (hv : Ideal.div (∑ k ∈ Finset.range n, f k * f k) (N : EReal) + (e : EReal) = v) :
    M + Ideal.rsqrt v * (d l - f l * Ideal.rsqrt v * Ideal.div (∑ k ∈ Finset.range n, d k * (f k * Ideal.rsqrt v)) (N : EReal))
      = d l * Ideal.rsqrt v + f l * Ideal.div ((∑ k ∈ Finset.range n, f k * d k) * (((-1 / 2 : ℝ) : EReal) * Ideal.div (Ideal.rsqrt v) v)) (N : EReal)
        + Ideal.div ((∑ k ∈ Finset.range n, f k * d k) * (((-1 / 2 : ℝ) : EReal) * Ideal.div (Ideal.rsqrt v) v)) (N : EReal) * f l + M := by
  have hN' : (N : EReal) ≠ 0 := by norm_cast; exact hN.ne'
  rcases mean_cases f hN he (n := n) with h | ⟨hf, w, hw, h⟩
  · rw [hv] at h
    subst h
    rw [Ideal.rsqrt_top]
    simp [Ideal.div, hN']
  · rw [hv] at h
    subst h
    obtain ⟨x, hx⟩ := hf l hl
    have hq : (0 : ℝ) < (Real.sqrt w)⁻¹ := inv_pos.mpr (Real.sqrt_pos.mpr hw)
    rw [Ideal.rsqrt_coe, if_neg (not_lt.mpr hw.le), if_neg hw.ne', hx]
    have hqq : (Real.sqrt w)⁻¹ * (Real.sqrt w)⁻¹ = w⁻¹ := by rw [← mul_inv, Real.mul_self_sqrt hw.le]
    generalize (Real.sqrt w)⁻¹ = q at hq hqq
    have hs : ∑ k ∈ Finset.range n, d k * (f k * (q : EReal)) = (∑ k ∈ Finset.range n, f k * d k) * q := by
      rw [← sum_mul_real _ _ hq.le]
      exact Finset.sum_congr rfl fun k _ => by rw [← mul_assoc, mul_comm (d k)]
    rw [hs]
    generalize ∑ k ∈ Finset.range n, f k * d k = S
    have hw' : (w : EReal) ≠ 0 := by norm_cast; exact hw.ne'
    rw [Ideal.div, Ideal.div, Ideal.div, if_neg hN', if_neg hN', if_neg hw', sub_eq_add_neg, real_mul_add hq.le, ← EReal.coe_inv, ← EReal.coe_inv]
    have e1 : (q : EReal) * -((x : EReal) * q * (S * q * ((N⁻¹ : ℝ) : EReal))) = S * ((-(x * q * q * q * N⁻¹) : ℝ) : EReal) := by
      rw [show (x : EReal) * q * (S * q * ((N⁻¹ : ℝ) : EReal)) = S * ((x * q * q * N⁻¹ : ℝ) : EReal) by push_cast; ac_rfl, ← mul_neg, ← EReal.coe_neg, mul_left_comm, ← EReal.coe_mul]
      congr 2
      ring
    have e2 : (x : EReal) * (S * (((-1 / 2 : ℝ) : EReal) * (q * ((w⁻¹ : ℝ) : EReal))) * ((N⁻¹ : ℝ) : EReal)) = S * ((-1 / 2 * x * q * w⁻¹ * N⁻¹ : ℝ) : EReal) := by
      push_cast; ac_rfl
    have e3 : S * (((-1 / 2 : ℝ) : EReal) * (q * ((w⁻¹ : ℝ) : EReal))) * ((N⁻¹ : ℝ) : EReal) * (x : EReal) = S * ((-1 / 2 * x * q * w⁻¹ * N⁻¹ : ℝ) : EReal) := by
      push_cast; ac_rfl
    rw [e1, e2, e3, add_assoc (d l * q), mul_twice, ← hqq, add_comm M, mul_comm (q : EReal)]
    congr 4
    ring

end Cert.Products
end
-- ==== Proof.Norm.lean ====
/-
  The normalisation's backward pass, 256 rows a point: the gradients of the residual stream and of the mixer's output
  block by block, and the gradients of the four rows — shift, scale, weight and residual gate — added up over the points.
  What the six arrays hold at the end is what the derivative of the plain modulated normalisation gives; the gradient of
  a normalised row in the kernel's form and in the derivative's is the lemma of the module it imports.
-/
module

public import proofs.«01_k».proof.Defs
public import proofs.«01_k».proof.Proof.Rows
public import proofs.«01_k».proof.Proof.NormSums
public import proofs.«01_k».proof.Proof.Gen.NormIdeal.Value
public import proofs.«01_k».proof.Proof.Gen.NormRefIdeal.Run
public import proofs.«01_k».proof.Proof.Gen.NormRefIdeal.Read

@[expose] public section

set_option maxRecDepth 16384

noncomputable section

namespace Cert.NormIdeal.Prod

open Cert.NormIdeal Cert.NormIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- A constant of the programs. -/
abbrev word (b : BitVec 32) : EReal := (FloatOps.ofBits .f32 b : Ideal .f32)

section Elements

variable {b : ℕ} (H D M X : (⟨2, ![b, 2048]⟩ : Shape).Idx → EReal) (G S L : (⟨2, ![1, 2048]⟩ : Shape).Idx → EReal)

/-- A row's mean square, with the small constant, and the factor that normalises the row. -/
def ms (r : ℕ) : EReal := Ideal.div (∑ k ∈ Finset.range 2048, get2 H r k * get2 H r k) (word 0x45000000#32) + word 0x358637BD#32

def inv (r : ℕ) : EReal := Ideal.rsqrt (ms H r)

/-- The normalised row, the gradient at the weighted row, and the gradient at the normalised row. -/
def xh (r l : ℕ) : EReal := get2 H r l * inv H r

def dm (r l : ℕ) : EReal := get2 D r l * (word 0x3F800000#32 + get2 S 0 l)

def dx (r l : ℕ) : EReal := dm D S r l * get2 G 0 l

/-- What a row adds to the scale's and to the weight's gradient. -/
def dC (r l : ℕ) : EReal := get2 D r l * (xh H r l * get2 G 0 l)

def dW (r l : ℕ) : EReal := dm D S r l * xh H r l

/-- The gradient of the stream, and, through the residual gate, of the mixer's output; what a row adds to the gate's. -/
def dH (r l : ℕ) : EReal :=
  get2 M r l + inv H r * (dx D G S r l - xh H r l * Ideal.div (∑ k ∈ Finset.range 2048, dx D G S r k * xh H r k) (word 0x45000000#32))

def dF (r l : ℕ) : EReal := word 0x3F000000#32 * get2 L 0 l * dH H D M G S r l

def dL (r l : ℕ) : EReal := word 0x3F000000#32 * (dH H D M G S r l * get2 X r l)

end Elements

section At

variable {b n : ℕ} {h d μ x : (⟨2, ![b, 2048]⟩ : Shape).Idx → EReal} {H D M X : (⟨2, ![n, 2048]⟩ : Shape).Idx → EReal} {G S L : (⟨2, ![1, 2048]⟩ : Shape).Idx → EReal} {r R : ℕ}
  (hH : ∀ l < 2048, get2 h r l = get2 H R l) (hD : ∀ l < 2048, get2 d r l = get2 D R l) (hM : ∀ l < 2048, get2 μ r l = get2 M R l) (hX : ∀ l < 2048, get2 x r l = get2 X R l)
  (l : ℕ) (hl : l < 2048)

include hH in
/-- The values of a row depend on the row alone: a block's row and the array's have the same. -/
theorem inv_at : inv h r = inv H R := by
  unfold inv ms
  exact congrArg (fun s => Ideal.rsqrt (Ideal.div s _ + _)) (Finset.sum_congr rfl fun k hk => by rw [hH k (Finset.mem_range.mp hk)])

include hH hl in
theorem xh_at : xh h r l = xh H R l := congrArg₂ (· * ·) (hH l hl) (inv_at hH)

include hD hl in
theorem dm_at : dm d S r l = dm D S R l := congrArg (· * _) (hD l hl)

include hD hl in
theorem dx_at : dx d G S r l = dx D G S R l := congrArg (· * _) (dm_at hD l hl)

include hH hD hl in
theorem dC_at : dC h d G r l = dC H D G R l := congrArg₂ (· * ·) (hD l hl) (congrArg (· * _) (xh_at hH l hl))

include hH hD hl in
theorem dW_at : dW h d S r l = dW H D S R l := congrArg₂ (· * ·) (dm_at hD l hl) (xh_at hH l hl)

include hH hD hM hl in
theorem dH_at : dH h d μ G S r l = dH H D M G S R l := by
  unfold dH
  exact congrArg₂ (· + ·) (hM l hl) (congrArg₂ (· * ·) (inv_at hH) (congrArg₂ (· - ·) (dx_at hD l hl) (congrArg₂ (· * ·) (xh_at hH l hl) (congrArg (Ideal.div · _)
    (Finset.sum_congr rfl fun k hk => congrArg₂ (· * ·) (dx_at hD k (Finset.mem_range.mp hk)) (xh_at hH k (Finset.mem_range.mp hk)))))))

include hH hD hM hl in
theorem dF_at : dF h d μ G S L r l = dF H D M G S L R l := congrArg (_ * ·) (dH_at hH hD hM l hl)

include hH hD hM hX hl in
theorem dL_at : dL h d μ x G S r l = dL H D M X G S R l := congrArg (_ * ·) (congrArg₂ (· * ·) (dH_at hH hD hM l hl) (hX l hl))

end At

section Body

variable (x0 : Vec Ideal S256x2048 .f32) (x1 : Vec Ideal S256x2048 .bf16) (x2 x3 : Vec Ideal S256x2048 .f32) (x4 x5 x6 : Vec Ideal S1x2048 .f32)

theorem inv_apply (y : S256x1.Idx) : k0_pay4 x0 y = inv x0 (y 0).val := by
  unfold k0_pay4 inv ms
  exact congrArg Ideal.rsqrt (congrArg (· + _) (congrArg (Ideal.div · _)
    ((cols_sum _ _ _ _ _ _ y).trans (Finset.sum_congr rfl fun k hk => get2_of _ (fun r k => get2 x0 r k * get2 x0 r k)
      (fun j => congrArg₂ (· * ·) (get2_eq x0 j _ _ rfl rfl) (get2_eq x0 j _ _ rfl rfl)) (y 0).isLt (Finset.mem_range.mp hk)))))

theorem invs_apply (y : S256x2048.Idx) : broadcastTo S256x2048 (k0_pay4 (F := Ideal) x0) broadcasts_S256x1_S256x2048 y = inv x0 (y 0).val :=
  (col_apply _ _ y).trans (get2_of _ (fun r _ => inv x0 r) (inv_apply x0) (y 0).isLt Nat.one_pos)

theorem xh_apply (y : S256x2048.Idx) : k0_pay5 x0 y = xh x0 (y 0).val (y 1).val :=
  congrArg₂ (· * ·) (get2_eq x0 y _ _ rfl rfl) (invs_apply x0 y)

theorem dm_apply (y : S256x2048.Idx) : k0_pay11 (k0_pay6 x1) x5 y = dm x1 x5 (y 0).val (y 1).val :=
  congrArg₂ (· * ·) (get2_eq x1 y _ _ rfl rfl) ((row_apply _ _ y).trans
    (get2_of (a := 1) (b := 2048) _ (fun r l => word 0x3F800000#32 + get2 x5 r l) (fun j => congrArg (_ + ·) (get2_eq x5 j _ _ rfl rfl)) Nat.one_pos (y 1).isLt))

theorem dx_apply (y : S256x2048.Idx) :
    mulf (k0_pay11 (k0_pay6 x1) x5) (broadcastTo S256x2048 x4 broadcasts_S1x2048_S256x2048) y = dx x1 x4 x5 (y 0).val (y 1).val :=
  congrArg₂ (· * ·) (dm_apply x1 x5 y) (row_apply x4 _ y)

theorem dH_apply (y : S256x2048.Idx) : k0_pay14 (k0_pay4 x0) (k0_pay5 x0) (k0_pay6 x1) x4 x5 x2 y = dH x0 x1 x2 x4 x5 (y 0).val (y 1).val := by
  unfold k0_pay14 dH
  refine congrArg₂ (· + ·) (get2_eq x2 y _ _ rfl rfl) (congrArg₂ (· * ·) (invs_apply x0 y) (congrArg₂ (· - ·) (dx_apply x1 x4 x5 y)
    (congrArg₂ (· * ·) (xh_apply x0 y) ((col_apply _ _ y).trans (get2_of (b := 1) _
      (fun r _ => Ideal.div (∑ k ∈ Finset.range 2048, dx x1 x4 x5 r k * xh x0 r k) (word 0x45000000#32)) (fun j => ?_) (y 0).isLt Nat.one_pos)))))
  exact congrArg (Ideal.div · _) ((cols_sum _ _ _ _ _ _ j).trans (Finset.sum_congr rfl fun k hk => get2_of _ (fun r k => dx x1 x4 x5 r k * xh x0 r k)
    (fun i => congrArg₂ (· * ·) (dx_apply x1 x4 x5 i) (xh_apply x0 i)) (j 0).isLt (Finset.mem_range.mp hk)))

theorem dF_apply (y : S256x2048.Idx) :
    k0_pay3 (k0_pay14 (k0_pay4 x0) (k0_pay5 x0) (k0_pay6 x1) x4 x5 x2) x6 y = dF x0 x1 x2 x4 x5 x6 (y 0).val (y 1).val := by
  unfold k0_pay3
  rw [shapeCast_self]
  exact congrArg₂ (· * ·) ((row_apply _ _ y).trans
    (get2_of (a := 1) (b := 2048) _ (fun r l => word 0x3F000000#32 * get2 x6 r l) (fun j => congrArg (_ * ·) (get2_eq x6 j _ _ rfl rfl)) Nat.one_pos (y 1).isLt))
    (dH_apply x0 x1 x2 x4 x5 y)

/-- What a point leaves in the six outputs' buffers, of the blocks it reads and of what the four sums held before. -/
def outs (z0 z1 z2 z3 : Vec Ideal S1x2048 .f32) : Vec Ideal S256x2048 .f32 × Vec Ideal S256x2048 .bf16 × Vec Ideal S1x2048 .f32 × Vec Ideal S1x2048 .f32 × Vec Ideal S1x2048 .f32 ×
    Vec Ideal S1x2048 .f32 :=
  (k0_pay15 (k0_pay4 x0) (k0_pay5 x0) (k0_pay6 x1) x4 x5 x2, k0_pay3 (k0_pay14 (k0_pay4 x0) (k0_pay5 x0) (k0_pay6 x1) x4 x5 x2) x6,
    k0_pay8 x1 z0, k0_pay10 x0 x1 x4 z1, k0_pay13 (k0_pay5 x0) (k0_pay6 x1) x5 z2,
    k0_pay2 (k0_pay16 (k0_pay4 x0) (k0_pay5 x0) (k0_pay6 x1) x4 x5 x2 x3) k0_pay17 z3)

/-- A row of sums that a block's rows are added to. -/
theorem add_rows (v : FVec Ideal S256x2048 .f32) (f : ℕ → ℕ → EReal) (h : ∀ y : S256x2048.Idx, v y = f (y 0).val (y 1).val) (z : Vec Ideal S1x2048 .f32) (y : S1x2048.Idx) :
    addf (shapeCast S1x2048 z shapeCasts_S1x2048_S1x2048)
      (shapeCast S1x2048 (multiReduction .add [0] S2048 v 0x00000000#32 reduces_S256x2048_S2048 (.inl rfl) rfl) shapeCasts_S2048_S1x2048) y
      = z y + ∑ r ∈ Finset.range 256, f r (y 1).val := by
  rw [shapeCast_self]
  exact congrArg (z y + ·) ((rows_sum _ _ _ _ _ _ y).trans (Finset.sum_congr rfl fun r hr => get2_of v f h (Finset.mem_range.mp hr) (y 1).isLt))

theorem sumD (z : Vec Ideal S1x2048 .f32) (y : S1x2048.Idx) : k0_pay8 x1 z y = z y + ∑ r ∈ Finset.range 256, get2 x1 r (y 1).val :=
  add_rows _ (get2 x1) (fun j => get2_eq x1 j _ _ rfl rfl) z y

theorem sumC (z : Vec Ideal S1x2048 .f32) (y : S1x2048.Idx) : k0_pay10 x0 x1 x4 z y = z y + ∑ r ∈ Finset.range 256, dC x0 x1 x4 r (y 1).val :=
  add_rows _ (dC x0 x1 x4) (fun j => congrArg₂ (· * ·) (get2_eq x1 j _ _ rfl rfl) (congrArg₂ (· * ·) (xh_apply x0 j) (row_apply x4 _ j))) z y

theorem sumW (z : Vec Ideal S1x2048 .f32) (y : S1x2048.Idx) :
    k0_pay13 (k0_pay5 x0) (k0_pay6 x1) x5 z y = z y + ∑ r ∈ Finset.range 256, dW x0 x1 x5 r (y 1).val :=
  add_rows _ (dW x0 x1 x5) (fun j => congrArg₂ (· * ·) (dm_apply x1 x5 j) (xh_apply x0 j)) z y

theorem sumL (z : Vec Ideal S1x2048 .f32) (y : S1x2048.Idx) :
    k0_pay2 (k0_pay16 (k0_pay4 x0) (k0_pay5 x0) (k0_pay6 x1) x4 x5 x2 x3) k0_pay17 z y = z y + ∑ r ∈ Finset.range 256, dL x0 x1 x2 x3 x4 x5 r (y 1).val :=
  add_rows _ (dL x0 x1 x2 x3 x4 x5) (fun j => congrArg (_ * ·) (congrArg₂ (· * ·) (dH_apply x0 x1 x2 x4 x5 j) (get2_eq x3 j _ _ rfl rfl))) z y

end Body

section Cases

variable (c : Dev nD) (i : grid0.Coords) (a1 : Memref sig .tc .vmem S256x2048 .f32) (h1 : a1.IsWhole) (a2 : Memref sig .tc .vmem S256x2048 .bf16) (h2 : a2.IsWhole)
  (a3 : Memref sig .tc .vmem S256x2048 .f32) (h3 : a3.IsWhole) (a4 : Memref sig .tc .vmem S256x2048 .f32) (h4 : a4.IsWhole) (a5 : Memref sig .tc .vmem S1x2048 .f32) (h5 : a5.IsWhole)
  (a6 : Memref sig .tc .vmem S1x2048 .f32) (h6 : a6.IsWhole) (a7 : Memref sig .tc .vmem S1x2048 .f32) (h7 : a7.IsWhole) (a8 : Memref sig .tc .vmem S256x2048 .f32) (h8 : a8.IsWhole)
  (a9 : Memref sig .tc .vmem S256x2048 .bf16) (h9 : a9.IsWhole) (a10 : Memref sig .tc .vmem S1x2048 .f32) (h10 : a10.IsWhole) (a11 : Memref sig .tc .vmem S1x2048 .f32) (h11 : a11.IsWhole)
  (a12 : Memref sig .tc .vmem S1x2048 .f32) (h12 : a12.IsWhole) (a13 : Memref sig .tc .vmem S1x2048 .f32) (h13 : a13.IsWhole)
  (x0 : Vec Ideal S256x2048 .f32) (x1 : Vec Ideal S256x2048 .bf16) (x2 x3 : Vec Ideal S256x2048 .f32) (x4 x5 x6 : Vec Ideal S1x2048 .f32) (y9 y10 y11 y12 : Vec Ideal S1x2048 .f32)

/-- The first point starts the four sums from zero … -/
theorem caseA (hc0 : cond0_0 i) (hc1 : cond0_1 i) (hc2 : cond0_2 i) (hc3 : cond0_3 i) :
    (out0_A_7 c i a1 h1 a2 h2 a3 h3 a4 h4 a5 h5 a6 h6 a7 h7 a8 h8 a9 h9 a10 h10 a11 h11 a12 h12 a13 h13 hc0 hc1 hc2 hc3 x0 x1 x2 x3 x4 x5 x6,
      out0_A_8 c i a1 h1 a2 h2 a3 h3 a4 h4 a5 h5 a6 h6 a7 h7 a8 h8 a9 h9 a10 h10 a11 h11 a12 h12 a13 h13 hc0 hc1 hc2 hc3 x0 x1 x2 x3 x4 x5 x6,
      out0_A_9 c i a1 h1 a2 h2 a3 h3 a4 h4 a5 h5 a6 h6 a7 h7 a8 h8 a9 h9 a10 h10 a11 h11 a12 h12 a13 h13 hc0 hc1 hc2 hc3 x0 x1 x2 x3 x4 x5 x6,
      out0_A_10 c i a1 h1 a2 h2 a3 h3 a4 h4 a5 h5 a6 h6 a7 h7 a8 h8 a9 h9 a10 h10 a11 h11 a12 h12 a13 h13 hc0 hc1 hc2 hc3 x0 x1 x2 x3 x4 x5 x6,
      out0_A_11 c i a1 h1 a2 h2 a3 h3 a4 h4 a5 h5 a6 h6 a7 h7 a8 h8 a9 h9 a10 h10 a11 h11 a12 h12 a13 h13 hc0 hc1 hc2 hc3 x0 x1 x2 x3 x4 x5 x6,
      out0_A_12 c i a1 h1 a2 h2 a3 h3 a4 h4 a5 h5 a6 h6 a7 h7 a8 h8 a9 h9 a10 h10 a11 h11 a12 h12 a13 h13 hc0 hc1 hc2 hc3 x0 x1 x2 x3 x4 x5 x6)
      = outs x0 x1 x2 x3 x4 x5 x6 (k0_pay7 (F := Ideal)) (k0_pay9 (F := Ideal)) (k0_pay12 (F := Ideal)) (k0_pay1 (F := Ideal)) := by
  unfold out0_A_7 out0_A_8 out0_A_9 out0_A_10 out0_A_11 out0_A_12
  refine Prod.ext ?_ (Prod.ext ?_ (Prod.ext ?_ (Prod.ext ?_ (Prod.ext ?_ ?_))))
  all_goals dsimp only
  on_goal 1 => rw [View.read_writes_eq_canon _ _ _ (cover0_A_7 c i a1 h1 a2 h2 a3 h3 a4 h4 a5 h5 a6 h6 a7 h7 a8 h8 a9 h9 a10 h10 a11 h11 a12 h12 a13 h13 hc0 hc1 hc2 hc3 x0 x1 x2 x3 x4 x5 x6)]
  on_goal 2 => rw [View.read_writes_eq_canon _ _ _ (cover0_A_8 c i a1 h1 a2 h2 a3 h3 a4 h4 a5 h5 a6 h6 a7 h7 a8 h8 a9 h9 a10 h10 a11 h11 a12 h12 a13 h13 hc0 hc1 hc2 hc3 x0 x1 x2 x3 x4 x5 x6)]
  on_goal 3 => rw [View.read_writes_eq_canon _ _ _ (cover0_A_9 c i a1 h1 a2 h2 a3 h3 a4 h4 a5 h5 a6 h6 a7 h7 a8 h8 a9 h9 a10 h10 a11 h11 a12 h12 a13 h13 hc0 hc1 hc2 hc3 x0 x1 x2 x3 x4 x5 x6)]
  on_goal 4 => rw [View.read_writes_eq_canon _ _ _ (cover0_A_10 c i a1 h1 a2 h2 a3 h3 a4 h4 a5 h5 a6 h6 a7 h7 a8 h8 a9 h9 a10 h10 a11 h11 a12 h12 a13 h13 hc0 hc1 hc2 hc3 x0 x1 x2 x3 x4 x5 x6)]
  on_goal 5 => rw [View.read_writes_eq_canon _ _ _ (cover0_A_11 c i a1 h1 a2 h2 a3 h3 a4 h4 a5 h5 a6 h6 a7 h7 a8 h8 a9 h9 a10 h10 a11 h11 a12 h12 a13 h13 hc0 hc1 hc2 hc3 x0 x1 x2 x3 x4 x5 x6)]
  on_goal 6 => rw [View.read_writes_eq_canon _ _ _ (cover0_A_12 c i a1 h1 a2 h2 a3 h3 a4 h4 a5 h5 a6 h6 a7 h7 a8 h8 a9 h9 a10 h10 a11 h11 a12 h12 a13 h13 hc0 hc1 hc2 hc3 x0 x1 x2 x3 x4 x5 x6)]
  all_goals
    unfold kernelRun0_A
    dsimp only
    sl_unfold_run_names
    try rw [View.canon_cons_unit_zero (S := S1x2048) hz, View.readCov_unit_zero (S := S1x2048) _ hz]
    simp only [View.canon_unit_zero (S := S256x2048) hz, View.readAt_eq_ld, h1.read_unread, h2.read_unread, h3.read_unread, h4.read_unread, h5.read_unread, h6.read_unread,
      h7.read_unread, h10.read_unread, h11.read_unread, h12.read_unread, h13.read_unread, View.ld_unit_zero (S := S256x2048) hz, View.ld_unit_zero (S := S1x2048) hz]
  all_goals rfl

/-- … and a later one adds to what they hold. -/
theorem caseB (hc0 : ¬cond0_0 i) (hc1 : ¬cond0_1 i) (hc2 : ¬cond0_2 i) (hc3 : ¬cond0_3 i) :
    (out0_B_7 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12,
      out0_B_8 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12,
      out0_B_9 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12,
      out0_B_10 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12,
      out0_B_11 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12,
      out0_B_12 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)
      = outs x0 x1 x2 x3 x4 x5 x6 y9 y10 y11 y12 := by
  unfold out0_B_7 out0_B_8 out0_B_9 out0_B_10 out0_B_11 out0_B_12
  refine Prod.ext ?_ (Prod.ext ?_ (Prod.ext ?_ (Prod.ext ?_ (Prod.ext ?_ ?_))))
  all_goals dsimp only
  on_goal 1 => rw [View.read_writes_eq_canon _ _ _ (cover0_B_7 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)]
  on_goal 2 => rw [View.read_writes_eq_canon _ _ _ (cover0_B_8 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)]
  on_goal 3 => rw [View.read_writes_eq_canon _ _ _ (cover0_B_9 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)]
  on_goal 4 => rw [View.read_writes_eq_canon _ _ _ (cover0_B_10 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)]
  on_goal 5 => rw [View.read_writes_eq_canon _ _ _ (cover0_B_11 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)]
  on_goal 6 => rw [View.read_writes_eq_canon _ _ _ (cover0_B_12 c i a1 h1 a2 h2 a3 h3 a4 h4 a5 h5 a6 h6 a7 h7 a8 h8 a9 h9 a10 h10 a11 h11 a12 h12 a13 h13 hc0 hc1 hc2 hc3 x0 x1 x2 x3 x4 x5 x6 y9 y10 y11 y12)]
  all_goals
    unfold kernelRun0_B
    dsimp only
    sl_unfold_run_names
    try rw [View.canon_unit_zero (S := S1x2048) hz]
    simp only [View.canon_unit_zero (S := S256x2048) hz, View.readAt_eq_ld, h1.read_unread, h2.read_unread, h3.read_unread, h4.read_unread, h5.read_unread, h6.read_unread,
      h7.read_unread, h10.read_unread, h11.read_unread, h12.read_unread, h13.read_unread, View.ld_unit_zero (S := S256x2048) hz, View.ld_unit_zero (S := S1x2048) hz]
  all_goals rfl

end Cases

/-- Where the windows' blocks lie. -/
theorem idx : ∀ t : Fin cfg0.N, t.val < 16 ∧ win0_0.index t = ![t.val, 0] ∧ win0_1.index t = ![t.val, 0] ∧ win0_2.index t = ![t.val, 0] ∧ win0_3.index t = ![t.val, 0] ∧
    win0_4.index t = ![0, 0] ∧ win0_5.index t = ![0, 0] ∧ win0_6.index t = ![0, 0] ∧ win0_7.index t = ![t.val, 0] ∧ win0_8.index t = ![t.val, 0] ∧
    win0_9.index t = ![0, 0] ∧ win0_10.index t = ![0, 0] ∧ win0_11.index t = ![0, 0] ∧ win0_12.index t = ![0, 0] :=
  (by decide +kernel : ∀ t : Fin grid0.N, _)

/-- The argument arrays. -/
abbrev arH (c : Dev nD) : S4096x2048.Idx → EReal := m ((c : Thread nD τ).loc main_arg0)
abbrev arD (c : Dev nD) : S4096x2048.Idx → EReal := m ((c : Thread nD τ).loc main_arg1)
abbrev arM (c : Dev nD) : S4096x2048.Idx → EReal := m ((c : Thread nD τ).loc main_arg2)
abbrev arX (c : Dev nD) : S4096x2048.Idx → EReal := m ((c : Thread nD τ).loc main_arg3)
abbrev arG (c : Dev nD) : S1x2048.Idx → EReal := m ((c : Thread nD τ).loc main_arg4)
abbrev arS (c : Dev nD) : S1x2048.Idx → EReal := m ((c : Thread nD τ).loc main_arg5)
abbrev arL (c : Dev nD) : S1x2048.Idx → EReal := m ((c : Thread nD τ).loc main_arg6)

section Blocks

variable (c : Dev nD) (t : Fin cfg0.N) (r : ℕ) (hr : r < 256)

/-- The four blocks of rows, at an element. -/
theorem w_eq (y : S256x2048.Idx) : iblk m c 0 t y = get2 (arH m c) (256 * t.val + (y 0).val) (y 1).val ∧ iblk m c 1 t y = get2 (arD m c) (256 * t.val + (y 0).val) (y 1).val
    ∧ iblk m c 2 t y = get2 (arM m c) (256 * t.val + (y 0).val) (y 1).val ∧ iblk m c 3 t y = get2 (arX m c) (256 * t.val + (y 0).val) (y 1).val := by
  obtain ⟨ht, e0, e1, e2, e3, -⟩ := idx t
  unfold iblk
  refine ⟨?_, ?_, ?_, ?_⟩
  · blk_simp [e0]
    refine get2_eq (arH m c) _ _ _ ?_ ?_ <;> blk_simp [e0] <;> (try simp) <;> omega
  · blk_simp [e1]
    refine get2_eq (arD m c) _ _ _ ?_ ?_ <;> blk_simp [e1] <;> (try simp) <;> omega
  · blk_simp [e2]
    refine get2_eq (arM m c) _ _ _ ?_ ?_ <;> blk_simp [e2] <;> (try simp) <;> omega
  · blk_simp [e3]
    refine get2_eq (arX m c) _ _ _ ?_ ?_ <;> blk_simp [e3] <;> (try simp) <;> omega

/-- The three rows are read whole. -/
theorem rows_eq : iblk m c 4 t = arG m c ∧ iblk m c 5 t = arS m c ∧ iblk m c 6 t = arL m c := by
  obtain ⟨ht, -, -, -, -, e4, e5, e6, -⟩ := idx t
  unfold iblk
  refine ⟨funext fun y => ?_, funext fun y => ?_, funext fun y => ?_⟩
  · blk_simp [e4]
    exact congrArg (arG m c) (funext fun a => by match a with | 0 => exact Fin.ext (by blk_simp [e4]) | 1 => exact Fin.ext (by blk_simp [e4]))
  · blk_simp [e5]
    exact congrArg (arS m c) (funext fun a => by match a with | 0 => exact Fin.ext (by blk_simp [e5]) | 1 => exact Fin.ext (by blk_simp [e5]))
  · blk_simp [e6]
    exact congrArg (arL m c) (funext fun a => by match a with | 0 => exact Fin.ext (by blk_simp [e6]) | 1 => exact Fin.ext (by blk_simp [e6]))

include hr

theorem h_blk (l : ℕ) (hl : l < 2048) : get2 (a := 256) (b := 2048) (iblk m c 0 t) r l = get2 (arH m c) (256 * t.val + r) l :=
  get2_of (iblk m c 0 t) (fun r l => get2 (arH m c) (256 * t.val + r) l) (fun y => (w_eq m c t y).1) hr hl

theorem d_blk (l : ℕ) (hl : l < 2048) : get2 (a := 256) (b := 2048) (iblk m c 1 t) r l = get2 (arD m c) (256 * t.val + r) l :=
  get2_of (iblk m c 1 t) (fun r l => get2 (arD m c) (256 * t.val + r) l) (fun y => (w_eq m c t y).2.1) hr hl

theorem m_blk (l : ℕ) (hl : l < 2048) : get2 (a := 256) (b := 2048) (iblk m c 2 t) r l = get2 (arM m c) (256 * t.val + r) l :=
  get2_of (iblk m c 2 t) (fun r l => get2 (arM m c) (256 * t.val + r) l) (fun y => (w_eq m c t y).2.2.1) hr hl

theorem x_blk (l : ℕ) (hl : l < 2048) : get2 (a := 256) (b := 2048) (iblk m c 3 t) r l = get2 (arX m c) (256 * t.val + r) l :=
  get2_of (iblk m c 3 t) (fun r l => get2 (arX m c) (256 * t.val + r) l) (fun y => (w_eq m c t y).2.2.2) hr hl

theorem dC_blk (l : ℕ) (hl : l < 2048) : dC (b := 256) (iblk m c 0 t) (iblk m c 1 t) (iblk m c 4 t) r l = dC (arH m c) (arD m c) (arG m c) (256 * t.val + r) l := by
  rw [(rows_eq m c t).1]
  exact dC_at (h_blk m c t r hr) (d_blk m c t r hr) l hl

theorem dW_blk (l : ℕ) (hl : l < 2048) : dW (b := 256) (iblk m c 0 t) (iblk m c 1 t) (iblk m c 5 t) r l = dW (arH m c) (arD m c) (arS m c) (256 * t.val + r) l := by
  rw [(rows_eq m c t).2.1]
  exact dW_at (h_blk m c t r hr) (d_blk m c t r hr) l hl

theorem dH_blk (l : ℕ) (hl : l < 2048) : dH (b := 256) (iblk m c 0 t) (iblk m c 1 t) (iblk m c 2 t) (iblk m c 4 t) (iblk m c 5 t) r l
    = dH (arH m c) (arD m c) (arM m c) (arG m c) (arS m c) (256 * t.val + r) l := by
  rw [(rows_eq m c t).1, (rows_eq m c t).2.1]
  exact dH_at (h_blk m c t r hr) (d_blk m c t r hr) (m_blk m c t r hr) l hl

theorem dF_blk (l : ℕ) (hl : l < 2048) : dF (b := 256) (iblk m c 0 t) (iblk m c 1 t) (iblk m c 2 t) (iblk m c 4 t) (iblk m c 5 t) (iblk m c 6 t) r l
    = dF (arH m c) (arD m c) (arM m c) (arG m c) (arS m c) (arL m c) (256 * t.val + r) l := by
  rw [(rows_eq m c t).1, (rows_eq m c t).2.1, (rows_eq m c t).2.2]
  exact dF_at (h_blk m c t r hr) (d_blk m c t r hr) (m_blk m c t r hr) l hl

theorem dL_blk (l : ℕ) (hl : l < 2048) : dL (b := 256) (iblk m c 0 t) (iblk m c 1 t) (iblk m c 2 t) (iblk m c 3 t) (iblk m c 4 t) (iblk m c 5 t) r l
    = dL (arH m c) (arD m c) (arM m c) (arX m c) (arG m c) (arS m c) (256 * t.val + r) l := by
  rw [(rows_eq m c t).1, (rows_eq m c t).2.1]
  exact dL_at (h_blk m c t r hr) (d_blk m c t r hr) (m_blk m c t r hr) (x_blk m c t r hr) l hl

end Blocks

/-- What a point leaves: the blocks it computes, and the sums continued from somewhere. -/
theorem outsAt (c : Dev nD) (t : Fin cfg0.N) : ∃ z0 z1 z2 z3, outsAt0 m c t.val t.isLt
    = outs (iblk m c 0 t) (iblk m c 1 t) (iblk m c 2 t) (iblk m c 3 t) (iblk m c 4 t) (iblk m c 5 t) (iblk m c 6 t) z0 z1 z2 z3 := by
  by_cases h : t.val % 16 = 0
  · exact ⟨_, _, _, _, (outsAt0_A m c t h h h h).trans (caseA c _ _ _ _ _ _ _ _ _ _ _ _ _ _ _ _ _ _ _ _ _ _ _ _ _ _ _ _ _ _ _ _ _ _ _ _ _ _)⟩
  · exact ⟨_, _, _, _, (outsAt0_B m c t h h h h).trans (caseB c _ _ _ _ _ _ _ _ _ _ _ _ _ _ _ _ _ _ _ _ _ _ _ _ _ _ _ _ _ _ _ _ _ _ _ _ _ _ _ _ _ _)⟩

/-- The four sums after point `t`: all rows up to the end of its block. -/
theorem sums (c : Dev nD) (y : S1x2048.Idx) : ∀ (t : ℕ) (ht : t < cfg0.N),
    (outsAt0 m c t ht).2.2.1 y = ∑ r ∈ Finset.range (256 * t + 256), get2 (arD m c) r (y 1).val
    ∧ (outsAt0 m c t ht).2.2.2.1 y = ∑ r ∈ Finset.range (256 * t + 256), dC (arH m c) (arD m c) (arG m c) r (y 1).val
    ∧ (outsAt0 m c t ht).2.2.2.2.1 y = ∑ r ∈ Finset.range (256 * t + 256), dW (arH m c) (arD m c) (arS m c) r (y 1).val
    ∧ (outsAt0 m c t ht).2.2.2.2.2 y = ∑ r ∈ Finset.range (256 * t + 256), dL (arH m c) (arD m c) (arM m c) (arX m c) (arG m c) (arS m c) r (y 1).val := by
  have hy : (y 1).val < 2048 := (y 1).isLt
  have hD : ∀ t : Fin cfg0.N, ∑ r ∈ Finset.range 256, get2 (a := 256) (b := 2048) (iblk m c 1 t) r (y 1).val
      = ∑ r ∈ Finset.range 256, get2 (arD m c) (256 * t.val + r) (y 1).val :=
    fun t => Finset.sum_congr rfl fun r hr => d_blk m c t r (Finset.mem_range.mp hr) _ hy
  have hC : ∀ t : Fin cfg0.N, ∑ r ∈ Finset.range 256, dC (b := 256) (iblk m c 0 t) (iblk m c 1 t) (iblk m c 4 t) r (y 1).val
      = ∑ r ∈ Finset.range 256, dC (arH m c) (arD m c) (arG m c) (256 * t.val + r) (y 1).val :=
    fun t => Finset.sum_congr rfl fun r hr => dC_blk m c t r (Finset.mem_range.mp hr) _ hy
  have hW : ∀ t : Fin cfg0.N, ∑ r ∈ Finset.range 256, dW (b := 256) (iblk m c 0 t) (iblk m c 1 t) (iblk m c 5 t) r (y 1).val
      = ∑ r ∈ Finset.range 256, dW (arH m c) (arD m c) (arS m c) (256 * t.val + r) (y 1).val :=
    fun t => Finset.sum_congr rfl fun r hr => dW_blk m c t r (Finset.mem_range.mp hr) _ hy
  have hL : ∀ t : Fin cfg0.N, ∑ r ∈ Finset.range 256, dL (b := 256) (iblk m c 0 t) (iblk m c 1 t) (iblk m c 2 t) (iblk m c 3 t) (iblk m c 4 t) (iblk m c 5 t) r (y 1).val
      = ∑ r ∈ Finset.range 256, dL (arH m c) (arD m c) (arM m c) (arX m c) (arG m c) (arS m c) (256 * t.val + r) (y 1).val :=
    fun t => Finset.sum_congr rfl fun r hr => dL_blk m c t r (Finset.mem_range.mp hr) _ hy
  intro t
  induction t with
  | zero =>
    intro ht
    rw [show outsAt0 m c 0 ht = _ from (outsAt0_A m c ⟨0, ht⟩ rfl rfl rfl rfl).trans (caseA c _ _ _ _ _ _ _ _ _ _ _ _ _ _ _ _ _ _ _ _ _ _ _ _ _ _ _ _ _ _ _ _ _ _ _ _ _ _)]
    unfold outs
    dsimp only
    rw [sumD, sumC, sumW, sumL, hD, hC, hW, hL]
    have hz : (FloatOps.ofBits .f32 0x00000000#32 : Ideal .f32) = 0 := Ideal.ofBits_zero_f32
    refine ⟨(congrArg (· + _) hz).trans ?_, (congrArg (· + _) hz).trans ?_, (congrArg (· + _) hz).trans ?_, (congrArg (· + _) hz).trans ?_⟩ <;> simp
  | succ t ih =>
    intro ht
    have h : ¬(t + 1) % 16 = 0 := by
      have hN : t + 1 < 16 := ht
      omega
    obtain ⟨i0, i1, i2, i3⟩ := ih (Nat.lt_of_succ_lt ht)
    rw [show outsAt0 m c (t + 1) ht = _ from (outsAt0_B m c ⟨t + 1, ht⟩ h h h h).trans (caseB c _ _ _ _ _ _ _ _ _ _ _ _ _ _ _ _ _ _ _ _ _ _ _ _ _ _ _ _ _ _ _ _ _ _ _ _ _ _ _ _ _ _)]
    unfold outs
    dsimp only [Nat.add_sub_cancel]
    rw [sumD, sumC, sumW, sumL, hD, hC, hW, hL]
    dsimp only
    rw [show 256 * (t + 1) = 256 * t + 256 by omega]
    exact ⟨(congrArg (· + _) i0).trans (Finset.sum_range_add _ _ _).symm, (congrArg (· + _) i1).trans (Finset.sum_range_add _ _ _).symm,
      (congrArg (· + _) i2).trans (Finset.sum_range_add _ _ _).symm, (congrArg (· + _) i3).trans (Finset.sum_range_add _ _ _).symm⟩

/-- The six result arrays, of the argument arrays: the stream's gradient, the mixer output's … -/
theorem final7 (c : Dev nD) : (dats m 0 c).arrAt 7 cfg0.N = fun y : S4096x2048.Idx => dH (arH m c) (arD m c) (arM m c) (arG m c) (arS m c) (y 0).val (y 1).val := by
  refine (dats m 0 c).arrAt_eq_of_covers 7 _ (by decide +kernel) fun t hf y => ?_
  obtain ⟨ht, -, -, -, -, -, -, -, e7, -⟩ := idx t
  obtain ⟨z0, z1, z2, z3, hz⟩ := outsAt m c t
  have y0 : (y 0).val < 256 := (y 0).isLt
  blk_simp
  rw [after0_7, hz]
  unfold outs k0_pay15
  dsimp only
  rw [shapeCast_self]
  refine (dH_apply _ _ _ _ _ y).trans ((dH_blk m c t (y 0).val y0 (y 1).val (y 1).isLt).trans ?_)
  congr 1 <;> blk_simp [e7] <;> (try simp) <;> omega

theorem final8 (c : Dev nD) : (dats m 0 c).arrAt 8 cfg0.N
    = fun y : S4096x2048.Idx => dF (arH m c) (arD m c) (arM m c) (arG m c) (arS m c) (arL m c) (y 0).val (y 1).val := by
  refine (dats m 0 c).arrAt_eq_of_covers 8 _ (by decide +kernel) fun t hf y => ?_
  obtain ⟨ht, -, -, -, -, -, -, -, -, e8, -⟩ := idx t
  obtain ⟨z0, z1, z2, z3, hz⟩ := outsAt m c t
  have y0 : (y 0).val < 256 := (y 0).isLt
  blk_simp
  rw [after0_8, hz]
  unfold outs
  dsimp only
  refine (dF_apply _ _ _ _ _ _ y).trans ((dF_blk m c t (y 0).val y0 (y 1).val (y 1).isLt).trans ?_)
  congr 1 <;> blk_simp [e8] <;> (try simp) <;> omega

/-- … and the four sums, written back at the last point. -/
theorem final9 (c : Dev nD) : (dats m 0 c).arrAt 9 cfg0.N
    = fun y : S1x2048.Idx => ∑ r ∈ Finset.range 4096, get2 (arD m c) r (y 1).val := by
  refine (dats m 0 c).arrAt_eq_of_covers 9 _ (by decide +kernel) fun t hf y => ?_
  have hm : t.val % 16 = 15 := (flush0_9 t).mp hf
  obtain ⟨ht, -, -, -, -, -, -, -, -, -, e, -⟩ := idx t
  blk_simp
  rw [after0_9]
  refine ((sums m c y t.val t.isLt).1).trans ?_
  rw [show 256 * t.val + 256 = 4096 by omega]
  congr 2; funext r; congr 1; blk_simp [e]; try simp

theorem final10 (c : Dev nD) : (dats m 0 c).arrAt 10 cfg0.N
    = fun y : S1x2048.Idx => ∑ r ∈ Finset.range 4096, dC (arH m c) (arD m c) (arG m c) r (y 1).val := by
  refine (dats m 0 c).arrAt_eq_of_covers 10 _ (by decide +kernel) fun t hf y => ?_
  have hm : t.val % 16 = 15 := (flush0_10 t).mp hf
  obtain ⟨ht, -, -, -, -, -, -, -, -, -, -, e, -⟩ := idx t
  blk_simp
  rw [after0_10]
  refine ((sums m c y t.val t.isLt).2.1).trans ?_
  rw [show 256 * t.val + 256 = 4096 by omega]
  congr 2; funext r; congr 1; blk_simp [e]; try simp

theorem final11 (c : Dev nD) : (dats m 0 c).arrAt 11 cfg0.N
    = fun y : S1x2048.Idx => ∑ r ∈ Finset.range 4096, dW (arH m c) (arD m c) (arS m c) r (y 1).val := by
  refine (dats m 0 c).arrAt_eq_of_covers 11 _ (by decide +kernel) fun t hf y => ?_
  have hm : t.val % 16 = 15 := (flush0_11 t).mp hf
  obtain ⟨ht, -, -, -, -, -, -, -, -, -, -, -, e, -⟩ := idx t
  blk_simp
  rw [after0_11]
  refine ((sums m c y t.val t.isLt).2.2.1).trans ?_
  rw [show 256 * t.val + 256 = 4096 by omega]
  congr 2; funext r; congr 1; blk_simp [e]; try simp

theorem final12 (c : Dev nD) : (dats m 0 c).arrAt 12 cfg0.N
    = fun y : S1x2048.Idx => ∑ r ∈ Finset.range 4096, dL (arH m c) (arD m c) (arM m c) (arX m c) (arG m c) (arS m c) r (y 1).val := by
  refine (dats m 0 c).arrAt_eq_of_covers 12 _ (by decide +kernel) fun t hf y => ?_
  have hm : t.val % 16 = 15 := (flush0_12 t).mp hf
  obtain ⟨ht, -, -, -, -, -, -, -, -, -, -, -, -, e⟩ := idx t
  blk_simp
  rw [after0_12]
  refine ((sums m c y t.val t.isLt).2.2.2).trans ?_
  rw [show 256 * t.val + 256 = 4096 by omega]
  congr 2; funext r; congr 1; blk_simp [e]; try simp

end Cert.NormIdeal.Prod

namespace Cert.Products

open Idealize.ShloMosaic Idealize.ShloMosaic.TcCoe Idealize.SL.Sem Cert.NormRefIdeal.Read Cert.NormIdeal.Prod

section Ref

variable (H D M X : (⟨2, ![4096, 2048]⟩ : Shape).Idx → EReal) (G S L : (⟨2, ![1, 2048]⟩ : Shape).Idx → EReal)

/-- The constants: the row's length, the small constant, a half and its negative. -/
theorem word_2048 : word 0x45000000#32 = ((2048 : ℝ) : EReal) := by simp [word, Ideal.ofBits, Ideal.ieee, -EReal.coe_mul]; norm_num
theorem word_half : word 0x3F000000#32 = ((1 / 2 : ℝ) : EReal) := by simp [word, Ideal.ofBits, Ideal.ieee, -EReal.coe_mul]; norm_num
theorem word_neg : word 0xBF000000#32 = ((-1 / 2 : ℝ) : EReal) := by simp [word, Ideal.ofBits, Ideal.ieee, -EReal.coe_mul]; norm_num
theorem word_eps : ∃ e : ℝ, 0 < e ∧ word 0x358637BD#32 = (e : EReal) :=
  ⟨(8796093 : ℝ) * (2 : ℝ) ^ (-43 : ℤ), by positivity, by simp [word, Ideal.ofBits, Ideal.ieee, -EReal.coe_mul]⟩

/-- The reference's values, at an element: a row's mean square, … -/
theorem ms_ref (y : (⟨2, ![4096, 1]⟩ : Shape).Idx) : val_main_v7 (F := Ideal) H y = ms H (y 0).val := by
  rw [val_main_v7_apply, val_main_v5_apply, val_main_v3_apply, val_main_v2_apply, val_main_v4_apply, val_main_v6_apply]
  unfold ms
  rw [Finset.sum_range]
  refine congrArg (· + _) (congrArg (Ideal.div · _) ((congrArg₂ (· + ·) Ideal.ofBits_zero_f32 (Finset.sum_congr rfl fun k _ => ?_)).trans (zero_add _)))
  rw [val_main_v1_apply]
  exact congrArg₂ (· * ·) (get2_eq H _ _ _ rfl rfl) (get2_eq H _ _ _ rfl rfl)

theorem inv_ref (y : (⟨2, ![4096, 1]⟩ : Shape).Idx) : val_main_v8 (F := Ideal) H y = inv H (y 0).val := by
  rw [val_main_v8_apply, ms_ref]
  rfl

theorem xh_ref (y : (⟨2, ![4096, 2048]⟩ : Shape).Idx) : val_main_v13 (F := Ideal) H y = xh H (y 0).val (y 1).val := by
  rw [val_main_v13_apply, val_main_v12_apply, inv_ref]
  exact congrArg (· * _) (get2_eq H y _ _ rfl rfl)

theorem dm_ref (y : (⟨2, ![4096, 2048]⟩ : Shape).Idx) : val_main_v29 (F := Ideal) D S y = dm D S (y 0).val (y 1).val := by
  rw [val_main_v29_apply, val_main_v28_apply, val_main_v17_apply, val_main_v22_apply]
  exact congrArg₂ (· * ·) (get2_eq D y _ _ rfl rfl) (congrArg (_ + ·) (get2_eq S _ _ _ rfl rfl))

theorem dx_ref (y : (⟨2, ![4096, 2048]⟩ : Shape).Idx) : val_main_v34 (F := Ideal) D G S y = dx D G S (y 0).val (y 1).val := by
  rw [val_main_v34_apply, dm_ref, val_main_v33_apply]
  exact congrArg (_ * ·) (get2_eq G _ _ _ rfl rfl)

theorem dC_ref (y : (⟨2, ![4096, 2048]⟩ : Shape).Idx) : val_main_v25 (F := Ideal) H D G y = dC H D G (y 0).val (y 1).val := by
  rw [val_main_v25_apply, val_main_v15_apply, xh_ref, val_main_v14_apply, val_main_v22_apply]
  exact (mul_comm _ _).trans (congrArg₂ (· * ·) (get2_eq D y _ _ rfl rfl) (congrArg (_ * ·) (get2_eq G _ _ _ rfl rfl)))

theorem dW_ref (y : (⟨2, ![4096, 2048]⟩ : Shape).Idx) : val_main_v30 (F := Ideal) H D S y = dW H D S (y 0).val (y 1).val := by
  rw [val_main_v30_apply, xh_ref, dm_ref]
  exact mul_comm _ _

/-- … what the mean square carries back, … -/
theorem back_ref (y : (⟨2, ![4096, 2048]⟩ : Shape).Idx) : val_main_v44 (F := Ideal) H D G S y
    = Ideal.div ((∑ k ∈ Finset.range 2048, get2 H (y 0).val k * dx D G S (y 0).val k) * (((-1 / 2 : ℝ) : EReal) * Ideal.div (inv H (y 0).val) (ms H (y 0).val))) ((2048 : ℝ) : EReal) := by
  rw [val_main_v44_apply, val_main_v43_apply, ← word_2048, ← word_neg, Finset.sum_range]
  refine (congrArg₂ (· + ·) Ideal.ofBits_zero_f32 (Fin.sum_univ_one _)).trans ((zero_add _).trans ?_)
  rw [val_main_v42_apply, val_main_v40_apply, val_main_v11_apply, val_main_v9_apply, inv_ref, ms_ref, val_main_v37_apply, val_main_v36_apply]
  refine congrArg (Ideal.div · _) (congrArg (· * _) ((congrArg₂ (· + ·) Ideal.ofBits_zero_f32 (Finset.sum_congr rfl fun k _ => ?_)).trans (zero_add _)))
  rw [val_main_v35_apply, dx_ref]
  have h0 : (y 0).val * 1 + (0 : Fin 1).val = (y 0).val := by simp
  exact congrArg₂ (· * ·) (get2_eq H _ _ _ h0 rfl) (congrArg (dx D G S · k.val) h0)

/-- … and the two gradients. -/
theorem dH_ref (y : (⟨2, ![4096, 2048]⟩ : Shape).Idx) : val_main_v49 (F := Ideal) H D M G S y = dH H D M G S (y 0).val (y 1).val := by
  obtain ⟨e, he, hw⟩ := word_eps
  have hm : ms H (y 0).val = Ideal.div (∑ k ∈ Finset.range 2048, get2 H (y 0).val k * get2 H (y 0).val k) ((2048 : ℝ) : EReal) + (e : EReal) := by
    unfold ms
    rw [hw, word_2048]
  have hb := norm_back (n := 2048) (fun k => get2 H (y 0).val k) (fun k => dx D G S (y 0).val k) (get2 M (y 0).val (y 1).val) (N := 2048) (by norm_num) he (y 1).val (y 1).isLt _ hm.symm
  rw [val_main_v49_apply, val_main_v48_apply, val_main_v46_apply, val_main_v47_apply, val_main_v45_apply, val_main_v39_apply, val_main_v38_apply, inv_ref, dx_ref, back_ref]
  unfold dH
  rw [word_2048]
  refine Eq.trans ?_ hb.symm
  rw [← get2_eq H y _ _ rfl rfl, ← get2_eq M y _ _ rfl rfl]
  rfl

theorem dF_ref (y : (⟨2, ![4096, 2048]⟩ : Shape).Idx) : val_main_v61 (F := Ideal) H D M G S L y = dF H D M G S L (y 0).val (y 1).val := by
  rw [val_main_v61_apply, val_main_v55_apply, dH_ref, val_main_v54_apply, val_main_v51_apply]
  exact congrArg (· * _) (congrArg (_ * ·) (get2_eq L _ _ _ rfl rfl))

/-- The four sums over all rows. -/
theorem sumD_ref (y : (⟨2, ![1, 2048]⟩ : Shape).Idx) : val_main_v24 (F := Ideal) D y = ∑ r ∈ Finset.range 4096, get2 D r (y 1).val := by
  have y0 : (y 0).val < 1 := (y 0).isLt
  rw [val_main_v24_apply, val_main_v23_apply, Finset.sum_range]
  refine (congrArg₂ (· + ·) Ideal.ofBits_zero_f32 (Finset.sum_congr rfl fun k _ => ?_)).trans (zero_add _)
  exact get2_eq D _ _ _ rfl (by show (y 0).val * 2048 + (y 1).val = (y 1).val; omega)

theorem sumC_ref (y : (⟨2, ![1, 2048]⟩ : Shape).Idx) : val_main_v27 (F := Ideal) H D G y = ∑ r ∈ Finset.range 4096, dC H D G r (y 1).val := by
  have y0 : (y 0).val < 1 := (y 0).isLt
  rw [val_main_v27_apply, val_main_v26_apply, Finset.sum_range]
  refine (congrArg₂ (· + ·) Ideal.ofBits_zero_f32 (Finset.sum_congr rfl fun k _ => ?_)).trans (zero_add _)
  exact (dC_ref H D G _).trans (congrArg (dC H D G k.val ·) (by show (y 0).val * 2048 + (y 1).val = (y 1).val; omega))

theorem sumW_ref (y : (⟨2, ![1, 2048]⟩ : Shape).Idx) : val_main_v32 (F := Ideal) H D S y = ∑ r ∈ Finset.range 4096, dW H D S r (y 1).val := by
  have y0 : (y 0).val < 1 := (y 0).isLt
  rw [val_main_v32_apply, val_main_v31_apply, Finset.sum_range]
  refine (congrArg₂ (· + ·) Ideal.ofBits_zero_f32 (Finset.sum_congr rfl fun k _ => ?_)).trans (zero_add _)
  exact (dW_ref H D S _).trans (congrArg (dW H D S k.val ·) (by show (y 0).val * 2048 + (y 1).val = (y 1).val; omega))

theorem sumL_ref (y : (⟨2, ![1, 2048]⟩ : Shape).Idx) : val_main_v60 (F := Ideal) H D M X G S y = ∑ r ∈ Finset.range 4096, dL H D M X G S r (y 1).val := by
  have y0 : (y 0).val < 1 := (y 0).isLt
  have hs : ∑ r ∈ Finset.range 4096, dL H D M X G S r (y 1).val = (∑ r ∈ Finset.range 4096, dH H D M G S r (y 1).val * get2 X r (y 1).val) * ((1 / 2 : ℝ) : EReal) := by
    rw [← sum_mul_real _ _ (by norm_num)]
    refine Finset.sum_congr rfl fun r _ => ?_
    unfold dL
    rw [word_half]
    exact mul_comm _ _
  rw [hs, val_main_v60_apply, val_main_v58_apply, val_main_v57_apply, Finset.sum_range, ← word_half]
  refine (mul_comm _ _).trans (congrArg (· * _) ((congrArg₂ (· + ·) Ideal.ofBits_zero_f32 (Finset.sum_congr rfl fun k _ => ?_)).trans (zero_add _)))
  rw [val_main_v56_apply, dH_ref]
  have hl : (y 0).val * 2048 + (y 1).val = (y 1).val := by omega
  exact congrArg₂ (· * ·) (congrArg (dH H D M G S k.val ·) hl) (get2_eq X _ _ _ rfl hl)

end Ref

/-- The claim: both programs end with the same six arrays on every device. -/
theorem norm : @Cert.algebraic_NormIdeal_NormRefIdeal Cert.NormIdeal.Gen.facts Cert.NormRefIdeal.Gen.facts := by
  intro m g m' g' _ hargs
  refine ⟨fun c => fun y => dH (arH m c) (arD m c) (arM m c) (arG m c) (arS m c) (y 0).val (y 1).val,
    fun c => fun y => dF (arH m c) (arD m c) (arM m c) (arG m c) (arS m c) (arL m c) (y 0).val (y 1).val,
    fun c => fun y => show EReal from ∑ r ∈ Finset.range 4096, get2 (arD m c) r (y 1).val,
    fun c => fun y => show EReal from ∑ r ∈ Finset.range 4096, dC (arH m c) (arD m c) (arG m c) r (y 1).val,
    fun c => fun y => show EReal from ∑ r ∈ Finset.range 4096, dW (arH m c) (arD m c) (arS m c) r (y 1).val,
    fun c => fun y => show EReal from ∑ r ∈ Finset.range 4096, dL (arH m c) (arD m c) (arM m c) (arX m c) (arG m c) (arS m c) r (y 1).val, ?_, ?_⟩
  · refine (θ_run _ _ _).mono (fun r h c => ?_) (Cert.NormIdeal.Value.run_blocks m g)
    obtain ⟨h7, h8, h9, h10, h11, h12, hk⟩ := h c
    exact ⟨h7.trans (final7 m c), h8.trans (final8 m c), h9.trans (final9 m c), h10.trans (final10 m c), h11.trans (final11 m c), h12.trans (final12 m c), hk⟩
  · refine (θ_run _ _ _).mono (fun r h c => ?_) (Cert.NormRefIdeal.Value.run m' g')
    obtain ⟨h7, h8, h9, h10, h11, h12, hk⟩ := h c
    obtain ⟨e0, e1, e2, e3, e4, e5, e6⟩ := hargs c
    refine ⟨(h7.trans (val_main_v49_eq _ _)).trans ?_, (h8.trans (val_main_v61_eq _ _)).trans ?_, (h9.trans (val_main_v24_eq _)).trans ?_,
      (h10.trans (val_main_v27_eq _ _ _)).trans ?_, (h11.trans (val_main_v32_eq _ _ _)).trans ?_, (h12.trans (val_main_v60_eq _ _)).trans ?_, hk⟩
    · rw [e0, e1, e2, e4, e5]
      exact funext fun y => dH_ref _ _ _ _ _ y
    · rw [e0, e1, e2, e4, e5, e6]
      exact funext fun y => dF_ref _ _ _ _ _ _ y
    · rw [e1]
      exact funext fun y => sumD_ref _ y
    · rw [e0, e1, e4]
      exact funext fun y => sumC_ref _ _ _ y
    · rw [e0, e1, e5]
      exact funext fun y => sumW_ref _ _ _ y
    · rw [e0, e1, e2, e3, e4, e5]
      exact funext fun y => sumL_ref _ _ _ _ _ _ y

end Cert.Products
end
-- ==== Proof.MixDwOut.lean ====
/-
  The gradient of the mixer's output weight: the merged branches against the incoming gradient, all rows summed at
  one point a block, and a chip's rows stored as two halves. What the array holds at the end is the plain product's
  derivative, in the layout the chips exchange.
-/
module

public import proofs.«01_k».proof.Defs
public import proofs.«01_k».proof.Proof.Parts
public import proofs.«01_k».proof.Proof.Gen.MixDwOutIdeal.Value
public import proofs.«01_k».proof.Proof.Gen.MixDwOutRefIdeal.Run
public import proofs.«01_k».proof.Proof.Gen.MixDwOutRefIdeal.Read

@[expose] public section

set_option maxRecDepth 16384

noncomputable section

namespace Cert.MixDwOutIdeal.Prod

open Cert.MixDwOutIdeal Cert.MixDwOutIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

section Body

variable (x0 : Vec Ideal S4096x512 .bf16) (x1 : Vec Ideal S4096x1024 .bf16)

theorem prod_get2 (r l : ℕ) (hr : r < 512) (hl : l < 1024) :
    get2 (a := 512) (b := 1024) (k0_pay1 x0 x1) r l = ∑ k ∈ Finset.range 4096, get2 x0 k r * get2 x1 k l :=
  get2_of _ (fun r l => ∑ k ∈ Finset.range 4096, get2 x0 k r * get2 x1 k l)
    (matmul_tn (φ := .bf16) (ψ := .bf16) dot_S4096x512_S4096x1024_S512x1024_0_0_1_1_n_n rfl rfl rfl rfl rfl rfl none x0 x1) hr hl

/-- The upper half's rows and the lower half's. -/
theorem halves (x : S1x1x256x1024.Idx) :
    k0_pay2 x0 x1 x = get2 (a := 512) (b := 1024) (k0_pay1 x0 x1) (0 + (x 2).val) (0 + (x 3).val)
      ∧ k0_pay3 x0 x1 x = get2 (a := 512) (b := 1024) (k0_pay1 x0 x1) (256 + (x 2).val) (0 + (x 3).val) := by
  unfold k0_pay2 k0_pay3
  exact ⟨(shapeCast_lead2 _ _ x).trans (slice_get2 _ 0 0 _ _), (shapeCast_lead2 _ _ x).trans (slice_get2 _ 256 0 _ _)⟩

/-- The block a point writes, of the two blocks it reads. -/
theorem out_apply (y : S2x1x256x1024.Idx) :
    out0_2 x0 x1 y = ∑ k ∈ Finset.range 4096, get2 x0 k (256 * (y 0).val + (y 2).val) * get2 x1 k (y 3).val := by
  have y0 : (y 0).val < 2 := (y 0).isLt
  have y2 : (y 2).val < 256 := (y 2).isLt
  refine Eq.trans ?_ (prod_get2 x0 x1 (256 * (y 0).val + (y 2).val) (y 3).val (by omega) (y 3).isLt)
  unfold out0_2
  refine View.canon_apply_of_pieces (Val := Elt Ideal) (S := S2x1x256x1024) (e := .f32)
    (fun y : S2x1x256x1024.Idx => get2 (a := 512) (b := 1024) (k0_pay1 x0 x1) (256 * (y 0).val + (y 2).val) (y 3).val) _ ?_ y (cover0_2 _ _ y)
  simp only [View.ld_unit_zero (S := S4096x512) hz, View.ld_unit_zero (S := S4096x1024) hz]
  intro p hp
  rcases List.mem_cons.mp hp with rfl | hp
  · intro x
    refine (halves x0 x1 x).2.trans ?_
    have h0 : (x 0).val < 1 := (x 0).isLt
    dsimp only
    rw [emb_val, emb_val, emb_val]
    congr 1 <;> simp <;> omega
  rcases List.mem_cons.mp hp with rfl | hp
  · intro x
    refine (halves x0 x1 x).1.trans ?_
    have h0 : (x 0).val < 1 := (x 0).isLt
    dsimp only
    rw [emb_val, emb_val, emb_val]
    congr 1 <;> simp <;> omega
  · cases hp

end Body

/-- Where the windows' blocks lie. -/
theorem idx : ∀ t : Fin cfg0.N, t.val < 8 ∧ win0_0.index t = ![0, t.val / 2] ∧ win0_1.index t = ![0, t.val % 2] ∧ win0_2.index t = ![0, t.val / 2, 0, t.val % 2] :=
  (by decide +kernel : ∀ t : Fin grid0.N, _)

theorem w0_eq (c : Dev nD) (t : Fin cfg0.N) (y : S4096x512.Idx) :
    iblk m c 0 t y = get2 (m ((c : Thread nD τ).loc main_arg0)) (y 0).val (512 * (t.val / 2) + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S4096x1024.Idx) :
    iblk m c 1 t y = get2 (m ((c : Thread nD τ).loc main_arg1)) (y 0).val (1024 * (t.val % 2) + (y 1).val) := by
  obtain ⟨ht, e0, e1, e2⟩ := idx t
  unfold iblk
  blk_simp [e1]
  refine get2_eq (m ((c : Thread nD τ).loc main_arg1)) _ _ _ ?_ ?_ <;> blk_simp [e1] <;> (try simp) <;> omega

/-- One element of the gradient. -/
def res (X Y : (⟨2, ![4096, 2048]⟩ : Shape).Idx → EReal) (r l : ℕ) : EReal :=
  ∑ k ∈ Finset.range 4096, get2 X k r * get2 Y k l

/-- The result array, of the argument arrays. -/
theorem final (c : Dev nD) : (dats m 0 c).arrAt 2 cfg0.N
    = fun y : S2x4x256x2048.Idx => res (m ((c : Thread nD τ).loc main_arg0)) (m ((c : Thread nD τ).loc main_arg1))
        (512 * (y 1).val + 256 * (y 0).val + (y 2).val) (y 3).val := by
  refine (dats m 0 c).arrAt_eq_of_covers 2 _ (by decide +kernel) fun t hf y => ?_
  obtain ⟨ht, e0, e1, e2⟩ := idx t
  have y0 : (y 0).val < 2 := (y 0).isLt
  have y1 : (y 1).val < 1 := (y 1).isLt
  have y2 : (y 2).val < 256 := (y 2).isLt
  blk_simp
  rw [after0_2]
  refine ((out_apply _ _ y).trans (Finset.sum_congr rfl fun k hk => congrArg₂ (· * ·)
    (get2_of (iblk m c 0 t) (fun k r => get2 _ k (_ + r)) (w0_eq m c t) (Finset.mem_range.mp hk) (by omega))
    (get2_of (iblk m c 1 t) (fun k l => get2 _ k (_ + l)) (w1_eq m c t) (Finset.mem_range.mp hk) (y 3).isLt))).trans ?_
  unfold res
  refine Finset.sum_congr rfl fun k _ => ?_
  congr 2 <;> blk_simp [e2] <;> (try simp) <;> omega

end Cert.MixDwOutIdeal.Prod

namespace Cert.Products

open Idealize.ShloMosaic Idealize.ShloMosaic.TcCoe Idealize.SL.Sem Cert.MixDwOutRefIdeal.Read

/-- The derivative of the plain product, at an element. -/
theorem mixDwOut_ref (X Y : (⟨2, ![4096, 2048]⟩ : Shape).Idx → EReal) (y : (⟨4, ![2, 4, 256, 2048]⟩ : Shape).Idx) :
    val_main_v7 (F := Ideal) X Y y = Cert.MixDwOutIdeal.Prod.res X Y (512 * (y 1).val + 256 * (y 0).val + (y 2).val) (y 3).val := by
  have y0 : (y 0).val < 2 := (y 0).isLt
  have y2 : (y 2).val < 256 := (y 2).isLt
  have y3 : (y 3).val < 2048 := (y 3).isLt
  rw [val_main_v7_apply, val_main_v6_apply, val_main_v5_apply, val_main_v4_apply]
  unfold Cert.MixDwOutIdeal.Prod.res
  rw [Finset.sum_range]
  refine Finset.sum_congr rfl fun k _ => (mul_comm _ _).trans (congrArg₂ (· * ·) (get2_eq X _ _ _ rfl ?_) (get2_eq Y _ _ _ rfl ?_))
  · show ((((y 1).val * 2 + (y 0).val) * 256 + (y 2).val) * 2048 + (y 3).val) / 2048 = _
    omega
  · show ((((y 1).val * 2 + (y 0).val) * 256 + (y 2).val) * 2048 + (y 3).val) % 2048 = _
    omega

/-- The claim: both programs end with one array on every device. -/
theorem mixDwOut : @Cert.algebraic_MixDwOutIdeal_MixDwOutRefIdeal Cert.MixDwOutIdeal.Gen.facts Cert.MixDwOutRefIdeal.Gen.facts := by
  intro m g m' g' _ hargs
  refine ⟨fun c => fun y : Cert.MixDwOutIdeal.S2x4x256x2048.Idx => Cert.MixDwOutIdeal.Prod.res (m (c.tc.loc Cert.MixDwOutIdeal.main_arg0)) (m (c.tc.loc Cert.MixDwOutIdeal.main_arg1))
    (512 * (y 1).val + 256 * (y 0).val + (y 2).val) (y 3).val, ?_, ?_⟩
  · refine (θ_run _ _ _).mono (fun r h c => ?_) (Cert.MixDwOutIdeal.Value.run_blocks m g)
    obtain ⟨h0, hk⟩ := h c
    exact ⟨h0.trans (Cert.MixDwOutIdeal.Prod.final m c), hk⟩
  · refine (θ_run _ _ _).mono (fun r h c => ?_) (Cert.MixDwOutRefIdeal.Value.run m' g')
    obtain ⟨h0, hk⟩ := h c
    refine ⟨(h0.trans (val_main_v7_eq _ _)).trans ?_, hk⟩
    obtain ⟨e0, e1⟩ := hargs c
    rw [e0, e1]
    exact funext fun y => mixDwOut_ref _ _ y

end Cert.Products
end
-- ==== Proof.MixDz.lean ====
/-
  The gradient at the mixer's merged branches: the incoming gradient against the rows of the output weight, one block of
  rows and columns a point. What the array holds at the end is the plain product's derivative.
-/
module

public import proofs.«01_k».proof.Defs
public import proofs.«01_k».proof.Proof.Parts
public import proofs.«01_k».proof.Proof.Gen.MixDzIdeal.Value
public import proofs.«01_k».proof.Proof.Gen.MixDzRefIdeal.Run
public import proofs.«01_k».proof.Proof.Gen.MixDzRefIdeal.Read

@[expose] public section

set_option maxRecDepth 16384

noncomputable section

namespace Cert.MixDzIdeal.Prod

open Cert.MixDzIdeal Cert.MixDzIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- The block a point writes, of the two blocks it reads. -/
theorem out_apply (x0 x1 : Vec Ideal S1024x2048 .bf16) (y : S1024x1024.Idx) :
    out0_2 x0 x1 y = ∑ k ∈ Finset.range 2048, get2 x0 (y 0).val k * get2 x1 (y 1).val k := by
  unfold out0_2
  rw [View.canon_unit_zero (S := S1024x1024) hz]
  simp only [View.ld_unit_zero (S := S1024x2048) hz]
  unfold k0_pay1
  rw [shapeCast_self]
  exact matmul_nt (φ := .bf16) (ψ := .bf16) dot_S1024x2048_S1024x2048_S1024x1024_1_1_0_0_n_n rfl rfl rfl rfl rfl rfl none x0 x1 y

/-- Where the windows' blocks lie. -/
theorem idx : ∀ t : Fin cfg0.N, t.val < 8 ∧ win0_0.index t = ![t.val / 2, 0] ∧ win0_1.index t = ![t.val % 2, 0] ∧ win0_2.index t = ![t.val / 2, t.val % 2] :=
  (by decide +kernel : ∀ t : Fin grid0.N, _)

theorem w0_eq (c : Dev nD) (t : Fin cfg0.N) (y : S1024x2048.Idx) :
    iblk m c 0 t y = get2 (m ((c : Thread nD τ).loc main_arg0)) (1024 * (t.val / 2) + (y 0).val) (y 1).val := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S1024x2048.Idx) :
    iblk m c 1 t y = get2 (m ((c : Thread nD τ).loc main_arg1)) (1024 * (t.val % 2) + (y 0).val) (y 1).val := by
  obtain ⟨ht, e0, e1, e2⟩ := idx t
  unfold iblk
  blk_simp [e1]
  refine get2_eq (m ((c : Thread nD τ).loc main_arg1)) _ _ _ ?_ ?_ <;> blk_simp [e1] <;> (try simp) <;> omega

/-- One element of the gradient. -/
def res (X : (⟨2, ![4096, 2048]⟩ : Shape).Idx → EReal) (Y : (⟨2, ![2048, 2048]⟩ : Shape).Idx → EReal) (r s : ℕ) : EReal :=
  ∑ k ∈ Finset.range 2048, get2 X r k * get2 Y s k

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val (y 1).val := by
  refine (dats m 0 c).arrAt_eq_of_covers 2 _ (by decide +kernel) fun t hf y => ?_
  obtain ⟨ht, e0, e1, e2⟩ := idx t
  blk_simp
  rw [after0_2]
  refine ((out_apply _ _ y).trans (Finset.sum_congr rfl fun k hk => congrArg₂ (· * ·)
    (get2_of (iblk m c 0 t) (fun r k => get2 _ (_ + r) k) (w0_eq m c t) (y 0).isLt (Finset.mem_range.mp hk))
    (get2_of (iblk m c 1 t) (fun r k => get2 _ (_ + r) k) (w1_eq m c t) (y 1).isLt (Finset.mem_range.mp hk)))).trans ?_
  unfold res
  refine Finset.sum_congr rfl fun k _ => ?_
  congr 2 <;> blk_simp [e2] <;> (try simp) <;> omega

end Cert.MixDzIdeal.Prod

namespace Cert.Products

open Idealize.ShloMosaic Idealize.ShloMosaic.TcCoe Idealize.SL.Sem Cert.MixDzRefIdeal.Read

/-- The derivative of the plain product, at an element. -/
theorem mixDz_ref (X : (⟨2, ![4096, 2048]⟩ : Shape).Idx → EReal) (Y : (⟨2, ![2048, 2048]⟩ : Shape).Idx → EReal) (y : (⟨2, ![4096, 2048]⟩ : Shape).Idx) :
    val_main_v5 (F := Ideal) X Y y = Cert.MixDzIdeal.Prod.res X Y (y 0).val (y 1).val := by
  rw [val_main_v5_apply]
  show val_main_v4 (F := Ideal) X Y y = _
  rw [val_main_v4_apply]
  unfold Cert.MixDzIdeal.Prod.res
  rw [Finset.sum_range]
  exact Finset.sum_congr rfl fun k _ => congrArg₂ (· * ·) (get2_eq X _ _ _ rfl rfl) (get2_eq Y _ _ _ rfl rfl)

/-- The claim: both programs end with one array on every device. -/
theorem mixDz : @Cert.algebraic_MixDzIdeal_MixDzRefIdeal Cert.MixDzIdeal.Gen.facts Cert.MixDzRefIdeal.Gen.facts := by
  intro m g m' g' _ hargs
  refine ⟨fun c => fun y : Cert.MixDzIdeal.S4096x2048.Idx => Cert.MixDzIdeal.Prod.res (m (c.tc.loc Cert.MixDzIdeal.main_arg0)) (m (c.tc.loc Cert.MixDzIdeal.main_arg1))
    (y 0).val (y 1).val, ?_, ?_⟩
  · refine (θ_run _ _ _).mono (fun r h c => ?_) (Cert.MixDzIdeal.Value.run_blocks m g)
    obtain ⟨h0, hk⟩ := h c
    exact ⟨h0.trans (Cert.MixDzIdeal.Prod.final m c), hk⟩
  · refine (θ_run _ _ _).mono (fun r h c => ?_) (Cert.MixDzRefIdeal.Value.run m' g')
    obtain ⟨h0, hk⟩ := h c
    refine ⟨(h0.trans (val_main_v5_eq _ _)).trans ?_, hk⟩
    obtain ⟨e0, e1⟩ := hargs c
    rw [e0, e1]
    exact funext fun y => mixDz_ref _ _ y

end Cert.Products
end
-- ==== Proof.MixDwA.lean ====
/-
  The gradient of the convolution branch's weight: the branch's activation against the incoming gradient, all rows
  summed at one point for a chip's columns, and the result stored as two halves of rows. What the array holds at
  the end is the plain product's derivative, in the layout the chips exchange.
-/
module

public import proofs.«01_k».proof.Defs
public import proofs.«01_k».proof.Proof.Parts
public import proofs.«01_k».proof.Proof.Gen.MixDwAIdeal.Value
public import proofs.«01_k».proof.Proof.Gen.MixDwARefIdeal.Run
public import proofs.«01_k».proof.Proof.Gen.MixDwARefIdeal.Read

@[expose] public section

set_option maxRecDepth 16384

noncomputable section

namespace Cert.MixDwAIdeal.Prod

open Cert.MixDwAIdeal Cert.MixDwAIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

section Body

variable (x0 : Vec Ideal S4096x1024 .bf16) (x1 : Vec Ideal S4096x512 .bf16)

theorem prod_get2 (r l : ℕ) (hr : r < 1024) (hl : l < 512) :
    get2 (a := 1024) (b := 512) (k0_pay1 x0 x1) r l = ∑ k ∈ Finset.range 4096, get2 x0 k r * get2 x1 k l :=
  get2_of _ (fun r l => ∑ k ∈ Finset.range 4096, get2 x0 k r * get2 x1 k l)
    (matmul_tn (φ := .bf16) (ψ := .bf16) dot_S4096x1024_S4096x512_S1024x512_0_0_1_1_n_n rfl rfl rfl rfl rfl rfl none x0 x1) hr hl

/-- The upper half's rows and the lower half's. -/
theorem halves (x : S1x1x512x512.Idx) :
    k0_pay2 x0 x1 x = get2 (a := 1024) (b := 512) (k0_pay1 x0 x1) (0 + (x 2).val) (0 + (x 3).val)
      ∧ k0_pay3 x0 x1 x = get2 (a := 1024) (b := 512) (k0_pay1 x0 x1) (512 + (x 2).val) (0 + (x 3).val) := by
  unfold k0_pay2 k0_pay3
  exact ⟨(shapeCast_lead2 _ _ x).trans (slice_get2 _ 0 0 _ _), (shapeCast_lead2 _ _ x).trans (slice_get2 _ 512 0 _ _)⟩

/-- The block a point writes, of the two blocks it reads. -/
theorem out_apply (y : S2x1x512x512.Idx) :
    out0_2 x0 x1 y = ∑ k ∈ Finset.range 4096, get2 x0 k (512 * (y 0).val + (y 2).val) * get2 x1 k (y 3).val := by
  have y0 : (y 0).val < 2 := (y 0).isLt
  have y2 : (y 2).val < 512 := (y 2).isLt
  refine Eq.trans ?_ (prod_get2 x0 x1 (512 * (y 0).val + (y 2).val) (y 3).val (by omega) (y 3).isLt)
  unfold out0_2
  refine View.canon_apply_of_pieces (Val := Elt Ideal) (S := S2x1x512x512) (e := .f32)
    (fun y : S2x1x512x512.Idx => get2 (a := 1024) (b := 512) (k0_pay1 x0 x1) (512 * (y 0).val + (y 2).val) (y 3).val) _ ?_ y (cover0_2 _ _ y)
  simp only [View.ld_unit_zero (S := S4096x1024) hz, View.ld_unit_zero (S := S4096x512) hz]
  intro p hp
  rcases List.mem_cons.mp hp with rfl | hp
  · intro x
    refine (halves x0 x1 x).2.trans ?_
    have h0 : (x 0).val < 1 := (x 0).isLt
    dsimp only
    rw [emb_val, emb_val, emb_val]
    congr 1 <;> simp <;> omega
  rcases List.mem_cons.mp hp with rfl | hp
  · intro x
    refine (halves x0 x1 x).1.trans ?_
    have h0 : (x 0).val < 1 := (x 0).isLt
    dsimp only
    rw [emb_val, emb_val, emb_val]
    congr 1 <;> simp <;> omega
  · cases hp

end Body

/-- Where the windows' blocks lie. -/
theorem idx : ∀ t : Fin cfg0.N, t.val < 4 ∧ win0_0.index t = ![0, 0] ∧ win0_1.index t = ![0, t.val] ∧ win0_2.index t = ![0, t.val, 0, 0] :=
  (by decide +kernel : ∀ t : Fin grid0.N, _)

theorem w0_eq (c : Dev nD) (t : Fin cfg0.N) (y : S4096x1024.Idx) :
    iblk m c 0 t y = get2 (m ((c : Thread nD τ).loc main_arg0)) (y 0).val (y 1).val := by
  obtain ⟨ht, e0, e1, e2⟩ := idx t
  unfold iblk
  blk_simp [e0]
  refine get2_eq (m ((c : Thread nD τ).loc main_arg0)) _ _ _ ?_ ?_ <;> blk_simp [e0] <;> simp

theorem w1_eq (c : Dev nD) (t : Fin cfg0.N) (y : S4096x512.Idx) :
    iblk m c 1 t y = get2 (m ((c : Thread nD τ).loc main_arg1)) (y 0).val (512 * t.val + (y 1).val) := by
  obtain ⟨ht, e0, e1, e2⟩ := idx t
  unfold iblk
  blk_simp [e1]
  refine get2_eq (m ((c : Thread nD τ).loc main_arg1)) _ _ _ ?_ ?_ <;> blk_simp [e1] <;> (try simp) <;> omega

/-- One element of the gradient. -/
def res (X : (⟨2, ![4096, 1024]⟩ : Shape).Idx → EReal) (Y : (⟨2, ![4096, 2048]⟩ : Shape).Idx → EReal) (r l : ℕ) : EReal :=
  ∑ k ∈ Finset.range 4096, get2 X k r * get2 Y k l

/-- The result array, of the argument arrays. -/
theorem final (c : Dev nD) : (dats m 0 c).arrAt 2 cfg0.N
    = fun y : S2x4x512x512.Idx => res (m ((c : Thread nD τ).loc main_arg0)) (m ((c : Thread nD τ).loc main_arg1))
        (512 * (y 0).val + (y 2).val) (512 * (y 1).val + (y 3).val) := by
  refine (dats m 0 c).arrAt_eq_of_covers 2 _ (by decide +kernel) fun t hf y => ?_
  obtain ⟨ht, e0, e1, e2⟩ := idx t
  have y0 : (y 0).val < 2 := (y 0).isLt
  have y1 : (y 1).val < 1 := (y 1).isLt
  have y2 : (y 2).val < 512 := (y 2).isLt
  blk_simp
  rw [after0_2]
  refine ((out_apply _ _ y).trans (Finset.sum_congr rfl fun k hk => congrArg₂ (· * ·)
    (get2_of (iblk m c 0 t) (fun k r => get2 _ k r) (w0_eq m c t) (Finset.mem_range.mp hk) (by omega))
    (get2_of (iblk m c 1 t) (fun k l => get2 _ k (_ + l)) (w1_eq m c t) (Finset.mem_range.mp hk) (y 3).isLt))).trans ?_
  unfold res
  refine Finset.sum_congr rfl fun k _ => ?_
  congr 2 <;> blk_simp [e2] <;> (try simp) <;> omega

end Cert.MixDwAIdeal.Prod

namespace Cert.Products

open Idealize.ShloMosaic Idealize.ShloMosaic.TcCoe Idealize.SL.Sem Cert.MixDwARefIdeal.Read

/-- The derivative of the plain product, at an element. -/
theorem mixDwA_ref (X : (⟨2, ![4096, 1024]⟩ : Shape).Idx → EReal) (Y : (⟨2, ![4096, 2048]⟩ : Shape).Idx → EReal) (y : (⟨4, ![2, 4, 512, 512]⟩ : Shape).Idx) :
    val_main_v7 (F := Ideal) X Y y = Cert.MixDwAIdeal.Prod.res X Y (512 * (y 0).val + (y 2).val) (512 * (y 1).val + (y 3).val) := by
  have y1 : (y 1).val < 4 := (y 1).isLt
  have y2 : (y 2).val < 512 := (y 2).isLt
  have y3 : (y 3).val < 512 := (y 3).isLt
  rw [val_main_v7_apply, val_main_v6_apply, val_main_v5_apply, val_main_v4_apply]
  unfold Cert.MixDwAIdeal.Prod.res
  rw [Finset.sum_range]
  refine Finset.sum_congr rfl fun k _ => (mul_comm _ _).trans (congrArg₂ (· * ·) (get2_eq X _ _ _ rfl ?_) (get2_eq Y _ _ _ rfl ?_))
  · show ((((y 0).val * 512 + (y 2).val) * 4 + (y 1).val) * 512 + (y 3).val) / 2048 = _
    omega
  · show ((((y 0).val * 512 + (y 2).val) * 4 + (y 1).val) * 512 + (y 3).val) % 2048 = _
    omega

/-- The claim: both programs end with one array on every device. -/
theorem mixDwA : @Cert.algebraic_MixDwAIdeal_MixDwARefIdeal Cert.MixDwAIdeal.Gen.facts Cert.MixDwARefIdeal.Gen.facts := by
  intro m g m' g' _ hargs
  refine ⟨fun c => fun y : Cert.MixDwAIdeal.S2x4x512x512.Idx => Cert.MixDwAIdeal.Prod.res (m (c.tc.loc Cert.MixDwAIdeal.main_arg0)) (m (c.tc.loc Cert.MixDwAIdeal.main_arg1))
    (512 * (y 0).val + (y 2).val) (512 * (y 1).val + (y 3).val), ?_, ?_⟩
  · refine (θ_run _ _ _).mono (fun r h c => ?_) (Cert.MixDwAIdeal.Value.run_blocks m g)
    obtain ⟨h0, hk⟩ := h c
    exact ⟨h0.trans (Cert.MixDwAIdeal.Prod.final m c), hk⟩
  · refine (θ_run _ _ _).mono (fun r h c => ?_) (Cert.MixDwARefIdeal.Value.run m' g')
    obtain ⟨h0, hk⟩ := h c
    refine ⟨(h0.trans (val_main_v7_eq _ _)).trans ?_, hk⟩
    obtain ⟨e0, e1⟩ := hargs c
    rw [e0, e1]
    exact funext fun y => mixDwA_ref _ _ y

end Cert.Products
end
-- ==== Proof.MixDa.lean ====
/-
  The gradient at the convolution branch's activation: the incoming gradient's columns are summed one chip's part of
  the weight after another, the first part's point setting the accumulator and the last one's writing it out. What the
  array holds at the end is the whole sum, and so is what the plain product's derivative gives.
-/
module

public import proofs.«01_k».proof.Defs
public import proofs.«01_k».proof.Proof.Parts
public import proofs.«01_k».proof.Proof.Gen.MixDaIdeal.Value
public import proofs.«01_k».proof.Proof.Gen.MixDaRefIdeal.Run
public import proofs.«01_k».proof.Proof.Gen.MixDaRefIdeal.Read

@[expose] public section

set_option maxRecDepth 16384

noncomputable section

namespace Cert.MixDaIdeal.Prod

open Cert.MixDaIdeal Cert.MixDaIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

section Cases

variable (c : Dev nD) (i : grid0.Coords) (a3 : Memref sig .tc .vmem S1024x512 .bf16) (h3 : a3.IsWhole) (a4 : Memref sig .tc .vmem S1x1024x512 .bf16)
  (h4 : a4.IsWhole) (a5 : Memref sig .tc .vmem S1024x1024 .bf16) (h5 : a5.IsWhole) (a6 : Memref sig .tc .vmem S1024x1024 .f32) (h6 : a6.IsWhole)
  (x0 : Vec Ideal S1024x512 .bf16) (x1 : Vec Ideal S1x1024x512 .bf16) (xs : Vec Ideal S1024x1024 .f32)

/-- The accumulator after one more part. -/
theorem step_apply (y : S1024x1024.Idx) :
    k0_pay2 xs x0 x1 y = xs y + ∑ k ∈ Finset.range 512, get2 x0 (y 0).val k * get3 x1 0 (y 1).val k := by
  unfold k0_pay2
  rw [shapeCast_self]
  refine congrArg (xs y + ·) ((matmul_nt (φ := .bf16) (ψ := .bf16) dot_S1024x512_S1024x512_S1024x1024_1_1_0_0_n_n rfl rfl rfl rfl rfl rfl none _ _ y).trans ?_)
  exact Finset.sum_congr rfl fun k _ => congrArg (get2 x0 (y 0).val k * ·) (get2_shapeCast x1 _ (y 1).val k)

/-- The first part's point leaves that part's sum. -/
theorem first_apply (hc0 : cond0_0 i) (hc1 : ¬cond0_1 i) (y : S1024x1024.Idx) :
    sout0_A_0 c i a3 h3 a4 h4 a5 h5 a6 h6 hc0 hc1 x0 x1 y = ∑ k ∈ Finset.range 512, get2 x0 (y 0).val k * get3 x1 0 (y 1).val k := by
  unfold sout0_A_0
  rw [View.read_writes_eq_canon _ _ _ (scover0_A_0 c i a3 h3 a4 h4 a5 h5 a6 h6 hc0 hc1 x0 x1)]
  unfold kernelRun0_A
  dsimp only
  sl_unfold_run_names
  rw [View.canon_cons_unit_zero (S := S1024x1024) hz, View.readCov_unit_zero (S := S1024x1024) _ hz]
  simp only [View.readAt_eq_ld, h3.read_unread, h4.read_unread, View.ld_unit_zero (S := S1024x512) hz, View.ld_unit_zero (S := S1x1024x512) hz3]
  rw [step_apply]
  unfold k0_pay1
  rw [shapeCast_self]
  exact (congrArg (· + _) Ideal.ofBits_zero_f32).trans (zero_add _)

/-- A later part's point adds that part's sum. -/
theorem next_apply (hc0 : ¬cond0_0 i) (hc1 : ¬cond0_1 i) (y : S1024x1024.Idx) :
    sout0_B_0 c i a3 h3 a4 h4 a5 h5 a6 h6 hc0 hc1 x0 x1 xs y = xs y + ∑ k ∈ Finset.range 512, get2 x0 (y 0).val k * get3 x1 0 (y 1).val k := by
  unfold sout0_B_0
  rw [View.read_writes_eq_canon _ _ _ (scover0_B_0 c i a3 h3 a4 h4 a5 h5 a6 h6 hc0 hc1 x0 x1 xs)]
  unfold kernelRun0_B
  dsimp only
  sl_unfold_run_names
  rw [View.canon_unit_zero (S := S1024x1024) hz]
  simp only [View.readAt_eq_ld, h3.read_unread, h4.read_unread, h6.read_unread, View.ld_unit_zero (S := S1024x512) hz, View.ld_unit_zero (S := S1x1024x512) hz3, View.ld_unit_zero (S := S1024x1024) hz]
  exact step_apply x0 x1 xs y

/-- The last part's point writes the accumulator. -/
theorem last_apply (hc0 : ¬cond0_0 i) (hc1 : cond0_1 i) (y : S1024x1024.Idx) :
    out0_C_2 c i a3 h3 a4 h4 a5 h5 a6 h6 hc0 hc1 x0 x1 xs y = xs y + ∑ k ∈ Finset.range 512, get2 x0 (y 0).val k * get3 x1 0 (y 1).val k := by
  unfold out0_C_2
  rw [View.read_writes_eq_canon _ _ _ (cover0_C_2 c i a3 h3 a4 h4 a5 h5 a6 h6 hc0 hc1 x0 x1 xs)]
  unfold kernelRun0_C
  dsimp only
  sl_unfold_run_names
  rw [View.canon_unit_zero (S := S1024x1024) hz, View.readCov_unit_zero (S := S1024x1024) _ hz]
  simp only [View.readAt_eq_ld, h3.read_unread, h4.read_unread, h6.read_unread, View.ld_unit_zero (S := S1024x512) hz, View.ld_unit_zero (S := S1x1024x512) hz3, View.ld_unit_zero (S := S1024x1024) hz]
  unfold k0_pay3
  rw [shapeCast_self]
  exact step_apply x0 x1 xs y

end Cases

/-- Where the windows' blocks lie. -/
theorem idx : ∀ t : Fin cfg0.N, t.val < 16 ∧ win0_0.index t = ![t.val / 4, t.val % 4] ∧ win0_1.index t = ![t.val % 4, 0, 0] ∧
    win0_2.index t = ![t.val / 4, 0] :=
  (by decide +kernel : ∀ t : Fin grid0.N, _)

theorem w0_eq (c : Dev nD) (t : Fin cfg0.N) (y : S1024x512.Idx) :
    iblk m c 0 t y = get2 (m ((c : Thread nD τ).loc main_arg0)) (1024 * (t.val / 4) + (y 0).val) (512 * (t.val % 4) + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S1x1024x512.Idx) :
    iblk m c 1 t y = get3 (m ((c : Thread nD τ).loc main_arg1)) (t.val % 4 + (y 0).val) (y 1).val (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- The product of the two arrays' elements at one column, the columns counted through the chips' parts. -/
def term (X : (⟨2, ![4096, 2048]⟩ : Shape).Idx → EReal) (Y : (⟨3, ![4, 1024, 512]⟩ : Shape).Idx → EReal) (r s k : ℕ) : EReal :=
  get2 X r k * get3 Y (k / 512) s (k % 512)

/-- One element of the gradient: all columns summed. -/
def res (X : (⟨2, ![4096, 2048]⟩ : Shape).Idx → EReal) (Y : (⟨3, ![4, 1024, 512]⟩ : Shape).Idx → EReal) (r s : ℕ) : EReal :=
  ∑ k ∈ Finset.range 2048, term X Y r s k

/-- The sum over the columns of part `q`. -/
def part (c : Dev nD) (q r s : ℕ) : EReal :=
  ∑ k ∈ Finset.range 512, term (m ((c : Thread nD τ).loc main_arg0)) (m ((c : Thread nD τ).loc main_arg1)) r s (512 * q + k)

theorem part_eq (c : Dev nD) (t : Fin cfg0.N) (r s : ℕ) (hr : r < 1024) (hs : s < 1024) :
    ∑ k ∈ Finset.range 512, get2 (a := 1024) (b := 512) (iblk m c 0 t) r k * get3 (a := 1) (b := 1024) (c := 512) (iblk m c 1 t) 0 s k
      = part m c (t.val % 4) (1024 * (t.val / 4) + r) s := by
  refine Finset.sum_congr rfl fun k hk => ?_
  have hk' := Finset.mem_range.mp hk
  refine (congrArg₂ (· * ·) (get2_of (iblk m c 0 t) (fun k l => get2 _ (_ + k) (_ + l)) (w0_eq m c t) hr hk')
    (get3_of (iblk m c 1 t) (fun p k l => get3 _ (_ + p) k l) (w1_eq m c t) Nat.one_pos hs hk')).trans ?_
  unfold term
  rw [show (512 * (t.val % 4) + k) / 512 = t.val % 4 by omega, show (512 * (t.val % 4) + k) % 512 = k by omega, Nat.add_zero]

/-- What the accumulator holds after the first part's point … -/
theorem first (c : Dev nD) (t : ℕ) (ht : t < cfg0.N) (hm : t % 4 = 0) (j : S1024x1024.Idx) :
    (outsAt0 m c t ht).2 j = part m c 0 (1024 * (t / 4) + (j 0).val) (j 1).val := by
  rw [show outsAt0 m c t ht = _ from outsAt0_A m c ⟨t, ht⟩ hm (by dsimp only; omega)]
  dsimp only
  rw [first_apply]
  exact (part_eq m c ⟨t, ht⟩ (j 0).val (j 1).val (j 0).isLt (j 1).isLt).trans (congrArg (part m c · _ _) hm)

/-- … and after a later one's. -/
theorem next (c : Dev nD) (t : ℕ) (ht : t + 1 < cfg0.N) (h0 : (t + 1) % 4 ≠ 0) (h1 : (t + 1) % 4 ≠ 3) (j : S1024x1024.Idx) :
    (outsAt0 m c (t + 1) ht).2 j = (outsAt0 m c t (Nat.lt_of_succ_lt ht)).2 j
      + part m c ((t + 1) % 4) (1024 * ((t + 1) / 4) + (j 0).val) (j 1).val := by
  rw [show outsAt0 m c (t + 1) ht = _ from outsAt0_B m c ⟨t + 1, ht⟩ h0 h1]
  dsimp only
  rw [next_apply]
  exact congrArg (_ + ·) (part_eq m c ⟨t + 1, ht⟩ (j 0).val (j 1).val (j 0).isLt (j 1).isLt)

/-- What a run's last point writes back. -/
theorem block (c : Dev nD) (t : ℕ) (ht : t + 3 < cfg0.N) (hm : t % 4 = 0) (y : S1024x1024.Idx) :
    (outsAt0 m c (t + 3) ht).1 y = res (m ((c : Thread nD τ).loc main_arg0)) (m ((c : Thread nD τ).loc main_arg1))
      (1024 * ((t + 3) / 4) + (y 0).val) (y 1).val := by
  rw [show outsAt0 m c (t + 3) ht = _ from outsAt0_C m c ⟨t + 3, ht⟩ (by dsimp only; omega) (by dsimp only; omega)]
  dsimp only
  rw [last_apply]
  refine (congrArg₂ (· + ·) ((next m c (t + 1) (by omega) (by omega) (by omega) y).trans (congrArg (· + _) ((next m c t (by omega) (by omega) (by omega) y).trans
    (congrArg (· + _) (first m c t (by omega) hm y))))) (part_eq m c ⟨t + 3, ht⟩ (y 0).val (y 1).val (y 0).isLt (y 1).isLt)).trans ?_
  refine Eq.trans ?_ (sum_four (term (m ((c : Thread nD τ).loc main_arg0)) (m ((c : Thread nD τ).loc main_arg1))
    (1024 * ((t + 3) / 4) + (y 0).val) (y 1).val) 512).symm
  unfold part
  simp only [show (t + 3) % 4 = 3 by omega, show (t + 1 + 1) % 4 = 2 by omega, show (t + 1) % 4 = 1 by omega, show t / 4 = (t + 3) / 4 by omega,
    show (t + 1) / 4 = (t + 3) / 4 by omega, show (t + 1 + 1) / 4 = (t + 3) / 4 by omega, Nat.mul_zero, Nat.zero_add, Nat.reduceMul, Nat.reduceAdd]

theorem block_at (c : Dev nD) (t : ℕ) (ht : t < cfg0.N) (hm : t % 4 = 3) (y : S1024x1024.Idx) :
    (outsAt0 m c t ht).1 y = res (m ((c : Thread nD τ).loc main_arg0)) (m ((c : Thread nD τ).loc main_arg1))
      (1024 * (t / 4) + (y 0).val) (y 1).val := by
  obtain ⟨n, rfl⟩ : ∃ n, t = n + 3 := ⟨t - 3, by omega⟩
  exact block m c n ht (by omega) y

/-- The result array, of the argument arrays. -/
theorem final (c : Dev nD) : (dats m 0 c).arrAt 2 cfg0.N
    = fun y : S4096x1024.Idx => res (m ((c : Thread nD τ).loc main_arg0)) (m ((c : Thread nD τ).loc main_arg1)) (y 0).val (y 1).val := by
  refine (dats m 0 c).arrAt_eq_of_covers 2 _ (by decide +kernel) fun t hf y => ?_
  have hm : t.val % 4 = 3 := (flush0_2 t).mp hf
  obtain ⟨ht, e0, e1, e2⟩ := idx t
  blk_simp
  rw [after0_2]
  refine (block_at m c t.val t.isLt hm y).trans ?_
  congr 1 <;> blk_simp [e2] <;> (try simp) <;> omega

end Cert.MixDaIdeal.Prod

namespace Cert.Products

open Idealize.ShloMosaic Idealize.ShloMosaic.TcCoe Idealize.SL.Sem Cert.MixDaRefIdeal.Read

/-- The derivative of the plain product, at an element. -/
theorem mixDa_ref (X : (⟨2, ![4096, 2048]⟩ : Shape).Idx → EReal) (Y : (⟨3, ![4, 1024, 512]⟩ : Shape).Idx → EReal) (y : (⟨2, ![4096, 1024]⟩ : Shape).Idx) :
    val_main_v14 (F := Ideal) X Y y = Cert.MixDaIdeal.Prod.res X Y (y 0).val (y 1).val := by
  rw [val_main_v14_apply]
  show val_main_v13 (F := Ideal) X Y y = _
  rw [val_main_v13_apply]
  unfold Cert.MixDaIdeal.Prod.res
  rw [Finset.sum_range]
  refine Finset.sum_congr rfl fun k _ => congrArg₂ (· * ·) ?_ ?_
  · rw [val_main_v12_apply]
    exact get2_eq X _ _ _ rfl rfl
  · rw [val_main_v9_apply]
    exact cat_parts (t := 2048) (by decide) (by decide) Y _ _ _ _ _ Cert.MixDaRefIdeal.Facts₀.concatenates_S1024x512_S1024x512_S1024x512_S1024x512_S1024x2048_d1 _ _ k.val rfl rfl

/-- The claim: both programs end with one array on every device. -/
theorem mixDa : @Cert.algebraic_MixDaIdeal_MixDaRefIdeal Cert.MixDaIdeal.Gen.facts Cert.MixDaRefIdeal.Gen.facts := by
  intro m g m' g' _ hargs
  refine ⟨fun c => fun y : Cert.MixDaIdeal.S4096x1024.Idx => Cert.MixDaIdeal.Prod.res (m (c.tc.loc Cert.MixDaIdeal.main_arg0)) (m (c.tc.loc Cert.MixDaIdeal.main_arg1))
    (y 0).val (y 1).val, ?_, ?_⟩
  · refine (θ_run _ _ _).mono (fun r h c => ?_) (Cert.MixDaIdeal.Value.run_blocks m g)
    obtain ⟨h0, hk⟩ := h c
    exact ⟨h0.trans (Cert.MixDaIdeal.Prod.final m c), hk⟩
  · refine (θ_run _ _ _).mono (fun r h c => ?_) (Cert.MixDaRefIdeal.Value.run m' g')
    obtain ⟨h0, hk⟩ := h c
    refine ⟨(h0.trans (val_main_v14_eq _ _)).trans ?_, hk⟩
    obtain ⟨e0, e1⟩ := hargs c
    rw [e0, e1]
    exact funext fun y => mixDa_ref _ _ y

end Cert.Products
end
-- ==== Proof.MixDwB.lean ====
/-
  The gradient of the pooled branch's weight: a group's mixed values against that group's columns of the incoming
  gradient, all rows summed at one point a group, and the result stored as the four chips' columns. What the array
  holds at the end is the derivative of the plain map from groups to groups, in the layout the chips exchange.
-/
module

public import proofs.«01_k».proof.Defs
public import proofs.«01_k».proof.Proof.Parts
public import proofs.«01_k».proof.Proof.Gen.MixDwBIdeal.Value
public import proofs.«01_k».proof.Proof.Gen.MixDwBRefIdeal.Run
public import proofs.«01_k».proof.Proof.Gen.MixDwBRefIdeal.Read

@[expose] public section

set_option maxRecDepth 16384

noncomputable section

namespace Cert.MixDwBIdeal.Prod

open Cert.MixDwBIdeal Cert.MixDwBIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

section Body

variable (x0 : Vec Ideal S4096x256 .bf16) (x1 : Vec Ideal S4096x512 .bf16)

theorem prod_get2 (r l : ℕ) (hr : r < 256) (hl : l < 512) :
    get2 (a := 256) (b := 512) (k0_pay1 x0 x1) r l = ∑ k ∈ Finset.range 4096, get2 x0 k r * get2 x1 k l :=
  get2_of _ (fun r l => ∑ k ∈ Finset.range 4096, get2 x0 k r * get2 x1 k l)
    (matmul_tn (φ := .bf16) (ψ := .bf16) dot_S4096x256_S4096x512_S256x512_0_0_1_1_n_n rfl rfl rfl rfl rfl rfl none x0 x1) hr hl

/-- The chips' columns. -/
theorem chips (x : S1x1x256x128.Idx) :
    (k0_pay2 x0 x1 x = get2 (a := 256) (b := 512) (k0_pay1 x0 x1) (0 + (x 2).val) (0 + (x 3).val)
      ∧ k0_pay3 x0 x1 x = get2 (a := 256) (b := 512) (k0_pay1 x0 x1) (0 + (x 2).val) (128 + (x 3).val))
    ∧ k0_pay4 x0 x1 x = get2 (a := 256) (b := 512) (k0_pay1 x0 x1) (0 + (x 2).val) (256 + (x 3).val)
      ∧ k0_pay5 x0 x1 x = get2 (a := 256) (b := 512) (k0_pay1 x0 x1) (0 + (x 2).val) (384 + (x 3).val) := by
  unfold k0_pay2 k0_pay3 k0_pay4 k0_pay5
  exact ⟨⟨(shapeCast_lead2 _ _ x).trans (slice_get2 _ 0 0 _ _), (shapeCast_lead2 _ _ x).trans (slice_get2 _ 0 128 _ _)⟩,
    (shapeCast_lead2 _ _ x).trans (slice_get2 _ 0 256 _ _), (shapeCast_lead2 _ _ x).trans (slice_get2 _ 0 384 _ _)⟩

/-- The block a point writes, of the two blocks it reads. -/
theorem out_apply (y : S1x4x256x128.Idx) :
    out0_2 x0 x1 y = ∑ k ∈ Finset.range 4096, get2 x0 k (y 2).val * get2 x1 k (128 * (y 1).val + (y 3).val) := by
  have y1 : (y 1).val < 4 := (y 1).isLt
  have y3 : (y 3).val < 128 := (y 3).isLt
  refine Eq.trans ?_ (prod_get2 x0 x1 (y 2).val (128 * (y 1).val + (y 3).val) (y 2).isLt (by omega))
  unfold out0_2
  refine View.canon_apply_of_pieces (Val := Elt Ideal) (S := S1x4x256x128) (e := .f32)
    (fun y : S1x4x256x128.Idx => get2 (a := 256) (b := 512) (k0_pay1 x0 x1) (y 2).val (128 * (y 1).val + (y 3).val)) _ ?_ y (cover0_2 _ _ _ _ y)
  simp only [View.ld_unit_zero (S := S4096x256) hz, View.ld_unit_zero (S := S4096x512) hz]
  have at_chip : ∀ (q : ℕ) (inb) (x : S1x1x256x128.Idx),
      get2 (a := 256) (b := 512) (k0_pay1 x0 x1) (0 + (x 2).val) (128 * q + (x 3).val)
        = (fun y : S1x4x256x128.Idx => get2 (a := 256) (b := 512) (k0_pay1 x0 x1) (y 2).val (128 * (y 1).val + (y 3).val))
            ((Rect.unit (s := S1x4x256x128) ![0, q, 0, 0] S1x1x256x128.size inb).emb x) := fun q inb x => by
    have h1 : (x 1).val < 1 := (x 1).isLt
    dsimp only
    rw [emb_val, emb_val, emb_val]
    congr 1 <;> simp <;> omega
  intro p hp
  rcases List.mem_cons.mp hp with rfl | hp
  · exact fun x => (chips x0 x1 x).2.2.trans (at_chip 3 (by decide) x)
  rcases List.mem_cons.mp hp with rfl | hp
  · exact fun x => (chips x0 x1 x).2.1.trans (at_chip 2 (by decide) x)
  rcases List.mem_cons.mp hp with rfl | hp
  · exact fun x => (chips x0 x1 x).1.2.trans (at_chip 1 (by decide) x)
  rcases List.mem_cons.mp hp with rfl | hp
  · exact fun x => (chips x0 x1 x).1.1.trans (at_chip 0 (by decide) x)
  · cases hp

end Body

/-- Where the windows' blocks lie. -/
theorem idx : ∀ t : Fin cfg0.N, t.val < 4 ∧ win0_0.index t = ![0, t.val] ∧ win0_1.index t = ![0, t.val] ∧ win0_2.index t = ![t.val / 2, 0, t.val % 2, 0] :=
  (by decide +kernel : ∀ t : Fin grid0.N, _)

theorem w0_eq (c : Dev nD) (t : Fin cfg0.N) (y : S4096x256.Idx) :
    iblk m c 0 t y = get2 (m ((c : Thread nD τ).loc main_arg0)) (y 0).val (256 * t.val + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S4096x512.Idx) :
    iblk m c 1 t y = get2 (m ((c : Thread nD τ).loc main_arg1)) (y 0).val (512 * t.val + (y 1).val) := by
  obtain ⟨ht, e0, e1, e2⟩ := idx t
  unfold iblk
  blk_simp [e1]
  refine get2_eq (m ((c : Thread nD τ).loc main_arg1)) _ _ _ ?_ ?_ <;> blk_simp [e1] <;> (try simp) <;> omega

/-- One element of the gradient: column `r` of the mixed values against column `l` of the incoming gradient. -/
def res (X : (⟨2, ![4096, 1024]⟩ : Shape).Idx → EReal) (Y : (⟨2, ![4096, 2048]⟩ : Shape).Idx → EReal) (r l : ℕ) : EReal :=
  ∑ k ∈ Finset.range 4096, get2 X k r * get2 Y k l

/-- The result array, of the argument arrays. -/
theorem final (c : Dev nD) : (dats m 0 c).arrAt 2 cfg0.N
    = fun y : S2x4x512x128.Idx => res (m ((c : Thread nD τ).loc main_arg0)) (m ((c : Thread nD τ).loc main_arg1))
        (512 * (y 0).val + (y 2).val) (512 * (2 * (y 0).val + (y 2).val / 256) + 128 * (y 1).val + (y 3).val) := by
  refine (dats m 0 c).arrAt_eq_of_covers 2 _ (by decide +kernel) fun t hf y => ?_
  obtain ⟨ht, e0, e1, e2⟩ := idx t
  have y0 : (y 0).val < 1 := (y 0).isLt
  have y1 : (y 1).val < 4 := (y 1).isLt
  have y2 : (y 2).val < 256 := (y 2).isLt
  have y3 : (y 3).val < 128 := (y 3).isLt
  blk_simp
  rw [after0_2]
  refine ((out_apply _ _ y).trans (Finset.sum_congr rfl fun k hk => congrArg₂ (· * ·)
    (get2_of (iblk m c 0 t) (fun k r => get2 _ k (_ + r)) (w0_eq m c t) (Finset.mem_range.mp hk) (y 2).isLt)
    (get2_of (iblk m c 1 t) (fun k l => get2 _ k (_ + l)) (w1_eq m c t) (Finset.mem_range.mp hk) (by omega)))).trans ?_
  unfold res
  refine Finset.sum_congr rfl fun k _ => ?_
  congr 2 <;> blk_simp [e2] <;> (try simp) <;> omega

end Cert.MixDwBIdeal.Prod

namespace Cert.Products

open Idealize.ShloMosaic Idealize.ShloMosaic.TcCoe Idealize.SL.Sem Cert.MixDwBRefIdeal.Read

/-- The derivative of the plain map, at an element. -/
theorem mixDwB_ref (X : (⟨2, ![4096, 1024]⟩ : Shape).Idx → EReal) (Y : (⟨2, ![4096, 2048]⟩ : Shape).Idx → EReal) (y : (⟨4, ![2, 4, 512, 128]⟩ : Shape).Idx) :
    val_main_v12 (F := Ideal) X Y y = Cert.MixDwBIdeal.Prod.res X Y (512 * (y 0).val + (y 2).val) (512 * (2 * (y 0).val + (y 2).val / 256) + 128 * (y 1).val + (y 3).val) := by
  have y0 : (y 0).val < 2 := (y 0).isLt
  have y1 : (y 1).val < 4 := (y 1).isLt
  have y2 : (y 2).val < 512 := (y 2).isLt
  have y3 : (y 3).val < 128 := (y 3).isLt
  rw [val_main_v12_apply, val_main_v11_apply, val_main_v10_apply, val_main_v9_apply]
  unfold Cert.MixDwBIdeal.Prod.res
  rw [Finset.sum_range]
  refine Finset.sum_congr rfl fun k _ => (mul_comm _ _).trans (congrArg₂ (· * ·) ?_ ?_)
  · rw [val_main_v2_apply]
    refine get2_eq X _ _ _ ?_ ?_
    · show ((k.val * 4 + ((((y 0).val * 512 + (y 2).val) * 4 + (y 1).val) * 128 + (y 3).val) / 131072) * 256 + ((((y 0).val * 512 + (y 2).val) * 4 + (y 1).val) * 128 + (y 3).val) / 512 % 256) / 1024 = k.val
      omega
    · show ((k.val * 4 + ((((y 0).val * 512 + (y 2).val) * 4 + (y 1).val) * 128 + (y 3).val) / 131072) * 256 + ((((y 0).val * 512 + (y 2).val) * 4 + (y 1).val) * 128 + (y 3).val) / 512 % 256) % 1024 = _
      omega
  · rw [val_main_v8_apply, val_main_v7_apply]
    refine get2_eq Y _ _ _ ?_ ?_
    · show ((k.val * 4 + ((((y 0).val * 512 + (y 2).val) * 4 + (y 1).val) * 128 + (y 3).val) / 131072) * 512 + ((((y 0).val * 512 + (y 2).val) * 4 + (y 1).val) * 128 + (y 3).val) % 512) / 2048 = k.val
      omega
    · show ((k.val * 4 + ((((y 0).val * 512 + (y 2).val) * 4 + (y 1).val) * 128 + (y 3).val) / 131072) * 512 + ((((y 0).val * 512 + (y 2).val) * 4 + (y 1).val) * 128 + (y 3).val) % 512) % 2048 = _
      omega

/-- The claim: both programs end with one array on every device. -/
theorem mixDwB : @Cert.algebraic_MixDwBIdeal_MixDwBRefIdeal Cert.MixDwBIdeal.Gen.facts Cert.MixDwBRefIdeal.Gen.facts := by
  intro m g m' g' _ hargs
  refine ⟨fun c => fun y : Cert.MixDwBIdeal.S2x4x512x128.Idx => Cert.MixDwBIdeal.Prod.res (m (c.tc.loc Cert.MixDwBIdeal.main_arg0)) (m (c.tc.loc Cert.MixDwBIdeal.main_arg1))
    (512 * (y 0).val + (y 2).val) (512 * (2 * (y 0).val + (y 2).val / 256) + 128 * (y 1).val + (y 3).val), ?_, ?_⟩
  · refine (θ_run _ _ _).mono (fun r h c => ?_) (Cert.MixDwBIdeal.Value.run_blocks m g)
    obtain ⟨h0, hk⟩ := h c
    exact ⟨h0.trans (Cert.MixDwBIdeal.Prod.final m c), hk⟩
  · refine (θ_run _ _ _).mono (fun r h c => ?_) (Cert.MixDwBRefIdeal.Value.run m' g')
    obtain ⟨h0, hk⟩ := h c
    refine ⟨(h0.trans (val_main_v12_eq _ _)).trans ?_, hk⟩
    obtain ⟨e0, e1⟩ := hargs c
    rw [e0, e1]
    exact funext fun y => mixDwB_ref _ _ y

end Cert.Products
end
-- ==== Proof.MixDmixed.lean ====
/-
  The gradient at the pooled branch's mixed values: a group's columns of the incoming gradient against the rows of the
  group's weight, one block of rows and one group a point. What the array holds at the end is the derivative of the
  plain map from groups to groups.
-/
module

public import proofs.«01_k».proof.Defs
public import proofs.«01_k».proof.Proof.Parts
public import proofs.«01_k».proof.Proof.Gen.MixDmixedIdeal.Value
public import proofs.«01_k».proof.Proof.Gen.MixDmixedRefIdeal.Run
public import proofs.«01_k».proof.Proof.Gen.MixDmixedRefIdeal.Read

@[expose] public section

set_option maxRecDepth 16384

noncomputable section

namespace Cert.MixDmixedIdeal.Prod

open Cert.MixDmixedIdeal Cert.MixDmixedIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

/-- The block a point writes, of the two blocks it reads. -/
theorem out_apply (x0 : Vec Ideal S1024x512 .bf16) (x1 : Vec Ideal S1x256x512 .bf16) (y : S1024x256.Idx) :
    out0_2 x0 x1 y = ∑ k ∈ Finset.range 512, get2 x0 (y 0).val k * get3 x1 0 (y 1).val k := by
  unfold out0_2
  rw [View.canon_unit_zero (S := S1024x256) hz]
  simp only [View.ld_unit_zero (S := S1024x512) hz, View.ld_unit_zero (S := S1x256x512) hz3]
  unfold k0_pay1
  rw [shapeCast_self]
  refine (matmul_nt (φ := .bf16) (ψ := .bf16) dot_S1024x512_S256x512_S1024x256_1_1_0_0_n_n rfl rfl rfl rfl rfl rfl none x0 _ y).trans ?_
  exact Finset.sum_congr rfl fun k _ => congrArg (get2 x0 (y 0).val k * ·) (get2_shapeCast x1 _ (y 1).val k)

/-- Where the windows' blocks lie. -/
theorem idx : ∀ t : Fin cfg0.N, t.val < 16 ∧ win0_0.index t = ![t.val / 4, t.val % 4] ∧ win0_1.index t = ![t.val % 4, 0, 0] ∧
    win0_2.index t = ![t.val / 4, t.val % 4] :=
  (by decide +kernel : ∀ t : Fin grid0.N, _)

theorem w0_eq (c : Dev nD) (t : Fin cfg0.N) (y : S1024x512.Idx) :
    iblk m c 0 t y = get2 (m ((c : Thread nD τ).loc main_arg0)) (1024 * (t.val / 4) + (y 0).val) (512 * (t.val % 4) + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S1x256x512.Idx) :
    iblk m c 1 t y = get3 (m ((c : Thread nD τ).loc main_arg1)) (t.val % 4 + (y 0).val) (y 1).val (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- One element of the gradient: row `r`, the group's column `s`. -/
def res (X : (⟨2, ![4096, 2048]⟩ : Shape).Idx → EReal) (Y : (⟨3, ![4, 256, 512]⟩ : Shape).Idx → EReal) (r p s : ℕ) : EReal :=
  ∑ k ∈ Finset.range 512, get2 X r (512 * p + k) * get3 Y p s k

/-- The result array, of the argument arrays. -/
theorem final (c : Dev nD) : (dats m 0 c).arrAt 2 cfg0.N
    = fun y : S4096x1024.Idx => res (m ((c : Thread nD τ).loc main_arg0)) (m ((c : Thread nD τ).loc main_arg1)) (y 0).val ((y 1).val / 256) ((y 1).val % 256) := by
  refine (dats m 0 c).arrAt_eq_of_covers 2 _ (by decide +kernel) fun t hf y => ?_
  obtain ⟨ht, e0, e1, e2⟩ := idx t
  have y1 : (y 1).val < 256 := (y 1).isLt
  blk_simp
  rw [after0_2]
  refine ((out_apply _ _ y).trans (Finset.sum_congr rfl fun k hk => congrArg₂ (· * ·)
    (get2_of (iblk m c 0 t) (fun r k => get2 _ (_ + r) (_ + k)) (w0_eq m c t) (y 0).isLt (Finset.mem_range.mp hk))
    (get3_of (iblk m c 1 t) (fun p r k => get3 _ (_ + p) r k) (w1_eq m c t) Nat.one_pos y1 (Finset.mem_range.mp hk)))).trans ?_
  unfold res
  refine Finset.sum_congr rfl fun k _ => ?_
  congr 2 <;> blk_simp [e2] <;> (try simp) <;> omega

end Cert.MixDmixedIdeal.Prod

namespace Cert.Products

open Idealize.ShloMosaic Idealize.ShloMosaic.TcCoe Idealize.SL.Sem Cert.MixDmixedRefIdeal.Read

/-- The derivative of the plain map, at an element. -/
theorem mixDmixed_ref (X : (⟨2, ![4096, 2048]⟩ : Shape).Idx → EReal) (Y : (⟨3, ![4, 256, 512]⟩ : Shape).Idx → EReal) (y : (⟨2, ![4096, 1024]⟩ : Shape).Idx) :
    val_main_v12 (F := Ideal) X Y y = Cert.MixDmixedIdeal.Prod.res X Y (y 0).val ((y 1).val / 256) ((y 1).val % 256) := by
  have y0 : (y 0).val < 4096 := (y 0).isLt
  have y1 : (y 1).val < 1024 := (y 1).isLt
  rw [val_main_v12_apply]
  show val_main_v11 (F := Ideal) X Y y = _
  rw [val_main_v11_apply, val_main_v10_apply, val_main_v9_apply]
  unfold Cert.MixDmixedIdeal.Prod.res
  rw [Finset.sum_range]
  refine Finset.sum_congr rfl fun k _ => congrArg₂ (· * ·) ?_ (get3_eq Y _ _ _ _ ?_ ?_ rfl)
  · rw [val_main_v8_apply, val_main_v7_apply]
    refine get2_eq X _ _ _ ?_ ?_
    · show ((((y 0).val * 1024 + (y 1).val) / 1024 * 4 + ((y 0).val * 1024 + (y 1).val) / 256 % 4) * 512 + k.val) / 2048 = (y 0).val
      omega
    · show ((((y 0).val * 1024 + (y 1).val) / 1024 * 4 + ((y 0).val * 1024 + (y 1).val) / 256 % 4) * 512 + k.val) % 2048 = 512 * ((y 1).val / 256) + k.val
      omega
  · show ((y 0).val * 1024 + (y 1).val) / 256 % 4 = (y 1).val / 256
    omega
  · show ((y 0).val * 1024 + (y 1).val) % 256 = (y 1).val % 256
    omega

/-- The claim: both programs end with one array on every device. -/
theorem mixDmixed : @Cert.algebraic_MixDmixedIdeal_MixDmixedRefIdeal Cert.MixDmixedIdeal.Gen.facts Cert.MixDmixedRefIdeal.Gen.facts := by
  intro m g m' g' _ hargs
  refine ⟨fun c => fun y : Cert.MixDmixedIdeal.S4096x1024.Idx => Cert.MixDmixedIdeal.Prod.res (m (c.tc.loc Cert.MixDmixedIdeal.main_arg0)) (m (c.tc.loc Cert.MixDmixedIdeal.main_arg1))
    (y 0).val ((y 1).val / 256) ((y 1).val % 256), ?_, ?_⟩
  · refine (θ_run _ _ _).mono (fun r h c => ?_) (Cert.MixDmixedIdeal.Value.run_blocks m g)
    obtain ⟨h0, hk⟩ := h c
    exact ⟨h0.trans (Cert.MixDmixedIdeal.Prod.final m c), hk⟩
  · refine (θ_run _ _ _).mono (fun r h c => ?_) (Cert.MixDmixedRefIdeal.Value.run m' g')
    obtain ⟨h0, hk⟩ := h c
    refine ⟨(h0.trans (val_main_v12_eq _ _)).trans ?_, hk⟩
    obtain ⟨e0, e1⟩ := hargs c
    rw [e0, e1]
    exact funext fun y => mixDmixed_ref _ _ y

end Cert.Products
end
-- ==== Proof.MixDwIn.lean ====
/-
  The gradient of the mixer's input weight: the normalised input against the projection's incoming gradient, all rows
  summed at one point a block, a chip's columns and a row block at a time. What the array holds at the end is the
  plain product's derivative, in the layout the chips exchange.
-/
module

public import proofs.«01_k».proof.Defs
public import proofs.«01_k».proof.Proof.Parts
public import proofs.«01_k».proof.Proof.Gen.MixDwInIdeal.Value
public import proofs.«01_k».proof.Proof.Gen.MixDwInRefIdeal.Run
public import proofs.«01_k».proof.Proof.Gen.MixDwInRefIdeal.Read

@[expose] public section

set_option maxRecDepth 16384

noncomputable section

namespace Cert.MixDwInIdeal.Prod

open Cert.MixDwInIdeal Cert.MixDwInIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz4 : (![0, 0, 0, 0] : Fin 4 → ℕ) = fun _ => 0 := funext fun a => by fin_cases a <;> rfl

theorem hz3 : (![0, 0, 0] : Fin 3 → ℕ) = fun _ => 0 := funext fun a => by fin_cases a <;> rfl

/-- The block a point writes, of the two blocks it reads. -/
theorem out_apply (x0 : Vec Ideal S4096x512 .bf16) (x1 : Vec Ideal S1x4096x1792 .bf16) (y : S1x1x512x1792.Idx) :
    out0_2 x0 x1 y = ∑ k ∈ Finset.range 4096, get2 x0 k (y 2).val * get3 x1 0 k (y 3).val := by
  unfold out0_2
  rw [View.canon_unit_zero (S := S1x1x512x1792) hz4]
  simp only [View.ld_unit_zero (S := S4096x512) hz, View.ld_unit_zero (S := S1x4096x1792) hz3]
  unfold k0_pay1
  refine (shapeCast_lead2 _ _ y).trans ?_
  refine (matmul_tn (φ := .bf16) (ψ := .bf16) dot_S4096x512_S4096x1792_S512x1792_0_0_1_1_n_n rfl rfl rfl rfl rfl rfl none x0 _ _).trans ?_
  exact Finset.sum_congr rfl fun k _ => congrArg (get2 x0 k (y 2).val * ·) (get2_shapeCast x1 _ k (y 3).val)

/-- Where the windows' blocks lie. -/
theorem idx : ∀ t : Fin cfg0.N, t.val < 16 ∧ win0_0.index t = ![0, t.val % 4] ∧ win0_1.index t = ![t.val / 4, 0, 0] ∧
    win0_2.index t = ![t.val % 4 / 2, t.val / 4, t.val % 2, 0] :=
  (by decide +kernel : ∀ t : Fin grid0.N, _)

theorem w0_eq (c : Dev nD) (t : Fin cfg0.N) (y : S4096x512.Idx) :
    iblk m c 0 t y = get2 (m ((c : Thread nD τ).loc main_arg0)) (y 0).val (512 * (t.val % 4) + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S1x4096x1792.Idx) :
    iblk m c 1 t y = get3 (m ((c : Thread nD τ).loc main_arg1)) (t.val / 4 + (y 0).val) (y 1).val (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- One element of the gradient: row `r`, chip `p`'s column `l`. -/
def res (X : (⟨2, ![4096, 2048]⟩ : Shape).Idx → EReal) (Y : (⟨3, ![4, 4096, 1792]⟩ : Shape).Idx → EReal) (r p l : ℕ) : EReal :=
  ∑ k ∈ Finset.range 4096, get2 X k r * get3 Y p k l

/-- The result array, of the argument arrays. -/
theorem final (c : Dev nD) : (dats m 0 c).arrAt 2 cfg0.N
    = fun y : S2x4x1024x1792.Idx => res (m ((c : Thread nD τ).loc main_arg0)) (m ((c : Thread nD τ).loc main_arg1)) (1024 * (y 0).val + (y 2).val) (y 1).val (y 3).val := by
  refine (dats m 0 c).arrAt_eq_of_covers 2 _ (by decide +kernel) fun t hf y => ?_
  obtain ⟨ht, e0, e1, e2⟩ := idx t
  have y0 : (y 0).val < 1 := (y 0).isLt
  have y1 : (y 1).val < 1 := (y 1).isLt
  blk_simp
  rw [after0_2]
  refine ((out_apply _ _ y).trans (Finset.sum_congr rfl fun k hk => congrArg₂ (· * ·)
    (get2_of (iblk m c 0 t) (fun k r => get2 _ k (_ + r)) (w0_eq m c t) (Finset.mem_range.mp hk) (y 2).isLt)
    (get3_of (iblk m c 1 t) (fun p k l => get3 _ (_ + p) k l) (w1_eq m c t) Nat.one_pos (Finset.mem_range.mp hk) (y 3).isLt))).trans ?_
  unfold res
  refine Finset.sum_congr rfl fun k _ => ?_
  congr 2 <;> blk_simp [e2] <;> (try simp) <;> omega

end Cert.MixDwInIdeal.Prod

namespace Cert.Products

open Idealize.ShloMosaic Idealize.ShloMosaic.TcCoe Idealize.SL.Sem Cert.MixDwInRefIdeal.Read

/-- The derivative of the plain product, at an element. -/
theorem mixDwIn_ref (X : (⟨2, ![4096, 2048]⟩ : Shape).Idx → EReal) (Y : (⟨3, ![4, 4096, 1792]⟩ : Shape).Idx → EReal) (y : (⟨4, ![2, 4, 1024, 1792]⟩ : Shape).Idx) :
    val_main_v16 (F := Ideal) X Y y = Cert.MixDwInIdeal.Prod.res X Y (1024 * (y 0).val + (y 2).val) (y 1).val (y 3).val := by
  have y1 : (y 1).val < 4 := (y 1).isLt
  have y2 : (y 2).val < 1024 := (y 2).isLt
  have y3 : (y 3).val < 1792 := (y 3).isLt
  rw [val_main_v16_apply, val_main_v15_apply, val_main_v14_apply, val_main_v13_apply]
  unfold Cert.MixDwInIdeal.Prod.res
  rw [Finset.sum_range]
  refine Finset.sum_congr rfl fun k _ => (mul_comm _ _).trans (congrArg₂ (· * ·) (get2_eq X _ _ _ rfl ?_) ?_)
  · show ((((y 0).val * 1024 + (y 2).val) * 4 + (y 1).val) * 1792 + (y 3).val) / 7168 = _
    omega
  · rw [val_main_v9_apply]
    refine (cat_parts (t := 7168) (by decide) (by decide) Y _ _ _ _ _ Cert.MixDwInRefIdeal.Facts₀.concatenates_S4096x1792_S4096x1792_S4096x1792_S4096x1792_S4096x7168_d1 _ k.val (1792 * (y 1).val + (y 3).val) rfl ?_).trans ?_
    · show ((((y 0).val * 1024 + (y 2).val) * 4 + (y 1).val) * 1792 + (y 3).val) % 7168 = _
      omega
    · congr 1 <;> omega

/-- The claim: both programs end with one array on every device. -/
theorem mixDwIn : @Cert.algebraic_MixDwInIdeal_MixDwInRefIdeal Cert.MixDwInIdeal.Gen.facts Cert.MixDwInRefIdeal.Gen.facts := by
  intro m g m' g' _ hargs
  refine ⟨fun c => fun y : Cert.MixDwInIdeal.S2x4x1024x1792.Idx => Cert.MixDwInIdeal.Prod.res (m (c.tc.loc Cert.MixDwInIdeal.main_arg0)) (m (c.tc.loc Cert.MixDwInIdeal.main_arg1))
    (1024 * (y 0).val + (y 2).val) (y 1).val (y 3).val, ?_, ?_⟩
  · refine (θ_run _ _ _).mono (fun r h c => ?_) (Cert.MixDwInIdeal.Value.run_blocks m g)
    obtain ⟨h0, hk⟩ := h c
    exact ⟨h0.trans (Cert.MixDwInIdeal.Prod.final m c), hk⟩
  · refine (θ_run _ _ _).mono (fun r h c => ?_) (Cert.MixDwInRefIdeal.Value.run m' g')
    obtain ⟨h0, hk⟩ := h c
    refine ⟨(h0.trans (val_main_v16_eq _ _)).trans ?_, hk⟩
    obtain ⟨e0, e1⟩ := hargs c
    rw [e0, e1]
    exact funext fun y => mixDwIn_ref _ _ y

end Cert.Products
end
-- ==== Proof.MixDn.lean ====
/-
  The gradient at the mixer's input: the projection's columns are summed one chip's part after another, the first
  part's point setting the accumulator and the last one's writing it out. What the array holds at the end is the whole
  sum, and so is what the plain projection's derivative gives.
-/
module

public import proofs.«01_k».proof.Defs
public import proofs.«01_k».proof.Proof.Parts
public import proofs.«01_k».proof.Proof.Gen.MixDnIdeal.Value
public import proofs.«01_k».proof.Proof.Gen.MixDnRefIdeal.Run
public import proofs.«01_k».proof.Proof.Gen.MixDnRefIdeal.Read

@[expose] public section

set_option maxRecDepth 16384

noncomputable section

namespace Cert.MixDnIdeal.Prod

open Cert.MixDnIdeal Cert.MixDnIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

section Cases

variable (c : Dev nD) (i : grid0.Coords) (a3 : Memref sig .tc .vmem S1x1024x1792 .bf16) (h3 : a3.IsWhole) (a4 : Memref sig .tc .vmem S1x1024x1792 .bf16)
  (h4 : a4.IsWhole) (a5 : Memref sig .tc .vmem S1024x1024 .bf16) (h5 : a5.IsWhole) (a6 : Memref sig .tc .vmem S1024x1024 .f32) (h6 : a6.IsWhole)
  (x0 : Vec Ideal S1x1024x1792 .bf16) (x1 : Vec Ideal S1x1024x1792 .bf16) (xs : Vec Ideal S1024x1024 .f32)

/-- The accumulator after one more part. -/
theorem step_apply (y : S1024x1024.Idx) :
    k0_pay2 xs x0 x1 y = xs y + ∑ k ∈ Finset.range 1792, get3 x0 0 (y 0).val k * get3 x1 0 (y 1).val k := by
  unfold k0_pay2
  rw [shapeCast_self]
  refine congrArg (xs y + ·) ((matmul_nt (φ := .bf16) (ψ := .bf16) dot_S1024x1792_S1024x1792_S1024x1024_1_1_0_0_n_n rfl rfl rfl rfl rfl rfl none _ _ y).trans ?_)
  exact Finset.sum_congr rfl fun k _ => congrArg₂ (· * ·) (get2_shapeCast x0 _ (y 0).val k) (get2_shapeCast x1 _ (y 1).val k)

/-- The first part's point leaves that part's sum. -/
theorem first_apply (hc0 : cond0_0 i) (hc1 : ¬cond0_1 i) (y : S1024x1024.Idx) :
    sout0_A_0 c i a3 h3 a4 h4 a5 h5 a6 h6 hc0 hc1 x0 x1 y = ∑ k ∈ Finset.range 1792, get3 x0 0 (y 0).val k * get3 x1 0 (y 1).val k := by
  unfold sout0_A_0
  rw [View.read_writes_eq_canon _ _ _ (scover0_A_0 c i a3 h3 a4 h4 a5 h5 a6 h6 hc0 hc1 x0 x1)]
  unfold kernelRun0_A
  dsimp only
  sl_unfold_run_names
  rw [View.canon_cons_unit_zero (S := S1024x1024) hz, View.readCov_unit_zero (S := S1024x1024) _ hz]
  simp only [View.readAt_eq_ld, h3.read_unread, h4.read_unread, View.ld_unit_zero (S := S1x1024x1792) hz3]
  rw [step_apply]
  unfold k0_pay1
  rw [shapeCast_self]
  exact (congrArg (· + _) Ideal.ofBits_zero_f32).trans (zero_add _)

/-- A later part's point adds that part's sum. -/
theorem next_apply (hc0 : ¬cond0_0 i) (hc1 : ¬cond0_1 i) (y : S1024x1024.Idx) :
    sout0_B_0 c i a3 h3 a4 h4 a5 h5 a6 h6 hc0 hc1 x0 x1 xs y = xs y + ∑ k ∈ Finset.range 1792, get3 x0 0 (y 0).val k * get3 x1 0 (y 1).val k := by
  unfold sout0_B_0
  rw [View.read_writes_eq_canon _ _ _ (scover0_B_0 c i a3 h3 a4 h4 a5 h5 a6 h6 hc0 hc1 x0 x1 xs)]
  unfold kernelRun0_B
  dsimp only
  sl_unfold_run_names
  rw [View.canon_unit_zero (S := S1024x1024) hz]
  simp only [View.readAt_eq_ld, h3.read_unread, h4.read_unread, h6.read_unread, View.ld_unit_zero (S := S1x1024x1792) hz3, View.ld_unit_zero (S := S1024x1024) hz]
  exact step_apply x0 x1 xs y

/-- The last part's point writes the accumulator. -/
theorem last_apply (hc0 : ¬cond0_0 i) (hc1 : cond0_1 i) (y : S1024x1024.Idx) :
    out0_C_2 c i a3 h3 a4 h4 a5 h5 a6 h6 hc0 hc1 x0 x1 xs y = xs y + ∑ k ∈ Finset.range 1792, get3 x0 0 (y 0).val k * get3 x1 0 (y 1).val k := by
  unfold out0_C_2
  rw [View.read_writes_eq_canon _ _ _ (cover0_C_2 c i a3 h3 a4 h4 a5 h5 a6 h6 hc0 hc1 x0 x1 xs)]
  unfold kernelRun0_C
  dsimp only
  sl_unfold_run_names
  rw [View.canon_unit_zero (S := S1024x1024) hz, View.readCov_unit_zero (S := S1024x1024) _ hz]
  simp only [View.readAt_eq_ld, h3.read_unread, h4.read_unread, h6.read_unread, View.ld_unit_zero (S := S1x1024x1792) hz3, View.ld_unit_zero (S := S1024x1024) hz]
  unfold k0_pay3
  rw [shapeCast_self]
  exact step_apply x0 x1 xs y

end Cases

/-- Where the windows' blocks lie. -/
theorem idx : ∀ t : Fin cfg0.N, t.val < 32 ∧ win0_0.index t = ![t.val % 4, t.val / 8, 0] ∧ win0_1.index t = ![t.val % 4, t.val / 4 % 2, 0] ∧
    win0_2.index t = ![t.val / 8, t.val / 4 % 2] :=
  (by decide +kernel : ∀ t : Fin grid0.N, _)

theorem w0_eq (c : Dev nD) (t : Fin cfg0.N) (y : S1x1024x1792.Idx) :
    iblk m c 0 t y = get3 (m ((c : Thread nD τ).loc main_arg0)) (t.val % 4 + (y 0).val) (1024 * (t.val / 8) + (y 1).val) (y 2).val := by
  obtain ⟨ht, e0, e1, e2⟩ := idx t
  unfold iblk
  blk_simp [e0]
  refine get3_eq (m ((c : Thread nD τ).loc main_arg0)) _ _ _ _ ?_ ?_ ?_ <;> blk_simp [e0] <;> (try simp) <;> omega

theorem w1_eq (c : Dev nD) (t : Fin cfg0.N) (y : S1x1024x1792.Idx) :
    iblk m c 1 t y = get3 (m ((c : Thread nD τ).loc main_arg1)) (t.val % 4 + (y 0).val) (1024 * (t.val / 4 % 2) + (y 1).val) (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- The product of the two arrays' elements at one column, the columns counted through the chips' parts. -/
def term (X : (⟨3, ![4, 4096, 1792]⟩ : Shape).Idx → EReal) (Y : (⟨3, ![4, 2048, 1792]⟩ : Shape).Idx → EReal) (r s k : ℕ) : EReal :=
  get3 X (k / 1792) r (k % 1792) * get3 Y (k / 1792) s (k % 1792)

/-- One element of the gradient: all columns summed. -/
def res (X : (⟨3, ![4, 4096, 1792]⟩ : Shape).Idx → EReal) (Y : (⟨3, ![4, 2048, 1792]⟩ : Shape).Idx → EReal) (r s : ℕ) : EReal :=
  ∑ k ∈ Finset.range 7168, term X Y r s k

/-- The sum over the columns of part `q`. -/
def part (c : Dev nD) (q r s : ℕ) : EReal :=
  ∑ k ∈ Finset.range 1792, term (m ((c : Thread nD τ).loc main_arg0)) (m ((c : Thread nD τ).loc main_arg1)) r s (1792 * q + k)

theorem part_eq (c : Dev nD) (t : Fin cfg0.N) (r s : ℕ) (hr : r < 1024) (hs : s < 1024) :
    ∑ k ∈ Finset.range 1792, get3 (a := 1) (b := 1024) (c := 1792) (iblk m c 0 t) 0 r k * get3 (a := 1) (b := 1024) (c := 1792) (iblk m c 1 t) 0 s k
      = part m c (t.val % 4) (1024 * (t.val / 8) + r) (1024 * (t.val / 4 % 2) + s) := by
  refine Finset.sum_congr rfl fun k hk => ?_
  have hk' := Finset.mem_range.mp hk
  refine (congrArg₂ (· * ·) (get3_of (iblk m c 0 t) (fun p k l => get3 _ (_ + p) (_ + k) l) (w0_eq m c t) Nat.one_pos hr hk')
    (get3_of (iblk m c 1 t) (fun p k l => get3 _ (_ + p) (_ + k) l) (w1_eq m c t) Nat.one_pos hs hk')).trans ?_
  unfold term
  rw [show (1792 * (t.val % 4) + k) / 1792 = t.val % 4 by omega, show (1792 * (t.val % 4) + k) % 1792 = k by omega, Nat.add_zero]

/-- What the accumulator holds after the first part's point … -/
theorem first (c : Dev nD) (t : ℕ) (ht : t < cfg0.N) (hm : t % 4 = 0) (j : S1024x1024.Idx) :
    (outsAt0 m c t ht).2 j = part m c 0 (1024 * (t / 8) + (j 0).val) (1024 * (t / 4 % 2) + (j 1).val) := by
  rw [show outsAt0 m c t ht = _ from outsAt0_A m c ⟨t, ht⟩ hm (by dsimp only; omega)]
  dsimp only
  rw [first_apply]
  exact (part_eq m c ⟨t, ht⟩ (j 0).val (j 1).val (j 0).isLt (j 1).isLt).trans (congrArg (part m c · _ _) hm)

/-- … and after a later one's. -/
theorem next (c : Dev nD) (t : ℕ) (ht : t + 1 < cfg0.N) (h0 : (t + 1) % 4 ≠ 0) (h1 : (t + 1) % 4 ≠ 3) (j : S1024x1024.Idx) :
    (outsAt0 m c (t + 1) ht).2 j = (outsAt0 m c t (Nat.lt_of_succ_lt ht)).2 j
      + part m c ((t + 1) % 4) (1024 * ((t + 1) / 8) + (j 0).val) (1024 * ((t + 1) / 4 % 2) + (j 1).val) := by
  rw [show outsAt0 m c (t + 1) ht = _ from outsAt0_B m c ⟨t + 1, ht⟩ h0 h1]
  dsimp only
  rw [next_apply]
  exact congrArg (_ + ·) (part_eq m c ⟨t + 1, ht⟩ (j 0).val (j 1).val (j 0).isLt (j 1).isLt)

/-- What a run's last point writes back. -/
theorem block (c : Dev nD) (t : ℕ) (ht : t + 3 < cfg0.N) (hm : t % 4 = 0) (y : S1024x1024.Idx) :
    (outsAt0 m c (t + 3) ht).1 y = res (m ((c : Thread nD τ).loc main_arg0)) (m ((c : Thread nD τ).loc main_arg1))
      (1024 * ((t + 3) / 8) + (y 0).val) (1024 * ((t + 3) / 4 % 2) + (y 1).val) := by
  rw [show outsAt0 m c (t + 3) ht = _ from outsAt0_C m c ⟨t + 3, ht⟩ (by dsimp only; omega) (by dsimp only; omega)]
  dsimp only
  rw [last_apply]
  refine (congrArg₂ (· + ·) ((next m c (t + 1) (by omega) (by omega) (by omega) y).trans (congrArg (· + _) ((next m c t (by omega) (by omega) (by omega) y).trans
    (congrArg (· + _) (first m c t (by omega) hm y))))) (part_eq m c ⟨t + 3, ht⟩ (y 0).val (y 1).val (y 0).isLt (y 1).isLt)).trans ?_
  refine Eq.trans ?_ (sum_four (term (m ((c : Thread nD τ).loc main_arg0)) (m ((c : Thread nD τ).loc main_arg1))
    (1024 * ((t + 3) / 8) + (y 0).val) (1024 * ((t + 3) / 4 % 2) + (y 1).val)) 1792).symm
  unfold part
  simp only [show (t + 3) % 4 = 3 by omega, show (t + 1 + 1) % 4 = 2 by omega, show (t + 1) % 4 = 1 by omega, show t / 8 = (t + 3) / 8 by omega, show t / 4 % 2 = (t + 3) / 4 % 2 by omega,
    show (t + 1) / 8 = (t + 3) / 8 by omega, show (t + 1) / 4 % 2 = (t + 3) / 4 % 2 by omega, show (t + 1 + 1) / 8 = (t + 3) / 8 by omega,
    show (t + 1 + 1) / 4 % 2 = (t + 3) / 4 % 2 by omega, Nat.mul_zero, Nat.zero_add, Nat.reduceMul, Nat.reduceAdd]

theorem block_at (c : Dev nD) (t : ℕ) (ht : t < cfg0.N) (hm : t % 4 = 3) (y : S1024x1024.Idx) :
    (outsAt0 m c t ht).1 y = res (m ((c : Thread nD τ).loc main_arg0)) (m ((c : Thread nD τ).loc main_arg1))
      (1024 * (t / 8) + (y 0).val) (1024 * (t / 4 % 2) + (y 1).val) := by
  obtain ⟨n, rfl⟩ : ∃ n, t = n + 3 := ⟨t - 3, by omega⟩
  exact block m c n ht (by omega) y

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val (y 1).val := by
  refine (dats m 0 c).arrAt_eq_of_covers 2 _ (by decide +kernel) fun t hf y => ?_
  have hm : t.val % 4 = 3 := (flush0_2 t).mp hf
  obtain ⟨ht, e0, e1, e2⟩ := idx t
  blk_simp
  rw [after0_2]
  refine (block_at m c t.val t.isLt hm y).trans ?_
  congr 1 <;> blk_simp [e2] <;> (try simp) <;> omega

end Cert.MixDnIdeal.Prod

namespace Cert.Products

open Idealize.ShloMosaic Idealize.ShloMosaic.TcCoe Idealize.SL.Sem Cert.MixDnRefIdeal.Read

/-- The derivative of the plain product, at an element. -/
theorem mixDn_ref (X : (⟨3, ![4, 4096, 1792]⟩ : Shape).Idx → EReal) (Y : (⟨3, ![4, 2048, 1792]⟩ : Shape).Idx → EReal) (y : (⟨2, ![4096, 2048]⟩ : Shape).Idx) :
    val_main_v23 (F := Ideal) X Y y = Cert.MixDnIdeal.Prod.res X Y (y 0).val (y 1).val := by
  rw [val_main_v23_apply]
  show val_main_v22 (F := Ideal) X Y y = _
  rw [val_main_v22_apply]
  unfold Cert.MixDnIdeal.Prod.res
  rw [Finset.sum_range]
  refine Finset.sum_congr rfl fun k _ => congrArg₂ (· * ·) ?_ ?_
  · rw [val_main_v21_apply]
    exact cat_parts (t := 7168) (by decide) (by decide) X _ _ _ _ _ Cert.MixDnRefIdeal.Facts₀.concatenates_S4096x1792_S4096x1792_S4096x1792_S4096x1792_S4096x7168_d1 _ _ k.val rfl rfl
  · rw [val_main_v10_apply]
    exact cat_parts (t := 7168) (by decide) (by decide) Y _ _ _ _ _ Cert.MixDnRefIdeal.Facts₀.concatenates_S2048x1792_S2048x1792_S2048x1792_S2048x1792_S2048x7168_d1 _ _ k.val rfl rfl

/-- The claim: both programs end with one array on every device. -/
theorem mixDn : @Cert.algebraic_MixDnIdeal_MixDnRefIdeal Cert.MixDnIdeal.Gen.facts Cert.MixDnRefIdeal.Gen.facts := by
  intro m g m' g' _ hargs
  refine ⟨fun c => fun y : Cert.MixDnIdeal.S4096x2048.Idx => Cert.MixDnIdeal.Prod.res (m (c.tc.loc Cert.MixDnIdeal.main_arg0)) (m (c.tc.loc Cert.MixDnIdeal.main_arg1))
    (y 0).val (y 1).val, ?_, ?_⟩
  · refine (θ_run _ _ _).mono (fun r h c => ?_) (Cert.MixDnIdeal.Value.run_blocks m g)
    obtain ⟨h0, hk⟩ := h c
    exact ⟨h0.trans (Cert.MixDnIdeal.Prod.final m c), hk⟩
  · refine (θ_run _ _ _).mono (fun r h c => ?_) (Cert.MixDnRefIdeal.Value.run m' g')
    obtain ⟨h0, hk⟩ := h c
    refine ⟨(h0.trans (val_main_v23_eq _ _)).trans ?_, hk⟩
    obtain ⟨e0, e1⟩ := hargs c
    rw [e0, e1]
    exact funext fun y => mixDn_ref _ _ y

end Cert.Products
end
-- ==== Proof.Swiglu.lean ====
/-
  The feed-forward's input product and its gating. A point takes 512 rows against one chip's columns of the two halves
  of the input weight, in column chunks, and writes for each chunk the pair the backward pass needs, the gate's slope
  times the value and the gate, and the gated value. The kernel's half-tangent is the logistic function. The plain
  computation sums the slope after the multiplication by the value; the two agree where the values are real numbers,
  which is what the precondition gives.
-/
module

public import proofs.«01_k».proof.Defs
public import proofs.«01_k».proof.Proof.Parts
public import proofs.«01_k».proof.Proof.MixSums
public import proofs.«01_k».proof.Proof.Dhu
public import proofs.«01_k».proof.Proof.Gen.SwigluIdeal.Value
public import proofs.«01_k».proof.Proof.Gen.SwigluRefIdeal.Run
public import proofs.«01_k».proof.Proof.Gen.SwigluRefIdeal.Read

@[expose] public section

set_option maxRecDepth 16384

noncomputable section

namespace Cert.SwigluIdeal.Prod

open Cert.SwigluIdeal Cert.SwigluIdeal.Gen Cert.Products Idealize.ShloMosaic Idealize.ShloMosaic.TcCoe Idealize.SL.Sem
open Cert.DhuIdeal.Prod (gate gateSlope)

variable (m : (ℓ : Loc nD τ sig) → Buf (Elt Ideal) ℓ)

theorem hz : (![0, 0] : Fin 2 → ℕ) = fun _ => 0 := funext fun a => by fin_cases a <;> rfl

/-- One element of the pair. -/
def pairOf (p : ℕ) (h u : EReal) : EReal := if p = 0 then gateSlope h u else gate h

/-- The half-tangent gate is the logistic function. -/
theorem sg_eq (h : EReal) : Cert.KernelIdeal.Mix.sg h = Ideal.logistic h := (Cert.KernelIdeal.Mix.logistic_eq h).symm

theorem gate_eq (h : EReal) : h * Cert.KernelIdeal.Mix.sg h = gate h := by rw [sg_eq]; rfl

theorem slope_eq (h u : EReal) : u * (Cert.KernelIdeal.Mix.sg h + h * Cert.KernelIdeal.Mix.sg h * (Ideal.ofBits .f32 0x3F800000#32 - Cert.KernelIdeal.Mix.sg h))
    = gateSlope h u := by
  rw [gate_eq, sg_eq, Ideal.ofBits_one_f32]
  rfl

/-- A row of one block against a column of another. -/
def row {a b : ℕ} (X : (⟨2, ![a, 2048]⟩ : Shape).Idx → EReal) (Y : (⟨2, ![2048, b]⟩ : Shape).Idx → EReal) (r l : ℕ) : EReal :=
  ∑ k ∈ Finset.range 2048, get2 X r k * get2 Y k l

section Body

variable (x0 : Vec Ideal S512x2048 .bf16) (x1 x2 : Vec Ideal S2048x2816 .bf16)

/-- A chunk of 512 columns from column `o` on, of the weight's block; and the last one, of 256. -/
abbrev wide (X : Vec Ideal S2048x2816 .bf16) (o : ℕ) (hi : ∀ a, ![0, o] a + S2048x512.size a ≤ S2048x2816.size a) : Vec Ideal S2048x512 .bf16 :=
  View.ld X (Rect.unit (s := S2048x2816) ![0, o] S2048x512.size hi)

abbrev narrow (X : Vec Ideal S2048x2816 .bf16) (o : ℕ) (hi : ∀ a, ![0, o] a + S2048x256.size a ≤ S2048x2816.size a) : Vec Ideal S2048x256 .bf16 :=
  View.ld X (Rect.unit (s := S2048x2816) ![0, o] S2048x256.size hi)

variable (o : ℕ)

theorem wide_get2 (X : Vec Ideal S2048x2816 .bf16) (hi) (k l : ℕ) (hk : k < 2048) (hl : l < 512) : get2 (a := 2048) (b := 512) (wide X o hi) k l = get2 X k (o + l) :=
  get2_of (a := 2048) (b := 512) _ (fun k l => get2 X k (o + l)) (fun y => by refine get2_eq X _ _ _ ?_ ?_ <;> simp [emb_val]) hk hl

theorem narrow_get2 (X : Vec Ideal S2048x2816 .bf16) (hi) (k l : ℕ) (hk : k < 2048) (hl : l < 256) : get2 (a := 2048) (b := 256) (narrow X o hi) k l = get2 X k (o + l) :=
  get2_of (a := 2048) (b := 256) _ (fun k l => get2 X k (o + l)) (fun y => by refine get2_eq X _ _ _ ?_ ?_ <;> simp [emb_val]) hk hl

/-- A chunk's product. -/
theorem wide_prod (X : Vec Ideal S2048x2816 .bf16) (hi) (y : S512x512.Idx) : k0_pay4 x0 (wide X o hi) y = row x0 X (y 0).val (o + (y 1).val) := by
  unfold k0_pay4
  dsimp only
  rw [shapeCast_self]
  exact (matmul_nn (φ := .bf16) (ψ := .bf16) dot_S512x2048_S2048x512_S512x512_1_0_0_1_n_n rfl rfl rfl rfl rfl rfl none x0 _ y).trans
    (Finset.sum_congr rfl fun k hk => congrArg (get2 x0 (y 0).val k * ·) (wide_get2 o X hi k _ (Finset.mem_range.mp hk) (y 1).isLt))

theorem narrow_prod (X : Vec Ideal S2048x2816 .bf16) (hi) (y : S512x256.Idx) : k0_pay40 x0 (narrow X o hi) y = row x0 X (y 0).val (o + (y 1).val) := by
  unfold k0_pay40
  dsimp only
  rw [shapeCast_self]
  exact (matmul_nn (φ := .bf16) (ψ := .bf16) dot_S512x2048_S2048x256_S512x256_1_0_0_1_n_n rfl rfl rfl rfl rfl rfl none x0 _ y).trans
    (Finset.sum_congr rfl fun k hk => congrArg (get2 x0 (y 0).val k * ·) (narrow_get2 o X hi k _ (Finset.mem_range.mp hk) (y 1).isLt))

/-- What a chunk's three stores hold, of the two rows' products with the chunk's columns. -/
theorem wide_slope (h1 h2) (x : S1x512x512.Idx) :
    k0_pay8 x0 (wide x1 o h1) (wide x2 o h2) x = pairOf 0 (row x0 x1 (x 1).val (o + (x 2).val)) (row x0 x2 (x 1).val (o + (x 2).val)) := by
  unfold k0_pay8
  refine (shapeCast_lead _ _ x).trans ?_
  refine Eq.trans ?_ (congrArg₂ (pairOf 0) (wide_prod x0 o x1 h1 (ix2 (x 1) (x 2))) (wide_prod x0 o x2 h2 (ix2 (x 1) (x 2))))
  exact slope_eq (k0_pay4 x0 (wide x1 o h1) (ix2 (x 1) (x 2))) (k0_pay4 x0 (wide x2 o h2) (ix2 (x 1) (x 2)))

theorem wide_gate (h1) (x : S1x512x512.Idx) :
    k0_pay9 x0 (wide x1 o h1) x = pairOf 1 (row x0 x1 (x 1).val (o + (x 2).val)) (row x0 x2 (x 1).val (o + (x 2).val)) := by
  unfold k0_pay9
  refine (shapeCast_lead _ _ x).trans ?_
  refine Eq.trans ?_ (congrArg gate (wide_prod x0 o x1 h1 (ix2 (x 1) (x 2))))
  exact gate_eq (k0_pay4 x0 (wide x1 o h1) (ix2 (x 1) (x 2)))

theorem wide_act (h1 h2) (x : S512x512.Idx) :
    k0_pay10 x0 (wide x1 o h1) (wide x2 o h2) x = gate (row x0 x1 (x 0).val (o + (x 1).val)) * row x0 x2 (x 0).val (o + (x 1).val) := by
  unfold k0_pay10
  dsimp only
  rw [shapeCast_self]
  refine Eq.trans ?_ (congrArg₂ (fun h u => gate h * u) (wide_prod x0 o x1 h1 x) (wide_prod x0 o x2 h2 x))
  exact congrArg (· * k0_pay4 x0 (wide x2 o h2) x) (gate_eq (k0_pay4 x0 (wide x1 o h1) x))

theorem narrow_slope (h1 h2) (x : S1x512x256.Idx) :
    k0_pay1 (k0_pay44 x0 (narrow x1 o h1) (narrow x2 o h2)) x = pairOf 0 (row x0 x1 (x 1).val (o + (x 2).val)) (row x0 x2 (x 1).val (o + (x 2).val)) := by
  unfold k0_pay1
  refine (shapeCast_lead _ _ x).trans ?_
  refine Eq.trans ?_ (congrArg₂ (pairOf 0) (narrow_prod x0 o x1 h1 (ix2 (x 1) (x 2))) (narrow_prod x0 o x2 h2 (ix2 (x 1) (x 2))))
  exact slope_eq (k0_pay40 x0 (narrow x1 o h1) (ix2 (x 1) (x 2))) (k0_pay40 x0 (narrow x2 o h2) (ix2 (x 1) (x 2)))

theorem narrow_gate (h1) (x : S1x512x256.Idx) :
    k0_pay2 (k0_pay43 x0 (narrow x1 o h1)) x = pairOf 1 (row x0 x1 (x 1).val (o + (x 2).val)) (row x0 x2 (x 1).val (o + (x 2).val)) := by
  unfold k0_pay2
  refine (shapeCast_lead _ _ x).trans ?_
  refine Eq.trans ?_ (congrArg gate (narrow_prod x0 o x1 h1 (ix2 (x 1) (x 2))))
  exact gate_eq (k0_pay40 x0 (narrow x1 o h1) (ix2 (x 1) (x 2)))

theorem narrow_act (h1 h2) (x : S512x256.Idx) :
    k0_pay3 (k0_pay41 x0 (narrow x2 o h2)) (k0_pay43 x0 (narrow x1 o h1)) x = gate (row x0 x1 (x 0).val (o + (x 1).val)) * row x0 x2 (x 0).val (o + (x 1).val) := by
  unfold k0_pay3
  dsimp only
  rw [shapeCast_self]
  refine Eq.trans ?_ (congrArg₂ (fun h u => gate h * u) (narrow_prod x0 o x1 h1 x) (narrow_prod x0 o x2 h2 x))
  exact congrArg (· * k0_pay40 x0 (narrow x2 o h2) x) (gate_eq (k0_pay40 x0 (narrow x1 o h1) x))

/-- The two blocks a point writes. -/
def savedBlk (y : S2x512x2816.Idx) : EReal := pairOf (y 0).val (row x0 x1 (y 1).val (y 2).val) (row x0 x2 (y 1).val (y 2).val)

def actBlk (y : S512x2816.Idx) : EReal := gate (row x0 x1 (y 0).val (y 1).val) * row x0 x2 (y 0).val (y 1).val

/-- They, at the place a chunk's store puts an index. -/
theorem saved_at (p : ℕ) (size : Fin 3 → ℕ) (hs : size 0 = 1) (hi) (x : (Rect.unit (s := S2x512x2816) ![p, 0, o] size hi).shape.Idx) :
    savedBlk x0 x1 x2 ((Rect.unit (s := S2x512x2816) ![p, 0, o] size hi).emb x)
      = pairOf p (row x0 x1 (x 1).val (o + (x 2).val)) (row x0 x2 (x 1).val (o + (x 2).val)) := by
  have h0 : (x 0).val < size 0 := (x 0).isLt
  rw [hs] at h0
  unfold savedBlk
  rw [emb_val, emb_val, emb_val, show (x 0).val = 0 by omega]
  simp

theorem act_at (size : Fin 2 → ℕ) (hi) (x : (Rect.unit (s := S512x2816) ![0, o] size hi).shape.Idx) :
    actBlk x0 x1 x2 ((Rect.unit (s := S512x2816) ![0, o] size hi).emb x)
      = gate (row x0 x1 (x 0).val (o + (x 1).val)) * row x0 x2 (x 0).val (o + (x 1).val) := by
  unfold actBlk
  rw [emb_val, emb_val]
  simp

end Body

section Point

variable (x0 : Vec Ideal S512x2048 .bf16) (x1 x2 : Vec Ideal S2048x2816 .bf16)

/-- Where a chunk lies in the weight's block and in the two written ones. -/
theorem fits2 {a b c d p o : ℕ} (h0 : p + c ≤ a) (h1 : o + d ≤ b) : ∀ k, (![p, o] : Fin 2 → ℕ) k + (⟨2, ![c, d]⟩ : Shape).size k ≤ (⟨2, ![a, b]⟩ : Shape).size k
  | 0 => h0
  | 1 => h1

theorem fits3 {b d p o : ℕ} (hp : p < 2) (h1 : o + d ≤ b) : ∀ k, (![p, 0, o] : Fin 3 → ℕ) k + (⟨3, ![1, 512, d]⟩ : Shape).size k ≤ (⟨3, ![2, 512, b]⟩ : Shape).size k
  | 0 => hp
  | 1 => Nat.le_refl 512
  | 2 => h1

/-- A wide chunk's two stores of the pair, last first, and its store of the gated value. -/
def wideSaved (o : ℕ) (h : o + 512 ≤ 2816) : List (View.Piece (Elt Ideal) S2x512x2816 .bf16) :=
  [⟨Rect.unit (s := S2x512x2816) ![1, 0, o] S1x512x512.size (fits3 (by decide) h), k0_pay9 x0 (wide x1 o (fits2 (by decide) h))⟩,
    ⟨Rect.unit (s := S2x512x2816) ![0, 0, o] S1x512x512.size (fits3 (by decide) h), k0_pay8 x0 (wide x1 o (fits2 (by decide) h)) (wide x2 o (fits2 (by decide) h))⟩]

def wideAct (o : ℕ) (h : o + 512 ≤ 2816) : View.Piece (Elt Ideal) S512x2816 .bf16 :=
  ⟨Rect.unit (s := S512x2816) ![0, o] S512x512.size (fits2 (by decide) h), k0_pay10 x0 (wide x1 o (fits2 (by decide) h)) (wide x2 o (fits2 (by decide) h))⟩

theorem wideSaved_eq (o : ℕ) (h : o + 512 ≤ 2816) : ∀ p ∈ wideSaved x0 x1 x2 o h, ∀ x, p.2 x = savedBlk x0 x1 x2 (p.1.emb x) :=
  List.forall_mem_cons.2 ⟨fun x => (wide_gate x0 x1 x2 o _ x).trans (saved_at x0 x1 x2 o 1 S1x512x512.size rfl (fits3 (by decide) h) x).symm,
    List.forall_mem_cons.2 ⟨fun x => (wide_slope x0 x1 x2 o _ _ x).trans (saved_at x0 x1 x2 o 0 S1x512x512.size rfl (fits3 (by decide) h) x).symm, fun _ hp => absurd hp List.not_mem_nil⟩⟩

theorem wideAct_eq (o : ℕ) (h : o + 512 ≤ 2816) (x) : (wideAct x0 x1 x2 o h).2 x = actBlk x0 x1 x2 ((wideAct x0 x1 x2 o h).1.emb x) :=
  (wide_act x0 x1 x2 o _ _ x).trans (act_at x0 x1 x2 o S512x512.size (fits2 (by decide) h) x).symm

/-- The last chunk's. -/
def lastSaved : List (View.Piece (Elt Ideal) S2x512x2816 .bf16) :=
  [⟨Rect.unit (s := S2x512x2816) ![1, 0, 2560] S1x512x256.size (fits3 (by decide) (by decide)), k0_pay2 (k0_pay43 x0 (narrow x1 2560 (fits2 (by decide) (by decide))))⟩,
    ⟨Rect.unit (s := S2x512x2816) ![0, 0, 2560] S1x512x256.size (fits3 (by decide) (by decide)),
      k0_pay1 (k0_pay44 x0 (narrow x1 2560 (fits2 (by decide) (by decide))) (narrow x2 2560 (fits2 (by decide) (by decide))))⟩]

def lastAct : View.Piece (Elt Ideal) S512x2816 .bf16 :=
  ⟨Rect.unit (s := S512x2816) ![0, 2560] S512x256.size (fits2 (by decide) (by decide)),
    k0_pay3 (k0_pay41 x0 (narrow x2 2560 (fits2 (by decide) (by decide)))) (k0_pay43 x0 (narrow x1 2560 (fits2 (by decide) (by decide))))⟩

theorem lastSaved_eq : ∀ p ∈ lastSaved x0 x1 x2, ∀ x, p.2 x = savedBlk x0 x1 x2 (p.1.emb x) :=
  List.forall_mem_cons.2 ⟨fun x => (narrow_gate x0 x1 x2 2560 _ x).trans (saved_at x0 x1 x2 2560 1 S1x512x256.size rfl (fits3 (by decide) (by decide)) x).symm,
    List.forall_mem_cons.2 ⟨fun x => (narrow_slope x0 x1 x2 2560 _ _ x).trans (saved_at x0 x1 x2 2560 0 S1x512x256.size rfl (fits3 (by decide) (by decide)) x).symm, fun _ hp => absurd hp List.not_mem_nil⟩⟩

theorem lastAct_eq (x) : (lastAct x0 x1 x2).2 x = actBlk x0 x1 x2 ((lastAct x0 x1 x2).1.emb x) :=
  (narrow_act x0 x1 x2 2560 _ _ x).trans (act_at x0 x1 x2 2560 S512x256.size (fits2 (by decide) (by decide)) x).symm

variable (c : Dev nD) (i : grid0.Coords)
  (a1 : Memref sig .tc .vmem S512x2048 .bf16) (h1 : a1.IsWhole) (a2 : Memref sig .tc .vmem S2048x2816 .bf16) (h2 : a2.IsWhole)
  (a3 : Memref sig .tc .vmem S2048x2816 .bf16) (h3 : a3.IsWhole) (a4 : Memref sig .tc .vmem S2x512x2816 .bf16) (h4 : a4.IsWhole)
  (a5 : Memref sig .tc .vmem S512x2816 .bf16) (h5 : a5.IsWhole)

/-- The two blocks, piece by piece. -/
theorem saved_out (y : S2x512x2816.Idx) : out0_A_3 c i a1 h1 a2 h2 a3 h3 a4 h4 a5 h5 x0 x1 x2 y = savedBlk x0 x1 x2 y := by
  unfold out0_A_3
  rw [View.read_writes_eq_canon _ _ _ (cover0_A_3 c i a1 h1 a2 h2 a3 h3 a4 h4 a5 h5 x0 x1 x2)]
  refine View.canon_apply_of_pieces (Val := Elt Ideal) (S := S2x512x2816) (e := .bf16) (savedBlk x0 x1 x2) _ ?_ y (cover0_A_3 c i a1 h1 a2 h2 a3 h3 a4 h4 a5 h5 x0 x1 x2 y)
  unfold kernelRun0_A
  dsimp only
  sl_unfold_run_names
  simp only [View.readAt_eq_ld, h1.read_unread, h2.read_unread, h3.read_unread, View.ld_unit_zero (S := S512x2048) hz]
  show ∀ p ∈ lastSaved x0 x1 x2 ++ (wideSaved x0 x1 x2 2048 (by decide) ++ (wideSaved x0 x1 x2 1536 (by decide) ++ (wideSaved x0 x1 x2 1024 (by decide)
    ++ (wideSaved x0 x1 x2 512 (by decide) ++ wideSaved x0 x1 x2 0 (by decide))))), _
  exact List.forall_mem_append.2 ⟨lastSaved_eq x0 x1 x2, List.forall_mem_append.2 ⟨wideSaved_eq x0 x1 x2 _ _, List.forall_mem_append.2 ⟨wideSaved_eq x0 x1 x2 _ _,
    List.forall_mem_append.2 ⟨wideSaved_eq x0 x1 x2 _ _, List.forall_mem_append.2 ⟨wideSaved_eq x0 x1 x2 _ _, wideSaved_eq x0 x1 x2 _ _⟩⟩⟩⟩⟩

theorem act_out (y : S512x2816.Idx) : out0_A_4 c i a1 h1 a2 h2 a3 h3 a4 h4 a5 h5 x0 x1 x2 y = actBlk x0 x1 x2 y := by
  unfold out0_A_4
  rw [View.read_writes_eq_canon _ _ _ (cover0_A_4 c i a1 h1 a2 h2 a3 h3 a4 h4 a5 h5 x0 x1 x2)]
  refine View.canon_apply_of_pieces (Val := Elt Ideal) (S := S512x2816) (e := .bf16) (actBlk x0 x1 x2) _ ?_ y (cover0_A_4 c i a1 h1 a2 h2 a3 h3 a4 h4 a5 h5 x0 x1 x2 y)
  unfold kernelRun0_A
  dsimp only
  sl_unfold_run_names
  simp only [View.readAt_eq_ld, h1.read_unread, h2.read_unread, h3.read_unread, View.ld_unit_zero (S := S512x2048) hz]
  show ∀ p ∈ [lastAct x0 x1 x2, wideAct x0 x1 x2 2048 (by decide), wideAct x0 x1 x2 1536 (by decide), wideAct x0 x1 x2 1024 (by decide),
    wideAct x0 x1 x2 512 (by decide), wideAct x0 x1 x2 0 (by decide)], _
  exact List.forall_mem_cons.2 ⟨lastAct_eq x0 x1 x2, List.forall_mem_cons.2 ⟨wideAct_eq x0 x1 x2 _ _, List.forall_mem_cons.2 ⟨wideAct_eq x0 x1 x2 _ _,
    List.forall_mem_cons.2 ⟨wideAct_eq x0 x1 x2 _ _, List.forall_mem_cons.2 ⟨wideAct_eq x0 x1 x2 _ _, List.forall_mem_cons.2 ⟨wideAct_eq x0 x1 x2 _ _,
      fun _ hp => absurd hp List.not_mem_nil⟩⟩⟩⟩⟩⟩

end Point

/-- Where the windows' blocks lie. -/
theorem idx : ∀ t : Fin cfg0.N, t.val < 16 ∧ win0_0.index t = ![t.val % 8, 0] ∧ win0_1.index t = ![2048 * (t.val / 8), 0] ∧ win0_2.index t = ![2048 * (2 + t.val / 8), 0] ∧
    win0_3.index t = ![0, t.val % 8, t.val / 8] ∧ win0_4.index t = ![t.val % 8, t.val / 8] :=
  (by decide +kernel : ∀ t : Fin grid0.N, _)

/-- The weight's chip parts on top of each other, as the launch finds them. -/
theorem weight (c : Dev nD) (y : S8192x2816.Idx) :
    V m c main_v0 y = get3 (m ((c : Thread nD τ).loc main_arg1)) ((y 0).val / 2048) ((y 0).val % 2048) (y 1).val := by
  unfold_abbrev_sides
  after_results
  have y0 : (y 0).val < 8192 := (y 0).isLt
  refine shapeCast_apply _ _ y (ix3 ⟨(y 0).val / 2048, by omega⟩ ⟨(y 0).val % 2048, Nat.mod_lt _ (by decide)⟩ (y 1)) ?_ |>.trans (get3_eq (m ((c : Thread nD τ).loc main_arg1)) _ _ _ _ rfl rfl rfl)
  rw [Shape.rowMajor_val_two, Shape.rowMajor_val_three]
  show ((y 0).val / 2048 * 2048 + (y 0).val % 2048) * 2816 + (y 1).val = (y 0).val * 2816 + (y 1).val
  omega

theorem w0_eq (c : Dev nD) (t : Fin cfg0.N) (y : S512x2048.Idx) :
    iblk m c 0 t y = get2 (m ((c : Thread nD τ).loc main_arg0)) (512 * (t.val % 8) + (y 0).val) (y 1).val := by
  obtain ⟨ht, e0, e1, e2, e3, e4⟩ := idx t
  unfold iblk
  blk_simp [e0]
  refine (congrFun (V_main_arg0 m c) _).trans (get2_eq (m ((c : Thread nD τ).loc main_arg0)) _ _ _ ?_ ?_) <;> blk_simp [e0] <;> (try simp) <;> omega

/-- A weight's block starts at the row its index names. -/
theorem weight_at (c : Dev nD) {p : ℕ} (j : S8192x2816.Idx) (y : S2048x2816.Idx)
    (h0 : (j 0).val = 2048 * p + (y 0).val) (h1 : (j 1).val = (y 1).val) :
    V m c main_v0 j = get3 (m ((c : Thread nD τ).loc main_arg1)) p (y 0).val (y 1).val := by
  have y0 : (y 0).val < 2048 := (y 0).isLt
  rw [weight, h0, h1, show (2048 * p + (y 0).val) / 2048 = p by omega, show (2048 * p + (y 0).val) % 2048 = (y 0).val by omega]

theorem w1_eq (c : Dev nD) (t : Fin cfg0.N) (y : S2048x2816.Idx) :
    iblk m c 1 t y = get3 (m ((c : Thread nD τ).loc main_arg1)) (t.val / 8) (y 0).val (y 1).val := by
  obtain ⟨ht, e0, e1, e2, e3, e4⟩ := idx t
  have k : ∀ a, ((win0_1.blk t).view.emb y a).val = win0_1.index t a + 1 * (y a).val := fun a => rfl
  unfold iblk
  blk_simp [e1]
  refine weight_at m c _ y ?_ ?_ <;> rw [k, e1] <;> simp

theorem w2_eq (c : Dev nD) (t : Fin cfg0.N) (y : S2048x2816.Idx) :
    iblk m c 2 t y = get3 (m ((c : Thread nD τ).loc main_arg1)) (2 + t.val / 8) (y 0).val (y 1).val := by
  obtain ⟨ht, e0, e1, e2, e3, e4⟩ := idx t
  have k : ∀ a, ((win0_2.blk t).view.emb y a).val = win0_2.index t a + 1 * (y a).val := fun a => rfl
  unfold iblk
  blk_simp [e2]
  refine weight_at m c _ y ?_ ?_ <;> rw [k, e2] <;> simp

/-- One element of the product with the whole weight, whose columns lie in the chips' parts. -/
def prod (X : (⟨2, ![4096, 2048]⟩ : Shape).Idx → EReal) (Y : (⟨3, ![4, 2048, 2816]⟩ : Shape).Idx → EReal) (r l : ℕ) : EReal :=
  ∑ k ∈ Finset.range 2048, get2 X r k * get3 Y (l / 2816) k (l % 2816)

/-- The two rows' products of a point. -/
theorem row_h (c : Dev nD) (t : Fin cfg0.N) (r l : ℕ) (hr : r < 512) (hl : l < 2816) :
    row (a := 512) (b := 2816) (iblk m c 0 t) (iblk m c 1 t) r l
      = prod (m ((c : Thread nD τ).loc main_arg0)) (m ((c : Thread nD τ).loc main_arg1)) (512 * (t.val % 8) + r) (2816 * (t.val / 8) + l) := by
  unfold row prod
  rw [show (2816 * (t.val / 8) + l) / 2816 = t.val / 8 by omega, show (2816 * (t.val / 8) + l) % 2816 = l by omega]
  exact Finset.sum_congr rfl fun k hk => congrArg₂ (· * ·) (get2_of (iblk m c 0 t) (fun r k => get2 _ (_ + r) k) (w0_eq m c t) hr (Finset.mem_range.mp hk))
    (get2_of (iblk m c 1 t) (fun k l => get3 _ _ k l) (w1_eq m c t) (Finset.mem_range.mp hk) hl)

theorem row_u (c : Dev nD) (t : Fin cfg0.N) (r l : ℕ) (hr : r < 512) (hl : l < 2816) :
    row (a := 512) (b := 2816) (iblk m c 0 t) (iblk m c 2 t) r l
      = prod (m ((c : Thread nD τ).loc main_arg0)) (m ((c : Thread nD τ).loc main_arg1)) (512 * (t.val % 8) + r) (5632 + (2816 * (t.val / 8) + l)) := by
  unfold row prod
  rw [show (5632 + (2816 * (t.val / 8) + l)) / 2816 = 2 + t.val / 8 by omega, show (5632 + (2816 * (t.val / 8) + l)) % 2816 = l by omega]
  exact Finset.sum_congr rfl fun k hk => congrArg₂ (· * ·) (get2_of (iblk m c 0 t) (fun r k => get2 _ (_ + r) k) (w0_eq m c t) hr (Finset.mem_range.mp hk))
    (get2_of (iblk m c 2 t) (fun k l => get3 _ _ k l) (w2_eq m c t) (Finset.mem_range.mp hk) hl)

/-- One element of each result. -/
def saved (X : (⟨2, ![4096, 2048]⟩ : Shape).Idx → EReal) (Y : (⟨3, ![4, 2048, 2816]⟩ : Shape).Idx → EReal) (p r l : ℕ) : EReal :=
  pairOf p (prod X Y r l) (prod X Y r (5632 + l))

def act (X : (⟨2, ![4096, 2048]⟩ : Shape).Idx → EReal) (Y : (⟨3, ![4, 2048, 2816]⟩ : Shape).Idx → EReal) (r l : ℕ) : EReal :=
  gate (prod X Y r l) * prod X Y r (5632 + l)

/-- The result arrays, of the argument arrays. -/
theorem final_saved (c : Dev nD) : (dats m 0 c).arrAt 3 cfg0.N
    = fun y : S2x4096x5632.Idx => saved (m ((c : Thread nD τ).loc main_arg0)) (m ((c : Thread nD τ).loc main_arg1)) (y 0).val (y 1).val (y 2).val := by
  refine (dats m 0 c).arrAt_eq_of_covers 3 _ (by decide +kernel) fun t hf y => ?_
  obtain ⟨ht, e0, e1, e2, e3, e4⟩ := idx t
  blk_simp
  rw [after0_3]
  unfold outsAt0
  dsimp only
  rw [saved_out]
  unfold savedBlk
  rw [row_h m c t _ _ (y 1).isLt (y 2).isLt, row_u m c t _ _ (y 1).isLt (y 2).isLt]
  rw [e3]
  show _ = saved _ _ (0 * 2 + (y 0).val) (t.val % 8 * 512 + (y 1).val) (t.val / 8 * 2816 + (y 2).val)
  rw [zero_mul, zero_add, mul_comm _ 512, mul_comm _ 2816]
  rfl

theorem final_act (c : Dev nD) : (dats m 0 c).arrAt 4 cfg0.N
    = fun y : S4096x5632.Idx => act (m ((c : Thread nD τ).loc main_arg0)) (m ((c : Thread nD τ).loc main_arg1)) (y 0).val (y 1).val := by
  refine (dats m 0 c).arrAt_eq_of_covers 4 _ (by decide +kernel) fun t hf y => ?_
  obtain ⟨ht, e0, e1, e2, e3, e4⟩ := idx t
  blk_simp
  rw [after0_4]
  unfold outsAt0
  dsimp only
  rw [act_out]
  unfold actBlk
  rw [row_h m c t _ _ (y 0).isLt (y 1).isLt, row_u m c t _ _ (y 0).isLt (y 1).isLt]
  rw [e4]
  show _ = act _ _ (t.val % 8 * 512 + (y 0).val) (t.val / 8 * 2816 + (y 1).val)
  rw [mul_comm _ 512, mul_comm _ 2816]
  rfl

end Cert.SwigluIdeal.Prod

namespace Cert.Products

open Idealize.ShloMosaic Idealize.ShloMosaic.TcCoe Idealize.SL.Sem Cert.SwigluRefIdeal.Read Cert.SwigluIdeal.Prod
open Cert.DhuIdeal.Prod (gate gateSlope)

section Reference

variable (X : (⟨2, ![4096, 2048]⟩ : Shape).Idx → EReal) (W : (⟨3, ![4, 2048, 2816]⟩ : Shape).Idx → EReal)

theorem swiglu_prod (y : (⟨2, ![4096, 11264]⟩ : Shape).Idx) : val_main_v11 (F := Ideal) X W y = prod X W (y 0).val (y 1).val := by
  rw [val_main_v11_apply]
  unfold prod
  rw [Finset.sum_range]
  refine Finset.sum_congr rfl fun k _ => congrArg₂ (· * ·) ?_ ?_
  · rw [val_main_v10_apply]
    exact get2_eq X _ _ _ rfl rfl
  · rw [val_main_v9_apply]
    exact cat_parts (t := 11264) (by decide) (by decide) W _ _ _ _ _ Cert.SwigluRefIdeal.Facts₀.concatenates_S2048x2816_S2048x2816_S2048x2816_S2048x2816_S2048x11264_d1 _ k.val (y 1).val rfl rfl

theorem swiglu_h (y : (⟨2, ![4096, 5632]⟩ : Shape).Idx) : val_main_v12 (F := Ideal) X W y = prod X W (y 0).val (y 1).val := by
  rw [val_main_v12_apply]
  exact swiglu_prod X W _

theorem swiglu_u (y : (⟨2, ![4096, 5632]⟩ : Shape).Idx) : val_main_v13 (F := Ideal) X W y = prod X W (y 0).val (5632 + (y 1).val) := by
  rw [val_main_v13_apply]
  exact swiglu_prod X W _

theorem swiglu_sig (y : (⟨2, ![4096, 5632]⟩ : Shape).Idx) : val_main_v14_2 (F := Ideal) X W y = Ideal.logistic (val_main_v12 (F := Ideal) X W y) := by
  unfold Ideal.logistic
  rw [← Ideal.ofBits_one_f32]
  rfl

theorem swiglu_gate (y : (⟨2, ![4096, 5632]⟩ : Shape).Idx) : val_main_v14_0 (F := Ideal) X W y = gate (prod X W (y 0).val (y 1).val) := by
  rw [val_main_v14_0_apply, swiglu_sig, swiglu_h]
  rfl

theorem swiglu_act (y : (⟨2, ![4096, 5632]⟩ : Shape).Idx) : val_main_v21 (F := Ideal) X W y = act X W (y 0).val (y 1).val := by
  rw [val_main_v21_apply, val_main_v20_apply, swiglu_gate, swiglu_u]
  rfl

theorem real_get3 {a b c : ℕ} (Y : (⟨3, ![a, b, c]⟩ : Shape).Idx → EReal) (h : ∀ y, ∃ x : ℝ, Y y = x) (p r l : ℕ) : ∃ x : ℝ, get3 Y p r l = x := by
  unfold get3
  split
  · exact h _
  · exact ⟨0, rfl⟩

/-- The plain forward computation, at an element. -/
theorem swiglu_saved (hX : ∀ y, ∃ x : ℝ, X y = x) (hW : ∀ y, ∃ x : ℝ, W y = x) (y : (⟨3, ![2, 4096, 5632]⟩ : Shape).Idx) :
    val_main_v19 (F := Ideal) X W y = saved X W (y 0).val (y 1).val (y 2).val := by
  rw [val_main_v19_apply]
  refine (stack_apply _ _ _ Cert.SwigluRefIdeal.Facts₀.concatenates_S1x4096x5632_S1x4096x5632_S2x4096x5632_d0 y).trans ?_
  unfold saved pairOf
  split
  · obtain ⟨u, hu⟩ := real_sum 2048 _ _ (real_get2 X hX (y 1).val) (fun k => real_get3 W hW ((5632 + (y 2).val) / 2816) k ((5632 + (y 2).val) % 2816))
    have hu' : prod X W (y 1).val (5632 + (y 2).val) = (u : EReal) := hu
    have e := slope_sum (prod X W (y 1).val (y 2).val) 1 u
    rw [EReal.coe_one, one_mul, one_mul] at e
    rw [hu', ← e, val_main_v15_apply, val_main_call1_v1_apply, val_main_call1_v2_apply, val_main_call1_v0_apply, val_main_v14_1_apply,
      val_main_call0_v7_apply, swiglu_sig, swiglu_h, swiglu_u, val_main_call0_v6_apply, val_main_call0_cst_1_apply,
      show FloatOps.ofBits (F := Ideal) .f32 0x3F800000#32 = (1 : EReal) from Ideal.ofBits_one_f32]
    exact congrArg (fun v : EReal => v * _ + _ * v * _) hu'
  · exact swiglu_gate X W _

/-- The shape relations the precondition's text takes. -/
theorem swigluPreFacts : Cert.Pre_swiglu_finite.Facts := ⟨by decide, by decide, by decide, by decide, by decide, by decide⟩

/-- Arrays the precondition accepts hold real numbers only. -/
theorem swiglu_real [Cert.Pre_swiglu_finite.Facts] (h : Cert.Pre_swiglu_finite.fn (F := Ideal) X W = fun _ => 1#1) :
    (∀ y, ∃ x : ℝ, X y = x) ∧ ∀ y, ∃ x : ℝ, W y = x := by
  have b : ∀ p : Bool, BitVec.ofBool p = 1#1 → p = true := by decide
  obtain ⟨e1, e2⟩ := IntOp.andi_eq_one.1 (congrFun h (Shape.Idx.first Cert.Pre_swiglu_finite.Facts.h_S_))
  have sub : Subsingleton (Cert.Pre_swiglu_finite.S_).Idx := ⟨fun i j => funext fun a => a.elim0⟩
  have fin : ∀ v : EReal, Ideal.cmp .olt (max v (-v)) (Ideal.ofBits .f32 0x7F800000#32) = 1#1 → ∃ x : ℝ, v = x := fun v k => by
    rw [Cert.Mix.inf_word] at k
    exact Cert.Mix.real_of_abs_lt _ (of_decide_eq_true (b _ k))
  exact ⟨fun y => fin _ (Host.reduce_andi_all _ _ _ _ _ e1 y), fun y => fin _ (Host.reduce_andi_all _ _ _ _ _ e2 y)⟩

end Reference

/-- The claim: under the precondition both programs end with the same two arrays on every device. -/
theorem swiglu [Cert.Pre_swiglu_finite.Facts] : @Cert.algebraic_SwigluIdeal_SwigluRefIdeal_pre_swiglu_finite Cert.SwigluIdeal.Gen.facts Cert.SwigluRefIdeal.Gen.facts _ := by
  intro m g m' g' hpre hargs
  refine ⟨fun c => fun y : Cert.SwigluIdeal.S2x4096x5632.Idx => saved (m (c.tc.loc Cert.SwigluIdeal.main_arg0)) (m (c.tc.loc Cert.SwigluIdeal.main_arg1)) (y 0).val (y 1).val (y 2).val,
    fun c => fun y : Cert.SwigluIdeal.S4096x5632.Idx => act (m (c.tc.loc Cert.SwigluIdeal.main_arg0)) (m (c.tc.loc Cert.SwigluIdeal.main_arg1)) (y 0).val (y 1).val, ?_, ?_⟩
  · refine (θ_run _ _ _).mono (fun r h c => ?_) (Cert.SwigluIdeal.Value.run_blocks m g)
    obtain ⟨h0, h1, hk⟩ := h c
    exact ⟨h0.trans (final_saved m c), h1.trans (final_act m c), hk⟩
  · refine (θ_run _ _ _).mono (fun r h c => ?_) (Cert.SwigluRefIdeal.Value.run m' g')
    obtain ⟨h0, h1, hk⟩ := h c
    obtain ⟨e0, e1⟩ := hargs c
    obtain ⟨r0, r1⟩ := swiglu_real _ _ (hpre c)
    refine ⟨(h0.trans (val_main_v19_eq m' c)).trans ?_, (h1.trans (val_main_v21_eq m' c)).trans ?_, hk⟩
    · rw [e0, e1]
      exact funext fun y => swiglu_saved _ _ r0 r1 y
    · rw [e0, e1]
      exact funext fun y => swiglu_act _ _ y

end Cert.Products
end
-- ==== Proof.Down.lean ====
/-
  A feed-forward's second product: the hidden columns are summed in two halves, the first half's point setting the
  accumulator and the second one's writing it out. What the array holds at the end is the plain product.
-/
module

public import proofs.«01_k».proof.Defs
public import proofs.«01_k».proof.Proof.Parts
public import proofs.«01_k».proof.Proof.Gen.DownIdeal.Value
public import proofs.«01_k».proof.Proof.Gen.DownRefIdeal.Run
public import proofs.«01_k».proof.Proof.Gen.DownRefIdeal.Read

@[expose] public section

set_option maxRecDepth 16384

noncomputable section

namespace Cert.DownIdeal.Prod

open Cert.DownIdeal Cert.DownIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

section Cases

variable (c : Dev nD) (i : grid0.Coords) (a3 : Memref sig .tc .vmem S1024x2816 .bf16) (h3 : a3.IsWhole) (a4 : Memref sig .tc .vmem S2816x1024 .bf16)
  (h4 : a4.IsWhole) (a5 : Memref sig .tc .vmem S1024x1024 .f32) (h5 : a5.IsWhole) (a6 : Memref sig .tc .vmem S1024x1024 .f32) (h6 : a6.IsWhole)
  (x0 : Vec Ideal S1024x2816 .bf16) (x1 : Vec Ideal S2816x1024 .bf16) (xs : Vec Ideal S1024x1024 .f32)

/-- The accumulator after one more half. -/
theorem step_apply (y : S1024x1024.Idx) :
    k0_pay2 xs x0 x1 y = xs y + ∑ k ∈ Finset.range 2816, get2 x0 (y 0).val k * get2 x1 k (y 1).val := by
  unfold k0_pay2
  rw [shapeCast_self]
  exact congrArg (xs y + ·) (matmul_nn (φ := .bf16) (ψ := .bf16) dot_S1024x2816_S2816x1024_S1024x1024_1_0_0_1_n_n rfl rfl rfl rfl rfl rfl none x0 x1 y)

/-- The first half's point leaves that half's sum. -/
theorem first_apply (hc0 : cond0_0 i) (hc1 : ¬cond0_1 i) (y : S1024x1024.Idx) :
    sout0_A_0 c i a3 h3 a4 h4 a5 h5 a6 h6 hc0 hc1 x0 x1 y = ∑ k ∈ Finset.range 2816, get2 x0 (y 0).val k * get2 x1 k (y 1).val := by
  unfold sout0_A_0
  rw [View.read_writes_eq_canon _ _ _ (scover0_A_0 c i a3 h3 a4 h4 a5 h5 a6 h6 hc0 hc1 x0 x1)]
  unfold kernelRun0_A
  dsimp only
  sl_unfold_run_names
  rw [View.canon_cons_unit_zero (S := S1024x1024) hz, View.readCov_unit_zero (S := S1024x1024) _ hz]
  simp only [View.readAt_eq_ld, h3.read_unread, h4.read_unread, View.ld_unit_zero (S := S1024x2816) hz, View.ld_unit_zero (S := S2816x1024) hz]
  rw [step_apply]
  unfold k0_pay1
  rw [shapeCast_self]
  exact (congrArg (· + _) Ideal.ofBits_zero_f32).trans (zero_add _)

/-- The second half's point writes the accumulator. -/
theorem last_apply (hc0 : ¬cond0_0 i) (hc1 : cond0_1 i) (y : S1024x1024.Idx) :
    out0_B_2 c i a3 h3 a4 h4 a5 h5 a6 h6 hc0 hc1 x0 x1 xs y = xs y + ∑ k ∈ Finset.range 2816, get2 x0 (y 0).val k * get2 x1 k (y 1).val := by
  unfold out0_B_2
  rw [View.read_writes_eq_canon _ _ _ (cover0_B_2 c i a3 h3 a4 h4 a5 h5 a6 h6 hc0 hc1 x0 x1 xs)]
  unfold kernelRun0_B
  dsimp only
  sl_unfold_run_names
  rw [View.canon_unit_zero (S := S1024x1024) hz, View.readCov_unit_zero (S := S1024x1024) _ hz]
  simp only [View.readAt_eq_ld, h3.read_unread, h4.read_unread, h6.read_unread, View.ld_unit_zero (S := S1024x2816) hz, View.ld_unit_zero (S := S2816x1024) hz,
    View.ld_unit_zero (S := S1024x1024) hz]
  unfold k0_pay3
  rw [shapeCast_self]
  exact step_apply x0 x1 xs y

end Cases

/-- Where the windows' blocks lie. -/
theorem idx : ∀ t : Fin cfg0.N, t.val < 16 ∧ win0_0.index t = ![t.val / 4, t.val % 2] ∧ win0_1.index t = ![t.val % 2, t.val / 2 % 2] ∧
    win0_2.index t = ![t.val / 4, t.val / 2 % 2] :=
  (by decide +kernel : ∀ t : Fin grid0.N, _)

theorem w0_eq (c : Dev nD) (t : Fin cfg0.N) (y : S1024x2816.Idx) :
    iblk m c 0 t y = get2 (m ((c : Thread nD τ).loc main_arg0)) (1024 * (t.val / 4) + (y 0).val) (2816 * (t.val % 2) + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S2816x1024.Idx) :
    iblk m c 1 t y = get2 (m ((c : Thread nD τ).loc main_arg1)) (2816 * (t.val % 2) + (y 0).val) (1024 * (t.val / 2 % 2) + (y 1).val) := by
  obtain ⟨ht, e0, e1, e2⟩ := idx t
  unfold iblk
  blk_simp [e1]
  refine get2_eq (m ((c : Thread nD τ).loc main_arg1)) _ _ _ ?_ ?_ <;> blk_simp [e1] <;> (try simp) <;> omega

/-- One element of the product. -/
def res (X : (⟨2, ![4096, 5632]⟩ : Shape).Idx → EReal) (Y : (⟨2, ![5632, 2048]⟩ : Shape).Idx → EReal) (r l : ℕ) : EReal :=
  ∑ k ∈ Finset.range 5632, get2 X r k * get2 Y k l

/-- The sum over the columns of half `q`. -/
def part (c : Dev nD) (q r l : ℕ) : EReal :=
  ∑ k ∈ Finset.range 2816, get2 (m ((c : Thread nD τ).loc main_arg0)) r (2816 * q + k) * get2 (m ((c : Thread nD τ).loc main_arg1)) (2816 * q + k) l

theorem part_eq (c : Dev nD) (t : Fin cfg0.N) (r l : ℕ) (hr : r < 1024) (hl : l < 1024) :
    ∑ k ∈ Finset.range 2816, get2 (a := 1024) (b := 2816) (iblk m c 0 t) r k * get2 (a := 2816) (b := 1024) (iblk m c 1 t) k l
      = part m c (t.val % 2) (1024 * (t.val / 4) + r) (1024 * (t.val / 2 % 2) + l) :=
  Finset.sum_congr rfl fun k hk => congrArg₂ (· * ·) (get2_of (iblk m c 0 t) (fun r k => get2 _ (_ + r) (_ + k)) (w0_eq m c t) hr (Finset.mem_range.mp hk))
    (get2_of (iblk m c 1 t) (fun k l => get2 _ (_ + k) (_ + l)) (w1_eq m c t) (Finset.mem_range.mp hk) hl)

/-- What the first half's point leaves in the accumulator. -/
theorem first (c : Dev nD) (t : Fin cfg0.N) (hm : t.val % 2 = 0) (j : S1024x1024.Idx) :
    (outsAt0 m c t.val t.isLt).2 j = part m c 0 (1024 * (t.val / 4) + (j 0).val) (1024 * (t.val / 2 % 2) + (j 1).val) := by
  rw [outsAt0_A m c t hm (by omega)]
  dsimp only
  rw [first_apply]
  exact (part_eq m c t (j 0).val (j 1).val (j 0).isLt (j 1).isLt).trans (congrArg (part m c · _ _) hm)

/-- What the second half's point writes back. -/
theorem block (c : Dev nD) (t : Fin cfg0.N) (hm : t.val % 2 = 1) (y : S1024x1024.Idx) :
    (outsAt0 m c t.val t.isLt).1 y = res (m ((c : Thread nD τ).loc main_arg0)) (m ((c : Thread nD τ).loc main_arg1))
      (1024 * (t.val / 4) + (y 0).val) (1024 * (t.val / 2 % 2) + (y 1).val) := by
  have hs : t.val - 1 < cfg0.N := Nat.lt_of_le_of_lt (Nat.sub_le _ _) t.isLt
  have hf := first m c ⟨t.val - 1, hs⟩ (by dsimp only; omega) y
  dsimp only at hf
  rw [show (t.val - 1) / 4 = t.val / 4 by omega, show (t.val - 1) / 2 = t.val / 2 by omega] at hf
  rw [outsAt0_B m c t (by omega) hm]
  dsimp only
  rw [last_apply]
  refine (congrArg₂ (· + ·) hf (part_eq m c t (y 0).val (y 1).val (y 0).isLt (y 1).isLt)).trans ?_
  unfold res part
  rw [hm]
  refine Eq.trans ?_ (Finset.sum_range_add _ 2816 2816).symm
  simp only [Nat.mul_zero, Nat.zero_add, Nat.mul_one]

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val (y 1).val := by
  refine (dats m 0 c).arrAt_eq_of_covers 2 _ (by decide +kernel) fun t hf y => ?_
  have hm : t.val % 2 = 1 := (flush0_2 t).mp hf
  obtain ⟨ht, e0, e1, e2⟩ := idx t
  blk_simp
  rw [after0_2]
  refine (block m c t hm y).trans ?_
  congr 1 <;> blk_simp [e2] <;> (try simp) <;> omega

end Cert.DownIdeal.Prod

namespace Cert.Products

open Idealize.ShloMosaic Idealize.ShloMosaic.TcCoe Idealize.SL.Sem Cert.DownRefIdeal.Read

/-- The plain product, at an element. -/
theorem down_ref (X : (⟨2, ![4096, 5632]⟩ : Shape).Idx → EReal) (Y : (⟨2, ![5632, 2048]⟩ : Shape).Idx → EReal) (y : (⟨2, ![4096, 2048]⟩ : Shape).Idx) :
    val_main_v2 (F := Ideal) X Y y = Cert.DownIdeal.Prod.res X Y (y 0).val (y 1).val := by
  rw [val_main_v2_apply]
  unfold Cert.DownIdeal.Prod.res
  rw [Finset.sum_range]
  exact Finset.sum_congr rfl fun k _ => congrArg₂ (· * ·) (get2_eq X _ _ _ rfl rfl) (get2_eq Y _ _ _ rfl rfl)

/-- The claim: both programs end with one array on every device. -/
theorem down : @Cert.algebraic_DownIdeal_DownRefIdeal Cert.DownIdeal.Gen.facts Cert.DownRefIdeal.Gen.facts := by
  intro m g m' g' _ hargs
  refine ⟨fun c => fun y : Cert.DownIdeal.S4096x2048.Idx => Cert.DownIdeal.Prod.res (m (c.tc.loc Cert.DownIdeal.main_arg0)) (m (c.tc.loc Cert.DownIdeal.main_arg1))
    (y 0).val (y 1).val, ?_, ?_⟩
  · refine (θ_run _ _ _).mono (fun r h c => ?_) (Cert.DownIdeal.Value.run_blocks m g)
    obtain ⟨h0, hk⟩ := h c
    exact ⟨h0.trans (Cert.DownIdeal.Prod.final m c), hk⟩
  · refine (θ_run _ _ _).mono (fun r h c => ?_) (Cert.DownRefIdeal.Value.run m' g')
    obtain ⟨h0, hk⟩ := h c
    refine ⟨(h0.trans (val_main_v2_eq _ _)).trans ?_, hk⟩
    obtain ⟨e0, e1⟩ := hargs c
    rw [e0, e1]
    exact funext fun y => down_ref _ _ y

end Cert.Products
end
-- ==== Proof.Ya.lean ====
/-
  The convolution branch's output: its activation against the four chips' parts of the weight, one block of rows and
  one part a point. What the array holds at the end is the plain product with the whole weight.
-/
module

public import proofs.«01_k».proof.Defs
public import proofs.«01_k».proof.Proof.Parts
public import proofs.«01_k».proof.Proof.Gen.YaIdeal.Value
public import proofs.«01_k».proof.Proof.Gen.YaRefIdeal.Run
public import proofs.«01_k».proof.Proof.Gen.YaRefIdeal.Read

@[expose] public section

set_option maxRecDepth 16384

noncomputable section

namespace Cert.YaIdeal.Prod

open Cert.YaIdeal Cert.YaIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

/-- The block a point writes, of the two blocks it reads. -/
theorem out_apply (x0 : Vec Ideal S1024x1024 .bf16) (x1 : Vec Ideal S1x1024x512 .bf16) (y : S1024x512.Idx) :
    out0_2 x0 x1 y = ∑ k ∈ Finset.range 1024, get2 x0 (y 0).val k * get3 x1 0 k (y 1).val := by
  unfold out0_2
  rw [View.canon_unit_zero (S := S1024x512) hz]
  simp only [View.ld_unit_zero (S := S1024x1024) hz, View.ld_unit_zero (S := S1x1024x512) hz3]
  unfold k0_pay1
  rw [shapeCast_self]
  refine (matmul_nn (φ := .bf16) (ψ := .bf16) dot_S1024x1024_S1024x512_S1024x512_1_0_0_1_n_n rfl rfl rfl rfl rfl rfl none x0 _ y).trans ?_
  exact Finset.sum_congr rfl fun k _ => congrArg (get2 x0 (y 0).val k * ·) (get2_shapeCast x1 _ k (y 1).val)

/-- Where the windows' blocks lie. -/
theorem idx : ∀ t : Fin cfg0.N, t.val < 16 ∧ win0_0.index t = ![t.val / 4, 0] ∧ win0_1.index t = ![t.val % 4, 0, 0] ∧
    win0_2.index t = ![t.val / 4, t.val % 4] :=
  (by decide +kernel : ∀ t : Fin grid0.N, _)

theorem w0_eq (c : Dev nD) (t : Fin cfg0.N) (y : S1024x1024.Idx) :
    iblk m c 0 t y = get2 (m ((c : Thread nD τ).loc main_arg0)) (1024 * (t.val / 4) + (y 0).val) (y 1).val := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S1x1024x512.Idx) :
    iblk m c 1 t y = get3 (m ((c : Thread nD τ).loc main_arg1)) (t.val % 4 + (y 0).val) (y 1).val (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- One element of the result: row `r`, column `l` of part `p`. -/
def res (X : (⟨2, ![4096, 1024]⟩ : Shape).Idx → EReal) (Y : (⟨3, ![4, 1024, 512]⟩ : Shape).Idx → EReal) (r p l : ℕ) : EReal :=
  ∑ k ∈ Finset.range 1024, get2 X r k * get3 Y p k l

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val ((y 1).val / 512) ((y 1).val % 512) := by
  refine (dats m 0 c).arrAt_eq_of_covers 2 _ (by decide +kernel) fun t hf y => ?_
  obtain ⟨ht, e0, e1, e2⟩ := idx t
  have y1 : (y 1).val < 512 := (y 1).isLt
  blk_simp
  rw [after0_2]
  refine ((out_apply _ _ y).trans (Finset.sum_congr rfl fun k hk => congrArg₂ (· * ·)
    (get2_of (iblk m c 0 t) (fun r k => get2 _ (_ + r) k) (w0_eq m c t) (y 0).isLt (Finset.mem_range.mp hk))
    (get3_of (iblk m c 1 t) (fun p k l => get3 _ (_ + p) k l) (w1_eq m c t) Nat.one_pos (Finset.mem_range.mp hk) y1))).trans ?_
  unfold res
  refine Finset.sum_congr rfl fun k _ => ?_
  congr 2 <;> blk_simp [e2] <;> (try simp) <;> omega

end Cert.YaIdeal.Prod

namespace Cert.Products

open Idealize.ShloMosaic Idealize.ShloMosaic.TcCoe Idealize.SL.Sem Cert.YaRefIdeal.Read

/-- The plain product, at an element. -/
theorem ya_ref (X : (⟨2, ![4096, 1024]⟩ : Shape).Idx → EReal) (Y : (⟨3, ![4, 1024, 512]⟩ : Shape).Idx → EReal) (y : (⟨2, ![4096, 2048]⟩ : Shape).Idx) :
    val_main_v12 (F := Ideal) X Y y = Cert.YaIdeal.Prod.res X Y (y 0).val ((y 1).val / 512) ((y 1).val % 512) := by
  rw [val_main_v12_apply]
  show val_main_v11 (F := Ideal) X Y y = _
  rw [val_main_v11_apply]
  unfold Cert.YaIdeal.Prod.res
  rw [Finset.sum_range]
  refine Finset.sum_congr rfl fun k _ => congrArg₂ (· * ·) ?_ ?_
  · rw [val_main_v10_apply]
    exact get2_eq X _ _ _ rfl rfl
  · rw [val_main_v9_apply]
    exact cat_parts (t := 2048) (by decide) (by decide) Y _ _ _ _ _ Cert.YaRefIdeal.Facts₀.concatenates_S1024x512_S1024x512_S1024x512_S1024x512_S1024x2048_d1 _ k.val (y 1).val rfl rfl

/-- The claim: both programs end with one array on every device. -/
theorem ya : @Cert.algebraic_YaIdeal_YaRefIdeal Cert.YaIdeal.Gen.facts Cert.YaRefIdeal.Gen.facts := by
  intro m g m' g' _ hargs
  refine ⟨fun c => fun y : Cert.YaIdeal.S4096x2048.Idx => Cert.YaIdeal.Prod.res (m (c.tc.loc Cert.YaIdeal.main_arg0)) (m (c.tc.loc Cert.YaIdeal.main_arg1))
    (y 0).val ((y 1).val / 512) ((y 1).val % 512), ?_, ?_⟩
  · refine (θ_run _ _ _).mono (fun r h c => ?_) (Cert.YaIdeal.Value.run_blocks m g)
    obtain ⟨h0, hk⟩ := h c
    exact ⟨h0.trans (Cert.YaIdeal.Prod.final m c), hk⟩
  · refine (θ_run _ _ _).mono (fun r h c => ?_) (Cert.YaRefIdeal.Value.run m' g')
    obtain ⟨h0, hk⟩ := h c
    refine ⟨(h0.trans (val_main_v12_eq _ _)).trans ?_, hk⟩
    obtain ⟨e0, e1⟩ := hargs c
    rw [e0, e1]
    exact funext fun y => ya_ref _ _ y

end Cert.Products
end
-- ==== Proof.Yb.lean ====
/-
  The pooled branch's output: a group's mixed values against the group's weight, one block of rows and one group a
  point. What the array holds at the end is the plain map from groups to groups.
-/
module

public import proofs.«01_k».proof.Defs
public import proofs.«01_k».proof.Proof.Parts
public import proofs.«01_k».proof.Proof.Gen.YbIdeal.Value
public import proofs.«01_k».proof.Proof.Gen.YbRefIdeal.Run
public import proofs.«01_k».proof.Proof.Gen.YbRefIdeal.Read

@[expose] public section

set_option maxRecDepth 16384

noncomputable section

namespace Cert.YbIdeal.Prod

open Cert.YbIdeal Cert.YbIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

theorem hz3 : (![0, 0, 0] : Fin 3 → ℕ) = fun _ => 0 := funext fun a => by fin_cases a <;> rfl

/-- The block a point writes, of the two blocks it reads. -/
theorem out_apply (x0 : Vec Ideal S1024x256 .bf16) (x1 : Vec Ideal S1x256x512 .bf16) (y : S1024x512.Idx) :
    out0_2 x0 x1 y = ∑ k ∈ Finset.range 256, get2 x0 (y 0).val k * get3 x1 0 k (y 1).val := by
  unfold out0_2
  rw [View.canon_unit_zero (S := S1024x512) hz]
  simp only [View.ld_unit_zero (S := S1024x256) hz, View.ld_unit_zero (S := S1x256x512) hz3]
  unfold k0_pay1
  rw [shapeCast_self]
  refine (matmul_nn (φ := .bf16) (ψ := .bf16) dot_S1024x256_S256x512_S1024x512_1_0_0_1_n_n rfl rfl rfl rfl rfl rfl none x0 _ y).trans ?_
  exact Finset.sum_congr rfl fun k _ => congrArg (get2 x0 (y 0).val k * ·) (get2_shapeCast x1 _ k (y 1).val)

/-- Where the windows' blocks lie. -/
theorem idx : ∀ t : Fin cfg0.N, t.val < 16 ∧ win0_0.index t = ![t.val / 4, t.val % 4] ∧ win0_1.index t = ![t.val % 4, 0, 0] ∧
    win0_2.index t = ![t.val / 4, t.val % 4] :=
  (by decide +kernel : ∀ t : Fin grid0.N, _)

theorem w0_eq (c : Dev nD) (t : Fin cfg0.N) (y : S1024x256.Idx) :
    iblk m c 0 t y = get2 (m ((c : Thread nD τ).loc main_arg0)) (1024 * (t.val / 4) + (y 0).val) (256 * (t.val % 4) + (y 1).val) := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S1x256x512.Idx) :
    iblk m c 1 t y = get3 (m ((c : Thread nD τ).loc main_arg1)) (t.val % 4 + (y 0).val) (y 1).val (y 2).val := by
  obtain ⟨ht, e0, e1, e2⟩ := idx t
  unfold iblk
  blk_simp [e1]
  refine get3_eq (m ((c : Thread nD τ).loc main_arg1)) _ _ _ _ ?_ ?_ ?_ <;> blk_simp [e1] <;> (try simp) <;> omega

/-- One element of the result: row `r`, column `l` of part `p`. -/
def res (X : (⟨2, ![4096, 1024]⟩ : Shape).Idx → EReal) (Y : (⟨3, ![4, 256, 512]⟩ : Shape).Idx → EReal) (r p l : ℕ) : EReal :=
  ∑ k ∈ Finset.range 256, get2 X r (256 * p + k) * get3 Y p k l

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val ((y 1).val / 512) ((y 1).val % 512) := by
  refine (dats m 0 c).arrAt_eq_of_covers 2 _ (by decide +kernel) fun t hf y => ?_
  obtain ⟨ht, e0, e1, e2⟩ := idx t
  have y1 : (y 1).val < 512 := (y 1).isLt
  blk_simp
  rw [after0_2]
  refine ((out_apply _ _ y).trans (Finset.sum_congr rfl fun k hk => congrArg₂ (· * ·)
    (get2_of (iblk m c 0 t) (fun r k => get2 _ (_ + r) (_ + k)) (w0_eq m c t) (y 0).isLt (Finset.mem_range.mp hk))
    (get3_of (iblk m c 1 t) (fun p k l => get3 _ (_ + p) k l) (w1_eq m c t) Nat.one_pos (Finset.mem_range.mp hk) y1))).trans ?_
  unfold res
  refine Finset.sum_congr rfl fun k _ => ?_
  congr 2 <;> blk_simp [e2] <;> (try simp) <;> omega

end Cert.YbIdeal.Prod

namespace Cert.Products

open Idealize.ShloMosaic Idealize.ShloMosaic.TcCoe Idealize.SL.Sem Cert.YbRefIdeal.Read

/-- The plain map, at an element. -/
theorem yb_ref (X : (⟨2, ![4096, 1024]⟩ : Shape).Idx → EReal) (Y : (⟨3, ![4, 256, 512]⟩ : Shape).Idx → EReal) (y : (⟨2, ![4096, 2048]⟩ : Shape).Idx) :
    val_main_v6 (F := Ideal) X Y y = Cert.YbIdeal.Prod.res X Y (y 0).val ((y 1).val / 512) ((y 1).val % 512) := by
  have y0 : (y 0).val < 4096 := (y 0).isLt
  have y1 : (y 1).val < 2048 := (y 1).isLt
  rw [val_main_v6_apply]
  show val_main_v5 (F := Ideal) X Y y = _
  rw [val_main_v5_apply, val_main_v4_apply, val_main_v3_apply]
  unfold Cert.YbIdeal.Prod.res
  rw [Finset.sum_range]
  refine Finset.sum_congr rfl fun k _ => (mul_comm _ _).trans (congrArg₂ (· * ·) ?_ ?_)
  · rw [val_main_v2_apply]
    refine get2_eq X _ _ _ ?_ ?_
    · show ((((y 0).val * 2048 + (y 1).val) / 2048 * 4 + ((y 0).val * 2048 + (y 1).val) / 512 % 4) * 256 + k.val) / 1024 = (y 0).val
      omega
    · show ((((y 0).val * 2048 + (y 1).val) / 2048 * 4 + ((y 0).val * 2048 + (y 1).val) / 512 % 4) * 256 + k.val) % 1024 = 256 * ((y 1).val / 512) + k.val
      omega
  · refine get3_eq Y _ _ _ _ ?_ rfl ?_
    · show ((y 0).val * 2048 + (y 1).val) / 512 % 4 = (y 1).val / 512
      omega
    · show ((y 0).val * 2048 + (y 1).val) % 512 = (y 1).val % 512
      omega

/-- The claim: both programs end with one array on every device. -/
theorem yb : @Cert.algebraic_YbIdeal_YbRefIdeal Cert.YbIdeal.Gen.facts Cert.YbRefIdeal.Gen.facts := by
  intro m g m' g' _ hargs
  refine ⟨fun c => fun y : Cert.YbIdeal.S4096x2048.Idx => Cert.YbIdeal.Prod.res (m (c.tc.loc Cert.YbIdeal.main_arg0)) (m (c.tc.loc Cert.YbIdeal.main_arg1))
    (y 0).val ((y 1).val / 512) ((y 1).val % 512), ?_, ?_⟩
  · refine (θ_run _ _ _).mono (fun r h c => ?_) (Cert.YbIdeal.Value.run_blocks m g)
    obtain ⟨h0, hk⟩ := h c
    exact ⟨h0.trans (Cert.YbIdeal.Prod.final m c), hk⟩
  · refine (θ_run _ _ _).mono (fun r h c => ?_) (Cert.YbRefIdeal.Value.run m' g')
    obtain ⟨h0, hk⟩ := h c
    refine ⟨(h0.trans (val_main_v6_eq _ _)).trans ?_, hk⟩
    obtain ⟨e0, e1⟩ := hargs c
    rw [e0, e1]
    exact funext fun y => yb_ref _ _ y

end Cert.Products
end
-- ==== Proof.MixOut.lean ====
/-
  The mixer's output product: one block of rows against one half of the weight's columns a point. What the array holds
  at the end is the plain product.
-/
module

public import proofs.«01_k».proof.Defs
public import proofs.«01_k».proof.Proof.Parts
public import proofs.«01_k».proof.Proof.Gen.MixOutIdeal.Value
public import proofs.«01_k».proof.Proof.Gen.MixOutRefIdeal.Run
public import proofs.«01_k».proof.Proof.Gen.MixOutRefIdeal.Read

@[expose] public section

set_option maxRecDepth 16384

noncomputable section

namespace Cert.MixOutIdeal.Prod

open Cert.MixOutIdeal Cert.MixOutIdeal.Gen Cert.Products Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- The block a point writes, of the two blocks it reads. -/
theorem out_apply (x0 : Vec Ideal S1024x2048 .bf16) (x1 : Vec Ideal S2048x1024 .bf16) (y : S1024x1024.Idx) :
    out0_2 x0 x1 y = ∑ k ∈ Finset.range 2048, get2 x0 (y 0).val k * get2 x1 k (y 1).val := by
  unfold out0_2
  rw [View.canon_unit_zero (S := S1024x1024) hz]
  simp only [View.ld_unit_zero (S := S1024x2048) hz, View.ld_unit_zero (S := S2048x1024) hz]
  unfold k0_pay1
  rw [shapeCast_self]
  exact matmul_nn (φ := .bf16) (ψ := .bf16) dot_S1024x2048_S2048x1024_S1024x1024_1_0_0_1_n_n rfl rfl rfl rfl rfl rfl none x0 x1 y

/-- Where the windows' blocks lie. -/
theorem idx : ∀ t : Fin cfg0.N, t.val < 8 ∧ win0_0.index t = ![t.val / 2, 0] ∧ win0_1.index t = ![0, t.val % 2] ∧ win0_2.index t = ![t.val / 2, t.val % 2] :=
  (by decide +kernel : ∀ t : Fin grid0.N, _)

theorem w0_eq (c : Dev nD) (t : Fin cfg0.N) (y : S1024x2048.Idx) :
    iblk m c 0 t y = get2 (m ((c : Thread nD τ).loc main_arg0)) (1024 * (t.val / 2) + (y 0).val) (y 1).val := by
  obtain ⟨ht, e0, e1, e2⟩ := idx t
  unfold iblk
  blk_simp [e0]
  refine get2_eq (m ((c : Thread nD τ).loc main_arg0)) _ _ _ ?_ ?_ <;> blk_simp [e0] <;> (try simp) <;> omega

theorem w1_eq (c : Dev nD) (t : Fin cfg0.N) (y : S2048x1024.Idx) :
    iblk m c 1 t y = get2 (m ((c : Thread nD τ).loc main_arg1)) (y 0).val (1024 * (t.val % 2) + (y 1).val) := by
  obtain ⟨ht, e0, e1, e2⟩ := idx t
  unfold iblk
  blk_simp [e1]
  refine get2_eq (m ((c : Thread nD τ).loc main_arg1)) _ _ _ ?_ ?_ <;> blk_simp [e1] <;> (try simp) <;> omega

/-- One element of the product. -/
def res (X : (⟨2, ![4096, 2048]⟩ : Shape).Idx → EReal) (Y : (⟨2, ![2048, 2048]⟩ : Shape).Idx → EReal) (r l : ℕ) : EReal :=
  ∑ k ∈ Finset.range 2048, get2 X r k * get2 Y k l

/-- The result array, of the argument arrays. -/
theorem final (c : Dev nD) : (dats m 0 c).arrAt 2 cfg0.N
    = fun y : S4096x2048.Idx => res (m ((c : Thread nD τ).loc main_arg0)) (m ((c : Thread nD τ).loc main_arg1)) (y 0).val (y 1).val := by
  refine (dats m 0 c).arrAt_eq_of_covers 2 _ (by decide +kernel) fun t hf y => ?_
  obtain ⟨ht, e0, e1, e2⟩ := idx t
  blk_simp
  rw [after0_2]
  refine ((out_apply _ _ y).trans (Finset.sum_congr rfl fun k hk => congrArg₂ (· * ·)
    (get2_of (iblk m c 0 t) (fun r k => get2 _ (_ + r) k) (w0_eq m c t) (y 0).isLt (Finset.mem_range.mp hk))
    (get2_of (iblk m c 1 t) (fun k l => get2 _ k (_ + l)) (w1_eq m c t) (Finset.mem_range.mp hk) (y 1).isLt))).trans ?_
  unfold res
  refine Finset.sum_congr rfl fun k _ => ?_
  congr 2 <;> blk_simp [e2] <;> (try simp) <;> omega

end Cert.MixOutIdeal.Prod

namespace Cert.Products

open Idealize.ShloMosaic Idealize.ShloMosaic.TcCoe Idealize.SL.Sem Cert.MixOutRefIdeal.Read

/-- The plain product, at an element. -/
theorem mixOut_ref (X : (⟨2, ![4096, 2048]⟩ : Shape).Idx → EReal) (Y : (⟨2, ![2048, 2048]⟩ : Shape).Idx → EReal) (y : (⟨2, ![4096, 2048]⟩ : Shape).Idx) :
    val_main_v2 (F := Ideal) X Y y = Cert.MixOutIdeal.Prod.res X Y (y 0).val (y 1).val := by
  rw [val_main_v2_apply]
  unfold Cert.MixOutIdeal.Prod.res
  rw [Finset.sum_range]
  exact Finset.sum_congr rfl fun k _ => congrArg₂ (· * ·) (get2_eq X _ _ _ rfl rfl) (get2_eq Y _ _ _ rfl rfl)

/-- The claim: both programs end with one array on every device. -/
theorem mixOut : @Cert.algebraic_MixOutIdeal_MixOutRefIdeal Cert.MixOutIdeal.Gen.facts Cert.MixOutRefIdeal.Gen.facts := by
  intro m g m' g' _ hargs
  refine ⟨fun c => fun y : Cert.MixOutIdeal.S4096x2048.Idx => Cert.MixOutIdeal.Prod.res (m (c.tc.loc Cert.MixOutIdeal.main_arg0)) (m (c.tc.loc Cert.MixOutIdeal.main_arg1))
    (y 0).val (y 1).val, ?_, ?_⟩
  · refine (θ_run _ _ _).mono (fun r h c => ?_) (Cert.MixOutIdeal.Value.run_blocks m g)
    obtain ⟨h0, hk⟩ := h c
    exact ⟨h0.trans (Cert.MixOutIdeal.Prod.final m c), hk⟩
  · refine (θ_run _ _ _).mono (fun r h c => ?_) (Cert.MixOutRefIdeal.Value.run m' g')
    obtain ⟨h0, hk⟩ := h c
    refine ⟨(h0.trans (val_main_v2_eq _ _)).trans ?_, hk⟩
    obtain ⟨e0, e1⟩ := hargs c
    rw [e0, e1]
    exact funext fun y => mixOut_ref _ _ y

end Cert.Products
end
-- ==== Proof.NormX.lean ====
/-
  The backward pass of the first norm, 256 rows a point: the gradient of the input block by block, and the gradients of
  the shift, the scale and the weight added up over the points. A point computes what the mixer's norm computes without
  its last residual, so what it leaves is read off the lemmas of the module it imports, and so are the derivative's values.
-/
module

public import proofs.«01_k».proof.Proof.Norm
public import proofs.«01_k».proof.Proof.Gen.NormXIdeal.Value
public import proofs.«01_k».proof.Proof.Gen.NormXRefIdeal.Run
public import proofs.«01_k».proof.Proof.Gen.NormXRefIdeal.Read

@[expose] public section

set_option maxRecDepth 16384

noncomputable section

namespace Cert.NormXIdeal.Prod

open Cert.NormXIdeal Cert.NormXIdeal.Gen Cert.Products Idealize.ShloMosaic Idealize.ShloMosaic.TcCoe Idealize.SL.Sem
open Cert.NormIdeal.Prod (hz dC dW dH dC_at dW_at dH_at dH_apply sumD sumC sumW)

variable (m : (ℓ : Loc nD τ sig) → Buf (Elt Ideal) ℓ)

section Cases

variable (c : Dev nD) (i : grid0.Coords) (a1 : Memref sig .tc .vmem S256x2048 .f32) (h1 : a1.IsWhole) (a2 : Memref sig .tc .vmem S256x2048 .bf16) (h2 : a2.IsWhole)
  (a3 : Memref sig .tc .vmem S256x2048 .f32) (h3 : a3.IsWhole) (a4 : Memref sig .tc .vmem S1x2048 .f32) (h4 : a4.IsWhole) (a5 : Memref sig .tc .vmem S1x2048 .f32) (h5 : a5.IsWhole)
  (a6 : Memref sig .tc .vmem S256x2048 .f32) (h6 : a6.IsWhole) (a7 : Memref sig .tc .vmem S1x2048 .f32) (h7 : a7.IsWhole) (a8 : Memref sig .tc .vmem S1x2048 .f32) (h8 : a8.IsWhole)
  (a9 : Memref sig .tc .vmem S1x2048 .f32) (h9 : a9.IsWhole)
  (x0 : Vec Ideal S256x2048 .f32) (x1 : Vec Ideal S256x2048 .bf16) (x2 : Vec Ideal S256x2048 .f32) (x3 x4 : Vec Ideal S1x2048 .f32) (y6 y7 y8 : Vec Ideal S1x2048 .f32)

/-- What a point leaves in the four outputs' buffers, of the blocks it reads and of what the three sums held before. -/
def outs : Vec Ideal S256x2048 .f32 × Vec Ideal S1x2048 .f32 × Vec Ideal S1x2048 .f32 × Vec Ideal S1x2048 .f32 :=
  (k0_pay4 (k0_pay5 x0) (k0_pay6 x0) (k0_pay7 x1) x3 x4 x2, k0_pay9 x1 y6, k0_pay11 x0 x1 x3 y7, k0_pay3 (k0_pay6 x0) (k0_pay7 x1) x4 y8)

/-- The first point starts the three sums from zero … -/
theorem caseA (hc0 : cond0_0 i) (hc1 : cond0_1 i) (hc2 : cond0_2 i) :
    (out0_A_5 c i a1 h1 a2 h2 a3 h3 a4 h4 a5 h5 a6 h6 a7 h7 a8 h8 a9 h9 hc0 hc1 hc2 x0 x1 x2 x3 x4,
      out0_A_6 c i a1 h1 a2 h2 a3 h3 a4 h4 a5 h5 a6 h6 a7 h7 a8 h8 a9 h9 hc0 hc1 hc2 x0 x1 x2 x3 x4,
      out0_A_7 c i a1 h1 a2 h2 a3 h3 a4 h4 a5 h5 a6 h6 a7 h7 a8 h8 a9 h9 hc0 hc1 hc2 x0 x1 x2 x3 x4,
      out0_A_8 c i a1 h1 a2 h2 a3 h3 a4 h4 a5 h5 a6 h6 a7 h7 a8 h8 a9 h9 hc0 hc1 hc2 x0 x1 x2 x3 x4)
      = outs x0 x1 x2 x3 x4 (k0_pay8 (F := Ideal)) (k0_pay10 (F := Ideal)) (k0_pay2 (F := Ideal)) := by
  unfold out0_A_5 out0_A_6 out0_A_7 out0_A_8
  refine Prod.ext ?_ (Prod.ext ?_ (Prod.ext ?_ ?_))
  all_goals dsimp only
  on_goal 1 => rw [View.read_writes_eq_canon _ _ _ (cover0_A_5 c i a1 h1 a2 h2 a3 h3 a4 h4 a5 h5 a6 h6 a7 h7 a8 h8 a9 h9 hc0 hc1 hc2 x0 x1 x2 x3 x4)]
  on_goal 2 => rw [View.read_writes_eq_canon _ _ _ (cover0_A_6 c i a1 h1 a2 h2 a3 h3 a4 h4 a5 h5 a6 h6 a7 h7 a8 h8 a9 h9 hc0 hc1 hc2 x0 x1 x2 x3 x4)]
  on_goal 3 => rw [View.read_writes_eq_canon _ _ _ (cover0_A_7 c i a1 h1 a2 h2 a3 h3 a4 h4 a5 h5 a6 h6 a7 h7 a8 h8 a9 h9 hc0 hc1 hc2 x0 x1 x2 x3 x4)]
  on_goal 4 => rw [View.read_writes_eq_canon _ _ _ (cover0_A_8 c i a1 h1 a2 h2 a3 h3 a4 h4 a5 h5 a6 h6 a7 h7 a8 h8 a9 h9 hc0 hc1 hc2 x0 x1 x2 x3 x4)]
  all_goals
    unfold kernelRun0_A
    dsimp only
    sl_unfold_run_names
    try rw [View.canon_cons_unit_zero (S := S1x2048) hz, View.readCov_unit_zero (S := S1x2048) _ hz]
    simp only [View.canon_unit_zero (S := S256x2048) hz, View.readAt_eq_ld, h1.read_unread, h2.read_unread, h3.read_unread, h4.read_unread, h5.read_unread, h7.read_unread,
      h8.read_unread, h9.read_unread, View.ld_unit_zero (S := S256x2048) hz, View.ld_unit_zero (S := S1x2048) hz]
  all_goals rfl

/-- … and a later one adds to what they hold. -/
theorem caseB (hc0 : ¬cond0_0 i) (hc1 : ¬cond0_1 i) (hc2 : ¬cond0_2 i) :
    (out0_B_5 c i a1 h1 a2 h2 a3 h3 a4 h4 a5 h5 a6 h6 a7 h7 a8 h8 a9 h9 hc0 hc1 hc2 x0 x1 x2 x3 x4 y6 y7 y8,
      out0_B_6 c i a1 h1 a2 h2 a3 h3 a4 h4 a5 h5 a6 h6 a7 h7 a8 h8 a9 h9 hc0 hc1 hc2 x0 x1 x2 x3 x4 y6 y7 y8,
      out0_B_7 c i a1 h1 a2 h2 a3 h3 a4 h4 a5 h5 a6 h6 a7 h7 a8 h8 a9 h9 hc0 hc1 hc2 x0 x1 x2 x3 x4 y6 y7 y8,
      out0_B_8 c i a1 h1 a2 h2 a3 h3 a4 h4 a5 h5 a6 h6 a7 h7 a8 h8 a9 h9 hc0 hc1 hc2 x0 x1 x2 x3 x4 y6 y7 y8)
      = outs x0 x1 x2 x3 x4 y6 y7 y8 := by
  unfold out0_B_5 out0_B_6 out0_B_7 out0_B_8
  refine Prod.ext ?_ (Prod.ext ?_ (Prod.ext ?_ ?_))
  all_goals dsimp only
  on_goal 1 => rw [View.read_writes_eq_canon _ _ _ (cover0_B_5 c i a1 h1 a2 h2 a3 h3 a4 h4 a5 h5 a6 h6 a7 h7 a8 h8 a9 h9 hc0 hc1 hc2 x0 x1 x2 x3 x4 y6 y7 y8)]
  on_goal 2 => rw [View.read_writes_eq_canon _ _ _ (cover0_B_6 c i a1 h1 a2 h2 a3 h3 a4 h4 a5 h5 a6 h6 a7 h7 a8 h8 a9 h9 hc0 hc1 hc2 x0 x1 x2 x3 x4 y6 y7 y8)]
  on_goal 3 => rw [View.read_writes_eq_canon _ _ _ (cover0_B_7 c i a1 h1 a2 h2 a3 h3 a4 h4 a5 h5 a6 h6 a7 h7 a8 h8 a9 h9 hc0 hc1 hc2 x0 x1 x2 x3 x4 y6 y7 y8)]
  on_goal 4 => rw [View.read_writes_eq_canon _ _ _ (cover0_B_8 c i a1 h1 a2 h2 a3 h3 a4 h4 a5 h5 a6 h6 a7 h7 a8 h8 a9 h9 hc0 hc1 hc2 x0 x1 x2 x3 x4 y6 y7 y8)]
  all_goals
    unfold kernelRun0_B
    dsimp only
    sl_unfold_run_names
    try rw [View.canon_unit_zero (S := S1x2048) hz]
    simp only [View.canon_unit_zero (S := S256x2048) hz, View.readAt_eq_ld, h1.read_unread, h2.read_unread, h3.read_unread, h4.read_unread, h5.read_unread, h7.read_unread,
      h8.read_unread, h9.read_unread, View.ld_unit_zero (S := S256x2048) hz, View.ld_unit_zero (S := S1x2048) hz]
  all_goals rfl

end Cases

/-- Where the windows' blocks lie. -/
theorem idx : ∀ t : Fin cfg0.N, t.val < 16 ∧ win0_0.index t = ![t.val, 0] ∧ win0_1.index t = ![t.val, 0] ∧ win0_2.index t = ![t.val, 0] ∧ win0_3.index t = ![0, 0] ∧
    win0_4.index t = ![0, 0] ∧ win0_5.index t = ![t.val, 0] ∧ win0_6.index t = ![0, 0] ∧ win0_7.index t = ![0, 0] ∧ win0_8.index t = ![0, 0] :=
  (by decide +kernel : ∀ t : Fin grid0.N, _)

/-- The argument arrays. -/
abbrev arH (c : Dev nD) : S4096x2048.Idx → EReal := m ((c : Thread nD τ).loc main_arg0)
abbrev arD (c : Dev nD) : S4096x2048.Idx → EReal := m ((c : Thread nD τ).loc main_arg1)
abbrev arM (c : Dev nD) : S4096x2048.Idx → EReal := m ((c : Thread nD τ).loc main_arg2)
abbrev arG (c : Dev nD) : S1x2048.Idx → EReal := m ((c : Thread nD τ).loc main_arg3)
abbrev arS (c : Dev nD) : S1x2048.Idx → EReal := m ((c : Thread nD τ).loc main_arg4)

section Blocks

variable (c : Dev nD) (t : Fin cfg0.N) (r : ℕ) (hr : r < 256)

/-- The three blocks of rows, at an element. -/
theorem w_eq (y : S256x2048.Idx) : iblk m c 0 t y = get2 (arH m c) (256 * t.val + (y 0).val) (y 1).val ∧ iblk m c 1 t y = get2 (arD m c) (256 * t.val + (y 0).val) (y 1).val
    ∧ iblk m c 2 t y = get2 (arM m c) (256 * t.val + (y 0).val) (y 1).val := by
  obtain ⟨ht, e0, e1, e2, -⟩ := idx t
  unfold iblk
  refine ⟨?_, ?_, ?_⟩
  · blk_simp [e0]
    refine get2_eq (arH m c) _ _ _ ?_ ?_ <;> blk_simp [e0] <;> (try simp) <;> omega
  · blk_simp [e1]
    refine get2_eq (arD m c) _ _ _ ?_ ?_ <;> blk_simp [e1] <;> (try simp) <;> omega
  · blk_simp [e2]
    refine get2_eq (arM m c) _ _ _ ?_ ?_ <;> blk_simp [e2] <;> (try simp) <;> omega

/-- The two rows are read whole. -/
theorem rows_eq : iblk m c 3 t = arG m c ∧ iblk m c 4 t = arS m c := by
  obtain ⟨ht, -, -, -, e3, e4, -⟩ := idx t
  unfold iblk
  refine ⟨funext fun y => ?_, funext fun y => ?_⟩
  · blk_simp [e3]
    exact congrArg (arG m c) (funext fun a => by match a with | 0 => exact Fin.ext (by blk_simp [e3]) | 1 => exact Fin.ext (by blk_simp [e3]))
  · blk_simp [e4]
    exact congrArg (arS m c) (funext fun a => by match a with | 0 => exact Fin.ext (by blk_simp [e4]) | 1 => exact Fin.ext (by blk_simp [e4]))

include hr

theorem h_blk (l : ℕ) (hl : l < 2048) : get2 (a := 256) (b := 2048) (iblk m c 0 t) r l = get2 (arH m c) (256 * t.val + r) l :=
  get2_of (iblk m c 0 t) (fun r l => get2 (arH m c) (256 * t.val + r) l) (fun y => (w_eq m c t y).1) hr hl

theorem d_blk (l : ℕ) (hl : l < 2048) : get2 (a := 256) (b := 2048) (iblk m c 1 t) r l = get2 (arD m c) (256 * t.val + r) l :=
  get2_of (iblk m c 1 t) (fun r l => get2 (arD m c) (256 * t.val + r) l) (fun y => (w_eq m c t y).2.1) hr hl

theorem m_blk (l : ℕ) (hl : l < 2048) : get2 (a := 256) (b := 2048) (iblk m c 2 t) r l = get2 (arM m c) (256 * t.val + r) l :=
  get2_of (iblk m c 2 t) (fun r l => get2 (arM m c) (256 * t.val + r) l) (fun y => (w_eq m c t y).2.2) hr hl

end Blocks

/-- What a point leaves: the block it computes, and the sums continued from somewhere. -/
theorem outsAt (c : Dev nD) (t : Fin cfg0.N) : ∃ z0 z1 z2, outsAt0 m c t.val t.isLt
    = outs (iblk m c 0 t) (iblk m c 1 t) (iblk m c 2 t) (iblk m c 3 t) (iblk m c 4 t) z0 z1 z2 := by
  by_cases h : t.val % 16 = 0
  · exact ⟨_, _, _, (outsAt0_A m c t h h h).trans (caseA c _ _ _ _ _ _ _ _ _ _ _ _ _ _ _ _ _ _ _ _ _ _ _ _ _ _ _)⟩
  · exact ⟨_, _, _, (outsAt0_B m c t h h h).trans (caseB c _ _ _ _ _ _ _ _ _ _ _ _ _ _ _ _ _ _ _ _ _ _ _ _ _ _ _ _ _ _)⟩

/-- The three sums after point `t`: all rows up to the end of its block. -/
theorem sums (c : Dev nD) (y : S1x2048.Idx) : ∀ (t : ℕ) (ht : t < cfg0.N),
    (outsAt0 m c t ht).2.1 y = ∑ r ∈ Finset.range (256 * t + 256), get2 (arD m c) r (y 1).val
    ∧ (outsAt0 m c t ht).2.2.1 y = ∑ r ∈ Finset.range (256 * t + 256), dC (arH m c) (arD m c) (arG m c) r (y 1).val
    ∧ (outsAt0 m c t ht).2.2.2 y = ∑ r ∈ Finset.range (256 * t + 256), dW (arH m c) (arD m c) (arS m c) r (y 1).val := by
  have hy : (y 1).val < 2048 := (y 1).isLt
  have step : ∀ (t : Fin cfg0.N) (z0 z1 z2 : Vec Ideal S1x2048 .f32) (w0 w1 w2 : EReal), z0 y = w0 → z1 y = w1 → z2 y = w2 →
      (outs (iblk m c 0 t) (iblk m c 1 t) (iblk m c 2 t) (iblk m c 3 t) (iblk m c 4 t) z0 z1 z2).2.1 y
        = w0 + ∑ r ∈ Finset.range 256, get2 (arD m c) (256 * t.val + r) (y 1).val
      ∧ (outs (iblk m c 0 t) (iblk m c 1 t) (iblk m c 2 t) (iblk m c 3 t) (iblk m c 4 t) z0 z1 z2).2.2.1 y
        = w1 + ∑ r ∈ Finset.range 256, dC (arH m c) (arD m c) (arG m c) (256 * t.val + r) (y 1).val
      ∧ (outs (iblk m c 0 t) (iblk m c 1 t) (iblk m c 2 t) (iblk m c 3 t) (iblk m c 4 t) z0 z1 z2).2.2.2 y
        = w2 + ∑ r ∈ Finset.range 256, dW (arH m c) (arD m c) (arS m c) (256 * t.val + r) (y 1).val := by
    intro t z0 z1 z2 w0 w1 w2 e0 e1 e2
    subst e0 e1 e2
    rw [(rows_eq m c t).1, (rows_eq m c t).2]
    exact ⟨(sumD _ z0 y).trans (congrArg (z0 y + ·) (Finset.sum_congr rfl fun r hr => d_blk m c t r (Finset.mem_range.mp hr) _ hy)),
      (sumC _ _ _ z1 y).trans (congrArg (z1 y + ·) (Finset.sum_congr rfl fun r hr =>
        dC_at (h_blk m c t r (Finset.mem_range.mp hr)) (d_blk m c t r (Finset.mem_range.mp hr)) _ hy)),
      (sumW _ _ _ z2 y).trans (congrArg (z2 y + ·) (Finset.sum_congr rfl fun r hr =>
        dW_at (h_blk m c t r (Finset.mem_range.mp hr)) (d_blk m c t r (Finset.mem_range.mp hr)) _ hy))⟩
  intro t
  induction t with
  | zero =>
    intro ht
    rw [show outsAt0 m c 0 ht = _ from (outsAt0_A m c ⟨0, ht⟩ rfl rfl rfl).trans (caseA c _ _ _ _ _ _ _ _ _ _ _ _ _ _ _ _ _ _ _ _ _ _ _ _ _ _ _)]
    have hz : (FloatOps.ofBits .f32 0x00000000#32 : Ideal .f32) = 0 := Ideal.ofBits_zero_f32
    obtain ⟨s0, s1, s2⟩ := step ⟨0, ht⟩ _ _ _ 0 0 0 (show k0_pay8 (F := Ideal) y = 0 from hz) (show k0_pay10 (F := Ideal) y = 0 from hz) (show k0_pay2 (F := Ideal) y = 0 from hz)
    refine ⟨s0.trans ?_, s1.trans ?_, s2.trans ?_⟩ <;> simp
  | succ t ih =>
    intro ht
    have h : ¬(t + 1) % 16 = 0 := by
      have hN : t + 1 < 16 := ht
      omega
    obtain ⟨i0, i1, i2⟩ := ih (Nat.lt_of_succ_lt ht)
    rw [show outsAt0 m c (t + 1) ht = _ from (outsAt0_B m c ⟨t + 1, ht⟩ h h h).trans (caseB c _ _ _ _ _ _ _ _ _ _ _ _ _ _ _ _ _ _ _ _ _ _ _ _ _ _ _ _ _ _)]
    obtain ⟨s0, s1, s2⟩ := step ⟨t + 1, ht⟩ _ _ _ _ _ _ i0 i1 i2
    refine ⟨s0.trans ?_, s1.trans ?_, s2.trans ?_⟩ <;> (dsimp only; rw [show 256 * (t + 1) = 256 * t + 256 by omega]; exact (Finset.sum_range_add _ _ _).symm)

/-- The four result arrays, of the argument arrays: the input's gradient … -/
theorem final5 (c : Dev nD) : (dats m 0 c).arrAt 5 cfg0.N = fun y : S4096x2048.Idx => dH (arH m c) (arD m c) (arM m c) (arG m c) (arS m c) (y 0).val (y 1).val := by
  refine (dats m 0 c).arrAt_eq_of_covers 5 _ (by decide +kernel) fun t hf y => ?_
  obtain ⟨ht, -, -, -, -, -, e5, -⟩ := idx t
  obtain ⟨z0, z1, z2, hz⟩ := outsAt m c t
  have y0 : (y 0).val < 256 := (y 0).isLt
  blk_simp
  rw [after0_5, hz, (rows_eq m c t).1, (rows_eq m c t).2]
  unfold outs k0_pay4
  dsimp only
  rw [shapeCast_self]
  refine (dH_apply _ _ _ _ _ y).trans ((dH_at (h_blk m c t (y 0).val y0) (d_blk m c t (y 0).val y0) (m_blk m c t (y 0).val y0) (y 1).val (y 1).isLt).trans ?_)
  congr 1 <;> blk_simp [e5] <;> (try simp) <;> omega

/-- … and the three sums, written back at the last point. -/
theorem final6 (c : Dev nD) : (dats m 0 c).arrAt 6 cfg0.N
    = fun y : S1x2048.Idx => ∑ r ∈ Finset.range 4096, get2 (arD m c) r (y 1).val := by
  refine (dats m 0 c).arrAt_eq_of_covers 6 _ (by decide +kernel) fun t hf y => ?_
  have hm : t.val % 16 = 15 := (flush0_6 t).mp hf
  obtain ⟨ht, -, -, -, -, -, -, e, -⟩ := idx t
  blk_simp
  rw [after0_6]
  refine ((sums m c y t.val t.isLt).1).trans ?_
  rw [show 256 * t.val + 256 = 4096 by omega]
  congr 2; funext r; congr 1; blk_simp [e]; try simp

theorem final7 (c : Dev nD) : (dats m 0 c).arrAt 7 cfg0.N
    = fun y : S1x2048.Idx => ∑ r ∈ Finset.range 4096, dC (arH m c) (arD m c) (arG m c) r (y 1).val := by
  refine (dats m 0 c).arrAt_eq_of_covers 7 _ (by decide +kernel) fun t hf y => ?_
  have hm : t.val % 16 = 15 := (flush0_7 t).mp hf
  obtain ⟨ht, -, -, -, -, -, -, -, e, -⟩ := idx t
  blk_simp
  rw [after0_7]
  refine ((sums m c y t.val t.isLt).2.1).trans ?_
  rw [show 256 * t.val + 256 = 4096 by omega]
  congr 2; funext r; congr 1; blk_simp [e]; try simp

theorem final8 (c : Dev nD) : (dats m 0 c).arrAt 8 cfg0.N
    = fun y : S1x2048.Idx => ∑ r ∈ Finset.range 4096, dW (arH m c) (arD m c) (arS m c) r (y 1).val := by
  refine (dats m 0 c).arrAt_eq_of_covers 8 _ (by decide +kernel) fun t hf y => ?_
  have hm : t.val % 16 = 15 := (flush0_8 t).mp hf
  obtain ⟨ht, -, -, -, -, -, -, -, -, e⟩ := idx t
  blk_simp
  rw [after0_8]
  refine ((sums m c y t.val t.isLt).2.2).trans ?_
  rw [show 256 * t.val + 256 = 4096 by omega]
  congr 2; funext r; congr 1; blk_simp [e]; try simp

end Cert.NormXIdeal.Prod

namespace Cert.Products

open Idealize.ShloMosaic Idealize.ShloMosaic.TcCoe Idealize.SL.Sem Cert.NormXRefIdeal.Read Cert.NormXIdeal.Prod
open Cert.NormIdeal.Prod (dC dW dH)

/-- The claim: both programs end with the same four arrays on every device. -/
theorem norm_x : @Cert.algebraic_NormXIdeal_NormXRefIdeal Cert.NormXIdeal.Gen.facts Cert.NormXRefIdeal.Gen.facts := by
  intro m g m' g' _ hargs
  refine ⟨fun c => fun y => dH (arH m c) (arD m c) (arM m c) (arG m c) (arS m c) (y 0).val (y 1).val,
    fun c => fun y => show EReal from ∑ r ∈ Finset.range 4096, get2 (arD m c) r (y 1).val,
    fun c => fun y => show EReal from ∑ r ∈ Finset.range 4096, dC (arH m c) (arD m c) (arG m c) r (y 1).val,
    fun c => fun y => show EReal from ∑ r ∈ Finset.range 4096, dW (arH m c) (arD m c) (arS m c) r (y 1).val, ?_, ?_⟩
  · refine (θ_run _ _ _).mono (fun r h c => ?_) (Cert.NormXIdeal.Value.run_blocks m g)
    obtain ⟨h5, h6, h7, h8, hk⟩ := h c
    exact ⟨h5.trans (final5 m c), h6.trans (final6 m c), h7.trans (final7 m c), h8.trans (final8 m c), hk⟩
  · refine (θ_run _ _ _).mono (fun r h c => ?_) (Cert.NormXRefIdeal.Value.run m' g')
    obtain ⟨h5, h6, h7, h8, hk⟩ := h c
    obtain ⟨e0, e1, e2, e3, e4⟩ := hargs c
    refine ⟨(h5.trans (val_main_v49_eq _ _)).trans ?_, (h6.trans (val_main_v24_eq _)).trans ?_, (h7.trans (val_main_v27_eq _ _ _)).trans ?_,
      (h8.trans (val_main_v32_eq _ _ _)).trans ?_, hk⟩
    · rw [e0, e1, e2, e3, e4]
      exact funext fun y => dH_ref _ _ _ _ _ y
    · rw [e1]
      exact funext fun y => sumD_ref _ y
    · rw [e0, e1, e3]
      exact funext fun y => sumC_ref _ _ _ y
    · rw [e0, e1, e4]
      exact funext fun y => sumW_ref _ _ _ y

end Cert.Products
end
-- ==== Proof.GatesFwd.lean ====
/-
  The gates merging the two branches, 256 rows a point: each branch plus its bias, the second one scaled, times its gate,
  added. The gates are those of the backward pass it imports.
-/
module

public import proofs.«01_k».proof.Proof.Gates
public import proofs.«01_k».proof.Proof.Gen.GatesFwdIdeal.Value
public import proofs.«01_k».proof.Proof.Gen.GatesFwdRefIdeal.Run
public import proofs.«01_k».proof.Proof.Gen.GatesFwdRefIdeal.Read

@[expose] public section

set_option maxRecDepth 16384

noncomputable section

namespace Cert.GatesFwdIdeal.Prod

open Cert.GatesFwdIdeal Cert.GatesFwdIdeal.Gen Cert.Products Idealize.ShloMosaic Idealize.ShloMosaic.TcCoe Idealize.SL.Sem
open Cert.GatesIdeal.Prod (hz gate gA_apply gB_apply)

variable (m : (ℓ : Loc nD τ sig) → Buf (Elt Ideal) ℓ)

/-- The merged branches at a row and a column. -/
def merged {b : ℕ} (P : (⟨3, ![4, b, 1792]⟩ : Shape).Idx → EReal) (Y Z : (⟨2, ![b, 2048]⟩ : Shape).Idx → EReal) (A B L : (⟨2, ![1, 2048]⟩ : Shape).Idx → EReal) (r l : ℕ) : EReal :=
  gate P 3072 r l * (get2 Y r l + get2 A 0 l) + gate P 5120 r l * ((get2 Z r l + get2 B 0 l) * get2 L 0 l)

/-- A point's block. -/
theorem merged_apply (x0 : Vec Ideal S4x256x1792 .bf16) (x1 x2 : Vec Ideal S256x2048 .bf16) (x3 x4 x5 : Vec Ideal S1x2048 .f32) (y : S256x2048.Idx) :
    out0_6 x0 x1 x2 x3 x4 x5 y = merged x0 x1 x2 x3 x4 x5 (y 0).val (y 1).val := by
  unfold out0_6
  rw [View.canon_unit_zero (S := S256x2048) hz]
  simp only [View.ld_unit_zero (S := S256x2048) hz, View.ld_unit_zero (S := S1x2048) hz]
  unfold k0_pay1
  rw [shapeCast_self]
  exact congrArg₂ (· + ·) (congrArg₂ (· * ·) (gA_apply x0 y) (congrArg₂ (· + ·) (get2_eq x1 y _ _ rfl rfl) (row_apply x3 _ y)))
    (congrArg₂ (· * ·) (gB_apply x0 y) (congrArg₂ (· * ·) (congrArg₂ (· + ·) (get2_eq x2 y _ _ rfl rfl) (row_apply x4 _ y)) (row_apply x5 _ y)))

/-- Where the windows' blocks lie. -/
theorem idx : ∀ t : Fin cfg0.N, t.val < 16 ∧ win0_0.index t = ![0, t.val, 0] ∧ win0_1.index t = ![t.val, 0] ∧ win0_2.index t = ![t.val, 0] ∧ win0_3.index t = ![0, 0] ∧
    win0_4.index t = ![0, 0] ∧ win0_5.index t = ![0, 0] ∧ win0_6.index t = ![t.val, 0] :=
  (by decide +kernel : ∀ t : Fin grid0.N, _)

/-- The argument arrays. -/
abbrev arP (c : Dev nD) : S4x4096x1792.Idx → EReal := m ((c : Thread nD τ).loc main_arg0)
abbrev arY (c : Dev nD) : S4096x2048.Idx → EReal := m ((c : Thread nD τ).loc main_arg1)
abbrev arZ (c : Dev nD) : S4096x2048.Idx → EReal := m ((c : Thread nD τ).loc main_arg2)
abbrev arA (c : Dev nD) : S1x2048.Idx → EReal := m ((c : Thread nD τ).loc main_arg3)
abbrev arB (c : Dev nD) : S1x2048.Idx → EReal := m ((c : Thread nD τ).loc main_arg4)
abbrev arL (c : Dev nD) : S1x2048.Idx → EReal := m ((c : Thread nD τ).loc main_arg5)

section Blocks

variable (c : Dev nD) (t : Fin cfg0.N)

/-- The three blocks of rows, at an element; the three rows are read whole. -/
theorem p_eq (y : S4x256x1792.Idx) : iblk m c 0 t y = get3 (arP m c) (y 0).val (256 * t.val + (y 1).val) (y 2).val := by
  obtain ⟨ht, e0, -⟩ := idx t
  unfold iblk
  blk_simp [e0]
  refine get3_eq (arP m c) _ _ _ _ ?_ ?_ ?_ <;> blk_simp [e0] <;> (try simp) <;> omega

theorem w_eq (y : S256x2048.Idx) : iblk m c 1 t y = get2 (arY m c) (256 * t.val + (y 0).val) (y 1).val
    ∧ iblk m c 2 t y = get2 (arZ m c) (256 * t.val + (y 0).val) (y 1).val := by
  obtain ⟨ht, -, e1, e2, -⟩ := idx t
  unfold iblk
  constructor
  · blk_simp [e1]
    refine get2_eq (arY m c) _ _ _ ?_ ?_ <;> blk_simp [e1] <;> (try simp) <;> omega
  · blk_simp [e2]
    refine get2_eq (arZ m c) _ _ _ ?_ ?_ <;> blk_simp [e2] <;> (try simp) <;> omega

theorem rows_eq : iblk m c 3 t = arA m c ∧ iblk m c 4 t = arB m c ∧ iblk m c 5 t = arL m c := by
  obtain ⟨ht, -, -, -, e3, e4, e5, -⟩ := idx t
  unfold iblk
  refine ⟨funext fun y => ?_, funext fun y => ?_, funext fun y => ?_⟩
  · blk_simp [e3]
    exact congrArg (arA m c) (funext fun a => by match a with | 0 => exact Fin.ext (by blk_simp [e3]) | 1 => exact Fin.ext (by blk_simp [e3]))
  · blk_simp [e4]
    exact congrArg (arB m c) (funext fun a => by match a with | 0 => exact Fin.ext (by blk_simp [e4]) | 1 => exact Fin.ext (by blk_simp [e4]))
  · blk_simp [e5]
    exact congrArg (arL m c) (funext fun a => by match a with | 0 => exact Fin.ext (by blk_simp [e5]) | 1 => exact Fin.ext (by blk_simp [e5]))

theorem merged_blk (r l : ℕ) (hr : r < 256) (hl : l < 2048) :
    merged (b := 256) (iblk m c 0 t) (iblk m c 1 t) (iblk m c 2 t) (iblk m c 3 t) (iblk m c 4 t) (iblk m c 5 t) r l
      = merged (arP m c) (arY m c) (arZ m c) (arA m c) (arB m c) (arL m c) (256 * t.val + r) l := by
  have hg : ∀ o ≤ 5120, gate (b := 256) (iblk m c 0 t) o r l = gate (arP m c) o (256 * t.val + r) l := fun o ho =>
    congrArg Cert.KernelIdeal.Mix.sg (get3_of (iblk m c 0 t) (fun p r l => get3 (arP m c) p (256 * t.val + r) l) (p_eq m c t) (by omega) hr (by omega))
  obtain ⟨e3, e4, e5⟩ := rows_eq m c t
  unfold merged
  rw [e3, e4, e5, hg 3072 (by omega), hg 5120 (by omega), get2_of (iblk m c 1 t) (fun r l => get2 (arY m c) (256 * t.val + r) l) (fun y => (w_eq m c t y).1) hr hl,
    get2_of (iblk m c 2 t) (fun r l => get2 (arZ m c) (256 * t.val + r) l) (fun y => (w_eq m c t y).2) hr hl]

end Blocks

/-- The result array, of the argument arrays. -/
theorem final6 (c : Dev nD) : (dats m 0 c).arrAt 6 cfg0.N
    = fun y : S4096x2048.Idx => merged (arP m c) (arY m c) (arZ m c) (arA m c) (arB m c) (arL m c) (y 0).val (y 1).val := by
  refine (dats m 0 c).arrAt_eq_of_covers 6 _ (by decide +kernel) fun t hf y => ?_
  obtain ⟨ht, -, -, -, -, -, -, e6⟩ := idx t
  have y0 : (y 0).val < 256 := (y 0).isLt
  blk_simp
  rw [after0_6]
  refine (merged_apply _ _ _ _ _ _ y).trans ((merged_blk m c t (y 0).val (y 1).val y0 (y 1).isLt).trans ?_)
  congr 1 <;> blk_simp [e6] <;> (try simp) <;> omega

end Cert.GatesFwdIdeal.Prod

namespace Cert.Products

open Idealize.ShloMosaic Idealize.ShloMosaic.TcCoe Idealize.SL.Sem Cert.GatesFwdRefIdeal.Read Cert.GatesFwdIdeal.Prod

/-- The reference's value, at an element. -/
theorem merged_ref (P : (⟨3, ![4, 4096, 1792]⟩ : Shape).Idx → EReal) (Y Z : (⟨2, ![4096, 2048]⟩ : Shape).Idx → EReal) (A B L : (⟨2, ![1, 2048]⟩ : Shape).Idx → EReal)
    (y : (⟨2, ![4096, 2048]⟩ : Shape).Idx) : val_main_v30 (F := Ideal) P Y Z A B L y = merged P Y Z A B L (y 0).val (y 1).val := by
  rw [val_main_v30_apply, val_main_v29_apply, val_main_v23_apply, val_main_v28_apply, val_main_v22_apply, val_main_v27_apply, val_main_v25_apply, val_main_v21_apply,
    val_main_v24_apply, val_main_v26_apply]
  exact congrArg₂ (· + ·) (congrArg₂ (· * ·) (gateA_ref P y) (congrArg₂ (· + ·) (get2_eq Y y _ _ rfl rfl) (get2_eq A _ _ _ rfl rfl)))
    (congrArg₂ (· * ·) (gateB_ref P y) (congrArg₂ (· * ·) (congrArg₂ (· + ·) (get2_eq Z y _ _ rfl rfl) (get2_eq B _ _ _ rfl rfl)) (get2_eq L _ _ _ rfl rfl)))

/-- The claim: both programs end with the same array on every device. -/
theorem gates_fwd : @Cert.algebraic_GatesFwdIdeal_GatesFwdRefIdeal Cert.GatesFwdIdeal.Gen.facts Cert.GatesFwdRefIdeal.Gen.facts := by
  intro m g m' g' _ hargs
  refine ⟨fun c => fun y => merged (arP m c) (arY m c) (arZ m c) (arA m c) (arB m c) (arL m c) (y 0).val (y 1).val, ?_, ?_⟩
  · refine (θ_run _ _ _).mono (fun r h c => ?_) (Cert.GatesFwdIdeal.Value.run_blocks m g)
    obtain ⟨h6, hk⟩ := h c
    exact ⟨h6.trans (final6 m c), hk⟩
  · refine (θ_run _ _ _).mono (fun r h c => ?_) (Cert.GatesFwdRefIdeal.Value.run m' g')
    obtain ⟨h6, hk⟩ := h c
    obtain ⟨e0, e1, e2, e3, e4, e5⟩ := hargs c
    refine ⟨(h6.trans (val_main_v30_eq _ _ _ _ _ _)).trans ?_, hk⟩
    rw [e0, e1, e2, e3, e4, e5]
    exact funext fun y => merged_ref _ _ _ _ _ _ y

end Cert.Products
end
-- ==== Proof.NormMod.lean ====
/-
  The first norm with its modulation, 256 rows a point: what the array holds at the end is the plain normalised row times
  the weight, scaled by one plus the scale and shifted. The normalised row is that of the backward pass it imports.
-/
module

public import proofs.«01_k».proof.Proof.Norm
public import proofs.«01_k».proof.Proof.Gen.NormModIdeal.Value
public import proofs.«01_k».proof.Proof.Gen.NormModRefIdeal.Run
public import proofs.«01_k».proof.Proof.Gen.NormModRefIdeal.Read

@[expose] public section

set_option maxRecDepth 16384

noncomputable section

namespace Cert.NormModIdeal.Prod

open Cert.NormModIdeal Cert.NormModIdeal.Gen Cert.Products Idealize.ShloMosaic Idealize.ShloMosaic.TcCoe Idealize.SL.Sem
open Cert.NormIdeal.Prod (hz word xh xh_at xh_apply)

variable (m : (ℓ : Loc nD τ sig) → Buf (Elt Ideal) ℓ)

section Elements

variable {b n : ℕ} (H : (⟨2, ![b, 2048]⟩ : Shape).Idx → EReal) {H' : (⟨2, ![n, 2048]⟩ : Shape).Idx → EReal} (G S B : (⟨2, ![1, 2048]⟩ : Shape).Idx → EReal)

/-- The modulated normalised row. -/
def modded (r l : ℕ) : EReal := xh H r l * get2 G 0 l * (word 0x3F800000#32 + get2 S 0 l) + get2 B 0 l

theorem modded_at {r R : ℕ} (hH : ∀ l < 2048, get2 H r l = get2 H' R l) (l : ℕ) (hl : l < 2048) : modded H G S B r l = modded H' G S B R l :=
  congrArg (· * get2 G 0 l * _ + _) (xh_at hH l hl)

end Elements

/-- A point's block. -/
theorem modded_apply (x0 : Vec Ideal S256x2048 .f32) (x1 x2 x3 : Vec Ideal S1x2048 .f32) (y : S256x2048.Idx) :
    k0_pay1 x0 x1 x2 x3 y = modded x0 x1 x2 x3 (y 0).val (y 1).val := by
  unfold k0_pay1
  rw [shapeCast_self]
  exact congrArg₂ (· + ·) (congrArg₂ (· * ·) (congrArg₂ (· * ·) (xh_apply x0 y) (row_apply x1 _ y)) ((row_apply _ _ y).trans
    (get2_of (a := 1) (b := 2048) _ (fun r l => word 0x3F800000#32 + get2 x2 r l) (fun j => congrArg (_ + ·) (get2_eq x2 j _ _ rfl rfl)) Nat.one_pos (y 1).isLt))) (row_apply x3 _ y)

/-- Where the windows' blocks lie. -/
theorem idx : ∀ t : Fin cfg0.N, t.val < 16 ∧ win0_0.index t = ![t.val, 0] ∧ win0_1.index t = ![0, 0] ∧ win0_2.index t = ![0, 0] ∧ win0_3.index t = ![0, 0] ∧
    win0_4.index t = ![t.val, 0] :=
  (by decide +kernel : ∀ t : Fin grid0.N, _)

/-- The argument arrays. -/
abbrev arH (c : Dev nD) : S4096x2048.Idx → EReal := m ((c : Thread nD τ).loc main_arg0)
abbrev arG (c : Dev nD) : S1x2048.Idx → EReal := m ((c : Thread nD τ).loc main_arg1)
abbrev arS (c : Dev nD) : S1x2048.Idx → EReal := m ((c : Thread nD τ).loc main_arg2)
abbrev arB (c : Dev nD) : S1x2048.Idx → EReal := m ((c : Thread nD τ).loc main_arg3)

section Blocks

variable (c : Dev nD) (t : Fin cfg0.N)

/-- The block of rows, at an element; the three rows are read whole. -/
theorem h_blk (r : ℕ) (hr : r < 256) (l : ℕ) (hl : l < 2048) : get2 (a := 256) (b := 2048) (iblk m c 0 t) r l = get2 (arH m c) (256 * t.val + r) l := by
  refine get2_of (iblk m c 0 t) (fun r l => get2 (arH m c) (256 * t.val + r) l) (fun y => ?_) hr hl
  obtain ⟨ht, e0, -⟩ := idx t
  unfold iblk
  blk_simp [e0]
  refine get2_eq (arH m c) _ _ _ ?_ ?_ <;> blk_simp [e0] <;> (try simp) <;> omega

theorem rows_eq : iblk m c 1 t = arG m c ∧ iblk m c 2 t = arS m c ∧ iblk m c 3 t = arB m c := by
  obtain ⟨ht, -, e1, e2, e3, -⟩ := idx t
  unfold iblk
  refine ⟨funext fun y => ?_, funext fun y => ?_, funext fun y => ?_⟩
  · blk_simp [e1]
    exact congrArg (arG m c) (funext fun a => by match a with | 0 => exact Fin.ext (by blk_simp [e1]) | 1 => exact Fin.ext (by blk_simp [e1]))
  · blk_simp [e2]
    exact congrArg (arS m c) (funext fun a => by match a with | 0 => exact Fin.ext (by blk_simp [e2]) | 1 => exact Fin.ext (by blk_simp [e2]))
  · blk_simp [e3]
    exact congrArg (arB m c) (funext fun a => by match a with | 0 => exact Fin.ext (by blk_simp [e3]) | 1 => exact Fin.ext (by blk_simp [e3]))

end Blocks

/-- The result array, of the argument arrays. -/
theorem final4 (c : Dev nD) : (dats m 0 c).arrAt 4 cfg0.N = fun y : S4096x2048.Idx => modded (arH m c) (arG m c) (arS m c) (arB m c) (y 0).val (y 1).val := by
  refine (dats m 0 c).arrAt_eq_of_covers 4 _ (by decide +kernel) fun t hf y => ?_
  obtain ⟨ht, -, -, -, -, e4⟩ := idx t
  have y0 : (y 0).val < 256 := (y 0).isLt
  blk_simp
  rw [after0_4, (rows_eq m c t).1, (rows_eq m c t).2.1, (rows_eq m c t).2.2]
  unfold out0_4 r0_0 r0_1
  rw [View.canon_unit_zero (S := S256x2048) hz]
  simp only [View.ld_unit_zero (S := S256x2048) hz, View.ld_unit_zero (S := S1x2048) hz]
  refine (modded_apply _ _ _ _ y).trans ((modded_at _ _ _ _ (h_blk m c t (y 0).val y0) (y 1).val (y 1).isLt).trans ?_)
  congr 1 <;> blk_simp [e4] <;> (try simp) <;> omega

end Cert.NormModIdeal.Prod

namespace Cert.Products

open Idealize.ShloMosaic Idealize.ShloMosaic.TcCoe Idealize.SL.Sem Cert.NormModRefIdeal.Read Cert.NormModIdeal.Prod

/-- The reference's value, at an element. -/
theorem modded_ref (H : (⟨2, ![4096, 2048]⟩ : Shape).Idx → EReal) (G S B : (⟨2, ![1, 2048]⟩ : Shape).Idx → EReal) (y : (⟨2, ![4096, 2048]⟩ : Shape).Idx) :
    val_main_v18 (F := Ideal) H G S B y = modded H G S B (y 0).val (y 1).val := by
  rw [val_main_v18_apply, val_main_v17_apply, val_main_v15_apply, val_main_v11_apply, val_main_v14_apply, val_main_v10_apply, val_main_v16_apply, val_main_v13_apply]
  exact congrArg₂ (· + ·) (congrArg₂ (· * ·) (congrArg₂ (· * ·) (xh_ref H y) (get2_eq G _ _ _ rfl rfl)) (congrArg (_ + ·) (get2_eq S _ _ _ rfl rfl))) (get2_eq B _ _ _ rfl rfl)

/-- The claim: both programs end with the same array on every device. -/
theorem norm_mod : @Cert.algebraic_NormModIdeal_NormModRefIdeal Cert.NormModIdeal.Gen.facts Cert.NormModRefIdeal.Gen.facts := by
  intro m g m' g' _ hargs
  refine ⟨fun c => fun y => modded (arH m c) (arG m c) (arS m c) (arB m c) (y 0).val (y 1).val, ?_, ?_⟩
  · refine (θ_run _ _ _).mono (fun r h c => ?_) (Cert.NormModIdeal.Value.run_blocks m g)
    obtain ⟨h4, hk⟩ := h c
    exact ⟨h4.trans (final4 m c), hk⟩
  · refine (θ_run _ _ _).mono (fun r h c => ?_) (Cert.NormModRefIdeal.Value.run m' g')
    obtain ⟨h4, hk⟩ := h c
    obtain ⟨e0, e1, e2, e3⟩ := hargs c
    refine ⟨(h4.trans (val_main_v18_eq _ _ _ _)).trans ?_, hk⟩
    rw [e0, e1, e2, e3]
    exact funext fun y => modded_ref _ _ _ _ y

end Cert.Products
end
-- ==== Proof.ResNorm.lean ====
/-
  The residual before the mixer and the norm that follows it, 256 rows a point: the stream plus half the gate times the
  first feed-forward's output, and that sum normalised and modulated as the first norm does, by its lemmas.
-/
module

public import proofs.«01_k».proof.Proof.NormMod
public import proofs.«01_k».proof.Proof.Gen.ResNormIdeal.Value
public import proofs.«01_k».proof.Proof.Gen.ResNormRefIdeal.Run
public import proofs.«01_k».proof.Proof.Gen.ResNormRefIdeal.Read

@[expose] public section

set_option maxRecDepth 16384

noncomputable section

namespace Cert.ResNormIdeal.Prod

open Cert.ResNormIdeal Cert.ResNormIdeal.Gen Cert.Products Idealize.ShloMosaic Idealize.ShloMosaic.TcCoe Idealize.SL.Sem
open Cert.NormIdeal.Prod (hz word)
open Cert.NormModIdeal.Prod (modded modded_at modded_apply)

variable (m : (ℓ : Loc nD τ sig) → Buf (Elt Ideal) ℓ)

/-- The stream after the residual, as an array of the stream, the feed-forward's output and the gate. -/
def res {b : ℕ} (H X : (⟨2, ![b, 2048]⟩ : Shape).Idx → EReal) (L : (⟨2, ![1, 2048]⟩ : Shape).Idx → EReal) : (⟨2, ![b, 2048]⟩ : Shape).Idx → EReal :=
  fun y => get2 H (y 0).val (y 1).val + word 0x3F000000#32 * get2 L 0 (y 1).val * get2 X (y 0).val (y 1).val

theorem res_at {b : ℕ} (H X : (⟨2, ![b, 2048]⟩ : Shape).Idx → EReal) (L : (⟨2, ![1, 2048]⟩ : Shape).Idx → EReal) {r l : ℕ} (hr : r < b) (hl : l < 2048) :
    get2 (a := b) (b := 2048) (res H X L) r l = get2 H r l + word 0x3F000000#32 * get2 L 0 l * get2 X r l :=
  get2_of (a := b) (b := 2048) _ (fun r l => get2 H r l + word 0x3F000000#32 * get2 L 0 l * get2 X r l) (fun _ => rfl) hr hl

/-- A point's block of it. -/
theorem res_eq (x0 x1 : Vec Ideal S256x2048 .f32) (x2 : Vec Ideal S1x2048 .f32) : k0_pay1 x0 x2 x1 = res x0 x1 x2 :=
  funext fun y => congrArg₂ (· + ·) (get2_eq x0 y _ _ rfl rfl) (congrArg₂ (· * ·) ((row_apply _ _ y).trans
    (get2_of (a := 1) (b := 2048) _ (fun r l => word 0x3F000000#32 * get2 x2 r l) (fun j => congrArg (_ * ·) (get2_eq x2 j _ _ rfl rfl)) Nat.one_pos (y 1).isLt))
    (get2_eq x1 y _ _ rfl rfl))

/-- Where the windows' blocks lie. -/
theorem idx : ∀ t : Fin cfg0.N, t.val < 16 ∧ win0_0.index t = ![t.val, 0] ∧ win0_1.index t = ![t.val, 0] ∧ win0_2.index t = ![0, 0] ∧ win0_3.index t = ![0, 0] ∧
    win0_4.index t = ![0, 0] ∧ win0_5.index t = ![0, 0] ∧ win0_6.index t = ![t.val, 0] ∧ win0_7.index t = ![t.val, 0] :=
  (by decide +kernel : ∀ t : Fin grid0.N, _)

/-- The argument arrays. -/
abbrev arH (c : Dev nD) : S4096x2048.Idx → EReal := m ((c : Thread nD τ).loc main_arg0)
abbrev arX (c : Dev nD) : S4096x2048.Idx → EReal := m ((c : Thread nD τ).loc main_arg1)
abbrev arL (c : Dev nD) : S1x2048.Idx → EReal := m ((c : Thread nD τ).loc main_arg2)
abbrev arG (c : Dev nD) : S1x2048.Idx → EReal := m ((c : Thread nD τ).loc main_arg3)
abbrev arS (c : Dev nD) : S1x2048.Idx → EReal := m ((c : Thread nD τ).loc main_arg4)
abbrev arB (c : Dev nD) : S1x2048.Idx → EReal := m ((c : Thread nD τ).loc main_arg5)

section Blocks

variable (c : Dev nD) (t : Fin cfg0.N)

/-- The four rows are read whole. -/
theorem rows_eq : iblk m c 2 t = arL m c ∧ iblk m c 3 t = arG m c ∧ iblk m c 4 t = arS m c ∧ iblk m c 5 t = arB m c := by
  obtain ⟨ht, -, -, e2, e3, e4, e5, -⟩ := idx t
  unfold iblk
  refine ⟨funext fun y => ?_, funext fun y => ?_, funext fun y => ?_, funext fun y => ?_⟩
  · blk_simp [e2]
    exact congrArg (arL m c) (funext fun a => by match a with | 0 => exact Fin.ext (by blk_simp [e2]) | 1 => exact Fin.ext (by blk_simp [e2]))
  · blk_simp [e3]
    exact congrArg (arG m c) (funext fun a => by match a with | 0 => exact Fin.ext (by blk_simp [e3]) | 1 => exact Fin.ext (by blk_simp [e3]))
  · blk_simp [e4]
    exact congrArg (arS m c) (funext fun a => by match a with | 0 => exact Fin.ext (by blk_simp [e4]) | 1 => exact Fin.ext (by blk_simp [e4]))
  · blk_simp [e5]
    exact congrArg (arB m c) (funext fun a => by match a with | 0 => exact Fin.ext (by blk_simp [e5]) | 1 => exact Fin.ext (by blk_simp [e5]))

/-- The two blocks of rows, at an element, and what the residual makes of them. -/
theorem w_eq (y : S256x2048.Idx) : iblk m c 0 t y = get2 (arH m c) (256 * t.val + (y 0).val) (y 1).val
    ∧ iblk m c 1 t y = get2 (arX m c) (256 * t.val + (y 0).val) (y 1).val := by
  obtain ⟨ht, e0, e1, -⟩ := idx t
  unfold iblk
  constructor
  · blk_simp [e0]
    refine get2_eq (arH m c) _ _ _ ?_ ?_ <;> blk_simp [e0] <;> (try simp) <;> omega
  · blk_simp [e1]
    refine get2_eq (arX m c) _ _ _ ?_ ?_ <;> blk_simp [e1] <;> (try simp) <;> omega

theorem res_blk (r : ℕ) (hr : r < 256) (l : ℕ) (hl : l < 2048) :
    get2 (a := 256) (b := 2048) (res (b := 256) (iblk m c 0 t) (iblk m c 1 t) (arL m c)) r l = get2 (res (arH m c) (arX m c) (arL m c)) (256 * t.val + r) l := by
  have hR : 256 * t.val + r < 4096 := by
    have := (idx t).1
    omega
  rw [res_at _ _ _ hr hl, res_at _ _ _ hR hl,
    get2_of (iblk m c 0 t) (fun r l => get2 (arH m c) (256 * t.val + r) l) (fun y => (w_eq m c t y).1) hr hl,
    get2_of (iblk m c 1 t) (fun r l => get2 (arX m c) (256 * t.val + r) l) (fun y => (w_eq m c t y).2) hr hl]

end Blocks

/-- The two result arrays, of the argument arrays. -/
theorem final6 (c : Dev nD) : (dats m 0 c).arrAt 6 cfg0.N = res (arH m c) (arX m c) (arL m c) := by
  refine (dats m 0 c).arrAt_eq_of_covers 6 _ (by decide +kernel) fun t hf y => ?_
  obtain ⟨ht, -, -, -, -, -, -, e6, -⟩ := idx t
  have y0 : (y 0).val < 256 := (y 0).isLt
  blk_simp
  rw [after0_6, (rows_eq m c t).1]
  unfold out0_6 r0_0 r0_1 k0_pay2
  rw [View.canon_unit_zero (S := S256x2048) hz, shapeCast_self]
  simp only [View.ld_unit_zero (S := S256x2048) hz, View.ld_unit_zero (S := S1x2048) hz]
  rw [res_eq]
  refine (get2_eq (a := 256) (b := 2048) _ y _ _ rfl rfl).trans ((res_blk m c t (y 0).val y0 (y 1).val (y 1).isLt).trans (get2_eq _ _ _ _ ?_ ?_).symm) <;>
    blk_simp [e6] <;> (try simp) <;> omega

theorem final7 (c : Dev nD) : (dats m 0 c).arrAt 7 cfg0.N
    = fun y : S4096x2048.Idx => modded (res (arH m c) (arX m c) (arL m c)) (arG m c) (arS m c) (arB m c) (y 0).val (y 1).val := by
  refine (dats m 0 c).arrAt_eq_of_covers 7 _ (by decide +kernel) fun t hf y => ?_
  obtain ⟨ht, -, -, -, -, -, -, -, e7⟩ := idx t
  have y0 : (y 0).val < 256 := (y 0).isLt
  blk_simp
  rw [after0_7, (rows_eq m c t).1, (rows_eq m c t).2.1, (rows_eq m c t).2.2.1, (rows_eq m c t).2.2.2]
  unfold out0_7 r0_0 r0_1
  rw [View.canon_unit_zero (S := S256x2048) hz]
  simp only [View.ld_unit_zero (S := S256x2048) hz, View.ld_unit_zero (S := S1x2048) hz]
  refine (modded_apply (k0_pay1 (iblk m c 0 t) (arL m c) (iblk m c 1 t)) _ _ _ y).trans ?_
  rw [res_eq]
  refine (modded_at _ _ _ _ (res_blk m c t (y 0).val y0) (y 1).val (y 1).isLt).trans ?_
  congr 1 <;> blk_simp [e7] <;> (try simp) <;> omega

end Cert.ResNormIdeal.Prod

namespace Cert.Products

open Idealize.ShloMosaic Idealize.ShloMosaic.TcCoe Idealize.SL.Sem Cert.ResNormRefIdeal.Read Cert.ResNormIdeal.Prod
open Cert.NormModIdeal.Prod (modded)

/-- The reference's residual, as an array. -/
theorem res_ref (H X : (⟨2, ![4096, 2048]⟩ : Shape).Idx → EReal) (L : (⟨2, ![1, 2048]⟩ : Shape).Idx → EReal) : val_main_v4 (F := Ideal) H X L = res H X L := by
  funext y
  rw [val_main_v4_apply, val_main_v3_apply, val_main_v2_apply, val_main_v1_apply]
  exact congrArg₂ (· + ·) (get2_eq H y _ _ rfl rfl) (congrArg₂ (· * ·) (congrArg (_ * ·) (get2_eq L _ _ _ rfl rfl)) (get2_eq X y _ _ rfl rfl))

/-- The claim: both programs end with the same two arrays on every device. -/
theorem res_norm : @Cert.algebraic_ResNormIdeal_ResNormRefIdeal Cert.ResNormIdeal.Gen.facts Cert.ResNormRefIdeal.Gen.facts := by
  intro m g m' g' _ hargs
  refine ⟨fun c => res (arH m c) (arX m c) (arL m c),
    fun c => fun y => modded (res (arH m c) (arX m c) (arL m c)) (arG m c) (arS m c) (arB m c) (y 0).val (y 1).val, ?_, ?_⟩
  · refine (θ_run _ _ _).mono (fun r h c => ?_) (Cert.ResNormIdeal.Value.run_blocks m g)
    obtain ⟨h6, h7, hk⟩ := h c
    exact ⟨h6.trans (final6 m c), h7.trans (final7 m c), hk⟩
  · refine (θ_run _ _ _).mono (fun r h c => ?_) (Cert.ResNormRefIdeal.Value.run m' g')
    obtain ⟨h6, h7, hk⟩ := h c
    obtain ⟨e0, e1, e2, e3, e4, e5⟩ := hargs c
    refine ⟨(h6.trans (val_main_v4_eq _ _ _)).trans ?_, (h7.trans (val_main_v23_eq _ _ _ _ _ _)).trans ?_, hk⟩
    · rw [e0, e1, e2]
      exact res_ref _ _ _
    · rw [e0, e1, e2, e3, e4, e5]
      exact funext fun y => (modded_ref (val_main_v4 (F := Ideal) _ _ _) _ _ _ y).trans (by rw [res_ref])

end Cert.Products
end
-- ==== Proof.FinalLoss.lean ====
/-
  The last residual with the final norm, the loss, and their backward pass, 256 rows a point: the gradients of the
  stream and of the feed-forward's output block by block, and the gradients of the norm's weight and of the residual's
  gate, with the loss a column, added up over the points. The normalised row and the residual are those of the modules it
  imports, and so is the lemma on a normalised row's gradient; what is new is the loss with its constants.
-/
module

public import proofs.«01_k».proof.Proof.ResNorm
public import proofs.«01_k».proof.Proof.Gen.FinalLossIdeal.Value
public import proofs.«01_k».proof.Proof.Gen.FinalLossRefIdeal.Run
public import proofs.«01_k».proof.Proof.Gen.FinalLossRefIdeal.Read

@[expose] public section

set_option maxRecDepth 16384

noncomputable section

namespace Cert.FinalLossIdeal.Prod

open Cert.FinalLossIdeal Cert.FinalLossIdeal.Gen Cert.Products Idealize.ShloMosaic Idealize.ShloMosaic.TcCoe Idealize.SL.Sem
open Cert.NormIdeal.Prod (hz word ms inv xh inv_at xh_at invs_apply xh_apply add_rows)
open Cert.ResNormIdeal.Prod (res res_at res_eq)

variable (m : (ℓ : Loc nD τ sig) → Buf (Elt Ideal) ℓ)

section Elements

variable {b : ℕ} (H X T : (⟨2, ![b, 2048]⟩ : Shape).Idx → EReal) (L G : (⟨2, ![1, 2048]⟩ : Shape).Idx → EReal)

/-- The error of the weighted normalised row, its gradient, and the gradient at the normalised row. -/
def fe (r l : ℕ) : EReal := xh H r l * get2 G 0 l - get2 T r l

def fy (r l : ℕ) : EReal := fe H T G r l * word 0x3A000000#32

def fx (r l : ℕ) : EReal := fy H T G r l * get2 G 0 l

/-- What a row adds to the loss, and to the weight's gradient. -/
def fE (r l : ℕ) : EReal := word 0x39800000#32 * (fe H T G r l * fe H T G r l)

def fW (r l : ℕ) : EReal := fy H T G r l * xh H r l

/-- The gradient of the stream, and, through the residual's gate, of the feed-forward's output; what a row adds to the gate's. -/
def fH (r l : ℕ) : EReal :=
  inv H r * (fx H T G r l - xh H r l * Ideal.div (∑ k ∈ Finset.range 2048, fx H T G r k * xh H r k) (word 0x45000000#32))

def fF (r l : ℕ) : EReal := word 0x3F000000#32 * get2 L 0 l * fH H T G r l

def fL (r l : ℕ) : EReal := word 0x3F000000#32 * (fH H T G r l * get2 X r l)

end Elements

section At

variable {b n : ℕ} {h x τ : (⟨2, ![b, 2048]⟩ : Shape).Idx → EReal} {H X T : (⟨2, ![n, 2048]⟩ : Shape).Idx → EReal} {L G : (⟨2, ![1, 2048]⟩ : Shape).Idx → EReal} {r R : ℕ}
  (hH : ∀ l < 2048, get2 h r l = get2 H R l) (hT : ∀ l < 2048, get2 τ r l = get2 T R l) (hX : ∀ l < 2048, get2 x r l = get2 X R l) (l : ℕ) (hl : l < 2048)

include hH hT hl in
/-- The values of a row depend on the row alone: a block's row and the array's have the same. -/
theorem fe_at : fe h τ G r l = fe H T G R l := congrArg₂ (· - ·) (congrArg (· * _) (xh_at hH l hl)) (hT l hl)

include hH hT hl in
theorem fy_at : fy h τ G r l = fy H T G R l := congrArg (· * _) (fe_at hH hT l hl)

include hH hT hl in
theorem fx_at : fx h τ G r l = fx H T G R l := congrArg (· * _) (fy_at hH hT l hl)

include hH hT hl in
theorem fE_at : fE h τ G r l = fE H T G R l := congrArg (_ * ·) (congrArg₂ (· * ·) (fe_at hH hT l hl) (fe_at hH hT l hl))

include hH hT hl in
theorem fW_at : fW h τ G r l = fW H T G R l := congrArg₂ (· * ·) (fy_at hH hT l hl) (xh_at hH l hl)

include hH hT hl in
theorem fH_at : fH h τ G r l = fH H T G R l :=
  congrArg₂ (· * ·) (inv_at hH) (congrArg₂ (· - ·) (fx_at hH hT l hl) (congrArg₂ (· * ·) (xh_at hH l hl) (congrArg (Ideal.div · _)
    (Finset.sum_congr rfl fun k hk => congrArg₂ (· * ·) (fx_at hH hT k (Finset.mem_range.mp hk)) (xh_at hH k (Finset.mem_range.mp hk))))))

include hH hT hl in
theorem fF_at : fF h τ L G r l = fF H T L G R l := congrArg (_ * ·) (fH_at hH hT l hl)

include hH hT hX hl in
theorem fL_at : fL h x τ G r l = fL H X T G R l := congrArg (_ * ·) (congrArg₂ (· * ·) (fH_at hH hT l hl) (hX l hl))

end At

section Body

variable (x0 x1 x2 : Vec Ideal S256x2048 .f32) (x3 x4 : Vec Ideal S1x2048 .f32)

/-- What a point computes, of its blocks of the stream, the feed-forward's output and the target, and of the two rows. -/
theorem hn_eq : k0_pay4 x1 x3 x0 = res x0 x1 x3 := res_eq x0 x1 x3

theorem inv_app (y : S256x2048.Idx) : broadcastTo S256x2048 (k0_pay5 (F := Ideal) x1 x3 x0) broadcasts_S256x1_S256x2048 y = inv (res x0 x1 x3) (y 0).val :=
  (invs_apply (k0_pay4 x1 x3 x0) y).trans (by rw [hn_eq])

theorem xh_app (y : S256x2048.Idx) : k0_pay6 x1 x3 x0 y = xh (res x0 x1 x3) (y 0).val (y 1).val :=
  (xh_apply (k0_pay4 x1 x3 x0) y).trans (by rw [hn_eq])

theorem fe_app (y : S256x2048.Idx) : k0_pay7 x1 x3 x0 x4 x2 y = fe (res x0 x1 x3) x2 x4 (y 0).val (y 1).val :=
  congrArg₂ (· - ·) (congrArg₂ (· * ·) (xh_app x0 x1 x3 y) (row_apply x4 _ y)) (get2_eq x2 y _ _ rfl rfl)

theorem fx_app (y : S256x2048.Idx) :
    mulf (k0_pay10 (k0_pay7 x1 x3 x0 x4 x2)) (broadcastTo S256x2048 x4 broadcasts_S1x2048_S256x2048) y = fx (res x0 x1 x3) x2 x4 (y 0).val (y 1).val :=
  congrArg₂ (· * ·) (congrArg (· * _) (fe_app x0 x1 x2 x3 x4 y)) (row_apply x4 _ y)

theorem fH_app (y : S256x2048.Idx) :
    k0_pay13 (k0_pay5 x1 x3 x0) (k0_pay6 x1 x3 x0) (k0_pay7 x1 x3 x0 x4 x2) x4 y = fH (res x0 x1 x3) x2 x4 (y 0).val (y 1).val := by
  unfold k0_pay13 fH
  refine congrArg₂ (· * ·) (inv_app x0 x1 x3 y) (congrArg₂ (· - ·) (fx_app x0 x1 x2 x3 x4 y)
    (congrArg₂ (· * ·) (xh_app x0 x1 x3 y) ((col_apply _ _ y).trans (get2_of (b := 1) _
      (fun r _ => Ideal.div (∑ k ∈ Finset.range 2048, fx (res x0 x1 x3) x2 x4 r k * xh (res x0 x1 x3) r k) (word 0x45000000#32)) (fun j => ?_) (y 0).isLt Nat.one_pos))))
  exact congrArg (Ideal.div · _) ((cols_sum _ _ _ _ _ _ j).trans (Finset.sum_congr rfl fun k hk =>
    get2_of _ (fun r k => fx (res x0 x1 x3) x2 x4 r k * xh (res x0 x1 x3) r k)
      (fun i => congrArg₂ (· * ·) (fx_app x0 x1 x2 x3 x4 i) (xh_app x0 x1 x3 i)) (j 0).isLt (Finset.mem_range.mp hk)))

theorem fF_app (y : S256x2048.Idx) :
    k0_pay2 (k0_pay3 x3) (k0_pay13 (k0_pay5 x1 x3 x0) (k0_pay6 x1 x3 x0) (k0_pay7 x1 x3 x0 x4 x2) x4) y = fF (res x0 x1 x3) x2 x3 x4 (y 0).val (y 1).val := by
  unfold k0_pay2
  rw [shapeCast_self]
  exact congrArg₂ (· * ·) ((row_apply _ _ y).trans
    (get2_of (a := 1) (b := 2048) _ (fun r l => word 0x3F000000#32 * get2 x3 r l) (fun j => congrArg (_ * ·) (get2_eq x3 j _ _ rfl rfl)) Nat.one_pos (y 1).isLt))
    (fH_app x0 x1 x2 x3 x4 y)

/-- What a point leaves in the five outputs' buffers, of the blocks it reads and of what the three sums held before. -/
def outs (z0 z1 z2 : Vec Ideal S1x2048 .f32) : Vec Ideal S256x2048 .f32 × Vec Ideal S256x2048 .bf16 × Vec Ideal S1x2048 .f32 × Vec Ideal S1x2048 .f32 × Vec Ideal S1x2048 .f32 :=
  (k0_pay14 (k0_pay5 x1 x3 x0) (k0_pay6 x1 x3 x0) (k0_pay7 x1 x3 x0 x4 x2) x4,
    k0_pay2 (k0_pay3 x3) (k0_pay13 (k0_pay5 x1 x3 x0) (k0_pay6 x1 x3 x0) (k0_pay7 x1 x3 x0 x4 x2) x4),
    k0_pay12 (k0_pay6 x1 x3 x0) (k0_pay7 x1 x3 x0 x4 x2) z0,
    k0_pay1 (k0_pay15 x1 (k0_pay5 x1 x3 x0) (k0_pay6 x1 x3 x0) (k0_pay7 x1 x3 x0 x4 x2) x4) (k0_pay17 z1),
    k0_pay9 x1 x3 x0 x4 x2 z2)

theorem sumW (z : Vec Ideal S1x2048 .f32) (y : S1x2048.Idx) :
    k0_pay12 (k0_pay6 x1 x3 x0) (k0_pay7 x1 x3 x0 x4 x2) z y = z y + ∑ r ∈ Finset.range 256, fW (res x0 x1 x3) x2 x4 r (y 1).val :=
  add_rows _ (fW (res x0 x1 x3) x2 x4) (fun j => congrArg₂ (· * ·) (congrArg (· * _) (fe_app x0 x1 x2 x3 x4 j)) (xh_app x0 x1 x3 j)) z y

theorem sumL (z : Vec Ideal S1x2048 .f32) (y : S1x2048.Idx) :
    k0_pay1 (k0_pay15 x1 (k0_pay5 x1 x3 x0) (k0_pay6 x1 x3 x0) (k0_pay7 x1 x3 x0 x4 x2) x4) (k0_pay17 z) y
      = z y + ∑ r ∈ Finset.range 256, fL (res x0 x1 x3) x1 x2 x4 r (y 1).val :=
  add_rows _ (fL (res x0 x1 x3) x1 x2 x4) (fun j => congrArg (_ * ·) (congrArg₂ (· * ·) (fH_app x0 x1 x2 x3 x4 j) (get2_eq x1 j _ _ rfl rfl))) z y

theorem sumE (z : Vec Ideal S1x2048 .f32) (y : S1x2048.Idx) :
    k0_pay9 x1 x3 x0 x4 x2 z y = z y + ∑ r ∈ Finset.range 256, fE (res x0 x1 x3) x2 x4 r (y 1).val :=
  add_rows _ (fE (res x0 x1 x3) x2 x4) (fun j => congrArg (_ * ·) (congrArg₂ (· * ·) (fe_app x0 x1 x2 x3 x4 j) (fe_app x0 x1 x2 x3 x4 j))) z y

end Body

section Cases

variable (c : Dev nD) (i : grid0.Coords) (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S1x2048 .f32) (h4 : a4.IsWhole) (a5 : Memref sig .tc .vmem S1x2048 .f32) (h5 : a5.IsWhole)
  (a6 : Memref sig .tc .vmem S256x2048 .f32) (h6 : a6.IsWhole) (a7 : Memref sig .tc .vmem S256x2048 .bf16) (h7 : a7.IsWhole) (a8 : Memref sig .tc .vmem S1x2048 .f32) (h8 : a8.IsWhole)
  (a9 : Memref sig .tc .vmem S1x2048 .f32) (h9 : a9.IsWhole) (a10 : Memref sig .tc .vmem S1x2048 .f32) (h10 : a10.IsWhole)
  (x0 x1 x2 : Vec Ideal S256x2048 .f32) (x3 x4 : Vec Ideal S1x2048 .f32) (y7 y8 y9 : Vec Ideal S1x2048 .f32)

/-- The first point starts the three sums from zero … -/
theorem caseA (hc0 : cond0_0 i) (hc1 : cond0_1 i) (hc2 : cond0_2 i) :
    (out0_A_5 c i a1 h1 a2 h2 a3 h3 a4 h4 a5 h5 a6 h6 a7 h7 a8 h8 a9 h9 a10 h10 hc0 hc1 hc2 x0 x1 x2 x3 x4,
      out0_A_6 c i a1 h1 a2 h2 a3 h3 a4 h4 a5 h5 a6 h6 a7 h7 a8 h8 a9 h9 a10 h10 hc0 hc1 hc2 x0 x1 x2 x3 x4,
      out0_A_7 c i a1 h1 a2 h2 a3 h3 a4 h4 a5 h5 a6 h6 a7 h7 a8 h8 a9 h9 a10 h10 hc0 hc1 hc2 x0 x1 x2 x3 x4,
      out0_A_8 c i a1 h1 a2 h2 a3 h3 a4 h4 a5 h5 a6 h6 a7 h7 a8 h8 a9 h9 a10 h10 hc0 hc1 hc2 x0 x1 x2 x3 x4,
      out0_A_9 c i a1 h1 a2 h2 a3 h3 a4 h4 a5 h5 a6 h6 a7 h7 a8 h8 a9 h9 a10 h10 hc0 hc1 hc2 x0 x1 x2 x3 x4)
      = outs x0 x1 x2 x3 x4 (k0_pay11 (F := Ideal)) (k0_pay16 (F := Ideal)) (k0_pay8 (F := Ideal)) := by
  unfold out0_A_5 out0_A_6 out0_A_7 out0_A_8 out0_A_9
  refine Prod.ext ?_ (Prod.ext ?_ (Prod.ext ?_ (Prod.ext ?_ ?_)))
  all_goals dsimp only
  on_goal 1 => rw [View.read_writes_eq_canon _ _ _ (cover0_A_5 c i a1 h1 a2 h2 a3 h3 a4 h4 a5 h5 a6 h6 a7 h7 a8 h8 a9 h9 a10 h10 hc0 hc1 hc2 x0 x1 x2 x3 x4)]
  on_goal 2 => rw [View.read_writes_eq_canon _ _ _ (cover0_A_6 c i a1 h1 a2 h2 a3 h3 a4 h4 a5 h5 a6 h6 a7 h7 a8 h8 a9 h9 a10 h10 hc0 hc1 hc2 x0 x1 x2 x3 x4)]
  on_goal 3 => rw [View.read_writes_eq_canon _ _ _ (cover0_A_7 c i a1 h1 a2 h2 a3 h3 a4 h4 a5 h5 a6 h6 a7 h7 a8 h8 a9 h9 a10 h10 hc0 hc1 hc2 x0 x1 x2 x3 x4)]
  on_goal 4 => rw [View.read_writes_eq_canon _ _ _ (cover0_A_8 c i a1 h1 a2 h2 a3 h3 a4 h4 a5 h5 a6 h6 a7 h7 a8 h8 a9 h9 a10 h10 hc0 hc1 hc2 x0 x1 x2 x3 x4)]
  on_goal 5 => rw [View.read_writes_eq_canon _ _ _ (cover0_A_9 c i a1 h1 a2 h2 a3 h3 a4 h4 a5 h5 a6 h6 a7 h7 a8 h8 a9 h9 a10 h10 hc0 hc1 hc2 x0 x1 x2 x3 x4)]
  all_goals
    unfold kernelRun0_A
    dsimp only
    sl_unfold_run_names
    try rw [View.canon_cons_unit_zero (S := S1x2048) hz, View.readCov_unit_zero (S := S1x2048) _ hz]
    simp only [View.canon_unit_zero (S := S256x2048) hz, View.readAt_eq_ld, h1.read_unread, h2.read_unread, h3.read_unread, h4.read_unread, h5.read_unread,
      h8.read_unread, h9.read_unread, h10.read_unread, View.ld_unit_zero (S := S256x2048) hz, View.ld_unit_zero (S := S1x2048) hz]
  all_goals rfl

/-- … and a later one adds to what they hold. -/
theorem caseB (hc0 : ¬cond0_0 i) (hc1 : ¬cond0_1 i) (hc2 : ¬cond0_2 i) :
    (out0_B_5 c i a1 h1 a2 h2 a3 h3 a4 h4 a5 h5 a6 h6 a7 h7 a8 h8 a9 h9 a10 h10 hc0 hc1 hc2 x0 x1 x2 x3 x4 y7 y8 y9,
      out0_B_6 c i a1 h1 a2 h2 a3 h3 a4 h4 a5 h5 a6 h6 a7 h7 a8 h8 a9 h9 a10 h10 hc0 hc1 hc2 x0 x1 x2 x3 x4 y7 y8 y9,
      out0_B_7 c i a1 h1 a2 h2 a3 h3 a4 h4 a5 h5 a6 h6 a7 h7 a8 h8 a9 h9 a10 h10 hc0 hc1 hc2 x0 x1 x2 x3 x4 y7 y8 y9,
      out0_B_8 c i a1 h1 a2 h2 a3 h3 a4 h4 a5 h5 a6 h6 a7 h7 a8 h8 a9 h9 a10 h10 hc0 hc1 hc2 x0 x1 x2 x3 x4 y7 y8 y9,
      out0_B_9 c i a1 h1 a2 h2 a3 h3 a4 h4 a5 h5 a6 h6 a7 h7 a8 h8 a9 h9 a10 h10 hc0 hc1 hc2 x0 x1 x2 x3 x4 y7 y8 y9)
      = outs x0 x1 x2 x3 x4 y7 y8 y9 := by
  unfold out0_B_5 out0_B_6 out0_B_7 out0_B_8 out0_B_9
  refine Prod.ext ?_ (Prod.ext ?_ (Prod.ext ?_ (Prod.ext ?_ ?_)))
  all_goals dsimp only
  on_goal 1 => rw [View.read_writes_eq_canon _ _ _ (cover0_B_5 c i a1 h1 a2 h2 a3 h3 a4 h4 a5 h5 a6 h6 a7 h7 a8 h8 a9 h9 a10 h10 hc0 hc1 hc2 x0 x1 x2 x3 x4 y7 y8 y9)]
  on_goal 2 => rw [View.read_writes_eq_canon _ _ _ (cover0_B_6 c i a1 h1 a2 h2 a3 h3 a4 h4 a5 h5 a6 h6 a7 h7 a8 h8 a9 h9 a10 h10 hc0 hc1 hc2 x0 x1 x2 x3 x4 y7 y8 y9)]
  on_goal 3 => rw [View.read_writes_eq_canon _ _ _ (cover0_B_7 c i a1 h1 a2 h2 a3 h3 a4 h4 a5 h5 a6 h6 a7 h7 a8 h8 a9 h9 a10 h10 hc0 hc1 hc2 x0 x1 x2 x3 x4 y7 y8 y9)]
  on_goal 4 => rw [View.read_writes_eq_canon _ _ _ (cover0_B_8 c i a1 h1 a2 h2 a3 h3 a4 h4 a5 h5 a6 h6 a7 h7 a8 h8 a9 h9 a10 h10 hc0 hc1 hc2 x0 x1 x2 x3 x4 y7 y8 y9)]
  on_goal 5 => rw [View.read_writes_eq_canon _ _ _ (cover0_B_9 c i a1 h1 a2 h2 a3 h3 a4 h4 a5 h5 a6 h6 a7 h7 a8 h8 a9 h9 a10 h10 hc0 hc1 hc2 x0 x1 x2 x3 x4 y7 y8 y9)]
  all_goals
    unfold kernelRun0_B
    dsimp only
    sl_unfold_run_names
    try rw [View.canon_unit_zero (S := S1x2048) hz]
    simp only [View.canon_unit_zero (S := S256x2048) hz, View.readAt_eq_ld, h1.read_unread, h2.read_unread, h3.read_unread, h4.read_unread, h5.read_unread,
      h8.read_unread, h9.read_unread, h10.read_unread, View.ld_unit_zero (S := S256x2048) hz, View.ld_unit_zero (S := S1x2048) hz]
  all_goals rfl

end Cases

/-- Where the windows' blocks lie. -/
theorem idx : ∀ t : Fin cfg0.N, t.val < 16 ∧ win0_0.index t = ![t.val, 0] ∧ win0_1.index t = ![t.val, 0] ∧ win0_2.index t = ![t.val, 0] ∧ win0_3.index t = ![0, 0] ∧
    win0_4.index t = ![0, 0] ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

/-- The argument arrays, and the stream after the residual. -/
abbrev arH (c : Dev nD) : S4096x2048.Idx → EReal := m ((c : Thread nD τ).loc main_arg0)
abbrev arX (c : Dev nD) : S4096x2048.Idx → EReal := m ((c : Thread nD τ).loc main_arg1)
abbrev arT (c : Dev nD) : S4096x2048.Idx → EReal := m ((c : Thread nD τ).loc main_arg2)
abbrev arL (c : Dev nD) : S1x2048.Idx → EReal := m ((c : Thread nD τ).loc main_arg3)
abbrev arG (c : Dev nD) : S1x2048.Idx → EReal := m ((c : Thread nD τ).loc main_arg4)
abbrev arN (c : Dev nD) : S4096x2048.Idx → EReal := res (arH m c) (arX m c) (arL m c)

section Blocks

variable (c : Dev nD) (t : Fin cfg0.N) (r : ℕ) (hr : r < 256)

/-- The three blocks of rows, at an element. -/
theorem w_eq (y : S256x2048.Idx) : iblk m c 0 t y = get2 (arH m c) (256 * t.val + (y 0).val) (y 1).val ∧ iblk m c 1 t y = get2 (arX m c) (256 * t.val + (y 0).val) (y 1).val
    ∧ iblk m c 2 t y = get2 (arT m c) (256 * t.val + (y 0).val) (y 1).val := by
  obtain ⟨ht, e0, e1, e2, -⟩ := idx t
  unfold iblk
  refine ⟨?_, ?_, ?_⟩
  · blk_simp [e0]
    refine get2_eq (arH m c) _ _ _ ?_ ?_ <;> blk_simp [e0] <;> (try simp) <;> omega
  · blk_simp [e1]
    refine get2_eq (arX m c) _ _ _ ?_ ?_ <;> blk_simp [e1] <;> (try simp) <;> omega
  · blk_simp [e2]
    refine get2_eq (arT m c) _ _ _ ?_ ?_ <;> blk_simp [e2] <;> (try simp) <;> omega

/-- The two rows are read whole. -/
theorem rows_eq : iblk m c 3 t = arL m c ∧ iblk m c 4 t = arG m c := by
  obtain ⟨ht, -, -, -, e3, e4, -⟩ := idx t
  unfold iblk
  refine ⟨funext fun y => ?_, funext fun y => ?_⟩
  · blk_simp [e3]
    exact congrArg (arL m c) (funext fun a => by match a with | 0 => exact Fin.ext (by blk_simp [e3]) | 1 => exact Fin.ext (by blk_simp [e3]))
  · blk_simp [e4]
    exact congrArg (arG m c) (funext fun a => by match a with | 0 => exact Fin.ext (by blk_simp [e4]) | 1 => exact Fin.ext (by blk_simp [e4]))

include hr

theorem x_blk (l : ℕ) (hl : l < 2048) : get2 (a := 256) (b := 2048) (iblk m c 1 t) r l = get2 (arX m c) (256 * t.val + r) l :=
  get2_of (iblk m c 1 t) (fun r l => get2 (arX m c) (256 * t.val + r) l) (fun y => (w_eq m c t y).2.1) hr hl

theorem t_blk (l : ℕ) (hl : l < 2048) : get2 (a := 256) (b := 2048) (iblk m c 2 t) r l = get2 (arT m c) (256 * t.val + r) l :=
  get2_of (iblk m c 2 t) (fun r l => get2 (arT m c) (256 * t.val + r) l) (fun y => (w_eq m c t y).2.2) hr hl

theorem h_blk (l : ℕ) (hl : l < 2048) :
    get2 (a := 256) (b := 2048) (res (b := 256) (iblk m c 0 t) (iblk m c 1 t) (arL m c)) r l = get2 (arN m c) (256 * t.val + r) l := by
  have hR : 256 * t.val + r < 4096 := by
    have := (idx t).1
    omega
  rw [res_at _ _ _ hr hl, res_at _ _ _ hR hl, x_blk m c t r hr l hl,
    get2_of (iblk m c 0 t) (fun r l => get2 (arH m c) (256 * t.val + r) l) (fun y => (w_eq m c t y).1) hr hl]

end Blocks

/-- What a point leaves: the blocks it computes, and the sums continued from somewhere. -/
theorem outsAt (c : Dev nD) (t : Fin cfg0.N) : ∃ z0 z1 z2, outsAt0 m c t.val t.isLt
    = outs (iblk m c 0 t) (iblk m c 1 t) (iblk m c 2 t) (iblk m c 3 t) (iblk m c 4 t) z0 z1 z2 := by
  by_cases h : t.val % 16 = 0
  · exact ⟨_, _, _, (outsAt0_A m c t h h h).trans (caseA c _ _ _ _ _ _ _ _ _ _ _ _ _ _ _ _ _ _ _ _ _ _ _ _ _ _ _ _ _)⟩
  · exact ⟨_, _, _, (outsAt0_B m c t h h h).trans (caseB c _ _ _ _ _ _ _ _ _ _ _ _ _ _ _ _ _ _ _ _ _ _ _ _ _ _ _ _ _ _ _ _)⟩

/-- The three sums after point `t`: all rows up to the end of its block. -/
theorem sums (c : Dev nD) (y : S1x2048.Idx) : ∀ (t : ℕ) (ht : t < cfg0.N),
    (outsAt0 m c t ht).2.2.1 y = ∑ r ∈ Finset.range (256 * t + 256), fW (arN m c) (arT m c) (arG m c) r (y 1).val
    ∧ (outsAt0 m c t ht).2.2.2.1 y = ∑ r ∈ Finset.range (256 * t + 256), fL (arN m c) (arX m c) (arT m c) (arG m c) r (y 1).val
    ∧ (outsAt0 m c t ht).2.2.2.2 y = ∑ r ∈ Finset.range (256 * t + 256), fE (arN m c) (arT m c) (arG m c) r (y 1).val := by
  have hy : (y 1).val < 2048 := (y 1).isLt
  have step : ∀ (t : Fin cfg0.N) (z0 z1 z2 : Vec Ideal S1x2048 .f32) (w0 w1 w2 : EReal), z0 y = w0 → z1 y = w1 → z2 y = w2 →
      (outs (iblk m c 0 t) (iblk m c 1 t) (iblk m c 2 t) (iblk m c 3 t) (iblk m c 4 t) z0 z1 z2).2.2.1 y
        = w0 + ∑ r ∈ Finset.range 256, fW (arN m c) (arT m c) (arG m c) (256 * t.val + r) (y 1).val
      ∧ (outs (iblk m c 0 t) (iblk m c 1 t) (iblk m c 2 t) (iblk m c 3 t) (iblk m c 4 t) z0 z1 z2).2.2.2.1 y
        = w1 + ∑ r ∈ Finset.range 256, fL (arN m c) (arX m c) (arT m c) (arG m c) (256 * t.val + r) (y 1).val
      ∧ (outs (iblk m c 0 t) (iblk m c 1 t) (iblk m c 2 t) (iblk m c 3 t) (iblk m c 4 t) z0 z1 z2).2.2.2.2 y
        = w2 + ∑ r ∈ Finset.range 256, fE (arN m c) (arT m c) (arG m c) (256 * t.val + r) (y 1).val := by
    intro t z0 z1 z2 w0 w1 w2 e0 e1 e2
    subst e0 e1 e2
    rw [(rows_eq m c t).1, (rows_eq m c t).2]
    exact ⟨(sumW _ _ _ _ _ z0 y).trans (congrArg (z0 y + ·) (Finset.sum_congr rfl fun r hr =>
        fW_at (h_blk m c t r (Finset.mem_range.mp hr)) (t_blk m c t r (Finset.mem_range.mp hr)) _ hy)),
      (sumL _ _ _ _ _ z1 y).trans (congrArg (z1 y + ·) (Finset.sum_congr rfl fun r hr =>
        fL_at (h_blk m c t r (Finset.mem_range.mp hr)) (t_blk m c t r (Finset.mem_range.mp hr)) (x_blk m c t r (Finset.mem_range.mp hr)) _ hy)),
      (sumE _ _ _ _ _ z2 y).trans (congrArg (z2 y + ·) (Finset.sum_congr rfl fun r hr =>
        fE_at (h_blk m c t r (Finset.mem_range.mp hr)) (t_blk m c t r (Finset.mem_range.mp hr)) _ hy))⟩
  intro t
  induction t with
  | zero =>
    intro ht
    rw [show outsAt0 m c 0 ht = _ from (outsAt0_A m c ⟨0, ht⟩ rfl rfl rfl).trans (caseA c _ _ _ _ _ _ _ _ _ _ _ _ _ _ _ _ _ _ _ _ _ _ _ _ _ _ _ _ _)]
    have hz : (FloatOps.ofBits .f32 0x00000000#32 : Ideal .f32) = 0 := Ideal.ofBits_zero_f32
    obtain ⟨s0, s1, s2⟩ := step ⟨0, ht⟩ _ _ _ 0 0 0 (show k0_pay11 (F := Ideal) y = 0 from hz) (show k0_pay16 (F := Ideal) y = 0 from hz) (show k0_pay8 (F := Ideal) y = 0 from hz)
    refine ⟨s0.trans ?_, s1.trans ?_, s2.trans ?_⟩ <;> simp
  | succ t ih =>
    intro ht
    have h : ¬(t + 1) % 16 = 0 := by
      have hN : t + 1 < 16 := ht
      omega
    obtain ⟨i0, i1, i2⟩ := ih (Nat.lt_of_succ_lt ht)
    rw [show outsAt0 m c (t + 1) ht = _ from (outsAt0_B m c ⟨t + 1, ht⟩ h h h).trans (caseB c _ _ _ _ _ _ _ _ _ _ _ _ _ _ _ _ _ _ _ _ _ _ _ _ _ _ _ _ _ _ _ _)]
    obtain ⟨s0, s1, s2⟩ := step ⟨t + 1, ht⟩ _ _ _ _ _ _ i0 i1 i2
    refine ⟨s0.trans ?_, s1.trans ?_, s2.trans ?_⟩ <;> (dsimp only; rw [show 256 * (t + 1) = 256 * t + 256 by omega]; exact (Finset.sum_range_add _ _ _).symm)

/-- The five result arrays, of the argument arrays: the two gradients … -/
theorem final5 (c : Dev nD) : (dats m 0 c).arrAt 5 cfg0.N = fun y : S4096x2048.Idx => fH (arN m c) (arT m c) (arG m c) (y 0).val (y 1).val := by
  refine (dats m 0 c).arrAt_eq_of_covers 5 _ (by decide +kernel) fun t hf y => ?_
  obtain ⟨ht, -, -, -, -, -, e, -⟩ := idx t
  obtain ⟨z0, z1, z2, hz⟩ := outsAt m c t
  have y0 : (y 0).val < 256 := (y 0).isLt
  blk_simp
  rw [after0_5, hz, (rows_eq m c t).1, (rows_eq m c t).2]
  unfold outs k0_pay14
  dsimp only
  rw [shapeCast_self]
  refine (fH_app _ _ _ _ _ y).trans ((fH_at (h_blk m c t (y 0).val y0) (t_blk m c t (y 0).val y0) (y 1).val (y 1).isLt).trans ?_)
  congr 1 <;> blk_simp [e] <;> (try simp) <;> omega

theorem final6 (c : Dev nD) : (dats m 0 c).arrAt 6 cfg0.N = fun y : S4096x2048.Idx => fF (arN m c) (arT m c) (arL m c) (arG m c) (y 0).val (y 1).val := by
  refine (dats m 0 c).arrAt_eq_of_covers 6 _ (by decide +kernel) fun t hf y => ?_
  obtain ⟨ht, -, -, -, -, -, -, e, -⟩ := idx t
  obtain ⟨z0, z1, z2, hz⟩ := outsAt m c t
  have y0 : (y 0).val < 256 := (y 0).isLt
  blk_simp
  rw [after0_6, hz, (rows_eq m c t).1, (rows_eq m c t).2]
  unfold outs
  dsimp only
  refine (fF_app _ _ _ _ _ y).trans ((fF_at (h_blk m c t (y 0).val y0) (t_blk m c t (y 0).val y0) (y 1).val (y 1).isLt).trans ?_)
  congr 1 <;> blk_simp [e] <;> (try simp) <;> omega

/-- … and the three sums, written back at the last point. -/
theorem final7 (c : Dev nD) : (dats m 0 c).arrAt 7 cfg0.N = fun y : S1x2048.Idx => ∑ r ∈ Finset.range 4096, fW (arN m c) (arT m c) (arG m c) r (y 1).val := by
  refine (dats m 0 c).arrAt_eq_of_covers 7 _ (by decide +kernel) fun t hf y => ?_
  have hm : t.val % 16 = 15 := (flush0_7 t).mp hf
  obtain ⟨ht, -, -, -, -, -, -, -, e, -⟩ := idx t
  blk_simp
  rw [after0_7]
  refine ((sums m c y t.val t.isLt).1).trans ?_
  rw [show 256 * t.val + 256 = 4096 by omega]
  congr 2; funext r; congr 1; blk_simp [e]; try simp

theorem final8 (c : Dev nD) : (dats m 0 c).arrAt 8 cfg0.N
    = fun y : S1x2048.Idx => ∑ r ∈ Finset.range 4096, fL (arN m c) (arX m c) (arT m c) (arG m c) r (y 1).val := by
  refine (dats m 0 c).arrAt_eq_of_covers 8 _ (by decide +kernel) fun t hf y => ?_
  have hm : t.val % 16 = 15 := (flush0_8 t).mp hf
  obtain ⟨ht, -, -, -, -, -, -, -, -, e, -⟩ := idx t
  blk_simp
  rw [after0_8]
  refine ((sums m c y t.val t.isLt).2.1).trans ?_
  rw [show 256 * t.val + 256 = 4096 by omega]
  congr 2; funext r; congr 1; blk_simp [e]; try simp

theorem final9 (c : Dev nD) : (dats m 0 c).arrAt 9 cfg0.N = fun y : S1x2048.Idx => ∑ r ∈ Finset.range 4096, fE (arN m c) (arT m c) (arG m c) r (y 1).val := by
  refine (dats m 0 c).arrAt_eq_of_covers 9 _ (by decide +kernel) fun t hf y => ?_
  have hm : t.val % 16 = 15 := (flush0_9 t).mp hf
  obtain ⟨ht, -, -, -, -, -, -, -, -, -, e⟩ := idx t
  blk_simp
  rw [after0_9]
  refine ((sums m c y t.val t.isLt).2.2).trans ?_
  rw [show 256 * t.val + 256 = 4096 by omega]
  congr 2; funext r; congr 1; blk_simp [e]; try simp

end Cert.FinalLossIdeal.Prod

namespace Cert.Products

open Idealize.ShloMosaic Idealize.ShloMosaic.TcCoe Idealize.SL.Sem Cert.FinalLossRefIdeal.Read Cert.FinalLossIdeal.Prod
open Cert.NormIdeal.Prod (word ms inv xh)
open Cert.ResNormIdeal.Prod (res)

section Ref

variable (H X T : (⟨2, ![4096, 2048]⟩ : Shape).Idx → EReal) (L G : (⟨2, ![1, 2048]⟩ : Shape).Idx → EReal)

/-- The loss's constants: one, two, the kernel's two, and a quotient by the row's length as a product. -/
theorem word_one : word 0x3F800000#32 = ((1 : ℝ) : EReal) := by simp [word, Ideal.ofBits, Ideal.ieee, -EReal.coe_mul]; norm_num
theorem word_two : word 0x40000000#32 = ((2 : ℝ) : EReal) := by simp [word, Ideal.ofBits, Ideal.ieee, -EReal.coe_mul]; norm_num
theorem word_grad : word 0x3A000000#32 = (((2048 : ℝ)⁻¹ : ℝ) : EReal) := by simp [word, Ideal.ofBits, Ideal.ieee, -EReal.coe_mul]; norm_num
theorem word_loss : word 0x39800000#32 = (((2048 : ℝ)⁻¹ * (1 / 2) : ℝ) : EReal) := by simp [word, Ideal.ofBits, Ideal.ieee, -EReal.coe_mul]; norm_num

theorem div_2048 (x : EReal) : Ideal.div x (word 0x45000000#32) = x * (((2048 : ℝ)⁻¹ : ℝ) : EReal) := by
  have h : ((2048 : ℝ) : EReal) ≠ 0 := by norm_cast
  rw [word_2048, Ideal.div, if_neg h, ← EReal.coe_inv]

/-- The reference's values, at an element: the normalised row of the residual, … -/
theorem hn_ref : val_main_v4 (F := Ideal) H X L = res H X L := res_ref H X L

theorem fms_ref (y : (⟨2, ![4096, 1]⟩ : Shape).Idx) : val_main_v11 (F := Ideal) H X L y = ms (res H X L) (y 0).val :=
  (ms_ref (val_main_v4 (F := Ideal) H X L) y).trans (by rw [hn_ref])

theorem finv_ref (y : (⟨2, ![4096, 1]⟩ : Shape).Idx) : val_main_v12 (F := Ideal) H X L y = inv (res H X L) (y 0).val :=
  (inv_ref (val_main_v4 (F := Ideal) H X L) y).trans (by rw [hn_ref])

theorem fxh_ref (y : (⟨2, ![4096, 2048]⟩ : Shape).Idx) : val_main_v17 (F := Ideal) H X L y = xh (res H X L) (y 0).val (y 1).val :=
  (xh_ref (val_main_v4 (F := Ideal) H X L) y).trans (by rw [hn_ref])

/-- … the error and its gradient, … -/
theorem fe_ref (y : (⟨2, ![4096, 2048]⟩ : Shape).Idx) : val_main_v20 (F := Ideal) H X T L G y = fe (res H X L) T G (y 0).val (y 1).val := by
  rw [val_main_v20_apply, val_main_v19_apply, fxh_ref, val_main_v18_apply]
  exact congrArg₂ (· - ·) (congrArg (_ * ·) (get2_eq G _ _ _ rfl rfl)) (get2_eq T y _ _ rfl rfl)

theorem fy_ref (y : (⟨2, ![4096, 2048]⟩ : Shape).Idx) : val_main_v37 (F := Ideal) H X T L G y = fy (res H X L) T G (y 0).val (y 1).val := by
  rw [val_main_v37_apply, val_main_v36_apply, val_main_v34_apply, val_main_v33_apply, val_main_v23_apply, fe_ref]
  refine (congrArg (fun s => Ideal.div s (word 0x45000000#32) * (word 0x40000000#32 * _))
    ((congrArg₂ (· + ·) Ideal.ofBits_zero_f32 (Fin.sum_univ_one _)).trans (zero_add _))).trans ?_
  show Ideal.div (word 0x3F000000#32 * word 0x3F800000#32) (word 0x45000000#32) * (word 0x40000000#32 * _) = _ * word 0x3A000000#32
  rw [div_2048, word_half, word_one, word_two, word_grad, ← mul_assoc, ← EReal.coe_mul, ← EReal.coe_mul, ← EReal.coe_mul, mul_comm]
  congr 2
  norm_num

theorem fx_ref (y : (⟨2, ![4096, 2048]⟩ : Shape).Idx) : val_main_v42 (F := Ideal) H X T L G y = fx (res H X L) T G (y 0).val (y 1).val := by
  rw [val_main_v42_apply, fy_ref, val_main_v41_apply]
  exact congrArg (_ * ·) (get2_eq G _ _ _ rfl rfl)

/-- … what the mean square carries back, … -/
theorem fback_ref (y : (⟨2, ![4096, 2048]⟩ : Shape).Idx) : val_main_v52 (F := Ideal) H X T L G y
    = Ideal.div ((∑ k ∈ Finset.range 2048, get2 (res H X L) (y 0).val k * fx (res H X L) T G (y 0).val k)
        * (((-1 / 2 : ℝ) : EReal) * Ideal.div (inv (res H X L) (y 0).val) (ms (res H X L) (y 0).val))) ((2048 : ℝ) : EReal) := by
  rw [val_main_v52_apply, val_main_v51_apply, ← word_2048, ← word_neg, Finset.sum_range]
  refine (congrArg₂ (· + ·) Ideal.ofBits_zero_f32 (Fin.sum_univ_one _)).trans ((zero_add _).trans ?_)
  rw [val_main_v50_apply, val_main_v48_apply, val_main_v15_apply, val_main_v13_apply, finv_ref, fms_ref, val_main_v45_apply, val_main_v44_apply]
  refine congrArg (Ideal.div · _) (congrArg (· * _) ((congrArg₂ (· + ·) Ideal.ofBits_zero_f32 (Finset.sum_congr rfl fun k _ => ?_)).trans (zero_add _)))
  rw [val_main_v43_apply, fx_ref, hn_ref]
  have h0 : (y 0).val * 1 + (0 : Fin 1).val = (y 0).val := by simp
  exact congrArg₂ (· * ·) (get2_eq (res H X L) _ _ _ h0 rfl) (congrArg (fx (res H X L) T G · k.val) h0)

/-- … and the two gradients. -/
theorem fH_ref (y : (⟨2, ![4096, 2048]⟩ : Shape).Idx) : val_main_v56 (F := Ideal) H X T L G y = fH (res H X L) T G (y 0).val (y 1).val := by
  obtain ⟨e, he, hw⟩ := word_eps
  have hm : ms (res H X L) (y 0).val = Ideal.div (∑ k ∈ Finset.range 2048, get2 (res H X L) (y 0).val k * get2 (res H X L) (y 0).val k) ((2048 : ℝ) : EReal) + (e : EReal) := by
    unfold ms
    rw [hw, word_2048]
  have hb := norm_back (n := 2048) (fun k => get2 (res H X L) (y 0).val k) (fun k => fx (res H X L) T G (y 0).val k) 0 (N := 2048) (by norm_num) he (y 1).val (y 1).isLt _ hm.symm
  rw [zero_add, add_zero] at hb
  rw [val_main_v56_apply, val_main_v54_apply, val_main_v55_apply, val_main_v53_apply, val_main_v47_apply, val_main_v46_apply, finv_ref, fx_ref, fback_ref, hn_ref]
  unfold fH
  rw [word_2048]
  refine Eq.trans ?_ hb.symm
  rw [← get2_eq (res H X L) y _ _ rfl rfl]
  rfl

theorem fF_ref (y : (⟨2, ![4096, 2048]⟩ : Shape).Idx) : val_main_v64 (F := Ideal) H X T L G y = fF (res H X L) T L G (y 0).val (y 1).val := by
  rw [val_main_v64_apply, val_main_v58_apply, fH_ref, val_main_v57_apply, val_main_v1_apply]
  exact congrArg (· * _) (congrArg (_ * ·) (get2_eq L _ _ _ rfl rfl))

/-- The three sums over all rows: the weight's gradient, … -/
theorem fsumW_ref (y : (⟨2, ![1, 2048]⟩ : Shape).Idx) : val_main_v40 (F := Ideal) H X T L G y = ∑ r ∈ Finset.range 4096, fW (res H X L) T G r (y 1).val := by
  have y0 : (y 0).val < 1 := (y 0).isLt
  rw [val_main_v40_apply, val_main_v39_apply, Finset.sum_range]
  refine (congrArg₂ (· + ·) Ideal.ofBits_zero_f32 (Finset.sum_congr rfl fun k _ => ?_)).trans (zero_add _)
  rw [val_main_v38_apply, fxh_ref, fy_ref]
  exact (mul_comm _ _).trans (congrArg (fW (res H X L) T G k.val ·) (by show (y 0).val * 2048 + (y 1).val = (y 1).val; omega))

/-- … the gate's, with the half taken out of the sum, … -/
theorem fsumL_ref (y : (⟨2, ![1, 2048]⟩ : Shape).Idx) : val_main_v63 (F := Ideal) H X T L G y = ∑ r ∈ Finset.range 4096, fL (res H X L) X T G r (y 1).val := by
  have y0 : (y 0).val < 1 := (y 0).isLt
  have hs : ∑ r ∈ Finset.range 4096, fL (res H X L) X T G r (y 1).val
      = (∑ r ∈ Finset.range 4096, fH (res H X L) T G r (y 1).val * get2 X r (y 1).val) * ((1 / 2 : ℝ) : EReal) := by
    rw [← sum_mul_real _ _ (by norm_num)]
    refine Finset.sum_congr rfl fun r _ => ?_
    unfold fL
    rw [word_half]
    exact mul_comm _ _
  rw [hs, val_main_v63_apply, val_main_v61_apply, val_main_v60_apply, Finset.sum_range, ← word_half]
  refine (mul_comm _ _).trans (congrArg (· * _) ((congrArg₂ (· + ·) Ideal.ofBits_zero_f32 (Finset.sum_congr rfl fun k _ => ?_)).trans (zero_add _)))
  rw [val_main_v59_apply, fH_ref]
  have hl : (y 0).val * 2048 + (y 1).val = (y 1).val := by omega
  exact congrArg₂ (· * ·) (congrArg (fH (res H X L) T G k.val ·) hl) (get2_eq X _ _ _ rfl hl)

/-- … and the loss, a column. -/
theorem fsumE_ref (y : (⟨2, ![1, 2048]⟩ : Shape).Idx) : val_main_v29 (F := Ideal) H X T L G y = ∑ r ∈ Finset.range 4096, fE (res H X L) T G r (y 1).val := by
  have hs : ∑ r ∈ Finset.range 4096, fE (res H X L) T G r (y 1).val
      = (∑ r ∈ Finset.range 4096, Ideal.div (fe (res H X L) T G r (y 1).val * fe (res H X L) T G r (y 1).val) (word 0x45000000#32)) * ((1 / 2 : ℝ) : EReal) := by
    rw [← sum_mul_real _ _ (by norm_num)]
    refine Finset.sum_congr rfl fun r _ => ?_
    unfold fE
    rw [word_loss, div_2048, mul_assoc, ← EReal.coe_mul]
    exact mul_comm _ _
  rw [hs, val_main_v29_apply, val_main_v27_apply, val_main_v26_apply, Finset.sum_range, ← word_half]
  refine (mul_comm _ _).trans (congrArg (· * _) ((congrArg₂ (· + ·) Ideal.ofBits_zero_f32 (Finset.sum_congr rfl fun k _ => ?_)).trans (zero_add _)))
  rw [val_main_v25_apply, val_main_v21_apply, fe_ref]
  rfl

end Ref

/-- The claim: both programs end with the same five arrays on every device. -/
theorem final_loss : @Cert.algebraic_FinalLossIdeal_FinalLossRefIdeal Cert.FinalLossIdeal.Gen.facts Cert.FinalLossRefIdeal.Gen.facts := by
  intro m g m' g' _ hargs
  refine ⟨fun c => fun y => fH (arN m c) (arT m c) (arG m c) (y 0).val (y 1).val,
    fun c => fun y => fF (arN m c) (arT m c) (arL m c) (arG m c) (y 0).val (y 1).val,
    fun c => fun y => show EReal from ∑ r ∈ Finset.range 4096, fW (arN m c) (arT m c) (arG m c) r (y 1).val,
    fun c => fun y => show EReal from ∑ r ∈ Finset.range 4096, fL (arN m c) (arX m c) (arT m c) (arG m c) r (y 1).val,
    fun c => fun y => show EReal from ∑ r ∈ Finset.range 4096, fE (arN m c) (arT m c) (arG m c) r (y 1).val, ?_, ?_⟩
  · refine (θ_run _ _ _).mono (fun r h c => ?_) (Cert.FinalLossIdeal.Value.run_blocks m g)
    obtain ⟨h5, h6, h7, h8, h9, hk⟩ := h c
    exact ⟨h5.trans (final5 m c), h6.trans (final6 m c), h7.trans (final7 m c), h8.trans (final8 m c), h9.trans (final9 m c), hk⟩
  · refine (θ_run _ _ _).mono (fun r h c => ?_) (Cert.FinalLossRefIdeal.Value.run m' g')
    obtain ⟨h5, h6, h7, h8, h9, hk⟩ := h c
    obtain ⟨e0, e1, e2, e3, e4⟩ := hargs c
    refine ⟨(h5.trans (val_main_v56_eq _ _)).trans ?_, (h6.trans (val_main_v64_eq _ _)).trans ?_, (h7.trans (val_main_v40_eq _ _ _ _ _)).trans ?_,
      (h8.trans (val_main_v63_eq _ _)).trans ?_, (h9.trans (val_main_v29_eq _ _ _ _ _)).trans ?_, hk⟩
    all_goals rw [e0, e1, e2, e3, e4]
    · exact funext fun y => fH_ref _ _ _ _ _ y
    · exact funext fun y => fF_ref _ _ _ _ _ y
    · exact funext fun y => fsumW_ref _ _ _ _ _ y
    · exact funext fun y => fsumL_ref _ _ _ _ _ y
    · exact funext fun y => fsumE_ref _ _ _ _ _ y

end Cert.Products
end
-- ==== Proof.MixProj.lean ====
/-
  The mixer's input projection, of which one call computes the first 768 columns of every chip's part and another the
  other 1024: the element both write and the plain program holds, and where a call's rows and columns lie in the whole
  product.
-/
module

public import proofs.«01_k».proof.Proof.Parts

@[expose] public section

noncomputable section

namespace Cert.MixProj

open Cert.Products Idealize.ShloMosaic Idealize.ShloMosaic.TcCoe

/-- One element of the projection: row `r`, column `l` of part `p`. -/
def res (X : (⟨2, ![4096, 2048]⟩ : Shape).Idx → EReal) (Y : (⟨3, ![4, 2048, 1792]⟩ : Shape).Idx → EReal) (r p l : ℕ) : EReal :=
  ∑ k ∈ Finset.range 2048, get2 X r k * get3 Y p k l

/-- The same, by the row of the parts stacked on top of each other. -/
def stacked (X : (⟨2, ![4096, 2048]⟩ : Shape).Idx → EReal) (Y : (⟨3, ![4, 2048, 1792]⟩ : Shape).Idx → EReal) (r l : ℕ) : EReal :=
  res X Y (r % 4096) (r / 4096) l

/-- The elements of a point's block, of the two blocks it reads: of the rows from `1024 * i` on and of part `p`. -/
theorem block {w : ℕ} (X : (⟨2, ![4096, 2048]⟩ : Shape).Idx → EReal) (Y : (⟨3, ![4, 2048, 1792]⟩ : Shape).Idx → EReal)
    (x : (⟨2, ![1024, 2048]⟩ : Shape).Idx → EReal) (y : (⟨2, ![2048, w]⟩ : Shape).Idx → EReal) (i p lo : ℕ) (hi : i < 4)
    (hx : ∀ z, x z = get2 X (1024 * i + (z 0).val) (z 1).val) (hy : ∀ z, y z = get3 Y p (z 0).val (lo + (z 1).val)) (r l : ℕ) (hr : r < 1024) (hl : l < w) :
    ∑ k ∈ Finset.range 2048, get2 x r k * get2 y k l = stacked X Y ((p * 4 + i) * 1024 + r) (lo + l) := by
  unfold stacked res
  rw [show ((p * 4 + i) * 1024 + r) % 4096 = 1024 * i + r by omega, show ((p * 4 + i) * 1024 + r) / 4096 = p by omega]
  exact Finset.sum_congr rfl fun k hk => congrArg₂ (· * ·) (get2_of x (fun r k => get2 X (1024 * i + r) k) hx hr (Finset.mem_range.mp hk))
    (get2_of y (fun k l => get3 Y p k (lo + l)) hy (Finset.mem_range.mp hk) hl)

/-- An element of a weight's chip parts on top of each other, within part `p`. -/
theorem weight {n : ℕ} (Y : (⟨3, ![4, 2048, n]⟩ : Shape).Idx → EReal) (h : (⟨3, ![4, 2048, n]⟩ : Shape).ShapeCasts ⟨2, ![8192, n]⟩)
    (j : (⟨2, ![8192, n]⟩ : Shape).Idx) (p r l : ℕ) (hr : r < 2048) (h0 : (j 0).val = 2048 * p + r) (h1 : (j 1).val = l) :
    shapeCast (⟨2, ![8192, n]⟩ : Shape) Y h j = get3 Y p r l := by
  have j0 : (j 0).val < 8192 := (j 0).isLt
  have hp : p < 4 := by omega
  refine (shapeCast_apply Y h j (ix3 ⟨p, hp⟩ ⟨r, hr⟩ (j 1)) ?_).trans (get3_eq Y _ _ _ _ rfl rfl h1)
  rw [Shape.rowMajor_val_two, Shape.rowMajor_val_three]
  show (p * 2048 + r) * n + (j 1).val = (j 0).val * n + (j 1).val
  rw [h0, Nat.mul_comm p]

end Cert.MixProj
end
-- ==== Proof.MixProjA.lean ====
/-
  The first call of the mixer's input projection: one block of rows against the first 768 columns of one chip's part of
  the weight a point. What the array holds at the end are those columns of the plain projection, part by part.
-/
module

public import proofs.«01_k».proof.Defs
public import proofs.«01_k».proof.Proof.MixProj
public import proofs.«01_k».proof.Proof.Gen.MixProjAIdeal.Value
public import proofs.«01_k».proof.Proof.Gen.MixProjARefIdeal.Run
public import proofs.«01_k».proof.Proof.Gen.MixProjARefIdeal.Read

@[expose] public section

set_option maxRecDepth 16384

noncomputable section

namespace Cert.MixProjAIdeal.Prod

open Cert.MixProjAIdeal Cert.MixProjAIdeal.Gen Cert.Products Cert.MixProj Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- The block a point writes, of the two blocks it reads. -/
theorem out_apply (x0 : Vec Ideal S1024x2048 .bf16) (x1 : Vec Ideal S2048x768 .bf16) (y : S1024x768.Idx) :
    out0_2 x0 x1 y = ∑ k ∈ Finset.range 2048, get2 x0 (y 0).val k * get2 x1 k (y 1).val := by
  unfold out0_2
  rw [View.canon_unit_zero (S := S1024x768) hz]
  simp only [View.ld_unit_zero (S := S1024x2048) hz, View.ld_unit_zero (S := S2048x768) hz]
  unfold k0_pay1
  rw [shapeCast_self, shapeCast_self]
  exact matmul_nn (φ := .bf16) (ψ := .bf16) dot_S1024x2048_S2048x768_S1024x768_1_0_0_1_n_n rfl rfl rfl rfl rfl rfl none x0 x1 y

/-- Where the windows' blocks lie. -/
theorem idx : ∀ t : Fin cfg0.N, t.val < 16 ∧ win0_0.index t = ![t.val / 4, 0] ∧ win0_1.index t = ![2048 * (t.val % 4), 0] ∧
    win0_2.index t = ![t.val % 4 * 4 + t.val / 4, 0] :=
  (by decide +kernel : ∀ t : Fin grid0.N, _)

theorem w0_eq (c : Dev nD) (t : Fin cfg0.N) (y : S1024x2048.Idx) :
    iblk m c 0 t y = get2 (m ((c : Thread nD τ).loc main_arg0)) (1024 * (t.val / 4) + (y 0).val) (y 1).val := by
  obtain ⟨ht, e0, e1, e2⟩ := idx t
  unfold iblk
  blk_simp [e0]
  refine (congrFun (V_main_arg0 m c) _).trans (get2_eq (m ((c : Thread nD τ).loc main_arg0)) _ _ _ ?_ ?_) <;> blk_simp [e0] <;> (try simp) <;> omega

/-- The weight's chip parts on top of each other, as the launch finds them, within part `p`. -/
theorem weight_at (c : Dev nD) (p : ℕ) (j : S8192x1792.Idx) (y : S2048x768.Idx) (h0 : (j 0).val = 2048 * p + (y 0).val) (h1 : (j 1).val = 0 + (y 1).val) :
    V m c main_v0 j = get3 (m ((c : Thread nD τ).loc main_arg1)) p (y 0).val (0 + (y 1).val) := by
  unfold_abbrev_sides
  after_results
  exact weight (m ((c : Thread nD τ).loc main_arg1)) _ j p _ _ (y 0).isLt h0 h1

theorem w1_eq (c : Dev nD) (t : Fin cfg0.N) (y : S2048x768.Idx) :
    iblk m c 1 t y = get3 (m ((c : Thread nD τ).loc main_arg1)) (t.val % 4) (y 0).val (0 + (y 1).val) := by
  obtain ⟨ht, e0, e1, e2⟩ := idx t
  have k : ∀ a, ((win0_1.blk t).view.emb y a).val = win0_1.index t a + 1 * (y a).val := fun a => rfl
  unfold iblk
  blk_simp [e1]
  refine (weight_at m c (t.val % 4) _ y ?_ ?_).trans ?_
  · rw [k, e1]; simp
  · rw [k, e1]; simp
  · simp

/-- An element of a point's product. -/
theorem point (c : Dev nD) (t : Fin cfg0.N) (r l : ℕ) (hr : r < 1024) (hl : l < 768) :
    ∑ k ∈ Finset.range 2048, get2 (a := 1024) (b := 2048) (iblk m c 0 t) r k * get2 (a := 2048) (b := 768) (iblk m c 1 t) k l
      = stacked (m ((c : Thread nD τ).loc main_arg0)) (m ((c : Thread nD τ).loc main_arg1)) ((t.val % 4 * 4 + t.val / 4) * 1024 + r) (0 + l) := by
  obtain ⟨ht, e0, e1, e2⟩ := idx t
  exact block _ _ _ _ (t.val / 4) (t.val % 4) 0 (by omega) (w0_eq m c t) (w1_eq m c t) r l hr hl

/-- The result array, of the argument arrays. -/
theorem final (c : Dev nD) : (dats m 0 c).arrAt 2 cfg0.N
    = fun y : S16384x768.Idx => stacked (m ((c : Thread nD τ).loc main_arg0)) (m ((c : Thread nD τ).loc main_arg1)) (y 0).val (0 + (y 1).val) := by
  refine (dats m 0 c).arrAt_eq_of_covers 2 _ (by decide +kernel) fun t hf y => ?_
  obtain ⟨ht, e0, e1, e2⟩ := idx t
  blk_simp
  rw [after0_2]
  refine (out_apply _ _ y).trans ((point m c t _ _ (y 0).isLt (y 1).isLt).trans (congrArg₂ (stacked _ _) ?_ ?_))
  · rw [show win0_2.index t 0 = t.val % 4 * 4 + t.val / 4 from congrFun e2 0]
  · rw [show win0_2.index t 1 = 0 from congrFun e2 1]

end Cert.MixProjAIdeal.Prod

namespace Cert.Products

open Idealize.ShloMosaic Idealize.ShloMosaic.TcCoe Idealize.SL.Sem Cert.MixProjARefIdeal.Read Cert.MixProj

/-- The plain projection, at an element. -/
theorem mix_proj_a_ref (X : (⟨2, ![4096, 2048]⟩ : Shape).Idx → EReal) (Y : (⟨3, ![4, 2048, 1792]⟩ : Shape).Idx → EReal) (y : (⟨2, ![16384, 768]⟩ : Shape).Idx) :
    val_main_v16 (F := Ideal) X Y y = stacked X Y (y 0).val (0 + (y 1).val) := by
  have y0 : (y 0).val < 16384 := (y 0).isLt
  have y1 : (y 1).val < 768 := (y 1).isLt
  have q1 : ((y 0).val * 768 + (y 1).val) / 768 = (y 0).val := by omega
  have q2 : ((y 0).val * 768 + (y 1).val) % 768 = (y 1).val := by omega
  have q3 : ((y 0).val * 768 + (y 1).val) / 3145728 = (y 0).val / 4096 := by omega
  rw [val_main_v16_apply, val_main_v15_apply, val_main_v14_apply, val_main_v13_apply]
  refine (val_main_v11_apply X Y _).trans ?_
  unfold stacked res
  rw [Finset.sum_range]
  refine Finset.sum_congr rfl fun k _ => congrArg₂ (· * ·) ?_ ?_
  · rw [val_main_v10_apply]
    refine get2_eq X _ _ _ ?_ rfl
    show _ / 7168 = _
    dsimp only
    rw [q1, q2, q3]
    omega
  · rw [val_main_v9_apply]
    refine (cat_parts (t := 7168) (by decide) (by decide) Y _ _ _ _ _ Cert.MixProjARefIdeal.Facts₀.concatenates_S2048x1792_S2048x1792_S2048x1792_S2048x1792_S2048x7168_d1 _ k.val
      ((y 0).val / 4096 * 1792 + (0 + (y 1).val)) rfl ?_).trans ?_
    · show _ % 7168 = _
      dsimp only
      rw [q1, q2, q3]
      omega
    · congr 1 <;> omega

/-- The claim: both programs end with one array on every device. -/
theorem mix_proj_a : @Cert.algebraic_MixProjAIdeal_MixProjARefIdeal Cert.MixProjAIdeal.Gen.facts Cert.MixProjARefIdeal.Gen.facts := by
  intro m g m' g' _ hargs
  refine ⟨fun c => fun y : Cert.MixProjAIdeal.S16384x768.Idx => stacked (m (c.tc.loc Cert.MixProjAIdeal.main_arg0)) (m (c.tc.loc Cert.MixProjAIdeal.main_arg1))
    (y 0).val (0 + (y 1).val), ?_, ?_⟩
  · refine (θ_run _ _ _).mono (fun r h c => ?_) (Cert.MixProjAIdeal.Value.run_blocks m g)
    obtain ⟨h0, hk⟩ := h c
    exact ⟨h0.trans (Cert.MixProjAIdeal.Prod.final m c), hk⟩
  · refine (θ_run _ _ _).mono (fun r h c => ?_) (Cert.MixProjARefIdeal.Value.run m' g')
    obtain ⟨h0, hk⟩ := h c
    refine ⟨(h0.trans (val_main_v16_eq _ _)).trans ?_, hk⟩
    obtain ⟨e0, e1⟩ := hargs c
    rw [e0, e1]
    exact funext fun y => mix_proj_a_ref _ _ y

end Cert.Products
end
-- ==== Proof.MixProjB.lean ====
/-
  The second call of the mixer's input projection, of the other 1024 columns of each chip's part.
-/
module

public import proofs.«01_k».proof.Defs
public import proofs.«01_k».proof.Proof.MixProj
public import proofs.«01_k».proof.Proof.Gen.MixProjBIdeal.Value
public import proofs.«01_k».proof.Proof.Gen.MixProjBRefIdeal.Run
public import proofs.«01_k».proof.Proof.Gen.MixProjBRefIdeal.Read

@[expose] public section

set_option maxRecDepth 16384

noncomputable section

namespace Cert.MixProjBIdeal.Prod

open Cert.MixProjBIdeal Cert.MixProjBIdeal.Gen Cert.Products Cert.MixProj Idealize.ShloMosaic Idealize.ShloMosaic.TcCoe Idealize.SL.Sem

variable (m : (ℓ : Loc nD τ sig) → Buf (Elt Ideal) ℓ)

theorem hz : (![0, 0] : Fin 2 → ℕ) = fun _ => 0 := funext fun a => by fin_cases a <;> rfl

/-- The block a point writes, of the two blocks it reads. -/
theorem out_apply (x0 : Vec Ideal S1024x2048 .bf16) (x1 : Vec Ideal S2048x1024 .bf16) (y : S1024x1024.Idx) :
    out0_2 x0 x1 y = ∑ k ∈ Finset.range 2048, get2 x0 (y 0).val k * get2 x1 k (y 1).val := by
  unfold out0_2
  rw [View.canon_unit_zero (S := S1024x1024) hz]
  simp only [View.ld_unit_zero (S := S1024x2048) hz, View.ld_unit_zero (S := S2048x1024) hz]
  unfold k0_pay1
  rw [shapeCast_self, shapeCast_self]
  exact matmul_nn (φ := .bf16) (ψ := .bf16) dot_S1024x2048_S2048x1024_S1024x1024_1_0_0_1_n_n rfl rfl rfl rfl rfl rfl none x0 x1 y

/-- Where the windows' blocks lie. -/
theorem idx : ∀ t : Fin cfg0.N, t.val < 16 ∧ win0_0.index t = ![t.val / 4, 0] ∧ win0_1.index t = ![2048 * (t.val % 4), 768] ∧
    win0_2.index t = ![t.val % 4 * 4 + t.val / 4, 0] :=
  (by decide +kernel : ∀ t : Fin grid0.N, _)

theorem w0_eq (c : Dev nD) (t : Fin cfg0.N) (y : S1024x2048.Idx) :
    iblk m c 0 t y = get2 (m ((c : Thread nD τ).loc main_arg0)) (1024 * (t.val / 4) + (y 0).val) (y 1).val := by
  obtain ⟨ht, e0, e1, e2⟩ := idx t
  unfold iblk
  blk_simp [e0]
  refine (congrFun (V_main_arg0 m c) _).trans (get2_eq (m ((c : Thread nD τ).loc main_arg0)) _ _ _ ?_ ?_) <;> blk_simp [e0] <;> (try simp) <;> omega

/-- The weight's chip parts on top of each other, as the launch finds them, within part `p`. -/
theorem weight_at (c : Dev nD) (p : ℕ) (j : S8192x1792.Idx) (y : S2048x1024.Idx) (h0 : (j 0).val = 2048 * p + (y 0).val) (h1 : (j 1).val = 768 + (y 1).val) :
    V m c main_v0 j = get3 (m ((c : Thread nD τ).loc main_arg1)) p (y 0).val (768 + (y 1).val) := by
  unfold_abbrev_sides
  after_results
  exact weight (m ((c : Thread nD τ).loc main_arg1)) _ j p _ _ (y 0).isLt h0 h1

theorem w1_eq (c : Dev nD) (t : Fin cfg0.N) (y : S2048x1024.Idx) :
    iblk m c 1 t y = get3 (m ((c : Thread nD τ).loc main_arg1)) (t.val % 4) (y 0).val (768 + (y 1).val) := by
  obtain ⟨ht, e0, e1, e2⟩ := idx t
  have k : ∀ a, ((win0_1.blk t).view.emb y a).val = win0_1.index t a + 1 * (y a).val := fun a => rfl
  unfold iblk
  blk_simp [e1]
  refine (weight_at m c (t.val % 4) _ y ?_ ?_).trans ?_
  · rw [k, e1]; simp
  · rw [k, e1]; simp
  · simp

/-- An element of a point's product. -/
theorem point (c : Dev nD) (t : Fin cfg0.N) (r l : ℕ) (hr : r < 1024) (hl : l < 1024) :
    ∑ k ∈ Finset.range 2048, get2 (a := 1024) (b := 2048) (iblk m c 0 t) r k * get2 (a := 2048) (b := 1024) (iblk m c 1 t) k l
      = stacked (m ((c : Thread nD τ).loc main_arg0)) (m ((c : Thread nD τ).loc main_arg1)) ((t.val % 4 * 4 + t.val / 4) * 1024 + r) (768 + l) := by
  obtain ⟨ht, e0, e1, e2⟩ := idx t
  exact block _ _ _ _ (t.val / 4) (t.val % 4) 768 (by omega) (w0_eq m c t) (w1_eq m c t) r l hr hl

/-- The result array, of the argument arrays. -/
theorem final (c : Dev nD) : (dats m 0 c).arrAt 2 cfg0.N
    = fun y : S16384x1024.Idx => stacked (m ((c : Thread nD τ).loc main_arg0)) (m ((c : Thread nD τ).loc main_arg1)) (y 0).val (768 + (y 1).val) := by
  refine (dats m 0 c).arrAt_eq_of_covers 2 _ (by decide +kernel) fun t hf y => ?_
  obtain ⟨ht, e0, e1, e2⟩ := idx t
  blk_simp
  rw [after0_2]
  refine (out_apply _ _ y).trans ((point m c t _ _ (y 0).isLt (y 1).isLt).trans (congrArg₂ (stacked _ _) ?_ ?_))
  · rw [show win0_2.index t 0 = t.val % 4 * 4 + t.val / 4 from congrFun e2 0]
  · rw [show win0_2.index t 1 = 0 from congrFun e2 1]
    simp

end Cert.MixProjBIdeal.Prod

namespace Cert.Products

open Idealize.ShloMosaic Idealize.ShloMosaic.TcCoe Idealize.SL.Sem Cert.MixProjBRefIdeal.Read Cert.MixProj

/-- The plain projection, at an element. -/
theorem mix_proj_b_ref (X : (⟨2, ![4096, 2048]⟩ : Shape).Idx → EReal) (Y : (⟨3, ![4, 2048, 1792]⟩ : Shape).Idx → EReal) (y : (⟨2, ![16384, 1024]⟩ : Shape).Idx) :
    val_main_v16 (F := Ideal) X Y y = stacked X Y (y 0).val (768 + (y 1).val) := by
  have y0 : (y 0).val < 16384 := (y 0).isLt
  have y1 : (y 1).val < 1024 := (y 1).isLt
  have q1 : ((y 0).val * 1024 + (y 1).val) / 1024 = (y 0).val := by omega
  have q2 : ((y 0).val * 1024 + (y 1).val) % 1024 = (y 1).val := by omega
  have q3 : ((y 0).val * 1024 + (y 1).val) / 4194304 = (y 0).val / 4096 := by omega
  rw [val_main_v16_apply, val_main_v15_apply, val_main_v14_apply, val_main_v13_apply]
  refine (val_main_v11_apply X Y _).trans ?_
  unfold stacked res
  rw [Finset.sum_range]
  refine Finset.sum_congr rfl fun k _ => congrArg₂ (· * ·) ?_ ?_
  · rw [val_main_v10_apply]
    refine get2_eq X _ _ _ ?_ rfl
    show _ / 7168 = _
    dsimp only
    rw [q1, q2, q3]
    omega
  · rw [val_main_v9_apply]
    refine (cat_parts (t := 7168) (by decide) (by decide) Y _ _ _ _ _ Cert.MixProjBRefIdeal.Facts₀.concatenates_S2048x1792_S2048x1792_S2048x1792_S2048x1792_S2048x7168_d1 _ k.val
      ((y 0).val / 4096 * 1792 + (768 + (y 1).val)) rfl ?_).trans ?_
    · show _ % 7168 = _
      dsimp only
      rw [q1, q2, q3]
      omega
    · congr 1 <;> omega

/-- The claim: both programs end with one array on every device. -/
theorem mix_proj_b : @Cert.algebraic_MixProjBIdeal_MixProjBRefIdeal Cert.MixProjBIdeal.Gen.facts Cert.MixProjBRefIdeal.Gen.facts := by
  intro m g m' g' _ hargs
  refine ⟨fun c => fun y : Cert.MixProjBIdeal.S16384x1024.Idx => stacked (m (c.tc.loc Cert.MixProjBIdeal.main_arg0)) (m (c.tc.loc Cert.MixProjBIdeal.main_arg1))
    (y 0).val (768 + (y 1).val), ?_, ?_⟩
  · refine (θ_run _ _ _).mono (fun r h c => ?_) (Cert.MixProjBIdeal.Value.run_blocks m g)
    obtain ⟨h0, hk⟩ := h c
    exact ⟨h0.trans (Cert.MixProjBIdeal.Prod.final m c), hk⟩
  · refine (θ_run _ _ _).mono (fun r h c => ?_) (Cert.MixProjBRefIdeal.Value.run m' g')
    obtain ⟨h0, hk⟩ := h c
    refine ⟨(h0.trans (val_main_v16_eq _ _)).trans ?_, hk⟩
    obtain ⟨e0, e1⟩ := hargs c
    rw [e0, e1]
    exact funext fun y => mix_proj_b_ref _ _ y

end Cert.Products
end
-- ==== Proof.SwigluParts.lean ====
/-
  The first feed-forward's gated product, of which one call computes the first 1280 columns of each half's chip part
  and another the other 1536: the elements both write and the plain program holds, and where a call's rows and columns
  lie in the whole product.
-/
module

public import proofs.«01_k».proof.Proof.MixProj
public import proofs.«01_k».proof.Proof.Swiglu

@[expose] public section

noncomputable section

namespace Cert.SwigluParts

open Cert.Products Cert.SwigluIdeal.Prod Idealize.ShloMosaic Idealize.ShloMosaic.TcCoe
open Cert.DhuIdeal.Prod (gate gateSlope)

/-- Column `l` of a part's result, in the whole half: the part holds the columns from `lo` on, `w` of each chip's. -/
def col (w lo l : ℕ) : ℕ := 2816 * (l / w) + (lo + l % w)

theorem col_eq (w lo j l : ℕ) (hl : l < w) : col w lo (j * w + l) = 2816 * j + (lo + l) := by
  unfold col
  rw [Nat.mul_comm j, Nat.mul_add_div (by omega), Nat.mul_add_mod, Nat.div_eq_of_lt hl, Nat.mod_eq_of_lt hl, Nat.add_zero]

section Block

variable {w : ℕ} (X : (⟨2, ![4096, 2048]⟩ : Shape).Idx → EReal) (Y : (⟨3, ![4, 2048, 2816]⟩ : Shape).Idx → EReal)
  (x0 : (⟨2, ![512, 2048]⟩ : Shape).Idx → EReal) (x1 x2 : (⟨2, ![2048, w]⟩ : Shape).Idx → EReal)

/-- The elements of the two blocks a point writes, of the blocks it reads. -/
def savedBlk (p r l : ℕ) : EReal := pairOf p (row x0 x1 r l) (row x0 x2 r l)

def actBlk (r l : ℕ) : EReal := gate (row x0 x1 r l) * row x0 x2 r l

variable (i j lo : ℕ) (hw : lo + w ≤ 2816) (h0 : ∀ z, x0 z = get2 X (512 * i + (z 0).val) (z 1).val)
  (h1 : ∀ z, x1 z = get3 Y j (z 0).val (lo + (z 1).val)) (h2 : ∀ z, x2 z = get3 Y (2 + j) (z 0).val (lo + (z 1).val))

include hw h0 in
theorem row_eq (p : ℕ) (h : ∀ z, x1 z = get3 Y p (z 0).val (lo + (z 1).val)) (r l : ℕ) (hr : r < 512) (hl : l < w) :
    row x0 x1 r l = prod X Y (512 * i + r) (2816 * p + (lo + l)) := by
  unfold row prod
  rw [show (2816 * p + (lo + l)) / 2816 = p by omega, show (2816 * p + (lo + l)) % 2816 = lo + l by omega]
  exact Finset.sum_congr rfl fun k hk => congrArg₂ (· * ·) (get2_of x0 (fun r k => get2 X (512 * i + r) k) h0 hr (Finset.mem_range.mp hk))
    (get2_of x1 (fun k l => get3 Y p k (lo + l)) h (Finset.mem_range.mp hk) hl)

include hw h0 h1 h2 in
/-- They, of the argument arrays. -/
theorem savedBlk_eq (p r l : ℕ) (hr : r < 512) (hl : l < w) :
    savedBlk x0 x1 x2 p r l = saved X Y p (i * 512 + r) (col w lo (j * w + l)) := by
  unfold savedBlk saved
  rw [col_eq w lo j l hl, row_eq X Y x0 x1 i lo hw h0 j h1 r l hr hl, row_eq X Y x0 x2 i lo hw h0 (2 + j) h2 r l hr hl, Nat.mul_comm i,
    show 2816 * (2 + j) + (lo + l) = 5632 + (2816 * j + (lo + l)) by omega]

include hw h0 h1 h2 in
theorem actBlk_eq (r l : ℕ) (hr : r < 512) (hl : l < w) : actBlk x0 x1 x2 r l = act X Y (i * 512 + r) (col w lo (j * w + l)) := by
  unfold actBlk act
  rw [col_eq w lo j l hl, row_eq X Y x0 x1 i lo hw h0 j h1 r l hr hl, row_eq X Y x0 x2 i lo hw h0 (2 + j) h2 r l hr hl, Nat.mul_comm i,
    show 2816 * (2 + j) + (lo + l) = 5632 + (2816 * j + (lo + l)) by omega]

end Block

/-- The plain slope, its value multiplied before the sum, is the kernel's where the value is a real number. -/
theorem slope_real (X : (⟨2, ![4096, 2048]⟩ : Shape).Idx → EReal) (W : (⟨3, ![4, 2048, 2816]⟩ : Shape).Idx → EReal)
    (hX : ∀ y, ∃ x : ℝ, X y = x) (hW : ∀ y, ∃ x : ℝ, W y = x) (h : EReal) (r l : ℕ) :
    prod X W r l * Ideal.logistic h + h * prod X W r l * (Ideal.logistic h * (1 - Ideal.logistic h)) = gateSlope h (prod X W r l) := by
  obtain ⟨u, hu⟩ := real_sum 2048 _ _ (real_get2 X hX r) (fun k => real_get3 W hW (l / 2816) k (l % 2816))
  have hu' : prod X W r l = (u : EReal) := hu
  have e := slope_sum h 1 u
  rw [EReal.coe_one, one_mul, one_mul] at e
  rw [hu', ← e]

end Cert.SwigluParts
end
-- ==== Proof.SwigluA.lean ====
/-
  The first half-column call of the first feed-forward's gated product. A point takes 512 rows against its columns of one
  chip's part of the weight's two halves, and writes the pair the backward pass needs, the gate's slope times the value
  and the gate, and the gated value.
-/
module

public import proofs.«01_k».proof.Defs
public import proofs.«01_k».proof.Proof.SwigluParts
public import proofs.«01_k».proof.Proof.Gen.SwigluAIdeal.Value
public import proofs.«01_k».proof.Proof.Gen.SwigluARefIdeal.Run
public import proofs.«01_k».proof.Proof.Gen.SwigluARefIdeal.Read

@[expose] public section

set_option maxRecDepth 16384

noncomputable section

namespace Cert.SwigluAIdeal.Prod

open Cert.SwigluAIdeal Cert.SwigluAIdeal.Gen Cert.Products Cert.SwigluParts Idealize.ShloMosaic Idealize.ShloMosaic.TcCoe Idealize.SL.Sem
open Cert.DhuIdeal.Prod (gate)
open Cert.SwigluIdeal.Prod (pairOf row saved act gate_eq slope_eq hz)

variable (m : (ℓ : Loc nD τ sig) → Buf (Elt Ideal) ℓ)

section Body

variable (x0 : Vec Ideal S512x2048 .bf16) (x1 x2 : Vec Ideal S2048x1280 .bf16)

/-- The two halves' products. -/
theorem h_prod (y : S512x1280.Idx) : k0_pay2 x0 x1 y = row x0 x1 (y 0).val (y 1).val := by
  unfold k0_pay2
  dsimp only
  rw [shapeCast_self]
  exact matmul_nn (φ := .bf16) (ψ := .bf16) dot_S512x2048_S2048x1280_S512x1280_1_0_0_1_n_n rfl rfl rfl rfl rfl rfl none x0 x1 y

theorem u_prod (y : S512x1280.Idx) : k0_pay3 x0 x2 y = row x0 x2 (y 0).val (y 1).val := h_prod x0 x2 y

/-- What the three stores hold. -/
theorem slope_pay (x : S1x512x1280.Idx) : k0_pay6 x0 x1 x0 x2 x = savedBlk x0 x1 x2 0 (x 1).val (x 2).val := by
  unfold k0_pay6
  refine (shapeCast_lead _ _ x).trans ?_
  refine Eq.trans ?_ (congrArg₂ (pairOf 0) (h_prod x0 x1 (ix2 (x 1) (x 2))) (u_prod x0 x2 (ix2 (x 1) (x 2))))
  exact slope_eq (k0_pay2 x0 x1 (ix2 (x 1) (x 2))) (k0_pay3 x0 x2 (ix2 (x 1) (x 2)))

theorem gate_pay (x : S1x512x1280.Idx) : k0_pay7 x0 x1 x = savedBlk x0 x1 x2 1 (x 1).val (x 2).val := by
  unfold k0_pay7
  refine (shapeCast_lead _ _ x).trans ?_
  refine Eq.trans ?_ (congrArg gate (h_prod x0 x1 (ix2 (x 1) (x 2))))
  exact gate_eq (k0_pay2 x0 x1 (ix2 (x 1) (x 2)))

theorem act_pay (x : S512x1280.Idx) : k0_pay1 (k0_pay8 x0 x1 x0 x2) x = actBlk x0 x1 x2 (x 0).val (x 1).val := by
  unfold k0_pay1
  dsimp only
  rw [shapeCast_self]
  refine Eq.trans ?_ (congrArg₂ (fun h u => gate h * u) (h_prod x0 x1 x) (u_prod x0 x2 x))
  exact congrArg (· * k0_pay3 x0 x2 x) (gate_eq (k0_pay2 x0 x1 x))

/-- The pair's block, at the place a store of part `p` puts an index. -/
theorem saved_at (p : ℕ) (hi) (x : S1x512x1280.Idx) :
    (fun y : S2x512x1280.Idx => savedBlk x0 x1 x2 (y 0).val (y 1).val (y 2).val) ((Rect.unit (s := S2x512x1280) ![p, 0, 0] S1x512x1280.size hi).emb x)
      = savedBlk x0 x1 x2 p (x 1).val (x 2).val := by
  have h0 : (x 0).val < 1 := (x 0).isLt
  dsimp only
  rw [emb_val, emb_val, emb_val, show (x 0).val = 0 by omega]
  simp

/-- The two blocks a point writes. -/
theorem saved_out (y : S2x512x1280.Idx) : out0_3 x0 x1 x2 y = savedBlk x0 x1 x2 (y 0).val (y 1).val (y 2).val := by
  unfold out0_3
  refine View.canon_apply_of_pieces (Val := Elt Ideal) (S := S2x512x1280) (e := .bf16) (fun y : S2x512x1280.Idx => savedBlk x0 x1 x2 (y 0).val (y 1).val (y 2).val) _ ?_ y
    (cover0_3 _ _ y)
  simp only [View.ld_unit_zero (S := S512x2048) hz, View.ld_unit_zero (S := S2048x1280) hz]
  exact List.forall_mem_cons.2 ⟨fun x => (gate_pay x0 x1 x2 x).trans (saved_at x0 x1 x2 1 inb_S2x512x1280_S1x512x1280_1_0_0 x).symm,
    List.forall_mem_cons.2 ⟨fun x => (slope_pay x0 x1 x2 x).trans (saved_at x0 x1 x2 0 inb_S2x512x1280_S1x512x1280_0_0_0 x).symm, fun _ hp => absurd hp List.not_mem_nil⟩⟩

theorem act_out (y : S512x1280.Idx) : out0_4 x0 x1 x2 y = actBlk x0 x1 x2 (y 0).val (y 1).val := by
  unfold out0_4
  rw [View.canon_unit_zero (S := S512x1280) hz]
  simp only [View.ld_unit_zero (S := S512x2048) hz, View.ld_unit_zero (S := S2048x1280) hz]
  exact act_pay x0 x1 x2 y

end Body

/-- Where the windows' blocks lie. -/
theorem idx : ∀ t : Fin cfg0.N, t.val < 16 ∧ win0_0.index t = ![t.val % 8, 0] ∧ win0_1.index t = ![2048 * (t.val / 8), 0] ∧ win0_2.index t = ![2048 * (2 + t.val / 8), 0] ∧
    win0_3.index t = ![0, t.val % 8, t.val / 8] ∧ win0_4.index t = ![t.val % 8, t.val / 8] :=
  (by decide +kernel : ∀ t : Fin grid0.N, _)

theorem w0_eq (c : Dev nD) (t : Fin cfg0.N) (y : S512x2048.Idx) :
    iblk m c 0 t y = get2 (m ((c : Thread nD τ).loc main_arg0)) (512 * (t.val % 8) + (y 0).val) (y 1).val := by
  obtain ⟨ht, e0, e1, e2, e3, e4⟩ := idx t
  unfold iblk
  blk_simp [e0]
  refine (congrFun (V_main_arg0 m c) _).trans (get2_eq (m ((c : Thread nD τ).loc main_arg0)) _ _ _ ?_ ?_) <;> blk_simp [e0] <;> (try simp) <;> omega

/-- The weight's chip parts on top of each other, as the launch finds them, within part `p`. -/
theorem weight_at (c : Dev nD) (p : ℕ) (j : S8192x2816.Idx) (y : S2048x1280.Idx) (h0 : (j 0).val = 2048 * p + (y 0).val) (h1 : (j 1).val = 0 + (y 1).val) :
    V m c main_v0 j = get3 (m ((c : Thread nD τ).loc main_arg1)) p (y 0).val (0 + (y 1).val) := by
  unfold_abbrev_sides
  after_results
  exact MixProj.weight (m ((c : Thread nD τ).loc main_arg1)) _ j p _ _ (y 0).isLt h0 h1

theorem w1_eq (c : Dev nD) (t : Fin cfg0.N) (y : S2048x1280.Idx) :
    iblk m c 1 t y = get3 (m ((c : Thread nD τ).loc main_arg1)) (t.val / 8) (y 0).val (0 + (y 1).val) := by
  obtain ⟨ht, e0, e1, e2, e3, e4⟩ := idx t
  have k : ∀ a, ((win0_1.blk t).view.emb y a).val = win0_1.index t a + 1 * (y a).val := fun a => rfl
  unfold iblk
  blk_simp [e1]
  refine (weight_at m c (t.val / 8) _ y ?_ ?_).trans ?_
  · rw [k, e1]; simp
  · rw [k, e1]; simp
  · simp

theorem w2_eq (c : Dev nD) (t : Fin cfg0.N) (y : S2048x1280.Idx) :
    iblk m c 2 t y = get3 (m ((c : Thread nD τ).loc main_arg1)) (2 + t.val / 8) (y 0).val (0 + (y 1).val) := by
  obtain ⟨ht, e0, e1, e2, e3, e4⟩ := idx t
  have k : ∀ a, ((win0_2.blk t).view.emb y a).val = win0_2.index t a + 1 * (y a).val := fun a => rfl
  unfold iblk
  blk_simp [e2]
  refine (weight_at m c (2 + t.val / 8) _ y ?_ ?_).trans ?_
  · rw [k, e2]; simp
  · rw [k, e2]; simp
  · simp

/-- The elements of a point's two blocks, of the argument arrays. -/
theorem point_saved (c : Dev nD) (t : Fin cfg0.N) (p r l : ℕ) (hr : r < 512) (hl : l < 1280) :
    savedBlk (w := 1280) (iblk m c 0 t) (iblk m c 1 t) (iblk m c 2 t) p r l
      = saved (m ((c : Thread nD τ).loc main_arg0)) (m ((c : Thread nD τ).loc main_arg1)) p (t.val % 8 * 512 + r) (col 1280 0 (t.val / 8 * 1280 + l)) :=
  savedBlk_eq _ _ _ _ _ (t.val % 8) (t.val / 8) 0 (by decide) (w0_eq m c t) (w1_eq m c t) (w2_eq m c t) p r l hr hl

theorem point_act (c : Dev nD) (t : Fin cfg0.N) (r l : ℕ) (hr : r < 512) (hl : l < 1280) :
    actBlk (w := 1280) (iblk m c 0 t) (iblk m c 1 t) (iblk m c 2 t) r l
      = act (m ((c : Thread nD τ).loc main_arg0)) (m ((c : Thread nD τ).loc main_arg1)) (t.val % 8 * 512 + r) (col 1280 0 (t.val / 8 * 1280 + l)) :=
  actBlk_eq _ _ _ _ _ (t.val % 8) (t.val / 8) 0 (by decide) (w0_eq m c t) (w1_eq m c t) (w2_eq m c t) r l hr hl

/-- The result arrays, of the argument arrays. -/
theorem final_saved (c : Dev nD) : (dats m 0 c).arrAt 3 cfg0.N
    = fun y : S2x4096x2560.Idx => saved (m ((c : Thread nD τ).loc main_arg0)) (m ((c : Thread nD τ).loc main_arg1)) (y 0).val (y 1).val (col 1280 0 (y 2).val) := by
  refine (dats m 0 c).arrAt_eq_of_covers 3 _ (by decide +kernel) fun t hf y => ?_
  obtain ⟨ht, e0, e1, e2, e3, e4⟩ := idx t
  blk_simp
  rw [after0_3]
  refine (saved_out _ _ _ y).trans ((point_saved m c t _ _ _ (y 1).isLt (y 2).isLt).trans ?_)
  rw [show win0_3.index t 0 = 0 from congrFun e3 0, show win0_3.index t 1 = t.val % 8 from congrFun e3 1, show win0_3.index t 2 = t.val / 8 from congrFun e3 2,
    Nat.zero_mul, Nat.zero_add]

theorem final_act (c : Dev nD) : (dats m 0 c).arrAt 4 cfg0.N
    = fun y : S4096x2560.Idx => act (m ((c : Thread nD τ).loc main_arg0)) (m ((c : Thread nD τ).loc main_arg1)) (y 0).val (col 1280 0 (y 1).val) := by
  refine (dats m 0 c).arrAt_eq_of_covers 4 _ (by decide +kernel) fun t hf y => ?_
  obtain ⟨ht, e0, e1, e2, e3, e4⟩ := idx t
  blk_simp
  rw [after0_4]
  refine (act_out _ _ _ y).trans ((point_act m c t _ _ (y 0).isLt (y 1).isLt).trans ?_)
  rw [show win0_4.index t 0 = t.val % 8 from congrFun e4 0, show win0_4.index t 1 = t.val / 8 from congrFun e4 1]

end Cert.SwigluAIdeal.Prod

namespace Cert.Products

open Idealize.ShloMosaic Idealize.ShloMosaic.TcCoe Idealize.SL.Sem Cert.SwigluARefIdeal.Read Cert.SwigluParts
open Cert.DhuIdeal.Prod (gate gateSlope)
open Cert.SwigluIdeal.Prod (pairOf prod saved act)

section ReferenceA

variable (X : (⟨2, ![4096, 2048]⟩ : Shape).Idx → EReal) (W : (⟨3, ![4, 2048, 2816]⟩ : Shape).Idx → EReal)

/-- The plain program's columns of the two halves. -/
theorem swiglu_a_h (y : (⟨2, ![4096, 2560]⟩ : Shape).Idx) : val_main_v16 (F := Ideal) X W y = prod X W (y 0).val (col 1280 0 (y 1).val) := by
  have y1 : (y 1).val < 2560 := (y 1).isLt
  have q1 : ((y 0).val * 2560 + (y 1).val) / 2560 = (y 0).val := by omega
  have q2 : ((y 0).val * 2560 + (y 1).val) / 1280 % 2 = (y 1).val / 1280 := by omega
  have q3 : ((y 0).val * 2560 + (y 1).val) % 1280 = (y 1).val % 1280 := by omega
  rw [val_main_v16_apply, val_main_v15_apply, val_main_v14_apply]
  refine (swiglu_h X W _).trans (congrArg₂ (prod X W) ?_ ?_)
  · show _ / 5632 = _
    dsimp only
    rw [q1, q2, q3]
    omega
  · show _ % 5632 = _
    dsimp only
    unfold col
    rw [q1, q2, q3]
    omega

theorem swiglu_a_u (y : (⟨2, ![4096, 2560]⟩ : Shape).Idx) : val_main_v19 (F := Ideal) X W y = prod X W (y 0).val (5632 + col 1280 0 (y 1).val) := by
  have y1 : (y 1).val < 2560 := (y 1).isLt
  have q1 : ((y 0).val * 2560 + (y 1).val) / 2560 = (y 0).val := by omega
  have q2 : ((y 0).val * 2560 + (y 1).val) / 1280 % 2 = (y 1).val / 1280 := by omega
  have q3 : ((y 0).val * 2560 + (y 1).val) % 1280 = (y 1).val % 1280 := by omega
  rw [val_main_v19_apply, val_main_v18_apply, val_main_v17_apply]
  refine (swiglu_u X W _).trans (congrArg₂ (fun r l => prod X W r (5632 + l)) ?_ ?_)
  · show _ / 5632 = _
    dsimp only
    rw [q1, q2, q3]
    omega
  · show _ % 5632 = _
    dsimp only
    unfold col
    rw [q1, q2, q3]
    omega

theorem swiglu_a_sig (y : (⟨2, ![4096, 2560]⟩ : Shape).Idx) : val_main_v20_2 (F := Ideal) X W y = Ideal.logistic (val_main_v16 (F := Ideal) X W y) := by
  unfold Ideal.logistic
  rw [← Ideal.ofBits_one_f32]
  rfl

theorem swiglu_a_gate (y : (⟨2, ![4096, 2560]⟩ : Shape).Idx) : val_main_v20_0 (F := Ideal) X W y = gate (prod X W (y 0).val (col 1280 0 (y 1).val)) := by
  rw [val_main_v20_0_apply, swiglu_a_sig, swiglu_a_h]
  rfl

theorem swiglu_a_act (y : (⟨2, ![4096, 2560]⟩ : Shape).Idx) : val_main_v27 (F := Ideal) X W y = act X W (y 0).val (col 1280 0 (y 1).val) := by
  rw [val_main_v27_apply, val_main_v26_apply, swiglu_a_gate, swiglu_a_u]
  rfl

/-- The plain forward computation, at an element. -/
theorem swiglu_a_saved (hX : ∀ y, ∃ x : ℝ, X y = x) (hW : ∀ y, ∃ x : ℝ, W y = x) (y : (⟨3, ![2, 4096, 2560]⟩ : Shape).Idx) :
    val_main_v25 (F := Ideal) X W y = saved X W (y 0).val (y 1).val (col 1280 0 (y 2).val) := by
  rw [val_main_v25_apply]
  refine (stack_apply _ _ _ Cert.SwigluARefIdeal.Facts₀.concatenates_S1x4096x2560_S1x4096x2560_S2x4096x2560_d0 y).trans ?_
  unfold saved pairOf
  split
  · refine Eq.trans ?_ (slope_real X W hX hW (prod X W (y 1).val (col 1280 0 (y 2).val)) (y 1).val (5632 + col 1280 0 (y 2).val))
    rw [val_main_v21_apply, val_main_call1_v1_apply, val_main_call1_v2_apply, val_main_call1_v0_apply, val_main_v20_1_apply,
      val_main_call0_v7_apply, swiglu_a_sig, swiglu_a_h, swiglu_a_u, val_main_call0_v6_apply, val_main_call0_cst_1_apply,
      show FloatOps.ofBits (F := Ideal) .f32 0x3F800000#32 = (1 : EReal) from Ideal.ofBits_one_f32]
    rfl
  · exact swiglu_a_gate X W _

end ReferenceA

/-- The claim: under the precondition both programs end with the same two arrays on every device. -/
theorem swiglu_a [Cert.Pre_swiglu_finite.Facts] : @Cert.algebraic_SwigluAIdeal_SwigluARefIdeal_pre_swiglu_finite Cert.SwigluAIdeal.Gen.facts Cert.SwigluARefIdeal.Gen.facts _ := by
  intro m g m' g' hpre hargs
  refine ⟨fun c => fun y : Cert.SwigluAIdeal.S2x4096x2560.Idx => saved (m (c.tc.loc Cert.SwigluAIdeal.main_arg0)) (m (c.tc.loc Cert.SwigluAIdeal.main_arg1))
      (y 0).val (y 1).val (col 1280 0 (y 2).val),
    fun c => fun y : Cert.SwigluAIdeal.S4096x2560.Idx => act (m (c.tc.loc Cert.SwigluAIdeal.main_arg0)) (m (c.tc.loc Cert.SwigluAIdeal.main_arg1))
      (y 0).val (col 1280 0 (y 1).val), ?_, ?_⟩
  · refine (θ_run _ _ _).mono (fun r h c => ?_) (Cert.SwigluAIdeal.Value.run_blocks m g)
    obtain ⟨h0, h1, hk⟩ := h c
    exact ⟨h0.trans (Cert.SwigluAIdeal.Prod.final_saved m c), h1.trans (Cert.SwigluAIdeal.Prod.final_act m c), hk⟩
  · refine (θ_run _ _ _).mono (fun r h c => ?_) (Cert.SwigluARefIdeal.Value.run m' g')
    obtain ⟨h0, h1, hk⟩ := h c
    obtain ⟨e0, e1⟩ := hargs c
    obtain ⟨r0, r1⟩ := swiglu_real _ _ (hpre c)
    refine ⟨(h0.trans (val_main_v25_eq m' c)).trans ?_, (h1.trans (val_main_v27_eq m' c)).trans ?_, hk⟩
    · rw [e0, e1]
      exact funext fun y => swiglu_a_saved _ _ r0 r1 y
    · rw [e0, e1]
      exact funext fun y => swiglu_a_act _ _ y

end Cert.Products
end
-- ==== Proof.SwigluB.lean ====
/-
  The second half-column call of the first feed-forward's gated product. A point takes 512 rows against its columns of one
  chip's part of the weight's two halves, and writes the pair the backward pass needs, the gate's slope times the value
  and the gate, and the gated value.
-/
module

public import proofs.«01_k».proof.Defs
public import proofs.«01_k».proof.Proof.SwigluParts
public import proofs.«01_k».proof.Proof.Gen.SwigluBIdeal.Value
public import proofs.«01_k».proof.Proof.Gen.SwigluBRefIdeal.Run
public import proofs.«01_k».proof.Proof.Gen.SwigluBRefIdeal.Read

@[expose] public section

set_option maxRecDepth 16384

noncomputable section

namespace Cert.SwigluBIdeal.Prod

open Cert.SwigluBIdeal Cert.SwigluBIdeal.Gen Cert.Products Cert.SwigluParts Idealize.ShloMosaic Idealize.ShloMosaic.TcCoe Idealize.SL.Sem
open Cert.DhuIdeal.Prod (gate)
open Cert.SwigluIdeal.Prod (pairOf row saved act gate_eq slope_eq hz)

variable (m : (ℓ : Loc nD τ sig) → Buf (Elt Ideal) ℓ)

section Body

variable (x0 : Vec Ideal S512x2048 .bf16) (x1 x2 : Vec Ideal S2048x1536 .bf16)

/-- The two halves' products. -/
theorem h_prod (y : S512x1536.Idx) : k0_pay2 x0 x1 y = row x0 x1 (y 0).val (y 1).val := by
  unfold k0_pay2
  dsimp only
  rw [shapeCast_self]
  exact matmul_nn (φ := .bf16) (ψ := .bf16) dot_S512x2048_S2048x1536_S512x1536_1_0_0_1_n_n rfl rfl rfl rfl rfl rfl none x0 x1 y

theorem u_prod (y : S512x1536.Idx) : k0_pay3 x0 x2 y = row x0 x2 (y 0).val (y 1).val := h_prod x0 x2 y

/-- What the three stores hold. -/
theorem slope_pay (x : S1x512x1536.Idx) : k0_pay6 x0 x1 x0 x2 x = savedBlk x0 x1 x2 0 (x 1).val (x 2).val := by
  unfold k0_pay6
  refine (shapeCast_lead _ _ x).trans ?_
  refine Eq.trans ?_ (congrArg₂ (pairOf 0) (h_prod x0 x1 (ix2 (x 1) (x 2))) (u_prod x0 x2 (ix2 (x 1) (x 2))))
  exact slope_eq (k0_pay2 x0 x1 (ix2 (x 1) (x 2))) (k0_pay3 x0 x2 (ix2 (x 1) (x 2)))

theorem gate_pay (x : S1x512x1536.Idx) : k0_pay7 x0 x1 x = savedBlk x0 x1 x2 1 (x 1).val (x 2).val := by
  unfold k0_pay7
  refine (shapeCast_lead _ _ x).trans ?_
  refine Eq.trans ?_ (congrArg gate (h_prod x0 x1 (ix2 (x 1) (x 2))))
  exact gate_eq (k0_pay2 x0 x1 (ix2 (x 1) (x 2)))

theorem act_pay (x : S512x1536.Idx) : k0_pay1 (k0_pay8 x0 x1 x0 x2) x = actBlk x0 x1 x2 (x 0).val (x 1).val := by
  unfold k0_pay1
  dsimp only
  rw [shapeCast_self]
  refine Eq.trans ?_ (congrArg₂ (fun h u => gate h * u) (h_prod x0 x1 x) (u_prod x0 x2 x))
  exact congrArg (· * k0_pay3 x0 x2 x) (gate_eq (k0_pay2 x0 x1 x))

/-- The pair's block, at the place a store of part `p` puts an index. -/
theorem saved_at (p : ℕ) (hi) (x : S1x512x1536.Idx) :
    (fun y : S2x512x1536.Idx => savedBlk x0 x1 x2 (y 0).val (y 1).val (y 2).val) ((Rect.unit (s := S2x512x1536) ![p, 0, 0] S1x512x1536.size hi).emb x)
      = savedBlk x0 x1 x2 p (x 1).val (x 2).val := by
  have h0 : (x 0).val < 1 := (x 0).isLt
  dsimp only
  rw [emb_val, emb_val, emb_val, show (x 0).val = 0 by omega]
  simp

/-- The two blocks a point writes. -/
theorem saved_out (y : S2x512x1536.Idx) : out0_3 x0 x1 x2 y = savedBlk x0 x1 x2 (y 0).val (y 1).val (y 2).val := by
  unfold out0_3
  refine View.canon_apply_of_pieces (Val := Elt Ideal) (S := S2x512x1536) (e := .bf16) (fun y : S2x512x1536.Idx => savedBlk x0 x1 x2 (y 0).val (y 1).val (y 2).val) _ ?_ y
    (cover0_3 _ _ y)
  simp only [View.ld_unit_zero (S := S512x2048) hz, View.ld_unit_zero (S := S2048x1536) hz]
  exact List.forall_mem_cons.2 ⟨fun x => (gate_pay x0 x1 x2 x).trans (saved_at x0 x1 x2 1 inb_S2x512x1536_S1x512x1536_1_0_0 x).symm,
    List.forall_mem_cons.2 ⟨fun x => (slope_pay x0 x1 x2 x).trans (saved_at x0 x1 x2 0 inb_S2x512x1536_S1x512x1536_0_0_0 x).symm, fun _ hp => absurd hp List.not_mem_nil⟩⟩

theorem act_out (y : S512x1536.Idx) : out0_4 x0 x1 x2 y = actBlk x0 x1 x2 (y 0).val (y 1).val := by
  unfold out0_4
  rw [View.canon_unit_zero (S := S512x1536) hz]
  simp only [View.ld_unit_zero (S := S512x2048) hz, View.ld_unit_zero (S := S2048x1536) hz]
  exact act_pay x0 x1 x2 y

end Body

/-- Where the windows' blocks lie. -/
theorem idx : ∀ t : Fin cfg0.N, t.val < 16 ∧ win0_0.index t = ![t.val % 8, 0] ∧ win0_1.index t = ![2048 * (t.val / 8), 1280] ∧ win0_2.index t = ![2048 * (2 + t.val / 8), 1280] ∧
    win0_3.index t = ![0, t.val % 8, t.val / 8] ∧ win0_4.index t = ![t.val % 8, t.val / 8] :=
  (by decide +kernel : ∀ t : Fin grid0.N, _)

theorem w0_eq (c : Dev nD) (t : Fin cfg0.N) (y : S512x2048.Idx) :
    iblk m c 0 t y = get2 (m ((c : Thread nD τ).loc main_arg0)) (512 * (t.val % 8) + (y 0).val) (y 1).val := by
  obtain ⟨ht, e0, e1, e2, e3, e4⟩ := idx t
  unfold iblk
  blk_simp [e0]
  refine (congrFun (V_main_arg0 m c) _).trans (get2_eq (m ((c : Thread nD τ).loc main_arg0)) _ _ _ ?_ ?_) <;> blk_simp [e0] <;> (try simp) <;> omega

/-- The weight's chip parts on top of each other, as the launch finds them, within part `p`. -/
theorem weight_at (c : Dev nD) (p : ℕ) (j : S8192x2816.Idx) (y : S2048x1536.Idx) (h0 : (j 0).val = 2048 * p + (y 0).val) (h1 : (j 1).val = 1280 + (y 1).val) :
    V m c main_v0 j = get3 (m ((c : Thread nD τ).loc main_arg1)) p (y 0).val (1280 + (y 1).val) := by
  unfold_abbrev_sides
  after_results
  exact MixProj.weight (m ((c : Thread nD τ).loc main_arg1)) _ j p _ _ (y 0).isLt h0 h1

theorem w1_eq (c : Dev nD) (t : Fin cfg0.N) (y : S2048x1536.Idx) :
    iblk m c 1 t y = get3 (m ((c : Thread nD τ).loc main_arg1)) (t.val / 8) (y 0).val (1280 + (y 1).val) := by
  obtain ⟨ht, e0, e1, e2, e3, e4⟩ := idx t
  have k : ∀ a, ((win0_1.blk t).view.emb y a).val = win0_1.index t a + 1 * (y a).val := fun a => rfl
  unfold iblk
  blk_simp [e1]
  refine (weight_at m c (t.val / 8) _ y ?_ ?_).trans ?_
  · rw [k, e1]; simp
  · rw [k, e1]; simp
  · simp

theorem w2_eq (c : Dev nD) (t : Fin cfg0.N) (y : S2048x1536.Idx) :
    iblk m c 2 t y = get3 (m ((c : Thread nD τ).loc main_arg1)) (2 + t.val / 8) (y 0).val (1280 + (y 1).val) := by
  obtain ⟨ht, e0, e1, e2, e3, e4⟩ := idx t
  have k : ∀ a, ((win0_2.blk t).view.emb y a).val = win0_2.index t a + 1 * (y a).val := fun a => rfl
  unfold iblk
  blk_simp [e2]
  refine (weight_at m c (2 + t.val / 8) _ y ?_ ?_).trans ?_
  · rw [k, e2]; simp
  · rw [k, e2]; simp
  · simp

/-- The elements of a point's two blocks, of the argument arrays. -/
theorem point_saved (c : Dev nD) (t : Fin cfg0.N) (p r l : ℕ) (hr : r < 512) (hl : l < 1536) :
    savedBlk (w := 1536) (iblk m c 0 t) (iblk m c 1 t) (iblk m c 2 t) p r l
      = saved (m ((c : Thread nD τ).loc main_arg0)) (m ((c : Thread nD τ).loc main_arg1)) p (t.val % 8 * 512 + r) (col 1536 1280 (t.val / 8 * 1536 + l)) :=
  savedBlk_eq _ _ _ _ _ (t.val % 8) (t.val / 8) 1280 (by decide) (w0_eq m c t) (w1_eq m c t) (w2_eq m c t) p r l hr hl

theorem point_act (c : Dev nD) (t : Fin cfg0.N) (r l : ℕ) (hr : r < 512) (hl : l < 1536) :
    actBlk (w := 1536) (iblk m c 0 t) (iblk m c 1 t) (iblk m c 2 t) r l
      = act (m ((c : Thread nD τ).loc main_arg0)) (m ((c : Thread nD τ).loc main_arg1)) (t.val % 8 * 512 + r) (col 1536 1280 (t.val / 8 * 1536 + l)) :=
  actBlk_eq _ _ _ _ _ (t.val % 8) (t.val / 8) 1280 (by decide) (w0_eq m c t) (w1_eq m c t) (w2_eq m c t) r l hr hl

/-- The result arrays, of the argument arrays. -/
theorem final_saved (c : Dev nD) : (dats m 0 c).arrAt 3 cfg0.N
    = fun y : S2x4096x3072.Idx => saved (m ((c : Thread nD τ).loc main_arg0)) (m ((c : Thread nD τ).loc main_arg1)) (y 0).val (y 1).val (col 1536 1280 (y 2).val) := by
  refine (dats m 0 c).arrAt_eq_of_covers 3 _ (by decide +kernel) fun t hf y => ?_
  obtain ⟨ht, e0, e1, e2, e3, e4⟩ := idx t
  blk_simp
  rw [after0_3]
  refine (saved_out _ _ _ y).trans ((point_saved m c t _ _ _ (y 1).isLt (y 2).isLt).trans ?_)
  rw [show win0_3.index t 0 = 0 from congrFun e3 0, show win0_3.index t 1 = t.val % 8 from congrFun e3 1, show win0_3.index t 2 = t.val / 8 from congrFun e3 2,
    Nat.zero_mul, Nat.zero_add]

theorem final_act (c : Dev nD) : (dats m 0 c).arrAt 4 cfg0.N
    = fun y : S4096x3072.Idx => act (m ((c : Thread nD τ).loc main_arg0)) (m ((c : Thread nD τ).loc main_arg1)) (y 0).val (col 1536 1280 (y 1).val) := by
  refine (dats m 0 c).arrAt_eq_of_covers 4 _ (by decide +kernel) fun t hf y => ?_
  obtain ⟨ht, e0, e1, e2, e3, e4⟩ := idx t
  blk_simp
  rw [after0_4]
  refine (act_out _ _ _ y).trans ((point_act m c t _ _ (y 0).isLt (y 1).isLt).trans ?_)
  rw [show win0_4.index t 0 = t.val % 8 from congrFun e4 0, show win0_4.index t 1 = t.val / 8 from congrFun e4 1]

end Cert.SwigluBIdeal.Prod

namespace Cert.Products

open Idealize.ShloMosaic Idealize.ShloMosaic.TcCoe Idealize.SL.Sem Cert.SwigluBRefIdeal.Read Cert.SwigluParts
open Cert.DhuIdeal.Prod (gate gateSlope)
open Cert.SwigluIdeal.Prod (pairOf prod saved act)

section ReferenceB

variable (X : (⟨2, ![4096, 2048]⟩ : Shape).Idx → EReal) (W : (⟨3, ![4, 2048, 2816]⟩ : Shape).Idx → EReal)

/-- The plain program's columns of the two halves. -/
theorem swiglu_b_h (y : (⟨2, ![4096, 3072]⟩ : Shape).Idx) : val_main_v16 (F := Ideal) X W y = prod X W (y 0).val (col 1536 1280 (y 1).val) := by
  have y1 : (y 1).val < 3072 := (y 1).isLt
  have q1 : ((y 0).val * 3072 + (y 1).val) / 3072 = (y 0).val := by omega
  have q2 : ((y 0).val * 3072 + (y 1).val) / 1536 % 2 = (y 1).val / 1536 := by omega
  have q3 : ((y 0).val * 3072 + (y 1).val) % 1536 = (y 1).val % 1536 := by omega
  rw [val_main_v16_apply, val_main_v15_apply, val_main_v14_apply]
  refine (swiglu_h X W _).trans (congrArg₂ (prod X W) ?_ ?_)
  · show _ / 5632 = _
    dsimp only
    rw [q1, q2, q3]
    omega
  · show _ % 5632 = _
    dsimp only
    unfold col
    rw [q1, q2, q3]
    omega

theorem swiglu_b_u (y : (⟨2, ![4096, 3072]⟩ : Shape).Idx) : val_main_v19 (F := Ideal) X W y = prod X W (y 0).val (5632 + col 1536 1280 (y 1).val) := by
  have y1 : (y 1).val < 3072 := (y 1).isLt
  have q1 : ((y 0).val * 3072 + (y 1).val) / 3072 = (y 0).val := by omega
  have q2 : ((y 0).val * 3072 + (y 1).val) / 1536 % 2 = (y 1).val / 1536 := by omega
  have q3 : ((y 0).val * 3072 + (y 1).val) % 1536 = (y 1).val % 1536 := by omega
  rw [val_main_v19_apply, val_main_v18_apply, val_main_v17_apply]
  refine (swiglu_u X W _).trans (congrArg₂ (fun r l => prod X W r (5632 + l)) ?_ ?_)
  · show _ / 5632 = _
    dsimp only
    rw [q1, q2, q3]
    omega
  · show _ % 5632 = _
    dsimp only
    unfold col
    rw [q1, q2, q3]
    omega

theorem swiglu_b_sig (y : (⟨2, ![4096, 3072]⟩ : Shape).Idx) : val_main_v20_2 (F := Ideal) X W y = Ideal.logistic (val_main_v16 (F := Ideal) X W y) := by
  unfold Ideal.logistic
  rw [← Ideal.ofBits_one_f32]
  rfl

theorem swiglu_b_gate (y : (⟨2, ![4096, 3072]⟩ : Shape).Idx) : val_main_v20_0 (F := Ideal) X W y = gate (prod X W (y 0).val (col 1536 1280 (y 1).val)) := by
  rw [val_main_v20_0_apply, swiglu_b_sig, swiglu_b_h]
  rfl

theorem swiglu_b_act (y : (⟨2, ![4096, 3072]⟩ : Shape).Idx) : val_main_v27 (F := Ideal) X W y = act X W (y 0).val (col 1536 1280 (y 1).val) := by
  rw [val_main_v27_apply, val_main_v26_apply, swiglu_b_gate, swiglu_b_u]
  rfl

/-- The plain forward computation, at an element. -/
theorem swiglu_b_saved (hX : ∀ y, ∃ x : ℝ, X y = x) (hW : ∀ y, ∃ x : ℝ, W y = x) (y : (⟨3, ![2, 4096, 3072]⟩ : Shape).Idx) :
    val_main_v25 (F := Ideal) X W y = saved X W (y 0).val (y 1).val (col 1536 1280 (y 2).val) := by
  rw [val_main_v25_apply]
  refine (stack_apply _ _ _ Cert.SwigluBRefIdeal.Facts₀.concatenates_S1x4096x3072_S1x4096x3072_S2x4096x3072_d0 y).trans ?_
  unfold saved pairOf
  split
  · refine Eq.trans ?_ (slope_real X W hX hW (prod X W (y 1).val (col 1536 1280 (y 2).val)) (y 1).val (5632 + col 1536 1280 (y 2).val))
    rw [val_main_v21_apply, val_main_call1_v1_apply, val_main_call1_v2_apply, val_main_call1_v0_apply, val_main_v20_1_apply,
      val_main_call0_v7_apply, swiglu_b_sig, swiglu_b_h, swiglu_b_u, val_main_call0_v6_apply, val_main_call0_cst_1_apply,
      show FloatOps.ofBits (F := Ideal) .f32 0x3F800000#32 = (1 : EReal) from Ideal.ofBits_one_f32]
    rfl
  · exact swiglu_b_gate X W _

end ReferenceB

/-- The claim: under the precondition both programs end with the same two arrays on every device. -/
theorem swiglu_b [Cert.Pre_swiglu_finite.Facts] : @Cert.algebraic_SwigluBIdeal_SwigluBRefIdeal_pre_swiglu_finite Cert.SwigluBIdeal.Gen.facts Cert.SwigluBRefIdeal.Gen.facts _ := by
  intro m g m' g' hpre hargs
  refine ⟨fun c => fun y : Cert.SwigluBIdeal.S2x4096x3072.Idx => saved (m (c.tc.loc Cert.SwigluBIdeal.main_arg0)) (m (c.tc.loc Cert.SwigluBIdeal.main_arg1))
      (y 0).val (y 1).val (col 1536 1280 (y 2).val),
    fun c => fun y : Cert.SwigluBIdeal.S4096x3072.Idx => act (m (c.tc.loc Cert.SwigluBIdeal.main_arg0)) (m (c.tc.loc Cert.SwigluBIdeal.main_arg1))
      (y 0).val (col 1536 1280 (y 1).val), ?_, ?_⟩
  · refine (θ_run _ _ _).mono (fun r h c => ?_) (Cert.SwigluBIdeal.Value.run_blocks m g)
    obtain ⟨h0, h1, hk⟩ := h c
    exact ⟨h0.trans (Cert.SwigluBIdeal.Prod.final_saved m c), h1.trans (Cert.SwigluBIdeal.Prod.final_act m c), hk⟩
  · refine (θ_run _ _ _).mono (fun r h c => ?_) (Cert.SwigluBRefIdeal.Value.run m' g')
    obtain ⟨h0, h1, hk⟩ := h c
    obtain ⟨e0, e1⟩ := hargs c
    obtain ⟨r0, r1⟩ := swiglu_real _ _ (hpre c)
    refine ⟨(h0.trans (val_main_v25_eq m' c)).trans ?_, (h1.trans (val_main_v27_eq m' c)).trans ?_, hk⟩
    · rw [e0, e1]
      exact funext fun y => swiglu_b_saved _ _ r0 r1 y
    · rw [e0, e1]
      exact funext fun y => swiglu_b_act _ _ y

end Cert.Products
end
-- ==== Proof.Adam.lean ====
module

public import proofs.«01_k».proof.Proof.NormMod

/-! # One element of the optimiser

Every optimiser call moves each parameter by itself: of the weight, its summed gradient and the
two moments it makes the two moments after the step and the change of the weight. The three are
written once here, over the extended reals, with the step's constants as the bits of the float32
numbers both programs hold. A block's element and the whole array's element are the same
function of the same four numbers, so nothing but the place of a block is left to each call. -/

@[expose] public section

noncomputable section

namespace Cert.Adam

open Idealize.ShloMosaic
open Cert.NormIdeal.Prod (word)

/-- The first moment after the step, of the first moment and the gradient. -/
def newM (m g : EReal) : EReal := word 0x3F666666#32 * m + word 0x3DCCCCCD#32 * g

/-- The second moment after the step, of the second moment and the gradient. -/
def newV (v g : EReal) : EReal := word 0x3F7FBE77#32 * v + word 0x3A83126F#32 * (g * g)

/-- The change of the weight, of the weight, the gradient and the two moments: minus the step's
length times the corrected first moment over the root of the corrected second, and the decay. -/
def delta (w g m v : EReal) : EReal :=
  word 0xBA83126F#32 *
    (Ideal.div (Ideal.div (newM m g) (word 0x3F26BD02#32)) (Ideal.sqrt (Ideal.div (newV v g) (word 0x3C231ACC#32)) + word 0x322BCC77#32)
      + word 0x3C23D70A#32 * w)

variable {S : Shape} (W G M V : S.Idx → EReal)

/-- The three, of arrays of any one shape. -/
def moved : S.Idx → EReal := fun y => delta (W y) (G y) (M y) (V y)

def firstMoment : S.Idx → EReal := fun y => newM (M y) (G y)

def secondMoment : S.Idx → EReal := fun y => newV (V y) (G y)

end Cert.Adam
end
end
-- ==== Proof.AdamIn.lean ====
module

public import proofs.«01_k».proof.Proof.Adam
public import proofs.«01_k».proof.Proof.Gen.AdamInIdeal.Value
public import proofs.«01_k».proof.Proof.Gen.AdamInRefIdeal.Run

/-! # The optimiser's step of an input weight of the feed-forward

Every point of the launch holds 128 rows of the weight, of its summed gradient and of the two
moments, and writes the same rows of the gradient, the change and the two new moments. -/

@[expose] public section

noncomputable section

namespace Cert.AdamInIdeal.Prod

open Cert.AdamInIdeal Cert.AdamInIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S2048x2816.Idx → EReal := m ((c : Thread nD τ).loc main_arg0)
abbrev arG (c : Dev nD) : S2048x2816.Idx → EReal := m ((c : Thread nD τ).loc main_arg1)
abbrev arM (c : Dev nD) : S2048x2816.Idx → EReal := m ((c : Thread nD τ).loc main_arg2)
abbrev arV (c : Dev nD) : S2048x2816.Idx → EReal := m ((c : Thread nD τ).loc main_arg3)

/-- What a point writes, of the blocks it holds. -/
theorem out_eq (w g u v : Vec Ideal S128x2816 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3 k0_pay6
  dsimp only
  simp only [View.canon_unit_zero (S := S128x2816) hz, View.ld_unit_zero (S := S128x2816) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamInIdeal.Prod

namespace Cert.Products

open Cert.AdamInIdeal Cert.AdamInIdeal.Gen Cert.AdamInIdeal.Prod Cert.Adam
open Idealize.ShloMosaic Idealize.ShloMosaic.TcCoe Idealize.SL.Sem

/-- The claim: both programs end with the same four arrays on every device. -/
theorem adam_in : @Cert.algebraic_AdamInIdeal_AdamInRefIdeal Cert.AdamInIdeal.Gen.facts Cert.AdamInRefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamInIdeal.Value.run_blocks m g),
    (θ_run _ _ _).mono (fun r h c => ?_) (Cert.AdamInRefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.AdamAda.lean ====
module

public import proofs.«01_k».proof.Proof.Adam
public import proofs.«01_k».proof.Proof.Swiglu
public import proofs.«01_k».proof.Proof.Gen.AdamAdaIdeal.Frame
public import Idealize.ShloMosaic.Lib.Pipeline.Value
public import proofs.«01_k».proof.Proof.Gen.AdamAdaRefIdeal.Run
public import proofs.«01_k».proof.Proof.Gen.AdamAdaRefIdeal.Read

/-! # The modulator's weight: its gradient and the optimiser's step of it

The weight's gradient is the product of the gated conditioning of the eight devices, turned on its
side, with the eight devices' gradients of the modulation: at a row and a column a sum of eight
products. The kernel adds them one after the other, each a column stretched over a row, with the
gate through the half-tangent; the plain derivative is a product of matrices turned on its side.
The step after it is the one every weight takes. -/

@[expose] public section

noncomputable section

namespace Cert.AdamAdaIdeal.Prod

open Cert.AdamAdaIdeal Cert.AdamAdaIdeal.Gen Cert.Adam Cert.Products Idealize.ShloMosaic Idealize.ShloMosaic.TcCoe Idealize.SL.Sem
open Cert.NormIdeal.Prod (hz)
open Cert.DhuIdeal.Prod (gate)
open Cert.SwigluIdeal.Prod (gate_eq)

variable (m : (ℓ : Loc nD τ sig) → Buf (Elt Ideal) ℓ)

/-- The sum of the eight products at a row and a column, of the conditioning turned on its side and the gradients. -/
def eight {a b : ℕ} (X : (⟨2, ![a, 8]⟩ : Shape).Idx → EReal) (D : (⟨2, ![8, b]⟩ : Shape).Idx → EReal) : (⟨2, ![a, b]⟩ : Shape).Idx → EReal :=
  fun y => ∑ k ∈ Finset.range 8, gate (get2 X (y 0).val k) * get2 D k (y 1).val

/-- The gated conditioning of a block. -/
theorem gated (x0 : Vec Ideal S256x8 .f32) {r k : ℕ} (hr : r < 256) (hk : k < 8) : get2 (a := 256) (b := 8) (k0_pay4 x0) r k = gate (get2 x0 r k) := by
  refine get2_of (a := 256) (b := 8) _ (fun r k => gate (get2 x0 r k)) (fun y => ?_) hr hk
  refine Eq.trans ?_ (congrArg gate (get2_eq x0 y _ _ rfl rfl))
  unfold k0_pay4
  rw [shapeCast_self]
  exact gate_eq (x0 y)

/-- One of the eight products, as the kernel makes it. -/
theorem term (x0 : Vec Ideal S256x8 .f32) (x1 : Vec Ideal S8x1536 .f32) (k : ℕ) (hk : k < 8) (hs : S256x8.Slices ![0, k] S256x1)
    (hi : ∀ a, ![k, 0] a + S1x1536.size a ≤ S8x1536.size a) (y : S256x1536.Idx) :
    mulf (F := Ideal) (φ := .f32) (broadcastTo S256x1536 (extractStridedSlice S256x1 ![0, k] (k0_pay4 x0) hs) broadcasts_S256x1_S256x1536)
        (broadcastTo S256x1536 (View.ld x1 (Rect.unit (s := S8x1536) ![k, 0] S1x1536.size hi)) broadcasts_S1x1536_S256x1536) y
      = gate (get2 x0 (y 0).val k) * get2 x1 k (y 1).val := by
  have y0 : (y 0).val < 256 := (y 0).isLt
  refine congrArg₂ (· * ·) ?_ ?_
  · refine (col_apply _ _ y).trans ((get2_of (a := 256) (b := 1) _ (fun r l => get2 (a := 256) (b := 8) (k0_pay4 x0) r (k + l)) (fun z => ?_) y0 Nat.one_pos).trans (gated x0 y0 hk))
    have z1 : (z 1).val < 1 := (z 1).isLt
    exact (extractStridedSlice_apply _ _ hs z (ix2 (z 0) ⟨k + (z 1).val, by omega⟩) fun a => by match a with | 0 => simp | 1 => simp).trans (get2_eq _ _ _ _ rfl rfl)
  · refine (row_apply _ _ y).trans (get2_of (a := 1) (b := 1536) _ (fun r l => get2 x1 (k + r) l) (fun z => ?_) Nat.one_pos (y 1).isLt)
    refine get2_eq x1 _ _ _ ?_ ?_ <;> simp [emb_val]

/-- The gradient of a block, of the blocks of the conditioning and of the gradients. -/
theorem grad_eq (x0 : Vec Ideal S256x8 .f32) (x1 : Vec Ideal S8x1536 .f32) (x2 x3 x4 : Vec Ideal S256x1536 .f32) :
    k0_pay7 (k0_pay13 x0 x1 x2 x3 x4) (k0_pay14 x0 x1 x2 x3 x4) (k0_pay15 x0 x1 x2 x3 x4) (View.ld x1 r0_6) (View.ld x1 r0_7) (View.ld x1 r0_8) = eight x0 x1 := by
  unfold k0_pay13 k0_pay14 k0_pay15 k0_pay6 k0_pay7 k0_pay5
  simp only [View.ld_unit_zero (S := S256x8) hz]
  funext y
  unfold eight
  simp only [Finset.sum_range_succ, Finset.sum_range_zero, zero_add]
  exact congrArg₂ (· + ·) (congrArg₂ (· + ·) (congrArg₂ (· + ·) (congrArg₂ (· + ·) (congrArg₂ (· + ·) (congrArg₂ (· + ·) (congrArg₂ (· + ·)
    (term x0 x1 0 (by omega) _ _ y) (term x0 x1 1 (by omega) _ _ y)) (term x0 x1 2 (by omega) _ _ y)) (term x0 x1 3 (by omega) _ _ y)) (term x0 x1 4 (by omega) _ _ y))
    (term x0 x1 5 (by omega) _ _ y)) (term x0 x1 6 (by omega) _ _ y)) (term x0 x1 7 (by omega) _ _ y)

/-- What a point writes, of the blocks it holds. -/
theorem out_eq (x0 : Vec Ideal S256x8 .f32) (x1 : Vec Ideal S8x1536 .f32) (w u v : Vec Ideal S256x1536 .f32) :
    out0_5 x0 x1 w u v = eight x0 x1 ∧ out0_6 x0 x1 w u v = moved w (eight x0 x1) u v ∧ out0_7 x0 x1 w u v = firstMoment (eight x0 x1) u
      ∧ out0_8 x0 x1 w u v = secondMoment (eight x0 x1) v := by
  unfold out0_5 out0_6 out0_7 out0_8 k0_pay1 k0_pay2 k0_pay3 k0_pay8 k0_pay11 k0_pay12 k0_pay9 k0_pay10
  dsimp only
  simp only [View.canon_unit_zero (S := S256x1536) hz, View.ld_unit_zero (S := S256x1536) hz, shapeCast_self, grad_eq]
  exact ⟨trivial, rfl, rfl, rfl⟩

/-- The argument arrays; the conditioning as the call finds it, turned on its side. -/
abbrev arC (c : Dev nD) : S8x2048.Idx → EReal := m ((c : Thread nD τ).loc main_arg0)
abbrev arT (c : Dev nD) : S2048x8.Idx → EReal := V m c main_v0
abbrev arD (c : Dev nD) : S8x4608.Idx → EReal := m ((c : Thread nD τ).loc main_arg1)
abbrev arW (c : Dev nD) : S2048x4608.Idx → EReal := m ((c : Thread nD τ).loc main_arg2)
abbrev arM (c : Dev nD) : S2048x4608.Idx → EReal := m ((c : Thread nD τ).loc main_arg3)
abbrev arV (c : Dev nD) : S2048x4608.Idx → EReal := m ((c : Thread nD τ).loc main_arg4)

theorem turned (c : Dev nD) (y : S2048x8.Idx) : arT m c y = get2 (arC m c) (y 1).val (y 0).val := by
  unfold_abbrev_sides
  after_results
  exact (transpose_apply [1, 0] _ transposes_S8x2048_S2048x8_1_0 y (ix2 (y 1) (y 0)) fun b => by match b with | 0 => rfl | 1 => rfl).trans (get2_eq _ _ _ _ rfl rfl)

/-- Where the windows' blocks lie. -/
theorem idx : ∀ t : Fin cfg0.N, t.val < 24 ∧ win0_0.index t = ![t.val / 3, 0] ∧ win0_1.index t = ![0, t.val % 3] ∧ win0_5.index t = ![t.val / 3, t.val % 3] :=
  (by decide +kernel : ∀ t : Fin grid0.N, _)

/-- The sum of a block's rows and columns is the whole sum's at the block's place. -/
theorem eight_blk (c : Dev nD) (t : Fin cfg0.N) : eight (a := 256) (b := 1536) (iblk m c 0 t) (iblk m c 1 t) = eight (arT m c) (arD m c) ∘ (win0_5.blk t).view.emb := by
  obtain ⟨ht, e0, e1, e5⟩ := idx t
  funext y
  have y0 : (y 0).val < 256 := (y 0).isLt
  have y1 : (y 1).val < 1536 := (y 1).isLt
  have h0 : ∀ z : S256x8.Idx, iblk m c 0 t z = get2 (arT m c) (256 * (t.val / 3) + (z 0).val) (z 1).val := fun z => by
    unfold iblk
    blk_simp [e0]
    refine get2_eq (arT m c) _ _ _ ?_ ?_ <;> blk_simp [e0] <;> (try simp) <;> omega
  have h1 : ∀ z : S8x1536.Idx, iblk m c 1 t z = get2 (arD m c) (z 0).val (1536 * (t.val % 3) + (z 1).val) := fun z => by
    unfold iblk
    blk_simp [e1]
    refine (congrFun (V_main_arg1 m c) _).trans (get2_eq (arD m c) _ _ _ ?_ ?_) <;> blk_simp [e1] <;> (try simp) <;> omega
  have p0 : ((win0_5.blk t).view.emb y 0).val = 256 * (t.val / 3) + (y 0).val := by
    blk_simp [e5]
    simp
    omega
  have p1 : ((win0_5.blk t).view.emb y 1).val = 1536 * (t.val % 3) + (y 1).val := by
    blk_simp [e5]
    simp
    omega
  unfold eight
  refine Finset.sum_congr rfl fun k hk => ?_
  rw [get2_of _ (fun r l => get2 (arT m c) (256 * (t.val / 3) + r) l) h0 y0 (Finset.mem_range.mp hk),
    get2_of _ (fun r l => get2 (arD m c) r (1536 * (t.val % 3) + l)) h1 (Finset.mem_range.mp hk) y1]
  exact congrArg₂ (fun r l => gate (get2 (arT m c) r k) * get2 (arD m c) k l) p0.symm p1.symm

/-- The gradient of the whole weight, of the argument arrays. -/
def grad (C : S8x2048.Idx → EReal) (D : S8x4608.Idx → EReal) : S2048x4608.Idx → EReal :=
  fun y => ∑ k ∈ Finset.range 8, gate (get2 C k (y 0).val) * get2 D k (y 1).val

theorem eight_grad (c : Dev nD) : eight (arT m c) (arD m c) = grad (arC m c) (arD m c) :=
  funext fun y => Finset.sum_congr rfl fun k hk => congrArg (gate · * _)
    (get2_of (arT m c) (fun r l => get2 (arC m c) l r) (turned m c) (y 0).isLt (Finset.mem_range.mp hk))

/-- The blocks of the weight and of the two moments lie where the results' blocks do. -/
theorem rest_blk (c : Dev nD) (t : Fin cfg0.N) : iblk m c 2 t = arW m c ∘ (win0_5.blk t).view.emb ∧ iblk m c 3 t = arM m c ∘ (win0_5.blk t).view.emb
    ∧ iblk m c 4 t = arV m c ∘ (win0_5.blk t).view.emb :=
  ⟨funext fun y => congrFun (V_main_arg2 m c) ((win0_5.blk t).view.emb y), funext fun y => congrFun (V_main_arg3 m c) ((win0_5.blk t).view.emb y),
    funext fun y => congrFun (V_main_arg4 m c) ((win0_5.blk t).view.emb y)⟩

/-- The four result arrays, of the argument arrays. -/
theorem final (c : Dev nD) : (dats m 0 c).arrAt 5 cfg0.N = grad (arC m c) (arD m c) ∧
    (dats m 0 c).arrAt 6 cfg0.N = moved (arW m c) (grad (arC m c) (arD m c)) (arM m c) (arV m c) ∧
    (dats m 0 c).arrAt 7 cfg0.N = firstMoment (grad (arC m c) (arD m c)) (arM m c) ∧ (dats m 0 c).arrAt 8 cfg0.N = secondMoment (grad (arC m c) (arD m c)) (arV m c) := by
  rw [← eight_grad]
  refine ⟨(dats m 0 c).arrAt_eq_of_covers 5 _ (by decide +kernel) fun t _ y => ?_, (dats m 0 c).arrAt_eq_of_covers 6 _ (by decide +kernel) fun t _ y => ?_,
    (dats m 0 c).arrAt_eq_of_covers 7 _ (by decide +kernel) fun t _ y => ?_, (dats m 0 c).arrAt_eq_of_covers 8 _ (by decide +kernel) fun t _ y => ?_⟩ <;> blk_simp
  · rw [after0_5, (out_eq _ _ _ _ _).1, eight_blk]
    rfl
  · rw [after0_6, (out_eq _ _ _ _ _).2.1, eight_blk, (rest_blk m c t).1, (rest_blk m c t).2.1, (rest_blk m c t).2.2]
    rfl
  · rw [after0_7, (out_eq _ _ _ _ _).2.2.1, eight_blk, (rest_blk m c t).2.1]
    rfl
  · rw [after0_8, (out_eq _ _ _ _ _).2.2.2, eight_blk, (rest_blk m c t).2.2]
    rfl

section Reference

open Cert.AdamAdaRefIdeal.Read

variable (C : S8x2048.Idx → EReal) (D : S8x4608.Idx → EReal)

/-- The plain gate, at an element. -/
theorem gate_ref (y : S8x2048.Idx) : val_main_v0 (F := Ideal) C y = gate (C y) := by
  unfold gate Ideal.logistic
  rw [← Ideal.ofBits_one_f32]
  rfl

/-- The plain derivative. -/
theorem grad_ref : val_main_v3 (F := Ideal) C D = grad C D := by
  funext y
  rw [val_main_v3_apply, val_main_v2_apply]
  unfold grad
  rw [Finset.sum_range]
  refine Finset.sum_congr rfl fun k _ => (mul_comm _ _).trans (congrArg₂ (· * ·) ?_ (get2_eq D _ _ _ rfl rfl))
  exact (gate_ref C _).trans (congrArg gate (get2_eq C _ _ _ rfl rfl))

end Reference

end Cert.AdamAdaIdeal.Prod

namespace Cert.Products

open Cert.AdamAdaIdeal Cert.AdamAdaIdeal.Gen Cert.AdamAdaIdeal.Prod Cert.AdamAdaRefIdeal.Read Cert.Adam
open Idealize.ShloMosaic Idealize.ShloMosaic.TcCoe Idealize.SL.Sem

/-- The claim: both programs end with the same four arrays on every device. -/
theorem adam_ada : @Cert.algebraic_AdamAdaIdeal_AdamAdaRefIdeal Cert.AdamAdaIdeal.Gen.facts Cert.AdamAdaRefIdeal.Gen.facts := by
  intro m g m' g' _ hargs
  refine ⟨fun c => grad (arC m c) (arD m c), fun c => moved (arW m c) (grad (arC m c) (arD m c)) (arM m c) (arV m c),
    fun c => firstMoment (grad (arC m c) (arD m c)) (arM m c), fun c => secondMoment (grad (arC m c) (arD m c)) (arV m c), ?_, ?_⟩
  · refine (θ_run _ _ _).mono (fun r h c => ?_) (run_main m g)
    obtain ⟨f5, f6, f7, f8⟩ := final m c
    have kept := fun w hw => ((h c).1 w).trans (((dats m 0 c).arrAt_in w hw _).trans (A_eq m c w))
    exact ⟨((h c).1 5).trans f5, ((h c).1 6).trans f6, ((h c).1 7).trans f7, ((h c).1 8).trans f8,
      ((h c).2 main_arg0 (Pipeline.mem_restRefs_of main_arg0 (by decide) (by decide))).trans (V_main_arg0 m c),
      (kept 1 rfl).trans (V_main_arg1 m c), (kept 2 rfl).trans (V_main_arg2 m c), (kept 3 rfl).trans (V_main_arg3 m c), (kept 4 rfl).trans (V_main_arg4 m c)⟩
  · refine (θ_run _ _ _).mono (fun r h c => ?_) (Cert.AdamAdaRefIdeal.Value.run m' g')
    obtain ⟨h5, h6, h7, h8, hk⟩ := h c
    obtain ⟨e0, e1, e2, e3, e4⟩ := hargs c
    refine ⟨(h5.trans (val_main_v3_eq _ _)).trans ?_, (h6.trans (val_main_v27_eq _ _ _ _ _)).trans ?_, (h7.trans (val_main_v8_eq _ _ _)).trans ?_,
      (h8.trans (val_main_v14_eq _ _ _)).trans ?_, hk⟩
    · rw [e0, e1]
      exact grad_ref _ _
    · rw [e0, e1, e2, e3, e4]
      exact congrArg (fun G => moved (arW m c) G (arM m c) (arV m c)) (grad_ref _ _)
    · rw [e0, e1, e3]
      exact congrArg (fun G => firstMoment G (arM m c)) (grad_ref _ _)
    · rw [e0, e1, e4]
      exact congrArg (fun G => secondMoment G (arV m c)) (grad_ref _ _)

end Cert.Products
end
end
-- ==== Proof.AdamOut.lean ====
module

public import proofs.«01_k».proof.Proof.Adam
public import proofs.«01_k».proof.Proof.Gen.AdamOutIdeal.Value
public import proofs.«01_k».proof.Proof.Gen.AdamOutRefIdeal.Run

/-! # The optimiser's step of an output weight of the feed-forward

Every point of the launch holds 176 rows of the weight, of its summed gradient and of the two
moments, and writes the same rows of the gradient, the change and the two new moments. -/

@[expose] public section

noncomputable section

namespace Cert.AdamOutIdeal.Prod

open Cert.AdamOutIdeal Cert.AdamOutIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S1408x2048.Idx → EReal := m ((c : Thread nD τ).loc main_arg0)
abbrev arG (c : Dev nD) : S1408x2048.Idx → EReal := m ((c : Thread nD τ).loc main_arg1)
abbrev arM (c : Dev nD) : S1408x2048.Idx → EReal := m ((c : Thread nD τ).loc main_arg2)
abbrev arV (c : Dev nD) : S1408x2048.Idx → EReal := m ((c : Thread nD τ).loc main_arg3)

/-- What a point writes, of the blocks it holds. -/
theorem out_eq (w g u v : Vec Ideal S176x2048 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3 k0_pay6
  dsimp only
  simp only [View.canon_unit_zero (S := S176x2048) hz, View.ld_unit_zero (S := S176x2048) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamOutIdeal.Prod

namespace Cert.Products

open Cert.AdamOutIdeal Cert.AdamOutIdeal.Gen Cert.AdamOutIdeal.Prod Cert.Adam
open Idealize.ShloMosaic Idealize.ShloMosaic.TcCoe Idealize.SL.Sem

/-- The claim: both programs end with the same four arrays on every device. -/
theorem adam_out : @Cert.algebraic_AdamOutIdeal_AdamOutRefIdeal Cert.AdamOutIdeal.Gen.facts Cert.AdamOutRefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamOutIdeal.Value.run_blocks m g),
    (θ_run _ _ _).mono (fun r h c => ?_) (Cert.AdamOutRefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.AdamProj.lean ====
module

public import proofs.«01_k».proof.Proof.Adam
public import proofs.«01_k».proof.Proof.Gen.AdamProjIdeal.Value
public import proofs.«01_k».proof.Proof.Gen.AdamProjRefIdeal.Run

/-! # The optimiser's step of the mixer's input weight

Every point of the launch holds 256 rows of the weight, of its summed gradient and of the two
moments, and writes the same rows of the gradient, the change and the two new moments. -/

@[expose] public section

noncomputable section

namespace Cert.AdamProjIdeal.Prod

open Cert.AdamProjIdeal Cert.AdamProjIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S2048x1792.Idx → EReal := m ((c : Thread nD τ).loc main_arg0)
abbrev arG (c : Dev nD) : S2048x1792.Idx → EReal := m ((c : Thread nD τ).loc main_arg1)
abbrev arM (c : Dev nD) : S2048x1792.Idx → EReal := m ((c : Thread nD τ).loc main_arg2)
abbrev arV (c : Dev nD) : S2048x1792.Idx → EReal := m ((c : Thread nD τ).loc main_arg3)

/-- What a point writes, of the blocks it holds. -/
theorem out_eq (w g u v : Vec Ideal S256x1792 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3 k0_pay6
  dsimp only
  simp only [View.canon_unit_zero (S := S256x1792) hz, View.ld_unit_zero (S := S256x1792) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamProjIdeal.Prod

namespace Cert.Products

open Cert.AdamProjIdeal Cert.AdamProjIdeal.Gen Cert.AdamProjIdeal.Prod Cert.Adam
open Idealize.ShloMosaic Idealize.ShloMosaic.TcCoe Idealize.SL.Sem

/-- The claim: both programs end with the same four arrays on every device. -/
theorem adam_proj : @Cert.algebraic_AdamProjIdeal_AdamProjRefIdeal Cert.AdamProjIdeal.Gen.facts Cert.AdamProjRefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamProjIdeal.Value.run_blocks m g),
    (θ_run _ _ _).mono (fun r h c => ?_) (Cert.AdamProjRefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.AdamMix.lean ====
module

public import proofs.«01_k».proof.Proof.Adam
public import proofs.«01_k».proof.Proof.Gen.AdamMixIdeal.Value
public import proofs.«01_k».proof.Proof.Gen.AdamMixRefIdeal.Run

/-! # The optimiser's step of the mixer's output weight

Every point of the launch holds 256 rows of the weight, of its summed gradient and of the two
moments, and writes the same rows of the gradient, the change and the two new moments. -/

@[expose] public section

noncomputable section

namespace Cert.AdamMixIdeal.Prod

open Cert.AdamMixIdeal Cert.AdamMixIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S512x2048.Idx → EReal := m ((c : Thread nD τ).loc main_arg0)
abbrev arG (c : Dev nD) : S512x2048.Idx → EReal := m ((c : Thread nD τ).loc main_arg1)
abbrev arM (c : Dev nD) : S512x2048.Idx → EReal := m ((c : Thread nD τ).loc main_arg2)
abbrev arV (c : Dev nD) : S512x2048.Idx → EReal := m ((c : Thread nD τ).loc main_arg3)

/-- What a point writes, of the blocks it holds. -/
theorem out_eq (w g u v : Vec Ideal S256x2048 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3 k0_pay6
  dsimp only
  simp only [View.canon_unit_zero (S := S256x2048) hz, View.ld_unit_zero (S := S256x2048) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamMixIdeal.Prod

namespace Cert.Products

open Cert.AdamMixIdeal Cert.AdamMixIdeal.Gen Cert.AdamMixIdeal.Prod Cert.Adam
open Idealize.ShloMosaic Idealize.ShloMosaic.TcCoe Idealize.SL.Sem

/-- The claim: both programs end with the same four arrays on every device. -/
theorem adam_mix : @Cert.algebraic_AdamMixIdeal_AdamMixRefIdeal Cert.AdamMixIdeal.Gen.facts Cert.AdamMixRefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamMixIdeal.Value.run_blocks m g),
    (θ_run _ _ _).mono (fun r h c => ?_) (Cert.AdamMixRefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.AdamA.lean ====
module

public import proofs.«01_k».proof.Proof.Adam
public import proofs.«01_k».proof.Proof.Gen.AdamAIdeal.Value
public import proofs.«01_k».proof.Proof.Gen.AdamARefIdeal.Run

/-! # The optimiser's step of the convolution branch's output weight

The one point of the launch holds the whole of the weight, of its summed gradient and of the two
moments, and writes the whole of the gradient, the change and the two new moments. -/

@[expose] public section

noncomputable section

namespace Cert.AdamAIdeal.Prod

open Cert.AdamAIdeal Cert.AdamAIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S1024x512.Idx → EReal := m ((c : Thread nD τ).loc main_arg0)
abbrev arG (c : Dev nD) : S1024x512.Idx → EReal := m ((c : Thread nD τ).loc main_arg1)
abbrev arM (c : Dev nD) : S1024x512.Idx → EReal := m ((c : Thread nD τ).loc main_arg2)
abbrev arV (c : Dev nD) : S1024x512.Idx → EReal := m ((c : Thread nD τ).loc main_arg3)

/-- What a point writes, of the blocks it holds. -/
theorem out_eq (w g u v : Vec Ideal S1024x512 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3 k0_pay6
  dsimp only
  simp only [View.canon_unit_zero (S := S1024x512) hz, View.ld_unit_zero (S := S1024x512) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamAIdeal.Prod

namespace Cert.Products

open Cert.AdamAIdeal Cert.AdamAIdeal.Gen Cert.AdamAIdeal.Prod Cert.Adam
open Idealize.ShloMosaic Idealize.ShloMosaic.TcCoe Idealize.SL.Sem

/-- The claim: both programs end with the same four arrays on every device. -/
theorem adam_a : @Cert.algebraic_AdamAIdeal_AdamARefIdeal Cert.AdamAIdeal.Gen.facts Cert.AdamARefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamAIdeal.Value.run_blocks m g),
    (θ_run _ _ _).mono (fun r h c => ?_) (Cert.AdamARefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.AdamB.lean ====
module

public import proofs.«01_k».proof.Proof.Adam
public import proofs.«01_k».proof.Proof.Gen.AdamBIdeal.Value
public import proofs.«01_k».proof.Proof.Gen.AdamBRefIdeal.Run

/-! # The optimiser's step of the pooling branch's weight, its groups one under the other

The one point of the launch holds the whole of the weight, of its summed gradient and of the two
moments, and writes the whole of the gradient, the change and the two new moments. -/

@[expose] public section

noncomputable section

namespace Cert.AdamBIdeal.Prod

open Cert.AdamBIdeal Cert.AdamBIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S1024x128.Idx → EReal := m ((c : Thread nD τ).loc main_arg0)
abbrev arG (c : Dev nD) : S1024x128.Idx → EReal := m ((c : Thread nD τ).loc main_arg1)
abbrev arM (c : Dev nD) : S1024x128.Idx → EReal := m ((c : Thread nD τ).loc main_arg2)
abbrev arV (c : Dev nD) : S1024x128.Idx → EReal := m ((c : Thread nD τ).loc main_arg3)

/-- What a point writes, of the blocks it holds. -/
theorem out_eq (w g u v : Vec Ideal S1024x128 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3
  dsimp only
  simp only [View.canon_unit_zero (S := S1024x128) hz, View.ld_unit_zero (S := S1024x128) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamBIdeal.Prod

namespace Cert.Products

open Cert.AdamBIdeal Cert.AdamBIdeal.Gen Cert.AdamBIdeal.Prod Cert.Adam
open Idealize.ShloMosaic Idealize.ShloMosaic.TcCoe Idealize.SL.Sem

/-- The claim: both programs end with the same four arrays on every device. -/
theorem adam_b : @Cert.algebraic_AdamBIdeal_AdamBRefIdeal Cert.AdamBIdeal.Gen.facts Cert.AdamBRefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamBIdeal.Value.run_blocks m g),
    (θ_run _ _ _).mono (fun r h c => ?_) (Cert.AdamBRefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.AdamSmall.lean ====
module

public import proofs.«01_k».proof.Proof.Adam
public import proofs.«01_k».proof.Proof.Gen.AdamSmallIdeal.Value
public import proofs.«01_k».proof.Proof.Gen.AdamSmallRefIdeal.Run

/-! # The optimiser's step of the small weights, packed into one array

The one point of the launch holds the whole of the weight, of its summed gradient and of the two
moments, and writes the whole of the gradient, the change and the two new moments. -/

@[expose] public section

noncomputable section

namespace Cert.AdamSmallIdeal.Prod

open Cert.AdamSmallIdeal Cert.AdamSmallIdeal.Gen Cert.Adam Cert.Products Idealize.ShloMosaic Idealize.ShloMosaic.TcCoe Idealize.SL.Sem
open Cert.NormIdeal.Prod (hz)

variable (m : (ℓ : Loc nD τ sig) → Buf (Elt Ideal) ℓ)

/-- The argument arrays. -/
abbrev arW (c : Dev nD) : S336x128.Idx → EReal := m ((c : Thread nD τ).loc main_arg0)
abbrev arG (c : Dev nD) : S336x128.Idx → EReal := m ((c : Thread nD τ).loc main_arg1)
abbrev arM (c : Dev nD) : S336x128.Idx → EReal := m ((c : Thread nD τ).loc main_arg2)
abbrev arV (c : Dev nD) : S336x128.Idx → EReal := m ((c : Thread nD τ).loc main_arg3)

/-- What a point writes, of the blocks it holds. -/
theorem out_eq (w g u v : Vec Ideal S336x128 .f32) : out0_4 w g u v = g ∧ out0_5 w g u v = moved w g u v ∧ out0_6 w g u v = firstMoment g u ∧ out0_7 w g u v = secondMoment g v := by
  unfold out0_4 out0_5 out0_6 out0_7 r0_0 k0_pay1 k0_pay2 k0_pay3
  dsimp only
  simp only [View.canon_unit_zero (S := S336x128) hz, View.ld_unit_zero (S := S336x128) hz, shapeCast_self]
  exact ⟨trivial, rfl, rfl, rfl⟩

/-- The four result arrays, of the argument arrays: all eight windows' blocks lie at one place. -/
theorem final (c : Dev nD) : (dats m 0 c).arrAt 4 cfg0.N = arG m c ∧ (dats m 0 c).arrAt 5 cfg0.N = moved (arW m c) (arG m c) (arM m c) (arV m c) ∧
    (dats m 0 c).arrAt 6 cfg0.N = firstMoment (arG m c) (arM m c) ∧ (dats m 0 c).arrAt 7 cfg0.N = secondMoment (arG m c) (arV m c) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · rw [after0_4, (out_eq _ _ _ _).1]
    rfl
  · rw [after0_5, (out_eq _ _ _ _).2.1]
    rfl
  · rw [after0_6, (out_eq _ _ _ _).2.2.1]
    rfl
  · rw [after0_7, (out_eq _ _ _ _).2.2.2]
    rfl

end Cert.AdamSmallIdeal.Prod

namespace Cert.Products

open Cert.AdamSmallIdeal Cert.AdamSmallIdeal.Gen Cert.AdamSmallIdeal.Prod Cert.Adam
open Idealize.ShloMosaic Idealize.ShloMosaic.TcCoe Idealize.SL.Sem

/-- The claim: both programs end with the same four arrays on every device. -/
theorem adam_small : @Cert.algebraic_AdamSmallIdeal_AdamSmallRefIdeal Cert.AdamSmallIdeal.Gen.facts Cert.AdamSmallRefIdeal.Gen.facts := by
  intro m g m' g' _ hargs
  refine ⟨fun c => arG m c, fun c => moved (arW m c) (arG m c) (arM m c) (arV m c), fun c => firstMoment (arG m c) (arM m c),
    fun c => secondMoment (arG m c) (arV m c), (θ_run _ _ _).mono (fun r h c => ?_) (Cert.AdamSmallIdeal.Value.run_blocks m g),
    (θ_run _ _ _).mono (fun r h c => ?_) (Cert.AdamSmallRefIdeal.Value.run m' g')⟩ <;> obtain ⟨h4, h5, h6, h7, hk⟩ := h c
  · obtain ⟨f4, f5, f6, f7⟩ := final m c
    exact ⟨h4.trans f4, h5.trans f5, h6.trans f6, h7.trans f7, hk⟩
  · obtain ⟨e0, e1, e2, e3⟩ := hargs c
    exact ⟨h4.trans e1, h5.trans (by rw [e0, e1, e2, e3]; rfl), h6.trans (by rw [e1, e2]; rfl), h7.trans (by rw [e1, e3]; rfl), hk⟩

end Cert.Products
end
end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.MixClaim
public import proofs.«01_k».proof.Proof.DwOut
public import proofs.«01_k».proof.Proof.Dhu
public import proofs.«01_k».proof.Proof.DwIn
public import proofs.«01_k».proof.Proof.Dn
public import proofs.«01_k».proof.Proof.Gates
public import proofs.«01_k».proof.Proof.Norm
public import proofs.«01_k».proof.Proof.MixDwOut
public import proofs.«01_k».proof.Proof.MixDz
public import proofs.«01_k».proof.Proof.MixDwA
public import proofs.«01_k».proof.Proof.MixDa
public import proofs.«01_k».proof.Proof.MixDwB
public import proofs.«01_k».proof.Proof.MixDmixed
public import proofs.«01_k».proof.Proof.MixDwIn
public import proofs.«01_k».proof.Proof.MixDn
public import proofs.«01_k».proof.Proof.Swiglu
public import proofs.«01_k».proof.Proof.Down
public import proofs.«01_k».proof.Proof.Ya
public import proofs.«01_k».proof.Proof.Yb
public import proofs.«01_k».proof.Proof.MixOut
public import proofs.«01_k».proof.Proof.NormX
public import proofs.«01_k».proof.Proof.GatesFwd
public import proofs.«01_k».proof.Proof.ResNorm
public import proofs.«01_k».proof.Proof.NormMod
public import proofs.«01_k».proof.Proof.FinalLoss
public import proofs.«01_k».proof.Proof.MixProjA
public import proofs.«01_k».proof.Proof.MixProjB
public import proofs.«01_k».proof.Proof.SwigluA
public import proofs.«01_k».proof.Proof.SwigluB
public import proofs.«01_k».proof.Proof.AdamIn
public import proofs.«01_k».proof.Proof.AdamAda
public import proofs.«01_k».proof.Proof.AdamOut
public import proofs.«01_k».proof.Proof.AdamProj
public import proofs.«01_k».proof.Proof.AdamMix
public import proofs.«01_k».proof.Proof.AdamA
public import proofs.«01_k».proof.Proof.AdamB
public import proofs.«01_k».proof.Proof.AdamSmall
public import proofs.«01_k».proof.Proof.Gen.DwOut.Frame
public import proofs.«01_k».proof.Proof.Gen.DwOutIdeal.Frame
public import proofs.«01_k».proof.Proof.Gen.Dhu.Frame
public import proofs.«01_k».proof.Proof.Gen.DhuIdeal.Frame
public import proofs.«01_k».proof.Proof.Gen.DwIn.Frame
public import proofs.«01_k».proof.Proof.Gen.DwInIdeal.Frame
public import proofs.«01_k».proof.Proof.Gen.Dn.Frame
public import proofs.«01_k».proof.Proof.Gen.DnIdeal.Frame
public import proofs.«01_k».proof.Proof.Gen.Gates.Frame
public import proofs.«01_k».proof.Proof.Gen.GatesIdeal.Frame
public import proofs.«01_k».proof.Proof.Gen.Norm.Frame
public import proofs.«01_k».proof.Proof.Gen.NormIdeal.Frame
public import proofs.«01_k».proof.Proof.Gen.MixDwOut.Frame
public import proofs.«01_k».proof.Proof.Gen.MixDwOutIdeal.Frame
public import proofs.«01_k».proof.Proof.Gen.MixDz.Frame
public import proofs.«01_k».proof.Proof.Gen.MixDzIdeal.Frame
public import proofs.«01_k».proof.Proof.Gen.MixDwA.Frame
public import proofs.«01_k».proof.Proof.Gen.MixDwAIdeal.Frame
public import proofs.«01_k».proof.Proof.Gen.MixDa.Frame
public import proofs.«01_k».proof.Proof.Gen.MixDaIdeal.Frame
public import proofs.«01_k».proof.Proof.Gen.MixDwB.Frame
public import proofs.«01_k».proof.Proof.Gen.MixDwBIdeal.Frame
public import proofs.«01_k».proof.Proof.Gen.MixDmixed.Frame
public import proofs.«01_k».proof.Proof.Gen.MixDmixedIdeal.Frame
public import proofs.«01_k».proof.Proof.Gen.MixDwIn.Frame
public import proofs.«01_k».proof.Proof.Gen.MixDwInIdeal.Frame
public import proofs.«01_k».proof.Proof.Gen.MixDn.Frame
public import proofs.«01_k».proof.Proof.Gen.MixDnIdeal.Frame
public import proofs.«01_k».proof.Proof.Gen.Swiglu.Frame
public import proofs.«01_k».proof.Proof.Gen.SwigluIdeal.Frame
public import proofs.«01_k».proof.Proof.Gen.Down.Frame
public import proofs.«01_k».proof.Proof.Gen.DownIdeal.Frame
public import proofs.«01_k».proof.Proof.Gen.Ya.Frame
public import proofs.«01_k».proof.Proof.Gen.YaIdeal.Frame
public import proofs.«01_k».proof.Proof.Gen.Yb.Frame
public import proofs.«01_k».proof.Proof.Gen.YbIdeal.Frame
public import proofs.«01_k».proof.Proof.Gen.MixOut.Frame
public import proofs.«01_k».proof.Proof.Gen.MixOutIdeal.Frame
public import proofs.«01_k».proof.Proof.Gen.NormX.Frame
public import proofs.«01_k».proof.Proof.Gen.NormXIdeal.Frame
public import proofs.«01_k».proof.Proof.Gen.GatesFwd.Frame
public import proofs.«01_k».proof.Proof.Gen.GatesFwdIdeal.Frame
public import proofs.«01_k».proof.Proof.Gen.ResNorm.Frame
public import proofs.«01_k».proof.Proof.Gen.ResNormIdeal.Frame
public import proofs.«01_k».proof.Proof.Gen.NormMod.Frame
public import proofs.«01_k».proof.Proof.Gen.NormModIdeal.Frame
public import proofs.«01_k».proof.Proof.Gen.FinalLoss.Frame
public import proofs.«01_k».proof.Proof.Gen.FinalLossIdeal.Frame
public import proofs.«01_k».proof.Proof.Gen.MixProjA.Frame
public import proofs.«01_k».proof.Proof.Gen.MixProjAIdeal.Frame
public import proofs.«01_k».proof.Proof.Gen.MixProjB.Frame
public import proofs.«01_k».proof.Proof.Gen.MixProjBIdeal.Frame
public import proofs.«01_k».proof.Proof.Gen.SwigluA.Frame
public import proofs.«01_k».proof.Proof.Gen.SwigluAIdeal.Frame
public import proofs.«01_k».proof.Proof.Gen.SwigluB.Frame
public import proofs.«01_k».proof.Proof.Gen.SwigluBIdeal.Frame
public import proofs.«01_k».proof.Proof.Gen.AdamIn.Frame
public import proofs.«01_k».proof.Proof.Gen.AdamInIdeal.Frame
public import proofs.«01_k».proof.Proof.Gen.AdamAda.Frame
public import proofs.«01_k».proof.Proof.Gen.AdamAdaIdeal.Frame
public import proofs.«01_k».proof.Proof.Gen.AdamOut.Frame
public import proofs.«01_k».proof.Proof.Gen.AdamOutIdeal.Frame
public import proofs.«01_k».proof.Proof.Gen.AdamProj.Frame
public import proofs.«01_k».proof.Proof.Gen.AdamProjIdeal.Frame
public import proofs.«01_k».proof.Proof.Gen.AdamMix.Frame
public import proofs.«01_k».proof.Proof.Gen.AdamMixIdeal.Frame
public import proofs.«01_k».proof.Proof.Gen.AdamA.Frame
public import proofs.«01_k».proof.Proof.Gen.AdamAIdeal.Frame
public import proofs.«01_k».proof.Proof.Gen.AdamB.Frame
public import proofs.«01_k».proof.Proof.Gen.AdamBIdeal.Frame
public import proofs.«01_k».proof.Proof.Gen.AdamSmall.Frame
public import proofs.«01_k».proof.Proof.Gen.AdamSmallIdeal.Frame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

-- The frames also say that every semaphore counter ends at zero; a reference, which has no semaphore at all, shows it below.

namespace Cert.Proof

open Idealize.ShloMosaic Idealize.SL.Sem Cert.Kernel

/-! The references keep their arguments. -/

/-- A program that declares no semaphore: what its run says of every device holds, and every counter ends at zero. -/
theorem quiet {nD : Nat} {τ : Topo} {sig : RefSig} {Val : EltTy → Type} {w : WPT (PUnit × MemSt nD τ sig Val)}
    {Q K : PUnit × MemSt nD τ sig Val → Dev nD → Prop} (no : sig.nSem + sig.nDmaSem = 0) (hK : ∀ r c, Q r c → K r c)
    (run : w fun r => ∀ c, Q r c) : w fun r => (∀ c, K r c) ∧ r.2.sem = fun _ => 0 :=
  w.mono (fun r h => ⟨fun c => hK r c (h c), sem_eq_zero_of_no_sems no r.2⟩) run

theorem ref_frame : @Cert.quiescent_ReferenceIdeal Cert.ReferenceIdeal.Gen.facts := fun m g _ =>
  quiet (by decide) (fun _ _ h => h.2) (Cert.ReferenceIdeal.Value.run (F := Ideal) m g)

theorem dwOut_frame : @Cert.quiescent_DwOutRefIdeal Cert.DwOutRefIdeal.Gen.facts := fun m g _ =>
  quiet (by decide) (fun _ _ h => h.2) (Cert.DwOutRefIdeal.Value.run (F := Ideal) m g)

theorem dhu_frame : @Cert.quiescent_DhuRefIdeal Cert.DhuRefIdeal.Gen.facts := fun m g _ =>
  quiet (by decide) (fun _ _ h => h.2) (Cert.DhuRefIdeal.Value.run (F := Ideal) m g)

theorem dwIn_frame : @Cert.quiescent_DwInRefIdeal Cert.DwInRefIdeal.Gen.facts := fun m g _ =>
  quiet (by decide) (fun _ _ h => h.2) (Cert.DwInRefIdeal.Value.run (F := Ideal) m g)

theorem dn_frame : @Cert.quiescent_DnRefIdeal Cert.DnRefIdeal.Gen.facts := fun m g _ =>
  quiet (by decide) (fun _ _ h => h.2) (Cert.DnRefIdeal.Value.run (F := Ideal) m g)

theorem gates_frame : @Cert.quiescent_GatesRefIdeal Cert.GatesRefIdeal.Gen.facts := fun m g _ =>
  quiet (by decide) (fun _ _ h => h.2.2.2.2.2.2) (Cert.GatesRefIdeal.Value.run (F := Ideal) m g)

theorem norm_frame : @Cert.quiescent_NormRefIdeal Cert.NormRefIdeal.Gen.facts := fun m g _ =>
  quiet (by decide) (fun _ _ h => h.2.2.2.2.2.2) (Cert.NormRefIdeal.Value.run (F := Ideal) m g)

theorem mixDwOut_frame : @Cert.quiescent_MixDwOutRefIdeal Cert.MixDwOutRefIdeal.Gen.facts := fun m g _ =>
  quiet (by decide) (fun _ _ h => h.2) (Cert.MixDwOutRefIdeal.Value.run (F := Ideal) m g)

theorem mixDz_frame : @Cert.quiescent_MixDzRefIdeal Cert.MixDzRefIdeal.Gen.facts := fun m g _ =>
  quiet (by decide) (fun _ _ h => h.2) (Cert.MixDzRefIdeal.Value.run (F := Ideal) m g)

theorem mixDwA_frame : @Cert.quiescent_MixDwARefIdeal Cert.MixDwARefIdeal.Gen.facts := fun m g _ =>
  quiet (by decide) (fun _ _ h => h.2) (Cert.MixDwARefIdeal.Value.run (F := Ideal) m g)

theorem mixDa_frame : @Cert.quiescent_MixDaRefIdeal Cert.MixDaRefIdeal.Gen.facts := fun m g _ =>
  quiet (by decide) (fun _ _ h => h.2) (Cert.MixDaRefIdeal.Value.run (F := Ideal) m g)

theorem mixDwB_frame : @Cert.quiescent_MixDwBRefIdeal Cert.MixDwBRefIdeal.Gen.facts := fun m g _ =>
  quiet (by decide) (fun _ _ h => h.2) (Cert.MixDwBRefIdeal.Value.run (F := Ideal) m g)

theorem mixDmixed_frame : @Cert.quiescent_MixDmixedRefIdeal Cert.MixDmixedRefIdeal.Gen.facts := fun m g _ =>
  quiet (by decide) (fun _ _ h => h.2) (Cert.MixDmixedRefIdeal.Value.run (F := Ideal) m g)

theorem mixDwIn_frame : @Cert.quiescent_MixDwInRefIdeal Cert.MixDwInRefIdeal.Gen.facts := fun m g _ =>
  quiet (by decide) (fun _ _ h => h.2) (Cert.MixDwInRefIdeal.Value.run (F := Ideal) m g)

theorem mixDn_frame : @Cert.quiescent_MixDnRefIdeal Cert.MixDnRefIdeal.Gen.facts := fun m g _ =>
  quiet (by decide) (fun _ _ h => h.2) (Cert.MixDnRefIdeal.Value.run (F := Ideal) m g)

theorem swiglu_frame : @Cert.quiescent_SwigluRefIdeal Cert.SwigluRefIdeal.Gen.facts := fun m g _ =>
  quiet (by decide) (fun _ _ h => h.2.2) (Cert.SwigluRefIdeal.Value.run (F := Ideal) m g)

theorem down_frame : @Cert.quiescent_DownRefIdeal Cert.DownRefIdeal.Gen.facts := fun m g _ =>
  quiet (by decide) (fun _ _ h => h.2) (Cert.DownRefIdeal.Value.run (F := Ideal) m g)

theorem ya_frame : @Cert.quiescent_YaRefIdeal Cert.YaRefIdeal.Gen.facts := fun m g _ =>
  quiet (by decide) (fun _ _ h => h.2) (Cert.YaRefIdeal.Value.run (F := Ideal) m g)

theorem yb_frame : @Cert.quiescent_YbRefIdeal Cert.YbRefIdeal.Gen.facts := fun m g _ =>
  quiet (by decide) (fun _ _ h => h.2) (Cert.YbRefIdeal.Value.run (F := Ideal) m g)

theorem mixOut_frame : @Cert.quiescent_MixOutRefIdeal Cert.MixOutRefIdeal.Gen.facts := fun m g _ =>
  quiet (by decide) (fun _ _ h => h.2) (Cert.MixOutRefIdeal.Value.run (F := Ideal) m g)

theorem normX_frame : @Cert.quiescent_NormXRefIdeal Cert.NormXRefIdeal.Gen.facts := fun m g _ =>
  quiet (by decide) (fun _ _ h => h.2.2.2.2) (Cert.NormXRefIdeal.Value.run (F := Ideal) m g)

theorem gatesFwd_frame : @Cert.quiescent_GatesFwdRefIdeal Cert.GatesFwdRefIdeal.Gen.facts := fun m g _ =>
  quiet (by decide) (fun _ _ h => h.2) (Cert.GatesFwdRefIdeal.Value.run (F := Ideal) m g)

theorem resNorm_frame : @Cert.quiescent_ResNormRefIdeal Cert.ResNormRefIdeal.Gen.facts := fun m g _ =>
  quiet (by decide) (fun _ _ h => h.2.2) (Cert.ResNormRefIdeal.Value.run (F := Ideal) m g)

theorem normMod_frame : @Cert.quiescent_NormModRefIdeal Cert.NormModRefIdeal.Gen.facts := fun m g _ =>
  quiet (by decide) (fun _ _ h => h.2) (Cert.NormModRefIdeal.Value.run (F := Ideal) m g)

theorem finalLoss_frame : @Cert.quiescent_FinalLossRefIdeal Cert.FinalLossRefIdeal.Gen.facts := fun m g _ =>
  quiet (by decide) (fun _ _ h => h.2.2.2.2.2) (Cert.FinalLossRefIdeal.Value.run (F := Ideal) m g)

theorem mixProjA_frame : @Cert.quiescent_MixProjARefIdeal Cert.MixProjARefIdeal.Gen.facts := fun m g _ =>
  quiet (by decide) (fun _ _ h => h.2) (Cert.MixProjARefIdeal.Value.run (F := Ideal) m g)

theorem mixProjB_frame : @Cert.quiescent_MixProjBRefIdeal Cert.MixProjBRefIdeal.Gen.facts := fun m g _ =>
  quiet (by decide) (fun _ _ h => h.2) (Cert.MixProjBRefIdeal.Value.run (F := Ideal) m g)

theorem swigluA_frame : @Cert.quiescent_SwigluARefIdeal Cert.SwigluARefIdeal.Gen.facts := fun m g _ =>
  quiet (by decide) (fun _ _ h => h.2.2) (Cert.SwigluARefIdeal.Value.run (F := Ideal) m g)

theorem swigluB_frame : @Cert.quiescent_SwigluBRefIdeal Cert.SwigluBRefIdeal.Gen.facts := fun m g _ =>
  quiet (by decide) (fun _ _ h => h.2.2) (Cert.SwigluBRefIdeal.Value.run (F := Ideal) m g)

theorem adamIn_frame : @Cert.quiescent_AdamInRefIdeal Cert.AdamInRefIdeal.Gen.facts := fun m g _ =>
  quiet (by decide) (fun _ _ h => h.2.2.2.2) (Cert.AdamInRefIdeal.Value.run (F := Ideal) m g)

theorem adamAda_frame : @Cert.quiescent_AdamAdaRefIdeal Cert.AdamAdaRefIdeal.Gen.facts := fun m g _ =>
  quiet (by decide) (fun _ _ h => h.2.2.2.2) (Cert.AdamAdaRefIdeal.Value.run (F := Ideal) m g)

theorem adamOut_frame : @Cert.quiescent_AdamOutRefIdeal Cert.AdamOutRefIdeal.Gen.facts := fun m g _ =>
  quiet (by decide) (fun _ _ h => h.2.2.2.2) (Cert.AdamOutRefIdeal.Value.run (F := Ideal) m g)

theorem adamProj_frame : @Cert.quiescent_AdamProjRefIdeal Cert.AdamProjRefIdeal.Gen.facts := fun m g _ =>
  quiet (by decide) (fun _ _ h => h.2.2.2.2) (Cert.AdamProjRefIdeal.Value.run (F := Ideal) m g)

theorem adamMix_frame : @Cert.quiescent_AdamMixRefIdeal Cert.AdamMixRefIdeal.Gen.facts := fun m g _ =>
  quiet (by decide) (fun _ _ h => h.2.2.2.2) (Cert.AdamMixRefIdeal.Value.run (F := Ideal) m g)

theorem adamA_frame : @Cert.quiescent_AdamARefIdeal Cert.AdamARefIdeal.Gen.facts := fun m g _ =>
  quiet (by decide) (fun _ _ h => h.2.2.2.2) (Cert.AdamARefIdeal.Value.run (F := Ideal) m g)

theorem adamB_frame : @Cert.quiescent_AdamBRefIdeal Cert.AdamBRefIdeal.Gen.facts := fun m g _ =>
  quiet (by decide) (fun _ _ h => h.2.2.2.2) (Cert.AdamBRefIdeal.Value.run (F := Ideal) m g)

theorem adamSmall_frame : @Cert.quiescent_AdamSmallRefIdeal Cert.AdamSmallRefIdeal.Gen.facts := fun m g _ =>
  quiet (by decide) (fun _ _ h => h.2.2.2.2) (Cert.AdamSmallRefIdeal.Value.run (F := Ideal) m g)

/-- Every claim of the certificate: the frames as generated, the value claims from the module of each call. -/
theorem claim : Cert.Claim :=
  ⟨Cert.Kernel.Gen.facts, Cert.KernelIdeal.Gen.facts, Cert.ReferenceIdeal.Gen.facts,
    Cert.DwOut.Gen.facts, Cert.DwOutIdeal.Gen.facts, Cert.DwOutRefIdeal.Gen.facts,
    Cert.Dhu.Gen.facts, Cert.DhuIdeal.Gen.facts, Cert.DhuRefIdeal.Gen.facts,
    Cert.DwIn.Gen.facts, Cert.DwInIdeal.Gen.facts, Cert.DwInRefIdeal.Gen.facts,
    Cert.Dn.Gen.facts, Cert.DnIdeal.Gen.facts, Cert.DnRefIdeal.Gen.facts,
    Cert.Gates.Gen.facts, Cert.GatesIdeal.Gen.facts, Cert.GatesRefIdeal.Gen.facts,
    Cert.Norm.Gen.facts, Cert.NormIdeal.Gen.facts, Cert.NormRefIdeal.Gen.facts,
    Cert.MixDwOut.Gen.facts, Cert.MixDwOutIdeal.Gen.facts, Cert.MixDwOutRefIdeal.Gen.facts,
    Cert.MixDz.Gen.facts, Cert.MixDzIdeal.Gen.facts, Cert.MixDzRefIdeal.Gen.facts,
    Cert.MixDwA.Gen.facts, Cert.MixDwAIdeal.Gen.facts, Cert.MixDwARefIdeal.Gen.facts,
    Cert.MixDa.Gen.facts, Cert.MixDaIdeal.Gen.facts, Cert.MixDaRefIdeal.Gen.facts,
    Cert.MixDwB.Gen.facts, Cert.MixDwBIdeal.Gen.facts, Cert.MixDwBRefIdeal.Gen.facts,
    Cert.MixDmixed.Gen.facts, Cert.MixDmixedIdeal.Gen.facts, Cert.MixDmixedRefIdeal.Gen.facts,
    Cert.MixDwIn.Gen.facts, Cert.MixDwInIdeal.Gen.facts, Cert.MixDwInRefIdeal.Gen.facts,
    Cert.MixDn.Gen.facts, Cert.MixDnIdeal.Gen.facts, Cert.MixDnRefIdeal.Gen.facts,
    Cert.Swiglu.Gen.facts, Cert.SwigluIdeal.Gen.facts, Cert.SwigluRefIdeal.Gen.facts,
    Cert.Down.Gen.facts, Cert.DownIdeal.Gen.facts, Cert.DownRefIdeal.Gen.facts,
    Cert.Ya.Gen.facts, Cert.YaIdeal.Gen.facts, Cert.YaRefIdeal.Gen.facts,
    Cert.Yb.Gen.facts, Cert.YbIdeal.Gen.facts, Cert.YbRefIdeal.Gen.facts,
    Cert.MixOut.Gen.facts, Cert.MixOutIdeal.Gen.facts, Cert.MixOutRefIdeal.Gen.facts,
    Cert.NormX.Gen.facts, Cert.NormXIdeal.Gen.facts, Cert.NormXRefIdeal.Gen.facts,
    Cert.GatesFwd.Gen.facts, Cert.GatesFwdIdeal.Gen.facts, Cert.GatesFwdRefIdeal.Gen.facts,
    Cert.ResNorm.Gen.facts, Cert.ResNormIdeal.Gen.facts, Cert.ResNormRefIdeal.Gen.facts,
    Cert.NormMod.Gen.facts, Cert.NormModIdeal.Gen.facts, Cert.NormModRefIdeal.Gen.facts,
    Cert.FinalLoss.Gen.facts, Cert.FinalLossIdeal.Gen.facts, Cert.FinalLossRefIdeal.Gen.facts,
    Cert.MixProjA.Gen.facts, Cert.MixProjAIdeal.Gen.facts, Cert.MixProjARefIdeal.Gen.facts,
    Cert.MixProjB.Gen.facts, Cert.MixProjBIdeal.Gen.facts, Cert.MixProjBRefIdeal.Gen.facts,
    Cert.SwigluA.Gen.facts, Cert.SwigluAIdeal.Gen.facts, Cert.SwigluARefIdeal.Gen.facts,
    Cert.SwigluB.Gen.facts, Cert.SwigluBIdeal.Gen.facts, Cert.SwigluBRefIdeal.Gen.facts,
    Cert.AdamIn.Gen.facts, Cert.AdamInIdeal.Gen.facts, Cert.AdamInRefIdeal.Gen.facts,
    Cert.AdamAda.Gen.facts, Cert.AdamAdaIdeal.Gen.facts, Cert.AdamAdaRefIdeal.Gen.facts,
    Cert.AdamOut.Gen.facts, Cert.AdamOutIdeal.Gen.facts, Cert.AdamOutRefIdeal.Gen.facts,
    Cert.AdamProj.Gen.facts, Cert.AdamProjIdeal.Gen.facts, Cert.AdamProjRefIdeal.Gen.facts,
    Cert.AdamMix.Gen.facts, Cert.AdamMixIdeal.Gen.facts, Cert.AdamMixRefIdeal.Gen.facts,
    Cert.AdamA.Gen.facts, Cert.AdamAIdeal.Gen.facts, Cert.AdamARefIdeal.Gen.facts,
    Cert.AdamB.Gen.facts, Cert.AdamBIdeal.Gen.facts, Cert.AdamBRefIdeal.Gen.facts,
    Cert.AdamSmall.Gen.facts, Cert.AdamSmallIdeal.Gen.facts, Cert.AdamSmallRefIdeal.Gen.facts,
    Cert.Mix.preFacts, Cert.Products.dhuPreFacts, Cert.Products.swigluPreFacts,
    fun m g _ => Cert.Kernel.Gen.frame m g,
    fun m g _ => Cert.KernelIdeal.Gen.frame m g,
    fun m g _ => Cert.KernelIdeal.Gen.frame m g,
    fun m g _ => ref_frame m g trivial,
    fun m g _ => ref_frame m g trivial,
    fun m g _ => Cert.DwOut.Gen.frame m g,
    fun m g _ => Cert.DwOutIdeal.Gen.frame m g,
    fun m g _ => dwOut_frame m g trivial,
    fun m g _ => Cert.Dhu.Gen.frame m g,
    fun m g _ => Cert.DhuIdeal.Gen.frame m g,
    fun m g _ => Cert.DhuIdeal.Gen.frame m g,
    fun m g _ => dhu_frame m g trivial,
    fun m g _ => dhu_frame m g trivial,
    fun m g _ => Cert.DwIn.Gen.frame m g,
    fun m g _ => Cert.DwInIdeal.Gen.frame m g,
    fun m g _ => dwIn_frame m g trivial,
    fun m g _ => Cert.Dn.Gen.frame m g,
    fun m g _ => Cert.DnIdeal.Gen.frame m g,
    fun m g _ => dn_frame m g trivial,
    fun m g _ => Cert.Gates.Gen.frame m g,
    fun m g _ => Cert.GatesIdeal.Gen.frame m g,
    fun m g _ => gates_frame m g trivial,
    fun m g _ => Cert.Norm.Gen.frame m g,
    fun m g _ => Cert.NormIdeal.Gen.frame m g,
    fun m g _ => norm_frame m g trivial,
    fun m g _ => Cert.MixDwOut.Gen.frame m g,
    fun m g _ => Cert.MixDwOutIdeal.Gen.frame m g,
    fun m g _ => mixDwOut_frame m g trivial,
    fun m g _ => Cert.MixDz.Gen.frame m g,
    fun m g _ => Cert.MixDzIdeal.Gen.frame m g,
    fun m g _ => mixDz_frame m g trivial,
    fun m g _ => Cert.MixDwA.Gen.frame m g,
    fun m g _ => Cert.MixDwAIdeal.Gen.frame m g,
    fun m g _ => mixDwA_frame m g trivial,
    fun m g _ => Cert.MixDa.Gen.frame m g,
    fun m g _ => Cert.MixDaIdeal.Gen.frame m g,
    fun m g _ => mixDa_frame m g trivial,
    fun m g _ => Cert.MixDwB.Gen.frame m g,
    fun m g _ => Cert.MixDwBIdeal.Gen.frame m g,
    fun m g _ => mixDwB_frame m g trivial,
    fun m g _ => Cert.MixDmixed.Gen.frame m g,
    fun m g _ => Cert.MixDmixedIdeal.Gen.frame m g,
    fun m g _ => mixDmixed_frame m g trivial,
    fun m g _ => Cert.MixDwIn.Gen.frame m g,
    fun m g _ => Cert.MixDwInIdeal.Gen.frame m g,
    fun m g _ => mixDwIn_frame m g trivial,
    fun m g _ => Cert.MixDn.Gen.frame m g,
    fun m g _ => Cert.MixDnIdeal.Gen.frame m g,
    fun m g _ => mixDn_frame m g trivial,
    fun m g _ => Cert.Swiglu.Gen.frame m g,
    fun m g _ => Cert.SwigluIdeal.Gen.frame m g,
    fun m g _ => Cert.SwigluIdeal.Gen.frame m g,
    fun m g _ => swiglu_frame m g trivial,
    fun m g _ => swiglu_frame m g trivial,
    fun m g _ => Cert.Down.Gen.frame m g,
    fun m g _ => Cert.DownIdeal.Gen.frame m g,
    fun m g _ => down_frame m g trivial,
    fun m g _ => Cert.Ya.Gen.frame m g,
    fun m g _ => Cert.YaIdeal.Gen.frame m g,
    fun m g _ => ya_frame m g trivial,
    fun m g _ => Cert.Yb.Gen.frame m g,
    fun m g _ => Cert.YbIdeal.Gen.frame m g,
    fun m g _ => yb_frame m g trivial,
    fun m g _ => Cert.MixOut.Gen.frame m g,
    fun m g _ => Cert.MixOutIdeal.Gen.frame m g,
    fun m g _ => mixOut_frame m g trivial,
    fun m g _ => Cert.NormX.Gen.frame m g,
    fun m g _ => Cert.NormXIdeal.Gen.frame m g,
    fun m g _ => normX_frame m g trivial,
    fun m g _ => Cert.GatesFwd.Gen.frame m g,
    fun m g _ => Cert.GatesFwdIdeal.Gen.frame m g,
    fun m g _ => gatesFwd_frame m g trivial,
    fun m g _ => Cert.ResNorm.Gen.frame m g,
    fun m g _ => Cert.ResNormIdeal.Gen.frame m g,
    fun m g _ => resNorm_frame m g trivial,
    fun m g _ => Cert.NormMod.Gen.frame m g,
    fun m g _ => Cert.NormModIdeal.Gen.frame m g,
    fun m g _ => normMod_frame m g trivial,
    fun m g _ => Cert.FinalLoss.Gen.frame m g,
    fun m g _ => Cert.FinalLossIdeal.Gen.frame m g,
    fun m g _ => finalLoss_frame m g trivial,
    fun m g _ => Cert.MixProjA.Gen.frame m g,
    fun m g _ => Cert.MixProjAIdeal.Gen.frame m g,
    fun m g _ => mixProjA_frame m g trivial,
    fun m g _ => Cert.MixProjB.Gen.frame m g,
    fun m g _ => Cert.MixProjBIdeal.Gen.frame m g,
    fun m g _ => mixProjB_frame m g trivial,
    fun m g _ => Cert.SwigluA.Gen.frame m g,
    fun m g _ => Cert.SwigluAIdeal.Gen.frame m g,
    fun m g _ => Cert.SwigluAIdeal.Gen.frame m g,
    fun m g _ => swigluA_frame m g trivial,
    fun m g _ => swigluA_frame m g trivial,
    fun m g _ => Cert.SwigluB.Gen.frame m g,
    fun m g _ => Cert.SwigluBIdeal.Gen.frame m g,
    fun m g _ => Cert.SwigluBIdeal.Gen.frame m g,
    fun m g _ => swigluB_frame m g trivial,
    fun m g _ => swigluB_frame m g trivial,
    fun m g _ => Cert.AdamIn.Gen.frame m g,
    fun m g _ => Cert.AdamInIdeal.Gen.frame m g,
    fun m g _ => adamIn_frame m g trivial,
    fun m g _ => Cert.AdamAda.Gen.frame m g,
    fun m g _ => Cert.AdamAdaIdeal.Gen.frame m g,
    fun m g _ => adamAda_frame m g trivial,
    fun m g _ => Cert.AdamOut.Gen.frame m g,
    fun m g _ => Cert.AdamOutIdeal.Gen.frame m g,
    fun m g _ => adamOut_frame m g trivial,
    fun m g _ => Cert.AdamProj.Gen.frame m g,
    fun m g _ => Cert.AdamProjIdeal.Gen.frame m g,
    fun m g _ => adamProj_frame m g trivial,
    fun m g _ => Cert.AdamMix.Gen.frame m g,
    fun m g _ => Cert.AdamMixIdeal.Gen.frame m g,
    fun m g _ => adamMix_frame m g trivial,
    fun m g _ => Cert.AdamA.Gen.frame m g,
    fun m g _ => Cert.AdamAIdeal.Gen.frame m g,
    fun m g _ => adamA_frame m g trivial,
    fun m g _ => Cert.AdamB.Gen.frame m g,
    fun m g _ => Cert.AdamBIdeal.Gen.frame m g,
    fun m g _ => adamB_frame m g trivial,
    fun m g _ => Cert.AdamSmall.Gen.frame m g,
    fun m g _ => Cert.AdamSmallIdeal.Gen.frame m g,
    fun m g _ => adamSmall_frame m g trivial,
    trivial,
    @Cert.Mix.mix Cert.Mix.preFacts,
    trivial,
    Cert.Products.dwOut,
    trivial,
    @Cert.Products.dhu Cert.Products.dhuPreFacts,
    trivial,
    Cert.Products.dwIn,
    trivial,
    Cert.Products.dn,
    trivial,
    Cert.Products.gates,
    trivial,
    Cert.Products.norm,
    trivial,
    Cert.Products.mixDwOut,
    trivial,
    Cert.Products.mixDz,
    trivial,
    Cert.Products.mixDwA,
    trivial,
    Cert.Products.mixDa,
    trivial,
    Cert.Products.mixDwB,
    trivial,
    Cert.Products.mixDmixed,
    trivial,
    Cert.Products.mixDwIn,
    trivial,
    Cert.Products.mixDn,
    trivial,
    @Cert.Products.swiglu Cert.Products.swigluPreFacts,
    trivial,
    Cert.Products.down,
    trivial,
    Cert.Products.ya,
    trivial,
    Cert.Products.yb,
    trivial,
    Cert.Products.mixOut,
    trivial,
    Cert.Products.norm_x,
    trivial,
    Cert.Products.gates_fwd,
    trivial,
    Cert.Products.res_norm,
    trivial,
    Cert.Products.norm_mod,
    trivial,
    Cert.Products.final_loss,
    trivial,
    Cert.Products.mix_proj_a,
    trivial,
    Cert.Products.mix_proj_b,
    trivial,
    @Cert.Products.swiglu_a Cert.Products.swigluPreFacts,
    trivial,
    @Cert.Products.swiglu_b Cert.Products.swigluPreFacts,
    trivial,
    Cert.Products.adam_in,
    trivial,
    Cert.Products.adam_ada,
    trivial,
    Cert.Products.adam_out,
    trivial,
    Cert.Products.adam_proj,
    trivial,
    Cert.Products.adam_mix,
    trivial,
    Cert.Products.adam_a,
    trivial,
    Cert.Products.adam_b,
    trivial,
    Cert.Products.adam_small⟩

end Cert.Proof

end
